-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_CfwdKernel (m : (ℓ : Loc Cert.CfwdKernel.nD Cert.CfwdKernel.τ Cert.CfwdKernel.sig) → Buf (Elt Bits) ℓ) : Prop :=
  True

def Pre_CfwdKernelIdeal (m : (ℓ : Loc Cert.CfwdKernelIdeal.nD Cert.CfwdKernelIdeal.τ Cert.CfwdKernelIdeal.sig) → Buf (Elt Ideal) ℓ) : Prop :=
  True

def Pre_CfwdReferenceIdeal (m : (ℓ : Loc Cert.CfwdReferenceIdeal.nD Cert.CfwdReferenceIdeal.τ Cert.CfwdReferenceIdeal.sig) → Buf (Elt Ideal) ℓ) : Prop :=
  True

def Pre_ForgetKernel (m : (ℓ : Loc Cert.ForgetKernel.nD Cert.ForgetKernel.τ Cert.ForgetKernel.sig) → Buf (Elt Bits) ℓ) : Prop :=
  True

def Pre_ForgetKernelIdeal (m : (ℓ : Loc Cert.ForgetKernelIdeal.nD Cert.ForgetKernelIdeal.τ Cert.ForgetKernelIdeal.sig) → Buf (Elt Ideal) ℓ) : Prop :=
  True

def Pre_ForgetReferenceIdeal (m : (ℓ : Loc Cert.ForgetReferenceIdeal.nD Cert.ForgetReferenceIdeal.τ Cert.ForgetReferenceIdeal.sig) → Buf (Elt Ideal) ℓ) : Prop :=
  True

def Pre_FfwdKernel (m : (ℓ : Loc Cert.FfwdKernel.nD Cert.FfwdKernel.τ Cert.FfwdKernel.sig) → Buf (Elt Bits) ℓ) : Prop :=
  True

def Pre_FfwdKernelIdeal (m : (ℓ : Loc Cert.FfwdKernelIdeal.nD Cert.FfwdKernelIdeal.τ Cert.FfwdKernelIdeal.sig) → Buf (Elt Ideal) ℓ) : Prop :=
  True

def Pre_FfwdReferenceIdeal (m : (ℓ : Loc Cert.FfwdReferenceIdeal.nD Cert.FfwdReferenceIdeal.τ Cert.FfwdReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_finite_fwd [hPre_finite_fwd : Cert.Pre_finite_fwd.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_fwd [hPre_finite_fwd : Cert.Pre_finite_fwd.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))) = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_SwiKernel (m : (ℓ : Loc Cert.SwiKernel.nD Cert.SwiKernel.τ Cert.SwiKernel.sig) → Buf (Elt Bits) ℓ) : Prop :=
  True

def Pre_SwiKernelIdeal (m : (ℓ : Loc Cert.SwiKernelIdeal.nD Cert.SwiKernelIdeal.τ Cert.SwiKernelIdeal.sig) → Buf (Elt Ideal) ℓ) : Prop :=
  True

def Pre_SwiKernelIdeal_finite_swi [hPre_finite_swi : Cert.Pre_finite_swi.Facts] (m : (ℓ : Loc Cert.SwiKernelIdeal.nD Cert.SwiKernelIdeal.τ Cert.SwiKernelIdeal.sig) → Buf (Elt Ideal) ℓ) : Prop :=
  ∀ c : Dev Cert.SwiKernelIdeal.nD,
    (Cert.Pre_finite_swi.fn (F := Ideal) (m ((c.tc : Thread Cert.SwiKernelIdeal.nD Cert.SwiKernelIdeal.τ).loc Cert.SwiKernelIdeal.main_arg0)) (m ((c.tc : Thread Cert.SwiKernelIdeal.nD Cert.SwiKernelIdeal.τ).loc Cert.SwiKernelIdeal.main_arg1)) (m ((c.tc : Thread Cert.SwiKernelIdeal.nD Cert.SwiKernelIdeal.τ).loc Cert.SwiKernelIdeal.main_arg2)) (m ((c.tc : Thread Cert.SwiKernelIdeal.nD Cert.SwiKernelIdeal.τ).loc Cert.SwiKernelIdeal.main_arg3))) = (fun _ => 1#1)

def Pre_SwiReferenceIdeal (m : (ℓ : Loc Cert.SwiReferenceIdeal.nD Cert.SwiReferenceIdeal.τ Cert.SwiReferenceIdeal.sig) → Buf (Elt Ideal) ℓ) : Prop :=
  True

def Pre_SwiReferenceIdeal_finite_swi [hPre_finite_swi : Cert.Pre_finite_swi.Facts] (m : (ℓ : Loc Cert.SwiReferenceIdeal.nD Cert.SwiReferenceIdeal.τ Cert.SwiReferenceIdeal.sig) → Buf (Elt Ideal) ℓ) : Prop :=
  ∀ c : Dev Cert.SwiReferenceIdeal.nD,
    (Cert.Pre_finite_swi.fn (F := Ideal) (m ((c.tc : Thread Cert.SwiReferenceIdeal.nD Cert.SwiReferenceIdeal.τ).loc Cert.SwiReferenceIdeal.main_arg0)) (m ((c.tc : Thread Cert.SwiReferenceIdeal.nD Cert.SwiReferenceIdeal.τ).loc Cert.SwiReferenceIdeal.main_arg1)) (m ((c.tc : Thread Cert.SwiReferenceIdeal.nD Cert.SwiReferenceIdeal.τ).loc Cert.SwiReferenceIdeal.main_arg2)) (m ((c.tc : Thread Cert.SwiReferenceIdeal.nD Cert.SwiReferenceIdeal.τ).loc Cert.SwiReferenceIdeal.main_arg3))) = (fun _ => 1#1)

def Pre_PreKernel (m : (ℓ : Loc Cert.PreKernel.nD Cert.PreKernel.τ Cert.PreKernel.sig) → Buf (Elt Bits) ℓ) : Prop :=
  True

def Pre_PreKernelIdeal (m : (ℓ : Loc Cert.PreKernelIdeal.nD Cert.PreKernelIdeal.τ Cert.PreKernelIdeal.sig) → Buf (Elt Ideal) ℓ) : Prop :=
  True

def Pre_PreReferenceIdeal (m : (ℓ : Loc Cert.PreReferenceIdeal.nD Cert.PreReferenceIdeal.τ Cert.PreReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_SinKernel (m : (ℓ : Loc Cert.SinKernel.nD Cert.SinKernel.τ Cert.SinKernel.sig) → Buf (Elt Bits) ℓ) : Prop :=
  True

def Pre_SinKernelIdeal (m : (ℓ : Loc Cert.SinKernelIdeal.nD Cert.SinKernelIdeal.τ Cert.SinKernelIdeal.sig) → Buf (Elt Ideal) ℓ) : Prop :=
  True

def Pre_SinReferenceIdeal (m : (ℓ : Loc Cert.SinReferenceIdeal.nD Cert.SinReferenceIdeal.τ Cert.SinReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_MoutKernel (m : (ℓ : Loc Cert.MoutKernel.nD Cert.MoutKernel.τ Cert.MoutKernel.sig) → Buf (Elt Bits) ℓ) : Prop :=
  True

def Pre_MoutKernelIdeal (m : (ℓ : Loc Cert.MoutKernelIdeal.nD Cert.MoutKernelIdeal.τ Cert.MoutKernelIdeal.sig) → Buf (Elt Ideal) ℓ) : Prop :=
  True

def Pre_MoutReferenceIdeal (m : (ℓ : Loc Cert.MoutReferenceIdeal.nD Cert.MoutReferenceIdeal.τ Cert.MoutReferenceIdeal.sig) → Buf (Elt Ideal) ℓ) : Prop :=
  True

def Pre_CinKernel (m : (ℓ : Loc Cert.CinKernel.nD Cert.CinKernel.τ Cert.CinKernel.sig) → Buf (Elt Bits) ℓ) : Prop :=
  True

def Pre_CinKernelIdeal (m : (ℓ : Loc Cert.CinKernelIdeal.nD Cert.CinKernelIdeal.τ Cert.CinKernelIdeal.sig) → Buf (Elt Ideal) ℓ) : Prop :=
  True

def Pre_CinReferenceIdeal (m : (ℓ : Loc Cert.CinReferenceIdeal.nD Cert.CinReferenceIdeal.τ Cert.CinReferenceIdeal.sig) → Buf (Elt Ideal) ℓ) : Prop :=
  True

def Pre_QinKernel (m : (ℓ : Loc Cert.QinKernel.nD Cert.QinKernel.τ Cert.QinKernel.sig) → Buf (Elt Bits) ℓ) : Prop :=
  True

def Pre_QinKernelIdeal (m : (ℓ : Loc Cert.QinKernelIdeal.nD Cert.QinKernelIdeal.τ Cert.QinKernelIdeal.sig) → Buf (Elt Ideal) ℓ) : Prop :=
  True

def Pre_QinReferenceIdeal (m : (ℓ : Loc Cert.QinReferenceIdeal.nD Cert.QinReferenceIdeal.τ Cert.QinReferenceIdeal.sig) → Buf (Elt Ideal) ℓ) : Prop :=
  True

def Pre_KvnKernel (m : (ℓ : Loc Cert.KvnKernel.nD Cert.KvnKernel.τ Cert.KvnKernel.sig) → Buf (Elt Bits) ℓ) : Prop :=
  True

def Pre_KvnKernelIdeal (m : (ℓ : Loc Cert.KvnKernelIdeal.nD Cert.KvnKernelIdeal.τ Cert.KvnKernelIdeal.sig) → Buf (Elt Ideal) ℓ) : Prop :=
  True

def Pre_KvnReferenceIdeal (m : (ℓ : Loc Cert.KvnReferenceIdeal.nD Cert.KvnReferenceIdeal.τ Cert.KvnReferenceIdeal.sig) → Buf (Elt Ideal) ℓ) : Prop :=
  True

def Pre_CpreKernel (m : (ℓ : Loc Cert.CpreKernel.nD Cert.CpreKernel.τ Cert.CpreKernel.sig) → Buf (Elt Bits) ℓ) : Prop :=
  True

def Pre_CpreKernelIdeal (m : (ℓ : Loc Cert.CpreKernelIdeal.nD Cert.CpreKernelIdeal.τ Cert.CpreKernelIdeal.sig) → Buf (Elt Ideal) ℓ) : Prop :=
  True

def Pre_CpreReferenceIdeal (m : (ℓ : Loc Cert.CpreReferenceIdeal.nD Cert.CpreReferenceIdeal.τ Cert.CpreReferenceIdeal.sig) → Buf (Elt Ideal) ℓ) : Prop :=
  True

def Pre_QpreKernel (m : (ℓ : Loc Cert.QpreKernel.nD Cert.QpreKernel.τ Cert.QpreKernel.sig) → Buf (Elt Bits) ℓ) : Prop :=
  True

def Pre_QpreKernelIdeal (m : (ℓ : Loc Cert.QpreKernelIdeal.nD Cert.QpreKernelIdeal.τ Cert.QpreKernelIdeal.sig) → Buf (Elt Ideal) ℓ) : Prop :=
  True

def Pre_QpreReferenceIdeal (m : (ℓ : Loc Cert.QpreReferenceIdeal.nD Cert.QpreReferenceIdeal.τ Cert.QpreReferenceIdeal.sig) → Buf (Elt Ideal) ℓ) : Prop :=
  True

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_CfwdKernel [hCfwdKernel : Cert.CfwdKernel.Facts] : Prop :=
  ∀ (m : (ℓ : Loc Cert.CfwdKernel.nD Cert.CfwdKernel.τ Cert.CfwdKernel.sig) → Buf (Elt Bits) ℓ) (g : Dev Cert.CfwdKernel.nD → PrngReg), Pre_CfwdKernel m →
    θ_run (Cert.CfwdKernel.defs (F := Bits)) (onTc (τ := Cert.CfwdKernel.τ) (Cert.CfwdKernel.main (F := Bits))) ⟨m, fun _ => 0, g⟩ (fun r => (∀ c : Dev Cert.CfwdKernel.nD,
      r.2.mem ((c.tc : Thread Cert.CfwdKernel.nD Cert.CfwdKernel.τ).loc Cert.CfwdKernel.main_arg0) = m ((c.tc : Thread Cert.CfwdKernel.nD Cert.CfwdKernel.τ).loc Cert.CfwdKernel.main_arg0)
      ∧ r.2.mem ((c.tc : Thread Cert.CfwdKernel.nD Cert.CfwdKernel.τ).loc Cert.CfwdKernel.main_arg1) = m ((c.tc : Thread Cert.CfwdKernel.nD Cert.CfwdKernel.τ).loc Cert.CfwdKernel.main_arg1))
      ∧ r.2.sem = fun _ => 0)

def quiescent_CfwdKernelIdeal [hCfwdKernelIdeal : Cert.CfwdKernelIdeal.Facts] : Prop :=
  ∀ (m : (ℓ : Loc Cert.CfwdKernelIdeal.nD Cert.CfwdKernelIdeal.τ Cert.CfwdKernelIdeal.sig) → Buf (Elt Ideal) ℓ) (g : Dev Cert.CfwdKernelIdeal.nD → PrngReg), Pre_CfwdKernelIdeal m →
    θ_run (Cert.CfwdKernelIdeal.defs (F := Ideal)) (onTc (τ := Cert.CfwdKernelIdeal.τ) (Cert.CfwdKernelIdeal.main (F := Ideal))) ⟨m, fun _ => 0, g⟩ (fun r => (∀ c : Dev Cert.CfwdKernelIdeal.nD,
      r.2.mem ((c.tc : Thread Cert.CfwdKernelIdeal.nD Cert.CfwdKernelIdeal.τ).loc Cert.CfwdKernelIdeal.main_arg0) = m ((c.tc : Thread Cert.CfwdKernelIdeal.nD Cert.CfwdKernelIdeal.τ).loc Cert.CfwdKernelIdeal.main_arg0)
      ∧ r.2.mem ((c.tc : Thread Cert.CfwdKernelIdeal.nD Cert.CfwdKernelIdeal.τ).loc Cert.CfwdKernelIdeal.main_arg1) = m ((c.tc : Thread Cert.CfwdKernelIdeal.nD Cert.CfwdKernelIdeal.τ).loc Cert.CfwdKernelIdeal.main_arg1))
      ∧ r.2.sem = fun _ => 0)

def quiescent_CfwdReferenceIdeal [hCfwdReferenceIdeal : Cert.CfwdReferenceIdeal.Facts] : Prop :=
  ∀ (m : (ℓ : Loc Cert.CfwdReferenceIdeal.nD Cert.CfwdReferenceIdeal.τ Cert.CfwdReferenceIdeal.sig) → Buf (Elt Ideal) ℓ) (g : Dev Cert.CfwdReferenceIdeal.nD → PrngReg), Pre_CfwdReferenceIdeal m →
    θ_run (Cert.CfwdReferenceIdeal.defs (F := Ideal)) (onTc (τ := Cert.CfwdReferenceIdeal.τ) (Cert.CfwdReferenceIdeal.main (F := Ideal))) ⟨m, fun _ => 0, g⟩ (fun r => (∀ c : Dev Cert.CfwdReferenceIdeal.nD,
      r.2.mem ((c.tc : Thread Cert.CfwdReferenceIdeal.nD Cert.CfwdReferenceIdeal.τ).loc Cert.CfwdReferenceIdeal.main_arg0) = m ((c.tc : Thread Cert.CfwdReferenceIdeal.nD Cert.CfwdReferenceIdeal.τ).loc Cert.CfwdReferenceIdeal.main_arg0)
      ∧ r.2.mem ((c.tc : Thread Cert.CfwdReferenceIdeal.nD Cert.CfwdReferenceIdeal.τ).loc Cert.CfwdReferenceIdeal.main_arg1) = m ((c.tc : Thread Cert.CfwdReferenceIdeal.nD Cert.CfwdReferenceIdeal.τ).loc Cert.CfwdReferenceIdeal.main_arg1))
      ∧ r.2.sem = fun _ => 0)

def quiescent_ForgetKernel [hForgetKernel : Cert.ForgetKernel.Facts] : Prop :=
  ∀ (m : (ℓ : Loc Cert.ForgetKernel.nD Cert.ForgetKernel.τ Cert.ForgetKernel.sig) → Buf (Elt Bits) ℓ) (g : Dev Cert.ForgetKernel.nD → PrngReg), Pre_ForgetKernel m →
    θ_run (Cert.ForgetKernel.defs (F := Bits)) (onTc (τ := Cert.ForgetKernel.τ) (Cert.ForgetKernel.main (F := Bits))) ⟨m, fun _ => 0, g⟩ (fun r => (∀ c : Dev Cert.ForgetKernel.nD,
      r.2.mem ((c.tc : Thread Cert.ForgetKernel.nD Cert.ForgetKernel.τ).loc Cert.ForgetKernel.main_arg0) = m ((c.tc : Thread Cert.ForgetKernel.nD Cert.ForgetKernel.τ).loc Cert.ForgetKernel.main_arg0)
      ∧ r.2.mem ((c.tc : Thread Cert.ForgetKernel.nD Cert.ForgetKernel.τ).loc Cert.ForgetKernel.main_arg1) = m ((c.tc : Thread Cert.ForgetKernel.nD Cert.ForgetKernel.τ).loc Cert.ForgetKernel.main_arg1)
      ∧ r.2.mem ((c.tc : Thread Cert.ForgetKernel.nD Cert.ForgetKernel.τ).loc Cert.ForgetKernel.main_arg2) = m ((c.tc : Thread Cert.ForgetKernel.nD Cert.ForgetKernel.τ).loc Cert.ForgetKernel.main_arg2))
      ∧ r.2.sem = fun _ => 0)

def quiescent_ForgetKernelIdeal [hForgetKernelIdeal : Cert.ForgetKernelIdeal.Facts] : Prop :=
  ∀ (m : (ℓ : Loc Cert.ForgetKernelIdeal.nD Cert.ForgetKernelIdeal.τ Cert.ForgetKernelIdeal.sig) → Buf (Elt Ideal) ℓ) (g : Dev Cert.ForgetKernelIdeal.nD → PrngReg), Pre_ForgetKernelIdeal m →
    θ_run (Cert.ForgetKernelIdeal.defs (F := Ideal)) (onTc (τ := Cert.ForgetKernelIdeal.τ) (Cert.ForgetKernelIdeal.main (F := Ideal))) ⟨m, fun _ => 0, g⟩ (fun r => (∀ c : Dev Cert.ForgetKernelIdeal.nD,
      r.2.mem ((c.tc : Thread Cert.ForgetKernelIdeal.nD Cert.ForgetKernelIdeal.τ).loc Cert.ForgetKernelIdeal.main_arg0) = m ((c.tc : Thread Cert.ForgetKernelIdeal.nD Cert.ForgetKernelIdeal.τ).loc Cert.ForgetKernelIdeal.main_arg0)
      ∧ r.2.mem ((c.tc : Thread Cert.ForgetKernelIdeal.nD Cert.ForgetKernelIdeal.τ).loc Cert.ForgetKernelIdeal.main_arg1) = m ((c.tc : Thread Cert.ForgetKernelIdeal.nD Cert.ForgetKernelIdeal.τ).loc Cert.ForgetKernelIdeal.main_arg1)
      ∧ r.2.mem ((c.tc : Thread Cert.ForgetKernelIdeal.nD Cert.ForgetKernelIdeal.τ).loc Cert.ForgetKernelIdeal.main_arg2) = m ((c.tc : Thread Cert.ForgetKernelIdeal.nD Cert.ForgetKernelIdeal.τ).loc Cert.ForgetKernelIdeal.main_arg2))
      ∧ r.2.sem = fun _ => 0)

def quiescent_ForgetReferenceIdeal [hForgetReferenceIdeal : Cert.ForgetReferenceIdeal.Facts] : Prop :=
  ∀ (m : (ℓ : Loc Cert.ForgetReferenceIdeal.nD Cert.ForgetReferenceIdeal.τ Cert.ForgetReferenceIdeal.sig) → Buf (Elt Ideal) ℓ) (g : Dev Cert.ForgetReferenceIdeal.nD → PrngReg), Pre_ForgetReferenceIdeal m →
    θ_run (Cert.ForgetReferenceIdeal.defs (F := Ideal)) (onTc (τ := Cert.ForgetReferenceIdeal.τ) (Cert.ForgetReferenceIdeal.main (F := Ideal))) ⟨m, fun _ => 0, g⟩ (fun r => (∀ c : Dev Cert.ForgetReferenceIdeal.nD,
      r.2.mem ((c.tc : Thread Cert.ForgetReferenceIdeal.nD Cert.ForgetReferenceIdeal.τ).loc Cert.ForgetReferenceIdeal.main_arg0) = m ((c.tc : Thread Cert.ForgetReferenceIdeal.nD Cert.ForgetReferenceIdeal.τ).loc Cert.ForgetReferenceIdeal.main_arg0)
      ∧ r.2.mem ((c.tc : Thread Cert.ForgetReferenceIdeal.nD Cert.ForgetReferenceIdeal.τ).loc Cert.ForgetReferenceIdeal.main_arg1) = m ((c.tc : Thread Cert.ForgetReferenceIdeal.nD Cert.ForgetReferenceIdeal.τ).loc Cert.ForgetReferenceIdeal.main_arg1)
      ∧ r.2.mem ((c.tc : Thread Cert.ForgetReferenceIdeal.nD Cert.ForgetReferenceIdeal.τ).loc Cert.ForgetReferenceIdeal.main_arg2) = m ((c.tc : Thread Cert.ForgetReferenceIdeal.nD Cert.ForgetReferenceIdeal.τ).loc Cert.ForgetReferenceIdeal.main_arg2))
      ∧ r.2.sem = fun _ => 0)

def quiescent_FfwdKernel [hFfwdKernel : Cert.FfwdKernel.Facts] : Prop :=
  ∀ (m : (ℓ : Loc Cert.FfwdKernel.nD Cert.FfwdKernel.τ Cert.FfwdKernel.sig) → Buf (Elt Bits) ℓ) (g : Dev Cert.FfwdKernel.nD → PrngReg), Pre_FfwdKernel m →
    θ_run (Cert.FfwdKernel.defs (F := Bits)) (onTc (τ := Cert.FfwdKernel.τ) (Cert.FfwdKernel.main (F := Bits))) ⟨m, fun _ => 0, g⟩ (fun r => (∀ c : Dev Cert.FfwdKernel.nD,
      r.2.mem ((c.tc : Thread Cert.FfwdKernel.nD Cert.FfwdKernel.τ).loc Cert.FfwdKernel.main_arg0) = m ((c.tc : Thread Cert.FfwdKernel.nD Cert.FfwdKernel.τ).loc Cert.FfwdKernel.main_arg0)
      ∧ r.2.mem ((c.tc : Thread Cert.FfwdKernel.nD Cert.FfwdKernel.τ).loc Cert.FfwdKernel.main_arg1) = m ((c.tc : Thread Cert.FfwdKernel.nD Cert.FfwdKernel.τ).loc Cert.FfwdKernel.main_arg1))
      ∧ r.2.sem = fun _ => 0)

def quiescent_FfwdKernelIdeal [hFfwdKernelIdeal : Cert.FfwdKernelIdeal.Facts] : Prop :=
  ∀ (m : (ℓ : Loc Cert.FfwdKernelIdeal.nD Cert.FfwdKernelIdeal.τ Cert.FfwdKernelIdeal.sig) → Buf (Elt Ideal) ℓ) (g : Dev Cert.FfwdKernelIdeal.nD → PrngReg), Pre_FfwdKernelIdeal m →
    θ_run (Cert.FfwdKernelIdeal.defs (F := Ideal)) (onTc (τ := Cert.FfwdKernelIdeal.τ) (Cert.FfwdKernelIdeal.main (F := Ideal))) ⟨m, fun _ => 0, g⟩ (fun r => (∀ c : Dev Cert.FfwdKernelIdeal.nD,
      r.2.mem ((c.tc : Thread Cert.FfwdKernelIdeal.nD Cert.FfwdKernelIdeal.τ).loc Cert.FfwdKernelIdeal.main_arg0) = m ((c.tc : Thread Cert.FfwdKernelIdeal.nD Cert.FfwdKernelIdeal.τ).loc Cert.FfwdKernelIdeal.main_arg0)
      ∧ r.2.mem ((c.tc : Thread Cert.FfwdKernelIdeal.nD Cert.FfwdKernelIdeal.τ).loc Cert.FfwdKernelIdeal.main_arg1) = m ((c.tc : Thread Cert.FfwdKernelIdeal.nD Cert.FfwdKernelIdeal.τ).loc Cert.FfwdKernelIdeal.main_arg1))
      ∧ r.2.sem = fun _ => 0)

def quiescent_FfwdReferenceIdeal [hFfwdReferenceIdeal : Cert.FfwdReferenceIdeal.Facts] : Prop :=
  ∀ (m : (ℓ : Loc Cert.FfwdReferenceIdeal.nD Cert.FfwdReferenceIdeal.τ Cert.FfwdReferenceIdeal.sig) → Buf (Elt Ideal) ℓ) (g : Dev Cert.FfwdReferenceIdeal.nD → PrngReg), Pre_FfwdReferenceIdeal m →
    θ_run (Cert.FfwdReferenceIdeal.defs (F := Ideal)) (onTc (τ := Cert.FfwdReferenceIdeal.τ) (Cert.FfwdReferenceIdeal.main (F := Ideal))) ⟨m, fun _ => 0, g⟩ (fun r => (∀ c : Dev Cert.FfwdReferenceIdeal.nD,
      r.2.mem ((c.tc : Thread Cert.FfwdReferenceIdeal.nD Cert.FfwdReferenceIdeal.τ).loc Cert.FfwdReferenceIdeal.main_arg0) = m ((c.tc : Thread Cert.FfwdReferenceIdeal.nD Cert.FfwdReferenceIdeal.τ).loc Cert.FfwdReferenceIdeal.main_arg0)
      ∧ r.2.mem ((c.tc : Thread Cert.FfwdReferenceIdeal.nD Cert.FfwdReferenceIdeal.τ).loc Cert.FfwdReferenceIdeal.main_arg1) = m ((c.tc : Thread Cert.FfwdReferenceIdeal.nD Cert.FfwdReferenceIdeal.τ).loc Cert.FfwdReferenceIdeal.main_arg1))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ r.2.sem = fun _ => 0)

def quiescent_FwdKernelIdeal_pre_finite_fwd [hFwdKernelIdeal : Cert.FwdKernelIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_finite_fwd m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_FwdReferenceIdeal_pre_finite_fwd [hFwdReferenceIdeal : Cert.FwdReferenceIdeal.Facts] [hPre_finite_fwd : Cert.Pre_finite_fwd.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_fwd m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3))
      ∧ r.2.sem = fun _ => 0)

def quiescent_SwiKernel [hSwiKernel : Cert.SwiKernel.Facts] : Prop :=
  ∀ (m : (ℓ : Loc Cert.SwiKernel.nD Cert.SwiKernel.τ Cert.SwiKernel.sig) → Buf (Elt Bits) ℓ) (g : Dev Cert.SwiKernel.nD → PrngReg), Pre_SwiKernel m →
    θ_run (Cert.SwiKernel.defs (F := Bits)) (onTc (τ := Cert.SwiKernel.τ) (Cert.SwiKernel.main (F := Bits))) ⟨m, fun _ => 0, g⟩ (fun r => (∀ c : Dev Cert.SwiKernel.nD,
      r.2.mem ((c.tc : Thread Cert.SwiKernel.nD Cert.SwiKernel.τ).loc Cert.SwiKernel.main_arg0) = m ((c.tc : Thread Cert.SwiKernel.nD Cert.SwiKernel.τ).loc Cert.SwiKernel.main_arg0)
      ∧ r.2.mem ((c.tc : Thread Cert.SwiKernel.nD Cert.SwiKernel.τ).loc Cert.SwiKernel.main_arg1) = m ((c.tc : Thread Cert.SwiKernel.nD Cert.SwiKernel.τ).loc Cert.SwiKernel.main_arg1)
      ∧ r.2.mem ((c.tc : Thread Cert.SwiKernel.nD Cert.SwiKernel.τ).loc Cert.SwiKernel.main_arg2) = m ((c.tc : Thread Cert.SwiKernel.nD Cert.SwiKernel.τ).loc Cert.SwiKernel.main_arg2)
      ∧ r.2.mem ((c.tc : Thread Cert.SwiKernel.nD Cert.SwiKernel.τ).loc Cert.SwiKernel.main_arg3) = m ((c.tc : Thread Cert.SwiKernel.nD Cert.SwiKernel.τ).loc Cert.SwiKernel.main_arg3))
      ∧ r.2.sem = fun _ => 0)

def quiescent_SwiKernelIdeal [hSwiKernelIdeal : Cert.SwiKernelIdeal.Facts] : Prop :=
  ∀ (m : (ℓ : Loc Cert.SwiKernelIdeal.nD Cert.SwiKernelIdeal.τ Cert.SwiKernelIdeal.sig) → Buf (Elt Ideal) ℓ) (g : Dev Cert.SwiKernelIdeal.nD → PrngReg), Pre_SwiKernelIdeal m →
    θ_run (Cert.SwiKernelIdeal.defs (F := Ideal)) (onTc (τ := Cert.SwiKernelIdeal.τ) (Cert.SwiKernelIdeal.main (F := Ideal))) ⟨m, fun _ => 0, g⟩ (fun r => (∀ c : Dev Cert.SwiKernelIdeal.nD,
      r.2.mem ((c.tc : Thread Cert.SwiKernelIdeal.nD Cert.SwiKernelIdeal.τ).loc Cert.SwiKernelIdeal.main_arg0) = m ((c.tc : Thread Cert.SwiKernelIdeal.nD Cert.SwiKernelIdeal.τ).loc Cert.SwiKernelIdeal.main_arg0)
      ∧ r.2.mem ((c.tc : Thread Cert.SwiKernelIdeal.nD Cert.SwiKernelIdeal.τ).loc Cert.SwiKernelIdeal.main_arg1) = m ((c.tc : Thread Cert.SwiKernelIdeal.nD Cert.SwiKernelIdeal.τ).loc Cert.SwiKernelIdeal.main_arg1)
      ∧ r.2.mem ((c.tc : Thread Cert.SwiKernelIdeal.nD Cert.SwiKernelIdeal.τ).loc Cert.SwiKernelIdeal.main_arg2) = m ((c.tc : Thread Cert.SwiKernelIdeal.nD Cert.SwiKernelIdeal.τ).loc Cert.SwiKernelIdeal.main_arg2)
      ∧ r.2.mem ((c.tc : Thread Cert.SwiKernelIdeal.nD Cert.SwiKernelIdeal.τ).loc Cert.SwiKernelIdeal.main_arg3) = m ((c.tc : Thread Cert.SwiKernelIdeal.nD Cert.SwiKernelIdeal.τ).loc Cert.SwiKernelIdeal.main_arg3))
      ∧ r.2.sem = fun _ => 0)

def quiescent_SwiKernelIdeal_pre_finite_swi [hSwiKernelIdeal : Cert.SwiKernelIdeal.Facts] [hPre_finite_swi : Cert.Pre_finite_swi.Facts] : Prop :=
  ∀ (m : (ℓ : Loc Cert.SwiKernelIdeal.nD Cert.SwiKernelIdeal.τ Cert.SwiKernelIdeal.sig) → Buf (Elt Ideal) ℓ) (g : Dev Cert.SwiKernelIdeal.nD → PrngReg), Pre_SwiKernelIdeal_finite_swi m →
    θ_run (Cert.SwiKernelIdeal.defs (F := Ideal)) (onTc (τ := Cert.SwiKernelIdeal.τ) (Cert.SwiKernelIdeal.main (F := Ideal))) ⟨m, fun _ => 0, g⟩ (fun r => (∀ c : Dev Cert.SwiKernelIdeal.nD,
      r.2.mem ((c.tc : Thread Cert.SwiKernelIdeal.nD Cert.SwiKernelIdeal.τ).loc Cert.SwiKernelIdeal.main_arg0) = m ((c.tc : Thread Cert.SwiKernelIdeal.nD Cert.SwiKernelIdeal.τ).loc Cert.SwiKernelIdeal.main_arg0)
      ∧ r.2.mem ((c.tc : Thread Cert.SwiKernelIdeal.nD Cert.SwiKernelIdeal.τ).loc Cert.SwiKernelIdeal.main_arg1) = m ((c.tc : Thread Cert.SwiKernelIdeal.nD Cert.SwiKernelIdeal.τ).loc Cert.SwiKernelIdeal.main_arg1)
      ∧ r.2.mem ((c.tc : Thread Cert.SwiKernelIdeal.nD Cert.SwiKernelIdeal.τ).loc Cert.SwiKernelIdeal.main_arg2) = m ((c.tc : Thread Cert.SwiKernelIdeal.nD Cert.SwiKernelIdeal.τ).loc Cert.SwiKernelIdeal.main_arg2)
      ∧ r.2.mem ((c.tc : Thread Cert.SwiKernelIdeal.nD Cert.SwiKernelIdeal.τ).loc Cert.SwiKernelIdeal.main_arg3) = m ((c.tc : Thread Cert.SwiKernelIdeal.nD Cert.SwiKernelIdeal.τ).loc Cert.SwiKernelIdeal.main_arg3))
      ∧ r.2.sem = fun _ => 0)

def quiescent_SwiReferenceIdeal [hSwiReferenceIdeal : Cert.SwiReferenceIdeal.Facts] : Prop :=
  ∀ (m : (ℓ : Loc Cert.SwiReferenceIdeal.nD Cert.SwiReferenceIdeal.τ Cert.SwiReferenceIdeal.sig) → Buf (Elt Ideal) ℓ) (g : Dev Cert.SwiReferenceIdeal.nD → PrngReg), Pre_SwiReferenceIdeal m →
    θ_run (Cert.SwiReferenceIdeal.defs (F := Ideal)) (onTc (τ := Cert.SwiReferenceIdeal.τ) (Cert.SwiReferenceIdeal.main (F := Ideal))) ⟨m, fun _ => 0, g⟩ (fun r => (∀ c : Dev Cert.SwiReferenceIdeal.nD,
      r.2.mem ((c.tc : Thread Cert.SwiReferenceIdeal.nD Cert.SwiReferenceIdeal.τ).loc Cert.SwiReferenceIdeal.main_arg0) = m ((c.tc : Thread Cert.SwiReferenceIdeal.nD Cert.SwiReferenceIdeal.τ).loc Cert.SwiReferenceIdeal.main_arg0)
      ∧ r.2.mem ((c.tc : Thread Cert.SwiReferenceIdeal.nD Cert.SwiReferenceIdeal.τ).loc Cert.SwiReferenceIdeal.main_arg1) = m ((c.tc : Thread Cert.SwiReferenceIdeal.nD Cert.SwiReferenceIdeal.τ).loc Cert.SwiReferenceIdeal.main_arg1)
      ∧ r.2.mem ((c.tc : Thread Cert.SwiReferenceIdeal.nD Cert.SwiReferenceIdeal.τ).loc Cert.SwiReferenceIdeal.main_arg2) = m ((c.tc : Thread Cert.SwiReferenceIdeal.nD Cert.SwiReferenceIdeal.τ).loc Cert.SwiReferenceIdeal.main_arg2)
      ∧ r.2.mem ((c.tc : Thread Cert.SwiReferenceIdeal.nD Cert.SwiReferenceIdeal.τ).loc Cert.SwiReferenceIdeal.main_arg3) = m ((c.tc : Thread Cert.SwiReferenceIdeal.nD Cert.SwiReferenceIdeal.τ).loc Cert.SwiReferenceIdeal.main_arg3))
      ∧ r.2.sem = fun _ => 0)

def quiescent_SwiReferenceIdeal_pre_finite_swi [hSwiReferenceIdeal : Cert.SwiReferenceIdeal.Facts] [hPre_finite_swi : Cert.Pre_finite_swi.Facts] : Prop :=
  ∀ (m : (ℓ : Loc Cert.SwiReferenceIdeal.nD Cert.SwiReferenceIdeal.τ Cert.SwiReferenceIdeal.sig) → Buf (Elt Ideal) ℓ) (g : Dev Cert.SwiReferenceIdeal.nD → PrngReg), Pre_SwiReferenceIdeal_finite_swi m →
    θ_run (Cert.SwiReferenceIdeal.defs (F := Ideal)) (onTc (τ := Cert.SwiReferenceIdeal.τ) (Cert.SwiReferenceIdeal.main (F := Ideal))) ⟨m, fun _ => 0, g⟩ (fun r => (∀ c : Dev Cert.SwiReferenceIdeal.nD,
      r.2.mem ((c.tc : Thread Cert.SwiReferenceIdeal.nD Cert.SwiReferenceIdeal.τ).loc Cert.SwiReferenceIdeal.main_arg0) = m ((c.tc : Thread Cert.SwiReferenceIdeal.nD Cert.SwiReferenceIdeal.τ).loc Cert.SwiReferenceIdeal.main_arg0)
      ∧ r.2.mem ((c.tc : Thread Cert.SwiReferenceIdeal.nD Cert.SwiReferenceIdeal.τ).loc Cert.SwiReferenceIdeal.main_arg1) = m ((c.tc : Thread Cert.SwiReferenceIdeal.nD Cert.SwiReferenceIdeal.τ).loc Cert.SwiReferenceIdeal.main_arg1)
      ∧ r.2.mem ((c.tc : Thread Cert.SwiReferenceIdeal.nD Cert.SwiReferenceIdeal.τ).loc Cert.SwiReferenceIdeal.main_arg2) = m ((c.tc : Thread Cert.SwiReferenceIdeal.nD Cert.SwiReferenceIdeal.τ).loc Cert.SwiReferenceIdeal.main_arg2)
      ∧ r.2.mem ((c.tc : Thread Cert.SwiReferenceIdeal.nD Cert.SwiReferenceIdeal.τ).loc Cert.SwiReferenceIdeal.main_arg3) = m ((c.tc : Thread Cert.SwiReferenceIdeal.nD Cert.SwiReferenceIdeal.τ).loc Cert.SwiReferenceIdeal.main_arg3))
      ∧ r.2.sem = fun _ => 0)

def quiescent_PreKernel [hPreKernel : Cert.PreKernel.Facts] : Prop :=
  ∀ (m : (ℓ : Loc Cert.PreKernel.nD Cert.PreKernel.τ Cert.PreKernel.sig) → Buf (Elt Bits) ℓ) (g : Dev Cert.PreKernel.nD → PrngReg), Pre_PreKernel m →
    θ_run (Cert.PreKernel.defs (F := Bits)) (onTc (τ := Cert.PreKernel.τ) (Cert.PreKernel.main (F := Bits))) ⟨m, fun _ => 0, g⟩ (fun r => (∀ c : Dev Cert.PreKernel.nD,
      r.2.mem ((c.tc : Thread Cert.PreKernel.nD Cert.PreKernel.τ).loc Cert.PreKernel.main_arg0) = m ((c.tc : Thread Cert.PreKernel.nD Cert.PreKernel.τ).loc Cert.PreKernel.main_arg0)
      ∧ r.2.mem ((c.tc : Thread Cert.PreKernel.nD Cert.PreKernel.τ).loc Cert.PreKernel.main_arg1) = m ((c.tc : Thread Cert.PreKernel.nD Cert.PreKernel.τ).loc Cert.PreKernel.main_arg1)
      ∧ r.2.mem ((c.tc : Thread Cert.PreKernel.nD Cert.PreKernel.τ).loc Cert.PreKernel.main_arg2) = m ((c.tc : Thread Cert.PreKernel.nD Cert.PreKernel.τ).loc Cert.PreKernel.main_arg2)
      ∧ r.2.mem ((c.tc : Thread Cert.PreKernel.nD Cert.PreKernel.τ).loc Cert.PreKernel.main_arg3) = m ((c.tc : Thread Cert.PreKernel.nD Cert.PreKernel.τ).loc Cert.PreKernel.main_arg3)
      ∧ r.2.mem ((c.tc : Thread Cert.PreKernel.nD Cert.PreKernel.τ).loc Cert.PreKernel.main_arg4) = m ((c.tc : Thread Cert.PreKernel.nD Cert.PreKernel.τ).loc Cert.PreKernel.main_arg4))
      ∧ r.2.sem = fun _ => 0)

def quiescent_PreKernelIdeal [hPreKernelIdeal : Cert.PreKernelIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_SinKernel [hSinKernel : Cert.SinKernel.Facts] : Prop :=
  ∀ (m : (ℓ : Loc Cert.SinKernel.nD Cert.SinKernel.τ Cert.SinKernel.sig) → Buf (Elt Bits) ℓ) (g : Dev Cert.SinKernel.nD → PrngReg), Pre_SinKernel m →
    θ_run (Cert.SinKernel.defs (F := Bits)) (onTc (τ := Cert.SinKernel.τ) (Cert.SinKernel.main (F := Bits))) ⟨m, fun _ => 0, g⟩ (fun r => (∀ c : Dev Cert.SinKernel.nD,
      r.2.mem ((c.tc : Thread Cert.SinKernel.nD Cert.SinKernel.τ).loc Cert.SinKernel.main_arg0) = m ((c.tc : Thread Cert.SinKernel.nD Cert.SinKernel.τ).loc Cert.SinKernel.main_arg0)
      ∧ r.2.mem ((c.tc : Thread Cert.SinKernel.nD Cert.SinKernel.τ).loc Cert.SinKernel.main_arg1) = m ((c.tc : Thread Cert.SinKernel.nD Cert.SinKernel.τ).loc Cert.SinKernel.main_arg1)
      ∧ r.2.mem ((c.tc : Thread Cert.SinKernel.nD Cert.SinKernel.τ).loc Cert.SinKernel.main_arg2) = m ((c.tc : Thread Cert.SinKernel.nD Cert.SinKernel.τ).loc Cert.SinKernel.main_arg2))
      ∧ r.2.sem = fun _ => 0)

def quiescent_SinKernelIdeal [hSinKernelIdeal : Cert.SinKernelIdeal.Facts] : Prop :=
  ∀ (m : (ℓ : Loc Cert.SinKernelIdeal.nD Cert.SinKernelIdeal.τ Cert.SinKernelIdeal.sig) → Buf (Elt Ideal) ℓ) (g : Dev Cert.SinKernelIdeal.nD → PrngReg), Pre_SinKernelIdeal m →
    θ_run (Cert.SinKernelIdeal.defs (F := Ideal)) (onTc (τ := Cert.SinKernelIdeal.τ) (Cert.SinKernelIdeal.main (F := Ideal))) ⟨m, fun _ => 0, g⟩ (fun r => (∀ c : Dev Cert.SinKernelIdeal.nD,
      r.2.mem ((c.tc : Thread Cert.SinKernelIdeal.nD Cert.SinKernelIdeal.τ).loc Cert.SinKernelIdeal.main_arg0) = m ((c.tc : Thread Cert.SinKernelIdeal.nD Cert.SinKernelIdeal.τ).loc Cert.SinKernelIdeal.main_arg0)
      ∧ r.2.mem ((c.tc : Thread Cert.SinKernelIdeal.nD Cert.SinKernelIdeal.τ).loc Cert.SinKernelIdeal.main_arg1) = m ((c.tc : Thread Cert.SinKernelIdeal.nD Cert.SinKernelIdeal.τ).loc Cert.SinKernelIdeal.main_arg1)
      ∧ r.2.mem ((c.tc : Thread Cert.SinKernelIdeal.nD Cert.SinKernelIdeal.τ).loc Cert.SinKernelIdeal.main_arg2) = m ((c.tc : Thread Cert.SinKernelIdeal.nD Cert.SinKernelIdeal.τ).loc Cert.SinKernelIdeal.main_arg2))
      ∧ r.2.sem = fun _ => 0)

def quiescent_SinReferenceIdeal [hSinReferenceIdeal : Cert.SinReferenceIdeal.Facts] : Prop :=
  ∀ (m : (ℓ : Loc Cert.SinReferenceIdeal.nD Cert.SinReferenceIdeal.τ Cert.SinReferenceIdeal.sig) → Buf (Elt Ideal) ℓ) (g : Dev Cert.SinReferenceIdeal.nD → PrngReg), Pre_SinReferenceIdeal m →
    θ_run (Cert.SinReferenceIdeal.defs (F := Ideal)) (onTc (τ := Cert.SinReferenceIdeal.τ) (Cert.SinReferenceIdeal.main (F := Ideal))) ⟨m, fun _ => 0, g⟩ (fun r => (∀ c : Dev Cert.SinReferenceIdeal.nD,
      r.2.mem ((c.tc : Thread Cert.SinReferenceIdeal.nD Cert.SinReferenceIdeal.τ).loc Cert.SinReferenceIdeal.main_arg0) = m ((c.tc : Thread Cert.SinReferenceIdeal.nD Cert.SinReferenceIdeal.τ).loc Cert.SinReferenceIdeal.main_arg0)
      ∧ r.2.mem ((c.tc : Thread Cert.SinReferenceIdeal.nD Cert.SinReferenceIdeal.τ).loc Cert.SinReferenceIdeal.main_arg1) = m ((c.tc : Thread Cert.SinReferenceIdeal.nD Cert.SinReferenceIdeal.τ).loc Cert.SinReferenceIdeal.main_arg1)
      ∧ r.2.mem ((c.tc : Thread Cert.SinReferenceIdeal.nD Cert.SinReferenceIdeal.τ).loc Cert.SinReferenceIdeal.main_arg2) = m ((c.tc : Thread Cert.SinReferenceIdeal.nD Cert.SinReferenceIdeal.τ).loc Cert.SinReferenceIdeal.main_arg2))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_MoutKernel [hMoutKernel : Cert.MoutKernel.Facts] : Prop :=
  ∀ (m : (ℓ : Loc Cert.MoutKernel.nD Cert.MoutKernel.τ Cert.MoutKernel.sig) → Buf (Elt Bits) ℓ) (g : Dev Cert.MoutKernel.nD → PrngReg), Pre_MoutKernel m →
    θ_run (Cert.MoutKernel.defs (F := Bits)) (onTc (τ := Cert.MoutKernel.τ) (Cert.MoutKernel.main (F := Bits))) ⟨m, fun _ => 0, g⟩ (fun r => (∀ c : Dev Cert.MoutKernel.nD,
      r.2.mem ((c.tc : Thread Cert.MoutKernel.nD Cert.MoutKernel.τ).loc Cert.MoutKernel.main_arg0) = m ((c.tc : Thread Cert.MoutKernel.nD Cert.MoutKernel.τ).loc Cert.MoutKernel.main_arg0)
      ∧ r.2.mem ((c.tc : Thread Cert.MoutKernel.nD Cert.MoutKernel.τ).loc Cert.MoutKernel.main_arg1) = m ((c.tc : Thread Cert.MoutKernel.nD Cert.MoutKernel.τ).loc Cert.MoutKernel.main_arg1)
      ∧ r.2.mem ((c.tc : Thread Cert.MoutKernel.nD Cert.MoutKernel.τ).loc Cert.MoutKernel.main_arg2) = m ((c.tc : Thread Cert.MoutKernel.nD Cert.MoutKernel.τ).loc Cert.MoutKernel.main_arg2)
      ∧ r.2.mem ((c.tc : Thread Cert.MoutKernel.nD Cert.MoutKernel.τ).loc Cert.MoutKernel.main_arg3) = m ((c.tc : Thread Cert.MoutKernel.nD Cert.MoutKernel.τ).loc Cert.MoutKernel.main_arg3))
      ∧ r.2.sem = fun _ => 0)

def quiescent_MoutKernelIdeal [hMoutKernelIdeal : Cert.MoutKernelIdeal.Facts] : Prop :=
  ∀ (m : (ℓ : Loc Cert.MoutKernelIdeal.nD Cert.MoutKernelIdeal.τ Cert.MoutKernelIdeal.sig) → Buf (Elt Ideal) ℓ) (g : Dev Cert.MoutKernelIdeal.nD → PrngReg), Pre_MoutKernelIdeal m →
    θ_run (Cert.MoutKernelIdeal.defs (F := Ideal)) (onTc (τ := Cert.MoutKernelIdeal.τ) (Cert.MoutKernelIdeal.main (F := Ideal))) ⟨m, fun _ => 0, g⟩ (fun r => (∀ c : Dev Cert.MoutKernelIdeal.nD,
      r.2.mem ((c.tc : Thread Cert.MoutKernelIdeal.nD Cert.MoutKernelIdeal.τ).loc Cert.MoutKernelIdeal.main_arg0) = m ((c.tc : Thread Cert.MoutKernelIdeal.nD Cert.MoutKernelIdeal.τ).loc Cert.MoutKernelIdeal.main_arg0)
      ∧ r.2.mem ((c.tc : Thread Cert.MoutKernelIdeal.nD Cert.MoutKernelIdeal.τ).loc Cert.MoutKernelIdeal.main_arg1) = m ((c.tc : Thread Cert.MoutKernelIdeal.nD Cert.MoutKernelIdeal.τ).loc Cert.MoutKernelIdeal.main_arg1)
      ∧ r.2.mem ((c.tc : Thread Cert.MoutKernelIdeal.nD Cert.MoutKernelIdeal.τ).loc Cert.MoutKernelIdeal.main_arg2) = m ((c.tc : Thread Cert.MoutKernelIdeal.nD Cert.MoutKernelIdeal.τ).loc Cert.MoutKernelIdeal.main_arg2)
      ∧ r.2.mem ((c.tc : Thread Cert.MoutKernelIdeal.nD Cert.MoutKernelIdeal.τ).loc Cert.MoutKernelIdeal.main_arg3) = m ((c.tc : Thread Cert.MoutKernelIdeal.nD Cert.MoutKernelIdeal.τ).loc Cert.MoutKernelIdeal.main_arg3))
      ∧ r.2.sem = fun _ => 0)

def quiescent_MoutReferenceIdeal [hMoutReferenceIdeal : Cert.MoutReferenceIdeal.Facts] : Prop :=
  ∀ (m : (ℓ : Loc Cert.MoutReferenceIdeal.nD Cert.MoutReferenceIdeal.τ Cert.MoutReferenceIdeal.sig) → Buf (Elt Ideal) ℓ) (g : Dev Cert.MoutReferenceIdeal.nD → PrngReg), Pre_MoutReferenceIdeal m →
    θ_run (Cert.MoutReferenceIdeal.defs (F := Ideal)) (onTc (τ := Cert.MoutReferenceIdeal.τ) (Cert.MoutReferenceIdeal.main (F := Ideal))) ⟨m, fun _ => 0, g⟩ (fun r => (∀ c : Dev Cert.MoutReferenceIdeal.nD,
      r.2.mem ((c.tc : Thread Cert.MoutReferenceIdeal.nD Cert.MoutReferenceIdeal.τ).loc Cert.MoutReferenceIdeal.main_arg0) = m ((c.tc : Thread Cert.MoutReferenceIdeal.nD Cert.MoutReferenceIdeal.τ).loc Cert.MoutReferenceIdeal.main_arg0)
      ∧ r.2.mem ((c.tc : Thread Cert.MoutReferenceIdeal.nD Cert.MoutReferenceIdeal.τ).loc Cert.MoutReferenceIdeal.main_arg1) = m ((c.tc : Thread Cert.MoutReferenceIdeal.nD Cert.MoutReferenceIdeal.τ).loc Cert.MoutReferenceIdeal.main_arg1)
      ∧ r.2.mem ((c.tc : Thread Cert.MoutReferenceIdeal.nD Cert.MoutReferenceIdeal.τ).loc Cert.MoutReferenceIdeal.main_arg2) = m ((c.tc : Thread Cert.MoutReferenceIdeal.nD Cert.MoutReferenceIdeal.τ).loc Cert.MoutReferenceIdeal.main_arg2)
      ∧ r.2.mem ((c.tc : Thread Cert.MoutReferenceIdeal.nD Cert.MoutReferenceIdeal.τ).loc Cert.MoutReferenceIdeal.main_arg3) = m ((c.tc : Thread Cert.MoutReferenceIdeal.nD Cert.MoutReferenceIdeal.τ).loc Cert.MoutReferenceIdeal.main_arg3))
      ∧ r.2.sem = fun _ => 0)

def quiescent_CinKernel [hCinKernel : Cert.CinKernel.Facts] : Prop :=
  ∀ (m : (ℓ : Loc Cert.CinKernel.nD Cert.CinKernel.τ Cert.CinKernel.sig) → Buf (Elt Bits) ℓ) (g : Dev Cert.CinKernel.nD → PrngReg), Pre_CinKernel m →
    θ_run (Cert.CinKernel.defs (F := Bits)) (onTc (τ := Cert.CinKernel.τ) (Cert.CinKernel.main (F := Bits))) ⟨m, fun _ => 0, g⟩ (fun r => (∀ c : Dev Cert.CinKernel.nD,
      r.2.mem ((c.tc : Thread Cert.CinKernel.nD Cert.CinKernel.τ).loc Cert.CinKernel.main_arg0) = m ((c.tc : Thread Cert.CinKernel.nD Cert.CinKernel.τ).loc Cert.CinKernel.main_arg0)
      ∧ r.2.mem ((c.tc : Thread Cert.CinKernel.nD Cert.CinKernel.τ).loc Cert.CinKernel.main_arg1) = m ((c.tc : Thread Cert.CinKernel.nD Cert.CinKernel.τ).loc Cert.CinKernel.main_arg1)
      ∧ r.2.mem ((c.tc : Thread Cert.CinKernel.nD Cert.CinKernel.τ).loc Cert.CinKernel.main_arg2) = m ((c.tc : Thread Cert.CinKernel.nD Cert.CinKernel.τ).loc Cert.CinKernel.main_arg2))
      ∧ r.2.sem = fun _ => 0)

def quiescent_CinKernelIdeal [hCinKernelIdeal : Cert.CinKernelIdeal.Facts] : Prop :=
  ∀ (m : (ℓ : Loc Cert.CinKernelIdeal.nD Cert.CinKernelIdeal.τ Cert.CinKernelIdeal.sig) → Buf (Elt Ideal) ℓ) (g : Dev Cert.CinKernelIdeal.nD → PrngReg), Pre_CinKernelIdeal m →
    θ_run (Cert.CinKernelIdeal.defs (F := Ideal)) (onTc (τ := Cert.CinKernelIdeal.τ) (Cert.CinKernelIdeal.main (F := Ideal))) ⟨m, fun _ => 0, g⟩ (fun r => (∀ c : Dev Cert.CinKernelIdeal.nD,
      r.2.mem ((c.tc : Thread Cert.CinKernelIdeal.nD Cert.CinKernelIdeal.τ).loc Cert.CinKernelIdeal.main_arg0) = m ((c.tc : Thread Cert.CinKernelIdeal.nD Cert.CinKernelIdeal.τ).loc Cert.CinKernelIdeal.main_arg0)
      ∧ r.2.mem ((c.tc : Thread Cert.CinKernelIdeal.nD Cert.CinKernelIdeal.τ).loc Cert.CinKernelIdeal.main_arg1) = m ((c.tc : Thread Cert.CinKernelIdeal.nD Cert.CinKernelIdeal.τ).loc Cert.CinKernelIdeal.main_arg1)
      ∧ r.2.mem ((c.tc : Thread Cert.CinKernelIdeal.nD Cert.CinKernelIdeal.τ).loc Cert.CinKernelIdeal.main_arg2) = m ((c.tc : Thread Cert.CinKernelIdeal.nD Cert.CinKernelIdeal.τ).loc Cert.CinKernelIdeal.main_arg2))
      ∧ r.2.sem = fun _ => 0)

def quiescent_CinReferenceIdeal [hCinReferenceIdeal : Cert.CinReferenceIdeal.Facts] : Prop :=
  ∀ (m : (ℓ : Loc Cert.CinReferenceIdeal.nD Cert.CinReferenceIdeal.τ Cert.CinReferenceIdeal.sig) → Buf (Elt Ideal) ℓ) (g : Dev Cert.CinReferenceIdeal.nD → PrngReg), Pre_CinReferenceIdeal m →
    θ_run (Cert.CinReferenceIdeal.defs (F := Ideal)) (onTc (τ := Cert.CinReferenceIdeal.τ) (Cert.CinReferenceIdeal.main (F := Ideal))) ⟨m, fun _ => 0, g⟩ (fun r => (∀ c : Dev Cert.CinReferenceIdeal.nD,
      r.2.mem ((c.tc : Thread Cert.CinReferenceIdeal.nD Cert.CinReferenceIdeal.τ).loc Cert.CinReferenceIdeal.main_arg0) = m ((c.tc : Thread Cert.CinReferenceIdeal.nD Cert.CinReferenceIdeal.τ).loc Cert.CinReferenceIdeal.main_arg0)
      ∧ r.2.mem ((c.tc : Thread Cert.CinReferenceIdeal.nD Cert.CinReferenceIdeal.τ).loc Cert.CinReferenceIdeal.main_arg1) = m ((c.tc : Thread Cert.CinReferenceIdeal.nD Cert.CinReferenceIdeal.τ).loc Cert.CinReferenceIdeal.main_arg1)
      ∧ r.2.mem ((c.tc : Thread Cert.CinReferenceIdeal.nD Cert.CinReferenceIdeal.τ).loc Cert.CinReferenceIdeal.main_arg2) = m ((c.tc : Thread Cert.CinReferenceIdeal.nD Cert.CinReferenceIdeal.τ).loc Cert.CinReferenceIdeal.main_arg2))
      ∧ r.2.sem = fun _ => 0)

def quiescent_QinKernel [hQinKernel : Cert.QinKernel.Facts] : Prop :=
  ∀ (m : (ℓ : Loc Cert.QinKernel.nD Cert.QinKernel.τ Cert.QinKernel.sig) → Buf (Elt Bits) ℓ) (g : Dev Cert.QinKernel.nD → PrngReg), Pre_QinKernel m →
    θ_run (Cert.QinKernel.defs (F := Bits)) (onTc (τ := Cert.QinKernel.τ) (Cert.QinKernel.main (F := Bits))) ⟨m, fun _ => 0, g⟩ (fun r => (∀ c : Dev Cert.QinKernel.nD,
      r.2.mem ((c.tc : Thread Cert.QinKernel.nD Cert.QinKernel.τ).loc Cert.QinKernel.main_arg0) = m ((c.tc : Thread Cert.QinKernel.nD Cert.QinKernel.τ).loc Cert.QinKernel.main_arg0)
      ∧ r.2.mem ((c.tc : Thread Cert.QinKernel.nD Cert.QinKernel.τ).loc Cert.QinKernel.main_arg1) = m ((c.tc : Thread Cert.QinKernel.nD Cert.QinKernel.τ).loc Cert.QinKernel.main_arg1)
      ∧ r.2.mem ((c.tc : Thread Cert.QinKernel.nD Cert.QinKernel.τ).loc Cert.QinKernel.main_arg2) = m ((c.tc : Thread Cert.QinKernel.nD Cert.QinKernel.τ).loc Cert.QinKernel.main_arg2))
      ∧ r.2.sem = fun _ => 0)

def quiescent_QinKernelIdeal [hQinKernelIdeal : Cert.QinKernelIdeal.Facts] : Prop :=
  ∀ (m : (ℓ : Loc Cert.QinKernelIdeal.nD Cert.QinKernelIdeal.τ Cert.QinKernelIdeal.sig) → Buf (Elt Ideal) ℓ) (g : Dev Cert.QinKernelIdeal.nD → PrngReg), Pre_QinKernelIdeal m →
    θ_run (Cert.QinKernelIdeal.defs (F := Ideal)) (onTc (τ := Cert.QinKernelIdeal.τ) (Cert.QinKernelIdeal.main (F := Ideal))) ⟨m, fun _ => 0, g⟩ (fun r => (∀ c : Dev Cert.QinKernelIdeal.nD,
      r.2.mem ((c.tc : Thread Cert.QinKernelIdeal.nD Cert.QinKernelIdeal.τ).loc Cert.QinKernelIdeal.main_arg0) = m ((c.tc : Thread Cert.QinKernelIdeal.nD Cert.QinKernelIdeal.τ).loc Cert.QinKernelIdeal.main_arg0)
      ∧ r.2.mem ((c.tc : Thread Cert.QinKernelIdeal.nD Cert.QinKernelIdeal.τ).loc Cert.QinKernelIdeal.main_arg1) = m ((c.tc : Thread Cert.QinKernelIdeal.nD Cert.QinKernelIdeal.τ).loc Cert.QinKernelIdeal.main_arg1)
      ∧ r.2.mem ((c.tc : Thread Cert.QinKernelIdeal.nD Cert.QinKernelIdeal.τ).loc Cert.QinKernelIdeal.main_arg2) = m ((c.tc : Thread Cert.QinKernelIdeal.nD Cert.QinKernelIdeal.τ).loc Cert.QinKernelIdeal.main_arg2))
      ∧ r.2.sem = fun _ => 0)

def quiescent_QinReferenceIdeal [hQinReferenceIdeal : Cert.QinReferenceIdeal.Facts] : Prop :=
  ∀ (m : (ℓ : Loc Cert.QinReferenceIdeal.nD Cert.QinReferenceIdeal.τ Cert.QinReferenceIdeal.sig) → Buf (Elt Ideal) ℓ) (g : Dev Cert.QinReferenceIdeal.nD → PrngReg), Pre_QinReferenceIdeal m →
    θ_run (Cert.QinReferenceIdeal.defs (F := Ideal)) (onTc (τ := Cert.QinReferenceIdeal.τ) (Cert.QinReferenceIdeal.main (F := Ideal))) ⟨m, fun _ => 0, g⟩ (fun r => (∀ c : Dev Cert.QinReferenceIdeal.nD,
      r.2.mem ((c.tc : Thread Cert.QinReferenceIdeal.nD Cert.QinReferenceIdeal.τ).loc Cert.QinReferenceIdeal.main_arg0) = m ((c.tc : Thread Cert.QinReferenceIdeal.nD Cert.QinReferenceIdeal.τ).loc Cert.QinReferenceIdeal.main_arg0)
      ∧ r.2.mem ((c.tc : Thread Cert.QinReferenceIdeal.nD Cert.QinReferenceIdeal.τ).loc Cert.QinReferenceIdeal.main_arg1) = m ((c.tc : Thread Cert.QinReferenceIdeal.nD Cert.QinReferenceIdeal.τ).loc Cert.QinReferenceIdeal.main_arg1)
      ∧ r.2.mem ((c.tc : Thread Cert.QinReferenceIdeal.nD Cert.QinReferenceIdeal.τ).loc Cert.QinReferenceIdeal.main_arg2) = m ((c.tc : Thread Cert.QinReferenceIdeal.nD Cert.QinReferenceIdeal.τ).loc Cert.QinReferenceIdeal.main_arg2))
      ∧ r.2.sem = fun _ => 0)

def quiescent_KvnKernel [hKvnKernel : Cert.KvnKernel.Facts] : Prop :=
  ∀ (m : (ℓ : Loc Cert.KvnKernel.nD Cert.KvnKernel.τ Cert.KvnKernel.sig) → Buf (Elt Bits) ℓ) (g : Dev Cert.KvnKernel.nD → PrngReg), Pre_KvnKernel m →
    θ_run (Cert.KvnKernel.defs (F := Bits)) (onTc (τ := Cert.KvnKernel.τ) (Cert.KvnKernel.main (F := Bits))) ⟨m, fun _ => 0, g⟩ (fun r => (∀ c : Dev Cert.KvnKernel.nD,
      r.2.mem ((c.tc : Thread Cert.KvnKernel.nD Cert.KvnKernel.τ).loc Cert.KvnKernel.main_arg0) = m ((c.tc : Thread Cert.KvnKernel.nD Cert.KvnKernel.τ).loc Cert.KvnKernel.main_arg0)
      ∧ r.2.mem ((c.tc : Thread Cert.KvnKernel.nD Cert.KvnKernel.τ).loc Cert.KvnKernel.main_arg1) = m ((c.tc : Thread Cert.KvnKernel.nD Cert.KvnKernel.τ).loc Cert.KvnKernel.main_arg1))
      ∧ r.2.sem = fun _ => 0)

def quiescent_KvnKernelIdeal [hKvnKernelIdeal : Cert.KvnKernelIdeal.Facts] : Prop :=
  ∀ (m : (ℓ : Loc Cert.KvnKernelIdeal.nD Cert.KvnKernelIdeal.τ Cert.KvnKernelIdeal.sig) → Buf (Elt Ideal) ℓ) (g : Dev Cert.KvnKernelIdeal.nD → PrngReg), Pre_KvnKernelIdeal m →
    θ_run (Cert.KvnKernelIdeal.defs (F := Ideal)) (onTc (τ := Cert.KvnKernelIdeal.τ) (Cert.KvnKernelIdeal.main (F := Ideal))) ⟨m, fun _ => 0, g⟩ (fun r => (∀ c : Dev Cert.KvnKernelIdeal.nD,
      r.2.mem ((c.tc : Thread Cert.KvnKernelIdeal.nD Cert.KvnKernelIdeal.τ).loc Cert.KvnKernelIdeal.main_arg0) = m ((c.tc : Thread Cert.KvnKernelIdeal.nD Cert.KvnKernelIdeal.τ).loc Cert.KvnKernelIdeal.main_arg0)
      ∧ r.2.mem ((c.tc : Thread Cert.KvnKernelIdeal.nD Cert.KvnKernelIdeal.τ).loc Cert.KvnKernelIdeal.main_arg1) = m ((c.tc : Thread Cert.KvnKernelIdeal.nD Cert.KvnKernelIdeal.τ).loc Cert.KvnKernelIdeal.main_arg1))
      ∧ r.2.sem = fun _ => 0)

def quiescent_KvnReferenceIdeal [hKvnReferenceIdeal : Cert.KvnReferenceIdeal.Facts] : Prop :=
  ∀ (m : (ℓ : Loc Cert.KvnReferenceIdeal.nD Cert.KvnReferenceIdeal.τ Cert.KvnReferenceIdeal.sig) → Buf (Elt Ideal) ℓ) (g : Dev Cert.KvnReferenceIdeal.nD → PrngReg), Pre_KvnReferenceIdeal m →
    θ_run (Cert.KvnReferenceIdeal.defs (F := Ideal)) (onTc (τ := Cert.KvnReferenceIdeal.τ) (Cert.KvnReferenceIdeal.main (F := Ideal))) ⟨m, fun _ => 0, g⟩ (fun r => (∀ c : Dev Cert.KvnReferenceIdeal.nD,
      r.2.mem ((c.tc : Thread Cert.KvnReferenceIdeal.nD Cert.KvnReferenceIdeal.τ).loc Cert.KvnReferenceIdeal.main_arg0) = m ((c.tc : Thread Cert.KvnReferenceIdeal.nD Cert.KvnReferenceIdeal.τ).loc Cert.KvnReferenceIdeal.main_arg0)
      ∧ r.2.mem ((c.tc : Thread Cert.KvnReferenceIdeal.nD Cert.KvnReferenceIdeal.τ).loc Cert.KvnReferenceIdeal.main_arg1) = m ((c.tc : Thread Cert.KvnReferenceIdeal.nD Cert.KvnReferenceIdeal.τ).loc Cert.KvnReferenceIdeal.main_arg1))
      ∧ r.2.sem = fun _ => 0)

def quiescent_CpreKernel [hCpreKernel : Cert.CpreKernel.Facts] : Prop :=
  ∀ (m : (ℓ : Loc Cert.CpreKernel.nD Cert.CpreKernel.τ Cert.CpreKernel.sig) → Buf (Elt Bits) ℓ) (g : Dev Cert.CpreKernel.nD → PrngReg), Pre_CpreKernel m →
    θ_run (Cert.CpreKernel.defs (F := Bits)) (onTc (τ := Cert.CpreKernel.τ) (Cert.CpreKernel.main (F := Bits))) ⟨m, fun _ => 0, g⟩ (fun r => (∀ c : Dev Cert.CpreKernel.nD,
      r.2.mem ((c.tc : Thread Cert.CpreKernel.nD Cert.CpreKernel.τ).loc Cert.CpreKernel.main_arg0) = m ((c.tc : Thread Cert.CpreKernel.nD Cert.CpreKernel.τ).loc Cert.CpreKernel.main_arg0)
      ∧ r.2.mem ((c.tc : Thread Cert.CpreKernel.nD Cert.CpreKernel.τ).loc Cert.CpreKernel.main_arg1) = m ((c.tc : Thread Cert.CpreKernel.nD Cert.CpreKernel.τ).loc Cert.CpreKernel.main_arg1)
      ∧ r.2.mem ((c.tc : Thread Cert.CpreKernel.nD Cert.CpreKernel.τ).loc Cert.CpreKernel.main_arg2) = m ((c.tc : Thread Cert.CpreKernel.nD Cert.CpreKernel.τ).loc Cert.CpreKernel.main_arg2)
      ∧ r.2.mem ((c.tc : Thread Cert.CpreKernel.nD Cert.CpreKernel.τ).loc Cert.CpreKernel.main_arg3) = m ((c.tc : Thread Cert.CpreKernel.nD Cert.CpreKernel.τ).loc Cert.CpreKernel.main_arg3)
      ∧ r.2.mem ((c.tc : Thread Cert.CpreKernel.nD Cert.CpreKernel.τ).loc Cert.CpreKernel.main_arg4) = m ((c.tc : Thread Cert.CpreKernel.nD Cert.CpreKernel.τ).loc Cert.CpreKernel.main_arg4))
      ∧ r.2.sem = fun _ => 0)

def quiescent_CpreKernelIdeal [hCpreKernelIdeal : Cert.CpreKernelIdeal.Facts] : Prop :=
  ∀ (m : (ℓ : Loc Cert.CpreKernelIdeal.nD Cert.CpreKernelIdeal.τ Cert.CpreKernelIdeal.sig) → Buf (Elt Ideal) ℓ) (g : Dev Cert.CpreKernelIdeal.nD → PrngReg), Pre_CpreKernelIdeal m →
    θ_run (Cert.CpreKernelIdeal.defs (F := Ideal)) (onTc (τ := Cert.CpreKernelIdeal.τ) (Cert.CpreKernelIdeal.main (F := Ideal))) ⟨m, fun _ => 0, g⟩ (fun r => (∀ c : Dev Cert.CpreKernelIdeal.nD,
      r.2.mem ((c.tc : Thread Cert.CpreKernelIdeal.nD Cert.CpreKernelIdeal.τ).loc Cert.CpreKernelIdeal.main_arg0) = m ((c.tc : Thread Cert.CpreKernelIdeal.nD Cert.CpreKernelIdeal.τ).loc Cert.CpreKernelIdeal.main_arg0)
      ∧ r.2.mem ((c.tc : Thread Cert.CpreKernelIdeal.nD Cert.CpreKernelIdeal.τ).loc Cert.CpreKernelIdeal.main_arg1) = m ((c.tc : Thread Cert.CpreKernelIdeal.nD Cert.CpreKernelIdeal.τ).loc Cert.CpreKernelIdeal.main_arg1)
      ∧ r.2.mem ((c.tc : Thread Cert.CpreKernelIdeal.nD Cert.CpreKernelIdeal.τ).loc Cert.CpreKernelIdeal.main_arg2) = m ((c.tc : Thread Cert.CpreKernelIdeal.nD Cert.CpreKernelIdeal.τ).loc Cert.CpreKernelIdeal.main_arg2)
      ∧ r.2.mem ((c.tc : Thread Cert.CpreKernelIdeal.nD Cert.CpreKernelIdeal.τ).loc Cert.CpreKernelIdeal.main_arg3) = m ((c.tc : Thread Cert.CpreKernelIdeal.nD Cert.CpreKernelIdeal.τ).loc Cert.CpreKernelIdeal.main_arg3)
      ∧ r.2.mem ((c.tc : Thread Cert.CpreKernelIdeal.nD Cert.CpreKernelIdeal.τ).loc Cert.CpreKernelIdeal.main_arg4) = m ((c.tc : Thread Cert.CpreKernelIdeal.nD Cert.CpreKernelIdeal.τ).loc Cert.CpreKernelIdeal.main_arg4))
      ∧ r.2.sem = fun _ => 0)

def quiescent_CpreReferenceIdeal [hCpreReferenceIdeal : Cert.CpreReferenceIdeal.Facts] : Prop :=
  ∀ (m : (ℓ : Loc Cert.CpreReferenceIdeal.nD Cert.CpreReferenceIdeal.τ Cert.CpreReferenceIdeal.sig) → Buf (Elt Ideal) ℓ) (g : Dev Cert.CpreReferenceIdeal.nD → PrngReg), Pre_CpreReferenceIdeal m →
    θ_run (Cert.CpreReferenceIdeal.defs (F := Ideal)) (onTc (τ := Cert.CpreReferenceIdeal.τ) (Cert.CpreReferenceIdeal.main (F := Ideal))) ⟨m, fun _ => 0, g⟩ (fun r => (∀ c : Dev Cert.CpreReferenceIdeal.nD,
      r.2.mem ((c.tc : Thread Cert.CpreReferenceIdeal.nD Cert.CpreReferenceIdeal.τ).loc Cert.CpreReferenceIdeal.main_arg0) = m ((c.tc : Thread Cert.CpreReferenceIdeal.nD Cert.CpreReferenceIdeal.τ).loc Cert.CpreReferenceIdeal.main_arg0)
      ∧ r.2.mem ((c.tc : Thread Cert.CpreReferenceIdeal.nD Cert.CpreReferenceIdeal.τ).loc Cert.CpreReferenceIdeal.main_arg1) = m ((c.tc : Thread Cert.CpreReferenceIdeal.nD Cert.CpreReferenceIdeal.τ).loc Cert.CpreReferenceIdeal.main_arg1)
      ∧ r.2.mem ((c.tc : Thread Cert.CpreReferenceIdeal.nD Cert.CpreReferenceIdeal.τ).loc Cert.CpreReferenceIdeal.main_arg2) = m ((c.tc : Thread Cert.CpreReferenceIdeal.nD Cert.CpreReferenceIdeal.τ).loc Cert.CpreReferenceIdeal.main_arg2)
      ∧ r.2.mem ((c.tc : Thread Cert.CpreReferenceIdeal.nD Cert.CpreReferenceIdeal.τ).loc Cert.CpreReferenceIdeal.main_arg3) = m ((c.tc : Thread Cert.CpreReferenceIdeal.nD Cert.CpreReferenceIdeal.τ).loc Cert.CpreReferenceIdeal.main_arg3)
      ∧ r.2.mem ((c.tc : Thread Cert.CpreReferenceIdeal.nD Cert.CpreReferenceIdeal.τ).loc Cert.CpreReferenceIdeal.main_arg4) = m ((c.tc : Thread Cert.CpreReferenceIdeal.nD Cert.CpreReferenceIdeal.τ).loc Cert.CpreReferenceIdeal.main_arg4))
      ∧ r.2.sem = fun _ => 0)

def quiescent_QpreKernel [hQpreKernel : Cert.QpreKernel.Facts] : Prop :=
  ∀ (m : (ℓ : Loc Cert.QpreKernel.nD Cert.QpreKernel.τ Cert.QpreKernel.sig) → Buf (Elt Bits) ℓ) (g : Dev Cert.QpreKernel.nD → PrngReg), Pre_QpreKernel m →
    θ_run (Cert.QpreKernel.defs (F := Bits)) (onTc (τ := Cert.QpreKernel.τ) (Cert.QpreKernel.main (F := Bits))) ⟨m, fun _ => 0, g⟩ (fun r => (∀ c : Dev Cert.QpreKernel.nD,
      r.2.mem ((c.tc : Thread Cert.QpreKernel.nD Cert.QpreKernel.τ).loc Cert.QpreKernel.main_arg0) = m ((c.tc : Thread Cert.QpreKernel.nD Cert.QpreKernel.τ).loc Cert.QpreKernel.main_arg0)
      ∧ r.2.mem ((c.tc : Thread Cert.QpreKernel.nD Cert.QpreKernel.τ).loc Cert.QpreKernel.main_arg1) = m ((c.tc : Thread Cert.QpreKernel.nD Cert.QpreKernel.τ).loc Cert.QpreKernel.main_arg1)
      ∧ r.2.mem ((c.tc : Thread Cert.QpreKernel.nD Cert.QpreKernel.τ).loc Cert.QpreKernel.main_arg2) = m ((c.tc : Thread Cert.QpreKernel.nD Cert.QpreKernel.τ).loc Cert.QpreKernel.main_arg2)
      ∧ r.2.mem ((c.tc : Thread Cert.QpreKernel.nD Cert.QpreKernel.τ).loc Cert.QpreKernel.main_arg3) = m ((c.tc : Thread Cert.QpreKernel.nD Cert.QpreKernel.τ).loc Cert.QpreKernel.main_arg3)
      ∧ r.2.mem ((c.tc : Thread Cert.QpreKernel.nD Cert.QpreKernel.τ).loc Cert.QpreKernel.main_arg4) = m ((c.tc : Thread Cert.QpreKernel.nD Cert.QpreKernel.τ).loc Cert.QpreKernel.main_arg4))
      ∧ r.2.sem = fun _ => 0)

def quiescent_QpreKernelIdeal [hQpreKernelIdeal : Cert.QpreKernelIdeal.Facts] : Prop :=
  ∀ (m : (ℓ : Loc Cert.QpreKernelIdeal.nD Cert.QpreKernelIdeal.τ Cert.QpreKernelIdeal.sig) → Buf (Elt Ideal) ℓ) (g : Dev Cert.QpreKernelIdeal.nD → PrngReg), Pre_QpreKernelIdeal m →
    θ_run (Cert.QpreKernelIdeal.defs (F := Ideal)) (onTc (τ := Cert.QpreKernelIdeal.τ) (Cert.QpreKernelIdeal.main (F := Ideal))) ⟨m, fun _ => 0, g⟩ (fun r => (∀ c : Dev Cert.QpreKernelIdeal.nD,
      r.2.mem ((c.tc : Thread Cert.QpreKernelIdeal.nD Cert.QpreKernelIdeal.τ).loc Cert.QpreKernelIdeal.main_arg0) = m ((c.tc : Thread Cert.QpreKernelIdeal.nD Cert.QpreKernelIdeal.τ).loc Cert.QpreKernelIdeal.main_arg0)
      ∧ r.2.mem ((c.tc : Thread Cert.QpreKernelIdeal.nD Cert.QpreKernelIdeal.τ).loc Cert.QpreKernelIdeal.main_arg1) = m ((c.tc : Thread Cert.QpreKernelIdeal.nD Cert.QpreKernelIdeal.τ).loc Cert.QpreKernelIdeal.main_arg1)
      ∧ r.2.mem ((c.tc : Thread Cert.QpreKernelIdeal.nD Cert.QpreKernelIdeal.τ).loc Cert.QpreKernelIdeal.main_arg2) = m ((c.tc : Thread Cert.QpreKernelIdeal.nD Cert.QpreKernelIdeal.τ).loc Cert.QpreKernelIdeal.main_arg2)
      ∧ r.2.mem ((c.tc : Thread Cert.QpreKernelIdeal.nD Cert.QpreKernelIdeal.τ).loc Cert.QpreKernelIdeal.main_arg3) = m ((c.tc : Thread Cert.QpreKernelIdeal.nD Cert.QpreKernelIdeal.τ).loc Cert.QpreKernelIdeal.main_arg3)
      ∧ r.2.mem ((c.tc : Thread Cert.QpreKernelIdeal.nD Cert.QpreKernelIdeal.τ).loc Cert.QpreKernelIdeal.main_arg4) = m ((c.tc : Thread Cert.QpreKernelIdeal.nD Cert.QpreKernelIdeal.τ).loc Cert.QpreKernelIdeal.main_arg4))
      ∧ r.2.sem = fun _ => 0)

def quiescent_QpreReferenceIdeal [hQpreReferenceIdeal : Cert.QpreReferenceIdeal.Facts] : Prop :=
  ∀ (m : (ℓ : Loc Cert.QpreReferenceIdeal.nD Cert.QpreReferenceIdeal.τ Cert.QpreReferenceIdeal.sig) → Buf (Elt Ideal) ℓ) (g : Dev Cert.QpreReferenceIdeal.nD → PrngReg), Pre_QpreReferenceIdeal m →
    θ_run (Cert.QpreReferenceIdeal.defs (F := Ideal)) (onTc (τ := Cert.QpreReferenceIdeal.τ) (Cert.QpreReferenceIdeal.main (F := Ideal))) ⟨m, fun _ => 0, g⟩ (fun r => (∀ c : Dev Cert.QpreReferenceIdeal.nD,
      r.2.mem ((c.tc : Thread Cert.QpreReferenceIdeal.nD Cert.QpreReferenceIdeal.τ).loc Cert.QpreReferenceIdeal.main_arg0) = m ((c.tc : Thread Cert.QpreReferenceIdeal.nD Cert.QpreReferenceIdeal.τ).loc Cert.QpreReferenceIdeal.main_arg0)
      ∧ r.2.mem ((c.tc : Thread Cert.QpreReferenceIdeal.nD Cert.QpreReferenceIdeal.τ).loc Cert.QpreReferenceIdeal.main_arg1) = m ((c.tc : Thread Cert.QpreReferenceIdeal.nD Cert.QpreReferenceIdeal.τ).loc Cert.QpreReferenceIdeal.main_arg1)
      ∧ r.2.mem ((c.tc : Thread Cert.QpreReferenceIdeal.nD Cert.QpreReferenceIdeal.τ).loc Cert.QpreReferenceIdeal.main_arg2) = m ((c.tc : Thread Cert.QpreReferenceIdeal.nD Cert.QpreReferenceIdeal.τ).loc Cert.QpreReferenceIdeal.main_arg2)
      ∧ r.2.mem ((c.tc : Thread Cert.QpreReferenceIdeal.nD Cert.QpreReferenceIdeal.τ).loc Cert.QpreReferenceIdeal.main_arg3) = m ((c.tc : Thread Cert.QpreReferenceIdeal.nD Cert.QpreReferenceIdeal.τ).loc Cert.QpreReferenceIdeal.main_arg3)
      ∧ r.2.mem ((c.tc : Thread Cert.QpreReferenceIdeal.nD Cert.QpreReferenceIdeal.τ).loc Cert.QpreReferenceIdeal.main_arg4) = m ((c.tc : Thread Cert.QpreReferenceIdeal.nD Cert.QpreReferenceIdeal.τ).loc Cert.QpreReferenceIdeal.main_arg4))
      ∧ r.2.sem = fun _ => 0)

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v5_0)) (v1 : (c : Dev Cert.ConvKernelIdeal.nD) → Buf (Elt Ideal) ((c.tc : Thread Cert.ConvKernelIdeal.nD Cert.ConvKernelIdeal.τ).loc Cert.ConvKernelIdeal.main_v5_1)) (v2 : (c : Dev Cert.ConvKernelIdeal.nD) → Buf (Elt Ideal) ((c.tc : Thread Cert.ConvKernelIdeal.nD Cert.ConvKernelIdeal.τ).loc Cert.ConvKernelIdeal.main_v5_2)) (v3 : (c : Dev Cert.ConvKernelIdeal.nD) → Buf (Elt Ideal) ((c.tc : Thread Cert.ConvKernelIdeal.nD Cert.ConvKernelIdeal.τ).loc Cert.ConvKernelIdeal.main_v5_3)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v5_0) = v0 c
          ∧ r.2.mem ((c.tc : Thread Cert.ConvKernelIdeal.nD Cert.ConvKernelIdeal.τ).loc Cert.ConvKernelIdeal.main_v5_1) = v1 c
          ∧ r.2.mem ((c.tc : Thread Cert.ConvKernelIdeal.nD Cert.ConvKernelIdeal.τ).loc Cert.ConvKernelIdeal.main_v5_2) = v2 c
          ∧ r.2.mem ((c.tc : Thread Cert.ConvKernelIdeal.nD Cert.ConvKernelIdeal.τ).loc Cert.ConvKernelIdeal.main_v5_3) = v3 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v70) = v0 c
          ∧ r.2.mem ((c.tc : Thread Cert.ConvReferenceIdeal.nD Cert.ConvReferenceIdeal.τ).loc Cert.ConvReferenceIdeal.main_v72) = v1 c
          ∧ r.2.mem ((c.tc : Thread Cert.ConvReferenceIdeal.nD Cert.ConvReferenceIdeal.τ).loc Cert.ConvReferenceIdeal.main_v74) = v2 c
          ∧ r.2.mem ((c.tc : Thread Cert.ConvReferenceIdeal.nD Cert.ConvReferenceIdeal.τ).loc Cert.ConvReferenceIdeal.main_v75) = v3 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_CfwdKernel_CfwdKernelIdeal : Prop :=
  True

def algebraic_CfwdKernelIdeal_CfwdReferenceIdeal [hCfwdKernelIdeal : Cert.CfwdKernelIdeal.Facts] [hCfwdReferenceIdeal : Cert.CfwdReferenceIdeal.Facts] : Prop :=
  ∀ (m : (ℓ : Loc Cert.CfwdKernelIdeal.nD Cert.CfwdKernelIdeal.τ Cert.CfwdKernelIdeal.sig) → Buf (Elt Ideal) ℓ) (g : Dev Cert.CfwdKernelIdeal.nD → PrngReg)
    (m' : (ℓ : Loc Cert.CfwdReferenceIdeal.nD Cert.CfwdReferenceIdeal.τ Cert.CfwdReferenceIdeal.sig) → Buf (Elt Ideal) ℓ) (g' : Dev Cert.CfwdReferenceIdeal.nD → PrngReg), Pre_CfwdKernelIdeal m →
    (∀ c : Dev Cert.CfwdKernelIdeal.nD,
      m' ((c.tc : Thread Cert.CfwdReferenceIdeal.nD Cert.CfwdReferenceIdeal.τ).loc Cert.CfwdReferenceIdeal.main_arg0) = m ((c.tc : Thread Cert.CfwdKernelIdeal.nD Cert.CfwdKernelIdeal.τ).loc Cert.CfwdKernelIdeal.main_arg0)
      ∧ m' ((c.tc : Thread Cert.CfwdReferenceIdeal.nD Cert.CfwdReferenceIdeal.τ).loc Cert.CfwdReferenceIdeal.main_arg1) = m ((c.tc : Thread Cert.CfwdKernelIdeal.nD Cert.CfwdKernelIdeal.τ).loc Cert.CfwdKernelIdeal.main_arg1)) →
    ∃ (v0 : (c : Dev Cert.CfwdKernelIdeal.nD) → Buf (Elt Ideal) ((c.tc : Thread Cert.CfwdKernelIdeal.nD Cert.CfwdKernelIdeal.τ).loc Cert.CfwdKernelIdeal.main_v4)),
      θ_run (Cert.CfwdKernelIdeal.defs (F := Ideal)) (onTc (τ := Cert.CfwdKernelIdeal.τ) (Cert.CfwdKernelIdeal.main (F := Ideal))) ⟨m, fun _ => 0, g⟩ (fun r => ∀ c : Dev Cert.CfwdKernelIdeal.nD,
          r.2.mem ((c.tc : Thread Cert.CfwdKernelIdeal.nD Cert.CfwdKernelIdeal.τ).loc Cert.CfwdKernelIdeal.main_v4) = v0 c
          ∧ r.2.mem ((c.tc : Thread Cert.CfwdKernelIdeal.nD Cert.CfwdKernelIdeal.τ).loc Cert.CfwdKernelIdeal.main_arg0) = m ((c.tc : Thread Cert.CfwdKernelIdeal.nD Cert.CfwdKernelIdeal.τ).loc Cert.CfwdKernelIdeal.main_arg0)
          ∧ r.2.mem ((c.tc : Thread Cert.CfwdKernelIdeal.nD Cert.CfwdKernelIdeal.τ).loc Cert.CfwdKernelIdeal.main_arg1) = m ((c.tc : Thread Cert.CfwdKernelIdeal.nD Cert.CfwdKernelIdeal.τ).loc Cert.CfwdKernelIdeal.main_arg1))
      ∧ θ_run (Cert.CfwdReferenceIdeal.defs (F := Ideal)) (onTc (τ := Cert.CfwdReferenceIdeal.τ) (Cert.CfwdReferenceIdeal.main (F := Ideal))) ⟨m', fun _ => 0, g'⟩ (fun r => ∀ c : Dev Cert.CfwdReferenceIdeal.nD,
          r.2.mem ((c.tc : Thread Cert.CfwdReferenceIdeal.nD Cert.CfwdReferenceIdeal.τ).loc Cert.CfwdReferenceIdeal.main_v31) = v0 c
          ∧ r.2.mem ((c.tc : Thread Cert.CfwdReferenceIdeal.nD Cert.CfwdReferenceIdeal.τ).loc Cert.CfwdReferenceIdeal.main_arg0) = m' ((c.tc : Thread Cert.CfwdReferenceIdeal.nD Cert.CfwdReferenceIdeal.τ).loc Cert.CfwdReferenceIdeal.main_arg0)
          ∧ r.2.mem ((c.tc : Thread Cert.CfwdReferenceIdeal.nD Cert.CfwdReferenceIdeal.τ).loc Cert.CfwdReferenceIdeal.main_arg1) = m' ((c.tc : Thread Cert.CfwdReferenceIdeal.nD Cert.CfwdReferenceIdeal.τ).loc Cert.CfwdReferenceIdeal.main_arg1))

def preserves_ForgetKernel_ForgetKernelIdeal : Prop :=
  True

def algebraic_ForgetKernelIdeal_ForgetReferenceIdeal [hForgetKernelIdeal : Cert.ForgetKernelIdeal.Facts] [hForgetReferenceIdeal : Cert.ForgetReferenceIdeal.Facts] : Prop :=
  ∀ (m : (ℓ : Loc Cert.ForgetKernelIdeal.nD Cert.ForgetKernelIdeal.τ Cert.ForgetKernelIdeal.sig) → Buf (Elt Ideal) ℓ) (g : Dev Cert.ForgetKernelIdeal.nD → PrngReg)
    (m' : (ℓ : Loc Cert.ForgetReferenceIdeal.nD Cert.ForgetReferenceIdeal.τ Cert.ForgetReferenceIdeal.sig) → Buf (Elt Ideal) ℓ) (g' : Dev Cert.ForgetReferenceIdeal.nD → PrngReg), Pre_ForgetKernelIdeal m →
    (∀ c : Dev Cert.ForgetKernelIdeal.nD,
      m' ((c.tc : Thread Cert.ForgetReferenceIdeal.nD Cert.ForgetReferenceIdeal.τ).loc Cert.ForgetReferenceIdeal.main_arg0) = m ((c.tc : Thread Cert.ForgetKernelIdeal.nD Cert.ForgetKernelIdeal.τ).loc Cert.ForgetKernelIdeal.main_arg0)
      ∧ m' ((c.tc : Thread Cert.ForgetReferenceIdeal.nD Cert.ForgetReferenceIdeal.τ).loc Cert.ForgetReferenceIdeal.main_arg1) = m ((c.tc : Thread Cert.ForgetKernelIdeal.nD Cert.ForgetKernelIdeal.τ).loc Cert.ForgetKernelIdeal.main_arg1)
      ∧ m' ((c.tc : Thread Cert.ForgetReferenceIdeal.nD Cert.ForgetReferenceIdeal.τ).loc Cert.ForgetReferenceIdeal.main_arg2) = m ((c.tc : Thread Cert.ForgetKernelIdeal.nD Cert.ForgetKernelIdeal.τ).loc Cert.ForgetKernelIdeal.main_arg2)) →
    ∃ (v0 : (c : Dev Cert.ForgetKernelIdeal.nD) → Buf (Elt Ideal) ((c.tc : Thread Cert.ForgetKernelIdeal.nD Cert.ForgetKernelIdeal.τ).loc Cert.ForgetKernelIdeal.main_v7_0)) (v1 : (c : Dev Cert.ForgetKernelIdeal.nD) → Buf (Elt Ideal) ((c.tc : Thread Cert.ForgetKernelIdeal.nD Cert.ForgetKernelIdeal.τ).loc Cert.ForgetKernelIdeal.main_v7_1)),
      θ_run (Cert.ForgetKernelIdeal.defs (F := Ideal)) (onTc (τ := Cert.ForgetKernelIdeal.τ) (Cert.ForgetKernelIdeal.main (F := Ideal))) ⟨m, fun _ => 0, g⟩ (fun r => ∀ c : Dev Cert.ForgetKernelIdeal.nD,
          r.2.mem ((c.tc : Thread Cert.ForgetKernelIdeal.nD Cert.ForgetKernelIdeal.τ).loc Cert.ForgetKernelIdeal.main_v7_0) = v0 c
          ∧ r.2.mem ((c.tc : Thread Cert.ForgetKernelIdeal.nD Cert.ForgetKernelIdeal.τ).loc Cert.ForgetKernelIdeal.main_v7_1) = v1 c
          ∧ r.2.mem ((c.tc : Thread Cert.ForgetKernelIdeal.nD Cert.ForgetKernelIdeal.τ).loc Cert.ForgetKernelIdeal.main_arg0) = m ((c.tc : Thread Cert.ForgetKernelIdeal.nD Cert.ForgetKernelIdeal.τ).loc Cert.ForgetKernelIdeal.main_arg0)
          ∧ r.2.mem ((c.tc : Thread Cert.ForgetKernelIdeal.nD Cert.ForgetKernelIdeal.τ).loc Cert.ForgetKernelIdeal.main_arg1) = m ((c.tc : Thread Cert.ForgetKernelIdeal.nD Cert.ForgetKernelIdeal.τ).loc Cert.ForgetKernelIdeal.main_arg1)
          ∧ r.2.mem ((c.tc : Thread Cert.ForgetKernelIdeal.nD Cert.ForgetKernelIdeal.τ).loc Cert.ForgetKernelIdeal.main_arg2) = m ((c.tc : Thread Cert.ForgetKernelIdeal.nD Cert.ForgetKernelIdeal.τ).loc Cert.ForgetKernelIdeal.main_arg2))
      ∧ θ_run (Cert.ForgetReferenceIdeal.defs (F := Ideal)) (onTc (τ := Cert.ForgetReferenceIdeal.τ) (Cert.ForgetReferenceIdeal.main (F := Ideal))) ⟨m', fun _ => 0, g'⟩ (fun r => ∀ c : Dev Cert.ForgetReferenceIdeal.nD,
          r.2.mem ((c.tc : Thread Cert.ForgetReferenceIdeal.nD Cert.ForgetReferenceIdeal.τ).loc Cert.ForgetReferenceIdeal.main_v14) = v0 c
          ∧ r.2.mem ((c.tc : Thread Cert.ForgetReferenceIdeal.nD Cert.ForgetReferenceIdeal.τ).loc Cert.ForgetReferenceIdeal.main_v16) = v1 c
          ∧ r.2.mem ((c.tc : Thread Cert.ForgetReferenceIdeal.nD Cert.ForgetReferenceIdeal.τ).loc Cert.ForgetReferenceIdeal.main_arg0) = m' ((c.tc : Thread Cert.ForgetReferenceIdeal.nD Cert.ForgetReferenceIdeal.τ).loc Cert.ForgetReferenceIdeal.main_arg0)
          ∧ r.2.mem ((c.tc : Thread Cert.ForgetReferenceIdeal.nD Cert.ForgetReferenceIdeal.τ).loc Cert.ForgetReferenceIdeal.main_arg1) = m' ((c.tc : Thread Cert.ForgetReferenceIdeal.nD Cert.ForgetReferenceIdeal.τ).loc Cert.ForgetReferenceIdeal.main_arg1)
          ∧ r.2.mem ((c.tc : Thread Cert.ForgetReferenceIdeal.nD Cert.ForgetReferenceIdeal.τ).loc Cert.ForgetReferenceIdeal.main_arg2) = m' ((c.tc : Thread Cert.ForgetReferenceIdeal.nD Cert.ForgetReferenceIdeal.τ).loc Cert.ForgetReferenceIdeal.main_arg2))

def preserves_FfwdKernel_FfwdKernelIdeal : Prop :=
  True

def algebraic_FfwdKernelIdeal_FfwdReferenceIdeal [hFfwdKernelIdeal : Cert.FfwdKernelIdeal.Facts] [hFfwdReferenceIdeal : Cert.FfwdReferenceIdeal.Facts] : Prop :=
  ∀ (m : (ℓ : Loc Cert.FfwdKernelIdeal.nD Cert.FfwdKernelIdeal.τ Cert.FfwdKernelIdeal.sig) → Buf (Elt Ideal) ℓ) (g : Dev Cert.FfwdKernelIdeal.nD → PrngReg)
    (m' : (ℓ : Loc Cert.FfwdReferenceIdeal.nD Cert.FfwdReferenceIdeal.τ Cert.FfwdReferenceIdeal.sig) → Buf (Elt Ideal) ℓ) (g' : Dev Cert.FfwdReferenceIdeal.nD → PrngReg), Pre_FfwdKernelIdeal m →
    (∀ c : Dev Cert.FfwdKernelIdeal.nD,
      m' ((c.tc : Thread Cert.FfwdReferenceIdeal.nD Cert.FfwdReferenceIdeal.τ).loc Cert.FfwdReferenceIdeal.main_arg0) = m ((c.tc : Thread Cert.FfwdKernelIdeal.nD Cert.FfwdKernelIdeal.τ).loc Cert.FfwdKernelIdeal.main_arg0)
      ∧ m' ((c.tc : Thread Cert.FfwdReferenceIdeal.nD Cert.FfwdReferenceIdeal.τ).loc Cert.FfwdReferenceIdeal.main_arg1) = m ((c.tc : Thread Cert.FfwdKernelIdeal.nD Cert.FfwdKernelIdeal.τ).loc Cert.FfwdKernelIdeal.main_arg1)) →
    ∃ (v0 : (c : Dev Cert.FfwdKernelIdeal.nD) → Buf (Elt Ideal) ((c.tc : Thread Cert.FfwdKernelIdeal.nD Cert.FfwdKernelIdeal.τ).loc Cert.FfwdKernelIdeal.main_v7)),
      θ_run (Cert.FfwdKernelIdeal.defs (F := Ideal)) (onTc (τ := Cert.FfwdKernelIdeal.τ) (Cert.FfwdKernelIdeal.main (F := Ideal))) ⟨m, fun _ => 0, g⟩ (fun r => ∀ c : Dev Cert.FfwdKernelIdeal.nD,
          r.2.mem ((c.tc : Thread Cert.FfwdKernelIdeal.nD Cert.FfwdKernelIdeal.τ).loc Cert.FfwdKernelIdeal.main_v7) = v0 c
          ∧ r.2.mem ((c.tc : Thread Cert.FfwdKernelIdeal.nD Cert.FfwdKernelIdeal.τ).loc Cert.FfwdKernelIdeal.main_arg0) = m ((c.tc : Thread Cert.FfwdKernelIdeal.nD Cert.FfwdKernelIdeal.τ).loc Cert.FfwdKernelIdeal.main_arg0)
          ∧ r.2.mem ((c.tc : Thread Cert.FfwdKernelIdeal.nD Cert.FfwdKernelIdeal.τ).loc Cert.FfwdKernelIdeal.main_arg1) = m ((c.tc : Thread Cert.FfwdKernelIdeal.nD Cert.FfwdKernelIdeal.τ).loc Cert.FfwdKernelIdeal.main_arg1))
      ∧ θ_run (Cert.FfwdReferenceIdeal.defs (F := Ideal)) (onTc (τ := Cert.FfwdReferenceIdeal.τ) (Cert.FfwdReferenceIdeal.main (F := Ideal))) ⟨m', fun _ => 0, g'⟩ (fun r => ∀ c : Dev Cert.FfwdReferenceIdeal.nD,
          r.2.mem ((c.tc : Thread Cert.FfwdReferenceIdeal.nD Cert.FfwdReferenceIdeal.τ).loc Cert.FfwdReferenceIdeal.main_v5) = v0 c
          ∧ r.2.mem ((c.tc : Thread Cert.FfwdReferenceIdeal.nD Cert.FfwdReferenceIdeal.τ).loc Cert.FfwdReferenceIdeal.main_arg0) = m' ((c.tc : Thread Cert.FfwdReferenceIdeal.nD Cert.FfwdReferenceIdeal.τ).loc Cert.FfwdReferenceIdeal.main_arg0)
          ∧ r.2.mem ((c.tc : Thread Cert.FfwdReferenceIdeal.nD Cert.FfwdReferenceIdeal.τ).loc Cert.FfwdReferenceIdeal.main_arg1) = m' ((c.tc : Thread Cert.FfwdReferenceIdeal.nD Cert.FfwdReferenceIdeal.τ).loc Cert.FfwdReferenceIdeal.main_arg1))

def preserves_AttnKernel_AttnKernelIdeal : Prop :=
  True

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v40_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v40_2) = v0 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v57) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_FwdKernel_FwdKernelIdeal : Prop :=
  True

def algebraic_FwdKernelIdeal_FwdReferenceIdeal_pre_finite_fwd [hFwdKernelIdeal : Cert.FwdKernelIdeal.Facts] [hFwdReferenceIdeal : Cert.FwdReferenceIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal_finite_fwd m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)) →
    ∃ (v0 : (c : Dev Cert.FwdKernelIdeal.nD) → Buf (Elt Ideal) ((c.tc : Thread Cert.FwdKernelIdeal.nD Cert.FwdKernelIdeal.τ).loc Cert.FwdKernelIdeal.main_v5_0)) (v1 : (c : Dev Cert.FwdKernelIdeal.nD) → Buf (Elt Ideal) ((c.tc : Thread Cert.FwdKernelIdeal.nD Cert.FwdKernelIdeal.τ).loc Cert.FwdKernelIdeal.main_v5_1)) (v2 : (c : Dev Cert.FwdKernelIdeal.nD) → Buf (Elt Ideal) ((c.tc : Thread Cert.FwdKernelIdeal.nD Cert.FwdKernelIdeal.τ).loc Cert.FwdKernelIdeal.main_v5_2)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v5_0) = v0 c
          ∧ r.2.mem ((c.tc : Thread Cert.FwdKernelIdeal.nD Cert.FwdKernelIdeal.τ).loc Cert.FwdKernelIdeal.main_v5_1) = v1 c
          ∧ r.2.mem ((c.tc : Thread Cert.FwdKernelIdeal.nD Cert.FwdKernelIdeal.τ).loc Cert.FwdKernelIdeal.main_v5_2) = v2 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v59) = v0 c
          ∧ r.2.mem ((c.tc : Thread Cert.FwdReferenceIdeal.nD Cert.FwdReferenceIdeal.τ).loc Cert.FwdReferenceIdeal.main_v35) = v1 c
          ∧ r.2.mem ((c.tc : Thread Cert.FwdReferenceIdeal.nD Cert.FwdReferenceIdeal.τ).loc Cert.FwdReferenceIdeal.main_v61) = v2 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v45)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v45) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v57) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v5)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v5) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v8) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_PostKernel_PostKernelIdeal : Prop :=
  True

def algebraic_PostKernelIdeal_PostReferenceIdeal [hPostKernelIdeal : Cert.PostKernelIdeal.Facts] [hPostReferenceIdeal : Cert.PostReferenceIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)) →
    ∃ (v0 : (c : Dev Cert.PostKernelIdeal.nD) → Buf (Elt Ideal) ((c.tc : Thread Cert.PostKernelIdeal.nD Cert.PostKernelIdeal.τ).loc Cert.PostKernelIdeal.main_v6_0)) (v1 : (c : Dev Cert.PostKernelIdeal.nD) → Buf (Elt Ideal) ((c.tc : Thread Cert.PostKernelIdeal.nD Cert.PostKernelIdeal.τ).loc Cert.PostKernelIdeal.main_v8)) (v2 : (c : Dev Cert.PostKernelIdeal.nD) → Buf (Elt Ideal) ((c.tc : Thread Cert.PostKernelIdeal.nD Cert.PostKernelIdeal.τ).loc Cert.PostKernelIdeal.main_v6_2)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v6_0) = v0 c
          ∧ r.2.mem ((c.tc : Thread Cert.PostKernelIdeal.nD Cert.PostKernelIdeal.τ).loc Cert.PostKernelIdeal.main_v8) = v1 c
          ∧ r.2.mem ((c.tc : Thread Cert.PostKernelIdeal.nD Cert.PostKernelIdeal.τ).loc Cert.PostKernelIdeal.main_v6_2) = v2 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v74) = v0 c
          ∧ r.2.mem ((c.tc : Thread Cert.PostReferenceIdeal.nD Cert.PostReferenceIdeal.τ).loc Cert.PostReferenceIdeal.main_v75) = v1 c
          ∧ r.2.mem ((c.tc : Thread Cert.PostReferenceIdeal.nD Cert.PostReferenceIdeal.τ).loc Cert.PostReferenceIdeal.main_v77) = v2 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3))

def preserves_SwiKernel_SwiKernelIdeal : Prop :=
  True

def algebraic_SwiKernelIdeal_SwiReferenceIdeal_pre_finite_swi [hSwiKernelIdeal : Cert.SwiKernelIdeal.Facts] [hSwiReferenceIdeal : Cert.SwiReferenceIdeal.Facts] [hPre_finite_swi : Cert.Pre_finite_swi.Facts] : Prop :=
  ∀ (m : (ℓ : Loc Cert.SwiKernelIdeal.nD Cert.SwiKernelIdeal.τ Cert.SwiKernelIdeal.sig) → Buf (Elt Ideal) ℓ) (g : Dev Cert.SwiKernelIdeal.nD → PrngReg)
    (m' : (ℓ : Loc Cert.SwiReferenceIdeal.nD Cert.SwiReferenceIdeal.τ Cert.SwiReferenceIdeal.sig) → Buf (Elt Ideal) ℓ) (g' : Dev Cert.SwiReferenceIdeal.nD → PrngReg), Pre_SwiKernelIdeal_finite_swi m →
    (∀ c : Dev Cert.SwiKernelIdeal.nD,
      m' ((c.tc : Thread Cert.SwiReferenceIdeal.nD Cert.SwiReferenceIdeal.τ).loc Cert.SwiReferenceIdeal.main_arg0) = m ((c.tc : Thread Cert.SwiKernelIdeal.nD Cert.SwiKernelIdeal.τ).loc Cert.SwiKernelIdeal.main_arg0)
      ∧ m' ((c.tc : Thread Cert.SwiReferenceIdeal.nD Cert.SwiReferenceIdeal.τ).loc Cert.SwiReferenceIdeal.main_arg1) = m ((c.tc : Thread Cert.SwiKernelIdeal.nD Cert.SwiKernelIdeal.τ).loc Cert.SwiKernelIdeal.main_arg1)
      ∧ m' ((c.tc : Thread Cert.SwiReferenceIdeal.nD Cert.SwiReferenceIdeal.τ).loc Cert.SwiReferenceIdeal.main_arg2) = m ((c.tc : Thread Cert.SwiKernelIdeal.nD Cert.SwiKernelIdeal.τ).loc Cert.SwiKernelIdeal.main_arg2)
      ∧ m' ((c.tc : Thread Cert.SwiReferenceIdeal.nD Cert.SwiReferenceIdeal.τ).loc Cert.SwiReferenceIdeal.main_arg3) = m ((c.tc : Thread Cert.SwiKernelIdeal.nD Cert.SwiKernelIdeal.τ).loc Cert.SwiKernelIdeal.main_arg3)) →
    ∃ (v0 : (c : Dev Cert.SwiKernelIdeal.nD) → Buf (Elt Ideal) ((c.tc : Thread Cert.SwiKernelIdeal.nD Cert.SwiKernelIdeal.τ).loc Cert.SwiKernelIdeal.main_v11_0)) (v1 : (c : Dev Cert.SwiKernelIdeal.nD) → Buf (Elt Ideal) ((c.tc : Thread Cert.SwiKernelIdeal.nD Cert.SwiKernelIdeal.τ).loc Cert.SwiKernelIdeal.main_v13)) (v2 : (c : Dev Cert.SwiKernelIdeal.nD) → Buf (Elt Ideal) ((c.tc : Thread Cert.SwiKernelIdeal.nD Cert.SwiKernelIdeal.τ).loc Cert.SwiKernelIdeal.main_v11_2)),
      θ_run (Cert.SwiKernelIdeal.defs (F := Ideal)) (onTc (τ := Cert.SwiKernelIdeal.τ) (Cert.SwiKernelIdeal.main (F := Ideal))) ⟨m, fun _ => 0, g⟩ (fun r => ∀ c : Dev Cert.SwiKernelIdeal.nD,
          r.2.mem ((c.tc : Thread Cert.SwiKernelIdeal.nD Cert.SwiKernelIdeal.τ).loc Cert.SwiKernelIdeal.main_v11_0) = v0 c
          ∧ r.2.mem ((c.tc : Thread Cert.SwiKernelIdeal.nD Cert.SwiKernelIdeal.τ).loc Cert.SwiKernelIdeal.main_v13) = v1 c
          ∧ r.2.mem ((c.tc : Thread Cert.SwiKernelIdeal.nD Cert.SwiKernelIdeal.τ).loc Cert.SwiKernelIdeal.main_v11_2) = v2 c
          ∧ r.2.mem ((c.tc : Thread Cert.SwiKernelIdeal.nD Cert.SwiKernelIdeal.τ).loc Cert.SwiKernelIdeal.main_arg0) = m ((c.tc : Thread Cert.SwiKernelIdeal.nD Cert.SwiKernelIdeal.τ).loc Cert.SwiKernelIdeal.main_arg0)
          ∧ r.2.mem ((c.tc : Thread Cert.SwiKernelIdeal.nD Cert.SwiKernelIdeal.τ).loc Cert.SwiKernelIdeal.main_arg1) = m ((c.tc : Thread Cert.SwiKernelIdeal.nD Cert.SwiKernelIdeal.τ).loc Cert.SwiKernelIdeal.main_arg1)
          ∧ r.2.mem ((c.tc : Thread Cert.SwiKernelIdeal.nD Cert.SwiKernelIdeal.τ).loc Cert.SwiKernelIdeal.main_arg2) = m ((c.tc : Thread Cert.SwiKernelIdeal.nD Cert.SwiKernelIdeal.τ).loc Cert.SwiKernelIdeal.main_arg2)
          ∧ r.2.mem ((c.tc : Thread Cert.SwiKernelIdeal.nD Cert.SwiKernelIdeal.τ).loc Cert.SwiKernelIdeal.main_arg3) = m ((c.tc : Thread Cert.SwiKernelIdeal.nD Cert.SwiKernelIdeal.τ).loc Cert.SwiKernelIdeal.main_arg3))
      ∧ θ_run (Cert.SwiReferenceIdeal.defs (F := Ideal)) (onTc (τ := Cert.SwiReferenceIdeal.τ) (Cert.SwiReferenceIdeal.main (F := Ideal))) ⟨m', fun _ => 0, g'⟩ (fun r => ∀ c : Dev Cert.SwiReferenceIdeal.nD,
          r.2.mem ((c.tc : Thread Cert.SwiReferenceIdeal.nD Cert.SwiReferenceIdeal.τ).loc Cert.SwiReferenceIdeal.main_v94) = v0 c
          ∧ r.2.mem ((c.tc : Thread Cert.SwiReferenceIdeal.nD Cert.SwiReferenceIdeal.τ).loc Cert.SwiReferenceIdeal.main_v95) = v1 c
          ∧ r.2.mem ((c.tc : Thread Cert.SwiReferenceIdeal.nD Cert.SwiReferenceIdeal.τ).loc Cert.SwiReferenceIdeal.main_v97) = v2 c
          ∧ r.2.mem ((c.tc : Thread Cert.SwiReferenceIdeal.nD Cert.SwiReferenceIdeal.τ).loc Cert.SwiReferenceIdeal.main_arg0) = m' ((c.tc : Thread Cert.SwiReferenceIdeal.nD Cert.SwiReferenceIdeal.τ).loc Cert.SwiReferenceIdeal.main_arg0)
          ∧ r.2.mem ((c.tc : Thread Cert.SwiReferenceIdeal.nD Cert.SwiReferenceIdeal.τ).loc Cert.SwiReferenceIdeal.main_arg1) = m' ((c.tc : Thread Cert.SwiReferenceIdeal.nD Cert.SwiReferenceIdeal.τ).loc Cert.SwiReferenceIdeal.main_arg1)
          ∧ r.2.mem ((c.tc : Thread Cert.SwiReferenceIdeal.nD Cert.SwiReferenceIdeal.τ).loc Cert.SwiReferenceIdeal.main_arg2) = m' ((c.tc : Thread Cert.SwiReferenceIdeal.nD Cert.SwiReferenceIdeal.τ).loc Cert.SwiReferenceIdeal.main_arg2)
          ∧ r.2.mem ((c.tc : Thread Cert.SwiReferenceIdeal.nD Cert.SwiReferenceIdeal.τ).loc Cert.SwiReferenceIdeal.main_arg3) = m' ((c.tc : Thread Cert.SwiReferenceIdeal.nD Cert.SwiReferenceIdeal.τ).loc Cert.SwiReferenceIdeal.main_arg3))

def preserves_PreKernel_PreKernelIdeal : Prop :=
  True

def algebraic_PreKernelIdeal_PreReferenceIdeal [hPreKernelIdeal : Cert.PreKernelIdeal.Facts] [hPreReferenceIdeal : Cert.PreReferenceIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreKernelIdeal m →
    (∀ c : Dev Cert.PreKernelIdeal.nD,
      m' ((c.tc : Thread Cert.PreReferenceIdeal.nD Cert.PreReferenceIdeal.τ).loc Cert.PreReferenceIdeal.main_arg0) = m ((c.tc : Thread Cert.PreKernelIdeal.nD Cert.PreKernelIdeal.τ).loc Cert.PreKernelIdeal.main_arg0)
      ∧ m' ((c.tc : Thread Cert.PreReferenceIdeal.nD Cert.PreReferenceIdeal.τ).loc Cert.PreReferenceIdeal.main_arg1) = m ((c.tc : Thread Cert.PreKernelIdeal.nD Cert.PreKernelIdeal.τ).loc Cert.PreKernelIdeal.main_arg1)
      ∧ m' ((c.tc : Thread Cert.PreReferenceIdeal.nD Cert.PreReferenceIdeal.τ).loc Cert.PreReferenceIdeal.main_arg2) = m ((c.tc : Thread Cert.PreKernelIdeal.nD Cert.PreKernelIdeal.τ).loc Cert.PreKernelIdeal.main_arg2)
      ∧ m' ((c.tc : Thread Cert.PreReferenceIdeal.nD Cert.PreReferenceIdeal.τ).loc Cert.PreReferenceIdeal.main_arg3) = m ((c.tc : Thread Cert.PreKernelIdeal.nD Cert.PreKernelIdeal.τ).loc Cert.PreKernelIdeal.main_arg3)
      ∧ m' ((c.tc : Thread Cert.PreReferenceIdeal.nD Cert.PreReferenceIdeal.τ).loc Cert.PreReferenceIdeal.main_arg4) = m ((c.tc : Thread Cert.PreKernelIdeal.nD Cert.PreKernelIdeal.τ).loc Cert.PreKernelIdeal.main_arg4)) →
    ∃ (v0 : (c : Dev Cert.PreKernelIdeal.nD) → Buf (Elt Ideal) ((c.tc : Thread Cert.PreKernelIdeal.nD Cert.PreKernelIdeal.τ).loc Cert.PreKernelIdeal.main_v6_0)) (v1 : (c : Dev Cert.PreKernelIdeal.nD) → Buf (Elt Ideal) ((c.tc : Thread Cert.PreKernelIdeal.nD Cert.PreKernelIdeal.τ).loc Cert.PreKernelIdeal.main_v8)),
      θ_run (Cert.PreKernelIdeal.defs (F := Ideal)) (onTc (τ := Cert.PreKernelIdeal.τ) (Cert.PreKernelIdeal.main (F := Ideal))) ⟨m, fun _ => 0, g⟩ (fun r => ∀ c : Dev Cert.PreKernelIdeal.nD,
          r.2.mem ((c.tc : Thread Cert.PreKernelIdeal.nD Cert.PreKernelIdeal.τ).loc Cert.PreKernelIdeal.main_v6_0) = v0 c
          ∧ r.2.mem ((c.tc : Thread Cert.PreKernelIdeal.nD Cert.PreKernelIdeal.τ).loc Cert.PreKernelIdeal.main_v8) = v1 c
          ∧ r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
          ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
          ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
          ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
          ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v41) = v0 c
          ∧ r.2.mem ((c.tc : Thread Cert.PreReferenceIdeal.nD Cert.PreReferenceIdeal.τ).loc Cert.PreReferenceIdeal.main_v42) = v1 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v3_0)) (v1 : (c : Dev Cert.OutKernelIdeal.nD) → Buf (Elt Ideal) ((c.tc : Thread Cert.OutKernelIdeal.nD Cert.OutKernelIdeal.τ).loc Cert.OutKernelIdeal.main_v3_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3_0) = v0 c
          ∧ r.2.mem ((c.tc : Thread Cert.OutKernelIdeal.nD Cert.OutKernelIdeal.τ).loc Cert.OutKernelIdeal.main_v3_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v20) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_SinKernel_SinKernelIdeal : Prop :=
  True

def algebraic_SinKernelIdeal_SinReferenceIdeal [hSinKernelIdeal : Cert.SinKernelIdeal.Facts] [hSinReferenceIdeal : Cert.SinReferenceIdeal.Facts] : Prop :=
  ∀ (m : (ℓ : Loc Cert.SinKernelIdeal.nD Cert.SinKernelIdeal.τ Cert.SinKernelIdeal.sig) → Buf (Elt Ideal) ℓ) (g : Dev Cert.SinKernelIdeal.nD → PrngReg)
    (m' : (ℓ : Loc Cert.SinReferenceIdeal.nD Cert.SinReferenceIdeal.τ Cert.SinReferenceIdeal.sig) → Buf (Elt Ideal) ℓ) (g' : Dev Cert.SinReferenceIdeal.nD → PrngReg), Pre_SinKernelIdeal m →
    (∀ c : Dev Cert.SinKernelIdeal.nD,
      m' ((c.tc : Thread Cert.SinReferenceIdeal.nD Cert.SinReferenceIdeal.τ).loc Cert.SinReferenceIdeal.main_arg0) = m ((c.tc : Thread Cert.SinKernelIdeal.nD Cert.SinKernelIdeal.τ).loc Cert.SinKernelIdeal.main_arg0)
      ∧ m' ((c.tc : Thread Cert.SinReferenceIdeal.nD Cert.SinReferenceIdeal.τ).loc Cert.SinReferenceIdeal.main_arg1) = m ((c.tc : Thread Cert.SinKernelIdeal.nD Cert.SinKernelIdeal.τ).loc Cert.SinKernelIdeal.main_arg1)
      ∧ m' ((c.tc : Thread Cert.SinReferenceIdeal.nD Cert.SinReferenceIdeal.τ).loc Cert.SinReferenceIdeal.main_arg2) = m ((c.tc : Thread Cert.SinKernelIdeal.nD Cert.SinKernelIdeal.τ).loc Cert.SinKernelIdeal.main_arg2)) →
    ∃ (v0 : (c : Dev Cert.SinKernelIdeal.nD) → Buf (Elt Ideal) ((c.tc : Thread Cert.SinKernelIdeal.nD Cert.SinKernelIdeal.τ).loc Cert.SinKernelIdeal.main_v4_0)) (v1 : (c : Dev Cert.SinKernelIdeal.nD) → Buf (Elt Ideal) ((c.tc : Thread Cert.SinKernelIdeal.nD Cert.SinKernelIdeal.τ).loc Cert.SinKernelIdeal.main_v4_1)) (v2 : (c : Dev Cert.SinKernelIdeal.nD) → Buf (Elt Ideal) ((c.tc : Thread Cert.SinKernelIdeal.nD Cert.SinKernelIdeal.τ).loc Cert.SinKernelIdeal.main_v4_2)),
      θ_run (Cert.SinKernelIdeal.defs (F := Ideal)) (onTc (τ := Cert.SinKernelIdeal.τ) (Cert.SinKernelIdeal.main (F := Ideal))) ⟨m, fun _ => 0, g⟩ (fun r => ∀ c : Dev Cert.SinKernelIdeal.nD,
          r.2.mem ((c.tc : Thread Cert.SinKernelIdeal.nD Cert.SinKernelIdeal.τ).loc Cert.SinKernelIdeal.main_v4_0) = v0 c
          ∧ r.2.mem ((c.tc : Thread Cert.SinKernelIdeal.nD Cert.SinKernelIdeal.τ).loc Cert.SinKernelIdeal.main_v4_1) = v1 c
          ∧ r.2.mem ((c.tc : Thread Cert.SinKernelIdeal.nD Cert.SinKernelIdeal.τ).loc Cert.SinKernelIdeal.main_v4_2) = v2 c
          ∧ r.2.mem ((c.tc : Thread Cert.SinKernelIdeal.nD Cert.SinKernelIdeal.τ).loc Cert.SinKernelIdeal.main_arg0) = m ((c.tc : Thread Cert.SinKernelIdeal.nD Cert.SinKernelIdeal.τ).loc Cert.SinKernelIdeal.main_arg0)
          ∧ r.2.mem ((c.tc : Thread Cert.SinKernelIdeal.nD Cert.SinKernelIdeal.τ).loc Cert.SinKernelIdeal.main_arg1) = m ((c.tc : Thread Cert.SinKernelIdeal.nD Cert.SinKernelIdeal.τ).loc Cert.SinKernelIdeal.main_arg1)
          ∧ r.2.mem ((c.tc : Thread Cert.SinKernelIdeal.nD Cert.SinKernelIdeal.τ).loc Cert.SinKernelIdeal.main_arg2) = m ((c.tc : Thread Cert.SinKernelIdeal.nD Cert.SinKernelIdeal.τ).loc Cert.SinKernelIdeal.main_arg2))
      ∧ θ_run (Cert.SinReferenceIdeal.defs (F := Ideal)) (onTc (τ := Cert.SinReferenceIdeal.τ) (Cert.SinReferenceIdeal.main (F := Ideal))) ⟨m', fun _ => 0, g'⟩ (fun r => ∀ c : Dev Cert.SinReferenceIdeal.nD,
          r.2.mem ((c.tc : Thread Cert.SinReferenceIdeal.nD Cert.SinReferenceIdeal.τ).loc Cert.SinReferenceIdeal.main_v20) = v0 c
          ∧ r.2.mem ((c.tc : Thread Cert.SinReferenceIdeal.nD Cert.SinReferenceIdeal.τ).loc Cert.SinReferenceIdeal.main_v22) = v1 c
          ∧ r.2.mem ((c.tc : Thread Cert.SinReferenceIdeal.nD Cert.SinReferenceIdeal.τ).loc Cert.SinReferenceIdeal.main_v24) = v2 c
          ∧ r.2.mem ((c.tc : Thread Cert.SinReferenceIdeal.nD Cert.SinReferenceIdeal.τ).loc Cert.SinReferenceIdeal.main_arg0) = m' ((c.tc : Thread Cert.SinReferenceIdeal.nD Cert.SinReferenceIdeal.τ).loc Cert.SinReferenceIdeal.main_arg0)
          ∧ r.2.mem ((c.tc : Thread Cert.SinReferenceIdeal.nD Cert.SinReferenceIdeal.τ).loc Cert.SinReferenceIdeal.main_arg1) = m' ((c.tc : Thread Cert.SinReferenceIdeal.nD Cert.SinReferenceIdeal.τ).loc Cert.SinReferenceIdeal.main_arg1)
          ∧ r.2.mem ((c.tc : Thread Cert.SinReferenceIdeal.nD Cert.SinReferenceIdeal.τ).loc Cert.SinReferenceIdeal.main_arg2) = m' ((c.tc : Thread Cert.SinReferenceIdeal.nD Cert.SinReferenceIdeal.τ).loc Cert.SinReferenceIdeal.main_arg2))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)) (v3 : (c : Dev Cert.AdamKernelIdeal.nD) → Buf (Elt Ideal) ((c.tc : Thread Cert.AdamKernelIdeal.nD Cert.AdamKernelIdeal.τ).loc Cert.AdamKernelIdeal.main_v0_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_v0_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_arg1) = v0 c
          ∧ r.2.mem ((c.tc : Thread Cert.AdamReferenceIdeal.nD Cert.AdamReferenceIdeal.τ).loc Cert.AdamReferenceIdeal.main_v23) = v1 c
          ∧ r.2.mem ((c.tc : Thread Cert.AdamReferenceIdeal.nD Cert.AdamReferenceIdeal.τ).loc Cert.AdamReferenceIdeal.main_v4) = v2 c
          ∧ r.2.mem ((c.tc : Thread Cert.AdamReferenceIdeal.nD Cert.AdamReferenceIdeal.τ).loc Cert.AdamReferenceIdeal.main_v10) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_MoutKernel_MoutKernelIdeal : Prop :=
  True

def algebraic_MoutKernelIdeal_MoutReferenceIdeal [hMoutKernelIdeal : Cert.MoutKernelIdeal.Facts] [hMoutReferenceIdeal : Cert.MoutReferenceIdeal.Facts] : Prop :=
  ∀ (m : (ℓ : Loc Cert.MoutKernelIdeal.nD Cert.MoutKernelIdeal.τ Cert.MoutKernelIdeal.sig) → Buf (Elt Ideal) ℓ) (g : Dev Cert.MoutKernelIdeal.nD → PrngReg)
    (m' : (ℓ : Loc Cert.MoutReferenceIdeal.nD Cert.MoutReferenceIdeal.τ Cert.MoutReferenceIdeal.sig) → Buf (Elt Ideal) ℓ) (g' : Dev Cert.MoutReferenceIdeal.nD → PrngReg), Pre_MoutKernelIdeal m →
    (∀ c : Dev Cert.MoutKernelIdeal.nD,
      m' ((c.tc : Thread Cert.MoutReferenceIdeal.nD Cert.MoutReferenceIdeal.τ).loc Cert.MoutReferenceIdeal.main_arg0) = m ((c.tc : Thread Cert.MoutKernelIdeal.nD Cert.MoutKernelIdeal.τ).loc Cert.MoutKernelIdeal.main_arg0)
      ∧ m' ((c.tc : Thread Cert.MoutReferenceIdeal.nD Cert.MoutReferenceIdeal.τ).loc Cert.MoutReferenceIdeal.main_arg1) = m ((c.tc : Thread Cert.MoutKernelIdeal.nD Cert.MoutKernelIdeal.τ).loc Cert.MoutKernelIdeal.main_arg1)
      ∧ m' ((c.tc : Thread Cert.MoutReferenceIdeal.nD Cert.MoutReferenceIdeal.τ).loc Cert.MoutReferenceIdeal.main_arg2) = m ((c.tc : Thread Cert.MoutKernelIdeal.nD Cert.MoutKernelIdeal.τ).loc Cert.MoutKernelIdeal.main_arg2)
      ∧ m' ((c.tc : Thread Cert.MoutReferenceIdeal.nD Cert.MoutReferenceIdeal.τ).loc Cert.MoutReferenceIdeal.main_arg3) = m ((c.tc : Thread Cert.MoutKernelIdeal.nD Cert.MoutKernelIdeal.τ).loc Cert.MoutKernelIdeal.main_arg3)) →
    ∃ (v0 : (c : Dev Cert.MoutKernelIdeal.nD) → Buf (Elt Ideal) ((c.tc : Thread Cert.MoutKernelIdeal.nD Cert.MoutKernelIdeal.τ).loc Cert.MoutKernelIdeal.main_v3_0)) (v1 : (c : Dev Cert.MoutKernelIdeal.nD) → Buf (Elt Ideal) ((c.tc : Thread Cert.MoutKernelIdeal.nD Cert.MoutKernelIdeal.τ).loc Cert.MoutKernelIdeal.main_v3_1)),
      θ_run (Cert.MoutKernelIdeal.defs (F := Ideal)) (onTc (τ := Cert.MoutKernelIdeal.τ) (Cert.MoutKernelIdeal.main (F := Ideal))) ⟨m, fun _ => 0, g⟩ (fun r => ∀ c : Dev Cert.MoutKernelIdeal.nD,
          r.2.mem ((c.tc : Thread Cert.MoutKernelIdeal.nD Cert.MoutKernelIdeal.τ).loc Cert.MoutKernelIdeal.main_v3_0) = v0 c
          ∧ r.2.mem ((c.tc : Thread Cert.MoutKernelIdeal.nD Cert.MoutKernelIdeal.τ).loc Cert.MoutKernelIdeal.main_v3_1) = v1 c
          ∧ r.2.mem ((c.tc : Thread Cert.MoutKernelIdeal.nD Cert.MoutKernelIdeal.τ).loc Cert.MoutKernelIdeal.main_arg0) = m ((c.tc : Thread Cert.MoutKernelIdeal.nD Cert.MoutKernelIdeal.τ).loc Cert.MoutKernelIdeal.main_arg0)
          ∧ r.2.mem ((c.tc : Thread Cert.MoutKernelIdeal.nD Cert.MoutKernelIdeal.τ).loc Cert.MoutKernelIdeal.main_arg1) = m ((c.tc : Thread Cert.MoutKernelIdeal.nD Cert.MoutKernelIdeal.τ).loc Cert.MoutKernelIdeal.main_arg1)
          ∧ r.2.mem ((c.tc : Thread Cert.MoutKernelIdeal.nD Cert.MoutKernelIdeal.τ).loc Cert.MoutKernelIdeal.main_arg2) = m ((c.tc : Thread Cert.MoutKernelIdeal.nD Cert.MoutKernelIdeal.τ).loc Cert.MoutKernelIdeal.main_arg2)
          ∧ r.2.mem ((c.tc : Thread Cert.MoutKernelIdeal.nD Cert.MoutKernelIdeal.τ).loc Cert.MoutKernelIdeal.main_arg3) = m ((c.tc : Thread Cert.MoutKernelIdeal.nD Cert.MoutKernelIdeal.τ).loc Cert.MoutKernelIdeal.main_arg3))
      ∧ θ_run (Cert.MoutReferenceIdeal.defs (F := Ideal)) (onTc (τ := Cert.MoutReferenceIdeal.τ) (Cert.MoutReferenceIdeal.main (F := Ideal))) ⟨m', fun _ => 0, g'⟩ (fun r => ∀ c : Dev Cert.MoutReferenceIdeal.nD,
          r.2.mem ((c.tc : Thread Cert.MoutReferenceIdeal.nD Cert.MoutReferenceIdeal.τ).loc Cert.MoutReferenceIdeal.main_v3) = v0 c
          ∧ r.2.mem ((c.tc : Thread Cert.MoutReferenceIdeal.nD Cert.MoutReferenceIdeal.τ).loc Cert.MoutReferenceIdeal.main_v18) = v1 c
          ∧ r.2.mem ((c.tc : Thread Cert.MoutReferenceIdeal.nD Cert.MoutReferenceIdeal.τ).loc Cert.MoutReferenceIdeal.main_arg0) = m' ((c.tc : Thread Cert.MoutReferenceIdeal.nD Cert.MoutReferenceIdeal.τ).loc Cert.MoutReferenceIdeal.main_arg0)
          ∧ r.2.mem ((c.tc : Thread Cert.MoutReferenceIdeal.nD Cert.MoutReferenceIdeal.τ).loc Cert.MoutReferenceIdeal.main_arg1) = m' ((c.tc : Thread Cert.MoutReferenceIdeal.nD Cert.MoutReferenceIdeal.τ).loc Cert.MoutReferenceIdeal.main_arg1)
          ∧ r.2.mem ((c.tc : Thread Cert.MoutReferenceIdeal.nD Cert.MoutReferenceIdeal.τ).loc Cert.MoutReferenceIdeal.main_arg2) = m' ((c.tc : Thread Cert.MoutReferenceIdeal.nD Cert.MoutReferenceIdeal.τ).loc Cert.MoutReferenceIdeal.main_arg2)
          ∧ r.2.mem ((c.tc : Thread Cert.MoutReferenceIdeal.nD Cert.MoutReferenceIdeal.τ).loc Cert.MoutReferenceIdeal.main_arg3) = m' ((c.tc : Thread Cert.MoutReferenceIdeal.nD Cert.MoutReferenceIdeal.τ).loc Cert.MoutReferenceIdeal.main_arg3))

def preserves_CinKernel_CinKernelIdeal : Prop :=
  True

def algebraic_CinKernelIdeal_CinReferenceIdeal [hCinKernelIdeal : Cert.CinKernelIdeal.Facts] [hCinReferenceIdeal : Cert.CinReferenceIdeal.Facts] : Prop :=
  ∀ (m : (ℓ : Loc Cert.CinKernelIdeal.nD Cert.CinKernelIdeal.τ Cert.CinKernelIdeal.sig) → Buf (Elt Ideal) ℓ) (g : Dev Cert.CinKernelIdeal.nD → PrngReg)
    (m' : (ℓ : Loc Cert.CinReferenceIdeal.nD Cert.CinReferenceIdeal.τ Cert.CinReferenceIdeal.sig) → Buf (Elt Ideal) ℓ) (g' : Dev Cert.CinReferenceIdeal.nD → PrngReg), Pre_CinKernelIdeal m →
    (∀ c : Dev Cert.CinKernelIdeal.nD,
      m' ((c.tc : Thread Cert.CinReferenceIdeal.nD Cert.CinReferenceIdeal.τ).loc Cert.CinReferenceIdeal.main_arg0) = m ((c.tc : Thread Cert.CinKernelIdeal.nD Cert.CinKernelIdeal.τ).loc Cert.CinKernelIdeal.main_arg0)
      ∧ m' ((c.tc : Thread Cert.CinReferenceIdeal.nD Cert.CinReferenceIdeal.τ).loc Cert.CinReferenceIdeal.main_arg1) = m ((c.tc : Thread Cert.CinKernelIdeal.nD Cert.CinKernelIdeal.τ).loc Cert.CinKernelIdeal.main_arg1)
      ∧ m' ((c.tc : Thread Cert.CinReferenceIdeal.nD Cert.CinReferenceIdeal.τ).loc Cert.CinReferenceIdeal.main_arg2) = m ((c.tc : Thread Cert.CinKernelIdeal.nD Cert.CinKernelIdeal.τ).loc Cert.CinKernelIdeal.main_arg2)) →
    ∃ (v0 : (c : Dev Cert.CinKernelIdeal.nD) → Buf (Elt Ideal) ((c.tc : Thread Cert.CinKernelIdeal.nD Cert.CinKernelIdeal.τ).loc Cert.CinKernelIdeal.main_v4_0)) (v1 : (c : Dev Cert.CinKernelIdeal.nD) → Buf (Elt Ideal) ((c.tc : Thread Cert.CinKernelIdeal.nD Cert.CinKernelIdeal.τ).loc Cert.CinKernelIdeal.main_v4_1)),
      θ_run (Cert.CinKernelIdeal.defs (F := Ideal)) (onTc (τ := Cert.CinKernelIdeal.τ) (Cert.CinKernelIdeal.main (F := Ideal))) ⟨m, fun _ => 0, g⟩ (fun r => ∀ c : Dev Cert.CinKernelIdeal.nD,
          r.2.mem ((c.tc : Thread Cert.CinKernelIdeal.nD Cert.CinKernelIdeal.τ).loc Cert.CinKernelIdeal.main_v4_0) = v0 c
          ∧ r.2.mem ((c.tc : Thread Cert.CinKernelIdeal.nD Cert.CinKernelIdeal.τ).loc Cert.CinKernelIdeal.main_v4_1) = v1 c
          ∧ r.2.mem ((c.tc : Thread Cert.CinKernelIdeal.nD Cert.CinKernelIdeal.τ).loc Cert.CinKernelIdeal.main_arg0) = m ((c.tc : Thread Cert.CinKernelIdeal.nD Cert.CinKernelIdeal.τ).loc Cert.CinKernelIdeal.main_arg0)
          ∧ r.2.mem ((c.tc : Thread Cert.CinKernelIdeal.nD Cert.CinKernelIdeal.τ).loc Cert.CinKernelIdeal.main_arg1) = m ((c.tc : Thread Cert.CinKernelIdeal.nD Cert.CinKernelIdeal.τ).loc Cert.CinKernelIdeal.main_arg1)
          ∧ r.2.mem ((c.tc : Thread Cert.CinKernelIdeal.nD Cert.CinKernelIdeal.τ).loc Cert.CinKernelIdeal.main_arg2) = m ((c.tc : Thread Cert.CinKernelIdeal.nD Cert.CinKernelIdeal.τ).loc Cert.CinKernelIdeal.main_arg2))
      ∧ θ_run (Cert.CinReferenceIdeal.defs (F := Ideal)) (onTc (τ := Cert.CinReferenceIdeal.τ) (Cert.CinReferenceIdeal.main (F := Ideal))) ⟨m', fun _ => 0, g'⟩ (fun r => ∀ c : Dev Cert.CinReferenceIdeal.nD,
          r.2.mem ((c.tc : Thread Cert.CinReferenceIdeal.nD Cert.CinReferenceIdeal.τ).loc Cert.CinReferenceIdeal.main_v16) = v0 c
          ∧ r.2.mem ((c.tc : Thread Cert.CinReferenceIdeal.nD Cert.CinReferenceIdeal.τ).loc Cert.CinReferenceIdeal.main_v18) = v1 c
          ∧ r.2.mem ((c.tc : Thread Cert.CinReferenceIdeal.nD Cert.CinReferenceIdeal.τ).loc Cert.CinReferenceIdeal.main_arg0) = m' ((c.tc : Thread Cert.CinReferenceIdeal.nD Cert.CinReferenceIdeal.τ).loc Cert.CinReferenceIdeal.main_arg0)
          ∧ r.2.mem ((c.tc : Thread Cert.CinReferenceIdeal.nD Cert.CinReferenceIdeal.τ).loc Cert.CinReferenceIdeal.main_arg1) = m' ((c.tc : Thread Cert.CinReferenceIdeal.nD Cert.CinReferenceIdeal.τ).loc Cert.CinReferenceIdeal.main_arg1)
          ∧ r.2.mem ((c.tc : Thread Cert.CinReferenceIdeal.nD Cert.CinReferenceIdeal.τ).loc Cert.CinReferenceIdeal.main_arg2) = m' ((c.tc : Thread Cert.CinReferenceIdeal.nD Cert.CinReferenceIdeal.τ).loc Cert.CinReferenceIdeal.main_arg2))

def preserves_QinKernel_QinKernelIdeal : Prop :=
  True

def algebraic_QinKernelIdeal_QinReferenceIdeal [hQinKernelIdeal : Cert.QinKernelIdeal.Facts] [hQinReferenceIdeal : Cert.QinReferenceIdeal.Facts] : Prop :=
  ∀ (m : (ℓ : Loc Cert.QinKernelIdeal.nD Cert.QinKernelIdeal.τ Cert.QinKernelIdeal.sig) → Buf (Elt Ideal) ℓ) (g : Dev Cert.QinKernelIdeal.nD → PrngReg)
    (m' : (ℓ : Loc Cert.QinReferenceIdeal.nD Cert.QinReferenceIdeal.τ Cert.QinReferenceIdeal.sig) → Buf (Elt Ideal) ℓ) (g' : Dev Cert.QinReferenceIdeal.nD → PrngReg), Pre_QinKernelIdeal m →
    (∀ c : Dev Cert.QinKernelIdeal.nD,
      m' ((c.tc : Thread Cert.QinReferenceIdeal.nD Cert.QinReferenceIdeal.τ).loc Cert.QinReferenceIdeal.main_arg0) = m ((c.tc : Thread Cert.QinKernelIdeal.nD Cert.QinKernelIdeal.τ).loc Cert.QinKernelIdeal.main_arg0)
      ∧ m' ((c.tc : Thread Cert.QinReferenceIdeal.nD Cert.QinReferenceIdeal.τ).loc Cert.QinReferenceIdeal.main_arg1) = m ((c.tc : Thread Cert.QinKernelIdeal.nD Cert.QinKernelIdeal.τ).loc Cert.QinKernelIdeal.main_arg1)
      ∧ m' ((c.tc : Thread Cert.QinReferenceIdeal.nD Cert.QinReferenceIdeal.τ).loc Cert.QinReferenceIdeal.main_arg2) = m ((c.tc : Thread Cert.QinKernelIdeal.nD Cert.QinKernelIdeal.τ).loc Cert.QinKernelIdeal.main_arg2)) →
    ∃ (v0 : (c : Dev Cert.QinKernelIdeal.nD) → Buf (Elt Ideal) ((c.tc : Thread Cert.QinKernelIdeal.nD Cert.QinKernelIdeal.τ).loc Cert.QinKernelIdeal.main_v4_0)) (v1 : (c : Dev Cert.QinKernelIdeal.nD) → Buf (Elt Ideal) ((c.tc : Thread Cert.QinKernelIdeal.nD Cert.QinKernelIdeal.τ).loc Cert.QinKernelIdeal.main_v4_1)),
      θ_run (Cert.QinKernelIdeal.defs (F := Ideal)) (onTc (τ := Cert.QinKernelIdeal.τ) (Cert.QinKernelIdeal.main (F := Ideal))) ⟨m, fun _ => 0, g⟩ (fun r => ∀ c : Dev Cert.QinKernelIdeal.nD,
          r.2.mem ((c.tc : Thread Cert.QinKernelIdeal.nD Cert.QinKernelIdeal.τ).loc Cert.QinKernelIdeal.main_v4_0) = v0 c
          ∧ r.2.mem ((c.tc : Thread Cert.QinKernelIdeal.nD Cert.QinKernelIdeal.τ).loc Cert.QinKernelIdeal.main_v4_1) = v1 c
          ∧ r.2.mem ((c.tc : Thread Cert.QinKernelIdeal.nD Cert.QinKernelIdeal.τ).loc Cert.QinKernelIdeal.main_arg0) = m ((c.tc : Thread Cert.QinKernelIdeal.nD Cert.QinKernelIdeal.τ).loc Cert.QinKernelIdeal.main_arg0)
          ∧ r.2.mem ((c.tc : Thread Cert.QinKernelIdeal.nD Cert.QinKernelIdeal.τ).loc Cert.QinKernelIdeal.main_arg1) = m ((c.tc : Thread Cert.QinKernelIdeal.nD Cert.QinKernelIdeal.τ).loc Cert.QinKernelIdeal.main_arg1)
          ∧ r.2.mem ((c.tc : Thread Cert.QinKernelIdeal.nD Cert.QinKernelIdeal.τ).loc Cert.QinKernelIdeal.main_arg2) = m ((c.tc : Thread Cert.QinKernelIdeal.nD Cert.QinKernelIdeal.τ).loc Cert.QinKernelIdeal.main_arg2))
      ∧ θ_run (Cert.QinReferenceIdeal.defs (F := Ideal)) (onTc (τ := Cert.QinReferenceIdeal.τ) (Cert.QinReferenceIdeal.main (F := Ideal))) ⟨m', fun _ => 0, g'⟩ (fun r => ∀ c : Dev Cert.QinReferenceIdeal.nD,
          r.2.mem ((c.tc : Thread Cert.QinReferenceIdeal.nD Cert.QinReferenceIdeal.τ).loc Cert.QinReferenceIdeal.main_v16) = v0 c
          ∧ r.2.mem ((c.tc : Thread Cert.QinReferenceIdeal.nD Cert.QinReferenceIdeal.τ).loc Cert.QinReferenceIdeal.main_v18) = v1 c
          ∧ r.2.mem ((c.tc : Thread Cert.QinReferenceIdeal.nD Cert.QinReferenceIdeal.τ).loc Cert.QinReferenceIdeal.main_arg0) = m' ((c.tc : Thread Cert.QinReferenceIdeal.nD Cert.QinReferenceIdeal.τ).loc Cert.QinReferenceIdeal.main_arg0)
          ∧ r.2.mem ((c.tc : Thread Cert.QinReferenceIdeal.nD Cert.QinReferenceIdeal.τ).loc Cert.QinReferenceIdeal.main_arg1) = m' ((c.tc : Thread Cert.QinReferenceIdeal.nD Cert.QinReferenceIdeal.τ).loc Cert.QinReferenceIdeal.main_arg1)
          ∧ r.2.mem ((c.tc : Thread Cert.QinReferenceIdeal.nD Cert.QinReferenceIdeal.τ).loc Cert.QinReferenceIdeal.main_arg2) = m' ((c.tc : Thread Cert.QinReferenceIdeal.nD Cert.QinReferenceIdeal.τ).loc Cert.QinReferenceIdeal.main_arg2))

def preserves_KvnKernel_KvnKernelIdeal : Prop :=
  True

def algebraic_KvnKernelIdeal_KvnReferenceIdeal [hKvnKernelIdeal : Cert.KvnKernelIdeal.Facts] [hKvnReferenceIdeal : Cert.KvnReferenceIdeal.Facts] : Prop :=
  ∀ (m : (ℓ : Loc Cert.KvnKernelIdeal.nD Cert.KvnKernelIdeal.τ Cert.KvnKernelIdeal.sig) → Buf (Elt Ideal) ℓ) (g : Dev Cert.KvnKernelIdeal.nD → PrngReg)
    (m' : (ℓ : Loc Cert.KvnReferenceIdeal.nD Cert.KvnReferenceIdeal.τ Cert.KvnReferenceIdeal.sig) → Buf (Elt Ideal) ℓ) (g' : Dev Cert.KvnReferenceIdeal.nD → PrngReg), Pre_KvnKernelIdeal m →
    (∀ c : Dev Cert.KvnKernelIdeal.nD,
      m' ((c.tc : Thread Cert.KvnReferenceIdeal.nD Cert.KvnReferenceIdeal.τ).loc Cert.KvnReferenceIdeal.main_arg0) = m ((c.tc : Thread Cert.KvnKernelIdeal.nD Cert.KvnKernelIdeal.τ).loc Cert.KvnKernelIdeal.main_arg0)
      ∧ m' ((c.tc : Thread Cert.KvnReferenceIdeal.nD Cert.KvnReferenceIdeal.τ).loc Cert.KvnReferenceIdeal.main_arg1) = m ((c.tc : Thread Cert.KvnKernelIdeal.nD Cert.KvnKernelIdeal.τ).loc Cert.KvnKernelIdeal.main_arg1)) →
    ∃ (v0 : (c : Dev Cert.KvnKernelIdeal.nD) → Buf (Elt Ideal) ((c.tc : Thread Cert.KvnKernelIdeal.nD Cert.KvnKernelIdeal.τ).loc Cert.KvnKernelIdeal.main_v2)),
      θ_run (Cert.KvnKernelIdeal.defs (F := Ideal)) (onTc (τ := Cert.KvnKernelIdeal.τ) (Cert.KvnKernelIdeal.main (F := Ideal))) ⟨m, fun _ => 0, g⟩ (fun r => ∀ c : Dev Cert.KvnKernelIdeal.nD,
          r.2.mem ((c.tc : Thread Cert.KvnKernelIdeal.nD Cert.KvnKernelIdeal.τ).loc Cert.KvnKernelIdeal.main_v2) = v0 c
          ∧ r.2.mem ((c.tc : Thread Cert.KvnKernelIdeal.nD Cert.KvnKernelIdeal.τ).loc Cert.KvnKernelIdeal.main_arg0) = m ((c.tc : Thread Cert.KvnKernelIdeal.nD Cert.KvnKernelIdeal.τ).loc Cert.KvnKernelIdeal.main_arg0)
          ∧ r.2.mem ((c.tc : Thread Cert.KvnKernelIdeal.nD Cert.KvnKernelIdeal.τ).loc Cert.KvnKernelIdeal.main_arg1) = m ((c.tc : Thread Cert.KvnKernelIdeal.nD Cert.KvnKernelIdeal.τ).loc Cert.KvnKernelIdeal.main_arg1))
      ∧ θ_run (Cert.KvnReferenceIdeal.defs (F := Ideal)) (onTc (τ := Cert.KvnReferenceIdeal.τ) (Cert.KvnReferenceIdeal.main (F := Ideal))) ⟨m', fun _ => 0, g'⟩ (fun r => ∀ c : Dev Cert.KvnReferenceIdeal.nD,
          r.2.mem ((c.tc : Thread Cert.KvnReferenceIdeal.nD Cert.KvnReferenceIdeal.τ).loc Cert.KvnReferenceIdeal.main_v14) = v0 c
          ∧ r.2.mem ((c.tc : Thread Cert.KvnReferenceIdeal.nD Cert.KvnReferenceIdeal.τ).loc Cert.KvnReferenceIdeal.main_arg0) = m' ((c.tc : Thread Cert.KvnReferenceIdeal.nD Cert.KvnReferenceIdeal.τ).loc Cert.KvnReferenceIdeal.main_arg0)
          ∧ r.2.mem ((c.tc : Thread Cert.KvnReferenceIdeal.nD Cert.KvnReferenceIdeal.τ).loc Cert.KvnReferenceIdeal.main_arg1) = m' ((c.tc : Thread Cert.KvnReferenceIdeal.nD Cert.KvnReferenceIdeal.τ).loc Cert.KvnReferenceIdeal.main_arg1))

def preserves_CpreKernel_CpreKernelIdeal : Prop :=
  True

def algebraic_CpreKernelIdeal_CpreReferenceIdeal [hCpreKernelIdeal : Cert.CpreKernelIdeal.Facts] [hCpreReferenceIdeal : Cert.CpreReferenceIdeal.Facts] : Prop :=
  ∀ (m : (ℓ : Loc Cert.CpreKernelIdeal.nD Cert.CpreKernelIdeal.τ Cert.CpreKernelIdeal.sig) → Buf (Elt Ideal) ℓ) (g : Dev Cert.CpreKernelIdeal.nD → PrngReg)
    (m' : (ℓ : Loc Cert.CpreReferenceIdeal.nD Cert.CpreReferenceIdeal.τ Cert.CpreReferenceIdeal.sig) → Buf (Elt Ideal) ℓ) (g' : Dev Cert.CpreReferenceIdeal.nD → PrngReg), Pre_CpreKernelIdeal m →
    (∀ c : Dev Cert.CpreKernelIdeal.nD,
      m' ((c.tc : Thread Cert.CpreReferenceIdeal.nD Cert.CpreReferenceIdeal.τ).loc Cert.CpreReferenceIdeal.main_arg0) = m ((c.tc : Thread Cert.CpreKernelIdeal.nD Cert.CpreKernelIdeal.τ).loc Cert.CpreKernelIdeal.main_arg0)
      ∧ m' ((c.tc : Thread Cert.CpreReferenceIdeal.nD Cert.CpreReferenceIdeal.τ).loc Cert.CpreReferenceIdeal.main_arg1) = m ((c.tc : Thread Cert.CpreKernelIdeal.nD Cert.CpreKernelIdeal.τ).loc Cert.CpreKernelIdeal.main_arg1)
      ∧ m' ((c.tc : Thread Cert.CpreReferenceIdeal.nD Cert.CpreReferenceIdeal.τ).loc Cert.CpreReferenceIdeal.main_arg2) = m ((c.tc : Thread Cert.CpreKernelIdeal.nD Cert.CpreKernelIdeal.τ).loc Cert.CpreKernelIdeal.main_arg2)
      ∧ m' ((c.tc : Thread Cert.CpreReferenceIdeal.nD Cert.CpreReferenceIdeal.τ).loc Cert.CpreReferenceIdeal.main_arg3) = m ((c.tc : Thread Cert.CpreKernelIdeal.nD Cert.CpreKernelIdeal.τ).loc Cert.CpreKernelIdeal.main_arg3)
      ∧ m' ((c.tc : Thread Cert.CpreReferenceIdeal.nD Cert.CpreReferenceIdeal.τ).loc Cert.CpreReferenceIdeal.main_arg4) = m ((c.tc : Thread Cert.CpreKernelIdeal.nD Cert.CpreKernelIdeal.τ).loc Cert.CpreKernelIdeal.main_arg4)) →
    ∃ (v0 : (c : Dev Cert.CpreKernelIdeal.nD) → Buf (Elt Ideal) ((c.tc : Thread Cert.CpreKernelIdeal.nD Cert.CpreKernelIdeal.τ).loc Cert.CpreKernelIdeal.main_v6_0)) (v1 : (c : Dev Cert.CpreKernelIdeal.nD) → Buf (Elt Ideal) ((c.tc : Thread Cert.CpreKernelIdeal.nD Cert.CpreKernelIdeal.τ).loc Cert.CpreKernelIdeal.main_v8)),
      θ_run (Cert.CpreKernelIdeal.defs (F := Ideal)) (onTc (τ := Cert.CpreKernelIdeal.τ) (Cert.CpreKernelIdeal.main (F := Ideal))) ⟨m, fun _ => 0, g⟩ (fun r => ∀ c : Dev Cert.CpreKernelIdeal.nD,
          r.2.mem ((c.tc : Thread Cert.CpreKernelIdeal.nD Cert.CpreKernelIdeal.τ).loc Cert.CpreKernelIdeal.main_v6_0) = v0 c
          ∧ r.2.mem ((c.tc : Thread Cert.CpreKernelIdeal.nD Cert.CpreKernelIdeal.τ).loc Cert.CpreKernelIdeal.main_v8) = v1 c
          ∧ r.2.mem ((c.tc : Thread Cert.CpreKernelIdeal.nD Cert.CpreKernelIdeal.τ).loc Cert.CpreKernelIdeal.main_arg0) = m ((c.tc : Thread Cert.CpreKernelIdeal.nD Cert.CpreKernelIdeal.τ).loc Cert.CpreKernelIdeal.main_arg0)
          ∧ r.2.mem ((c.tc : Thread Cert.CpreKernelIdeal.nD Cert.CpreKernelIdeal.τ).loc Cert.CpreKernelIdeal.main_arg1) = m ((c.tc : Thread Cert.CpreKernelIdeal.nD Cert.CpreKernelIdeal.τ).loc Cert.CpreKernelIdeal.main_arg1)
          ∧ r.2.mem ((c.tc : Thread Cert.CpreKernelIdeal.nD Cert.CpreKernelIdeal.τ).loc Cert.CpreKernelIdeal.main_arg2) = m ((c.tc : Thread Cert.CpreKernelIdeal.nD Cert.CpreKernelIdeal.τ).loc Cert.CpreKernelIdeal.main_arg2)
          ∧ r.2.mem ((c.tc : Thread Cert.CpreKernelIdeal.nD Cert.CpreKernelIdeal.τ).loc Cert.CpreKernelIdeal.main_arg3) = m ((c.tc : Thread Cert.CpreKernelIdeal.nD Cert.CpreKernelIdeal.τ).loc Cert.CpreKernelIdeal.main_arg3)
          ∧ r.2.mem ((c.tc : Thread Cert.CpreKernelIdeal.nD Cert.CpreKernelIdeal.τ).loc Cert.CpreKernelIdeal.main_arg4) = m ((c.tc : Thread Cert.CpreKernelIdeal.nD Cert.CpreKernelIdeal.τ).loc Cert.CpreKernelIdeal.main_arg4))
      ∧ θ_run (Cert.CpreReferenceIdeal.defs (F := Ideal)) (onTc (τ := Cert.CpreReferenceIdeal.τ) (Cert.CpreReferenceIdeal.main (F := Ideal))) ⟨m', fun _ => 0, g'⟩ (fun r => ∀ c : Dev Cert.CpreReferenceIdeal.nD,
          r.2.mem ((c.tc : Thread Cert.CpreReferenceIdeal.nD Cert.CpreReferenceIdeal.τ).loc Cert.CpreReferenceIdeal.main_v41) = v0 c
          ∧ r.2.mem ((c.tc : Thread Cert.CpreReferenceIdeal.nD Cert.CpreReferenceIdeal.τ).loc Cert.CpreReferenceIdeal.main_v42) = v1 c
          ∧ r.2.mem ((c.tc : Thread Cert.CpreReferenceIdeal.nD Cert.CpreReferenceIdeal.τ).loc Cert.CpreReferenceIdeal.main_arg0) = m' ((c.tc : Thread Cert.CpreReferenceIdeal.nD Cert.CpreReferenceIdeal.τ).loc Cert.CpreReferenceIdeal.main_arg0)
          ∧ r.2.mem ((c.tc : Thread Cert.CpreReferenceIdeal.nD Cert.CpreReferenceIdeal.τ).loc Cert.CpreReferenceIdeal.main_arg1) = m' ((c.tc : Thread Cert.CpreReferenceIdeal.nD Cert.CpreReferenceIdeal.τ).loc Cert.CpreReferenceIdeal.main_arg1)
          ∧ r.2.mem ((c.tc : Thread Cert.CpreReferenceIdeal.nD Cert.CpreReferenceIdeal.τ).loc Cert.CpreReferenceIdeal.main_arg2) = m' ((c.tc : Thread Cert.CpreReferenceIdeal.nD Cert.CpreReferenceIdeal.τ).loc Cert.CpreReferenceIdeal.main_arg2)
          ∧ r.2.mem ((c.tc : Thread Cert.CpreReferenceIdeal.nD Cert.CpreReferenceIdeal.τ).loc Cert.CpreReferenceIdeal.main_arg3) = m' ((c.tc : Thread Cert.CpreReferenceIdeal.nD Cert.CpreReferenceIdeal.τ).loc Cert.CpreReferenceIdeal.main_arg3)
          ∧ r.2.mem ((c.tc : Thread Cert.CpreReferenceIdeal.nD Cert.CpreReferenceIdeal.τ).loc Cert.CpreReferenceIdeal.main_arg4) = m' ((c.tc : Thread Cert.CpreReferenceIdeal.nD Cert.CpreReferenceIdeal.τ).loc Cert.CpreReferenceIdeal.main_arg4))

def preserves_QpreKernel_QpreKernelIdeal : Prop :=
  True

def algebraic_QpreKernelIdeal_QpreReferenceIdeal [hQpreKernelIdeal : Cert.QpreKernelIdeal.Facts] [hQpreReferenceIdeal : Cert.QpreReferenceIdeal.Facts] : Prop :=
  ∀ (m : (ℓ : Loc Cert.QpreKernelIdeal.nD Cert.QpreKernelIdeal.τ Cert.QpreKernelIdeal.sig) → Buf (Elt Ideal) ℓ) (g : Dev Cert.QpreKernelIdeal.nD → PrngReg)
    (m' : (ℓ : Loc Cert.QpreReferenceIdeal.nD Cert.QpreReferenceIdeal.τ Cert.QpreReferenceIdeal.sig) → Buf (Elt Ideal) ℓ) (g' : Dev Cert.QpreReferenceIdeal.nD → PrngReg), Pre_QpreKernelIdeal m →
    (∀ c : Dev Cert.QpreKernelIdeal.nD,
      m' ((c.tc : Thread Cert.QpreReferenceIdeal.nD Cert.QpreReferenceIdeal.τ).loc Cert.QpreReferenceIdeal.main_arg0) = m ((c.tc : Thread Cert.QpreKernelIdeal.nD Cert.QpreKernelIdeal.τ).loc Cert.QpreKernelIdeal.main_arg0)
      ∧ m' ((c.tc : Thread Cert.QpreReferenceIdeal.nD Cert.QpreReferenceIdeal.τ).loc Cert.QpreReferenceIdeal.main_arg1) = m ((c.tc : Thread Cert.QpreKernelIdeal.nD Cert.QpreKernelIdeal.τ).loc Cert.QpreKernelIdeal.main_arg1)
      ∧ m' ((c.tc : Thread Cert.QpreReferenceIdeal.nD Cert.QpreReferenceIdeal.τ).loc Cert.QpreReferenceIdeal.main_arg2) = m ((c.tc : Thread Cert.QpreKernelIdeal.nD Cert.QpreKernelIdeal.τ).loc Cert.QpreKernelIdeal.main_arg2)
      ∧ m' ((c.tc : Thread Cert.QpreReferenceIdeal.nD Cert.QpreReferenceIdeal.τ).loc Cert.QpreReferenceIdeal.main_arg3) = m ((c.tc : Thread Cert.QpreKernelIdeal.nD Cert.QpreKernelIdeal.τ).loc Cert.QpreKernelIdeal.main_arg3)
      ∧ m' ((c.tc : Thread Cert.QpreReferenceIdeal.nD Cert.QpreReferenceIdeal.τ).loc Cert.QpreReferenceIdeal.main_arg4) = m ((c.tc : Thread Cert.QpreKernelIdeal.nD Cert.QpreKernelIdeal.τ).loc Cert.QpreKernelIdeal.main_arg4)) →
    ∃ (v0 : (c : Dev Cert.QpreKernelIdeal.nD) → Buf (Elt Ideal) ((c.tc : Thread Cert.QpreKernelIdeal.nD Cert.QpreKernelIdeal.τ).loc Cert.QpreKernelIdeal.main_v6_0)) (v1 : (c : Dev Cert.QpreKernelIdeal.nD) → Buf (Elt Ideal) ((c.tc : Thread Cert.QpreKernelIdeal.nD Cert.QpreKernelIdeal.τ).loc Cert.QpreKernelIdeal.main_v8)),
      θ_run (Cert.QpreKernelIdeal.defs (F := Ideal)) (onTc (τ := Cert.QpreKernelIdeal.τ) (Cert.QpreKernelIdeal.main (F := Ideal))) ⟨m, fun _ => 0, g⟩ (fun r => ∀ c : Dev Cert.QpreKernelIdeal.nD,
          r.2.mem ((c.tc : Thread Cert.QpreKernelIdeal.nD Cert.QpreKernelIdeal.τ).loc Cert.QpreKernelIdeal.main_v6_0) = v0 c
          ∧ r.2.mem ((c.tc : Thread Cert.QpreKernelIdeal.nD Cert.QpreKernelIdeal.τ).loc Cert.QpreKernelIdeal.main_v8) = v1 c
          ∧ r.2.mem ((c.tc : Thread Cert.QpreKernelIdeal.nD Cert.QpreKernelIdeal.τ).loc Cert.QpreKernelIdeal.main_arg0) = m ((c.tc : Thread Cert.QpreKernelIdeal.nD Cert.QpreKernelIdeal.τ).loc Cert.QpreKernelIdeal.main_arg0)
          ∧ r.2.mem ((c.tc : Thread Cert.QpreKernelIdeal.nD Cert.QpreKernelIdeal.τ).loc Cert.QpreKernelIdeal.main_arg1) = m ((c.tc : Thread Cert.QpreKernelIdeal.nD Cert.QpreKernelIdeal.τ).loc Cert.QpreKernelIdeal.main_arg1)
          ∧ r.2.mem ((c.tc : Thread Cert.QpreKernelIdeal.nD Cert.QpreKernelIdeal.τ).loc Cert.QpreKernelIdeal.main_arg2) = m ((c.tc : Thread Cert.QpreKernelIdeal.nD Cert.QpreKernelIdeal.τ).loc Cert.QpreKernelIdeal.main_arg2)
          ∧ r.2.mem ((c.tc : Thread Cert.QpreKernelIdeal.nD Cert.QpreKernelIdeal.τ).loc Cert.QpreKernelIdeal.main_arg3) = m ((c.tc : Thread Cert.QpreKernelIdeal.nD Cert.QpreKernelIdeal.τ).loc Cert.QpreKernelIdeal.main_arg3)
          ∧ r.2.mem ((c.tc : Thread Cert.QpreKernelIdeal.nD Cert.QpreKernelIdeal.τ).loc Cert.QpreKernelIdeal.main_arg4) = m ((c.tc : Thread Cert.QpreKernelIdeal.nD Cert.QpreKernelIdeal.τ).loc Cert.QpreKernelIdeal.main_arg4))
      ∧ θ_run (Cert.QpreReferenceIdeal.defs (F := Ideal)) (onTc (τ := Cert.QpreReferenceIdeal.τ) (Cert.QpreReferenceIdeal.main (F := Ideal))) ⟨m', fun _ => 0, g'⟩ (fun r => ∀ c : Dev Cert.QpreReferenceIdeal.nD,
          r.2.mem ((c.tc : Thread Cert.QpreReferenceIdeal.nD Cert.QpreReferenceIdeal.τ).loc Cert.QpreReferenceIdeal.main_v41) = v0 c
          ∧ r.2.mem ((c.tc : Thread Cert.QpreReferenceIdeal.nD Cert.QpreReferenceIdeal.τ).loc Cert.QpreReferenceIdeal.main_v42) = v1 c
          ∧ r.2.mem ((c.tc : Thread Cert.QpreReferenceIdeal.nD Cert.QpreReferenceIdeal.τ).loc Cert.QpreReferenceIdeal.main_arg0) = m' ((c.tc : Thread Cert.QpreReferenceIdeal.nD Cert.QpreReferenceIdeal.τ).loc Cert.QpreReferenceIdeal.main_arg0)
          ∧ r.2.mem ((c.tc : Thread Cert.QpreReferenceIdeal.nD Cert.QpreReferenceIdeal.τ).loc Cert.QpreReferenceIdeal.main_arg1) = m' ((c.tc : Thread Cert.QpreReferenceIdeal.nD Cert.QpreReferenceIdeal.τ).loc Cert.QpreReferenceIdeal.main_arg1)
          ∧ r.2.mem ((c.tc : Thread Cert.QpreReferenceIdeal.nD Cert.QpreReferenceIdeal.τ).loc Cert.QpreReferenceIdeal.main_arg2) = m' ((c.tc : Thread Cert.QpreReferenceIdeal.nD Cert.QpreReferenceIdeal.τ).loc Cert.QpreReferenceIdeal.main_arg2)
          ∧ r.2.mem ((c.tc : Thread Cert.QpreReferenceIdeal.nD Cert.QpreReferenceIdeal.τ).loc Cert.QpreReferenceIdeal.main_arg3) = m' ((c.tc : Thread Cert.QpreReferenceIdeal.nD Cert.QpreReferenceIdeal.τ).loc Cert.QpreReferenceIdeal.main_arg3)
          ∧ r.2.mem ((c.tc : Thread Cert.QpreReferenceIdeal.nD Cert.QpreReferenceIdeal.τ).loc Cert.QpreReferenceIdeal.main_arg4) = m' ((c.tc : Thread Cert.QpreReferenceIdeal.nD Cert.QpreReferenceIdeal.τ).loc Cert.QpreReferenceIdeal.main_arg4))

def Claim : Prop :=
  ∃ (hConvKernel : Cert.ConvKernel.Facts) (hConvKernelIdeal : Cert.ConvKernelIdeal.Facts) (hConvReferenceIdeal : Cert.ConvReferenceIdeal.Facts) (hCfwdKernel : Cert.CfwdKernel.Facts) (hCfwdKernelIdeal : Cert.CfwdKernelIdeal.Facts) (hCfwdReferenceIdeal : Cert.CfwdReferenceIdeal.Facts) (hForgetKernel : Cert.ForgetKernel.Facts) (hForgetKernelIdeal : Cert.ForgetKernelIdeal.Facts) (hForgetReferenceIdeal : Cert.ForgetReferenceIdeal.Facts) (hFfwdKernel : Cert.FfwdKernel.Facts) (hFfwdKernelIdeal : Cert.FfwdKernelIdeal.Facts) (hFfwdReferenceIdeal : Cert.FfwdReferenceIdeal.Facts) (hAttnKernel : Cert.AttnKernel.Facts) (hAttnKernelIdeal : Cert.AttnKernelIdeal.Facts) (hAttnReferenceIdeal : Cert.AttnReferenceIdeal.Facts) (hFwdKernel : Cert.FwdKernel.Facts) (hFwdKernelIdeal : Cert.FwdKernelIdeal.Facts) (hFwdReferenceIdeal : Cert.FwdReferenceIdeal.Facts) (hGateKernel : Cert.GateKernel.Facts) (hGateKernelIdeal : Cert.GateKernelIdeal.Facts) (hGateReferenceIdeal : Cert.GateReferenceIdeal.Facts) (hLossKernel : Cert.LossKernel.Facts) (hLossKernelIdeal : Cert.LossKernelIdeal.Facts) (hLossReferenceIdeal : Cert.LossReferenceIdeal.Facts) (hPostKernel : Cert.PostKernel.Facts) (hPostKernelIdeal : Cert.PostKernelIdeal.Facts) (hPostReferenceIdeal : Cert.PostReferenceIdeal.Facts) (hSwiKernel : Cert.SwiKernel.Facts) (hSwiKernelIdeal : Cert.SwiKernelIdeal.Facts) (hSwiReferenceIdeal : Cert.SwiReferenceIdeal.Facts) (hPreKernel : Cert.PreKernel.Facts) (hPreKernelIdeal : Cert.PreKernelIdeal.Facts) (hPreReferenceIdeal : Cert.PreReferenceIdeal.Facts) (hOutKernel : Cert.OutKernel.Facts) (hOutKernelIdeal : Cert.OutKernelIdeal.Facts) (hOutReferenceIdeal : Cert.OutReferenceIdeal.Facts) (hSinKernel : Cert.SinKernel.Facts) (hSinKernelIdeal : Cert.SinKernelIdeal.Facts) (hSinReferenceIdeal : Cert.SinReferenceIdeal.Facts) (hAdamKernel : Cert.AdamKernel.Facts) (hAdamKernelIdeal : Cert.AdamKernelIdeal.Facts) (hAdamReferenceIdeal : Cert.AdamReferenceIdeal.Facts) (hMoutKernel : Cert.MoutKernel.Facts) (hMoutKernelIdeal : Cert.MoutKernelIdeal.Facts) (hMoutReferenceIdeal : Cert.MoutReferenceIdeal.Facts) (hCinKernel : Cert.CinKernel.Facts) (hCinKernelIdeal : Cert.CinKernelIdeal.Facts) (hCinReferenceIdeal : Cert.CinReferenceIdeal.Facts) (hQinKernel : Cert.QinKernel.Facts) (hQinKernelIdeal : Cert.QinKernelIdeal.Facts) (hQinReferenceIdeal : Cert.QinReferenceIdeal.Facts) (hKvnKernel : Cert.KvnKernel.Facts) (hKvnKernelIdeal : Cert.KvnKernelIdeal.Facts) (hKvnReferenceIdeal : Cert.KvnReferenceIdeal.Facts) (hCpreKernel : Cert.CpreKernel.Facts) (hCpreKernelIdeal : Cert.CpreKernelIdeal.Facts) (hCpreReferenceIdeal : Cert.CpreReferenceIdeal.Facts) (hQpreKernel : Cert.QpreKernel.Facts) (hQpreKernelIdeal : Cert.QpreKernelIdeal.Facts) (hQpreReferenceIdeal : Cert.QpreReferenceIdeal.Facts) (hPre_finite_attn : Cert.Pre_finite_attn.Facts) (hPre_finite_fwd : Cert.Pre_finite_fwd.Facts) (hPre_finite_swi : Cert.Pre_finite_swi.Facts),
    quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_CfwdKernel (hCfwdKernel := hCfwdKernel)
    ∧ quiescent_CfwdKernelIdeal (hCfwdKernelIdeal := hCfwdKernelIdeal)
    ∧ quiescent_CfwdReferenceIdeal (hCfwdReferenceIdeal := hCfwdReferenceIdeal)
    ∧ quiescent_ForgetKernel (hForgetKernel := hForgetKernel)
    ∧ quiescent_ForgetKernelIdeal (hForgetKernelIdeal := hForgetKernelIdeal)
    ∧ quiescent_ForgetReferenceIdeal (hForgetReferenceIdeal := hForgetReferenceIdeal)
    ∧ quiescent_FfwdKernel (hFfwdKernel := hFfwdKernel)
    ∧ quiescent_FfwdKernelIdeal (hFfwdKernelIdeal := hFfwdKernelIdeal)
    ∧ quiescent_FfwdReferenceIdeal (hFfwdReferenceIdeal := hFfwdReferenceIdeal)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_FwdKernel (hFwdKernel := hFwdKernel)
    ∧ quiescent_FwdKernelIdeal (hFwdKernelIdeal := hFwdKernelIdeal)
    ∧ quiescent_FwdKernelIdeal_pre_finite_fwd (hFwdKernelIdeal := hFwdKernelIdeal) (hPre_finite_fwd := hPre_finite_fwd)
    ∧ quiescent_FwdReferenceIdeal (hFwdReferenceIdeal := hFwdReferenceIdeal)
    ∧ quiescent_FwdReferenceIdeal_pre_finite_fwd (hFwdReferenceIdeal := hFwdReferenceIdeal) (hPre_finite_fwd := hPre_finite_fwd)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_SwiKernel (hSwiKernel := hSwiKernel)
    ∧ quiescent_SwiKernelIdeal (hSwiKernelIdeal := hSwiKernelIdeal)
    ∧ quiescent_SwiKernelIdeal_pre_finite_swi (hSwiKernelIdeal := hSwiKernelIdeal) (hPre_finite_swi := hPre_finite_swi)
    ∧ quiescent_SwiReferenceIdeal (hSwiReferenceIdeal := hSwiReferenceIdeal)
    ∧ quiescent_SwiReferenceIdeal_pre_finite_swi (hSwiReferenceIdeal := hSwiReferenceIdeal) (hPre_finite_swi := hPre_finite_swi)
    ∧ quiescent_PreKernel (hPreKernel := hPreKernel)
    ∧ quiescent_PreKernelIdeal (hPreKernelIdeal := hPreKernelIdeal)
    ∧ quiescent_PreReferenceIdeal (hPreReferenceIdeal := hPreReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_SinKernel (hSinKernel := hSinKernel)
    ∧ quiescent_SinKernelIdeal (hSinKernelIdeal := hSinKernelIdeal)
    ∧ quiescent_SinReferenceIdeal (hSinReferenceIdeal := hSinReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_MoutKernel (hMoutKernel := hMoutKernel)
    ∧ quiescent_MoutKernelIdeal (hMoutKernelIdeal := hMoutKernelIdeal)
    ∧ quiescent_MoutReferenceIdeal (hMoutReferenceIdeal := hMoutReferenceIdeal)
    ∧ quiescent_CinKernel (hCinKernel := hCinKernel)
    ∧ quiescent_CinKernelIdeal (hCinKernelIdeal := hCinKernelIdeal)
    ∧ quiescent_CinReferenceIdeal (hCinReferenceIdeal := hCinReferenceIdeal)
    ∧ quiescent_QinKernel (hQinKernel := hQinKernel)
    ∧ quiescent_QinKernelIdeal (hQinKernelIdeal := hQinKernelIdeal)
    ∧ quiescent_QinReferenceIdeal (hQinReferenceIdeal := hQinReferenceIdeal)
    ∧ quiescent_KvnKernel (hKvnKernel := hKvnKernel)
    ∧ quiescent_KvnKernelIdeal (hKvnKernelIdeal := hKvnKernelIdeal)
    ∧ quiescent_KvnReferenceIdeal (hKvnReferenceIdeal := hKvnReferenceIdeal)
    ∧ quiescent_CpreKernel (hCpreKernel := hCpreKernel)
    ∧ quiescent_CpreKernelIdeal (hCpreKernelIdeal := hCpreKernelIdeal)
    ∧ quiescent_CpreReferenceIdeal (hCpreReferenceIdeal := hCpreReferenceIdeal)
    ∧ quiescent_QpreKernel (hQpreKernel := hQpreKernel)
    ∧ quiescent_QpreKernelIdeal (hQpreKernelIdeal := hQpreKernelIdeal)
    ∧ quiescent_QpreReferenceIdeal (hQpreReferenceIdeal := hQpreReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_CfwdKernel_CfwdKernelIdeal
    ∧ algebraic_CfwdKernelIdeal_CfwdReferenceIdeal (hCfwdKernelIdeal := hCfwdKernelIdeal) (hCfwdReferenceIdeal := hCfwdReferenceIdeal)
    ∧ preserves_ForgetKernel_ForgetKernelIdeal
    ∧ algebraic_ForgetKernelIdeal_ForgetReferenceIdeal (hForgetKernelIdeal := hForgetKernelIdeal) (hForgetReferenceIdeal := hForgetReferenceIdeal)
    ∧ preserves_FfwdKernel_FfwdKernelIdeal
    ∧ algebraic_FfwdKernelIdeal_FfwdReferenceIdeal (hFfwdKernelIdeal := hFfwdKernelIdeal) (hFfwdReferenceIdeal := hFfwdReferenceIdeal)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_FwdKernel_FwdKernelIdeal
    ∧ algebraic_FwdKernelIdeal_FwdReferenceIdeal_pre_finite_fwd (hFwdKernelIdeal := hFwdKernelIdeal) (hFwdReferenceIdeal := hFwdReferenceIdeal) (hPre_finite_fwd := hPre_finite_fwd)
    ∧ preserves_GateKernel_GateKernelIdeal
    ∧ algebraic_GateKernelIdeal_GateReferenceIdeal (hGateKernelIdeal := hGateKernelIdeal) (hGateReferenceIdeal := hGateReferenceIdeal)
    ∧ preserves_LossKernel_LossKernelIdeal
    ∧ algebraic_LossKernelIdeal_LossReferenceIdeal (hLossKernelIdeal := hLossKernelIdeal) (hLossReferenceIdeal := hLossReferenceIdeal)
    ∧ preserves_PostKernel_PostKernelIdeal
    ∧ algebraic_PostKernelIdeal_PostReferenceIdeal (hPostKernelIdeal := hPostKernelIdeal) (hPostReferenceIdeal := hPostReferenceIdeal)
    ∧ preserves_SwiKernel_SwiKernelIdeal
    ∧ algebraic_SwiKernelIdeal_SwiReferenceIdeal_pre_finite_swi (hSwiKernelIdeal := hSwiKernelIdeal) (hSwiReferenceIdeal := hSwiReferenceIdeal) (hPre_finite_swi := hPre_finite_swi)
    ∧ preserves_PreKernel_PreKernelIdeal
    ∧ algebraic_PreKernelIdeal_PreReferenceIdeal (hPreKernelIdeal := hPreKernelIdeal) (hPreReferenceIdeal := hPreReferenceIdeal)
    ∧ preserves_OutKernel_OutKernelIdeal
    ∧ algebraic_OutKernelIdeal_OutReferenceIdeal (hOutKernelIdeal := hOutKernelIdeal) (hOutReferenceIdeal := hOutReferenceIdeal)
    ∧ preserves_SinKernel_SinKernelIdeal
    ∧ algebraic_SinKernelIdeal_SinReferenceIdeal (hSinKernelIdeal := hSinKernelIdeal) (hSinReferenceIdeal := hSinReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_MoutKernel_MoutKernelIdeal
    ∧ algebraic_MoutKernelIdeal_MoutReferenceIdeal (hMoutKernelIdeal := hMoutKernelIdeal) (hMoutReferenceIdeal := hMoutReferenceIdeal)
    ∧ preserves_CinKernel_CinKernelIdeal
    ∧ algebraic_CinKernelIdeal_CinReferenceIdeal (hCinKernelIdeal := hCinKernelIdeal) (hCinReferenceIdeal := hCinReferenceIdeal)
    ∧ preserves_QinKernel_QinKernelIdeal
    ∧ algebraic_QinKernelIdeal_QinReferenceIdeal (hQinKernelIdeal := hQinKernelIdeal) (hQinReferenceIdeal := hQinReferenceIdeal)
    ∧ preserves_KvnKernel_KvnKernelIdeal
    ∧ algebraic_KvnKernelIdeal_KvnReferenceIdeal (hKvnKernelIdeal := hKvnKernelIdeal) (hKvnReferenceIdeal := hKvnReferenceIdeal)
    ∧ preserves_CpreKernel_CpreKernelIdeal
    ∧ algebraic_CpreKernelIdeal_CpreReferenceIdeal (hCpreKernelIdeal := hCpreKernelIdeal) (hCpreReferenceIdeal := hCpreReferenceIdeal)
    ∧ preserves_QpreKernel_QpreKernelIdeal
    ∧ algebraic_QpreKernelIdeal_QpreReferenceIdeal (hQpreKernelIdeal := hQpreKernelIdeal) (hQpreReferenceIdeal := hQpreReferenceIdeal)
-- ==== Pre_finite_attn.lean ====
abbrev S2x2048x2048 : Shape := ⟨3, ![2, 2048, 2048]⟩
abbrev S2x16x2048 : Shape := ⟨3, ![2, 16, 2048]⟩
abbrev S2x2048x1024 : Shape := ⟨3, ![2, 2048, 1024]⟩
abbrev S_ : Shape := ⟨0, ![]⟩

class Facts : Prop where
  slices_S2x2048x2048_S2x2048x1024_0_0_0 : S2x2048x2048.Slices ![0, 0, 0] S2x2048x1024
  bitsLt_bf16_f32 : FTy.bits .bf16 < FTy.bits .f32
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x16x2048 : S_.BroadcastsInDim S2x16x2048 (![] : Fin 0 → Fin S2x16x2048.rank)
  reducesTo_S2x16x2048_S_d0_1_2 : S2x16x2048.ReducesTo [0, 1, 2] S_

variable [Facts]

def fn {F : FTy → Type} [FloatOps F] (main_arg0 : FVec F S2x2048x2048 .bf16) (main_arg1 : FVec F S2x2048x2048 .bf16) (main_arg2 : FVec F S2x16x2048 .f32) (main_arg3 : FVec F S2x2048x1024 .bf16) : IVec S_ 1 :=
  let main_v0 : FVec F S2x2048x1024 .bf16 := (extractStridedSlice S2x2048x1024 ![0, 0, 0] · slices_S2x2048x2048_S2x2048x1024_0_0_0) main_arg0
  let main_v1 : FVec F S2x2048x1024 .f32 := (extf .f32 · bitsLt_bf16_f32) main_v0
  let main_v2 : FVec F S2x2048x1024 .bf16 := (extractStridedSlice S2x2048x1024 ![0, 0, 0] · slices_S2x2048x2048_S2x2048x1024_0_0_0) main_arg1
  let main_v3 : FVec F S2x2048x1024 .f32 := (extf .f32 · bitsLt_bf16_f32) main_v2
  let main_v4 : FVec F S2x2048x1024 .f32 := Host.absf main_v1
  let main_cst : FVec F S_ .f32 := constant S_ .f32 0x7F800000#32
  let main_v5 : FVec F S2x2048x1024 .f32 := broadcastInDim S2x2048x1024 ![] bcast_S_S2x2048x1024 main_cst
  let main_v6 : IVec S2x2048x1024 1 := cmpf .olt main_v4 main_v5
  let main_c : IVec S_ 1 := constantI S_ 1 1#1
  let main_v7 : IVec S_ 1 := (fun x v => Host.reduce IntOp.andi x v reducesTo_S2x2048x1024_S_d0_1_2 h_S_) main_v6 main_c
  let main_v8 : FVec F S2x2048x1024 .f32 := Host.absf main_v3
  let main_cst_0 : FVec F S_ .f32 := constant S_ .f32 0x7F800000#32
  let main_v9 : FVec F S2x2048x1024 .f32 := broadcastInDim S2x2048x1024 ![] bcast_S_S2x2048x1024 main_cst_0
  let main_v10 : IVec S2x2048x1024 1 := cmpf .olt main_v8 main_v9
  let main_c_1 : IVec S_ 1 := constantI S_ 1 1#1
  let main_v11 : IVec S_ 1 := (fun x v => Host.reduce IntOp.andi x v reducesTo_S2x2048x1024_S_d0_1_2 h_S_) main_v10 main_c_1
  let main_v12 : IVec S_ 1 := andi main_v7 main_v11
  let main_v13 : FVec F S2x16x2048 .f32 := Host.absf main_arg2
  let main_cst_2 : FVec F S_ .f32 := constant S_ .f32 0x7F800000#32
  let main_v14 : FVec F S2x16x2048 .f32 := broadcastInDim S2x16x2048 ![] bcast_S_S2x16x2048 main_cst_2
  let main_v15 : IVec S2x16x2048 1 := cmpf .olt main_v13 main_v14
  let main_c_3 : IVec S_ 1 := constantI S_ 1 1#1
  let main_v16 : IVec S_ 1 := (fun x v => Host.reduce IntOp.andi x v reducesTo_S2x16x2048_S_d0_1_2 h_S_) main_v15 main_c_3
  let main_v17 : IVec S_ 1 := andi main_v12 main_v16
  main_v17
-- ==== Pre_finite_fwd.lean ====
abbrev S2x2048x2048 : Shape := ⟨3, ![2, 2048, 2048]⟩
abbrev S2x16x2048 : Shape := ⟨3, ![2, 16, 2048]⟩
abbrev S2x2048x1024 : Shape := ⟨3, ![2, 2048, 1024]⟩
abbrev S_ : Shape := ⟨0, ![]⟩

class Facts : Prop where
  slices_S2x2048x2048_S2x2048x1024_0_0_0 : S2x2048x2048.Slices ![0, 0, 0] S2x2048x1024
  bitsLt_bf16_f32 : FTy.bits .bf16 < FTy.bits .f32
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x16x2048 : S_.BroadcastsInDim S2x16x2048 (![] : Fin 0 → Fin S2x16x2048.rank)
  reducesTo_S2x16x2048_S_d0_1_2 : S2x16x2048.ReducesTo [0, 1, 2] S_

variable [Facts]

def fn {F : FTy → Type} [FloatOps F] (main_arg0 : FVec F S2x2048x2048 .bf16) (main_arg1 : FVec F S2x2048x2048 .bf16) (main_arg2 : FVec F S2x16x2048 .f32) : IVec S_ 1 :=
  let main_v0 : FVec F S2x2048x1024 .bf16 := (extractStridedSlice S2x2048x1024 ![0, 0, 0] · slices_S2x2048x2048_S2x2048x1024_0_0_0) main_arg0
  let main_v1 : FVec F S2x2048x1024 .f32 := (extf .f32 · bitsLt_bf16_f32) main_v0
  let main_v2 : FVec F S2x2048x1024 .bf16 := (extractStridedSlice S2x2048x1024 ![0, 0, 0] · slices_S2x2048x2048_S2x2048x1024_0_0_0) main_arg1
  let main_v3 : FVec F S2x2048x1024 .f32 := (extf .f32 · bitsLt_bf16_f32) main_v2
  let main_v4 : FVec F S2x2048x1024 .f32 := Host.absf main_v1
  let main_cst : FVec F S_ .f32 := constant S_ .f32 0x7F800000#32
  let main_v5 : FVec F S2x2048x1024 .f32 := broadcastInDim S2x2048x1024 ![] bcast_S_S2x2048x1024 main_cst
  let main_v6 : IVec S2x2048x1024 1 := cmpf .olt main_v4 main_v5
  let main_c : IVec S_ 1 := constantI S_ 1 1#1
  let main_v7 : IVec S_ 1 := (fun x v => Host.reduce IntOp.andi x v reducesTo_S2x2048x1024_S_d0_1_2 h_S_) main_v6 main_c
  let main_v8 : FVec F S2x2048x1024 .f32 := Host.absf main_v3
  let main_cst_0 : FVec F S_ .f32 := constant S_ .f32 0x7F800000#32
  let main_v9 : FVec F S2x2048x1024 .f32 := broadcastInDim S2x2048x1024 ![] bcast_S_S2x2048x1024 main_cst_0
  let main_v10 : IVec S2x2048x1024 1 := cmpf .olt main_v8 main_v9
  let main_c_1 : IVec S_ 1 := constantI S_ 1 1#1
  let main_v11 : IVec S_ 1 := (fun x v => Host.reduce IntOp.andi x v reducesTo_S2x2048x1024_S_d0_1_2 h_S_) main_v10 main_c_1
  let main_v12 : IVec S_ 1 := andi main_v7 main_v11
  let main_v13 : FVec F S2x16x2048 .f32 := Host.absf main_arg2
  let main_cst_2 : FVec F S_ .f32 := constant S_ .f32 0x7F800000#32
  let main_v14 : FVec F S2x16x2048 .f32 := broadcastInDim S2x16x2048 ![] bcast_S_S2x16x2048 main_cst_2
  let main_v15 : IVec S2x16x2048 1 := cmpf .olt main_v13 main_v14
  let main_c_3 : IVec S_ 1 := constantI S_ 1 1#1
  let main_v16 : IVec S_ 1 := (fun x v => Host.reduce IntOp.andi x v reducesTo_S2x16x2048_S_d0_1_2 h_S_) main_v15 main_c_3
  let main_v17 : IVec S_ 1 := andi main_v12 main_v16
  main_v17
-- ==== Pre_finite_swi.lean ====
abbrev S2x2048x5632 : Shape := ⟨3, ![2, 2048, 5632]⟩
abbrev S2816x1024 : Shape := ⟨2, ![2816, 1024]⟩
abbrev S1024 : Shape := ⟨1, ![1024]⟩
abbrev S2x2048x1024 : Shape := ⟨3, ![2, 2048, 1024]⟩
abbrev S_ : Shape := ⟨0, ![]⟩
abbrev S1x1x1024 : Shape := ⟨3, ![1, 1, 1024]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)

variable [Facts]

def fn {F : FTy → Type} [FloatOps F] (main_arg0 : FVec F S2x2048x5632 .bf16) (main_arg1 : FVec F S2816x1024 .bf16) (main_arg2 : FVec F S1024 .f32) (main_arg3 : FVec F S2x2048x1024 .f32) : IVec S2x2048x1024 1 :=
  let main_v0 : FVec F S2x2048x1024 .f32 := Host.absf main_arg3
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1x1x1024 1 := broadcastInDim S1x1x1024 ![2] bcast_S1024_S1x1x1024_2 main_v5
  let main_v7 : IVec S2x2048x1024 1 := broadcastInDim S2x2048x1024 ![0, 1, 2] bcast_S1x1x1024_S2x2048x1024_0_1_2 main_v6
  let main_v8 : IVec S2x2048x1024 1 := andi main_v2 main_v7
  main_v8
-- ==== ConvKernel.lean ====
abbrev S2x2048x3072 : Shape := ⟨3, ![2, 2048, 3072]⟩
abbrev S1x3x1024 : Shape := ⟨3, ![1, 3, 1024]⟩
abbrev S2x2048x1024 : Shape := ⟨3, ![2, 2048, 1024]⟩
abbrev S3x1024 : Shape := ⟨2, ![3, 1024]⟩
abbrev S_ : Shape := ⟨0, ![]⟩
abbrev S16x1024 : Shape := ⟨2, ![16, 1024]⟩
abbrev S8x1024 : Shape := ⟨2, ![8, 1024]⟩
abbrev S4096x3072 : Shape := ⟨2, ![4096, 3072]⟩
abbrev S4096x1024 : Shape := ⟨2, ![4096, 1024]⟩
abbrev S2048x256 : Shape := ⟨2, ![2048, 256]⟩
abbrev S8x256 : Shape := ⟨2, ![8, 256]⟩
abbrev S2048x1 : Shape := ⟨2, ![2048, 1]⟩
abbrev S1x256 : Shape := ⟨2, ![1, 256]⟩
abbrev S256 : Shape := ⟨1, ![256]⟩

abbrev nBuf : Space → Nat
  | .hbm => 14
  | .vmem => 18
  | .smem => 0
  | _ => 0

abbrev bufTy : (tb : Table) → Fin (tcTables nBuf tb) → BufTy
  | .hbm, ⟨0, _⟩ => ⟨S2x2048x3072, .bf16⟩
  | .hbm, ⟨1, _⟩ => ⟨S1x3x1024, .f32⟩
  | .hbm, ⟨2, _⟩ => ⟨S2x2048x1024, .bf16⟩
  | .hbm, ⟨3, _⟩ => ⟨S3x1024, .f32⟩
  | .hbm, ⟨4, _⟩ => ⟨S_, .i32⟩
  | .hbm, ⟨5, _⟩ => ⟨S_, .f32⟩
  | .hbm, ⟨6, _⟩ => ⟨S16x1024, .f32⟩
  | .hbm, ⟨7, _⟩ => ⟨S8x1024, .f32⟩
  | .hbm, ⟨8, _⟩ => ⟨S4096x3072, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S8x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S8x256, .f32⟩
  | .local _ .vmem, ⟨9, _⟩ => ⟨S8x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S8x256, .f32⟩
  | .local _ .vmem, ⟨17, _⟩ => ⟨S8x256, .f32⟩
  | _, _ => ⟨S2x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvReferenceIdeal.lean ====
abbrev S2x2048x3072 : Shape := ⟨3, ![2, 2048, 3072]⟩
abbrev S1x3x1024 : Shape := ⟨3, ![1, 3, 1024]⟩
abbrev S2x2048x1024 : Shape := ⟨3, ![2, 2048, 1024]⟩
abbrev S3x1024 : Shape := ⟨2, ![3, 1024]⟩
abbrev S2x2x1024 : Shape := ⟨3, ![2, 2, 1024]⟩
abbrev S_ : Shape := ⟨0, ![]⟩
abbrev S2x2050x1024 : Shape := ⟨3, ![2, 2050, 1024]⟩
abbrev S1x1024 : Shape := ⟨2, ![1, 1024]⟩
abbrev S1024 : Shape := ⟨1, ![1024]⟩
abbrev S1x1x1024 : Shape := ⟨3, ![1, 1, 1024]⟩
abbrev S4096x1024 : Shape := ⟨2, ![4096, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S2x2048x3072, .bf16⟩
  | .hbm, ⟨1, _⟩ => ⟨S1x3x1024, .f32⟩
  | .hbm, ⟨2, _⟩ => ⟨S2x2048x1024, .bf16⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S3x1024, .f32⟩
  | .hbm, ⟨8, _⟩ => ⟨S2x2048x1024, .f32⟩
  | .hbm, ⟨9, _⟩ => ⟨S2x2x1024, .f32⟩
  | .hbm, ⟨10, _⟩ => ⟨S_, .f32⟩
  | .hbm, ⟨11, _⟩ => ⟨S2x2x1024, .f32⟩
  | .hbm, ⟨12, _⟩ => ⟨S2x2050x1024, .f32⟩
  | .hbm, ⟨13, _⟩ => ⟨S_, .f32⟩
  | .hbm, ⟨14, _⟩ => ⟨S2x2x1024, .f32⟩
  | .hbm, ⟨15, _⟩ => ⟨S1x1024, .f32⟩
  | .hbm, ⟨16, _⟩ => ⟨S1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S1x1024, .f32⟩
  | .hbm, ⟨22, _⟩ => ⟨S1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S1x1024, .f32⟩
  | .hbm, ⟨29, _⟩ => ⟨S1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S1024, .f32⟩
  | .hbm, ⟨44, _⟩ => ⟨S1x1x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S2x2050x1024, .f32⟩
  | .hbm, ⟨49, _⟩ => ⟨S1x1024, .f32⟩
  | .hbm, ⟨50, _⟩ => ⟨S_, .f32⟩
  | .hbm, ⟨51, _⟩ => ⟨S3x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S_, .f32⟩
  | .hbm, ⟨59, _⟩ => ⟨S1024, .f32⟩
  | .hbm, ⟨60, _⟩ => ⟨S_, .f32⟩
  | .hbm, ⟨61, _⟩ => ⟨S2x2050x1024, .f32⟩
  | .hbm, ⟨62, _⟩ => ⟨S2x2050x1024, .f32⟩
  | .hbm, ⟨63, _⟩ => ⟨S1x1024, .f32⟩
  | .hbm, ⟨64, _⟩ => ⟨S_, .f32⟩
  | .hbm, ⟨65, _⟩ => ⟨S3x1024, .f32⟩
  | .hbm, ⟨66, _⟩ => ⟨S3x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S_, .f32⟩
  | .hbm, ⟨71, _⟩ => ⟨S1024, .f32⟩
  | .hbm, ⟨72, _⟩ => ⟨S1x1x1024, .f32⟩
  | .hbm, ⟨73, _⟩ => ⟨S_, .f32⟩
  | .hbm, ⟨74, _⟩ => ⟨S1024, .f32⟩
  | .hbm, ⟨75, _⟩ => ⟨S_, .f32⟩
  | .hbm, ⟨76, _⟩ => ⟨S2x2050x1024, .f32⟩
  | .hbm, ⟨77, _⟩ => ⟨S2x2050x1024, .f32⟩
  | .hbm, ⟨78, _⟩ => ⟨S1x1024, .f32⟩
  | .hbm, ⟨79, _⟩ => ⟨S_, .f32⟩
  | .hbm, ⟨80, _⟩ => ⟨S3x1024, .f32⟩
  | .hbm, ⟨81, _⟩ => ⟨S3x1024, .f32⟩
  | .hbm, ⟨82, _⟩ => ⟨S2x2x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S4096x1024, .f32⟩
  | .hbm, ⟨87, _⟩ => ⟨S4096x1024, .bf16⟩
  | .hbm, ⟨88, _⟩ => ⟨S4096x1024, .f32⟩
  | .hbm, ⟨89, _⟩ => ⟨S4096x1024, .bf16⟩
  | .hbm, ⟨90, _⟩ => ⟨S4096x1024, .f32⟩
  | .hbm, ⟨91, _⟩ => ⟨S4096x1024, .bf16⟩
  | .hbm, ⟨92, _⟩ => ⟨S_, .i32⟩
  | .hbm, ⟨93, _⟩ => ⟨S_, .f32⟩
  | .hbm, ⟨94, _⟩ => ⟨S8x1024, .f32⟩
  | _, _ => ⟨S2x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c : Ref sig .tc := ⟨.hbm, 92, rfl⟩
abbrev main_call0_v0 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== CfwdKernel.lean ====
abbrev S2x2048x3072 : Shape := ⟨3, ![2, 2048, 3072]⟩
abbrev S1x3x1024 : Shape := ⟨3, ![1, 3, 1024]⟩
abbrev S3x1024 : Shape := ⟨2, ![3, 1024]⟩
abbrev S_ : Shape := ⟨0, ![]⟩
abbrev S16x1024 : Shape := ⟨2, ![16, 1024]⟩
abbrev S8x1024 : Shape := ⟨2, ![8, 1024]⟩
abbrev S4096x3072 : Shape := ⟨2, ![4096, 3072]⟩
abbrev S4096x1024 : Shape := ⟨2, ![4096, 1024]⟩
abbrev S2048x256 : Shape := ⟨2, ![2048, 256]⟩
abbrev S8x256 : Shape := ⟨2, ![8, 256]⟩
abbrev S2048x1 : Shape := ⟨2, ![2048, 1]⟩
abbrev S1x256 : Shape := ⟨2, ![1, 256]⟩

abbrev nBuf : Space → Nat
  | .hbm => 9
  | .vmem => 10
  | .smem => 0
  | _ => 0

abbrev bufTy : (tb : Table) → Fin (tcTables nBuf tb) → BufTy
  | .hbm, ⟨0, _⟩ => ⟨S2x2048x3072, .bf16⟩
  | .hbm, ⟨1, _⟩ => ⟨S1x3x1024, .f32⟩
  | .hbm, ⟨2, _⟩ => ⟨S3x1024, .f32⟩
  | .hbm, ⟨3, _⟩ => ⟨S_, .i32⟩
  | .hbm, ⟨4, _⟩ => ⟨S_, .f32⟩
  | .hbm, ⟨5, _⟩ => ⟨S16x1024, .f32⟩
  | .hbm, ⟨6, _⟩ => ⟨S8x1024, .f32⟩
  | .hbm, ⟨7, _⟩ => ⟨S4096x3072, .bf16⟩
  | .hbm, ⟨8, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S8x256, .f32⟩
  | .local _ .vmem, ⟨7, _⟩ => ⟨S8x256, .f32⟩
  | .local _ .vmem, ⟨8, _⟩ => ⟨S2048x256, .bf16⟩
  | .local _ .vmem, ⟨9, _⟩ => ⟨S2048x256, .bf16⟩
  | _, _ => ⟨S2x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CfwdReferenceIdeal.lean ====
abbrev S2x2048x3072 : Shape := ⟨3, ![2, 2048, 3072]⟩
abbrev S1x3x1024 : Shape := ⟨3, ![1, 3, 1024]⟩
abbrev S2x2048x1024 : Shape := ⟨3, ![2, 2048, 1024]⟩
abbrev S3x1024 : Shape := ⟨2, ![3, 1024]⟩
abbrev S2x2x1024 : Shape := ⟨3, ![2, 2, 1024]⟩
abbrev S_ : Shape := ⟨0, ![]⟩
abbrev S2x2050x1024 : Shape := ⟨3, ![2, 2050, 1024]⟩
abbrev S1x1024 : Shape := ⟨2, ![1, 1024]⟩
abbrev S1024 : Shape := ⟨1, ![1024]⟩
abbrev S1x1x1024 : Shape := ⟨3, ![1, 1, 1024]⟩
abbrev S4096x1024 : Shape := ⟨2, ![4096, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x3072, .bf16⟩
  | .hbm, ⟨1, _⟩ => ⟨S1x3x1024, .f32⟩
  | .hbm, ⟨2, _⟩ => ⟨S2x2048x3072, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S3x1024, .f32⟩
  | .hbm, ⟨7, _⟩ => ⟨S2x2048x1024, .f32⟩
  | .hbm, ⟨8, _⟩ => ⟨S2x2x1024, .f32⟩
  | .hbm, ⟨9, _⟩ => ⟨S_, .f32⟩
  | .hbm, ⟨10, _⟩ => ⟨S2x2x1024, .f32⟩
  | .hbm, ⟨11, _⟩ => ⟨S2x2050x1024, .f32⟩
  | .hbm, ⟨12, _⟩ => ⟨S1x1024, .f32⟩
  | .hbm, ⟨13, _⟩ => ⟨S1024, .f32⟩
  | .hbm, ⟨14, _⟩ => ⟨S2x2048x1024, .f32⟩
  | .hbm, ⟨15, _⟩ => ⟨S1x1x1024, .f32⟩
  | .hbm, ⟨16, _⟩ => ⟨S2x2048x1024, .f32⟩
  | .hbm, ⟨17, _⟩ => ⟨S2x2048x1024, .f32⟩
  | .hbm, ⟨18, _⟩ => ⟨S1x1024, .f32⟩
  | .hbm, ⟨19, _⟩ => ⟨S1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S1x1024, .f32⟩
  | .hbm, ⟨26, _⟩ => ⟨S1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S4096x1024, .f32⟩
  | .hbm, ⟨34, _⟩ => ⟨S4096x1024, .bf16⟩
  | _, _ => ⟨S2x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== ForgetKernel.lean ====
abbrev S2x2048x16 : Shape := ⟨3, ![2, 2048, 16]⟩
abbrev S16 : Shape := ⟨1, ![16]⟩
abbrev S2x16x2048 : Shape := ⟨3, ![2, 16, 2048]⟩
abbrev S4096x16 : Shape := ⟨2, ![4096, 16]⟩
abbrev S_ : Shape := ⟨0, ![]⟩
abbrev S4096x128 : Shape := ⟨2, ![4096, 128]⟩
abbrev S128 : Shape := ⟨1, ![128]⟩
abbrev S1x128 : Shape := ⟨2, ![1, 128]⟩
abbrev S2x2048x128 : Shape := ⟨3, ![2, 2048, 128]⟩
abbrev S2048x128 : Shape := ⟨2, ![2048, 128]⟩
abbrev S2048x1 : Shape := ⟨2, ![2048, 1]⟩

abbrev nBuf : Space → Nat
  | .hbm => 18
  | .vmem => 8
  | .smem => 0
  | _ => 0

abbrev bufTy : (tb : Table) → Fin (tcTables nBuf tb) → BufTy
  | .hbm, ⟨0, _⟩ => ⟨S2x2048x16, .f32⟩
  | .hbm, ⟨1, _⟩ => ⟨S16, .f32⟩
  | .hbm, ⟨2, _⟩ => ⟨S2x16x2048, .f32⟩
  | .hbm, ⟨3, _⟩ => ⟨S4096x16, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S2x2048x16, .f32⟩
  | .hbm, ⟨12, _⟩ => ⟨S_, .i32⟩
  | .hbm, ⟨13, _⟩ => ⟨S_, .f32⟩
  | .hbm, ⟨14, _⟩ => ⟨S2x2048x128, .f32⟩
  | .hbm, ⟨15, _⟩ => ⟨S4096x128, .f32⟩
  | .hbm, ⟨16, _⟩ => ⟨S4096x128, .bf16⟩
  | .hbm, ⟨17, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | .local _ .vmem, ⟨7, _⟩ => ⟨S1x128, .f32⟩
  | _, _ => ⟨S2x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v105 : BitVec 1 := Scalar.cmpi .eq arg0 c0_i32
  let v106 : BitVec 32 := Scalar.extui v105
  let c0_i32_30 : BitVec 32 := 0#32
  let v107 : BitVec 1 := Scalar.cmpi .ne v106 c0_i32_30
  v107

def k0_cond2 (i : grid0.Coords) : BitVec 1 :=
  let arg0 : BitVec 32 := BitVec.ofNat 32 (i 0).val
  let c0_i32 : BitVec 32 := 0#32
  let v105 : BitVec 1 := Scalar.cmpi .eq arg0 c0_i32
  let v_true : BitVec 1 := 1#1
  let v108 : BitVec 1 := Scalar.xori v105 v_true
  let v109 : BitVec 32 := Scalar.extui v108
  let c0_i32_31 : BitVec 32 := 0#32
  let v110 : BitVec 1 := Scalar.cmpi .ne v109 c0_i32_31
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ForgetReferenceIdeal.lean ====
abbrev S2x2048x16 : Shape := ⟨3, ![2, 2048, 16]⟩
abbrev S16 : Shape := ⟨1, ![16]⟩
abbrev S2x16x2048 : Shape := ⟨3, ![2, 16, 2048]⟩
abbrev S1x1x16 : Shape := ⟨3, ![1, 1, 16]⟩
abbrev S_ : Shape := ⟨0, ![]⟩
abbrev S4096x16 : Shape := ⟨2, ![4096, 16]⟩
abbrev S4096x128 : Shape := ⟨2, ![4096, 128]⟩
abbrev S128 : Shape := ⟨1, ![128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x16, .f32⟩
  | .hbm, ⟨1, _⟩ => ⟨S16, .f32⟩
  | .hbm, ⟨2, _⟩ => ⟨S2x16x2048, .f32⟩
  | .hbm, ⟨3, _⟩ => ⟨S1x1x16, .f32⟩
  | .hbm, ⟨4, _⟩ => ⟨S2x2048x16, .f32⟩
  | .hbm, ⟨5, _⟩ => ⟨S2x2048x16, .f32⟩
  | .hbm, ⟨6, _⟩ => ⟨S2x2048x16, .f32⟩
  | .hbm, ⟨7, _⟩ => ⟨S_, .f32⟩
  | .hbm, ⟨8, _⟩ => ⟨S2x2048x16, .f32⟩
  | .hbm, ⟨9, _⟩ => ⟨S2x2048x16, .f32⟩
  | .hbm, ⟨10, _⟩ => ⟨S2x2048x16, .f32⟩
  | .hbm, ⟨11, _⟩ => ⟨S2x2048x16, .f32⟩
  | .hbm, ⟨12, _⟩ => ⟨S2x2048x16, .i1⟩
  | .hbm, ⟨13, _⟩ => ⟨S2x2048x16, .f32⟩
  | .hbm, ⟨14, _⟩ => ⟨S2x2048x16, .f32⟩
  | .hbm, ⟨15, _⟩ => ⟨S2x2048x16, .f32⟩
  | .hbm, ⟨16, _⟩ => ⟨S2x2048x16, .f32⟩
  | .hbm, ⟨17, _⟩ => ⟨S2x2048x16, .f32⟩
  | .hbm, ⟨18, _⟩ => ⟨S2x2048x16, .f32⟩
  | .hbm, ⟨19, _⟩ => ⟨S2x2048x16, .f32⟩
  | .hbm, ⟨20, _⟩ => ⟨S2x2048x16, .f32⟩
  | .hbm, ⟨21, _⟩ => ⟨S_, .f32⟩
  | .hbm, ⟨22, _⟩ => ⟨S2x2048x16, .f32⟩
  | .hbm, ⟨23, _⟩ => ⟨S2x2048x16, .i1⟩
  | .hbm, ⟨24, _⟩ => ⟨S_, .f32⟩
  | .hbm, ⟨25, _⟩ => ⟨S2x2048x16, .f32⟩
  | .hbm, ⟨26, _⟩ => ⟨S2x2048x16, .f32⟩
  | .hbm, ⟨27, _⟩ => ⟨S_, .f32⟩
  | .hbm, ⟨28, _⟩ => ⟨S2x2048x16, .f32⟩
  | .hbm, ⟨29, _⟩ => ⟨S2x2048x16, .i1⟩
  | .hbm, ⟨30, _⟩ => ⟨S_, .f32⟩
  | .hbm, ⟨31, _⟩ => ⟨S2x2048x16, .f32⟩
  | .hbm, ⟨32, _⟩ => ⟨S2x2048x16, .f32⟩
  | .hbm, ⟨33, _⟩ => ⟨S2x2048x16, .f32⟩
  | .hbm, ⟨34, _⟩ => ⟨S2x2048x16, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2x2048x16, .f32⟩
  | .hbm, ⟨43, _⟩ => ⟨S2x2048x16, .i1⟩
  | .hbm, ⟨44, _⟩ => ⟨S_, .f32⟩
  | .hbm, ⟨45, _⟩ => ⟨S2x2048x16, .f32⟩
  | .hbm, ⟨46, _⟩ => ⟨S2x2048x16, .f32⟩
  | .hbm, ⟨47, _⟩ => ⟨S2x2048x16, .f32⟩
  | .hbm, ⟨48, _⟩ => ⟨S2x2048x16, .f32⟩
  | .hbm, ⟨49, _⟩ => ⟨S2x2048x16, .f32⟩
  | .hbm, ⟨50, _⟩ => ⟨S_, .f32⟩
  | .hbm, ⟨51, _⟩ => ⟨S2x2048x16, .f32⟩
  | .hbm, ⟨52, _⟩ => ⟨S2x2048x16, .f32⟩
  | .hbm, ⟨53, _⟩ => ⟨S2x2048x16, .f32⟩
  | .hbm, ⟨54, _⟩ => ⟨S_, .f32⟩
  | .hbm, ⟨55, _⟩ => ⟨S_, .f32⟩
  | .hbm, ⟨56, _⟩ => ⟨S2x2048x16, .f32⟩
  | .hbm, ⟨57, _⟩ => ⟨S2x16x2048, .f32⟩
  | .hbm, ⟨58, _⟩ => ⟨S2x2048x16, .f32⟩
  | .hbm, ⟨59, _⟩ => ⟨S_, .f32⟩
  | .hbm, ⟨60, _⟩ => ⟨S_, .f32⟩
  | .hbm, ⟨61, _⟩ => ⟨S2x2048x16, .f32⟩
  | .hbm, ⟨62, _⟩ => ⟨S2x2048x16, .f32⟩
  | .hbm, ⟨63, _⟩ => ⟨S2x2048x16, .f32⟩
  | .hbm, ⟨64, _⟩ => ⟨S2x2048x16, .f32⟩
  | .hbm, ⟨65, _⟩ => ⟨S_, .f32⟩
  | .hbm, ⟨66, _⟩ => ⟨S16, .f32⟩
  | .hbm, ⟨67, _⟩ => ⟨S1x1x16, .f32⟩
  | .hbm, ⟨68, _⟩ => ⟨S_, .f32⟩
  | .hbm, ⟨69, _⟩ => ⟨S16, .f32⟩
  | .hbm, ⟨70, _⟩ => ⟨S4096x16, .f32⟩
  | .hbm, ⟨71, _⟩ => ⟨S_, .i32⟩
  | .hbm, ⟨72, _⟩ => ⟨S_, .f32⟩
  | .hbm, ⟨73, _⟩ => ⟨S4096x128, .f32⟩
  | .hbm, ⟨74, _⟩ => ⟨S4096x128, .bf16⟩
  | .hbm, ⟨75, _⟩ => ⟨S_, .i32⟩
  | .hbm, ⟨76, _⟩ => ⟨S_, .f32⟩
  | .hbm, ⟨77, _⟩ => ⟨S128, .f32⟩
  | .hbm, ⟨78, _⟩ => ⟨S1x128, .f32⟩
  | _, _ => ⟨S2x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_call2_call0_cst : Ref sig .tc := ⟨.hbm, 59, rfl⟩
abbrev main_call2_call0_v0 : Ref sig .tc := ⟨.hbm, 60, rfl⟩
abbrev main_v7 : Ref sig .tc := ⟨.hbm, 61, rfl⟩
abbrev main_call3_v0 : Ref sig .tc := ⟨.hbm, 62, rfl⟩
abbrev main_call3_v1 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_cst_0 : Ref sig .tc := ⟨.hbm, 68, rfl⟩
abbrev main_v11 : Ref sig .tc := ⟨.hbm, 69, rfl⟩
abbrev main_v12 : Ref sig .tc := ⟨.hbm, 70, rfl⟩
abbrev main_c : Ref sig .tc := ⟨.hbm, 71, rfl⟩
abbrev main_call4_v0 : Ref sig .tc := ⟨.hbm, 72, rfl⟩
abbrev main_v13 : Ref sig .tc := ⟨.hbm, 73, rfl⟩
abbrev main_v14 : Ref sig .tc := ⟨.hbm, 74, rfl⟩
abbrev main_c_1 : Ref sig .tc := ⟨.hbm, 75, rfl⟩
abbrev main_call5_v0 : Ref sig .tc := ⟨.hbm, 76, rfl⟩
abbrev main_v15 : Ref sig .tc := ⟨.hbm, 77, rfl⟩
abbrev main_v16 : Ref sig .tc := ⟨.hbm, 78, rfl⟩

abbrev nD : Nat := 1
abbrev τ : Topo := Topo.v7x

variable {F : FTy → Type} [FloatOps F]
-- ==== FfwdKernel.lean ====
abbrev S2x2048x16 : Shape := ⟨3, ![2, 2048, 16]⟩
abbrev S16 : Shape := ⟨1, ![16]⟩
abbrev S4096x16 : Shape := ⟨2, ![4096, 16]⟩
abbrev S_ : Shape := ⟨0, ![]⟩
abbrev S4096x128 : Shape := ⟨2, ![4096, 128]⟩
abbrev S128 : Shape := ⟨1, ![128]⟩
abbrev S1x128 : Shape := ⟨2, ![1, 128]⟩
abbrev S2048x128 : Shape := ⟨2, ![2048, 128]⟩
abbrev S2048x1 : Shape := ⟨2, ![2048, 1]⟩
abbrev S2x2048x128 : Shape := ⟨3, ![2, 2048, 128]⟩
abbrev S2x16x2048 : Shape := ⟨3, ![2, 16, 2048]⟩

abbrev nBuf : Space → Nat
  | .hbm => 14
  | .vmem => 5
  | .smem => 0
  | _ => 0

abbrev bufTy : (tb : Table) → Fin (tcTables nBuf tb) → BufTy
  | .hbm, ⟨0, _⟩ => ⟨S2x2048x16, .f32⟩
  | .hbm, ⟨1, _⟩ => ⟨S16, .f32⟩
  | .hbm, ⟨2, _⟩ => ⟨S4096x16, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S_, .i32⟩
  | .hbm, ⟨7, _⟩ => ⟨S_, .f32⟩
  | .hbm, ⟨8, _⟩ => ⟨S128, .f32⟩
  | .hbm, ⟨9, _⟩ => ⟨S1x128, .f32⟩
  | .hbm, ⟨10, _⟩ => ⟨S4096x128, .f32⟩
  | .hbm, ⟨11, _⟩ => ⟨S2x2048x128, .f32⟩
  | .hbm, ⟨12, _⟩ => ⟨S2x2048x16, .f32⟩
  | .hbm, ⟨13, _⟩ => ⟨S2x16x2048, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | _, _ => ⟨S2x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfwdReferenceIdeal.lean ====
abbrev S2x2048x16 : Shape := ⟨3, ![2, 2048, 16]⟩
abbrev S16 : Shape := ⟨1, ![16]⟩
abbrev S1x1x16 : Shape := ⟨3, ![1, 1, 16]⟩
abbrev S_ : Shape := ⟨0, ![]⟩
abbrev S2x16x2048 : Shape := ⟨3, ![2, 16, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x16, .f32⟩
  | .hbm, ⟨1, _⟩ => ⟨S16, .f32⟩
  | .hbm, ⟨2, _⟩ => ⟨S1x1x16, .f32⟩
  | .hbm, ⟨3, _⟩ => ⟨S2x2048x16, .f32⟩
  | .hbm, ⟨4, _⟩ => ⟨S2x2048x16, .f32⟩
  | .hbm, ⟨5, _⟩ => ⟨S2x2048x16, .f32⟩
  | .hbm, ⟨6, _⟩ => ⟨S_, .f32⟩
  | .hbm, ⟨7, _⟩ => ⟨S2x2048x16, .f32⟩
  | .hbm, ⟨8, _⟩ => ⟨S2x2048x16, .f32⟩
  | .hbm, ⟨9, _⟩ => ⟨S2x2048x16, .f32⟩
  | .hbm, ⟨10, _⟩ => ⟨S2x2048x16, .f32⟩
  | .hbm, ⟨11, _⟩ => ⟨S2x2048x16, .i1⟩
  | .hbm, ⟨12, _⟩ => ⟨S2x2048x16, .f32⟩
  | .hbm, ⟨13, _⟩ => ⟨S2x2048x16, .f32⟩
  | .hbm, ⟨14, _⟩ => ⟨S2x2048x16, .f32⟩
  | .hbm, ⟨15, _⟩ => ⟨S2x2048x16, .f32⟩
  | .hbm, ⟨16, _⟩ => ⟨S2x2048x16, .f32⟩
  | .hbm, ⟨17, _⟩ => ⟨S2x2048x16, .f32⟩
  | .hbm, ⟨18, _⟩ => ⟨S2x2048x16, .f32⟩
  | .hbm, ⟨19, _⟩ => ⟨S2x2048x16, .f32⟩
  | .hbm, ⟨20, _⟩ => ⟨S2x2048x16, .f32⟩
  | .hbm, ⟨21, _⟩ => ⟨S_, .f32⟩
  | .hbm, ⟨22, _⟩ => ⟨S_, .f32⟩
  | .hbm, ⟨23, _⟩ => ⟨S2x2048x16, .f32⟩
  | .hbm, ⟨24, _⟩ => ⟨S2x16x2048, .f32⟩
  | _, _ => ⟨S2x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_call1_call0_cst : Ref sig .tc := ⟨.hbm, 21, rfl⟩
abbrev main_call1_call0_v0 : Ref sig .tc := ⟨.hbm, 22, rfl⟩
abbrev main_v4 : Ref sig .tc := ⟨.hbm, 23, rfl⟩
abbrev main_v5 : Ref sig .tc := ⟨.hbm, 24, rfl⟩

abbrev nD : Nat := 1
abbrev τ : Topo := Topo.v7x

variable {F : FTy → Type} [FloatOps F]
-- ==== AttnKernel.lean ====
abbrev S2x2048x2048 : Shape := ⟨3, ![2, 2048, 2048]⟩
abbrev S2x16x2048 : Shape := ⟨3, ![2, 16, 2048]⟩
abbrev S2x2048x1024 : Shape := ⟨3, ![2, 2048, 1024]⟩
abbrev S4096x2048 : Shape := ⟨2, ![4096, 2048]⟩
abbrev S4096x1024 : Shape := ⟨2, ![4096, 1024]⟩
abbrev S2x16x2048x1 : Shape := ⟨4, ![2, 16, 2048, 1]⟩
abbrev S2x16x2048x128 : Shape := ⟨4, ![2, 16, 2048, 128]⟩
abbrev S2x16x4x1x512 : Shape := ⟨5, ![2, 16, 4, 1, 512]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x1x2048 : Shape := ⟨4, ![2, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S512x128 : Shape := ⟨2, ![512, 128]⟩
abbrev S2048x128 : Shape := ⟨2, ![2048, 128]⟩
abbrev S1x2x512x128 : Shape := ⟨4, ![1, 2, 512, 128]⟩
abbrev S1x2x4x1x512 : Shape := ⟨5, ![1, 2, 4, 1, 512]⟩
abbrev S2x4x512x512 : Shape := ⟨4, ![2, 4, 512, 512]⟩
abbrev S2x4x1x512 : Shape := ⟨4, ![2, 4, 1, 512]⟩
abbrev S1x128 : Shape := ⟨2, ![1, 128]⟩
abbrev S1x1x512x128 : Shape := ⟨4, ![1, 1, 512, 128]⟩
abbrev S512x1 : Shape := ⟨2, ![512, 1]⟩
abbrev S1x512 : Shape := ⟨2, ![1, 512]⟩
abbrev S512x512 : Shape := ⟨2, ![512, 512]⟩
abbrev S1x1x1x1x512 : Shape := ⟨5, ![1, 1, 1, 1, 512]⟩
abbrev S1x1x512x512 : Shape := ⟨4, ![1, 1, 512, 512]⟩
abbrev S512 : Shape := ⟨1, ![512]⟩

abbrev nBuf : Space → Nat
  | .hbm => 55
  | .vmem => 26
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2x16x2048, .f32⟩
  | .hbm, ⟨3, _⟩ => ⟨S2x2048x1024, .bf16⟩
  | .hbm, ⟨4, _⟩ => ⟨S4096x2048, .bf16⟩
  | .hbm, ⟨5, _⟩ => ⟨S4096x2048, .bf16⟩
  | .hbm, ⟨6, _⟩ => ⟨S4096x1024, .bf16⟩
  | .hbm, ⟨7, _⟩ => ⟨S2x16x2048x1, .f32⟩
  | .hbm, ⟨8, _⟩ => ⟨S2x16x2048x128, .f32⟩
  | .hbm, ⟨9, _⟩ => ⟨S2x16x4x1x512, .f32⟩
  | .hbm, ⟨10, _⟩ => ⟨S2x2048x1024, .bf16⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x1024, .bf16⟩
  | .hbm, ⟨15, _⟩ => ⟨S2x2048x1024, .f32⟩
  | .hbm, ⟨16, _⟩ => ⟨S2x2048x16x64, .f32⟩
  | .hbm, ⟨17, _⟩ => ⟨S2x16x2048x64, .f32⟩
  | .hbm, ⟨18, _⟩ => ⟨S2x16x2048x2048, .f32⟩
  | .hbm, ⟨19, _⟩ => ⟨S_, .f32⟩
  | .hbm, ⟨20, _⟩ => ⟨S2x16x2048x2048, .f32⟩
  | .hbm, ⟨21, _⟩ => ⟨S2x16x2048x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x1x2048, .f32⟩
  | .hbm, ⟨26, _⟩ => ⟨S2x16x2048x2048, .f32⟩
  | .hbm, ⟨27, _⟩ => ⟨S2x16x2048x2048, .f32⟩
  | .hbm, ⟨28, _⟩ => ⟨S2048, .i32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S2x16x2048x2048, .i1⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048, .f32⟩
  | .hbm, ⟨47, _⟩ => ⟨S2x16x2048, .f32⟩
  | .hbm, ⟨48, _⟩ => ⟨S2x16x2048, .f32⟩
  | .hbm, ⟨49, _⟩ => ⟨S2x16x2048x1, .f32⟩
  | .hbm, ⟨50, _⟩ => ⟨S2x16x2048x128, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S2x16x4x1x512, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S512x128, .bf16⟩
  | .local _ .vmem, ⟨9, _⟩ => ⟨S512x128, .bf16⟩
  | .local _ .vmem, ⟨10, _⟩ => ⟨S1x2x512x128, .f32⟩
  | .local _ .vmem, ⟨11, _⟩ => ⟨S1x2x512x128, .f32⟩
  | .local _ .vmem, ⟨12, _⟩ => ⟨S1x2x512x128, .f32⟩
  | .local _ .vmem, ⟨13, _⟩ => ⟨S1x2x512x128, .f32⟩
  | .local _ .vmem, ⟨14, _⟩ => ⟨S1x2x4x1x512, .f32⟩
  | .local _ .vmem, ⟨15, _⟩ => ⟨S1x2x4x1x512, .f32⟩
  | .local _ .vmem, ⟨16, _⟩ => ⟨S512x128, .f32⟩
  | .local _ .vmem, ⟨17, _⟩ => ⟨S512x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S1x2x4x1x512, .f32⟩
  | .local _ .vmem, ⟨23, _⟩ => ⟨S1x2x4x1x512, .f32⟩
  | .local _ .vmem, ⟨24, _⟩ => ⟨S2x4x512x512, .f32⟩
  | .local _ .vmem, ⟨25, _⟩ => ⟨S2x4x512x512, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40_0 : Ref sig .tc := ⟨.hbm, 51, rfl⟩
abbrev main_v40_1 : Ref sig .tc := ⟨.hbm, 52, rfl⟩
abbrev main_v40_2 : Ref sig .tc := ⟨.hbm, 53, rfl⟩
abbrev main_v40_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 8, 4], ![false, false, false]⟩

@[reducible] def k0_t1_loop (i : grid0.Coords) : Scf.Loop 32 :=
  let c0_i32_25 : BitVec 32 := 0#32
  let arg2 : BitVec 32 := BitVec.ofNat 32 (i 2).val
  let v64 : BitVec 32 := Scalar.subi arg2 c0_i32_25
  let c1_i32 : BitVec 32 := 1#32
  let v66 : BitVec 32 := Scalar.divsi v64 c1_i32
  let v67 : BitVec 32 := Scalar.muli v66 c1_i32
  let v68 : BitVec 32 := Scalar.addi c0_i32_25 v67
  let c1_i32_26 : BitVec 32 := 1#32
  ⟨c0_i32_25, v68, c1_i32_26⟩
def k0_mult1 (i : grid0.Coords) (k0_t1 : Fin (k0_t1_loop i).trips) : BitVec 32 :=
  let c0_i32_25 : BitVec 32 := 0#32
  let c1_i32_26 : BitVec 32 := 1#32
  let arg17 : BitVec 32 := Scf.iv c0_i32_25 c1_i32_26 k0_t1
  let c512_i32_70 : BitVec 32 := 512#32
  let v152 : BitVec 32 := Scalar.muli arg17 c512_i32_70
  v152
def k0_off1 (i : grid0.Coords) (k0_t1 : Fin (k0_t1_loop i).trips) : Fin 2 → Nat :=
  let c0_i32_25 : BitVec 32 := 0#32
  let c1_i32_26 : BitVec 32 := 1#32
  let arg17 : BitVec 32 := Scf.iv c0_i32_25 c1_i32_26 k0_t1
  let c512_i32_70 : BitVec 32 := 512#32
  let v152 : BitVec 32 := Scalar.muli arg17 c512_i32_70
  let v153 : BitVec 32 := v152
  let v154 : Index := Scalar.indexCast v153
  let c0_71 : Index := 0#32
  ![v154.toNat, 0]
def k0_off2 (i : grid0.Coords) (k0_t1 : Fin (k0_t1_loop i).trips) : Fin 5 → Nat :=
  let c0_74 : Index := 0#32
  let c0_75 : Index := 0#32
  let c0_i32_25 : BitVec 32 := 0#32
  let c1_i32_26 : BitVec 32 := 1#32
  let arg17 : BitVec 32 := Scf.iv c0_i32_25 c1_i32_26 k0_t1
  let v163 : Index := Scalar.indexCast arg17
  let c0_76 : Index := 0#32
  let c0_77 : Index := 0#32
  ![0, 0, v163.toNat, 0, 0]
def k0_off3 (i : grid0.Coords) (k0_t1 : Fin (k0_t1_loop i).trips) : Fin 4 → Nat :=
  let c0_79 : Index := 0#32
  let c0_i32_25 : BitVec 32 := 0#32
  let c1_i32_26 : BitVec 32 := 1#32
  let arg17 : BitVec 32 := Scf.iv c0_i32_25 c1_i32_26 k0_t1
  let v172 : Index := Scalar.indexCast arg17
  let c0_80 : Index := 0#32
  let c0_81 : Index := 0#32
  ![0, v172.toNat, 0, 0]
def k0_off4 (i : grid0.Coords) (k0_t1 : Fin (k0_t1_loop i).trips) : Fin 5 → Nat :=
  let c0_88 : Index := 0#32
  let c1_89 : Index := 1#32
  let c0_i32_25 : BitVec 32 := 0#32
  let c1_i32_26 : BitVec 32 := 1#32
  let arg17 : BitVec 32 := Scf.iv c0_i32_25 c1_i32_26 k0_t1
  let v189 : Index := Scalar.indexCast arg17
  let c0_90 : Index := 0#32
  let c0_91 : Index := 0#32
  ![0, 1, v189.toNat, 0, 0]
def k0_off5 (i : grid0.Coords) (k0_t1 : Fin (k0_t1_loop i).trips) : Fin 4 → Nat :=
  let c1_93 : Index := 1#32
  let c0_i32_25 : BitVec 32 := 0#32
  let c1_i32_26 : BitVec 32 := 1#32
  let arg17 : BitVec 32 := Scf.iv c0_i32_25 c1_i32_26 k0_t1
  let v198 : Index := Scalar.indexCast arg17
  let c0_94 : Index := 0#32
  let c0_95 : Index := 0#32
  ![1, v198.toNat, 0, 0]
@[reducible] def k0_t2_loop (i : grid0.Coords) : Scf.Loop 32 :=
  let c0_i32_25 : BitVec 32 := 0#32
  let arg2 : BitVec 32 := BitVec.ofNat 32 (i 2).val
  let v64 : BitVec 32 := Scalar.subi arg2 c0_i32_25
  let c1_i32 : BitVec 32 := 1#32
  let v66 : BitVec 32 := Scalar.divsi v64 c1_i32
  let v67 : BitVec 32 := Scalar.muli v66 c1_i32
  let v68 : BitVec 32 := Scalar.addi c0_i32_25 v67
  let v65 : BitVec 32 := Scalar.addi c0_i32_25 v64
  let c1_i32_27 : BitVec 32 := 1#32
  ⟨v68, v65, c1_i32_27⟩
def k0_mult2 (i : grid0.Coords) (k0_t2 : Fin (k0_t2_loop i).trips) : BitVec 32 :=
  let c0_i32_25 : BitVec 32 := 0#32
  let arg2 : BitVec 32 := BitVec.ofNat 32 (i 2).val
  let v64 : BitVec 32 := Scalar.subi arg2 c0_i32_25
  let c1_i32 : BitVec 32 := 1#32
  let v66 : BitVec 32 := Scalar.divsi v64 c1_i32
  let v67 : BitVec 32 := Scalar.muli v66 c1_i32
  let v68 : BitVec 32 := Scalar.addi c0_i32_25 v67
  let c1_i32_27 : BitVec 32 := 1#32
  let arg17 : BitVec 32 := Scf.iv v68 c1_i32_27 k0_t2
  let c512_i32_70 : BitVec 32 := 512#32
  let v152 : BitVec 32 := Scalar.muli arg17 c512_i32_70
  v152
def k0_off6 (i : grid0.Coords) (k0_t2 : Fin (k0_t2_loop i).trips) : Fin 2 → Nat :=
  let c0_i32_25 : BitVec 32 := 0#32
  let arg2 : BitVec 32 := BitVec.ofNat 32 (i 2).val
  let v64 : BitVec 32 := Scalar.subi arg2 c0_i32_25
  let c1_i32 : BitVec 32 := 1#32
  let v66 : BitVec 32 := Scalar.divsi v64 c1_i32
  let v67 : BitVec 32 := Scalar.muli v66 c1_i32
  let v68 : BitVec 32 := Scalar.addi c0_i32_25 v67
  let c1_i32_27 : BitVec 32 := 1#32
  let arg17 : BitVec 32 := Scf.iv v68 c1_i32_27 k0_t2
  let c512_i32_70 : BitVec 32 := 512#32
  let v152 : BitVec 32 := Scalar.muli arg17 c512_i32_70
  let v153 : BitVec 32 := v152
  let v154 : Index := Scalar.indexCast v153
  let c0_71 : Index := 0#32
  ![v154.toNat, 0]
def k0_off7 (i : grid0.Coords) (k0_t2 : Fin (k0_t2_loop i).trips) : Fin 5 → Nat :=
  let c0_74 : Index := 0#32
  let c0_75 : Index := 0#32
  let c0_i32_25 : BitVec 32 := 0#32
  let arg2 : BitVec 32 := BitVec.ofNat 32 (i 2).val
  let v64 : BitVec 32 := Scalar.subi arg2 c0_i32_25
  let c1_i32 : BitVec 32 := 1#32
  let v66 : BitVec 32 := Scalar.divsi v64 c1_i32
  let v67 : BitVec 32 := Scalar.muli v66 c1_i32
  let v68 : BitVec 32 := Scalar.addi c0_i32_25 v67
  let c1_i32_27 : BitVec 32 := 1#32
  let arg17 : BitVec 32 := Scf.iv v68 c1_i32_27 k0_t2
  let v163 : Index := Scalar.indexCast arg17
  let c0_76 : Index := 0#32
  let c0_77 : Index := 0#32
  ![0, 0, v163.toNat, 0, 0]
def k0_off8 (i : grid0.Coords) (k0_t2 : Fin (k0_t2_loop i).trips) : Fin 4 → Nat :=
  let c0_79 : Index := 0#32
  let c0_i32_25 : BitVec 32 := 0#32
  let arg2 : BitVec 32 := BitVec.ofNat 32 (i 2).val
  let v64 : BitVec 32 := Scalar.subi arg2 c0_i32_25
  let c1_i32 : BitVec 32 := 1#32
  let v66 : BitVec 32 := Scalar.divsi v64 c1_i32
  let v67 : BitVec 32 := Scalar.muli v66 c1_i32
  let v68 : BitVec 32 := Scalar.addi c0_i32_25 v67
  let c1_i32_27 : BitVec 32 := 1#32
  let arg17 : BitVec 32 := Scf.iv v68 c1_i32_27 k0_t2
  let v172 : Index := Scalar.indexCast arg17
  let c0_80 : Index := 0#32
  let c0_81 : Index := 0#32
  ![0, v172.toNat, 0, 0]
def k0_off9 (i : grid0.Coords) (k0_t2 : Fin (k0_t2_loop i).trips) : Fin 5 → Nat :=
  let c0_88 : Index := 0#32
  let c1_89 : Index := 1#32
  let c0_i32_25 : BitVec 32 := 0#32
  let arg2 : BitVec 32 := BitVec.ofNat 32 (i 2).val
  let v64 : BitVec 32 := Scalar.subi arg2 c0_i32_25
  let c1_i32 : BitVec 32 := 1#32
  let v66 : BitVec 32 := Scalar.divsi v64 c1_i32
  let v67 : BitVec 32 := Scalar.muli v66 c1_i32
  let v68 : BitVec 32 := Scalar.addi c0_i32_25 v67
  let c1_i32_27 : BitVec 32 := 1#32
  let arg17 : BitVec 32 := Scf.iv v68 c1_i32_27 k0_t2
  let v189 : Index := Scalar.indexCast arg17
  let c0_90 : Index := 0#32
  let c0_91 : Index := 0#32
  ![0, 1, v189.toNat, 0, 0]
def k0_off10 (i : grid0.Coords) (k0_t2 : Fin (k0_t2_loop i).trips) : Fin 4 → Nat :=
  let c1_93 : Index := 1#32
  let c0_i32_25 : BitVec 32 := 0#32
  let arg2 : BitVec 32 := BitVec.ofNat 32 (i 2).val
  let v64 : BitVec 32 := Scalar.subi arg2 c0_i32_25
  let c1_i32 : BitVec 32 := 1#32
  let v66 : BitVec 32 := Scalar.divsi v64 c1_i32
  let v67 : BitVec 32 := Scalar.muli v66 c1_i32
  let v68 : BitVec 32 := Scalar.addi c0_i32_25 v67
  let c1_i32_27 : BitVec 32 := 1#32
  let arg17 : BitVec 32 := Scf.iv v68 c1_i32_27 k0_t2
  let v198 : Index := Scalar.indexCast arg17
  let c0_94 : Index := 0#32
  let c0_95 : Index := 0#32
  ![1, v198.toNat, 0, 0]
def k0_mult3 (i : grid0.Coords) : BitVec 32 :=
  let arg2 : BitVec 32 := BitVec.ofNat 32 (i 2).val
  let c512_i32 : BitVec 32 := 512#32
  let v71 : BitVec 32 := Scalar.muli arg2 c512_i32
  v71
def k0_off11 (i : grid0.Coords) : Fin 2 → Nat :=
  let arg2 : BitVec 32 := BitVec.ofNat 32 (i 2).val
  let c512_i32 : BitVec 32 := 512#32
  let v71 : BitVec 32 := Scalar.muli arg2 c512_i32
  let v72 : BitVec 32 := v71
  let v73 : Index := Scalar.indexCast v72
  let c0_28 : Index := 0#32
  ![v73.toNat, 0]
def k0_off12 (i : grid0.Coords) : Fin 5 → Nat :=
  let c0_31 : Index := 0#32
  let c0_32 : Index := 0#32
  let arg2 : BitVec 32 := BitVec.ofNat 32 (i 2).val
  let v82 : Index := Scalar.indexCast arg2
  let c0_33 : Index := 0#32
  let c0_34 : Index := 0#32
  ![0, 0, v82.toNat, 0, 0]
def k0_off13 (i : grid0.Coords) : Fin 4 → Nat :=
  let c0_37 : Index := 0#32
  let arg2 : BitVec 32 := BitVec.ofNat 32 (i 2).val
  let v93 : Index := Scalar.indexCast arg2
  let c0_38 : Index := 0#32
  let c0_39 : Index := 0#32
  ![0, v93.toNat, 0, 0]
def k0_off14 (i : grid0.Coords) : Fin 5 → Nat :=
  let c0_46 : Index := 0#32
  let c1_47 : Index := 1#32
  let arg2 : BitVec 32 := BitVec.ofNat 32 (i 2).val
  let v110 : Index := Scalar.indexCast arg2
  let c0_48 : Index := 0#32
  let c0_49 : Index := 0#32
  ![0, 1, v110.toNat, 0, 0]
def k0_off15 (i : grid0.Coords) : Fin 4 → Nat :=
  let c1_52 : Index := 1#32
  let arg2 : BitVec 32 := BitVec.ofNat 32 (i 2).val
  let v121 : Index := Scalar.indexCast arg2
  let c0_53 : Index := 0#32
  let c0_54 : Index := 0#32
  ![1, v121.toNat, 0, 0]
@[reducible] def k0_t3_loop (i : grid0.Coords) : Scf.Loop 32 :=
  let c0_i32_64 : BitVec 32 := 0#32
  let arg2 : BitVec 32 := BitVec.ofNat 32 (i 2).val
  let c1_i32_62 : BitVec 32 := 1#32
  let v142 : BitVec 32 := Scalar.addi arg2 c1_i32_62
  let v144 : BitVec 32 := Scalar.subi v142 c0_i32_64
  let c1_i32_65 : BitVec 32 := 1#32
  let v146 : BitVec 32 := Scalar.divsi v144 c1_i32_65
  let v147 : BitVec 32 := Scalar.muli v146 c1_i32_65
  let v148 : BitVec 32 := Scalar.addi c0_i32_64 v147
  let c1_i32_66 : BitVec 32 := 1#32
  ⟨c0_i32_64, v148, c1_i32_66⟩
def k0_mult4 (i : grid0.Coords) (k0_t3 : Fin (k0_t3_loop i).trips) : BitVec 32 :=
  let c0_i32_64 : BitVec 32 := 0#32
  let c1_i32_66 : BitVec 32 := 1#32
  let arg17 : BitVec 32 := Scf.iv c0_i32_64 c1_i32_66 k0_t3
  let c512_i32_70 : BitVec 32 := 512#32
  let v152 : BitVec 32 := Scalar.muli arg17 c512_i32_70
  v152
def k0_off16 (i : grid0.Coords) (k0_t3 : Fin (k0_t3_loop i).trips) : Fin 2 → Nat :=
  let c0_i32_64 : BitVec 32 := 0#32
  let c1_i32_66 : BitVec 32 := 1#32
  let arg17 : BitVec 32 := Scf.iv c0_i32_64 c1_i32_66 k0_t3
  let c512_i32_70 : BitVec 32 := 512#32
  let v152 : BitVec 32 := Scalar.muli arg17 c512_i32_70
  let v153 : BitVec 32 := v152
  let v154 : Index := Scalar.indexCast v153
  let c0_71 : Index := 0#32
  ![v154.toNat, 0]
def k0_off17 (i : grid0.Coords) (k0_t3 : Fin (k0_t3_loop i).trips) : Fin 4 → Nat :=
  let c0_72 : Index := 0#32
  let c0_i32_64 : BitVec 32 := 0#32
  let c1_i32_66 : BitVec 32 := 1#32
  let arg17 : BitVec 32 := Scf.iv c0_i32_64 c1_i32_66 k0_t3
  let v157 : Index := Scalar.indexCast arg17
  let c0_73 : Index := 0#32
  let c0_74 : Index := 0#32
  ![0, v157.toNat, 0, 0]
def k0_off18 (i : grid0.Coords) (k0_t3 : Fin (k0_t3_loop i).trips) : Fin 5 → Nat :=
  let c0_78 : Index := 0#32
  let c0_79 : Index := 0#32
  let c0_i32_64 : BitVec 32 := 0#32
  let c1_i32_66 : BitVec 32 := 1#32
  let arg17 : BitVec 32 := Scf.iv c0_i32_64 c1_i32_66 k0_t3
  let v166 : Index := Scalar.indexCast arg17
  let c0_80 : Index := 0#32
  let c0_81 : Index := 0#32
  ![0, 0, v166.toNat, 0, 0]
def k0_off19 (i : grid0.Coords) (k0_t3 : Fin (k0_t3_loop i).trips) : Fin 4 → Nat :=
  let c1_90 : Index := 1#32
  let c0_i32_64 : BitVec 32 := 0#32
  let c1_i32_66 : BitVec 32 := 1#32
  let arg17 : BitVec 32 := Scf.iv c0_i32_64 c1_i32_66 k0_t3
  let v185 : Index := Scalar.indexCast arg17
  let c0_91 : Index := 0#32
  let c0_92 : Index := 0#32
  ![1, v185.toNat, 0, 0]
def k0_off20 (i : grid0.Coords) (k0_t3 : Fin (k0_t3_loop i).trips) : Fin 5 → Nat :=
  let c0_96 : Index := 0#32
  let c1_97 : Index := 1#32
  let c0_i32_64 : BitVec 32 := 0#32
  let c1_i32_66 : BitVec 32 := 1#32
  let arg17 : BitVec 32 := Scf.iv c0_i32_64 c1_i32_66 k0_t3
  let v194 : Index := Scalar.indexCast arg17
  let c0_98 : Index := 0#32
  let c0_99 : Index := 0#32
  ![0, 1, v194.toNat, 0, 0]
@[reducible] def k0_t4_loop (i : grid0.Coords) : Scf.Loop 32 :=
  let c0_i32_64 : BitVec 32 := 0#32
  let arg2 : BitVec 32 := BitVec.ofNat 32 (i 2).val
  let c1_i32_62 : BitVec 32 := 1#32
  let v142 : BitVec 32 := Scalar.addi arg2 c1_i32_62
  let v144 : BitVec 32 := Scalar.subi v142 c0_i32_64
  let c1_i32_65 : BitVec 32 := 1#32
  let v146 : BitVec 32 := Scalar.divsi v144 c1_i32_65
  let v147 : BitVec 32 := Scalar.muli v146 c1_i32_65
  let v148 : BitVec 32 := Scalar.addi c0_i32_64 v147
  let v145 : BitVec 32 := Scalar.addi c0_i32_64 v144
  let c1_i32_67 : BitVec 32 := 1#32
  ⟨v148, v145, c1_i32_67⟩
def k0_mult5 (i : grid0.Coords) (k0_t4 : Fin (k0_t4_loop i).trips) : BitVec 32 :=
  let c0_i32_64 : BitVec 32 := 0#32
  let arg2 : BitVec 32 := BitVec.ofNat 32 (i 2).val
  let c1_i32_62 : BitVec 32 := 1#32
  let v142 : BitVec 32 := Scalar.addi arg2 c1_i32_62
  let v144 : BitVec 32 := Scalar.subi v142 c0_i32_64
  let c1_i32_65 : BitVec 32 := 1#32
  let v146 : BitVec 32 := Scalar.divsi v144 c1_i32_65
  let v147 : BitVec 32 := Scalar.muli v146 c1_i32_65
  let v148 : BitVec 32 := Scalar.addi c0_i32_64 v147
  let c1_i32_67 : BitVec 32 := 1#32
  let arg17 : BitVec 32 := Scf.iv v148 c1_i32_67 k0_t4
  let c512_i32_70 : BitVec 32 := 512#32
  let v152 : BitVec 32 := Scalar.muli arg17 c512_i32_70
  v152
def k0_off21 (i : grid0.Coords) (k0_t4 : Fin (k0_t4_loop i).trips) : Fin 2 → Nat :=
  let c0_i32_64 : BitVec 32 := 0#32
  let arg2 : BitVec 32 := BitVec.ofNat 32 (i 2).val
  let c1_i32_62 : BitVec 32 := 1#32
  let v142 : BitVec 32 := Scalar.addi arg2 c1_i32_62
  let v144 : BitVec 32 := Scalar.subi v142 c0_i32_64
  let c1_i32_65 : BitVec 32 := 1#32
  let v146 : BitVec 32 := Scalar.divsi v144 c1_i32_65
  let v147 : BitVec 32 := Scalar.muli v146 c1_i32_65
  let v148 : BitVec 32 := Scalar.addi c0_i32_64 v147
  let c1_i32_67 : BitVec 32 := 1#32
  let arg17 : BitVec 32 := Scf.iv v148 c1_i32_67 k0_t4
  let c512_i32_70 : BitVec 32 := 512#32
  let v152 : BitVec 32 := Scalar.muli arg17 c512_i32_70
  let v153 : BitVec 32 := v152
  let v154 : Index := Scalar.indexCast v153
  let c0_71 : Index := 0#32
  ![v154.toNat, 0]
def k0_off22 (i : grid0.Coords) (k0_t4 : Fin (k0_t4_loop i).trips) : Fin 4 → Nat :=
  let c0_72 : Index := 0#32
  let c0_i32_64 : BitVec 32 := 0#32
  let arg2 : BitVec 32 := BitVec.ofNat 32 (i 2).val
  let c1_i32_62 : BitVec 32 := 1#32
  let v142 : BitVec 32 := Scalar.addi arg2 c1_i32_62
  let v144 : BitVec 32 := Scalar.subi v142 c0_i32_64
  let c1_i32_65 : BitVec 32 := 1#32
  let v146 : BitVec 32 := Scalar.divsi v144 c1_i32_65
  let v147 : BitVec 32 := Scalar.muli v146 c1_i32_65
  let v148 : BitVec 32 := Scalar.addi c0_i32_64 v147
  let c1_i32_67 : BitVec 32 := 1#32
  let arg17 : BitVec 32 := Scf.iv v148 c1_i32_67 k0_t4
  let v157 : Index := Scalar.indexCast arg17
  let c0_73 : Index := 0#32
  let c0_74 : Index := 0#32
  ![0, v157.toNat, 0, 0]
def k0_off23 (i : grid0.Coords) (k0_t4 : Fin (k0_t4_loop i).trips) : Fin 5 → Nat :=
  let c0_78 : Index := 0#32
  let c0_79 : Index := 0#32
  let c0_i32_64 : BitVec 32 := 0#32
  let arg2 : BitVec 32 := BitVec.ofNat 32 (i 2).val
  let c1_i32_62 : BitVec 32 := 1#32
  let v142 : BitVec 32 := Scalar.addi arg2 c1_i32_62
  let v144 : BitVec 32 := Scalar.subi v142 c0_i32_64
  let c1_i32_65 : BitVec 32 := 1#32
  let v146 : BitVec 32 := Scalar.divsi v144 c1_i32_65
  let v147 : BitVec 32 := Scalar.muli v146 c1_i32_65
  let v148 : BitVec 32 := Scalar.addi c0_i32_64 v147
  let c1_i32_67 : BitVec 32 := 1#32
  let arg17 : BitVec 32 := Scf.iv v148 c1_i32_67 k0_t4
  let v166 : Index := Scalar.indexCast arg17
  let c0_80 : Index := 0#32
  let c0_81 : Index := 0#32
  ![0, 0, v166.toNat, 0, 0]
def k0_off24 (i : grid0.Coords) (k0_t4 : Fin (k0_t4_loop i).trips) : Fin 4 → Nat :=
  let c1_90 : Index := 1#32
  let c0_i32_64 : BitVec 32 := 0#32
  let arg2 : BitVec 32 := BitVec.ofNat 32 (i 2).val
  let c1_i32_62 : BitVec 32 := 1#32
  let v142 : BitVec 32 := Scalar.addi arg2 c1_i32_62
  let v144 : BitVec 32 := Scalar.subi v142 c0_i32_64
  let c1_i32_65 : BitVec 32 := 1#32
  let v146 : BitVec 32 := Scalar.divsi v144 c1_i32_65
  let v147 : BitVec 32 := Scalar.muli v146 c1_i32_65
  let v148 : BitVec 32 := Scalar.addi c0_i32_64 v147
  let c1_i32_67 : BitVec 32 := 1#32
  let arg17 : BitVec 32 := Scf.iv v148 c1_i32_67 k0_t4
  let v185 : Index := Scalar.indexCast arg17
  let c0_91 : Index := 0#32
  let c0_92 : Index := 0#32
  ![1, v185.toNat, 0, 0]
def k0_off25 (i : grid0.Coords) (k0_t4 : Fin (k0_t4_loop i).trips) : Fin 5 → Nat :=
  let c0_96 : Index := 0#32
  let c1_97 : Index := 1#32
  let c0_i32_64 : BitVec 32 := 0#32
  let arg2 : BitVec 32 := BitVec.ofNat 32 (i 2).val
  let c1_i32_62 : BitVec 32 := 1#32
  let v142 : BitVec 32 := Scalar.addi arg2 c1_i32_62
  let v144 : BitVec 32 := Scalar.subi v142 c0_i32_64
  let c1_i32_65 : BitVec 32 := 1#32
  let v146 : BitVec 32 := Scalar.divsi v144 c1_i32_65
  let v147 : BitVec 32 := Scalar.muli v146 c1_i32_65
  let v148 : BitVec 32 := Scalar.addi c0_i32_64 v147
  let c1_i32_67 : BitVec 32 := 1#32
  let arg17 : BitVec 32 := Scf.iv v148 c1_i32_67 k0_t4
  let v194 : Index := Scalar.indexCast arg17
  let c0_98 : Index := 0#32
  let c0_99 : Index := 0#32
  ![0, 1, v194.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x4x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x2x4x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== AttnReferenceIdeal.lean ====
abbrev S2x2048x2048 : Shape := ⟨3, ![2, 2048, 2048]⟩
abbrev S2x16x2048 : Shape := ⟨3, ![2, 16, 2048]⟩
abbrev S2x2048x1024 : Shape := ⟨3, ![2, 2048, 1024]⟩
abbrev S_ : Shape := ⟨0, ![]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048x1 : Shape := ⟨4, ![2, 16, 2048, 1]⟩
abbrev S2x16x1x2048 : Shape := ⟨4, ![2, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x64x2048 : Shape := ⟨4, ![2, 16, 64, 2048]⟩
abbrev S4096x1024 : Shape := ⟨2, ![4096, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2x16x2048, .f32⟩
  | .hbm, ⟨3, _⟩ => ⟨S2x2048x1024, .bf16⟩
  | .hbm, ⟨4, _⟩ => ⟨S2x2048x2048, .f32⟩
  | .hbm, ⟨5, _⟩ => ⟨S2x2048x1024, .f32⟩
  | .hbm, ⟨6, _⟩ => ⟨S2x2048x1024, .f32⟩
  | .hbm, ⟨7, _⟩ => ⟨S2x2048x2048, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S2x2048x16x64, .f32⟩
  | .hbm, ⟨19, _⟩ => ⟨S2x16x2048x64, .f32⟩
  | .hbm, ⟨20, _⟩ => ⟨S2x2048x16x64, .f32⟩
  | .hbm, ⟨21, _⟩ => ⟨S2x16x2048x64, .f32⟩
  | .hbm, ⟨22, _⟩ => ⟨S2x16x2048x2048, .f32⟩
  | .hbm, ⟨23, _⟩ => ⟨S_, .f32⟩
  | .hbm, ⟨24, _⟩ => ⟨S2x16x2048x2048, .f32⟩
  | .hbm, ⟨25, _⟩ => ⟨S2x16x2048x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x1x2048, .f32⟩
  | .hbm, ⟨30, _⟩ => ⟨S2x16x2048x2048, .f32⟩
  | .hbm, ⟨31, _⟩ => ⟨S2x16x2048x2048, .f32⟩
  | .hbm, ⟨32, _⟩ => ⟨S2048, .i32⟩
  | .hbm, ⟨33, _⟩ => ⟨S1x2048, .i32⟩
  | .hbm, ⟨34, _⟩ => ⟨S2048x1, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S2x16x2048x2048, .i1⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S_, .f32⟩
  | .hbm, ⟨46, _⟩ => ⟨S2x16x2048, .f32⟩
  | .hbm, ⟨47, _⟩ => ⟨S2x16x2048, .f32⟩
  | .hbm, ⟨48, _⟩ => ⟨S2x16x2048x1, .f32⟩
  | .hbm, ⟨49, _⟩ => ⟨S2x16x2048x2048, .f32⟩
  | .hbm, ⟨50, _⟩ => ⟨S2x16x2048x2048, .f32⟩
  | .hbm, ⟨51, _⟩ => ⟨S2x16x2048x2048, .f32⟩
  | .hbm, ⟨52, _⟩ => ⟨S_, .f32⟩
  | .hbm, ⟨53, _⟩ => ⟨S2x16x2048, .f32⟩
  | .hbm, ⟨54, _⟩ => ⟨S2x16x2048x1, .f32⟩
  | .hbm, ⟨55, _⟩ => ⟨S2x16x2048x2048, .f32⟩
  | .hbm, ⟨56, _⟩ => ⟨S2x16x2048x2048, .f32⟩
  | .hbm, ⟨57, _⟩ => ⟨S2x2048x16x64, .f32⟩
  | .hbm, ⟨58, _⟩ => ⟨S2x16x2048x64, .f32⟩
  | .hbm, ⟨59, _⟩ => ⟨S2x16x2048x64, .f32⟩
  | .hbm, ⟨60, _⟩ => ⟨S2x2048x16x64, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S2x2048x16x64, .f32⟩
  | .hbm, ⟨66, _⟩ => ⟨S2x16x2048x64, .f32⟩
  | .hbm, ⟨67, _⟩ => ⟨S2x16x64x2048, .f32⟩
  | .hbm, ⟨68, _⟩ => ⟨S2x16x2048x64, .f32⟩
  | .hbm, ⟨69, _⟩ => ⟨S2x2048x16x64, .f32⟩
  | .hbm, ⟨70, _⟩ => ⟨S2x2048x1024, .f32⟩
  | .hbm, ⟨71, _⟩ => ⟨S4096x1024, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== FwdKernel.lean ====
abbrev S2x2048x2048 : Shape := ⟨3, ![2, 2048, 2048]⟩
abbrev S2x16x2048 : Shape := ⟨3, ![2, 16, 2048]⟩
abbrev S2x16x2048x1 : Shape := ⟨4, ![2, 16, 2048, 1]⟩
abbrev S2x16x2048x128 : Shape := ⟨4, ![2, 16, 2048, 128]⟩
abbrev S2x16x4x1x512 : Shape := ⟨5, ![2, 16, 4, 1, 512]⟩
abbrev S4096x2048 : Shape := ⟨2, ![4096, 2048]⟩
abbrev S4096x1024 : Shape := ⟨2, ![4096, 1024]⟩
abbrev S512x128 : Shape := ⟨2, ![512, 128]⟩
abbrev S2048x128 : Shape := ⟨2, ![2048, 128]⟩
abbrev S1x2x512x128 : Shape := ⟨4, ![1, 2, 512, 128]⟩
abbrev S1x2x4x1x512 : Shape := ⟨5, ![1, 2, 4, 1, 512]⟩
abbrev S1x128 : Shape := ⟨2, ![1, 128]⟩
abbrev S1x1x512x128 : Shape := ⟨4, ![1, 1, 512, 128]⟩
abbrev S512x1 : Shape := ⟨2, ![512, 1]⟩
abbrev S1x512 : Shape := ⟨2, ![1, 512]⟩
abbrev S512x512 : Shape := ⟨2, ![512, 512]⟩
abbrev S1x1x1x1x512 : Shape := ⟨5, ![1, 1, 1, 1, 512]⟩
abbrev S512 : Shape := ⟨1, ![512]⟩

abbrev nBuf : Space → Nat
  | .hbm => 11
  | .vmem => 18
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2x16x2048, .f32⟩
  | .hbm, ⟨3, _⟩ => ⟨S2x16x2048x1, .f32⟩
  | .hbm, ⟨4, _⟩ => ⟨S2x16x2048x128, .f32⟩
  | .hbm, ⟨5, _⟩ => ⟨S2x16x4x1x512, .f32⟩
  | .hbm, ⟨6, _⟩ => ⟨S4096x2048, .bf16⟩
  | .hbm, ⟨7, _⟩ => ⟨S4096x2048, .bf16⟩
  | .hbm, ⟨8, _⟩ => ⟨S4096x1024, .f32⟩
  | .hbm, ⟨9, _⟩ => ⟨S2x16x2048x128, .f32⟩
  | .hbm, ⟨10, _⟩ => ⟨S4096x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2x512x128, .f32⟩
  | .local _ .vmem, ⟨9, _⟩ => ⟨S1x2x512x128, .f32⟩
  | .local _ .vmem, ⟨10, _⟩ => ⟨S1x2x4x1x512, .f32⟩
  | .local _ .vmem, ⟨11, _⟩ => ⟨S1x2x4x1x512, .f32⟩
  | .local _ .vmem, ⟨12, _⟩ => ⟨S512x128, .f32⟩
  | .local _ .vmem, ⟨13, _⟩ => ⟨S512x128, .f32⟩
  | .local _ .vmem, ⟨14, _⟩ => ⟨S1x2x512x128, .f32⟩
  | .local _ .vmem, ⟨15, _⟩ => ⟨S1x2x512x128, .f32⟩
  | .local _ .vmem, ⟨16, _⟩ => ⟨S512x128, .bf16⟩
  | .local _ .vmem, ⟨17, _⟩ => ⟨S512x128, .bf16⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 4], ![false, false, false]⟩

@[reducible] def k0_t1_loop (i : grid0.Coords) : Scf.Loop 32 :=
  let c0_i32_13 : BitVec 32 := 0#32
  let arg2 : BitVec 32 := BitVec.ofNat 32 (i 2).val
  let v42 : BitVec 32 := Scalar.subi arg2 c0_i32_13
  let c1_i32 : BitVec 32 := 1#32
  let v44 : BitVec 32 := Scalar.divsi v42 c1_i32
  let v45 : BitVec 32 := Scalar.muli v44 c1_i32
  let v46 : BitVec 32 := Scalar.addi c0_i32_13 v45
  let c1_i32_14 : BitVec 32 := 1#32
  ⟨c0_i32_13, v46, c1_i32_14⟩
def k0_mult1 (i : grid0.Coords) (k0_t1 : Fin (k0_t1_loop i).trips) : BitVec 32 :=
  let c0_i32_13 : BitVec 32 := 0#32
  let c1_i32_14 : BitVec 32 := 1#32
  let arg12 : BitVec 32 := Scf.iv c0_i32_13 c1_i32_14 k0_t1
  let c512_i32_52 : BitVec 32 := 512#32
  let v146 : BitVec 32 := Scalar.muli arg12 c512_i32_52
  v146
def k0_off1 (i : grid0.Coords) (k0_t1 : Fin (k0_t1_loop i).trips) : Fin 2 → Nat :=
  let c0_i32_13 : BitVec 32 := 0#32
  let c1_i32_14 : BitVec 32 := 1#32
  let arg12 : BitVec 32 := Scf.iv c0_i32_13 c1_i32_14 k0_t1
  let c512_i32_52 : BitVec 32 := 512#32
  let v146 : BitVec 32 := Scalar.muli arg12 c512_i32_52
  let v147 : BitVec 32 := v146
  let v148 : Index := Scalar.indexCast v147
  let c0_53 : Index := 0#32
  ![v148.toNat, 0]
def k0_off2 (i : grid0.Coords) (k0_t1 : Fin (k0_t1_loop i).trips) : Fin 5 → Nat :=
  let c0_56 : Index := 0#32
  let c0_57 : Index := 0#32
  let c0_i32_13 : BitVec 32 := 0#32
  let c1_i32_14 : BitVec 32 := 1#32
  let arg12 : BitVec 32 := Scf.iv c0_i32_13 c1_i32_14 k0_t1
  let v157 : Index := Scalar.indexCast arg12
  let c0_58 : Index := 0#32
  let c0_59 : Index := 0#32
  ![0, 0, v157.toNat, 0, 0]
def k0_off3 (i : grid0.Coords) (k0_t1 : Fin (k0_t1_loop i).trips) : Fin 5 → Nat :=
  let c0_64 : Index := 0#32
  let c1_65 : Index := 1#32
  let c0_i32_13 : BitVec 32 := 0#32
  let c1_i32_14 : BitVec 32 := 1#32
  let arg12 : BitVec 32 := Scf.iv c0_i32_13 c1_i32_14 k0_t1
  let v182 : Index := Scalar.indexCast arg12
  let c0_66 : Index := 0#32
  let c0_67 : Index := 0#32
  ![0, 1, v182.toNat, 0, 0]
@[reducible] def k0_t2_loop (i : grid0.Coords) : Scf.Loop 32 :=
  let c0_i32_13 : BitVec 32 := 0#32
  let arg2 : BitVec 32 := BitVec.ofNat 32 (i 2).val
  let v42 : BitVec 32 := Scalar.subi arg2 c0_i32_13
  let c1_i32 : BitVec 32 := 1#32
  let v44 : BitVec 32 := Scalar.divsi v42 c1_i32
  let v45 : BitVec 32 := Scalar.muli v44 c1_i32
  let v46 : BitVec 32 := Scalar.addi c0_i32_13 v45
  let v43 : BitVec 32 := Scalar.addi c0_i32_13 v42
  let c1_i32_15 : BitVec 32 := 1#32
  ⟨v46, v43, c1_i32_15⟩
def k0_mult2 (i : grid0.Coords) (k0_t2 : Fin (k0_t2_loop i).trips) : BitVec 32 :=
  let c0_i32_13 : BitVec 32 := 0#32
  let arg2 : BitVec 32 := BitVec.ofNat 32 (i 2).val
  let v42 : BitVec 32 := Scalar.subi arg2 c0_i32_13
  let c1_i32 : BitVec 32 := 1#32
  let v44 : BitVec 32 := Scalar.divsi v42 c1_i32
  let v45 : BitVec 32 := Scalar.muli v44 c1_i32
  let v46 : BitVec 32 := Scalar.addi c0_i32_13 v45
  let c1_i32_15 : BitVec 32 := 1#32
  let arg12 : BitVec 32 := Scf.iv v46 c1_i32_15 k0_t2
  let c512_i32_52 : BitVec 32 := 512#32
  let v146 : BitVec 32 := Scalar.muli arg12 c512_i32_52
  v146
def k0_off4 (i : grid0.Coords) (k0_t2 : Fin (k0_t2_loop i).trips) : Fin 2 → Nat :=
  let c0_i32_13 : BitVec 32 := 0#32
  let arg2 : BitVec 32 := BitVec.ofNat 32 (i 2).val
  let v42 : BitVec 32 := Scalar.subi arg2 c0_i32_13
  let c1_i32 : BitVec 32 := 1#32
  let v44 : BitVec 32 := Scalar.divsi v42 c1_i32
  let v45 : BitVec 32 := Scalar.muli v44 c1_i32
  let v46 : BitVec 32 := Scalar.addi c0_i32_13 v45
  let c1_i32_15 : BitVec 32 := 1#32
  let arg12 : BitVec 32 := Scf.iv v46 c1_i32_15 k0_t2
  let c512_i32_52 : BitVec 32 := 512#32
  let v146 : BitVec 32 := Scalar.muli arg12 c512_i32_52
  let v147 : BitVec 32 := v146
  let v148 : Index := Scalar.indexCast v147
  let c0_53 : Index := 0#32
  ![v148.toNat, 0]
def k0_off5 (i : grid0.Coords) (k0_t2 : Fin (k0_t2_loop i).trips) : Fin 5 → Nat :=
  let c0_56 : Index := 0#32
  let c0_57 : Index := 0#32
  let c0_i32_13 : BitVec 32 := 0#32
  let arg2 : BitVec 32 := BitVec.ofNat 32 (i 2).val
  let v42 : BitVec 32 := Scalar.subi arg2 c0_i32_13
  let c1_i32 : BitVec 32 := 1#32
  let v44 : BitVec 32 := Scalar.divsi v42 c1_i32
  let v45 : BitVec 32 := Scalar.muli v44 c1_i32
  let v46 : BitVec 32 := Scalar.addi c0_i32_13 v45
  let c1_i32_15 : BitVec 32 := 1#32
  let arg12 : BitVec 32 := Scf.iv v46 c1_i32_15 k0_t2
  let v157 : Index := Scalar.indexCast arg12
  let c0_58 : Index := 0#32
  let c0_59 : Index := 0#32
  ![0, 0, v157.toNat, 0, 0]
def k0_off6 (i : grid0.Coords) (k0_t2 : Fin (k0_t2_loop i).trips) : Fin 5 → Nat :=
  let c0_64 : Index := 0#32
  let c1_65 : Index := 1#32
  let c0_i32_13 : BitVec 32 := 0#32
  let arg2 : BitVec 32 := BitVec.ofNat 32 (i 2).val
  let v42 : BitVec 32 := Scalar.subi arg2 c0_i32_13
  let c1_i32 : BitVec 32 := 1#32
  let v44 : BitVec 32 := Scalar.divsi v42 c1_i32
  let v45 : BitVec 32 := Scalar.muli v44 c1_i32
  let v46 : BitVec 32 := Scalar.addi c0_i32_13 v45
  let c1_i32_15 : BitVec 32 := 1#32
  let arg12 : BitVec 32 := Scf.iv v46 c1_i32_15 k0_t2
  let v182 : Index := Scalar.indexCast arg12
  let c0_66 : Index := 0#32
  let c0_67 : Index := 0#32
  ![0, 1, v182.toNat, 0, 0]
def k0_mult3 (i : grid0.Coords) : BitVec 32 :=
  let arg2 : BitVec 32 := BitVec.ofNat 32 (i 2).val
  let c512_i32 : BitVec 32 := 512#32
  let v49 : BitVec 32 := Scalar.muli arg2 c512_i32
  v49
def k0_off7 (i : grid0.Coords) : Fin 2 → Nat :=
  let arg2 : BitVec 32 := BitVec.ofNat 32 (i 2).val
  let c512_i32 : BitVec 32 := 512#32
  let v49 : BitVec 32 := Scalar.muli arg2 c512_i32
  let v50 : BitVec 32 := v49
  let v51 : Index := Scalar.indexCast v50
  let c0_16 : Index := 0#32
  ![v51.toNat, 0]
def k0_off8 (i : grid0.Coords) : Fin 5 → Nat :=
  let c0_19 : Index := 0#32
  let c0_20 : Index := 0#32
  let arg2 : BitVec 32 := BitVec.ofNat 32 (i 2).val
  let v60 : Index := Scalar.indexCast arg2
  let c0_21 : Index := 0#32
  let c0_22 : Index := 0#32
  ![0, 0, v60.toNat, 0, 0]
def k0_off9 (i : grid0.Coords) : Fin 5 → Nat :=
  let c0_28 : Index := 0#32
  let c1_29 : Index := 1#32
  let arg2 : BitVec 32 := BitVec.ofNat 32 (i 2).val
  let v87 : Index := Scalar.indexCast arg2
  let c0_30 : Index := 0#32
  let c0_31 : Index := 0#32
  ![0, 1, v87.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2x4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== FwdReferenceIdeal.lean ====
abbrev S2x2048x2048 : Shape := ⟨3, ![2, 2048, 2048]⟩
abbrev S2x16x2048 : Shape := ⟨3, ![2, 16, 2048]⟩
abbrev S2x2048x1024 : Shape := ⟨3, ![2, 2048, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048x1 : Shape := ⟨4, ![2, 16, 2048, 1]⟩
abbrev S2x16x1x2048 : Shape := ⟨4, ![2, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x2048x128 : Shape := ⟨4, ![2, 16, 2048, 128]⟩
abbrev S4096x1024 : Shape := ⟨2, ![4096, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2x16x2048, .f32⟩
  | .hbm, ⟨3, _⟩ => ⟨S2x2048x2048, .f32⟩
  | .hbm, ⟨4, _⟩ => ⟨S2x2048x1024, .f32⟩
  | .hbm, ⟨5, _⟩ => ⟨S2x2048x1024, .f32⟩
  | .hbm, ⟨6, _⟩ => ⟨S2x2048x2048, .f32⟩
  | .hbm, ⟨7, _⟩ => ⟨S2x2048x1024, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x1x2048, .f32⟩
  | .hbm, ⟨21, _⟩ => ⟨S2x16x2048x2048, .f32⟩
  | .hbm, ⟨22, _⟩ => ⟨S2x16x2048x2048, .f32⟩
  | .hbm, ⟨23, _⟩ => ⟨S2048, .i32⟩
  | .hbm, ⟨24, _⟩ => ⟨S1x2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S2x16x2048x2048, .i1⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S2x16x2048, .f32⟩
  | .hbm, ⟨42, _⟩ => ⟨S2x16x2048, .f32⟩
  | .hbm, ⟨43, _⟩ => ⟨S2x16x2048, .f32⟩
  | .hbm, ⟨44, _⟩ => ⟨S2x16x2048x1, .f32⟩
  | .hbm, ⟨45, _⟩ => ⟨S2x16x2048x128, .f32⟩
  | .hbm, ⟨46, _⟩ => ⟨S_, .f32⟩
  | .hbm, ⟨47, _⟩ => ⟨S2x16x2048, .f32⟩
  | .hbm, ⟨48, _⟩ => ⟨S_, .f32⟩
  | .hbm, ⟨49, _⟩ => ⟨S2x16x2048, .f32⟩
  | .hbm, ⟨50, _⟩ => ⟨S2x16x2048, .f32⟩
  | .hbm, ⟨51, _⟩ => ⟨S2x16x2048x1, .f32⟩
  | .hbm, ⟨52, _⟩ => ⟨S2x16x2048x2048, .f32⟩
  | .hbm, ⟨53, _⟩ => ⟨S2x16x2048x2048, .f32⟩
  | .hbm, ⟨54, _⟩ => ⟨S2x16x2048x2048, .f32⟩
  | .hbm, ⟨55, _⟩ => ⟨S_, .f32⟩
  | .hbm, ⟨56, _⟩ => ⟨S2x16x2048, .f32⟩
  | .hbm, ⟨57, _⟩ => ⟨S2x16x2048x1, .f32⟩
  | .hbm, ⟨58, _⟩ => ⟨S2x16x2048x2048, .f32⟩
  | .hbm, ⟨59, _⟩ => ⟨S2x16x2048x2048, .f32⟩
  | .hbm, ⟨60, _⟩ => ⟨S2x2048x16x64, .f32⟩
  | .hbm, ⟨61, _⟩ => ⟨S2x16x2048x64, .f32⟩
  | .hbm, ⟨62, _⟩ => ⟨S2x16x2048x64, .f32⟩
  | .hbm, ⟨63, _⟩ => ⟨S2x2048x16x64, .f32⟩
  | .hbm, ⟨64, _⟩ => ⟨S2x2048x1024, .f32⟩
  | .hbm, ⟨65, _⟩ => ⟨S2x2048x1024, .f32⟩
  | .hbm, ⟨66, _⟩ => ⟨S2x2048x1024, .f32⟩
  | .hbm, ⟨67, _⟩ => ⟨S_, .f32⟩
  | .hbm, ⟨68, _⟩ => ⟨S2x2048x1024, .f32⟩
  | .hbm, ⟨69, _⟩ => ⟨S2x2048x1024, .f32⟩
  | .hbm, ⟨70, _⟩ => ⟨S_, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S4096x1024, .f32⟩
  | .hbm, ⟨75, _⟩ => ⟨S4096x1024, .f32⟩
  | .hbm, ⟨76, _⟩ => ⟨S4096x1024, .bf16⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== GateKernel.lean ====
abbrev S2x2048x2048 : Shape := ⟨3, ![2, 2048, 2048]⟩
abbrev S2x16x2048 : Shape := ⟨3, ![2, 16, 2048]⟩
abbrev S2x2048x1024 : Shape := ⟨3, ![2, 2048, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048x1 : Shape := ⟨4, ![2, 16, 2048, 1]⟩
abbrev S2x16x1x2048 : Shape := ⟨4, ![2, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4096x1024 : Shape := ⟨2, ![4096, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 59
  | .vmem => 10
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2x16x2048, .f32⟩
  | .hbm, ⟨3, _⟩ => ⟨S2x2048x1024, .bf16⟩
  | .hbm, ⟨4, _⟩ => ⟨S2x2048x1024, .f32⟩
  | .hbm, ⟨5, _⟩ => ⟨S2x2048x2048, .f32⟩
  | .hbm, ⟨6, _⟩ => ⟨S2x2048x1024, .f32⟩
  | .hbm, ⟨7, _⟩ => ⟨S2x2048x1024, .f32⟩
  | .hbm, ⟨8, _⟩ => ⟨S2x2048x1024, .bf16⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x16x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x1x2048, .f32⟩
  | .hbm, ⟨22, _⟩ => ⟨S2x16x2048x2048, .f32⟩
  | .hbm, ⟨23, _⟩ => ⟨S2x16x2048x2048, .f32⟩
  | .hbm, ⟨24, _⟩ => ⟨S2048, .i32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S2x16x2048x2048, .i1⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S_, .f32⟩
  | .hbm, ⟨38, _⟩ => ⟨S2x16x2048, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x2048x16x64, .f32⟩
  | .hbm, ⟨50, _⟩ => ⟨S2x16x2048x64, .f32⟩
  | .hbm, ⟨51, _⟩ => ⟨S2x16x2048x64, .f32⟩
  | .hbm, ⟨52, _⟩ => ⟨S2x2048x16x64, .f32⟩
  | .hbm, ⟨53, _⟩ => ⟨S2x2048x1024, .f32⟩
  | .hbm, ⟨54, _⟩ => ⟨S4096x1024, .bf16⟩
  | .hbm, ⟨55, _⟩ => ⟨S4096x2048, .bf16⟩
  | .hbm, ⟨56, _⟩ => ⟨S4096x1024, .f32⟩
  | .hbm, ⟨57, _⟩ => ⟨S4096x1024, .f32⟩
  | .hbm, ⟨58, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | .local _ .vmem, ⟨9, _⟩ => ⟨S512x2048, .bf16⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateReferenceIdeal.lean ====
abbrev S2x2048x2048 : Shape := ⟨3, ![2, 2048, 2048]⟩
abbrev S2x16x2048 : Shape := ⟨3, ![2, 16, 2048]⟩
abbrev S2x2048x1024 : Shape := ⟨3, ![2, 2048, 1024]⟩
abbrev S_ : Shape := ⟨0, ![]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048x1 : Shape := ⟨4, ![2, 16, 2048, 1]⟩
abbrev S2x16x1x2048 : Shape := ⟨4, ![2, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4096x2048 : Shape := ⟨2, ![4096, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2x16x2048, .f32⟩
  | .hbm, ⟨3, _⟩ => ⟨S2x2048x1024, .bf16⟩
  | .hbm, ⟨4, _⟩ => ⟨S2x2048x1024, .f32⟩
  | .hbm, ⟨5, _⟩ => ⟨S2x2048x2048, .f32⟩
  | .hbm, ⟨6, _⟩ => ⟨S2x2048x1024, .f32⟩
  | .hbm, ⟨7, _⟩ => ⟨S2x2048x1024, .f32⟩
  | .hbm, ⟨8, _⟩ => ⟨S2x2048x2048, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x16x64, .f32⟩
  | .hbm, ⟨24, _⟩ => ⟨S2x16x2048x64, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S2x16x2048x2048, .f32⟩
  | .hbm, ⟨31, _⟩ => ⟨S2x16x2048x1, .f32⟩
  | .hbm, ⟨32, _⟩ => ⟨S2x16x2048x2048, .f32⟩
  | .hbm, ⟨33, _⟩ => ⟨S2x16x2048x2048, .f32⟩
  | .hbm, ⟨34, _⟩ => ⟨S2x16x1x2048, .f32⟩
  | .hbm, ⟨35, _⟩ => ⟨S2x16x2048x2048, .f32⟩
  | .hbm, ⟨36, _⟩ => ⟨S2x16x2048x2048, .f32⟩
  | .hbm, ⟨37, _⟩ => ⟨S2048, .i32⟩
  | .hbm, ⟨38, _⟩ => ⟨S1x2048, .i32⟩
  | .hbm, ⟨39, _⟩ => ⟨S2048x1, .i32⟩
  | .hbm, ⟨40, _⟩ => ⟨S2048x2048, .i32⟩
  | .hbm, ⟨41, _⟩ => ⟨S2048x2048, .i32⟩
  | .hbm, ⟨42, _⟩ => ⟨S2048x2048, .i1⟩
  | .hbm, ⟨43, _⟩ => ⟨S_, .f32⟩
  | .hbm, ⟨44, _⟩ => ⟨S_, .f32⟩
  | .hbm, ⟨45, _⟩ => ⟨S2x16x2048x2048, .i1⟩
  | .hbm, ⟨46, _⟩ => ⟨S2x16x2048x2048, .f32⟩
  | .hbm, ⟨47, _⟩ => ⟨S2x16x2048x2048, .f32⟩
  | .hbm, ⟨48, _⟩ => ⟨S_, .f32⟩
  | .hbm, ⟨49, _⟩ => ⟨S2x16x2048, .f32⟩
  | .hbm, ⟨50, _⟩ => ⟨S_, .f32⟩
  | .hbm, ⟨51, _⟩ => ⟨S2x16x2048, .f32⟩
  | .hbm, ⟨52, _⟩ => ⟨S2x16x2048, .f32⟩
  | .hbm, ⟨53, _⟩ => ⟨S2x16x2048x1, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S_, .f32⟩
  | .hbm, ⟨58, _⟩ => ⟨S2x16x2048, .f32⟩
  | .hbm, ⟨59, _⟩ => ⟨S2x16x2048x1, .f32⟩
  | .hbm, ⟨60, _⟩ => ⟨S2x16x2048x2048, .f32⟩
  | .hbm, ⟨61, _⟩ => ⟨S2x16x2048x2048, .f32⟩
  | .hbm, ⟨62, _⟩ => ⟨S2x2048x16x64, .f32⟩
  | .hbm, ⟨63, _⟩ => ⟨S2x16x2048x64, .f32⟩
  | .hbm, ⟨64, _⟩ => ⟨S2x16x2048x64, .f32⟩
  | .hbm, ⟨65, _⟩ => ⟨S2x2048x16x64, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x2048, .f32⟩
  | .hbm, ⟨72, _⟩ => ⟨S4096x2048, .f32⟩
  | .hbm, ⟨73, _⟩ => ⟨S4096x2048, .bf16⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== LossKernel.lean ====
abbrev S2x2048x1024 : Shape := ⟨3, ![2, 2048, 1024]⟩
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S8x128, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_5 : BitVec 32 := 0#32
  let v16 : BitVec 1 := Scalar.cmpi .ne v15 c0_i32_5
  v16

def k0_cond2 (i : grid0.Coords) : BitVec 1 :=
  let arg0 : BitVec 32 := BitVec.ofNat 32 (i 0).val
  let c0_i32 : BitVec 32 := 0#32
  let v14 : BitVec 1 := Scalar.cmpi .eq arg0 c0_i32
  let v_true : BitVec 1 := 1#1
  let v17 : BitVec 1 := Scalar.xori v14 v_true
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S2x2048x1024 : Shape := ⟨3, ![2, 2048, 1024]⟩
abbrev S_ : Shape := ⟨0, ![]⟩
abbrev S2x2048 : Shape := ⟨2, ![2, 2048]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x2048, .f32⟩
  | .hbm, ⟨20, _⟩ => ⟨S_, .f32⟩
  | .hbm, ⟨21, _⟩ => ⟨S2x2048, .f32⟩
  | .hbm, ⟨22, _⟩ => ⟨S2x2048, .f32⟩
  | .hbm, ⟨23, _⟩ => ⟨S2x2048x1024, .f32⟩
  | .hbm, ⟨24, _⟩ => ⟨S2x2048x1024, .f32⟩
  | .hbm, ⟨25, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== PostKernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S64x1024 : Shape := ⟨2, ![64, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S_ : Shape := ⟨0, ![]⟩

abbrev nBuf : Space → Nat
  | .hbm => 16
  | .vmem => 12
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S1024, .f32⟩
  | .hbm, ⟨3, _⟩ => ⟨S2x2048x1024, .f32⟩
  | .hbm, ⟨4, _⟩ => ⟨S2x2048x1024, .f32⟩
  | .hbm, ⟨5, _⟩ => ⟨S1024x1024, .f32⟩
  | .hbm, ⟨6, _⟩ => ⟨S2x2048x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x1024, .bf16⟩
  | .hbm, ⟨11, _⟩ => ⟨S64x1024, .f32⟩
  | .hbm, ⟨12, _⟩ => ⟨S4096x1024, .bf16⟩
  | .hbm, ⟨13, _⟩ => ⟨S_, .f32⟩
  | .hbm, ⟨14, _⟩ => ⟨S1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S8x1024, .f32⟩
  | .local _ .vmem, ⟨9, _⟩ => ⟨S8x1024, .f32⟩
  | .local _ .vmem, ⟨10, _⟩ => ⟨S512x1024, .bf16⟩
  | .local _ .vmem, ⟨11, _⟩ => ⟨S512x1024, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PostReferenceIdeal.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S1024, .f32⟩
  | .hbm, ⟨3, _⟩ => ⟨S2x2048x1024, .f32⟩
  | .hbm, ⟨4, _⟩ => ⟨S2x2048x1024, .f32⟩
  | .hbm, ⟨5, _⟩ => ⟨S1024x1024, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S_, .f32⟩
  | .hbm, ⟨46, _⟩ => ⟨S2x2048, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S_, .f32⟩
  | .hbm, ⟨59, _⟩ => ⟨S2x2048x1, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S2x2048x1, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S1x1x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S_, .f32⟩
  | .hbm, ⟨78, _⟩ => ⟨S2x2048, .f32⟩
  | .hbm, ⟨79, _⟩ => ⟨S2x2048x1, .f32⟩
  | .hbm, ⟨80, _⟩ => ⟨S2x2048x1024, .f32⟩
  | .hbm, ⟨81, _⟩ => ⟨S2x2048x1024, .f32⟩
  | .hbm, ⟨82, _⟩ => ⟨S2x2048x1, .f32⟩
  | .hbm, ⟨83, _⟩ => ⟨S_, .f32⟩
  | .hbm, ⟨84, _⟩ => ⟨S2x2048x1, .f32⟩
  | .hbm, ⟨85, _⟩ => ⟨S2x2048x1, .f32⟩
  | .hbm, ⟨86, _⟩ => ⟨S_, .f32⟩
  | .hbm, ⟨87, _⟩ => ⟨S2x2048, .f32⟩
  | .hbm, ⟨88, _⟩ => ⟨S2x2048x1024, .f32⟩
  | .hbm, ⟨89, _⟩ => ⟨S2x2048x1024, .f32⟩
  | .hbm, ⟨90, _⟩ => ⟨S2x2048x1024, .f32⟩
  | .hbm, ⟨91, _⟩ => ⟨S2x2048x1024, .f32⟩
  | .hbm, ⟨92, _⟩ => ⟨S2x2048x1024, .f32⟩
  | .hbm, ⟨93, _⟩ => ⟨S4096x1024, .f32⟩
  | .hbm, ⟨94, _⟩ => ⟨S4096x1024, .bf16⟩
  | .hbm, ⟨95, _⟩ => ⟨S1x1024, .f32⟩
  | .hbm, ⟨96, _⟩ => ⟨S4096x1024, .f32⟩
  | .hbm, ⟨97, _⟩ => ⟨S4096x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== SwiKernel.lean ====
abbrev S2x2048x5632 : Shape := ⟨3, ![2, 2048, 5632]⟩
abbrev S2816x1024 : Shape := ⟨2, ![2816, 1024]⟩
abbrev S1024 : Shape := ⟨1, ![1024]⟩
abbrev S2x2048x1024 : Shape := ⟨3, ![2, 2048, 1024]⟩
abbrev S2x2048x2816 : Shape := ⟨3, ![2, 2048, 2816]⟩
abbrev S_ : Shape := ⟨0, ![]⟩
abbrev S4096x1024 : Shape := ⟨2, ![4096, 1024]⟩
abbrev S4096x5632 : Shape := ⟨2, ![4096, 5632]⟩
abbrev S1x1024 : Shape := ⟨2, ![1, 1024]⟩
abbrev S64x1024 : Shape := ⟨2, ![64, 1024]⟩
abbrev S512x1024 : Shape := ⟨2, ![512, 1024]⟩
abbrev S512x5632 : Shape := ⟨2, ![512, 5632]⟩
abbrev S8x1024 : Shape := ⟨2, ![8, 1024]⟩
abbrev S512 : Shape := ⟨1, ![512]⟩
abbrev S512x1 : Shape := ⟨2, ![512, 1]⟩
abbrev S512x2816 : Shape := ⟨2, ![512, 2816]⟩

abbrev nBuf : Space → Nat
  | .hbm => 29
  | .vmem => 14
  | .smem => 0
  | _ => 0

abbrev bufTy : (tb : Table) → Fin (tcTables nBuf tb) → BufTy
  | .hbm, ⟨0, _⟩ => ⟨S2x2048x5632, .bf16⟩
  | .hbm, ⟨1, _⟩ => ⟨S2816x1024, .bf16⟩
  | .hbm, ⟨2, _⟩ => ⟨S1024, .f32⟩
  | .hbm, ⟨3, _⟩ => ⟨S2x2048x1024, .f32⟩
  | .hbm, ⟨4, _⟩ => ⟨S2x2048x5632, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S_, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2816x1024, .f32⟩
  | .hbm, ⟨18, _⟩ => ⟨S2x2048x1024, .f32⟩
  | .hbm, ⟨19, _⟩ => ⟨S4096x1024, .f32⟩
  | .hbm, ⟨20, _⟩ => ⟨S4096x1024, .f32⟩
  | .hbm, ⟨21, _⟩ => ⟨S4096x5632, .bf16⟩
  | .hbm, ⟨22, _⟩ => ⟨S1x1024, .f32⟩
  | .hbm, ⟨23, _⟩ => ⟨S4096x1024, .bf16⟩
  | .hbm, ⟨24, _⟩ => ⟨S64x1024, .f32⟩
  | .hbm, ⟨25, _⟩ => ⟨S4096x5632, .bf16⟩
  | .hbm, ⟨26, _⟩ => ⟨S_, .f32⟩
  | .hbm, ⟨27, _⟩ => ⟨S1024, .f32⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2816x1024, .bf16⟩
  | .local _ .vmem, ⟨6, _⟩ => ⟨S512x5632, .bf16⟩
  | .local _ .vmem, ⟨7, _⟩ => ⟨S512x5632, .bf16⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | .local _ .vmem, ⟨11, _⟩ => ⟨S8x1024, .f32⟩
  | .local _ .vmem, ⟨12, _⟩ => ⟨S512x5632, .bf16⟩
  | .local _ .vmem, ⟨13, _⟩ => ⟨S512x5632, .bf16⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SwiReferenceIdeal.lean ====
abbrev S2x2048x5632 : Shape := ⟨3, ![2, 2048, 5632]⟩
abbrev S2816x1024 : Shape := ⟨2, ![2816, 1024]⟩
abbrev S1024 : Shape := ⟨1, ![1024]⟩
abbrev S2x2048x1024 : Shape := ⟨3, ![2, 2048, 1024]⟩
abbrev S2x2048x2816 : Shape := ⟨3, ![2, 2048, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S4096x5632 : Shape := ⟨2, ![4096, 5632]⟩

abbrev nBuf : Space → Nat
  | .hbm => 145
  | .vmem => 0
  | .smem => 0
  | _ => 0

abbrev hbmTy0_0 (i : Nat) : BufTy := match i % 128 with
  | 0 => ⟨S2x2048x5632, .bf16⟩
  | 1 => ⟨S2816x1024, .bf16⟩
  | 2 => ⟨S1024, .f32⟩
  | 3 => ⟨S2x2048x1024, .f32⟩
  | 4 => ⟨S2x2048x5632, .f32⟩
  | 5 => ⟨S2816x1024, .f32⟩
  | 6 => ⟨S2x2048x2816, .f32⟩
  | 7 => ⟨S2x2048x2816, .f32⟩
  | 8 => ⟨S2x2048x2816, .f32⟩
  | 9 => ⟨S2x2048x2816, .f32⟩
  | 10 => ⟨S_, .f32⟩
  | 11 => ⟨S2x2048x2816, .f32⟩
  | 12 => ⟨S2x2048x2816, .f32⟩
  | 13 => ⟨S_, .f32⟩
  | 14 => ⟨S2x2048x2816, .f32⟩
  | 15 => ⟨S2x2048x2816, .f32⟩
  | 16 => ⟨S_, .f32⟩
  | 17 => ⟨S2x2048x2816, .f32⟩
  | 18 => ⟨S2x2048x2816, .f32⟩
  | 19 => ⟨S2x2048x2816, .f32⟩
  | 20 => ⟨S2x2048x2816, .f32⟩
  | 21 => ⟨S2x2048x2816, .f32⟩
  | 22 => ⟨S2x2048x1024, .f32⟩
  | 23 => ⟨S2x2048x1024, .f32⟩
  | 24 => ⟨S_, .f32⟩
  | 25 => ⟨S2x2048, .f32⟩
  | 26 => ⟨S2x2048x1, .f32⟩
  | 27 => ⟨S_, .f32⟩
  | 28 => ⟨S2x2048x1, .f32⟩
  | 29 => ⟨S2x2048x1, .f32⟩
  | 30 => ⟨S_, .f32⟩
  | 31 => ⟨S2x2048x1, .f32⟩
  | 32 => ⟨S2x2048x1, .f32⟩
  | 33 => ⟨S2x2048x1, .f32⟩
  | 34 => ⟨S2x2048x1, .f32⟩
  | 35 => ⟨S_, .f32⟩
  | 36 => ⟨S2x2048x1, .f32⟩
  | 37 => ⟨S2x2048x1, .f32⟩
  | 38 => ⟨S2x2048x1024, .f32⟩
  | 39 => ⟨S2x2048x1024, .f32⟩
  | 40 => ⟨S1x1x1024, .f32⟩
  | 41 => ⟨S2x2048x1024, .f32⟩
  | 42 => ⟨S2x2048x1024, .f32⟩
  | 43 => ⟨S_, .f32⟩
  | 44 => ⟨S2x2048x1024, .f32⟩
  | 45 => ⟨S2x2048x1024, .f32⟩
  | 46 => ⟨S_, .f32⟩
  | 47 => ⟨S2x2048x1024, .f32⟩
  | 48 => ⟨S2x2048x1024, .f32⟩
  | 49 => ⟨S2x2048x1024, .f32⟩
  | 50 => ⟨S_, .f32⟩
  | 51 => ⟨S1024, .f32⟩
  | 52 => ⟨S1x1x1024, .f32⟩
  | 53 => ⟨S2x2048x1024, .f32⟩
  | 54 => ⟨S2x2048x1024, .f32⟩
  | 55 => ⟨S_, .f32⟩
  | 56 => ⟨S1024, .f32⟩
  | 57 => ⟨S2x2048x1024, .f32⟩
  | 58 => ⟨S_, .f32⟩
  | 59 => ⟨S2x2048, .f32⟩
  | 60 => ⟨S2x2048x1, .f32⟩
  | 61 => ⟨S2x2048x1024, .f32⟩
  | 62 => ⟨S2x2048x1024, .f32⟩
  | 63 => ⟨S2x2048x1, .f32⟩
  | 64 => ⟨S_, .f32⟩
  | 65 => ⟨S2x2048x1, .f32⟩
  | 66 => ⟨S2x2048x1, .f32⟩
  | 67 => ⟨S_, .f32⟩
  | 68 => ⟨S2x2048, .f32⟩
  | 69 => ⟨S2x2048x1024, .f32⟩
  | 70 => ⟨S2x2048x1024, .f32⟩
  | 71 => ⟨S2x2048x1024, .f32⟩
  | 72 => ⟨S2x2048x1024, .f32⟩
  | 73 => ⟨S2x2048x1024, .f32⟩
  | 74 => ⟨S2x2048x2816, .f32⟩
  | 75 => ⟨S2x2048x2816, .f32⟩
  | 76 => ⟨S2x2048x2816, .f32⟩
  | 77 => ⟨S2x2048x2816, .f32⟩
  | 78 => ⟨S2x2048x2816, .f32⟩
  | 79 => ⟨S2x2048x2816, .f32⟩
  | 80 => ⟨S2x2048x2816, .f32⟩
  | 81 => ⟨S2x2048x5632, .f32⟩
  | 82 => ⟨S2x2048x2816, .f32⟩
  | 83 => ⟨S2x2048x2816, .f32⟩
  | 84 => ⟨S2x2048x2816, .f32⟩
  | 85 => ⟨S2x2048x2816, .f32⟩
  | 86 => ⟨S_, .f32⟩
  | 87 => ⟨S2x2048x2816, .f32⟩
  | 88 => ⟨S2x2048x2816, .f32⟩
  | 89 => ⟨S_, .f32⟩
  | 90 => ⟨S2x2048x2816, .f32⟩
  | 91 => ⟨S2x2048x2816, .f32⟩
  | 92 => ⟨S2x2048x2816, .f32⟩
  | 93 => ⟨S2x2048x2816, .f32⟩
  | 94 => ⟨S2x2048x1024, .f32⟩
  | 95 => ⟨S2x2048x1024, .f32⟩
  | 96 => ⟨S_, .f32⟩
  | 97 => ⟨S2x2048, .f32⟩
  | 98 => ⟨S2x2048x1, .f32⟩
  | 99 => ⟨S_, .f32⟩
  | 100 => ⟨S2x2048x1, .f32⟩
  | 101 => ⟨S2x2048x1, .f32⟩
  | 102 => ⟨S_, .f32⟩
  | 103 => ⟨S2x2048x1, .f32⟩
  | 104 => ⟨S2x2048x1, .f32⟩
  | 105 => ⟨S2x2048x1, .f32⟩
  | 106 => ⟨S2x2048x1, .f32⟩
  | 107 => ⟨S_, .f32⟩
  | 108 => ⟨S2x2048x1, .f32⟩
  | 109 => ⟨S2x2048x1, .f32⟩
  | 110 => ⟨S2x2048x1024, .f32⟩
  | 111 => ⟨S2x2048x1024, .f32⟩
  | 112 => ⟨S1x1x1024, .f32⟩
  | 113 => ⟨S2x2048x1024, .f32⟩
  | 114 => ⟨S2x2048x1024, .f32⟩
  | 115 => ⟨S_, .f32⟩
  | 116 => ⟨S2x2048x1024, .f32⟩
  | 117 => ⟨S2x2048x1024, .f32⟩
  | 118 => ⟨S_, .f32⟩
  | 119 => ⟨S2x2048x1024, .f32⟩
  | 120 => ⟨S2x2048x1024, .f32⟩
  | 121 => ⟨S2x2048x1024, .f32⟩
  | 122 => ⟨S2x2048x1024, .f32⟩
  | 123 => ⟨S2x2048x1024, .f32⟩
  | 124 => ⟨S_, .f32⟩
  | 125 => ⟨S2x2048, .f32⟩
  | 126 => ⟨S2x2048x1, .f32⟩
  | 127 => ⟨S2x2048x1024, .f32⟩
  | _ => ⟨S2x2048x5632, .bf16⟩

abbrev hbmTy0_1 (i : Nat) : BufTy := match i % 128 with
  | 0 => ⟨S2x2048x1024, .f32⟩
  | 1 => ⟨S2x2048x1, .f32⟩
  | 2 => ⟨S_, .f32⟩
  | 3 => ⟨S2x2048x1, .f32⟩
  | 4 => ⟨S2x2048x1, .f32⟩
  | 5 => ⟨S_, .f32⟩
  | 6 => ⟨S2x2048, .f32⟩
  | 7 => ⟨S2x2048x1024, .f32⟩
  | 8 => ⟨S2x2048x1024, .f32⟩
  | 9 => ⟨S2x2048x1024, .f32⟩
  | 10 => ⟨S2x2048x1024, .f32⟩
  | 11 => ⟨S2x2048x1024, .f32⟩
  | 12 => ⟨S4096x1024, .f32⟩
  | 13 => ⟨S4096x1024, .bf16⟩
  | 14 => ⟨S1x1024, .f32⟩
  | 15 => ⟨S4096x5632, .f32⟩
  | 16 => ⟨S4096x5632, .bf16⟩
  | _ => ⟨S2x2048x5632, .bf16⟩

abbrev hbmTy (i : Nat) : BufTy := match i / 128 with
  | 0 => hbmTy0_0 i
  | 1 => hbmTy0_1 i
  | _ => ⟨S2x2048x5632, .bf16⟩

abbrev bufTy : (tb : Table) → Fin (tcTables nBuf tb) → BufTy
  | .hbm, ⟨i, _⟩ => hbmTy i
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_10 : Ref sig .tc := ⟨.hbm, 96, rfl⟩
abbrev main_v58 : Ref sig .tc := ⟨.hbm, 97, rfl⟩
abbrev main_v59 : Ref sig .tc := ⟨.hbm, 98, rfl⟩
abbrev main_cst_11 : Ref sig .tc := ⟨.hbm, 99, rfl⟩
abbrev main_v60 : Ref sig .tc := ⟨.hbm, 100, rfl⟩
abbrev main_v61 : Ref sig .tc := ⟨.hbm, 101, rfl⟩
abbrev main_cst_12 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_13 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_14 : Ref sig .tc := ⟨.hbm, 115, rfl⟩
abbrev main_v73 : Ref sig .tc := ⟨.hbm, 116, rfl⟩
abbrev main_v74 : Ref sig .tc := ⟨.hbm, 117, rfl⟩
abbrev main_cst_15 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_16 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_17 : Ref sig .tc := ⟨.hbm, 130, rfl⟩
abbrev main_v85 : Ref sig .tc := ⟨.hbm, 131, rfl⟩
abbrev main_v86 : Ref sig .tc := ⟨.hbm, 132, rfl⟩
abbrev main_cst_18 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩

abbrev nD : Nat := 1
abbrev τ : Topo := Topo.v7x

variable {F : FTy → Type} [FloatOps F]
-- ==== PreKernel.lean ====
abbrev S2x2048x5632 : Shape := ⟨3, ![2, 2048, 5632]⟩
abbrev S1024x5632 : Shape := ⟨2, ![1024, 5632]⟩
abbrev S2x2048x1024 : Shape := ⟨3, ![2, 2048, 1024]⟩
abbrev S1024 : Shape := ⟨1, ![1024]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S4096x1024 : Shape := ⟨2, ![4096, 1024]⟩
abbrev S1x1024 : Shape := ⟨2, ![1, 1024]⟩
abbrev S64x1024 : Shape := ⟨2, ![64, 1024]⟩
abbrev S512x5632 : Shape := ⟨2, ![512, 5632]⟩
abbrev S512x1024 : Shape := ⟨2, ![512, 1024]⟩
abbrev S8x1024 : Shape := ⟨2, ![8, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S_ : Shape := ⟨0, ![]⟩

abbrev nBuf : Space → Nat
  | .hbm => 16
  | .vmem => 12
  | .smem => 0
  | _ => 0

abbrev bufTy : (tb : Table) → Fin (tcTables nBuf tb) → BufTy
  | .hbm, ⟨0, _⟩ => ⟨S2x2048x5632, .bf16⟩
  | .hbm, ⟨1, _⟩ => ⟨S1024x5632, .bf16⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S1024x4x1408, .bf16⟩
  | .hbm, ⟨6, _⟩ => ⟨S4x1024x1408, .bf16⟩
  | .hbm, ⟨7, _⟩ => ⟨S4096x5632, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S64x1024, .f32⟩
  | .hbm, ⟨13, _⟩ => ⟨S_, .f32⟩
  | .hbm, ⟨14, _⟩ => ⟨S1024, .f32⟩
  | .hbm, ⟨15, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PreReferenceIdeal.lean ====
abbrev S2x2048x5632 : Shape := ⟨3, ![2, 2048, 5632]⟩
abbrev S1024x5632 : Shape := ⟨2, ![1024, 5632]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S1024x5632, .bf16⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S1024x5632, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x5632, .f32⟩
  | .hbm, ⟨27, _⟩ => ⟨S2x2048x5632, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S4096x1024, .f32⟩
  | .hbm, ⟨56, _⟩ => ⟨S1x1024, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== OutKernel.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1024 : Shape := ⟨1, ![1024]⟩
abbrev S4096x2816 : Shape := ⟨2, ![4096, 2816]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x2048x2816, .bf16⟩
  | .hbm, ⟨1, _⟩ => ⟨S2816x1024, .bf16⟩
  | .hbm, ⟨2, _⟩ => ⟨S2x2048x1024, .f32⟩
  | .hbm, ⟨3, _⟩ => ⟨S1024, .f32⟩
  | .hbm, ⟨4, _⟩ => ⟨S4096x2816, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1024 : Shape := ⟨1, ![1024]⟩
abbrev S4096x1024 : Shape := ⟨2, ![4096, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S2816x1024, .bf16⟩
  | .hbm, ⟨2, _⟩ => ⟨S2x2048x1024, .f32⟩
  | .hbm, ⟨3, _⟩ => ⟨S1024, .f32⟩
  | .hbm, ⟨4, _⟩ => ⟨S2x2048x2816, .f32⟩
  | .hbm, ⟨5, _⟩ => ⟨S2816x1024, .f32⟩
  | .hbm, ⟨6, _⟩ => ⟨S2x2048x1024, .f32⟩
  | .hbm, ⟨7, _⟩ => ⟨S4096x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S4096x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== SinKernel.lean ====
abbrev S2x2048x1024 : Shape := ⟨3, ![2, 2048, 1024]⟩
abbrev S1024 : Shape := ⟨1, ![1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x1024 : Shape := ⟨2, ![4096, 1024]⟩
abbrev S1x1024 : Shape := ⟨2, ![1, 1024]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S4096x1024, .f32⟩
  | .hbm, ⟨6, _⟩ => ⟨S1x1024, .f32⟩
  | .hbm, ⟨7, _⟩ => ⟨S4096x1024, .bf16⟩
  | .hbm, ⟨8, _⟩ => ⟨S4096x5632, .bf16⟩
  | .hbm, ⟨9, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | .local _ .vmem, ⟨8, _⟩ => ⟨S512x2816, .bf16⟩
  | .local _ .vmem, ⟨9, _⟩ => ⟨S512x2816, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SinReferenceIdeal.lean ====
abbrev S2x2048x1024 : Shape := ⟨3, ![2, 2048, 1024]⟩
abbrev S1024 : Shape := ⟨1, ![1024]⟩
abbrev S1024x5632 : Shape := ⟨2, ![1024, 5632]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S4096x1024 : Shape := ⟨2, ![4096, 1024]⟩
abbrev S4096x5632 : Shape := ⟨2, ![4096, 5632]⟩
abbrev S4096x2816 : Shape := ⟨2, ![4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .bf16⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S1024x5632, .f32⟩
  | .hbm, ⟨20, _⟩ => ⟨S2x2048x5632, .f32⟩
  | .hbm, ⟨21, _⟩ => ⟨S2x2048x2816, .f32⟩
  | .hbm, ⟨22, _⟩ => ⟨S2x2048x2816, .f32⟩
  | .hbm, ⟨23, _⟩ => ⟨S2x2048x2816, .f32⟩
  | .hbm, ⟨24, _⟩ => ⟨S2x2048x2816, .f32⟩
  | .hbm, ⟨25, _⟩ => ⟨S_, .f32⟩
  | .hbm, ⟨26, _⟩ => ⟨S2x2048x2816, .f32⟩
  | .hbm, ⟨27, _⟩ => ⟨S2x2048x2816, .f32⟩
  | .hbm, ⟨28, _⟩ => ⟨S_, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S4096x1024, .f32⟩
  | .hbm, ⟨34, _⟩ => ⟨S4096x1024, .bf16⟩
  | .hbm, ⟨35, _⟩ => ⟨S4096x5632, .f32⟩
  | .hbm, ⟨36, _⟩ => ⟨S4096x5632, .bf16⟩
  | .hbm, ⟨37, _⟩ => ⟨S4096x2816, .f32⟩
  | .hbm, ⟨38, _⟩ => ⟨S4096x2816, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamKernel.lean ====
abbrev S2048x1408 : Shape := ⟨2, ![2048, 1408]⟩
abbrev S512x1408 : Shape := ⟨2, ![512, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | .local _ .vmem, ⟨14, _⟩ => ⟨S512x1408, .f32⟩
  | .local _ .vmem, ⟨15, _⟩ => ⟨S512x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MoutKernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S2x2048x1024, .f32⟩
  | .hbm, ⟨3, _⟩ => ⟨S1024, .f32⟩
  | .hbm, ⟨4, _⟩ => ⟨S4096x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoutReferenceIdeal.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S2x2048x1024, .f32⟩
  | .hbm, ⟨3, _⟩ => ⟨S1024, .f32⟩
  | .hbm, ⟨4, _⟩ => ⟨S2x2048x1024, .f32⟩
  | .hbm, ⟨5, _⟩ => ⟨S1024x1024, .f32⟩
  | .hbm, ⟨6, _⟩ => ⟨S2x2048x1024, .f32⟩
  | .hbm, ⟨7, _⟩ => ⟨S4096x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S4096x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== CinKernel.lean ====
abbrev S2x2048x1024 : Shape := ⟨3, ![2, 2048, 1024]⟩
abbrev S1024 : Shape := ⟨1, ![1024]⟩
abbrev S1024x3072 : Shape := ⟨2, ![1024, 3072]⟩
abbrev S1024x4x768 : Shape := ⟨3, ![1024, 4, 768]⟩
abbrev S4x1024x768 : Shape := ⟨3, ![4, 1024, 768]⟩
abbrev S4096x1024 : Shape := ⟨2, ![4096, 1024]⟩
abbrev S1x1024 : Shape := ⟨2, ![1, 1024]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 9
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .bf16⟩
  | .hbm, ⟨3, _⟩ => ⟨S1024x4x768, .bf16⟩
  | .hbm, ⟨4, _⟩ => ⟨S4x1024x768, .bf16⟩
  | .hbm, ⟨5, _⟩ => ⟨S4096x1024, .f32⟩
  | .hbm, ⟨6, _⟩ => ⟨S1x1024, .f32⟩
  | .hbm, ⟨7, _⟩ => ⟨S4096x1024, .bf16⟩
  | .hbm, ⟨8, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CinReferenceIdeal.lean ====
abbrev S2x2048x1024 : Shape := ⟨3, ![2, 2048, 1024]⟩
abbrev S1024 : Shape := ⟨1, ![1024]⟩
abbrev S1024x3072 : Shape := ⟨2, ![1024, 3072]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3072 : Shape := ⟨3, ![2, 2048, 3072]⟩
abbrev S4096x1024 : Shape := ⟨2, ![4096, 1024]⟩
abbrev S4096x3072 : Shape := ⟨2, ![4096, 3072]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .bf16⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S1024x3072, .f32⟩
  | .hbm, ⟨20, _⟩ => ⟨S2x2048x3072, .f32⟩
  | .hbm, ⟨21, _⟩ => ⟨S4096x1024, .f32⟩
  | .hbm, ⟨22, _⟩ => ⟨S4096x1024, .bf16⟩
  | .hbm, ⟨23, _⟩ => ⟨S4096x3072, .f32⟩
  | .hbm, ⟨24, _⟩ => ⟨S4096x3072, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== QinKernel.lean ====
abbrev S2x2048x1024 : Shape := ⟨3, ![2, 2048, 1024]⟩
abbrev S1024 : Shape := ⟨1, ![1024]⟩
abbrev S1024x2048 : Shape := ⟨2, ![1024, 2048]⟩
abbrev S1024x4x512 : Shape := ⟨3, ![1024, 4, 512]⟩
abbrev S4x1024x512 : Shape := ⟨3, ![4, 1024, 512]⟩
abbrev S4096x1024 : Shape := ⟨2, ![4096, 1024]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .bf16⟩
  | .hbm, ⟨3, _⟩ => ⟨S1024x4x512, .bf16⟩
  | .hbm, ⟨4, _⟩ => ⟨S4x1024x512, .bf16⟩
  | .hbm, ⟨5, _⟩ => ⟨S4096x1024, .f32⟩
  | .hbm, ⟨6, _⟩ => ⟨S1x1024, .f32⟩
  | .hbm, ⟨7, _⟩ => ⟨S4096x1024, .bf16⟩
  | .hbm, ⟨8, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QinReferenceIdeal.lean ====
abbrev S2x2048x1024 : Shape := ⟨3, ![2, 2048, 1024]⟩
abbrev S1024 : Shape := ⟨1, ![1024]⟩
abbrev S1024x2048 : Shape := ⟨2, ![1024, 2048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2048 : Shape := ⟨3, ![2, 2048, 2048]⟩
abbrev S4096x1024 : Shape := ⟨2, ![4096, 1024]⟩
abbrev S4096x2048 : Shape := ⟨2, ![4096, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .bf16⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S1024x2048, .f32⟩
  | .hbm, ⟨20, _⟩ => ⟨S2x2048x2048, .f32⟩
  | .hbm, ⟨21, _⟩ => ⟨S4096x1024, .f32⟩
  | .hbm, ⟨22, _⟩ => ⟨S4096x1024, .bf16⟩
  | .hbm, ⟨23, _⟩ => ⟨S4096x2048, .f32⟩
  | .hbm, ⟨24, _⟩ => ⟨S4096x2048, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== KvnKernel.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvnReferenceIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S_, .f32⟩
  | .hbm, ⟨4, _⟩ => ⟨S2x2048, .f32⟩
  | .hbm, ⟨5, _⟩ => ⟨S2x2048x1, .f32⟩
  | .hbm, ⟨6, _⟩ => ⟨S_, .f32⟩
  | .hbm, ⟨7, _⟩ => ⟨S2x2048x1, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S2x2048x1, .f32⟩
  | .hbm, ⟨13, _⟩ => ⟨S2x2048x1024, .f32⟩
  | .hbm, ⟨14, _⟩ => ⟨S2x2048x1024, .f32⟩
  | .hbm, ⟨15, _⟩ => ⟨S1x1x1024, .f32⟩
  | .hbm, ⟨16, _⟩ => ⟨S2x2048x1024, .f32⟩
  | .hbm, ⟨17, _⟩ => ⟨S2x2048x1024, .f32⟩
  | .hbm, ⟨18, _⟩ => ⟨S4096x1024, .f32⟩
  | .hbm, ⟨19, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== CpreKernel.lean ====
abbrev S2x2048x3072 : Shape := ⟨3, ![2, 2048, 3072]⟩
abbrev S1024x3072 : Shape := ⟨2, ![1024, 3072]⟩
abbrev S2x2048x1024 : Shape := ⟨3, ![2, 2048, 1024]⟩
abbrev S1024 : Shape := ⟨1, ![1024]⟩
abbrev S1024x4x768 : Shape := ⟨3, ![1024, 4, 768]⟩
abbrev S4x1024x768 : Shape := ⟨3, ![4, 1024, 768]⟩
abbrev S4096x3072 : Shape := ⟨2, ![4096, 3072]⟩
abbrev S4096x1024 : Shape := ⟨2, ![4096, 1024]⟩
abbrev S1x1024 : Shape := ⟨2, ![1, 1024]⟩
abbrev S64x1024 : Shape := ⟨2, ![64, 1024]⟩
abbrev S512x3072 : Shape := ⟨2, ![512, 3072]⟩
abbrev S512x1024 : Shape := ⟨2, ![512, 1024]⟩
abbrev S8x1024 : Shape := ⟨2, ![8, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S_ : Shape := ⟨0, ![]⟩

abbrev nBuf : Space → Nat
  | .hbm => 16
  | .vmem => 12
  | .smem => 0
  | _ => 0

abbrev bufTy : (tb : Table) → Fin (tcTables nBuf tb) → BufTy
  | .hbm, ⟨0, _⟩ => ⟨S2x2048x3072, .bf16⟩
  | .hbm, ⟨1, _⟩ => ⟨S1024x3072, .bf16⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S1024x4x768, .bf16⟩
  | .hbm, ⟨6, _⟩ => ⟨S4x1024x768, .bf16⟩
  | .hbm, ⟨7, _⟩ => ⟨S4096x3072, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S64x1024, .f32⟩
  | .hbm, ⟨13, _⟩ => ⟨S_, .f32⟩
  | .hbm, ⟨14, _⟩ => ⟨S1024, .f32⟩
  | .hbm, ⟨15, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S4x1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | _, _ => ⟨S2x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CpreReferenceIdeal.lean ====
abbrev S2x2048x3072 : Shape := ⟨3, ![2, 2048, 3072]⟩
abbrev S1024x3072 : Shape := ⟨2, ![1024, 3072]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x3072, .bf16⟩
  | .hbm, ⟨1, _⟩ => ⟨S1024x3072, .bf16⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S1024x3072, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x3072, .f32⟩
  | .hbm, ⟨27, _⟩ => ⟨S2x2048x3072, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S4096x1024, .f32⟩
  | .hbm, ⟨56, _⟩ => ⟨S1x1024, .f32⟩
  | _, _ => ⟨S2x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== QpreKernel.lean ====
abbrev S2x2048x2048 : Shape := ⟨3, ![2, 2048, 2048]⟩
abbrev S1024x2048 : Shape := ⟨2, ![1024, 2048]⟩
abbrev S2x2048x1024 : Shape := ⟨3, ![2, 2048, 1024]⟩
abbrev S1024 : Shape := ⟨1, ![1024]⟩
abbrev S1024x4x512 : Shape := ⟨3, ![1024, 4, 512]⟩
abbrev S4x1024x512 : Shape := ⟨3, ![4, 1024, 512]⟩
abbrev S4096x2048 : Shape := ⟨2, ![4096, 2048]⟩
abbrev S4096x1024 : Shape := ⟨2, ![4096, 1024]⟩
abbrev S1x1024 : Shape := ⟨2, ![1, 1024]⟩
abbrev S64x1024 : Shape := ⟨2, ![64, 1024]⟩
abbrev S512x2048 : Shape := ⟨2, ![512, 2048]⟩
abbrev S512x1024 : Shape := ⟨2, ![512, 1024]⟩
abbrev S8x1024 : Shape := ⟨2, ![8, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S_ : Shape := ⟨0, ![]⟩

abbrev nBuf : Space → Nat
  | .hbm => 16
  | .vmem => 12
  | .smem => 0
  | _ => 0

abbrev bufTy : (tb : Table) → Fin (tcTables nBuf tb) → BufTy
  | .hbm, ⟨0, _⟩ => ⟨S2x2048x2048, .bf16⟩
  | .hbm, ⟨1, _⟩ => ⟨S1024x2048, .bf16⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S1024x4x512, .bf16⟩
  | .hbm, ⟨6, _⟩ => ⟨S4x1024x512, .bf16⟩
  | .hbm, ⟨7, _⟩ => ⟨S4096x2048, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S64x1024, .f32⟩
  | .hbm, ⟨13, _⟩ => ⟨S_, .f32⟩
  | .hbm, ⟨14, _⟩ => ⟨S1024, .f32⟩
  | .hbm, ⟨15, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QpreReferenceIdeal.lean ====
abbrev S2x2048x2048 : Shape := ⟨3, ![2, 2048, 2048]⟩
abbrev S1024x2048 : Shape := ⟨2, ![1024, 2048]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S1024x2048, .bf16⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S1024x2048, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x2048, .f32⟩
  | .hbm, ⟨27, _⟩ => ⟨S2x2048x2048, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S4096x1024, .f32⟩
  | .hbm, ⟨56, _⟩ => ⟨S1x1024, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Proof.ConvMath.lean ====
/- The three-tap causal convolution along the sequence, and its adjoint, as functions of the position. -/
module

public import Idealize.ShloMosaic.Lib.Pointwise

@[expose] public section

set_option maxRecDepth 16384

noncomputable section

open scoped BigOperators

open Idealize.ShloMosaic

namespace Cert.ConvMath

/-- A sequence moved down by `k` positions, zero at the top. -/
def down (k : ℕ) (f : Fin 2048 → EReal) (s : Fin 2048) : EReal :=
  if k ≤ s.val then f ⟨s.val - k, by omega⟩ else 0

/-- A sequence moved up by `k` positions, zero at the bottom. -/
def up (k : ℕ) (f : Fin 2048 → EReal) (s : Fin 2048) : EReal :=
  if h : s.val + k < 2048 then f ⟨s.val + k, h⟩ else 0

/-- The convolution of `u` with the taps `w`. -/
def conv (w : Fin 3 → EReal) (u : Fin 2048 → EReal) (s : Fin 2048) : EReal :=
  w 2 * u s + w 1 * down 1 u s + w 0 * down 2 u s

/-- The adjoint of the convolution at the cotangent `g`. -/
def convT (w : Fin 3 → EReal) (g : Fin 2048 → EReal) (s : Fin 2048) : EReal :=
  w 2 * g s + w 1 * up 1 g s + w 0 * up 2 g s

/-- The part one sequence adds to the gradient of tap `k`. -/
def tap (k : ℕ) (u g : Fin 2048 → EReal) : EReal := ∑ s, g s * down k u s

variable (P : (⟨3, ![2, 2048, 3072]⟩ : Shape).Idx → EReal) (K : (⟨3, ![1, 3, 1024]⟩ : Shape).Idx → EReal)
  (Z : (⟨3, ![2, 2048, 1024]⟩ : Shape).Idx → EReal)

/-- The three parts of a projected row: the outer gate, the inner gate and the value. -/
def gateB (b : Fin 2) (d : Fin 1024) (s : Fin 2048) : EReal := P (ix3 b s ⟨d.val, by omega⟩)
def gateC (b : Fin 2) (d : Fin 1024) (s : Fin 2048) : EReal := P (ix3 b s ⟨1024 + d.val, by omega⟩)
def valH (b : Fin 2) (d : Fin 1024) (s : Fin 2048) : EReal := P (ix3 b s ⟨2048 + d.val, by omega⟩)

/-- What the convolution reads, and the cotangent of what it leaves. -/
def convIn (b : Fin 2) (d : Fin 1024) (s : Fin 2048) : EReal := gateC P b d s * valH P b d s
def convCt (b : Fin 2) (d : Fin 1024) (s : Fin 2048) : EReal := Z (ix3 b s d) * gateB P b d s

/-- The taps of a channel. -/
def tapsOf (d : Fin 1024) (k : Fin 3) : EReal := K (ix3 0 k d)

/-- The four gradients. -/
def gradB (b : Fin 2) (d : Fin 1024) (s : Fin 2048) : EReal := Z (ix3 b s d) * conv (tapsOf K d) (convIn P b d) s
def gradC (b : Fin 2) (d : Fin 1024) (s : Fin 2048) : EReal := convT (tapsOf K d) (convCt P Z b d) s * valH P b d s
def gradH (b : Fin 2) (d : Fin 1024) (s : Fin 2048) : EReal := convT (tapsOf K d) (convCt P Z b d) s * gateC P b d s
def gradK (r : ℕ) (d : Fin 1024) : EReal := if r < 3 then ∑ b, tap (2 - r) (convIn P b d) (convCt P Z b d) else 0

end Cert.ConvMath

end
end
-- ==== Proof.ConvBlock.lean ====
/- What one grid point of the short convolution's gradient computes from its input blocks. -/
module

public import proofs.«01_k».proof.Proof.ConvMath
public import proofs.«01_k».proof.Proof.Gen.ConvKernelIdeal.Skeleton
public import Idealize.ShloMosaic.Lib.WordCmp

@[expose] public section

set_option maxRecDepth 16384

noncomputable section

open Idealize.ShloMosaic
open scoped BigOperators

namespace Cert.ConvKernelIdeal.Conv

open Cert.ConvKernelIdeal Cert.ConvKernelIdeal.Gen Cert.ConvMath

/-- The row mask `n ≥ k` chooses between two numbers. -/
theorem sge_select (k n : ℕ) (hn : n < 2048) (hk : k < 2048) (a b : EReal) :
    Scalar.select (IntOp.cmpi .sge (BitVec.ofNat 32 n) (BitVec.ofNat 32 k)) a b = if k ≤ n then a else b := by
  rw [WordCmp.cmpi_sge_ofNat (by omega) (by omega), WordCmp.select_ofBool]
  simp

/-- The row mask `n < k` chooses between two numbers. -/
theorem slt_select (k n : ℕ) (hn : n < 2048) (hk : k < 2048) (a b : EReal) :
    Scalar.select (IntOp.cmpi .slt (BitVec.ofNat 32 n) (BitVec.ofNat 32 k)) a b = if n < k then a else b := by
  rw [WordCmp.cmpi_slt_ofNat (by omega) (by omega), WordCmp.select_ofBool]
  simp

/-- The product of two blocks, one column of it. -/
abbrev col (x y : Vec Ideal S2048x256 .bf16) (l : Fin 256) (s : Fin 2048) : EReal := x (ix2 s l) * y (ix2 s l)

/-- A column rotated by `k` and masked above row `k` is the column moved down by `k`. -/
theorem rot_down (k : ℕ) (hk : k < 2048) (f : Fin 2048 → EReal) (s : Fin 2048) (h) :
    Scalar.select (IntOp.cmpi .sge (BitVec.ofNat 32 s.val) (BitVec.ofNat 32 k)) (f ⟨(s.val + 2048 - k) % 2048, h⟩) 0 = down k f s := by
  rw [sge_select k _ s.2 hk]
  unfold down
  split
  · congr 2
    omega
  · rfl

/-- A column rotated the other way and masked below is the column moved up. -/
theorem rot_up (k j : ℕ) (hk : k + j = 2048) (hj : 0 < j) (hk0 : 0 < k) (f : Fin 2048 → EReal) (s : Fin 2048) (h) :
    Scalar.select (IntOp.cmpi .slt (BitVec.ofNat 32 s.val) (BitVec.ofNat 32 j)) (f ⟨(s.val + 2048 - j) % 2048, h⟩) 0 = up k f s := by
  rw [slt_select j _ s.2 (by omega)]
  unfold up
  by_cases hs : s.val < j
  · rw [if_pos hs, dif_pos (by omega)]
    congr 2
    omega
  · rw [if_neg hs, dif_neg (by omega)]

theorem pay9_at (x y : Vec Ideal S2048x256 .bf16) (s : Fin 2048) (l : Fin 256) :
    k0_pay9 (F := Ideal) x y (ix2 s l) = col x y l s := by
  pointwise [k0_pay9, k0_pay6, k0_pay7]

theorem pay10_at (x y : Vec Ideal S2048x256 .bf16) (s : Fin 2048) (l : Fin 256) :
    k0_pay10 (F := Ideal) x y (ix2 s l) = down 1 (col x y l) s := by
  pointwise [k0_pay10, k0_pay9, k0_pay6, k0_pay7]
  exact rot_down 1 (by omega) (col x y l) s _

theorem pay11_at (x y : Vec Ideal S2048x256 .bf16) (s : Fin 2048) (l : Fin 256) :
    k0_pay11 (F := Ideal) x y (ix2 s l) = down 2 (col x y l) s := by
  pointwise [k0_pay11, k0_pay9, k0_pay6, k0_pay7]
  exact rot_down 2 (by omega) (col x y l) s _

/-- The three taps of a column, as the block of eight rows holds them. -/
abbrev taps (w : Vec Ideal S8x256 .f32) (l : Fin 256) (k : Fin 3) : EReal := w (ix2 ⟨k.val, by omega⟩ l)

/-- The gradient of the first gate: the cotangent times the convolution. -/
theorem pay13_at (z x y : Vec Ideal S2048x256 .bf16) (w2 w1 w0 : Vec Ideal S1x256 .f32) (w : Vec Ideal S8x256 .f32) (s : Fin 2048) (l : Fin 256)
    (h0 : w0 (ix2 0 l) = taps w l 0) (h1 : w1 (ix2 0 l) = taps w l 1) (h2 : w2 (ix2 0 l) = taps w l 2) :
    k0_pay13 (F := Ideal) (k0_pay8 z) (k0_pay11 x y) (k0_pay12 x y w2 w1) w0 (ix2 s l)
      = z (ix2 s l) * conv (taps w l) (col x y l) s := by
  pointwise [k0_pay13, k0_pay8, k0_pay12, pay9_at, pay10_at, pay11_at]
  rw [h0, h1, h2]
  rfl

/-- The gradient of the convolution's input. -/
theorem pay15_at (b z : Vec Ideal S2048x256 .bf16) (w2 w1 w0 : Vec Ideal S1x256 .f32) (w : Vec Ideal S8x256 .f32) (s : Fin 2048) (l : Fin 256)
    (h0 : w0 (ix2 0 l) = taps w l 0) (h1 : w1 (ix2 0 l) = taps w l 1) (h2 : w2 (ix2 0 l) = taps w l 2) :
    k0_pay15 (F := Ideal) (iota .tc S2048x1 32 [0] iota_S2048x1_d0_w32) (k0_pay5 b) (k0_pay8 z) w2 w1 w0 (ix2 s l)
      = convT (taps w l) (col z b l) s := by
  have e1 := fun h => rot_up 1 2047 (by omega) (by omega) (by omega) (col z b l) s h
  have e2 := fun h => rot_up 2 2046 (by omega) (by omega) (by omega) (col z b l) s h
  unfold convT
  rw [← e1 (Nat.mod_lt _ (by omega)), ← e2 (Nat.mod_lt _ (by omega)), ← h0, ← h1, ← h2]
  pointwise [k0_pay15, k0_pay14, k0_pay5, k0_pay8]

end Cert.ConvKernelIdeal.Conv

end
end
-- ==== Proof.ConvArr.lean ====
/- The arrays the short convolution's gradient leaves. -/
module

public import proofs.«01_k».proof.Proof.ConvBlock
public import proofs.«01_k».proof.Proof.Gen.ConvKernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.ConvKernelIdeal.Conv

open Cert.ConvKernelIdeal Cert.ConvKernelIdeal.Gen Cert.ConvMath

variable (m : (ℓ : Loc nD τ sig) → Buf (Elt Ideal) ℓ)

/-- The index maps of the windows, decided at every grid point. -/
theorem idx_val : ∀ t : Fin cfg0.N, win0_0.index t = ![t.val % 2, t.val / 2]
    ∧ win0_1.index t = ![t.val % 2, 4 + t.val / 2] ∧ win0_2.index t = ![t.val % 2, 8 + t.val / 2]
    ∧ win0_3.index t = ![t.val % 2, t.val / 2] ∧ win0_4.index t = ![0, t.val / 2]
    ∧ win0_5.index t = ![t.val % 2, t.val / 2] ∧ win0_6.index t = ![t.val % 2, t.val / 2]
    ∧ win0_7.index t = ![t.val % 2, t.val / 2] ∧ win0_8.index t = ![0, t.val / 2] :=
  (by decide +kernel : ∀ t : Fin grid0.N, _)

/-- The argument arrays on a core. -/
abbrev aP (c : Dev nD) : FVec Ideal S2x2048x3072 .bf16 := m ((c : Thread nD τ).loc main_arg0)
abbrev aK (c : Dev nD) : FVec Ideal S1x3x1024 .f32 := m ((c : Thread nD τ).loc main_arg1)
abbrev aZ (c : Dev nD) : FVec Ideal S2x2048x1024 .bf16 := m ((c : Thread nD τ).loc main_arg2)

theorem V_p (c : Dev nD) : (V m c main_v3 : FVec Ideal S4096x3072 .bf16) = shapeCast S4096x3072 (aP m c) := by
  unfold V; simp only [hostOps0, hostOps0_1, hostOps0_2, List.flatten_cons, List.flatten_nil, List.append_nil, List.cons_append, List.nil_append]; after_results; try rfl

theorem V_z (c : Dev nD) : (V m c main_v4 : FVec Ideal S4096x1024 .bf16) = shapeCast S4096x1024 (aZ m c) := by
  unfold V; simp only [hostOps0, hostOps0_1, hostOps0_2, List.flatten_cons, List.flatten_nil, List.append_nil, List.cons_append, List.nil_append]; after_results; try rfl

theorem V_k (c : Dev nD) (k : Fin 3) (d : Fin 1024) : (V m c main_v2 : FVec Ideal S8x1024 .f32) (ix2 ⟨k.val, by omega⟩ d) = aK m c (ix3 0 k d) := by
  unfold V; simp only [hostOps0, hostOps0_1, hostOps0_2, List.flatten_cons, List.flatten_nil, List.append_nil, List.cons_append, List.nil_append]; after_results;
  show extractStridedSlice S8x1024 ![0, 0] (pad S16x1024 ![0, 0] ![13, 0] ![0, 0] (shapeCast S3x1024 (aK m c) shapeCasts_S1x3x1024_S3x1024)
    (sitofp FTy.f32 (constantI S_ 32 0#32)) pads_S3x1024_S16x1024_0130_000 h_S_) slices_S16x1024_S8x1024_0_0 (ix2 ⟨k.val, _⟩ d) = _
  pointwise
  try trace_state

theorem blk0 (c : Dev nD) (t : Fin cfg0.N) (s : Fin 2048) (l : Fin 256) (b : Fin 2) (d : Fin 3072)
    (hb : b.val = t.val % 2) (hd : d.val = t.val / 2 * 256 + l.val) :
    (show FVec Ideal S2048x256 .bf16 from iblk m c 0 t) (ix2 s l) = aP m c (ix3 b s d) := by
  blk_simp [iblk, idx_val t]; erw [V_p]; pointwise; blk_ext [idx_val t]

theorem blk1 (c : Dev nD) (t : Fin cfg0.N) (s : Fin 2048) (l : Fin 256) (b : Fin 2) (d : Fin 3072)
    (hb : b.val = t.val % 2) (hd : d.val = 1024 + (t.val / 2 * 256 + l.val)) :
    (show FVec Ideal S2048x256 .bf16 from iblk m c 1 t) (ix2 s l) = aP m c (ix3 b s d) := by
  blk_simp [iblk, idx_val t]; erw [V_p]; pointwise; blk_ext [idx_val t]

theorem blk2 (c : Dev nD) (t : Fin cfg0.N) (s : Fin 2048) (l : Fin 256) (b : Fin 2) (d : Fin 3072)
    (hb : b.val = t.val % 2) (hd : d.val = 2048 + (t.val / 2 * 256 + l.val)) :
    (show FVec Ideal S2048x256 .bf16 from iblk m c 2 t) (ix2 s l) = aP m c (ix3 b s d) := by
  blk_simp [iblk, idx_val t]; erw [V_p]; pointwise; blk_ext [idx_val t]

theorem blk3 (c : Dev nD) (t : Fin cfg0.N) (s : Fin 2048) (l : Fin 256) (b : Fin 2) (d : Fin 1024)
    (hb : b.val = t.val % 2) (hd : d.val = t.val / 2 * 256 + l.val) :
    (show FVec Ideal S2048x256 .bf16 from iblk m c 3 t) (ix2 s l) = aZ m c (ix3 b s d) := by
  blk_simp [iblk, idx_val t]; erw [V_z]; pointwise; blk_ext [idx_val t]

theorem blk4 (c : Dev nD) (t : Fin cfg0.N) (l : Fin 256) (k : Fin 3) (d : Fin 1024)
    (hd : d.val = t.val / 2 * 256 + l.val) :
    taps (iblk m c 4 t) l k = aK m c (ix3 0 k d) := by
  rw [← V_k]
  show (show FVec Ideal S8x256 .f32 from iblk m c 4 t) (ix2 ⟨k.val, by omega⟩ l) = _
  blk_simp [iblk, idx_val t]
  congr 1
  blk_ext [idx_val t]

/-- The rows of the tap block, as the body loads them. -/
theorem ld_row (x : Vec Ideal S8x256 .f32) (k : ℕ) (hk : k < 8) (h) (l : Fin 256) :
    View.ld x (Rect.unit ![k, 0] ![1, 256] h) (ix2 0 l) = x (ix2 ⟨k, hk⟩ l) := by
  unfold View.ld
  congr 1
  idx_ext

/-- The batch and the channels a grid point works on. -/
def batch (t : Fin cfg0.N) : Fin 2 := ⟨t.val % 2, by omega⟩
def chan (t : Fin cfg0.N) (l : Fin 256) : Fin 1024 := ⟨t.val / 2 * 256 + l.val, by have := t.2; have : cfg0.N = 8 := rfl; omega⟩

variable (c : Dev nD) (t : Fin cfg0.N) (l : Fin 256)

theorem col_in : col (iblk m c 1 t) (iblk m c 2 t) l = convIn (aP m c) (batch t) (chan t l) := by
  funext s
  exact congrArg₂ (· * ·) (blk1 m c t s l (batch t) _ rfl rfl) (blk2 m c t s l (batch t) _ rfl rfl)

theorem col_ct : col (iblk m c 3 t) (iblk m c 0 t) l = convCt (aP m c) (aZ m c) (batch t) (chan t l) := by
  funext s
  exact congrArg₂ (· * ·) (blk3 m c t s l (batch t) _ rfl rfl) (blk0 m c t s l (batch t) ⟨(chan t l).val, _⟩ rfl rfl)

theorem taps_eq : taps (iblk m c 4 t) l = tapsOf (aK m c) (chan t l) :=
  funext fun k => blk4 m c t l k (chan t l) rfl

/-- The row and the channel of an index of the flat arrays. -/
def flat (G : Fin 2 → Fin 1024 → Fin 2048 → EReal) : FVec Ideal S4096x1024 .bf16 :=
  fun i => G ⟨(i 0).val / 2048, by have := (i 0).2; simp at this; omega⟩ (i 1) ⟨(i 0).val % 2048, by omega⟩

theorem flat_emb (G : Fin 2 → Fin 1024 → Fin 2048 → EReal) (i : S4096x1024.Idx) (s : Fin 2048)
    (h0 : (i 0).val = t.val % 2 * 2048 + s.val) (h1 : (i 1).val = t.val / 2 * 256 + l.val) :
    flat G i = G (batch t) (chan t l) s := by
  unfold flat
  refine congr (congr (congrArg G (Fin.ext ?_)) (Fin.ext h1)) (Fin.ext ?_)
  · show (i 0).val / 2048 = t.val % 2
    rw [h0]; omega
  · show (i 0).val % 2048 = s.val
    rw [h0]; omega

theorem arr5 : (dats m 0 c).arrAt 5 (cfgs 0).N = flat (gradB (aP m c) (aK m c) (aZ m c)) := by
  refine (dats m 0 c).arrAt_eq_of_covers 5 _ (by decide +kernel) fun t _ y => ?_
  blk_simp
  rw [after0_5]
  have key : ∀ y, k0_pay13 (F := Ideal) (k0_pay8 (iblk m c 3 t)) (k0_pay11 (iblk m c 1 t) (iblk m c 2 t))
      (k0_pay12 (iblk m c 1 t) (iblk m c 2 t)
        (View.ld (iblk m c 4 t) (Rect.unit ![2, 0] ![1, 256] inb_S8x256_S1x256_2_0))
        (View.ld (iblk m c 4 t) (Rect.unit ![1, 0] ![1, 256] inb_S8x256_S1x256_1_0)))
      (View.ld (iblk m c 4 t) (Rect.unit ![0, 0] ![1, 256] inb_S8x256_S1x256_0_0)) y
      = flat (gradB (aP m c) (aK m c) (aZ m c)) (((View.whole main_v5_0).slice (win0_5.rect t)).emb y) := by
    intro y
    idx_vars y
    rw [pay13_at _ _ _ _ _ _ (iblk m c 4 t) y0 y1 (ld_row _ 0 _ _ _) (ld_row _ 1 _ _ _) (ld_row _ 2 _ _ _),
      flat_emb t y1 _ _ y0 (by blk_simp [idx_val t]) (by blk_simp [idx_val t]), col_in, taps_eq]
    exact congrArg (· * _) (blk3 m c t y0 y1 (batch t) _ rfl rfl)
  by_cases h : t.val % 2 = 0
  · rw [outsAt0_A m c t h]; frame_out; exact key y
  · rw [outsAt0_B m c t h]; frame_out; exact key y

theorem arr6 : (dats m 0 c).arrAt 6 (cfgs 0).N = flat (gradC (aP m c) (aK m c) (aZ m c)) := by
  refine (dats m 0 c).arrAt_eq_of_covers 6 _ (by decide +kernel) fun t _ y => ?_
  blk_simp
  rw [after0_6]
  have key : ∀ y, k0_pay16 (F := Ideal) (iota .tc S2048x1 32 [0] iota_S2048x1_d0_w32) (k0_pay5 (iblk m c 0 t)) (k0_pay7 (iblk m c 2 t))
      (k0_pay8 (iblk m c 3 t)) (View.ld (iblk m c 4 t) (Rect.unit ![2, 0] ![1, 256] inb_S8x256_S1x256_2_0))
      (View.ld (iblk m c 4 t) (Rect.unit ![1, 0] ![1, 256] inb_S8x256_S1x256_1_0))
      (View.ld (iblk m c 4 t) (Rect.unit ![0, 0] ![1, 256] inb_S8x256_S1x256_0_0)) y
      = flat (gradC (aP m c) (aK m c) (aZ m c)) (((View.whole main_v5_1).slice (win0_6.rect t)).emb y) := by
    intro y
    idx_vars y
    pointwise [k0_pay16, k0_pay7]
    rw [pay15_at _ _ _ _ _ (iblk m c 4 t) y0 y1 (ld_row _ 0 _ _ _) (ld_row _ 1 _ _ _) (ld_row _ 2 _ _ _),
      flat_emb t y1 _ _ y0 (by blk_simp [idx_val t]) (by blk_simp [idx_val t]), col_ct, taps_eq]
    exact congrArg (_ * ·) (blk2 m c t y0 y1 (batch t) _ rfl rfl)
  by_cases h : t.val % 2 = 0
  · rw [outsAt0_A m c t h]; frame_out; exact key y
  · rw [outsAt0_B m c t h]; frame_out; exact key y

theorem arr7 : (dats m 0 c).arrAt 7 (cfgs 0).N = flat (gradH (aP m c) (aK m c) (aZ m c)) := by
  refine (dats m 0 c).arrAt_eq_of_covers 7 _ (by decide +kernel) fun t _ y => ?_
  blk_simp
  rw [after0_7]
  have key : ∀ y, k0_pay17 (F := Ideal) (iota .tc S2048x1 32 [0] iota_S2048x1_d0_w32) (k0_pay5 (iblk m c 0 t)) (k0_pay6 (iblk m c 1 t))
      (k0_pay8 (iblk m c 3 t)) (View.ld (iblk m c 4 t) (Rect.unit ![2, 0] ![1, 256] inb_S8x256_S1x256_2_0))
      (View.ld (iblk m c 4 t) (Rect.unit ![1, 0] ![1, 256] inb_S8x256_S1x256_1_0))
      (View.ld (iblk m c 4 t) (Rect.unit ![0, 0] ![1, 256] inb_S8x256_S1x256_0_0)) y
      = flat (gradH (aP m c) (aK m c) (aZ m c)) (((View.whole main_v5_2).slice (win0_7.rect t)).emb y) := by
    intro y
    idx_vars y
    pointwise [k0_pay17, k0_pay6]
    rw [pay15_at _ _ _ _ _ (iblk m c 4 t) y0 y1 (ld_row _ 0 _ _ _) (ld_row _ 1 _ _ _) (ld_row _ 2 _ _ _),
      flat_emb t y1 _ _ y0 (by blk_simp [idx_val t]) (by blk_simp [idx_val t]), col_ct, taps_eq]
    exact congrArg (_ * ·) (blk1 m c t y0 y1 (batch t) _ rfl rfl)
  by_cases h : t.val % 2 = 0
  · rw [outsAt0_A m c t h]; frame_out; exact key y
  · rw [outsAt0_B m c t h]; frame_out; exact key y

end Cert.ConvKernelIdeal.Conv

end
end
-- ==== Proof.ConvTap.lean ====
/- The gradient of the taps, which the kernel adds up over the batch in three rows of a block. -/
module

public import proofs.«01_k».proof.Proof.ConvArr
public import proofs.«01_k».proof.Proof.Gen.ConvKernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.ConvKernelIdeal.Conv

open Cert.ConvKernelIdeal Cert.ConvKernelIdeal.Gen Cert.ConvMath

variable (m : (ℓ : Loc nD τ sig) → Buf (Elt Ideal) ℓ)

variable (c : Dev nD) (t : Fin cfg0.N) (l : Fin 256)

theorem row_mem (k : ℕ) (h : ∀ a, (![k, 0] : Fin 2 → ℕ) a + (![1, 256] : Fin 2 → ℕ) a ≤ S8x256.size a) (r : Fin 8) (l : Fin 256) (hr : r.val = k) :
    (Rect.unit (s := S8x256) ![k, 0] ![1, 256] h).emb (ix2 0 l) = ix2 r l := by
  subst hr; idx_ext

theorem row_not_mem (k : ℕ) (h : ∀ a, (![k, 0] : Fin 2 → ℕ) a + (![1, 256] : Fin 2 → ℕ) a ≤ S8x256.size a) (r : Fin 8) (l : Fin 256) (hr : r.val ≠ k) :
    (ix2 r l : S8x256.Idx) ∉ (Rect.unit (s := S8x256) ![k, 0] ![1, 256] h).set := by
  rw [Rect.mem_set_unit]
  intro H
  have := H 0
  simp at this
  omega

theorem row_idx (k : ℕ) (hk : k < 8) (h : ∀ a, (![k, 0] : Fin 2 → ℕ) a + (![1, 256] : Fin 2 → ℕ) a ≤ S8x256.size a) (l : Fin 256) :
    (Rect.unit (s := S8x256) ![k, 0] ![1, 256] h).idx (ix2 0 l) = ix2 ⟨k, hk⟩ l :=
  row_mem k h ⟨k, hk⟩ l rfl

/-- A row written over earlier writes, read at an index. -/
theorem canon_row (k : ℕ) (h : ∀ a, (![k, 0] : Fin 2 → ℕ) a + (![1, 256] : Fin 2 → ℕ) a ≤ S8x256.size a)
    (w : Vec Ideal S1x256 .f32) (L : List (View.Piece (Elt Ideal) S8x256 .f32)) (r : Fin 8) (l : Fin 256) :
    View.canon (⟨Rect.unit ![k, 0] ![1, 256] h, w⟩ :: L) (ix2 r l) = if r.val = k then w (ix2 0 l) else View.canon L (ix2 r l) := by
  split
  · rename_i hr
    rw [← row_mem k h r l hr]
    exact View.canon_cons_emb _ _ _ _
  · rename_i hr
    exact View.canon_cons_of_not_mem _ _ (row_not_mem k h r l hr)

theorem writes_row {σ κ sp} (v : View σ κ sp S8x256 .f32) (f : v.ty.Contents (Elt Ideal)) (k : ℕ) (h : ∀ a, (![k, 0] : Fin 2 → ℕ) a + (![1, 256] : Fin 2 → ℕ) a ≤ S8x256.size a)
    (w : Vec Ideal S1x256 .f32) (L : List (View.Piece (Elt Ideal) S8x256 .f32)) (r : Fin 8) (l : Fin 256) :
    v.read (Elt Ideal) (v.writes (Elt Ideal) f (⟨Rect.unit ![k, 0] ![1, 256] h, w⟩ :: L)) (ix2 r l) = if r.val = k then w (ix2 0 l) else v.read (Elt Ideal) (v.writes (Elt Ideal) f L) (ix2 r l) := by
  split
  · rename_i hr
    rw [← row_mem k h r l hr]
    exact View.read_writes_cons_emb _ _ _ _ _ _
  · rename_i hr
    exact View.read_writes_cons_miss _ _ _ _ _ (row_not_mem k h r l hr)

/-- What one batch adds to row `r` of a block. -/
def rowTerm (r : ℕ) : EReal := if r < 3 then tap (2 - r) (convIn (aP m c) (batch t) (chan t l)) (convCt (aP m c) (aZ m c) (batch t) (chan t l)) else 0

theorem pay2_at (w : Vec Ideal S1x256 .f32) :
    k0_pay2 (F := Ideal) (k0_pay11 (iblk m c 1 t) (iblk m c 2 t)) (k0_pay14 (k0_pay5 (iblk m c 0 t)) (k0_pay8 (iblk m c 3 t))) w (ix2 0 l)
      = w (ix2 0 l) + rowTerm m c t l 0 := by
  unfold rowTerm
  rw [← col_in, ← col_ct]
  pointwise [k0_pay2, pay11_at, k0_pay14, k0_pay5, k0_pay8]
  rfl

theorem pay3_at (w : Vec Ideal S1x256 .f32) :
    k0_pay3 (F := Ideal) (k0_pay10 (iblk m c 1 t) (iblk m c 2 t)) (k0_pay14 (k0_pay5 (iblk m c 0 t)) (k0_pay8 (iblk m c 3 t))) w (ix2 0 l)
      = w (ix2 0 l) + rowTerm m c t l 1 := by
  unfold rowTerm
  rw [← col_in, ← col_ct]
  pointwise [k0_pay3, pay10_at, k0_pay14, k0_pay5, k0_pay8]
  rfl

theorem pay4_at (w : Vec Ideal S1x256 .f32) :
    k0_pay4 (F := Ideal) (k0_pay9 (iblk m c 1 t) (iblk m c 2 t)) (k0_pay14 (k0_pay5 (iblk m c 0 t)) (k0_pay8 (iblk m c 3 t))) w (ix2 0 l)
      = w (ix2 0 l) + rowTerm m c t l 2 := by
  unfold rowTerm
  rw [← col_in, ← col_ct]
  pointwise [k0_pay4, pay9_at, k0_pay14, k0_pay5, k0_pay8]
  rfl

theorem fill_at (r : Fin 8) : View.canon [(⟨Rect.unit ![0, 0] ![8, 256] inb_S8x256_S8x256_0_0, k0_pay1 (F := Ideal)⟩ : View.Piece (Elt Ideal) S8x256 .f32)] (ix2 r l) = 0 := by
  rw [show (ix2 r l : S8x256.Idx) = (Rect.unit (s := S8x256) ![0, 0] ![8, 256] inb_S8x256_S8x256_0_0).emb (ix2 r l) from by idx_ext]
  rw [View.canon_cons_emb]
  pointwise [k0_pay1]

/-- The block after the first batch. -/
theorem acc_first (h : t.val % 2 = 0) (r : Fin 8) : (outsAt0 m c t.val t.isLt).2.2.2 (ix2 r l) = rowTerm m c t l r.val := by
  rw [outsAt0_A m c t h]; frame_out
  simp only [View.readCov_eq_canon', canon_row, pay2_at, pay3_at, pay4_at, fill_at, row_idx 0 (by omega), row_idx 1 (by omega), row_idx 2 (by omega)]
  obtain ⟨r, hr⟩ := r
  rcases (by omega : r = 0 ∨ r = 1 ∨ r = 2 ∨ 3 ≤ r) with rfl | rfl | rfl | h3
  · simp
  · simp
  · simp
  · rw [if_neg (by simp; omega), if_neg (by simp; omega), if_neg (by simp; omega)]
    exact (if_neg (by simp; omega)).symm

theorem acc_next (h : ¬ t.val % 2 = 0) (h' : t.val - 1 < cfg0.N) (r : Fin 8) : (outsAt0 m c t.val t.isLt).2.2.2 (ix2 r l)
     = (outsAt0 m c (t.val - 1) h').2.2.2 (ix2 r l) + rowTerm m c t l r.val := by
  rw [outsAt0_B m c t h]; frame_out
  simp only [writes_row, pay2_at, pay3_at, pay4_at, ld_row _ 0 (by omega), ld_row _ 1 (by omega), ld_row _ 2 (by omega)]
  obtain ⟨r, hr⟩ := r
  rcases (by omega : r = 0 ∨ r = 1 ∨ r = 2 ∨ 3 ≤ r) with rfl | rfl | rfl | h3
  · simpa using congrArg (· + rowTerm m c t l 0) (ld_row (outsAt0 m c (t.val - 1) h').2.2.2 0 (by omega) _ l)
  · simpa using congrArg (· + rowTerm m c t l 1) (ld_row (outsAt0 m c (t.val - 1) h').2.2.2 1 (by omega) _ l)
  · simpa using congrArg (· + rowTerm m c t l 2) (ld_row (outsAt0 m c (t.val - 1) h').2.2.2 2 (by omega) _ l)
  · rw [if_neg (by simp; omega), if_neg (by simp; omega), if_neg (by simp; omega)]
    rw [show rowTerm m c t l r = 0 from if_neg (by omega), add_zero]
    exact congrFun (Memref.IsWhole.read_unread _ _) _

/-- The gradient of the taps. -/
def tapArr : FVec Ideal S8x1024 .f32 := fun i => gradK (aP m c) (aZ m c) (i 0).val (i 1)

theorem flush_odd : ∀ t : Fin cfg0.N, (cfg0.win 8).flush t = true → t.val % 2 = 1 :=
  (by decide +kernel : ∀ t : Fin grid0.N, _)

theorem arr8 : (dats m 0 c).arrAt 8 (cfgs 0).N = tapArr m c := by
  refine (dats m 0 c).arrAt_eq_of_covers 8 _ (by decide +kernel) fun t hf y => ?_
  blk_simp
  rw [after0_8]
  have ho := flush_odd t hf
  idx_vars y
  have hlt : t.val - 1 < cfg0.N := by have := t.2; show t.val - 1 < cfg0.grid.N; omega
  rw [acc_next m c t y1 (by omega) hlt, acc_first m c ⟨t.val - 1, hlt⟩ y1 (by simp; omega)]
  have e0 : ((((View.whole main_v5_3).slice (win0_8.rect t)).emb (ix2 y0 y1)) 0).val = y0.val := by blk_simp [idx_val t]
  have e1 : (((View.whole main_v5_3).slice (win0_8.rect t)).emb (ix2 y0 y1)) 1 = chan t y1 := Fin.ext (by blk_simp [idx_val t]; rfl)
  have ec : chan ⟨t.val - 1, hlt⟩ y1 = chan t y1 := Fin.ext (by simp only [chan]; omega)
  have eb : batch t = 1 := Fin.ext ho
  have eb' : batch ⟨t.val - 1, hlt⟩ = 0 := Fin.ext (by show (t.val - 1) % 2 = 0; omega)
  unfold tapArr gradK rowTerm
  rw [e0, e1, ec, eb, eb']
  split
  · rw [Fin.sum_univ_two]
  · rw [add_zero]

end Cert.ConvKernelIdeal.Conv

end
end
-- ==== Proof.Sums.lean ====
/- The host's sum over the first two of three axes. -/
module

public import Idealize.ShloMosaic.Lib.Pointwise

@[expose] public section

noncomputable section

open Idealize.ShloMosaic
open scoped BigOperators

namespace Cert.Sums

variable {n0 n1 n2 : ℕ}

/-- Summing the first two axes away leaves, at `j`, the initial value plus the double sum. -/
theorem hostSum01 (h : (⟨3, ![n0, n1, n2]⟩ : Shape).ReducesTo [0, 1] ⟨1, ![n2]⟩) (x : (⟨3, ![n0, n1, n2]⟩ : Shape).Idx → EReal)
    (init : EReal) (j : Fin n2) :
    Ideal.hostReduceAdd h x init (ix1 j) = init + ∑ a : Fin n0, ∑ b : Fin n1, x (ix3 a b j) := by
  unfold Ideal.hostReduceAdd
  congr 1
  rw [← Finset.sum_product' Finset.univ Finset.univ (fun a b => x (ix3 a b j))]
  symm
  refine Finset.sum_bij (fun p _ => ix3 p.1 p.2 j) ?_ ?_ ?_ ?_
  · intro p _
    rw [Finset.mem_filter]
    refine ⟨Finset.mem_univ _, ?_⟩
    funext a
    match a with
    | ⟨0, _⟩ => exact Fin.ext rfl
  · intro p _ q _ e
    exact Prod.ext (congrFun e 0) (congrFun e 1)
  · intro i hi
    refine ⟨(i 0, i 1), by simp, ?_⟩
    have e := congrArg Fin.val (congrFun (Finset.mem_filter.mp hi).2 0)
    funext a
    match a with
    | ⟨0, _⟩ => rfl
    | ⟨1, _⟩ => rfl
    | ⟨2, _⟩ => exact Fin.ext e.symm
  · intro p _
    rfl

end Cert.Sums

end
end
-- ==== Proof.ConvRef.lean ====
/- What the reference's gradient of the short convolution is, index by index. -/
module

public import proofs.«01_k».proof.Proof.ConvMath
public import proofs.«01_k».proof.Proof.Sums
public import proofs.«01_k».proof.Proof.Gen.ConvReferenceIdeal.Read
public import Idealize.ShloMosaic.Lib.Pipeline.ValueKit

@[expose] public section

set_option maxRecDepth 16384

noncomputable section

open Idealize.ShloMosaic Idealize.ShloMosaic.TcCoe
open scoped BigOperators

namespace Cert.ConvReferenceIdeal.Conv

open Cert.ConvReferenceIdeal Cert.ConvReferenceIdeal.Read Cert.ConvMath

variable (P : FVec Ideal S2x2048x3072 .bf16) (K : FVec Ideal S1x3x1024 .f32) (Z : FVec Ideal S2x2048x1024 .bf16)
variable (b : Fin 2) (s : Fin 2048) (d : Fin 1024)

theorem v5_at : val_main_v5 (F := Ideal) P (ix3 b s d) = convIn P b d s := by
  unfold convIn gateC valH
  pointwise [val_main_v0, val_main_v1, val_main_v2, val_main_v3, val_main_v5]

theorem v12_at : val_main_v12 (F := Ideal) P (ix3 b s d) = down 2 (convIn P b d) s := by
  unfold down
  pointwise [val_main_v12, val_main_v8, val_main_v7, val_main_cst, v5_at]
  split <;> split <;> first | rfl | omega | (congr 2; omega)

theorem v18_at : val_main_v18 (F := Ideal) P (ix3 b s d) = down 1 (convIn P b d) s := by
  unfold down
  pointwise [val_main_v18, val_main_v8, val_main_v7, val_main_cst, v5_at]
  split <;> split <;> first | rfl | omega | (congr 2; omega)

theorem v25_at : val_main_v25 (F := Ideal) P (ix3 b s d) = convIn P b d s := by
  pointwise [val_main_v25, val_main_v8, val_main_v7, val_main_cst, v5_at]

theorem v32_at : val_main_v32 (F := Ideal) P Z (ix3 b s d) = convCt P Z b d s := by
  unfold convCt gateB
  rw [mul_comm]
  pointwise [val_main_v32, val_main_v31, val_main_v1, val_main_v0]

theorem v35_at : val_main_v35 (F := Ideal) P K Z (ix3 b s d) = tapsOf K d 2 * convCt P Z b d s := by
  unfold tapsOf
  pointwise [val_main_v35, val_main_v34, val_main_v26, val_main_v24, val_main_v23, val_main_v4, v32_at]

theorem v44_at : val_main_v44 (F := Ideal) P K Z (ix3 b s d) = tapsOf K d 1 * convCt P Z b d s := by
  unfold tapsOf
  pointwise [val_main_v44, val_main_v43, val_main_v19, val_main_v17, val_main_v16, val_main_v4, v32_at]

theorem v55_at : val_main_v55 (F := Ideal) P K Z (ix3 b s d) = tapsOf K d 0 * convCt P Z b d s := by
  unfold tapsOf
  pointwise [val_main_v55, val_main_v54, val_main_v13, val_main_v11, val_main_v10, val_main_v4, v32_at]

theorem rev3 (x y z : EReal) : x + y + z = z + y + x := by
  rw [add_comm, add_comm x y, ← add_assoc]

theorem v33_at : val_main_v33 (F := Ideal) P K Z (ix3 b s d) = gradB P K Z b d s := by
  unfold gradB conv tapsOf
  pointwise [val_main_v33, val_main_v31, val_main_v29, val_main_v22, val_main_v28, val_main_v27, val_main_v26, val_main_v24, val_main_v23, val_main_v21, val_main_v20, val_main_v19, val_main_v17, val_main_v16, val_main_v15, val_main_v14, val_main_v13, val_main_v11, val_main_v10, val_main_v4, v12_at, v18_at, v25_at]
  exact congrArg (_ * ·) (rev3 _ _ _)

theorem v66_at : val_main_v66 (F := Ideal) P K Z (ix3 b s d) = convT (tapsOf K d) (convCt P Z b d) s := by
  unfold convT up
  pointwise [val_main_v66, val_main_v40, val_main_v49, val_main_v50, val_main_v60, val_main_v61, val_main_cst_3, val_main_cst_7, val_main_cst_11, v35_at, v44_at, v55_at]
  congr 1
  · congr 1
    by_cases h : s.val + 1 < 2048
    · rw [dif_pos (by omega), dif_pos h]; congr 3; omega
    · rw [dif_neg (by omega), dif_neg h, mul_zero]
  · by_cases h : s.val + 2 < 2048
    · rw [dif_pos (by omega), dif_pos h]; congr 3; omega
    · rw [dif_neg (by omega), dif_neg h, mul_zero]

/-- One row of the taps' gradient, summed over the batch. -/
theorem v37_at : val_main_v37 (F := Ideal) P Z (ix1 d) = ∑ b, tap 0 (convIn P b d) (convCt P Z b d) := by
  show Ideal.hostReduceAdd _ _ _ _ = _
  rw [Cert.Sums.hostSum01]
  unfold tap
  pointwise [val_main_v36, v32_at, v25_at, val_main_cst_1, down]

theorem v46_at : val_main_v46 (F := Ideal) P Z (ix1 d) = ∑ b, tap 1 (convIn P b d) (convCt P Z b d) := by
  show Ideal.hostReduceAdd _ _ _ _ = _
  rw [Cert.Sums.hostSum01]
  unfold tap
  pointwise [val_main_v45, v32_at, v18_at, val_main_cst_5]

theorem v57_at : val_main_v57 (F := Ideal) P Z (ix1 d) = ∑ b, tap 2 (convIn P b d) (convCt P Z b d) := by
  show Ideal.hostReduceAdd _ _ _ _ = _
  rw [Cert.Sums.hostSum01]
  unfold tap
  pointwise [val_main_v56, v32_at, v12_at, val_main_cst_9]

theorem v39_at : val_main_v39 (F := Ideal) P Z (ix1 d) = val_main_v37 (F := Ideal) P Z (ix1 d) := by
  show Ideal.hostReduceAdd _ _ _ _ = _
  rw [Cert.Sums.hostSum01]
  pointwise [val_main_v38, val_main_cst_2]
  exact (Fin.sum_univ_one _).trans (Fin.sum_univ_one _)

theorem v48_at : val_main_v48 (F := Ideal) P Z (ix1 d) = val_main_v46 (F := Ideal) P Z (ix1 d) := by
  show Ideal.hostReduceAdd _ _ _ _ = _
  rw [Cert.Sums.hostSum01]
  pointwise [val_main_v47, val_main_cst_6]
  exact (Fin.sum_univ_one _).trans (Fin.sum_univ_one _)

theorem v59_at : val_main_v59 (F := Ideal) P Z (ix1 d) = val_main_v57 (F := Ideal) P Z (ix1 d) := by
  show Ideal.hostReduceAdd _ _ _ _ = _
  rw [Cert.Sums.hostSum01]
  pointwise [val_main_v58, val_main_cst_10]
  exact (Fin.sum_univ_one _).trans (Fin.sum_univ_one _)

/-- The integer zero, converted. -/
theorem int_zero : FloatOps.sitofp (F := Ideal) .f32 (0#32) = 0 := by
  show ((((0#32 : BitVec 32).toInt : ℝ)) : EReal) = 0
  simp

theorem v75_at (r : Fin 8) : val_main_v75 (F := Ideal) P Z (ix2 r d) = gradK P Z r.val d := by
  unfold gradK
  pointwise [val_main_v75, val_main_v64, val_main_v63, val_main_v62, val_main_v53, val_main_v52, val_main_v51, val_main_v42, val_main_v41, val_main_cst_4, val_main_cst_8, val_main_cst_12, val_main_call0_v0, val_main_c, v39_at, v48_at, v59_at, v37_at, v46_at, v57_at]
  rcases (by omega : r.val = 0 ∨ r.val = 1 ∨ r.val = 2 ∨ 3 ≤ r.val) with h | h | h | h
  · simp [h]
  · simp [h]
  · simp [h]
  · rw [dif_neg (by omega), if_neg (by omega)]
    exact int_zero

theorem v70_at (i : Fin 4096) : val_main_v70 (F := Ideal) P K Z (ix2 i d) = gradB P K Z ⟨i.val / 2048, by omega⟩ d ⟨i.val % 2048, by omega⟩ := by
  pointwise [val_main_v70, val_main_v69, v33_at]

theorem v72_at (i : Fin 4096) : val_main_v72 (F := Ideal) P K Z (ix2 i d) = gradC P K Z ⟨i.val / 2048, by omega⟩ d ⟨i.val % 2048, by omega⟩ := by
  unfold gradC valH
  pointwise [val_main_v72, val_main_v71, val_main_v68, v66_at, val_main_v3, val_main_v0]

theorem v74_at (i : Fin 4096) : val_main_v74 (F := Ideal) P K Z (ix2 i d) = gradH P K Z ⟨i.val / 2048, by omega⟩ d ⟨i.val % 2048, by omega⟩ := by
  unfold gradH gateC
  rw [mul_comm]
  pointwise [val_main_v74, val_main_v73, val_main_v67, v66_at, val_main_v2, val_main_v0]

end Cert.ConvReferenceIdeal.Conv

end
end
-- ==== Proof.ConvClaim.lean ====
/- The claims about the short convolution's gradient. -/
module

public import proofs.«01_k».proof.Defs
public import proofs.«01_k».proof.Proof.ConvTap
public import proofs.«01_k».proof.Proof.ConvRef
public import proofs.«01_k».proof.Proof.Gen.ConvKernel.Frame
public import proofs.«01_k».proof.Proof.Gen.ConvReferenceIdeal.Run
public import Idealize.ShloMosaic.Lib.Claim

@[expose] public section

set_option maxRecDepth 16384

noncomputable section

open Idealize.ShloMosaic Idealize.ShloMosaic.TcCoe Idealize.SL.Sem

namespace Cert.Proof.Conv

open Cert.ConvMath

section
open Cert.ConvKernelIdeal Cert.ConvKernelIdeal.Conv

/-- What the kernel leaves, on every device. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5_0) = flat (gradB (aP m c) (aK m c) (aZ m c))
      ∧ r.2.mem ((c.tc : Thread nD τ).loc main_v5_1) = flat (gradC (aP m c) (aK m c) (aZ m c))
      ∧ r.2.mem ((c.tc : Thread nD τ).loc main_v5_2) = flat (gradH (aP m c) (aK m c) (aZ m c))
      ∧ r.2.mem ((c.tc : Thread nD τ).loc main_v5_3) = tapArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (arr5 m c), (h c).2.1.trans (arr6 m c), (h c).2.2.1.trans (arr7 m c),
    (h c).2.2.2.1.trans (arr8 m c), (h c).2.2.2.2⟩) (Value.run_blocks (F := Ideal) m g)

end

section
open Cert.ConvReferenceIdeal Cert.ConvReferenceIdeal.Conv Cert.ConvReferenceIdeal.Read

variable (P : FVec Ideal S2x2048x3072 .bf16) (K : FVec Ideal S1x3x1024 .f32) (Z : FVec Ideal S2x2048x1024 .bf16)

theorem ref_B : val_main_v70 (F := Ideal) P K Z = Cert.ConvKernelIdeal.Conv.flat (gradB P K Z) :=
  funext fun i => by idx_vars i; exact v70_at P K Z i1 i0

theorem ref_C : val_main_v72 (F := Ideal) P K Z = Cert.ConvKernelIdeal.Conv.flat (gradC P K Z) :=
  funext fun i => by idx_vars i; exact v72_at P K Z i1 i0

theorem ref_H : val_main_v74 (F := Ideal) P K Z = Cert.ConvKernelIdeal.Conv.flat (gradH P K Z) :=
  funext fun i => by idx_vars i; exact v74_at P K Z i1 i0

theorem ref_K : val_main_v75 (F := Ideal) P Z = fun i => gradK P Z (i 0).val (i 1) :=
  funext fun i => by idx_vars i; exact v75_at P Z i1 i0

end

theorem algebraic : Cert.algebraic_ConvKernelIdeal_ConvReferenceIdeal := by
  pair_intro
  · run_from kernel_run m g
  · run_from Cert.ConvReferenceIdeal.Value.run (F := Ideal) m' g'
    · exact (Cert.ConvReferenceIdeal.Read.val_main_v70_eq _ _ _).trans (ref_B _ _ _)
    · exact (Cert.ConvReferenceIdeal.Read.val_main_v72_eq _ _ _).trans (ref_C _ _ _)
    · exact (Cert.ConvReferenceIdeal.Read.val_main_v74_eq _ _ _).trans (ref_H _ _ _)
    · exact (Cert.ConvReferenceIdeal.Read.val_main_v75_eq _ _).trans (ref_K _ _)

theorem frame_ref : Cert.quiescent_ConvReferenceIdeal := fun m g _ =>
  (θ_run Cert.ConvReferenceIdeal.defs _ _).mono (fun r h => ⟨fun c => (h c).2.2.2.2, sem_eq_zero_of_no_sems (by decide) r.2⟩)
    (Cert.ConvReferenceIdeal.Value.run (F := Ideal) m g)

theorem claims : Cert.quiescent_ConvKernel ∧ Cert.quiescent_ConvKernelIdeal ∧ Cert.quiescent_ConvReferenceIdeal
    ∧ Cert.preserves_ConvKernel_ConvKernelIdeal ∧ Cert.algebraic_ConvKernelIdeal_ConvReferenceIdeal :=
  ⟨fun m g _ => Cert.ConvKernel.Gen.frame m g, fun m g _ => Cert.ConvKernelIdeal.Gen.frame m g, frame_ref, trivial, algebraic⟩

end Cert.Proof.Conv

end
end
-- ==== Proof.CfwdArr.lean ====
/- The array the short convolution's forward call leaves. -/
module

public import proofs.«01_k».proof.Proof.ConvBlock
public import proofs.«01_k».proof.Proof.ConvArr
public import proofs.«01_k».proof.Proof.Gen.CfwdKernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.CfwdKernelIdeal.Cfwd

open Cert.CfwdKernelIdeal Cert.CfwdKernelIdeal.Gen Cert.ConvMath
open Cert.ConvKernelIdeal.Conv (col taps rot_down flat)

/-- The gated convolution of one channel of one sequence. -/
def gated (P : FVec Ideal S2x2048x3072 .bf16) (K : FVec Ideal S1x3x1024 .f32) (b : Fin 2) (d : Fin 1024) (s : Fin 2048) : EReal :=
  gateB P b d s * conv (tapsOf K d) (convIn P b d) s

variable (m : (ℓ : Loc nD τ sig) → Buf (Elt Ideal) ℓ)

/-- The index maps of the windows, decided at every grid point. -/
theorem idx_val : ∀ t : Fin cfg0.N, win0_0.index t = ![t.val / 4, t.val % 4]
    ∧ win0_1.index t = ![t.val / 4, 4 + t.val % 4] ∧ win0_2.index t = ![t.val / 4, 8 + t.val % 4]
    ∧ win0_3.index t = ![0, t.val % 4] ∧ win0_4.index t = ![t.val / 4, t.val % 4] :=
  (by decide +kernel : ∀ t : Fin grid0.N, _)

/-- The argument arrays on a core. -/
abbrev aP (c : Dev nD) : FVec Ideal S2x2048x3072 .bf16 := m ((c : Thread nD τ).loc main_arg0)
abbrev aK (c : Dev nD) : FVec Ideal S1x3x1024 .f32 := m ((c : Thread nD τ).loc main_arg1)

theorem V_p (c : Dev nD) : (V m c main_v3 : FVec Ideal S4096x3072 .bf16) = shapeCast S4096x3072 (aP m c) := by
  unfold V; simp only [hostOps0, hostOps0_1, hostOps0_2, List.flatten_cons, List.flatten_nil, List.append_nil, List.cons_append, List.nil_append]; after_results; try rfl

theorem V_k (c : Dev nD) (k : Fin 3) (d : Fin 1024) : (V m c main_v2 : FVec Ideal S8x1024 .f32) (ix2 ⟨k.val, by omega⟩ d) = aK m c (ix3 0 k d) := by
  unfold V; simp only [hostOps0, hostOps0_1, hostOps0_2, List.flatten_cons, List.flatten_nil, List.append_nil, List.cons_append, List.nil_append]; after_results
  show extractStridedSlice S8x1024 ![0, 0] (pad S16x1024 ![0, 0] ![13, 0] ![0, 0] (shapeCast S3x1024 (aK m c) shapeCasts_S1x3x1024_S3x1024)
    (sitofp FTy.f32 (constantI S_ 32 0#32)) pads_S3x1024_S16x1024_0130_000 h_S_) slices_S16x1024_S8x1024_0_0 (ix2 ⟨k.val, _⟩ d) = _
  pointwise

theorem blk0 (c : Dev nD) (t : Fin cfg0.N) (s : Fin 2048) (l : Fin 256) (b : Fin 2) (d : Fin 3072)
    (hb : b.val = t.val / 4) (hd : d.val = t.val % 4 * 256 + l.val) :
    (show FVec Ideal S2048x256 .bf16 from iblk m c 0 t) (ix2 s l) = aP m c (ix3 b s d) := by
  blk_simp [iblk, idx_val t]; erw [V_p]; pointwise; blk_ext [idx_val t]

theorem blk1 (c : Dev nD) (t : Fin cfg0.N) (s : Fin 2048) (l : Fin 256) (b : Fin 2) (d : Fin 3072)
    (hb : b.val = t.val / 4) (hd : d.val = 1024 + (t.val % 4 * 256 + l.val)) :
    (show FVec Ideal S2048x256 .bf16 from iblk m c 1 t) (ix2 s l) = aP m c (ix3 b s d) := by
  blk_simp [iblk, idx_val t]; erw [V_p]; pointwise; blk_ext [idx_val t]

theorem blk2 (c : Dev nD) (t : Fin cfg0.N) (s : Fin 2048) (l : Fin 256) (b : Fin 2) (d : Fin 3072)
    (hb : b.val = t.val / 4) (hd : d.val = 2048 + (t.val % 4 * 256 + l.val)) :
    (show FVec Ideal S2048x256 .bf16 from iblk m c 2 t) (ix2 s l) = aP m c (ix3 b s d) := by
  blk_simp [iblk, idx_val t]; erw [V_p]; pointwise; blk_ext [idx_val t]

theorem blk3 (c : Dev nD) (t : Fin cfg0.N) (l : Fin 256) (k : Fin 3) (d : Fin 1024)
    (hd : d.val = t.val % 4 * 256 + l.val) :
    taps (iblk m c 3 t) l k = aK m c (ix3 0 k d) := by
  rw [← V_k]
  show (show FVec Ideal S8x256 .f32 from iblk m c 3 t) (ix2 ⟨k.val, by omega⟩ l) = _
  blk_simp [iblk, idx_val t]
  congr 1
  blk_ext [idx_val t]

/-- The batch and the channels a grid point works on. -/
def batch (t : Fin cfg0.N) : Fin 2 := ⟨t.val / 4, by have := t.2; have : cfg0.N = 8 := rfl; omega⟩
def chan (t : Fin cfg0.N) (l : Fin 256) : Fin 1024 := ⟨t.val % 4 * 256 + l.val, by omega⟩

variable (c : Dev nD) (t : Fin cfg0.N) (l : Fin 256)

theorem col_in : col (iblk m c 1 t) (iblk m c 2 t) l = convIn (aP m c) (batch t) (chan t l) := by
  funext s
  exact congrArg₂ (· * ·) (blk1 m c t s l (batch t) _ rfl rfl) (blk2 m c t s l (batch t) _ rfl rfl)

theorem taps_eq : taps (iblk m c 3 t) l = tapsOf (aK m c) (chan t l) :=
  funext fun k => blk3 m c t l k (chan t l) rfl

theorem flat_emb (G : Fin 2 → Fin 1024 → Fin 2048 → EReal) (i : S4096x1024.Idx) (s : Fin 2048)
    (h0 : (i 0).val = t.val / 4 * 2048 + s.val) (h1 : (i 1).val = t.val % 4 * 256 + l.val) :
    flat G i = G (batch t) (chan t l) s := by
  unfold flat
  refine congr (congr (congrArg G (Fin.ext ?_)) (Fin.ext h1)) (Fin.ext ?_)
  · show (i 0).val / 2048 = t.val / 4
    rw [h0]; omega
  · show (i 0).val % 2048 = s.val
    rw [h0]; omega

/-- What the body stores, at a row and a lane. -/
theorem pay_at (g x y : Vec Ideal S2048x256 .bf16) (w2 w1 w0 : Vec Ideal S1x256 .f32) (w : Vec Ideal S8x256 .f32) (s : Fin 2048) (l : Fin 256)
    (h0 : w0 (ix2 0 l) = taps w l 0) (h1 : w1 (ix2 0 l) = taps w l 1) (h2 : w2 (ix2 0 l) = taps w l 2) :
    k0_pay1 (F := Ideal) (k0_pay2 x y w2 w1 w0 g) (ix2 s l) = g (ix2 s l) * conv (taps w l) (col x y l) s := by
  have e1 := fun h => rot_down 1 (by omega) (col x y l) s h
  have e2 := fun h => rot_down 2 (by omega) (col x y l) s h
  unfold conv
  rw [← e1 (Nat.mod_lt _ (by omega)), ← e2 (Nat.mod_lt _ (by omega)), ← h0, ← h1, ← h2]
  pointwise [k0_pay1, k0_pay2]

theorem arr4 : (dats m 0 c).arrAt 4 (cfgs 0).N = flat (gated (aP m c) (aK m c)) := by
  refine (dats m 0 c).arrAt_eq_of_covers 4 _ (by decide +kernel) fun t _ y => ?_
  blk_simp
  rw [after0_4]
  have key : ∀ y : S2048x256.Idx, out0_4 (F := Ideal) (iblk m c 0 t) (iblk m c 1 t) (iblk m c 2 t) (iblk m c 3 t) y
      = flat (gated (aP m c) (aK m c)) (((View.whole main_v4).slice (win0_4.rect t)).emb y) := by
    intro y
    idx_vars y
    frame_out
    rw [pay_at _ _ _ _ _ _ (iblk m c 3 t) y0 y1 (Cert.ConvKernelIdeal.Conv.ld_row _ 0 (by omega) _ _) (Cert.ConvKernelIdeal.Conv.ld_row _ 1 (by omega) _ _)
        (Cert.ConvKernelIdeal.Conv.ld_row _ 2 (by omega) _ _),
      flat_emb t y1 _ _ y0 (by blk_simp [idx_val t]) (by blk_simp [idx_val t]), col_in, taps_eq]
    exact congrArg (· * _) (blk0 m c t y0 y1 (batch t) _ rfl rfl)
  exact key y

end Cert.CfwdKernelIdeal.Cfwd

end
end
-- ==== Proof.CfwdClaim.lean ====
/- The claims about the short convolution's forward call. -/
module

public import proofs.«01_k».proof.Defs
public import proofs.«01_k».proof.Proof.CfwdArr
public import proofs.«01_k».proof.Proof.ConvRef
public import proofs.«01_k».proof.Proof.Gen.CfwdKernel.Frame
public import proofs.«01_k».proof.Proof.Gen.CfwdReferenceIdeal.Run
public import proofs.«01_k».proof.Proof.Gen.CfwdReferenceIdeal.Read
public import Idealize.ShloMosaic.Lib.Claim

@[expose] public section

set_option maxRecDepth 16384

noncomputable section

open Idealize.ShloMosaic Idealize.ShloMosaic.TcCoe Idealize.SL.Sem

namespace Cert.Proof.Cfwd

open Cert.ConvMath
open Cert.CfwdKernelIdeal.Cfwd (gated)
open Cert.ConvKernelIdeal.Conv (flat)

section
open Cert.CfwdKernelIdeal Cert.CfwdKernelIdeal.Cfwd

/-- What the kernel leaves, on every device. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = flat (gated (aP m c) (aK m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (arr4 m c), (h c).2⟩) (Value.run_blocks (F := Ideal) m g)

end

section
open Cert.CfwdReferenceIdeal Cert.CfwdReferenceIdeal.Read

variable (P : FVec Ideal S2x2048x3072 .bf16) (K : FVec Ideal S1x3x1024 .f32) (b : Fin 2) (s : Fin 2048) (d : Fin 1024)

theorem in_at : val_main_v5 (F := Ideal) P (ix3 b s d) = convIn P b d s := by
  unfold convIn gateC valH
  pointwise [val_main_v0, val_main_v2, val_main_v3, val_main_v5]

theorem two_at : val_main_v11 (F := Ideal) P (ix3 b s d) = down 2 (convIn P b d) s := by
  unfold down
  pointwise [val_main_v11, val_main_v8, val_main_v7, val_main_cst, in_at]
  split <;> split <;> first | rfl | omega | (congr 2; omega)

theorem one_at : val_main_v17 (F := Ideal) P (ix3 b s d) = down 1 (convIn P b d) s := by
  unfold down
  pointwise [val_main_v17, val_main_v8, val_main_v7, val_main_cst, in_at]
  split <;> split <;> first | rfl | omega | (congr 2; omega)

theorem zero_at : val_main_v24 (F := Ideal) P (ix3 b s d) = convIn P b d s := by
  pointwise [val_main_v24, val_main_v8, val_main_v7, val_main_cst, in_at]

theorem gated_at : val_main_v29 (F := Ideal) P K (ix3 b s d) = gated P K b d s := by
  unfold gated conv tapsOf gateB
  pointwise [val_main_v29, val_main_v28, val_main_v27, val_main_v26, val_main_v25, val_main_v23, val_main_v22, val_main_v21, val_main_v20, val_main_v19, val_main_v18, val_main_v16, val_main_v15, val_main_v14, val_main_v13, val_main_v12, val_main_v10, val_main_v9, val_main_v4, val_main_v1, val_main_v0, two_at, one_at, zero_at]
  exact congrArg (_ * ·) (Cert.ConvReferenceIdeal.Conv.rev3 _ _ _)

theorem row_at (i : Fin 4096) : val_main_v31 (F := Ideal) P K (ix2 i d) = gated P K ⟨i.val / 2048, by omega⟩ d ⟨i.val % 2048, by omega⟩ := by
  rw [← gated_at]
  pointwise [val_main_v31, val_main_v30]

theorem ref_flat : val_main_v31 (F := Ideal) P K = flat (gated P K) :=
  funext fun i => by idx_vars i; exact row_at P K i1 i0

end

theorem algebraic : Cert.algebraic_CfwdKernelIdeal_CfwdReferenceIdeal := by
  pair_intro
  · run_from kernel_run m g
  · run_from Cert.CfwdReferenceIdeal.Value.run (F := Ideal) m' g'
    · exact (Cert.CfwdReferenceIdeal.Read.val_main_v31_eq _ _).trans (ref_flat _ _)

theorem frame_ref : Cert.quiescent_CfwdReferenceIdeal := fun m g _ =>
  (θ_run Cert.CfwdReferenceIdeal.defs _ _).mono (fun r h => ⟨fun c => (h c).2, sem_eq_zero_of_no_sems (by decide) r.2⟩)
    (Cert.CfwdReferenceIdeal.Value.run (F := Ideal) m g)

theorem claims : Cert.quiescent_CfwdKernel ∧ Cert.quiescent_CfwdKernelIdeal ∧ Cert.quiescent_CfwdReferenceIdeal
    ∧ Cert.preserves_CfwdKernel_CfwdKernelIdeal ∧ Cert.algebraic_CfwdKernelIdeal_CfwdReferenceIdeal :=
  ⟨fun m g _ => Cert.CfwdKernel.Gen.frame m g, fun m g _ => Cert.CfwdKernelIdeal.Gen.frame m g, frame_ref, trivial, algebraic⟩

end Cert.Proof.Cfwd

end
end
-- ==== Proof.ForgetMath.lean ====
/- The sums of a sequence from a position on, and the derivative of the log of the logistic function. -/
module

public import proofs.«01_k».proof.Proof.ConvMath
public import Idealize.ShloMosaic.Lib.Pointwise

@[expose] public section

set_option maxRecDepth 16384

noncomputable section

open Idealize.ShloMosaic
open scoped BigOperators

namespace Cert.ForgetMath

open Cert.ConvMath

/-- A sequence continued by zeros. -/
def ext (f : Fin 2048 → EReal) (i : ℕ) : EReal := if h : i < 2048 then f ⟨i, h⟩ else 0

/-- The sum of `n` terms from a position on. -/
def win (n : ℕ) (f : Fin 2048 → EReal) (s : Fin 2048) : EReal := ∑ j ∈ Finset.range n, ext f (s.val + j)

theorem up_eq (k : ℕ) (f : Fin 2048 → EReal) (s : Fin 2048) : up k f s = ext f (s.val + k) := rfl

theorem ext_win (n : ℕ) (f : Fin 2048 → EReal) (i : ℕ) : ext (win n f) i = ∑ j ∈ Finset.range n, ext f (i + j) := by
  by_cases h : i < 2048
  · rw [ext, dif_pos h]; rfl
  · rw [ext, dif_neg h]
    symm
    refine Finset.sum_eq_zero fun j _ => ?_
    rw [ext, dif_neg (by omega)]

theorem win_one (f : Fin 2048 → EReal) : win 1 f = f := by
  funext s
  rw [win, Finset.sum_range_one, ext, dif_pos (by omega)]
  rfl

/-- Adding the sums `n` further on doubles their length. -/
theorem win_add (n : ℕ) (f : Fin 2048 → EReal) (s : Fin 2048) : win n f s + up n (win n f) s = win (n + n) f s := by
  rw [up_eq, ext_win, win, win, Finset.sum_range_add]
  simp only [add_assoc]

/-- The sum from a position to the end. -/
theorem win_full (f : Fin 2048 → EReal) (s : Fin 2048) : win 2048 f s = ∑ j : Fin 2048, ext f (s.val + j.val) :=
  Finset.sum_range fun j => ext f (s.val + j)

/-- A left fold of additions is the sum. -/
theorem foldl_add {α : Type*} (g : α → EReal) (l : List α) (v : EReal) : l.foldl (fun r a => r + g a) v = v + (l.map g).sum := by
  induction l generalizing v with
  | nil => simp
  | cons a l ih => rw [List.foldl_cons, ih, List.map_cons, List.sum_cons, add_assoc]

/-- The host's sum of a window that reaches from a position of the middle axis to its end. -/
theorem windowSum (h : (⟨3, ![2, 2048, 16]⟩ : Shape).ReduceWindows ![1, 2048, 1] ![1, 1, 1] ![0, 0, 0] ![0, 2047, 0] ⟨3, ![2, 2048, 16]⟩)
    (x : (⟨3, ![2, 2048, 16]⟩ : Shape).Idx → EReal) (b : Fin 2) (s : Fin 2048) (l : Fin 16) :
    Ideal.hostReduceWindowAdd ![1, 2048, 1] ![1, 1, 1] ![0, 0, 0] ![0, 2047, 0] h x 0 (ix3 b s l) = win 2048 (fun s => x (ix3 b s l)) s := by
  unfold Ideal.hostReduceWindowAdd Host.reduceWindow
  rw [foldl_add, zero_add, win_full, ← Fin.sum_univ_def, ← Equiv.sum_comp (Shape.rowMajor _)]
  simp only [Equiv.symm_apply_apply]
  symm
  refine Fintype.sum_equiv ⟨fun j => ix3 0 j 0, fun i => i 1, fun j => rfl, fun i => ?_⟩ _ _ fun j => ?_
  · funext a
    match a with
    | ⟨0, _⟩ => exact Subsingleton.elim (α := Fin 1) _ _
    | ⟨1, _⟩ => rfl
    | ⟨2, _⟩ => exact Subsingleton.elim (α := Fin 1) _ _
  · unfold ext
    have e1 : ((ix3 b s l : (⟨3, ![2, 2048, 16]⟩ : Shape).Idx) 1).val * 1 + ((ix3 0 j 0 : (⟨3, ![1, 2048, 1]⟩ : Shape).Idx) 1).val = s.val + j.val := by
      show s.val * 1 + j.val = _; omega
    by_cases hs : s.val + j.val < 2048
    · rw [dif_pos hs, dif_pos ?_]
      · refine congrArg x (funext fun a => ?_)
        match a with
        | ⟨0, _⟩ => exact Fin.ext (by show b.val = b.val * 1 + 0 - 0; omega)
        | ⟨1, _⟩ => exact Fin.ext (by show s.val + j.val = s.val * 1 + j.val - 0; omega)
        | ⟨2, _⟩ => exact Fin.ext (by show l.val = l.val * 1 + 0 - 0; omega)
      · intro a
        match a with
        | ⟨0, _⟩ => exact ⟨Nat.zero_le _, (by show b.val * 1 + 0 - 0 < 2; omega)⟩
        | ⟨1, _⟩ => exact ⟨Nat.zero_le _, (by show s.val * 1 + j.val - 0 < 2048; omega)⟩
        | ⟨2, _⟩ => exact ⟨Nat.zero_le _, (by show l.val * 1 + 0 - 0 < 16; omega)⟩
    · rw [dif_neg hs, dif_neg ?_]
      intro H
      have := (H 1).2
      have h2 : s.val * 1 + j.val - 0 < 2048 := this
      omega

/-- The derivative of the log of the logistic function, written with exponentials of differences, is the logistic function. -/
theorem real_deriv (r : ℝ) : Real.exp (r - (max r 0 + Real.log (1 + Real.exp (-max r (-r))))) = (1 + Real.exp (-r))⁻¹ := by
  rcases le_total 0 r with h | h
  · rw [max_eq_left h, max_eq_left (by linarith), show r - (r + Real.log (1 + Real.exp (-r))) = -Real.log (1 + Real.exp (-r)) by ring,
      Real.exp_neg, Real.exp_log (by positivity)]
  · rw [max_eq_right h, max_eq_right (by linarith), neg_neg, zero_add, Real.exp_sub, Real.exp_log (by positivity), Real.exp_neg,
      div_eq_iff (by positivity)]
    have := Real.exp_pos r
    field_simp
    ring

/-- The same over the extended reals, with the guards at the upper end. -/
theorem log_sigmoid_deriv (n : EReal) :
    Ideal.exp ((if n = ⊤ then 0 else n) - (if max n 0 + Ideal.log1p (Ideal.exp (-(max n (-n)))) = ⊤ then 0 else max n 0 + Ideal.log1p (Ideal.exp (-(max n (-n))))))
      = Ideal.logistic n := by
  induction n with
  | bot => simp [Ideal.log1p, Ideal.log]
  | top => simp [Ideal.log1p, show Ideal.log 1 = 0 by rw [← EReal.coe_one, Ideal.log_coe, if_neg (by norm_num), Real.log_one]; rfl,
      show Ideal.exp 0 = 1 by rw [← EReal.coe_zero, Ideal.exp_coe, Real.exp_zero]; rfl]
  | coe r =>
    have e : max (r : EReal) 0 + Ideal.log1p (Ideal.exp (-(max (r : EReal) (-r)))) = ((max r 0 + Real.log (1 + Real.exp (-max r (-r))) : ℝ) : EReal) := by
      have h1 : max (r : EReal) (-r) = ((max r (-r) : ℝ) : EReal) := by rw [← EReal.coe_neg]; exact (EReal.coe_strictMono.monotone.map_max).symm
      have h2 : max (r : EReal) 0 = ((max r 0 : ℝ) : EReal) := by rw [← EReal.coe_zero]; exact (EReal.coe_strictMono.monotone.map_max).symm
      rw [h1, h2, ← EReal.coe_neg, Ideal.exp_coe, Ideal.log1p, ← EReal.coe_one, ← EReal.coe_add, Ideal.log_coe,
        if_neg (not_le.mpr (by positivity)), ← EReal.coe_add]
    rw [e, if_neg (EReal.coe_ne_top _), if_neg (EReal.coe_ne_top _), ← EReal.coe_sub, Ideal.exp_coe, real_deriv, Ideal.logistic_coe]

end Cert.ForgetMath

end
end
-- ==== Proof.ForgetBlock.lean ====
/- What one grid point of the forget gate's gradient computes from its input blocks. -/
module

public import proofs.«01_k».proof.Proof.ForgetMath
public import proofs.«01_k».proof.Proof.ConvBlock
public import proofs.«01_k».proof.Proof.Gen.ForgetKernelIdeal.Skeleton
public import Idealize.ShloMosaic.Lib.WordCmp

@[expose] public section

set_option maxRecDepth 16384

noncomputable section

open Idealize.ShloMosaic
open scoped BigOperators

namespace Cert.ForgetKernelIdeal.Forget

open Cert.ForgetKernelIdeal Cert.ForgetKernelIdeal.Gen Cert.ConvMath Cert.ForgetMath

/-- A block plus itself moved up by the rows its rotation by `e` brings to the front. -/
def upBlk (e : BitVec 32) (x : FVec Ideal S2048x128 .f32) : FVec Ideal S2048x128 .f32 :=
  addf x (select (broadcastTo S2048x128 (shapeCast S2048x1 (cmpi .slt (iota .tc S2048x1 32 [0] iota_S2048x1_d0_w32) (broadcast S2048x1 e)) shapeCasts_S2048x1_S2048x1) broadcasts_S2048x1_S2048x128)
    (dynamicRotate 0 e none x rotates_S2048x128_d0) (broadcast S2048x128 (Scalar.ofBits .f32 0x00000000#32)))

theorem upBlk_at (k j : ℕ) (hk : k + j = 2048) (hj : 0 < j) (hk0 : 0 < k) (x : FVec Ideal S2048x128 .f32) (l : Fin 128) (s : Fin 2048) :
    upBlk (BitVec.ofNat 32 j) x (ix2 s l) = x (ix2 s l) + up k (fun s => x (ix2 s l)) s := by
  have e := fun h => Cert.ConvKernelIdeal.Conv.rot_up k j hk hj hk0 (fun s => x (ix2 s l)) s h
  rw [← e (Nat.mod_lt _ (by omega))]
  have hm : (BitVec.ofNat 32 j).toNat % 2048 = j := by rw [BitVec.toNat_ofNat]; omega
  pointwise [upBlk]
  simp only [hm]

/-- The eleven doublings, over a block whose columns are given. -/
theorem cum_at (x : FVec Ideal S2048x128 .f32) (l : Fin 128) (s : Fin 2048) :
    upBlk 1024#32 (k0_pay7 (F := Ideal) (iota .tc S2048x1 32 [0] iota_S2048x1_d0_w32) (k0_pay5 x) (k0_pay6 x)) (ix2 s l) = win 2048 (fun s => x (ix2 s l)) s := by
  have step : ∀ (k j : ℕ) (_ : k + j = 2048) (_ : 0 < j) (_ : 0 < k) (y : FVec Ideal S2048x128 .f32) (_ : (fun s => y (ix2 s l)) = win k fun s => x (ix2 s l)),
      (fun s => upBlk (BitVec.ofNat 32 j) y (ix2 s l)) = win (k + k) fun s => x (ix2 s l) := fun k j hk hj hk0 y hy => by
    funext s
    rw [upBlk_at k j hk hj hk0, hy, show y (ix2 s l) = win k (fun s => x (ix2 s l)) s from congrFun hy s, win_add]
  have h := step 1 2047 (by omega) (by omega) (by omega) (shapeCast S2048x128 x shapeCasts_S2048x128_S2048x128) (by funext s; rw [win_one]; pointwise)
  have h := step 2 2046 (by omega) (by omega) (by omega) _ h
  have h := step 4 2044 (by omega) (by omega) (by omega) _ h
  have h := step 8 2040 (by omega) (by omega) (by omega) _ h
  have h := step 16 2032 (by omega) (by omega) (by omega) _ h
  have h := step 32 2016 (by omega) (by omega) (by omega) _ h
  have h := step 64 1984 (by omega) (by omega) (by omega) _ h
  have h := step 128 1920 (by omega) (by omega) (by omega) _ h
  have h := step 256 1792 (by omega) (by omega) (by omega) _ h
  have h := step 512 1536 (by omega) (by omega) (by omega) _ h
  have h := step 1024 1024 (by omega) (by omega) (by omega) _ h
  exact congrFun h s

/-- The gradient of the logits. -/
theorem pay1_at (x p : Vec Ideal S2048x128 .f32) (q : Vec Ideal S1x128 .f32) (s : Fin 2048) (l : Fin 128) :
    k0_pay1 (F := Ideal) (k0_pay7 (iota .tc S2048x1 32 [0] iota_S2048x1_d0_w32) (k0_pay5 x) (k0_pay6 x)) (k0_pay8 (iota .tc S2048x1 32 [0] iota_S2048x1_d0_w32)) 1024#32 p q (ix2 s l)
      = win 2048 (fun s => x (ix2 s l)) s * Ideal.logistic (-(p (ix2 s l) + q (ix2 0 l))) := by
  rw [← cum_at]
  pointwise [k0_pay1, upBlk, k0_pay8]
  rw [zero_sub]

theorem pay2_at (x p : Vec Ideal S2048x128 .f32) (q : Vec Ideal S1x128 .f32) (s : Fin 2048) (l : Fin 128) :
    k0_pay2 (F := Ideal) (k0_pay7 (iota .tc S2048x1 32 [0] iota_S2048x1_d0_w32) (k0_pay5 x) (k0_pay6 x)) (k0_pay8 (iota .tc S2048x1 32 [0] iota_S2048x1_d0_w32)) 1024#32 p q (ix2 s l)
      = win 2048 (fun s => x (ix2 s l)) s * Ideal.logistic (-(p (ix2 s l) + q (ix2 0 l))) := by
  rw [← pay1_at]
  pointwise [k0_pay2]

/-- Its sum over the rows. -/
theorem pay3_at (x p : Vec Ideal S2048x128 .f32) (q : Vec Ideal S1x128 .f32) (l : Fin 128) :
    k0_pay3 (F := Ideal) (k0_pay7 (iota .tc S2048x1 32 [0] iota_S2048x1_d0_w32) (k0_pay5 x) (k0_pay6 x)) (k0_pay8 (iota .tc S2048x1 32 [0] iota_S2048x1_d0_w32)) 1024#32 p q (ix2 0 l)
      = ∑ s, win 2048 (fun s => x (ix2 s l)) s * Ideal.logistic (-(p (ix2 s l) + q (ix2 0 l))) := by
  pointwise [k0_pay3]
  exact Finset.sum_congr rfl fun s _ => pay1_at x p q s l

end Cert.ForgetKernelIdeal.Forget

end
end
-- ==== Proof.ForgetArr.lean ====
/- What the arrays hold after the forget gate's gradient has run. -/
module

public import proofs.«01_k».proof.Proof.ForgetBlock
public import proofs.«01_k».proof.Proof.Gen.ForgetKernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ForgetKernelIdeal.Forget

open Cert.ForgetKernelIdeal Cert.ForgetKernelIdeal.Gen Cert.ForgetMath

variable (m : (ℓ : Loc nD τ sig) → Buf (Elt Ideal) ℓ)

/-- The index maps of the windows, decided at every grid point. -/
theorem idx_val : ∀ t : Fin cfg0.N, win0_0.index t = ![t.val, 0]
    ∧ win0_1.index t = ![t.val, 0] ∧ win0_2.index t = ![0, 0]
    ∧ win0_3.index t = ![t.val, 0] ∧ win0_4.index t = ![0, 0] :=
  (by decide +kernel : ∀ t : Fin grid0.N, _)

/-- The argument arrays on a core. -/
abbrev aP (c : Dev nD) : FVec Ideal S2x2048x16 .f32 := m ((c : Thread nD τ).loc main_arg0)
abbrev aB (c : Dev nD) : FVec Ideal S16 .f32 := m ((c : Thread nD τ).loc main_arg1)
abbrev aC (c : Dev nD) : FVec Ideal S2x16x2048 .f32 := m ((c : Thread nD τ).loc main_arg2)

theorem int_zero : FloatOps.sitofp (F := Ideal) .f32 (0#32) = 0 := by show ((((0#32 : BitVec 32).toInt : ℝ)) : EReal) = 0; simp

theorem V_p (c : Dev nD) : (V m c main_v1 : FVec Ideal S4096x128 .f32) = pad S4096x128 ![0, 0] ![0, 112] ![0, 0] (shapeCast S4096x16 (aP m c) shapeCasts_S2x2048x16_S4096x16) (sitofp .f32 (constantI S_ 32 0#32)) pads_S4096x16_S4096x128_000_01120 h_S_ := by
  unfold V; simp only [hostOps0, hostOps0_1, hostOps0_2, hostOps0_3, hostOps0_4, hostOps0_5, hostOps0_6, List.flatten_cons, List.flatten_nil, List.append_nil, List.cons_append, List.nil_append]; after_results; try rfl

theorem V_b (c : Dev nD) : (V m c main_v3 : FVec Ideal S1x128 .f32) = shapeCast S1x128 (pad S128 ![0] ![112] ![0] (aB m c) (sitofp .f32 (constantI S_ 32 0#32)) pads_S16_S128_01120 h_S_) shapeCasts_S128_S1x128 := by
  unfold V; simp only [hostOps0, hostOps0_1, hostOps0_2, hostOps0_3, hostOps0_4, hostOps0_5, hostOps0_6, List.flatten_cons, List.flatten_nil, List.append_nil, List.cons_append, List.nil_append]; after_results; try rfl

theorem V_c (c : Dev nD) : (V m c main_v6 : FVec Ideal S4096x128 .f32) = shapeCast S4096x128 (pad S2x2048x128 ![0, 0, 0] ![0, 0, 112] ![0, 0, 0] (transpose S2x2048x16 [0, 2, 1] (aC m c) transposes_S2x16x2048_S2x2048x16_0_2_1) (sitofp .f32 (constantI S_ 32 0#32)) pads_S2x2048x16_S2x2048x128_000_000_01120 h_S_) shapeCasts_S2x2048x128_S4096x128 := by
  unfold V; simp only [hostOps0, hostOps0_1, hostOps0_2, hostOps0_3, hostOps0_4, hostOps0_5, hostOps0_6, List.flatten_cons, List.flatten_nil, List.append_nil, List.cons_append, List.nil_append]; after_results; try rfl

/-- A head's column of an array, zero on the lanes no head has. -/
def lane (f : Fin 16 → EReal) (l : Fin 128) : EReal := if h : l.val < 16 then f ⟨l.val, h⟩ else 0

theorem blk0 (c : Dev nD) (t : Fin cfg0.N) (s : Fin 2048) (l : Fin 128) (b : Fin 2) (hb : b.val = t.val) :
    (show FVec Ideal S2048x128 .f32 from iblk m c 0 t) (ix2 s l) = lane (fun h => aC m c (ix3 b h s)) l := by
  unfold lane
  blk_simp [iblk, idx_val t]; erw [V_c]; pointwise [int_zero]; blk_simp [idx_val t]
  have ht : t.val < 2 := t.2
  by_cases h : l.val < 16
  · refine (dif_pos ⟨by omega, by omega, h⟩).trans (Eq.trans ?_ (dif_pos h).symm)
    refine congrArg (aC m c) ?_
    blk_ext [idx_val t]
  · refine (dif_neg fun H => h H.2.2).trans ?_
    rw [dif_neg h]

theorem blk1 (c : Dev nD) (t : Fin cfg0.N) (s : Fin 2048) (l : Fin 128) (b : Fin 2) (hb : b.val = t.val) :
    (show FVec Ideal S2048x128 .f32 from iblk m c 1 t) (ix2 s l) = lane (fun h => aP m c (ix3 b s h)) l := by
  unfold lane
  blk_simp [iblk, idx_val t]; erw [V_p]; pointwise [int_zero]; blk_simp [idx_val t]
  have ht : t.val < 2 := t.2
  by_cases h : l.val < 16
  · rw [dif_pos h, dif_pos h]
    refine congrArg (aP m c) ?_
    blk_ext [idx_val t]
  · rw [dif_neg h, dif_neg h]

theorem blk2 (c : Dev nD) (t : Fin cfg0.N) (l : Fin 128) :
    (show FVec Ideal S1x128 .f32 from iblk m c 2 t) (ix2 0 l) = lane (fun h => aB m c (ix1 h)) l := by
  unfold lane
  blk_simp [iblk, idx_val t]; erw [V_b]; pointwise [int_zero]; blk_ext [idx_val t]

/-- The gradient of a logit, at batch `b`, position `s` and lane `l`. -/
def gradF (C : FVec Ideal S2x16x2048 .f32) (P : FVec Ideal S2x2048x16 .f32) (B : FVec Ideal S16 .f32) (b : Fin 2) (s : Fin 2048) (l : Fin 128) : EReal :=
  lane (fun h => win 2048 (fun s => C (ix3 b h s)) s * Ideal.logistic (-(P (ix3 b s h) + B (ix1 h)))) l

theorem lane_win (C : FVec Ideal S2x16x2048 .f32) (b : Fin 2) (s : Fin 2048) (l : Fin 128) :
    win 2048 (fun s => lane (fun h => C (ix3 b h s)) l) s = lane (fun h => win 2048 (fun s => C (ix3 b h s)) s) l := by
  unfold lane
  by_cases h : l.val < 16
  · simp only [dif_pos h]
  · simp only [dif_neg h]
    exact Finset.sum_eq_zero fun j _ => by unfold ext; split <;> rfl

variable (c : Dev nD) (t : Fin cfg0.N) (l : Fin 128)

/-- The batch a grid point works on. -/
def batch (t : Fin cfg0.N) : Fin 2 := ⟨t.val, t.2⟩

theorem block_at (s : Fin 2048) :
    win 2048 (fun s => (show FVec Ideal S2048x128 .f32 from iblk m c 0 t) (ix2 s l)) s
      * Ideal.logistic (-((show FVec Ideal S2048x128 .f32 from iblk m c 1 t) (ix2 s l) + (show FVec Ideal S1x128 .f32 from iblk m c 2 t) (ix2 0 l)))
      = gradF (aC m c) (aP m c) (aB m c) (batch t) s l := by
  simp only [blk0 m c t _ l (batch t) rfl, blk1 m c t _ l (batch t) rfl, blk2 m c t l]
  rw [lane_win]
  unfold gradF lane
  split
  · rfl
  · rw [zero_mul]

/-- The gradients of the logits as a flat array. -/
def logitArr : FVec Ideal S4096x128 .bf16 :=
  fun i => gradF (aC m c) (aP m c) (aB m c) ⟨(i 0).val / 2048, by have := (i 0).2; simp at this; omega⟩ ⟨(i 0).val % 2048, by omega⟩ (i 1)

/-- The gradient of the biases. -/
def biasArr : FVec Ideal S1x128 .f32 := fun i => ∑ b, ∑ s, gradF (aC m c) (aP m c) (aB m c) b s (i 1)

theorem logit_emb (i : S4096x128.Idx) (s : Fin 2048) (h0 : (i 0).val = t.val * 2048 + s.val) (h1 : (i 1).val = l.val) :
    logitArr m c i = gradF (aC m c) (aP m c) (aB m c) (batch t) s l := by
  unfold logitArr
  refine congr (congr (congrArg _ (Fin.ext ?_)) (Fin.ext ?_)) (Fin.ext h1)
  · show (i 0).val / 2048 = t.val
    rw [h0]; omega
  · show (i 0).val % 2048 = s.val
    rw [h0]; omega

theorem parity : ∀ t : Fin cfg0.N, (t.val % 2 = 0 ∧ ¬ t.val % 2 = 1) ∨ (¬ t.val % 2 = 0 ∧ t.val % 2 = 1) :=
  (by decide +kernel : ∀ t : Fin grid0.N, _)

theorem arr3 : (dats m 0 c).arrAt 3 (cfgs 0).N = logitArr m c := by
  refine (dats m 0 c).arrAt_eq_of_covers 3 _ (by decide +kernel) fun t _ y => ?_
  blk_simp
  rw [after0_3]
  have key : ∀ y, k0_pay2 (F := Ideal) (k0_pay7 (iota .tc S2048x1 32 [0] iota_S2048x1_d0_w32) (k0_pay5 (iblk m c 0 t)) (k0_pay6 (iblk m c 0 t)))
      (k0_pay8 (iota .tc S2048x1 32 [0] iota_S2048x1_d0_w32)) 1024#32 (iblk m c 1 t) (iblk m c 2 t) y
      = logitArr m c (((View.whole main_v7_0).slice (win0_3.rect t)).emb y) := by
    intro y
    idx_vars y
    rw [pay2_at, logit_emb m c t y1 _ y0 (by blk_simp [idx_val t]) (by blk_simp [idx_val t])]
    exact block_at m c t y1 y0
  rcases parity t with ⟨h0, h1⟩ | ⟨h0, h1⟩
  · rw [outsAt0_A m c t h0 h1]; frame_out; exact key y
  · rw [outsAt0_B m c t h0 h1]; frame_out; exact key y

/-- The row sum one batch adds. -/
theorem row_at : k0_pay3 (F := Ideal) (k0_pay7 (iota .tc S2048x1 32 [0] iota_S2048x1_d0_w32) (k0_pay5 (iblk m c 0 t)) (k0_pay6 (iblk m c 0 t)))
      (k0_pay8 (iota .tc S2048x1 32 [0] iota_S2048x1_d0_w32)) 1024#32 (iblk m c 1 t) (iblk m c 2 t) (ix2 0 l)
      = ∑ s, gradF (aC m c) (aP m c) (aB m c) (batch t) s l := by
  rw [pay3_at]
  exact Finset.sum_congr rfl fun s _ => block_at m c t l s

theorem acc_first (h0 : t.val % 2 = 0) (h1 : ¬ t.val % 2 = 1) :
    (outsAt0 m c t.val t.isLt).2 (ix2 0 l) = ∑ s, gradF (aC m c) (aP m c) (aB m c) (batch t) s l := by
  rw [outsAt0_A m c t h0 h1]; frame_out; exact row_at m c t l

theorem acc_next (h0 : ¬ t.val % 2 = 0) (h1 : t.val % 2 = 1) (h' : t.val - 1 < cfg0.N) :
    (outsAt0 m c t.val t.isLt).2 (ix2 0 l) = (outsAt0 m c (t.val - 1) h').2 (ix2 0 l) + ∑ s, gradF (aC m c) (aP m c) (aB m c) (batch t) s l := by
  rw [outsAt0_B m c t h0 h1, ← row_at]; frame_out
  pointwise [k0_pay4]

theorem flush_last : ∀ t : Fin cfg0.N, (cfg0.win 4).flush t = true → t.val = 1 :=
  (by decide +kernel : ∀ t : Fin grid0.N, _)

theorem arr4 : (dats m 0 c).arrAt 4 (cfgs 0).N = biasArr m c := by
  refine (dats m 0 c).arrAt_eq_of_covers 4 _ (by decide +kernel) fun t hf y => ?_
  blk_simp
  rw [after0_4]
  have ho := flush_last t hf
  idx_vars y
  have hlt : t.val - 1 < cfg0.N := by have := t.2; show t.val - 1 < cfg0.grid.N; omega
  obtain rfl : y0 = 0 := Subsingleton.elim _ _
  rw [acc_next m c t y1 (by omega) (by omega) hlt, acc_first m c ⟨t.val - 1, hlt⟩ y1 (by simp; omega) (by simp; omega)]
  have e1 : (((View.whole main_v7_1).slice (win0_4.rect t)).emb (ix2 0 y1)) 1 = y1 := Fin.ext (by blk_simp [idx_val t])
  have eb : batch t = 1 := Fin.ext ho
  have eb' : batch ⟨t.val - 1, hlt⟩ = 0 := Fin.ext (by show t.val - 1 = 0; omega)
  unfold biasArr
  rw [e1, eb, eb', Fin.sum_univ_two]

end Cert.ForgetKernelIdeal.Forget

end
end
-- ==== Proof.ForgetRef.lean ====
/- What the reference computes for the forget gate's gradient. -/
module

public import proofs.«01_k».proof.Proof.ForgetArr
public import proofs.«01_k».proof.Proof.Sums
public import proofs.«01_k».proof.Proof.Gen.ForgetReferenceIdeal.Read

@[expose] public section

set_option maxRecDepth 16384

noncomputable section

open Idealize.ShloMosaic Idealize.ShloMosaic.TcCoe
open scoped BigOperators

namespace Cert.ForgetReferenceIdeal.Forget

open Cert.ForgetReferenceIdeal Cert.ForgetReferenceIdeal.Read Cert.ForgetMath Cert.ForgetKernelIdeal.Forget

variable (P : FVec Ideal S2x2048x16 .f32) (B : FVec Ideal S16 .f32) (C : FVec Ideal S2x16x2048 .f32)
variable (b : Fin 2) (s : Fin 2048) (h : Fin 16)

theorem v0_at : val_main_call0_v0 (F := Ideal) P B (ix3 b s h) = -(P (ix3 b s h) + B (ix1 h)) := by
  pointwise [val_main_call0_v0, val_main_v2, val_main_v1, val_main_v0]

theorem v31_at : val_main_v3_1 (F := Ideal) P B (ix3 b s h) = Ideal.logistic (-(P (ix3 b s h) + B (ix1 h))) := by
  rw [← log_sigmoid_deriv]
  pointwise [val_main_v3_1, val_main_call0_call0_v21, val_main_call0_call0_v20, val_main_call0_call0_v19, val_main_call0_call0_v18, val_main_call0_call0_v17,
    val_main_call0_call0_v16, val_main_call0_call0_v15, val_main_call0_call0_v14, val_main_call0_call0_v13, val_main_call0_v1_0, val_main_call0_call0_v11,
    val_main_call0_call0_v10, val_main_call0_call0_v9, val_main_call0_call0_v8, val_main_call0_call0_v7, val_main_call0_call0_v6, val_main_call0_call0_v5,
    val_main_call0_call0_v4, val_main_call0_call0_v3, val_main_call0_call0_v2, val_main_call0_call0_v1, val_main_call0_call0_v0, val_main_call0_call0_cst, val_main_call0_call0_cst_0,
    val_main_call0_call0_cst_1, val_main_call0_call0_cst_2, val_main_call0_call0_cst_3, v0_at]
  have ht : Ideal.ofBits .f32 2139095040#32 = ⊤ := by simp [Ideal.ofBits, Ideal.ieee]
  rw [ht]
  simp only [ne_eq, not_true_eq_false, if_false]
  rfl

theorem v7_at : val_main_v7 (F := Ideal) C (ix3 b s h) = win 2048 (fun s => C (ix3 b h s)) s := by
  have e : (val_main_call2_call0_v0 (F := Ideal)) (Shape.Idx.first Gen.h_S_) = 0 := by pointwise [val_main_call2_call0_v0, val_main_call2_call0_cst]
  unfold val_main_v7 Host.reduceWindowAdd
  rw [Ideal.hostReduceWindowAdd_def, e]
  refine (windowSum _ _ b s h).trans (congrArg (fun f => win 2048 f s) (funext fun s => ?_))
  pointwise [val_main_v6]

theorem v8_at : val_main_v8 (F := Ideal) P B C (ix3 b s h) = win 2048 (fun s => C (ix3 b h s)) s * Ideal.logistic (-(P (ix3 b s h) + B (ix1 h))) := by
  pointwise [val_main_v8, val_main_call3_v1, val_main_call3_v0, v7_at, v31_at]
  rw [EReal.neg_mul, neg_neg]

theorem v14_at (l : Fin 128) (i : Fin 4096) (h0 : i.val = b.val * 2048 + s.val) : val_main_v14 (F := Ideal) P B C (ix2 i l) = gradF C P B b s l := by
  unfold gradF lane
  pointwise [val_main_v14, val_main_v13, val_main_v12, val_main_call4_v0, val_main_c, int_zero]
  by_cases hl : l.val < 16
  · refine (dif_pos hl).trans (Eq.trans ?_ (dif_pos hl).symm)
    rw [← v8_at]
    congr 1
    idx_ext
  · refine (dif_neg hl).trans ?_
    rw [dif_neg hl]

theorem v9_at : val_main_v9 (F := Ideal) P B C (ix1 h) = ∑ b, ∑ s, val_main_v8 (F := Ideal) P B C (ix3 b s h) := by
  unfold val_main_v9
  show Ideal.hostReduceAdd _ _ _ _ = _
  rw [Cert.Sums.hostSum01]
  pointwise [val_main_cst]

theorem v16_at (l : Fin 128) : val_main_v16 (F := Ideal) P B C (ix2 0 l) = ∑ b, ∑ s, gradF C P B b s l := by
  unfold gradF lane
  have e : ∀ h, val_main_v11 (F := Ideal) P B C (ix1 h) = ∑ b, ∑ s, val_main_v8 (F := Ideal) P B C (ix3 b s h) := fun h => by
    unfold val_main_v11
    show Ideal.hostReduceAdd _ _ _ _ = _
    rw [Cert.Sums.hostSum01]
    pointwise [val_main_cst_0, val_main_v10, v9_at]
    rw [Fin.sum_univ_one, Fin.sum_univ_one]
  pointwise [val_main_v16, val_main_v15, val_main_call5_v0, val_main_c_1, int_zero, e]
  by_cases hl : l.val < 16
  · rw [dif_pos hl]
    refine Finset.sum_congr rfl fun b _ => Finset.sum_congr rfl fun s _ => ?_
    rw [dif_pos hl, v8_at]
  · rw [dif_neg hl]
    symm
    exact Finset.sum_eq_zero fun b _ => Finset.sum_eq_zero fun s _ => dif_neg hl

end Cert.ForgetReferenceIdeal.Forget

end
end
-- ==== Proof.ForgetClaim.lean ====
/- The claims about the forget gate's gradient. -/
module

public import proofs.«01_k».proof.Defs
public import proofs.«01_k».proof.Proof.ForgetArr
public import proofs.«01_k».proof.Proof.ForgetRef
public import proofs.«01_k».proof.Proof.Gen.ForgetKernel.Frame
public import proofs.«01_k».proof.Proof.Gen.ForgetReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Forget

open Cert.ForgetKernelIdeal Cert.ForgetKernelIdeal.Forget in
/-- The gradient of the logits, as a table of rows. -/
def logits (P : FVec Ideal S2x2048x16 .f32) (B : FVec Ideal S16 .f32) (C : FVec Ideal S2x16x2048 .f32) : FVec Ideal S4096x128 .bf16 := fun i =>
  gradF C P B ⟨(i 0).val / 2048, by have := (i 0).2; simp at this; omega⟩ ⟨(i 0).val % 2048, by omega⟩ (i 1)

open Cert.ForgetKernelIdeal Cert.ForgetKernelIdeal.Forget in
/-- The gradient of the biases, as a row. -/
def bias (P : FVec Ideal S2x2048x16 .f32) (B : FVec Ideal S16 .f32) (C : FVec Ideal S2x16x2048 .f32) : FVec Ideal S1x128 .f32 := fun i =>
  ∑ b, ∑ s, gradF C P B b s (i 1)

section
open Cert.ForgetKernelIdeal Cert.ForgetKernelIdeal.Forget

/-- What the kernel leaves, on every device. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7_0) = logits (m ((c.tc : Thread nD τ).loc main_arg0)) (m ((c.tc : Thread nD τ).loc main_arg1)) (m ((c.tc : Thread nD τ).loc main_arg2))
      ∧ r.2.mem ((c.tc : Thread nD τ).loc main_v7_1) = bias (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (arr3 m c), (h c).2.1.trans (arr4 m c), (h c).2.2⟩)
    (Value.run_blocks (F := Ideal) m g)

end

section
open Cert.ForgetReferenceIdeal Cert.ForgetReferenceIdeal.Forget Cert.ForgetReferenceIdeal.Read Cert.ForgetKernelIdeal.Forget

variable (P : FVec Ideal S2x2048x16 .f32) (B : FVec Ideal S16 .f32) (C : FVec Ideal S2x16x2048 .f32)

theorem ref_logit : val_main_v14 (F := Ideal) P B C = logits P B C :=
  funext fun i => by
    idx_vars i
    refine v14_at P B C _ _ i1 i0 ?_
    show i0.val = i0.val / 2048 * 2048 + i0.val % 2048
    omega

theorem ref_bias : val_main_v16 (F := Ideal) P B C = bias P B C :=
  funext fun i => by
    idx_vars i
    obtain rfl : i0 = 0 := Subsingleton.elim (α := Fin 1) _ _
    exact v16_at P B C i1

end

theorem algebraic : Cert.algebraic_ForgetKernelIdeal_ForgetReferenceIdeal := by
  pair_intro
  · run_from kernel_run m g
  · run_from Cert.ForgetReferenceIdeal.Value.run (F := Ideal) m' g'
    · refine (Cert.ForgetReferenceIdeal.Read.val_main_v14_eq _ _).trans ?_
      rw [ref_logit, (hagree c).1, (hagree c).2.1, (hagree c).2.2]
    · refine (Cert.ForgetReferenceIdeal.Read.val_main_v16_eq _ _).trans ?_
      rw [ref_bias, (hagree c).1, (hagree c).2.1, (hagree c).2.2]

theorem frame_ref : Cert.quiescent_ForgetReferenceIdeal := fun m g _ =>
  (θ_run Cert.ForgetReferenceIdeal.defs _ _).mono (fun r h => ⟨fun c => (h c).2.2, sem_eq_zero_of_no_sems (by decide) r.2⟩)
    (Cert.ForgetReferenceIdeal.Value.run (F := Ideal) m g)

theorem claims : Cert.quiescent_ForgetKernel ∧ Cert.quiescent_ForgetKernelIdeal ∧ Cert.quiescent_ForgetReferenceIdeal
    ∧ Cert.preserves_ForgetKernel_ForgetKernelIdeal ∧ Cert.algebraic_ForgetKernelIdeal_ForgetReferenceIdeal :=
  ⟨fun m g _ => Cert.ForgetKernel.Gen.frame m g, fun m g _ => Cert.ForgetKernelIdeal.Gen.frame m g, frame_ref, trivial, algebraic⟩

end Cert.Proof.Forget

end
end
-- ==== Proof.FfwdMath.lean ====
/- Sums of a sequence up to a position, and the log of the logistic function. -/
module

public import proofs.«01_k».proof.Proof.ForgetMath
public import Idealize.ShloMosaic.Lib.Claim

@[expose] public section

set_option maxRecDepth 16384

noncomputable section

open Idealize.ShloMosaic Idealize.ShloMosaic.TcCoe Idealize.SL.Sem
open scoped BigOperators

namespace Cert.ForgetMath

open Cert.ConvMath

/-- The term `j` positions back, zero before the start. -/
def back (f : Fin 2048 → EReal) (s : Fin 2048) (j : ℕ) : EReal := if j ≤ s.val then f ⟨s.val - j, by omega⟩ else 0

/-- The sum of `n` terms up to a position. -/
def past (n : ℕ) (f : Fin 2048 → EReal) (s : Fin 2048) : EReal := ∑ j ∈ Finset.range n, back f s j

theorem past_one (f : Fin 2048 → EReal) : past 1 f = f := by
  funext s
  rw [past, Finset.sum_range_one, back, if_pos (Nat.zero_le _)]
  rfl

theorem down_past (n : ℕ) (f : Fin 2048 → EReal) (s : Fin 2048) : down n (past n f) s = ∑ j ∈ Finset.range n, back f s (n + j) := by
  unfold down
  by_cases h : n ≤ s.val
  · rw [if_pos h]
    refine Finset.sum_congr rfl fun j _ => ?_
    unfold back
    by_cases hj : n + j ≤ s.val
    · rw [if_pos (by show j ≤ s.val - n; omega), if_pos hj]
      congr 2
      show s.val - n - j = _
      omega
    · rw [if_neg (by show ¬ j ≤ s.val - n; omega), if_neg hj]
  · rw [if_neg h]
    symm
    exact Finset.sum_eq_zero fun j _ => if_neg (by omega)

/-- Adding the sums `n` further back doubles their length. -/
theorem past_add (n : ℕ) (f : Fin 2048 → EReal) (s : Fin 2048) : past n f s + down n (past n f) s = past (n + n) f s := by
  rw [down_past, past, past, Finset.sum_range_add]

/-- The sum from the start to a position. -/
theorem past_full (f : Fin 2048 → EReal) (s : Fin 2048) : past 2048 f s = ∑ j : Fin 2048, back f s j.val :=
  Finset.sum_range fun j => back f s j

/-- The host's sum of a window that reaches from the start of the middle axis to a position. -/
theorem windowPast (h : (⟨3, ![2, 2048, 16]⟩ : Shape).ReduceWindows ![1, 2048, 1] ![1, 1, 1] ![0, 2047, 0] ![0, 0, 0] ⟨3, ![2, 2048, 16]⟩)
    (x : (⟨3, ![2, 2048, 16]⟩ : Shape).Idx → EReal) (b : Fin 2) (s : Fin 2048) (l : Fin 16) :
    Ideal.hostReduceWindowAdd ![1, 2048, 1] ![1, 1, 1] ![0, 2047, 0] ![0, 0, 0] h x 0 (ix3 b s l) = past 2048 (fun s => x (ix3 b s l)) s := by
  unfold Ideal.hostReduceWindowAdd Host.reduceWindow
  rw [foldl_add, zero_add, past_full, ← Fin.sum_univ_def, ← Equiv.sum_comp (Shape.rowMajor _)]
  simp only [Equiv.symm_apply_apply]
  symm
  refine (Equiv.sum_comp Fin.revPerm (fun j : Fin 2048 => back (fun s => x (ix3 b s l)) s j.val)).symm.trans ?_
  refine Fintype.sum_equiv ⟨fun j => ix3 0 j 0, fun i => i 1, fun j => rfl, fun i => ?_⟩ _ _ fun j => ?_
  · funext a
    match a with
    | ⟨0, _⟩ => exact Subsingleton.elim (α := Fin 1) _ _
    | ⟨1, _⟩ => rfl
    | ⟨2, _⟩ => exact Subsingleton.elim (α := Fin 1) _ _
  · unfold back
    have hr : (Fin.revPerm j).val = 2047 - j.val := by rw [Fin.revPerm_apply, Fin.val_rev]; omega
    have hj := j.2
    by_cases hs : (Fin.revPerm j).val ≤ s.val
    · rw [if_pos hs, dif_pos ?_]
      · refine congrArg x (funext fun a => ?_)
        match a with
        | ⟨0, _⟩ => exact Fin.ext (by show b.val = b.val * 1 + 0 - 0; omega)
        | ⟨1, _⟩ => exact Fin.ext (by show s.val - (Fin.revPerm j).val = s.val * 1 + j.val - 2047; omega)
        | ⟨2, _⟩ => exact Fin.ext (by show l.val = l.val * 1 + 0 - 0; omega)
      · intro a
        match a with
        | ⟨0, _⟩ => exact ⟨Nat.zero_le _, (by show b.val * 1 + 0 - 0 < 2; omega)⟩
        | ⟨1, _⟩ => exact ⟨(by show 2047 ≤ s.val * 1 + j.val; omega), (by show s.val * 1 + j.val - 2047 < 2048; omega)⟩
        | ⟨2, _⟩ => exact ⟨Nat.zero_le _, (by show l.val * 1 + 0 - 0 < 16; omega)⟩
    · rw [if_neg hs, dif_neg ?_]
      intro H
      have h2 : 2047 ≤ s.val * 1 + j.val := (H 1).1
      omega

/-- The log of the logistic function, from the smaller of the number and zero. -/
def logSig (n : EReal) : EReal := min n 0 - Ideal.log1p (Ideal.exp (-(max n (-n))))

theorem soft_ne_bot (n : EReal) : Ideal.log1p (Ideal.exp (-(max n (-n)))) ≠ ⊥ := by
  have h1 : Ideal.log 1 = 0 := by rw [← EReal.coe_one, Ideal.log_coe, if_neg (by norm_num), Real.log_one]; rfl
  induction n with
  | bot => simp [Ideal.log1p, h1]
  | top => simp [Ideal.log1p, h1]
  | coe r =>
    have h1 : max (r : EReal) (-r) = ((max r (-r) : ℝ) : EReal) := by rw [← EReal.coe_neg]; exact (EReal.coe_strictMono.monotone.map_max).symm
    rw [h1, ← EReal.coe_neg, Ideal.exp_coe, Ideal.log1p, ← EReal.coe_one, ← EReal.coe_add, Ideal.log_coe, if_neg (not_le.mpr (by positivity))]
    exact EReal.coe_ne_bot _

/-- The same from the softplus of the opposite number. -/
theorem neg_softplus (n : EReal) : -(max (-n) 0 + Ideal.log1p (Ideal.exp (-(max (-n) (-(-n)))))) = logSig n := by
  have hm : max (-n) 0 = -min n 0 := by rw [← EReal.max_neg_neg, neg_zero]
  have hb : max (-n) 0 ≠ ⊥ := fun h => by
    have := le_max_right (-n) 0
    rw [h] at this
    exact absurd this (by simp)
  unfold logSig
  rw [neg_neg, max_comm (-n) n, EReal.neg_add (.inl hb) (.inr (soft_ne_bot n)), hm, neg_neg]

end Cert.ForgetMath

end
end
-- ==== Proof.FfwdBlock.lean ====
/- The block the forget gate's forward call computes. -/
module

public import proofs.«01_k».proof.Proof.ConvBlock
public import proofs.«01_k».proof.Proof.FfwdMath
public import proofs.«01_k».proof.Proof.Gen.FfwdKernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfwdKernelIdeal.Ffwd

open Cert.FfwdKernelIdeal Cert.FfwdKernelIdeal.Gen Cert.ConvMath Cert.ForgetMath

/-- A block plus itself moved down by `e` rows. -/
def dnBlk (e : BitVec 32) (x : FVec Ideal S2048x128 .f32) : FVec Ideal S2048x128 .f32 :=
  addf x (select (broadcastTo S2048x128 (shapeCast S2048x1 (cmpi .sge (iota .tc S2048x1 32 [0] iota_S2048x1_d0_w32) (broadcast S2048x1 e)) shapeCasts_S2048x1_S2048x1) broadcasts_S2048x1_S2048x128)
    (dynamicRotate 0 e none x rotates_S2048x128_d0) (broadcast S2048x128 (Scalar.ofBits .f32 0x00000000#32)))

theorem dnBlk_at (k : ℕ) (hk : k < 2048) (x : FVec Ideal S2048x128 .f32) (l : Fin 128) (s : Fin 2048) :
    dnBlk (BitVec.ofNat 32 k) x (ix2 s l) = x (ix2 s l) + down k (fun s => x (ix2 s l)) s := by
  have e := fun h => Cert.ConvKernelIdeal.Conv.rot_down k hk (fun s => x (ix2 s l)) s h
  rw [← e (Nat.mod_lt _ (by omega))]
  have hm : (BitVec.ofNat 32 k).toNat % 2048 = k := by rw [BitVec.toNat_ofNat]; omega
  pointwise [dnBlk]
  simp only [hm]

/-- The logs of the gates, before the sums. -/
def logBlk (p : Vec Ideal S2048x128 .f32) (q : Vec Ideal S1x128 .f32) : FVec Ideal S2048x128 .f32 :=
  let z := addf (shapeCast S2048x128 p shapeCasts_S2048x128_S2048x128) (broadcastTo S2048x128 (shapeCast S1x128 q shapeCasts_S1x128_S1x128) broadcasts_S1x128_S2048x128)
  subf (minimumf z (broadcast S2048x128 (Scalar.ofBits .f32 0x00000000#32)))
    (log1p (exp (subf (broadcast S2048x128 (Scalar.ofBits .f32 0x00000000#32)) (absf z))))

theorem logBlk_at (p : Vec Ideal S2048x128 .f32) (q : Vec Ideal S1x128 .f32) (s : Fin 2048) (l : Fin 128) :
    logBlk p q (ix2 s l) = logSig (p (ix2 s l) + q (ix2 0 l)) := by
  unfold logSig
  rw [← zero_sub (max _ _)]
  pointwise [logBlk]
  rfl

/-- The eleven doublings. -/
def cumBlk (p : Vec Ideal S2048x128 .f32) (q : Vec Ideal S1x128 .f32) : FVec Ideal S2048x128 .f32 :=
  dnBlk 1024#32 (dnBlk 512#32 (dnBlk 256#32 (dnBlk 128#32 (dnBlk 64#32 (dnBlk 32#32 (dnBlk 16#32 (dnBlk 8#32 (dnBlk 4#32 (dnBlk 2#32 (dnBlk 1#32 (logBlk p q)))))))))))

theorem pay_eq (p : Vec Ideal S2048x128 .f32) (q : Vec Ideal S1x128 .f32) :
    k0_pay1 (F := Ideal) (iota .tc S2048x1 32 [0] iota_S2048x1_d0_w32)
      (k0_pay5 (iota .tc S2048x1 32 [0] iota_S2048x1_d0_w32) (k0_pay2 p q) k0_pay3 (k0_pay4 p q))
      (k0_pay6 (iota .tc S2048x1 32 [0] iota_S2048x1_d0_w32) (k0_pay2 p q) k0_pay3 (k0_pay4 p q)) = cumBlk p q := rfl

theorem cum_at (p : Vec Ideal S2048x128 .f32) (q : Vec Ideal S1x128 .f32) (l : Fin 128) (s : Fin 2048) :
    cumBlk p q (ix2 s l) = past 2048 (fun s => logSig (p (ix2 s l) + q (ix2 0 l))) s := by
  have step : ∀ (k : ℕ) (_ : k < 2048) (y : FVec Ideal S2048x128 .f32) (_ : (fun s => y (ix2 s l)) = past k fun s => logSig (p (ix2 s l) + q (ix2 0 l))),
      (fun s => dnBlk (BitVec.ofNat 32 k) y (ix2 s l)) = past (k + k) fun s => logSig (p (ix2 s l) + q (ix2 0 l)) := fun k hk y hy => by
    funext s
    rw [dnBlk_at k hk, hy, show y (ix2 s l) = past k (fun s => logSig (p (ix2 s l) + q (ix2 0 l))) s from congrFun hy s, past_add]
  have h := step 1 (by omega) (logBlk p q) (by funext s; rw [past_one, logBlk_at])
  have h := step 2 (by omega) _ h
  have h := step 4 (by omega) _ h
  have h := step 8 (by omega) _ h
  have h := step 16 (by omega) _ h
  have h := step 32 (by omega) _ h
  have h := step 64 (by omega) _ h
  have h := step 128 (by omega) _ h
  have h := step 256 (by omega) _ h
  have h := step 512 (by omega) _ h
  have h := step 1024 (by omega) _ h
  exact congrFun h s

end Cert.FfwdKernelIdeal.Ffwd

end
end
-- ==== Proof.FfwdArr.lean ====
/- The array the forget gate's forward call leaves. -/
module

public import proofs.«01_k».proof.Proof.FfwdBlock
public import proofs.«01_k».proof.Proof.ForgetArr
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfwdKernelIdeal.Ffwd

open Cert.FfwdKernelIdeal Cert.FfwdKernelIdeal.Gen Cert.ForgetMath
open Cert.ForgetKernelIdeal.Forget (lane int_zero)

variable (m : (ℓ : Loc nD τ sig) → Buf (Elt Ideal) ℓ)

/-- The index maps of the windows, decided at every grid point. -/
theorem idx_val : ∀ t : Fin cfg0.N, win0_0.index t = ![t.val, 0] ∧ win0_1.index t = ![0, 0] ∧ win0_2.index t = ![t.val, 0] :=
  (by decide +kernel : ∀ t : Fin grid0.N, _)

/-- The argument arrays on a core. -/
abbrev aP (c : Dev nD) : FVec Ideal S2x2048x16 .f32 := m ((c : Thread nD τ).loc main_arg0)
abbrev aB (c : Dev nD) : FVec Ideal S16 .f32 := m ((c : Thread nD τ).loc main_arg1)

theorem V_p (c : Dev nD) : (V m c main_v1 : FVec Ideal S4096x128 .f32) = pad S4096x128 ![0, 0] ![0, 112] ![0, 0] (shapeCast S4096x16 (aP m c) shapeCasts_S2x2048x16_S4096x16) (sitofp .f32 (constantI S_ 32 0#32)) pads_S4096x16_S4096x128_000_01120 h_S_ := by
  unfold V V0; simp only [hostOps0, hostOps0_1, hostOps0_2, hostOps0_3, hostOps0_4, List.flatten_cons, List.flatten_nil, List.append_nil, List.cons_append, List.nil_append]; after_results; try rfl

theorem V_b (c : Dev nD) : (V m c main_v3 : FVec Ideal S1x128 .f32) = shapeCast S1x128 (pad S128 ![0] ![112] ![0] (aB m c) (sitofp .f32 (constantI S_ 32 0#32)) pads_S16_S128_01120 h_S_) shapeCasts_S128_S1x128 := by
  unfold V V0; simp only [hostOps0, hostOps0_1, hostOps0_2, hostOps0_3, hostOps0_4, List.flatten_cons, List.flatten_nil, List.append_nil, List.cons_append, List.nil_append]; after_results; try rfl

theorem blk0 (c : Dev nD) (t : Fin cfg0.N) (s : Fin 2048) (l : Fin 128) (b : Fin 2) (hb : b.val = t.val) :
    (show FVec Ideal S2048x128 .f32 from iblk m c 0 t) (ix2 s l) = lane (fun h => aP m c (ix3 b s h)) l := by
  unfold lane
  blk_simp [iblk, idx_val t]; erw [V_p]; pointwise [int_zero]; blk_simp [idx_val t]
  have ht : t.val < 2 := t.2
  by_cases h : l.val < 16
  · rw [dif_pos h, dif_pos h]
    refine congrArg (aP m c) ?_
    blk_ext [idx_val t]
  · rw [dif_neg h, dif_neg h]

theorem blk1 (c : Dev nD) (t : Fin cfg0.N) (l : Fin 128) :
    (show FVec Ideal S1x128 .f32 from iblk m c 1 t) (ix2 0 l) = lane (fun h => aB m c (ix1 h)) l := by
  unfold lane
  blk_simp [iblk, idx_val t]; erw [V_b]; pointwise [int_zero]; blk_ext [idx_val t]

/-- The cumulative log-decay, at batch `b`, lane `l` and position `s`. -/
def cumF (P : FVec Ideal S2x2048x16 .f32) (B : FVec Ideal S16 .f32) (b : Fin 2) (l : Fin 128) (s : Fin 2048) : EReal :=
  past 2048 (fun s => logSig (lane (fun h => P (ix3 b s h)) l + lane (fun h => B (ix1 h)) l)) s

variable (c : Dev nD) (t : Fin cfg0.N) (l : Fin 128)

/-- The batch a grid point works on. -/
def batch (t : Fin cfg0.N) : Fin 2 := ⟨t.val, t.2⟩

/-- The sums as a flat array. -/
def cumArr (P : FVec Ideal S2x2048x16 .f32) (B : FVec Ideal S16 .f32) : FVec Ideal S4096x128 .f32 :=
  fun i => cumF P B ⟨(i 0).val / 2048, by have := (i 0).2; simp at this; omega⟩ (i 1) ⟨(i 0).val % 2048, by omega⟩

theorem cum_emb (P : FVec Ideal S2x2048x16 .f32) (B : FVec Ideal S16 .f32) (i : S4096x128.Idx) (s : Fin 2048) (h0 : (i 0).val = t.val * 2048 + s.val) (h1 : (i 1).val = l.val) :
    cumArr P B i = cumF P B (batch t) l s := by
  unfold cumArr
  refine congr (congr (congrArg _ (Fin.ext ?_)) (Fin.ext h1)) (Fin.ext ?_)
  · show (i 0).val / 2048 = t.val
    rw [h0]; omega
  · show (i 0).val % 2048 = s.val
    rw [h0]; omega

theorem arr2 : (dats m 0 c).arrAt 2 (cfgs 0).N = cumArr (aP m c) (aB m c) := by
  refine (dats m 0 c).arrAt_eq_of_covers 2 _ (by decide +kernel) fun t _ y => ?_
  blk_simp
  rw [after0_2]
  have key : ∀ y : S2048x128.Idx, cumBlk (iblk m c 0 t) (iblk m c 1 t) y
      = cumArr (aP m c) (aB m c) (((View.whole main_v4).slice (win0_2.rect t)).emb y) := by
    intro y
    idx_vars y
    rw [cum_at, cum_emb t y1 _ _ _ y0 (by blk_simp [idx_val t]) (by blk_simp [idx_val t])]
    unfold cumF
    refine congrArg (fun f => past 2048 f y0) (funext fun s => congrArg logSig ?_)
    exact congrArg₂ (· + ·) (blk0 m c t s y1 (batch t) rfl) (blk1 m c t y1)
  unfold_out out0_2
  frame_out
  exact (congrFun (pay_eq _ _) y).trans (key y)

end Cert.FfwdKernelIdeal.Ffwd

end
end
-- ==== Proof.FfwdClaim.lean ====
/- The claims about the forget gate's forward call. -/
module

public import proofs.«01_k».proof.Defs
public import proofs.«01_k».proof.Proof.FfwdArr
public import proofs.«01_k».proof.Proof.Gen.FfwdKernel.Frame
public import proofs.«01_k».proof.Proof.Gen.FfwdReferenceIdeal.Run
public import proofs.«01_k».proof.Proof.Gen.FfwdReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Ffwd

open Cert.ForgetMath
open Cert.ForgetKernelIdeal.Forget (lane)

open Cert.FfwdKernelIdeal in
/-- The cumulative log-decay of every head. -/
def decay (P : FVec Ideal S2x2048x16 .f32) (B : FVec Ideal S16 .f32) : FVec Ideal S2x16x2048 .f32 :=
  fun i => past 2048 (fun s => logSig (P (ix3 (i 0) s (i 1)) + B (ix1 (i 1)))) (i 2)

section
open Cert.FfwdKernelIdeal Cert.FfwdKernelIdeal.Gen Cert.FfwdKernelIdeal.Ffwd

variable (m : (ℓ : Loc nD τ sig) → Buf (Elt Ideal) ℓ)

/-- The heads' lanes of the flat array, as the host takes them. -/
def heads (D : FVec Ideal S4096x128 .f32) : FVec Ideal S2x16x2048 .f32 :=
  transpose S2x16x2048 [0, 2, 1] (extractStridedSlice S2x2048x16 ![0, 0, 0] (shapeCast S2x2048x128 D shapeCasts_S4096x128_S2x2048x128) slices_S2x2048x128_S2x2048x16_0_0_0) transposes_S2x2048x16_S2x16x2048_0_2_1

theorem heads_flat (D : FVec Ideal S4096x128 .f32) (b : Fin 2) (h : Fin 16) (s : Fin 2048) :
    heads D (ix3 b h s) = D (ix2 ⟨b.val * 2048 + s.val, by omega⟩ ⟨h.val, by omega⟩) := by
  pointwise [heads]
  blk_ext

theorem heads_at (P : FVec Ideal S2x2048x16 .f32) (B : FVec Ideal S16 .f32) (b : Fin 2) (h : Fin 16) (s : Fin 2048) :
    heads (cumArr P B) (ix3 b h s) = decay P B (ix3 b h s) := by
  have hb := b.2
  have e : ∀ f : Fin 16 → EReal, lane f ⟨h.val, by omega⟩ = f h := fun f => dif_pos h.2
  rw [heads_flat, cum_emb (⟨b.val, hb⟩ : Fin cfg0.N) ⟨h.val, by omega⟩ P B _ s rfl rfl]
  unfold cumF
  simp only [e]
  rfl

theorem heads_eq (P : FVec Ideal S2x2048x16 .f32) (B : FVec Ideal S16 .f32) : heads (cumArr P B) = decay P B :=
  funext fun i => by idx_vars i; exact heads_at P B i0 i1 i2

theorem tail_heads (c : Dev nD) (D : FVec Ideal S4096x128 .f32) (hD : (dats m 0 c).arrAt 2 (cfgs 0).N = D) :
    (Pipeline.afterTail₀ cfgs (dats m) 0 (V0 m) [hostOps1] c main_v7 : FVec Ideal S2x16x2048 .f32) = heads D := by
  unfold Pipeline.afterTail₀
  simp only [hostOps1, List.flatten_cons, List.flatten_nil, List.append_nil]
  after_results
  refine congrArg heads (Eq.trans ?_ hD)
  exact Pipeline.withArrays_arr spec0 launch0.win.arr_inj c (V0 m c) (fun w => (dats m 0 c).arrAt w (cfgs 0).N) 2

/-- What the kernel leaves, on every device. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v7) = decay (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(((h.1 c).2 main_v7 (Pipeline.mem_restRefs_of main_v7 (by decide) (by decide))).trans (tail_heads m c _ (arr2 m c))).trans (heads_eq _ _), h.2 c⟩)
    (θ_run_and (run_main m g) (unchanged m g))

end

section
open Cert.FfwdReferenceIdeal Cert.FfwdReferenceIdeal.Read

variable (P : FVec Ideal S2x2048x16 .f32) (B : FVec Ideal S16 .f32) (b : Fin 2) (s : Fin 2048) (h : Fin 16)

theorem neg_at : val_main_call0_v0 (F := Ideal) P B (ix3 b s h) = -(P (ix3 b s h) + B (ix1 h)) := by
  pointwise [val_main_call0_v0, val_main_v2, val_main_v1, val_main_v0]

theorem log_at : val_main_v3 (F := Ideal) P B (ix3 b s h) = logSig (P (ix3 b s h) + B (ix1 h)) := by
  rw [← neg_softplus]
  pointwise [val_main_v3, val_main_call0_v1, val_main_call0_call0_v11,
    val_main_call0_call0_v10, val_main_call0_call0_v9, val_main_call0_call0_v8, val_main_call0_call0_v7, val_main_call0_call0_v6, val_main_call0_call0_v5,
    val_main_call0_call0_v4, val_main_call0_call0_v3, val_main_call0_call0_v2, val_main_call0_call0_v1, val_main_call0_call0_v0, val_main_call0_call0_cst, neg_at]
  simp only [ne_eq, not_true_eq_false, if_false]
  rfl

theorem sum_at : val_main_v4 (F := Ideal) P B (ix3 b s h) = past 2048 (fun s => logSig (P (ix3 b s h) + B (ix1 h))) s := by
  have e : (val_main_call1_call0_v0 (F := Ideal)) (Shape.Idx.first Gen.h_S_) = 0 := by pointwise [val_main_call1_call0_v0, val_main_call1_call0_cst]
  unfold val_main_v4 Host.reduceWindowAdd
  rw [Ideal.hostReduceWindowAdd_def, e]
  exact (windowPast _ _ b s h).trans (congrArg (fun f => past 2048 f s) (funext fun s => log_at P B b s h))

theorem decay_at : val_main_v5 (F := Ideal) P B (ix3 b h s) = decay P B (ix3 b h s) := by
  refine Eq.trans ?_ (sum_at P B b s h)
  pointwise [val_main_v5]

theorem ref_decay : val_main_v5 (F := Ideal) P B = decay P B :=
  funext fun i => by idx_vars i; exact decay_at P B i0 i2 i1

theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5) = decay (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v5_eq _ _).trans (ref_decay _ _)), (h c).2⟩)
    (Value.run (F := Ideal) m g)

end

theorem algebraic : Cert.algebraic_FfwdKernelIdeal_FfwdReferenceIdeal := by
  pair_intro
  · run_from kernel_run m g
  · refine (θ_run Cert.FfwdReferenceIdeal.defs _ _).mono (fun r h c => ?_) (ref_run m' g')
    obtain ⟨h1, h2⟩ := h c
    rw [(hagree c).1, (hagree c).2] at h1
    exact ⟨h1, h2⟩

theorem frame_ref : Cert.quiescent_FfwdReferenceIdeal := fun m g _ =>
  (θ_run Cert.FfwdReferenceIdeal.defs _ _).mono (fun r h => ⟨fun c => (h c).2, sem_eq_zero_of_no_sems (by decide) r.2⟩)
    (Cert.FfwdReferenceIdeal.Value.run (F := Ideal) m g)

theorem claims : Cert.quiescent_FfwdKernel ∧ Cert.quiescent_FfwdKernelIdeal ∧ Cert.quiescent_FfwdReferenceIdeal
    ∧ Cert.preserves_FfwdKernel_FfwdKernelIdeal ∧ Cert.algebraic_FfwdKernelIdeal_FfwdReferenceIdeal :=
  ⟨fun m g _ => Cert.FfwdKernel.Gen.frame m g, fun m g _ => Cert.FfwdKernelIdeal.Gen.frame m g, frame_ref, trivial, algebraic⟩

end Cert.Proof.Ffwd

end
end
-- ==== Proof.AttnTrips.lean ====
/- What a visited block of the first sweep writes, and the sweeps of the attention gradient as invariants. -/
module

public import proofs.«01_k».proof.Proof.Gen.AttnKernelIdeal.Frame
public import proofs.«01_k».proof.Proof.Gen.AttnKernelIdeal.Skeleton
public import Idealize.ShloMosaic.Lib.Claim
public import Idealize.ShloMosaic.Lib.Exec

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

variable {F : FTy → Type} [FloatOps F]

local notation "𝕄" => MT nD τ sig Unit (Elt F) ℕ (UR sig nD τ) ℕ

section First

variable (c : Dev nD) (i : grid0.Coords)
  (arg3 : Memref sig .tc .vmem S512x128 .bf16) (harg3 : arg3.IsWhole)
  (arg4 : Memref sig .tc .vmem S512x128 .bf16) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S512x128 .bf16) (harg7 : arg7.IsWhole)
  (arg8 : Memref sig .tc .vmem S1x2x512x128 .f32) (harg8 : arg8.IsWhole)
  (arg9 : Memref sig .tc .vmem S1x2x512x128 .f32) (harg9 : arg9.IsWhole)
  (arg10 : Memref sig .tc .vmem S1x2x4x1x512 .f32) (harg10 : arg10.IsWhole)
  (arg11 : Memref sig .tc .vmem S512x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S1x2x4x1x512 .f32) (harg14 : arg14.IsWhole)
  (arg15 : Memref sig .tc .vmem S2x4x512x512 .f32) (harg15 : arg15.IsWhole)
  (arg16 : Memref sig .tc .vmem S2x4x512x512 .f32) (harg16 : arg16.IsWhole)
  (arg2 : BitVec 32) (v13 : FVec F S512x128 .bf16) (v29 : FVec F S1x128 .f32) (v34 v39 v41 : FVec F S512x128 .bf16)
  (v46 v49 v52 v55 : Vec F S1x1x512x128 .f32)
  (X5 : BufTy.Contents (Elt F) arg5.view.ty) (X6 : BufTy.Contents (Elt F) arg6.view.ty) (X10 : BufTy.Contents (Elt F) arg10.view.ty)

/-- A visited block of the first sweep: what it writes into the values' gradient, whatever the score buffers hold. -/
@[irreducible] def trip1 (k : Fin (k0_t1_loop i).trips) :
    { L : BufTy.Contents (Elt F) arg13.view.ty → List (View.Piece (Elt F) S2048x128 .f32) //
      ∀ (E : Set ℕ) (acc : FVec F S512x1 .f32 × FVec F S512x1 .f32) (f13 : BufTy.Contents (Elt F) arg13.view.ty) (f15 : BufTy.Contents (Elt F) arg15.view.ty) (f16 : BufTy.Contents (Elt F) arg16.view.ty),
        iprop((arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (arg13.view.loc (c : Thread nD τ) ↦[arg13.view.set]{fullShare} f13) ∗ (arg15.view.loc (c : Thread nD τ) ↦[arg15.view.set]{fullShare} f15) ∗ (arg16.view.loc (c : Thread nD τ) ↦[arg16.view.set]{fullShare} f16))
          ⊢ wp Idealize.ShloMosaic.frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v13 v29 v34 v39 v41 v46 v49 v52 v55 k acc)
            (fun _ => (iprop((arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (arg13.view.loc (c : Thread nD τ) ↦[arg13.view.set]{fullShare} (arg13.view.writes (Elt F) f13 (L f13))) ∗ (∃ f, (arg15.view.loc (c : Thread nD τ) ↦[arg15.view.set]{fullShare} f)) ∗ (∃ f, (arg16.view.loc (c : Thread nD τ) ↦[arg16.view.set]{fullShare} f))) : sProp 𝕄)) } := by
  refine ⟨?_, fun E acc f13 f15 f16 => ?run⟩
  case run =>
    unfold k0_t1_body
    iintro ⟨H5, H6, H10, H13, H15, H16⟩
    sl_exec
    sl_step
    isplitl [H5]; · iexact H5
    isplitl [H6]; · iexact H6
    isplitl [H10]; · iexact H10
    isplitl [H13]; · iexact H13
    isplitl [H15]; · iexists _; iexact H15
    iexists _; iexact H16

/-- What the values' gradient holds before visit `k` of the first sweep, from `G`. -/
def dvRun (G : BufTy.Contents (Elt F) arg13.view.ty) : ℕ → BufTy.Contents (Elt F) arg13.view.ty
  | 0 => G
  | k + 1 => if h : k < (k0_t1_loop i).trips then
      arg13.view.writes (Elt F) (dvRun G k) ((trip1 c i arg3 harg3 arg4 harg4 arg5 harg5 arg6 harg6 arg7 harg7 arg8 harg8 arg9 harg9 arg10 harg10 arg11 harg11 arg12 harg12 arg13 harg13 arg14 harg14 arg15 harg15 arg16 harg16 arg2 v13 v29 v34 v39 v41 v46 v49 v52 v55 X5 X6 X10 ⟨k, h⟩).1 (dvRun G k))
    else dvRun G k

set_option warn.classDefReducibility false in
/-- The first sweep: the values' gradient block by block, the score buffers at some contents. -/
@[sl_loop] def loop1 (E : Set ℕ) (G : BufTy.Contents (Elt F) arg13.view.ty) (init : FVec F S512x1 .f32 × FVec F S512x1 .f32) :
    Idealize.ShloMosaic.LoopInv (M := MT nD τ sig Unit (Elt F) ℕ (UR sig nD τ) ℕ) Idealize.ShloMosaic.frame (wpE (defs₀ (F := F)) Variants.none (c : Thread nD τ) none) E
      (k0_t1_loop i).lb (k0_t1_loop i).ub (k0_t1_loop i).st (k0_t1_ok i) init (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v13 v29 v34 v39 v41 v46 v49 v52 v55) where
  inv k _ := iprop((arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (∃ f, (arg13.view.loc (c : Thread nD τ) ↦[arg13.view.set]{fullShare} f) ∗ ⌜f = dvRun c i arg3 harg3 arg4 harg4 arg5 harg5 arg6 harg6 arg7 harg7 arg8 harg8 arg9 harg9 arg10 harg10 arg11 harg11 arg12 harg12 arg13 harg13 arg14 harg14 arg15 harg15 arg16 harg16 arg2 v13 v29 v34 v39 v41 v46 v49 v52 v55 X5 X6 X10 G k⌝) ∗ (∃ f, (arg15.view.loc (c : Thread nD τ) ↦[arg15.view.set]{fullShare} f)) ∗ (∃ f, (arg16.view.loc (c : Thread nD τ) ↦[arg16.view.set]{fullShare} f)))
  step k acc := by
    iintro ⟨H5, H6, H10, ⟨%f13, H13, %h13⟩, ⟨%f15, H15⟩, ⟨%f16, H16⟩⟩
    iapply (wp_wand_r Idealize.ShloMosaic.frame (wpE (defs₀ (F := F)) Variants.none (c : Thread nD τ) none) E)
    isplitl [H5 H6 H10 H13 H15 H16]
    · iapply ((trip1 c i arg3 harg3 arg4 harg4 arg5 harg5 arg6 harg6 arg7 harg7 arg8 harg8 arg9 harg9 arg10 harg10 arg11 harg11 arg12 harg12 arg13 harg13 arg14 harg14 arg15 harg15 arg16 harg16 arg2 v13 v29 v34 v39 v41 v46 v49 v52 v55 X5 X6 X10 k).2 E acc f13 f15 f16)
      isplitl [H5]; · iexact H5
      isplitl [H6]; · iexact H6
      isplitl [H10]; · iexact H10
      isplitl [H13]; · iexact H13
      isplitl [H15]; · iexact H15
      iexact H16
    · iintro %yld ⟨H5, H6, H10, H13, H15, H16⟩
      isplitl [H5]; · iexact H5
      isplitl [H6]; · iexact H6
      isplitl [H10]; · iexact H10
      isplitl [H13]
      · iexists _; isplitl [H13]; · iexact H13
        ipureintro; subst h13; rw [dvRun]; split
        · rfl
        · exact absurd k.isLt (by assumption)
      isplitl [H15]; · iexact H15
      iexact H16

set_option warn.classDefReducibility false in
/-- The first sweep's remainder has no visit. -/
@[sl_loop] def loop2 (E : Set ℕ) (v68 : BitVec 32) (init : FVec F S512x1 .f32 × FVec F S512x1 .f32) :
    Idealize.ShloMosaic.LoopInv (M := MT nD τ sig Unit (Elt F) ℕ (UR sig nD τ) ℕ) Idealize.ShloMosaic.frame (wpE (defs₀ (F := F)) Variants.none (c : Thread nD τ) none) E
      (k0_t2_loop i).lb (k0_t2_loop i).ub (k0_t2_loop i).st (k0_t2_ok i) init (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v13 v29 v34 v39 v41 v46 v49 v52 v55 v68) where
  inv k _ := iprop(emp)
  step k acc := absurd k.isLt (Nat.not_lt.2 ((k0_t2_abs i).2.1.trans (Nat.zero_le _)))

end First

section Second

variable (c : Dev nD) (i : grid0.Coords)
  (arg3 : Memref sig .tc .vmem S512x128 .bf16) (harg3 : arg3.IsWhole)
  (arg4 : Memref sig .tc .vmem S512x128 .bf16) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S512x128 .bf16) (harg7 : arg7.IsWhole)
  (arg8 : Memref sig .tc .vmem S1x2x512x128 .f32) (harg8 : arg8.IsWhole)
  (arg9 : Memref sig .tc .vmem S1x2x512x128 .f32) (harg9 : arg9.IsWhole)
  (arg10 : Memref sig .tc .vmem S1x2x4x1x512 .f32) (harg10 : arg10.IsWhole)
  (arg11 : Memref sig .tc .vmem S512x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S1x2x4x1x512 .f32) (harg14 : arg14.IsWhole)
  (arg15 : Memref sig .tc .vmem S2x4x512x512 .f32) (harg15 : arg15.IsWhole)
  (arg16 : Memref sig .tc .vmem S2x4x512x512 .f32) (harg16 : arg16.IsWhole)
  (arg2 : BitVec 32) (v21 v29 : FVec F S1x128 .f32) (v34 v39 v45 : FVec F S512x128 .bf16) (v57 : FVec F S512x1 .f32)
  (v62 : IVec S512x512 1) (v70_1 : FVec F S512x1 .f32) (v72 : BitVec 32) (v78 : FVec F S512x128 .bf16) (v102 : FVec F S512x128 .f32)
  (v106 : FVec F S512x1 .f32) (v114 : FVec F S512x512 .f32) (cst_50 : F .f32) (X5 : BufTy.Contents (Elt F) arg5.view.ty)

set_option warn.classDefReducibility false in
/-- The second sweep: it leaves the keys' and the gate's gradients and the score buffers at some contents. -/
@[sl_loop] def loop3 (E : Set ℕ) (init : FVec F S512x128 .f32) :
    Idealize.ShloMosaic.LoopInv (M := MT nD τ sig Unit (Elt F) ℕ (UR sig nD τ) ℕ) Idealize.ShloMosaic.frame (wpE (defs₀ (F := F)) Variants.none (c : Thread nD τ) none) E
      (k0_t3_loop i).lb (k0_t3_loop i).ub (k0_t3_loop i).st (k0_t3_ok i) init (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v21 v29 v34 v39 v45 v57 v62 v70_1 v72 v78 v102 v106 v114 cst_50) where
  inv k _ := iprop((arg5.view.loc (c : Thread nD τ) ↦[arg5.view.set]{fullShare} X5) ∗ (∃ f, (arg12.view.loc (c : Thread nD τ) ↦[arg12.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))
  step k acc := by
    iintro ⟨H5, ⟨%f12, H12⟩, ⟨%f14, H14⟩, ⟨%f15, H15⟩, ⟨%f16, H16⟩⟩
    unfold k0_t3_body
    sl_exec
    sl_step
    isplitl [H5]; · iexact H5
    isplitl [H12]; · iexists _; iexact H12
    isplitl [H14]; · iexists _; iexact H14
    isplitl [H15]; · iexists _; iexact H15
    iexists _; iexact H16

set_option warn.classDefReducibility false in
/-- The second sweep's remainder has no visit. -/
@[sl_loop] def loop4 (E : Set ℕ) (v148 : BitVec 32) (init : FVec F S512x128 .f32) :
    Idealize.ShloMosaic.LoopInv (M := MT nD τ sig Unit (Elt F) ℕ (UR sig nD τ) ℕ) Idealize.ShloMosaic.frame (wpE (defs₀ (F := F)) Variants.none (c : Thread nD τ) none) E
      (k0_t4_loop i).lb (k0_t4_loop i).ub (k0_t4_loop i).st (k0_t4_ok i) init (k0_t4_body (F := F) i arg3 harg3 arg4 harg4 arg5 harg5 arg6 harg6 arg7 harg7 arg8 harg8 arg9 harg9 arg10 harg10 arg11 harg11 arg12 harg12 arg13 harg13 arg14 harg14 arg15 harg15 arg16 harg16 arg2 v21 v29 v34 v39 v45 v57 v62 v70_1 v72 v78 v102 v106 v114 cst_50 v148) where
  inv k _ := iprop(emp)
  step k acc := absurd k.isLt (Nat.not_lt.2 ((k0_t4_abs i).2.1.trans (Nat.zero_le _)))

end Second

end Cert.Proof.Attn

end
end
-- ==== Proof.AttnBody.lean ====
/- The attention gradient on one block: what the run makes of the values' gradient, the other results at some contents. -/
module

public import proofs.«01_k».proof.Proof.AttnTrips

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

variable {F : FTy → Type} [FloatOps F]

local notation "𝕄" => MT nD τ sig Unit (Elt F) ℕ (UR sig nD τ) ℕ

/-- The sweep's first block. -/
abbrev opens (i : grid0.Coords) : Prop :=
  Scalar.cmpi .ne (Scalar.extui (Scalar.cmpi .eq (BitVec.ofNat 32 (i 2).val) 0#32) : BitVec 32) 0#32 = 1#1

variable (c : Dev nD) (i : grid0.Coords)
  (arg3 : Memref sig .tc .vmem S512x128 .bf16) (harg3 : arg3.IsWhole)
  (arg4 : Memref sig .tc .vmem S512x128 .bf16) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S512x128 .bf16) (harg7 : arg7.IsWhole)
  (arg8 : Memref sig .tc .vmem S1x2x512x128 .f32) (harg8 : arg8.IsWhole)
  (arg9 : Memref sig .tc .vmem S1x2x512x128 .f32) (harg9 : arg9.IsWhole)
  (arg10 : Memref sig .tc .vmem S1x2x4x1x512 .f32) (harg10 : arg10.IsWhole)
  (arg11 : Memref sig .tc .vmem S512x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S1x2x4x1x512 .f32) (harg14 : arg14.IsWhole)
  (arg15 : Memref sig .tc .vmem S2x4x512x512 .f32) (harg15 : arg15.IsWhole)
  (arg16 : Memref sig .tc .vmem S2x4x512x512 .f32) (harg16 : arg16.IsWhole)
  (X3 : BufTy.Contents (Elt F) arg3.view.ty)  (X4 : BufTy.Contents (Elt F) arg4.view.ty)  (X5 : BufTy.Contents (Elt F) arg5.view.ty)  (X6 : BufTy.Contents (Elt F) arg6.view.ty)  (X7 : BufTy.Contents (Elt F) arg7.view.ty)  (X8 : BufTy.Contents (Elt F) arg8.view.ty)  (X9 : BufTy.Contents (Elt F) arg9.view.ty)  (X10 : BufTy.Contents (Elt F) arg10.view.ty)

set_option maxHeartbeats 2000000 in
/-- The block's body at a point that opens a sweep: what it makes of the values' gradient. -/
@[irreducible] def runA (hc : opens i) :
    { R : BufTy.Contents (Elt F) arg13.view.ty → BufTy.Contents (Elt F) arg13.view.ty //
      ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
        iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))
          ⊢ wp Idealize.ShloMosaic.frame (wpE (defs₀ (F := F)) Variants.none (c : Thread nD τ) none) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16)
            (fun _ => (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} (R f13)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f))) : sProp 𝕄)) } := by
  refine ⟨?_, fun E f11 f12 f13 f14 f15 f16 => ?run⟩
  case run =>
    simp only [cc0_attn_bwd_eq_skeleton]; unfold cc0_attn_bwd_skel
    simp only [k0_part5_eq_skeleton, k0_part6_eq_skeleton, k0_part7_eq_skeleton, k0_part8_eq_skeleton]
    iintro ⟨H3, H4, H5, H6, H7, H8, H9, H10, H11, H12, H13, H14, H15, H16⟩
    sl_exec (disch := first | sl_exact hc)
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [H14]; · iexists _; iexact H14
    isplitl [H15]; · iexists _; iexact H15
    iexists _; iexact H16

set_option maxHeartbeats 2000000 in
/-- The block's body at a later point of a sweep. -/
@[irreducible] def runB (hc : ¬ opens i) :
    { R : BufTy.Contents (Elt F) arg13.view.ty → BufTy.Contents (Elt F) arg13.view.ty //
      ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
        iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))
          ⊢ wp Idealize.ShloMosaic.frame (wpE (defs₀ (F := F)) Variants.none (c : Thread nD τ) none) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16)
            (fun _ => (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} (R f13)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f))) : sProp 𝕄)) } := by
  refine ⟨?_, fun E f11 f12 f13 f14 f15 f16 => ?run⟩
  case run =>
    simp only [cc0_attn_bwd_eq_skeleton]; unfold cc0_attn_bwd_skel
    simp only [k0_part5_eq_skeleton, k0_part6_eq_skeleton, k0_part7_eq_skeleton, k0_part8_eq_skeleton]
    iintro ⟨H3, H4, H5, H6, H7, H8, H9, H10, H11, H12, H13, H14, H15, H16⟩
    sl_exec (disch := first | sl_exact hc)
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [H14]; · iexists _; iexact H14
    isplitl [H15]; · iexists _; iexact H15
    iexists _; iexact H16

end Cert.Proof.Attn

end
end
-- ==== Proof.AttnStep.lean ====
/- One block's body over buffers owned whole. -/
module

public import proofs.«01_k».proof.Proof.AttnBody

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

variable {F : FTy → Type} [FloatOps F]

local notation "𝕄" => MT nD τ sig Unit (Elt F) ℕ (UR sig nD τ) ℕ

variable (c : Dev nD) (i : grid0.Coords)
  (arg3 : Memref sig .tc .vmem S512x128 .bf16) (harg3 : arg3.IsWhole)
  (arg4 : Memref sig .tc .vmem S512x128 .bf16) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S512x128 .bf16) (harg7 : arg7.IsWhole)
  (arg8 : Memref sig .tc .vmem S1x2x512x128 .f32) (harg8 : arg8.IsWhole)
  (arg9 : Memref sig .tc .vmem S1x2x512x128 .f32) (harg9 : arg9.IsWhole)
  (arg10 : Memref sig .tc .vmem S1x2x4x1x512 .f32) (harg10 : arg10.IsWhole)
  (arg11 : Memref sig .tc .vmem S512x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S1x2x4x1x512 .f32) (harg14 : arg14.IsWhole)
  (arg15 : Memref sig .tc .vmem S2x4x512x512 .f32) (harg15 : arg15.IsWhole)
  (arg16 : Memref sig .tc .vmem S2x4x512x512 .f32) (harg16 : arg16.IsWhole)

open Classical in
/-- The values' gradient after one block's body, from the block's inputs and what the buffer held. -/
def dvStep (x3 : Vec F S512x128 .bf16) (x4 : Vec F S512x128 .bf16) (x5 : Vec F S2048x128 .bf16) (x6 : Vec F S2048x128 .bf16) (x7 : Vec F S512x128 .bf16) (x8 : Vec F S1x2x512x128 .f32) (x9 : Vec F S1x2x512x128 .f32) (x10 : Vec F S1x2x4x1x512 .f32) (x13 : Vec F S2048x128 .f32) : Vec F S2048x128 .f32 :=
  if h : opens i then arg13.view.read (Elt F) ((runA (F := F) c i arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg5.unread x5) (harg6.unread x6) (harg7.unread x7) (harg8.unread x8) (harg9.unread x9) (harg10.unread x10) h).1 (harg13.unread x13))
  else arg13.view.read (Elt F) ((runB (F := F) c i arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg5.unread x5) (harg6.unread x6) (harg7.unread x7) (harg8.unread x8) (harg9.unread x9) (harg10.unread x10) h).1 (harg13.unread x13))

/-- A point that opens a sweep does not read what the buffer held. -/
theorem dvStep_opens (h : opens i) (x3 : Vec F S512x128 .bf16) (x4 : Vec F S512x128 .bf16) (x5 : Vec F S2048x128 .bf16) (x6 : Vec F S2048x128 .bf16) (x7 : Vec F S512x128 .bf16) (x8 : Vec F S1x2x512x128 .f32) (x9 : Vec F S1x2x512x128 .f32) (x10 : Vec F S1x2x4x1x512 .f32) (x y : Vec F S2048x128 .f32) :
    dvStep c i arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 x9 x10 x = dvStep c i arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 x9 x10 y := by
  rw [dvStep, dvStep, dif_pos h, dif_pos h]
  unfold runA
  rfl

set_option maxHeartbeats 1600000 in
/-- One block's body, the buffers owned whole: the values' gradient at `dvStep`, the other results at some contents. -/
theorem body_step (E : Set ℕ) (x3 : Vec F S512x128 .bf16) (x4 : Vec F S512x128 .bf16) (x5 : Vec F S2048x128 .bf16) (x6 : Vec F S2048x128 .bf16) (x7 : Vec F S512x128 .bf16) (x8 : Vec F S1x2x512x128 .f32) (x9 : Vec F S1x2x512x128 .f32) (x10 : Vec F S1x2x4x1x512 .f32) (x13 : Vec F S2048x128 .f32) :
    (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d)) : sProp 𝕄)
      ⊢ wp Idealize.ShloMosaic.frame (wpE (defs₀ (F := F)) Variants.none (c : Thread nD τ) none) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16)
        (fun _ => (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare (dvStep c i arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 x9 x10 x13) ∗ (∃ d, owns (c : Thread nD τ) arg14 fullShare d) ∗ (∃ d, owns (c : Thread nD τ) arg15 fullShare d) ∗ (∃ d, owns (c : Thread nD τ) arg16 fullShare d)) : sProp 𝕄)) := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%d15, %f15, -, H15⟩, ⟨%d16, %f16, -, H16⟩⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13
  by_cases h : opens i
  · iapply (wp_wand_r Idealize.ShloMosaic.frame (wpE (defs₀ (F := F)) Variants.none (c : Thread nD τ) none) E)
    isplitl [H3 H4 H5 H6 H7 H8 H9 H10 H11 H12 H13 H14 H15 H16]
    · iapply ((runA (F := F) c i arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg5.unread x5) (harg6.unread x6) (harg7.unread x7) (harg8.unread x8) (harg9.unread x9) (harg10.unread x10) h).2 E f11 f12 (harg13.unread x13) f14 f15 f16)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · iintro %yld ⟨H3, H4, H5, H6, H7, H8, H9, H10, H11, H12, H13, H14, H15, H16⟩
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · icases H11 with ⟨%f, H⟩; iexists _; iexists f; isplitr; · ipureintro; rfl
        iexact H
      isplitl [H12]
      · icases H12 with ⟨%f, H⟩; iexists _; iexists f; isplitr; · ipureintro; rfl
        iexact H
      isplitl [H13]
      · iexists _; isplitr
        swap; · iexact H13
        ipureintro; rw [dvStep, dif_pos h]
      isplitl [H14]
      · icases H14 with ⟨%f, H⟩; iexists _; iexists f; isplitr; · ipureintro; rfl
        iexact H
      isplitl [H15]
      · icases H15 with ⟨%f, H⟩; iexists _; iexists f; isplitr; · ipureintro; rfl
        iexact H
      icases H16 with ⟨%f, H⟩; iexists _; iexists f; isplitr; · ipureintro; rfl
      iexact H
  · iapply (wp_wand_r Idealize.ShloMosaic.frame (wpE (defs₀ (F := F)) Variants.none (c : Thread nD τ) none) E)
    isplitl [H3 H4 H5 H6 H7 H8 H9 H10 H11 H12 H13 H14 H15 H16]
    · iapply ((runB (F := F) c i arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg5.unread x5) (harg6.unread x6) (harg7.unread x7) (harg8.unread x8) (harg9.unread x9) (harg10.unread x10) h).2 E f11 f12 (harg13.unread x13) f14 f15 f16)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · iintro %yld ⟨H3, H4, H5, H6, H7, H8, H9, H10, H11, H12, H13, H14, H15, H16⟩
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · icases H11 with ⟨%f, H⟩; iexists _; iexists f; isplitr; · ipureintro; rfl
        iexact H
      isplitl [H12]
      · icases H12 with ⟨%f, H⟩; iexists _; iexists f; isplitr; · ipureintro; rfl
        iexact H
      isplitl [H13]
      · iexists _; isplitr
        swap; · iexact H13
        ipureintro; rw [dvStep, dif_neg h]
      isplitl [H14]
      · icases H14 with ⟨%f, H⟩; iexists _; iexists f; isplitr; · ipureintro; rfl
        iexact H
      isplitl [H15]
      · icases H15 with ⟨%f, H⟩; iexists _; iexists f; isplitr; · ipureintro; rfl
        iexact H
      icases H16 with ⟨%f, H⟩; iexists _; iexists f; isplitr; · ipureintro; rfl
      iexact H

end Cert.Proof.Attn

end
end
-- ==== Proof.AttnPay.lean ====
/- The attention gradient: what each vector of a visit holds, element by element. -/
module

public import proofs.«01_k».proof.Proof.AttnTrips
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

section Pay
open scoped BigOperators

theorem zero_bits : Ideal.ofBits .f32 0x00000000#32 = 0 := by simp [Ideal.ofBits, Ideal.ieee]
theorem bot_bits : Ideal.ofBits .f32 0xFF800000#32 = ⊥ := by simp [Ideal.ofBits, Ideal.ieee]
theorem eighth_bits : Ideal.ofBits .f32 0x3E000000#32 = ((1 / 8 : ℝ) : EReal) := by
  simp [Ideal.ofBits, Ideal.ieee]; rw [← EReal.coe_mul]; norm_num

theorem sitofp_one : (FloatOps.sitofp FTy.f32 1#32 : Ideal .f32) = (1 : EReal) := by
  show (((1#32 : BitVec 32).toInt : ℝ) : EReal) = 1
  simp
theorem sitofp_zero : (FloatOps.sitofp FTy.f32 0#32 : Ideal .f32) = (0 : EReal) := by
  show (((0#32 : BitVec 32).toInt : ℝ) : EReal) = 0
  simp
/-- One for the lanes of head `n` of a pair, zero for the other's. -/
def lane (n : Fin 2) (l : Fin 128) : EReal := if l.val / 64 = n.val then 1 else 0

theorem lanes0 : ∀ l : Fin 128, BitVec.setWidth 32 (IntOp.andi (IntOp.cmpi CmpIPredicate.sge (BitVec.ofNat 32 l.val) 0#32) (IntOp.cmpi CmpIPredicate.slt (BitVec.ofNat 32 l.val) 64#32)) = if l.val / 64 = 0 then 1#32 else 0#32 := by decide +kernel
theorem pay36_at (l : Fin 128) : k0_pay36 (F := Ideal) (ix2 0 l) = lane 0 l := by
  unfold k0_pay36 lane
  pointwise []
  rw [lanes0]
  by_cases h : l.val / 64 = 0
  · rw [if_pos h, if_pos h]; exact sitofp_one
  · rw [if_neg h, if_neg h]; exact sitofp_zero
theorem lanes1 : ∀ l : Fin 128, BitVec.setWidth 32 (IntOp.andi (IntOp.cmpi CmpIPredicate.sge (BitVec.ofNat 32 l.val) 64#32) (IntOp.cmpi CmpIPredicate.slt (BitVec.ofNat 32 l.val) 128#32)) = if l.val / 64 = 1 then 1#32 else 0#32 := by decide +kernel
theorem pay37_at (l : Fin 128) : k0_pay37 (F := Ideal) (ix2 0 l) = lane 1 l := by
  unfold k0_pay37 lane
  pointwise []
  rw [lanes1]
  by_cases h : l.val / 64 = 1
  · rw [if_pos h, if_pos h]; exact sitofp_one
  · rw [if_neg h, if_neg h]; exact sitofp_zero

variable (v13 v34 v42 v39 v45 : FVec Ideal S512x128 .bf16) (v29 : FVec Ideal S1x128 .f32) (v48 v54 v51 v57 : FVec Ideal S512x1 .f32) (v155 v75 v3 v5 v8 v41 : Vec Ideal S512x128 .bf16)
  (v46 v55 : Vec Ideal S1x1x512x128 .f32) (v164 v190 : Vec Ideal S1x1x1x1x512 .f32) (v188 v114 : FVec Ideal S512x512 .f32) (v181 v102 : FVec Ideal S512x128 .f32)
  (v214 : Vec Ideal S512x128 .f32) (q k : Fin 512) (l : Fin 128) (v62 : IVec S512x512 1)

theorem pay35_at : k0_pay35 v5 v8 (ix2 q l) = v5 (ix2 q l) * Ideal.logistic (v8 (ix2 q l)) := by
  unfold k0_pay35
  pointwise []
theorem pay38_at : k0_pay38 v3 (ix2 q l) = v3 (ix2 q l) * (lane 0 l * ((1 / 8 : ℝ) : EReal)) := by
  unfold k0_pay38 k0_pay34
  pointwise [pay36_at, eighth_bits]
theorem pay39_at : k0_pay39 v3 (ix2 q l) = v3 (ix2 q l) * (lane 1 l * ((1 / 8 : ℝ) : EReal)) := by
  unfold k0_pay39 k0_pay34
  pointwise [pay37_at, eighth_bits]
theorem pay41_at : k0_pay41 v13 k0_pay40 (ix2 q l) = v13 (ix2 q l) * lane 0 l := by
  unfold k0_pay41 k0_pay40
  pointwise [pay36_at]
theorem pay42_at : k0_pay42 v13 k0_pay37 (ix2 q l) = v13 (ix2 q l) * lane 1 l := by
  unfold k0_pay42
  pointwise [pay37_at]
theorem pay43_at : k0_pay43 v46 (ix2 q 0) = v46 (ix4 0 0 q 0) := by
  unfold k0_pay43
  pointwise []
theorem pay44_at : k0_pay44 v46 (ix2 q 0) = v46 (ix4 0 0 q 0) := by
  unfold k0_pay44
  pointwise []
theorem pay45_at : k0_pay45 v46 (ix2 q 0) = v46 (ix4 0 0 q 0) := by
  unfold k0_pay45
  pointwise []
theorem pay46_at : k0_pay46 v46 (ix2 q 0) = v46 (ix4 0 0 q 0) := by
  unfold k0_pay46
  pointwise []
theorem pay47_iff : k0_pay47 (ix2 q k) = 1#1 ↔ k.val ≤ q.val := by
  unfold k0_pay47
  pointwise []
  exact WordCmp.cmpi_sle_ofNat_eq_one_iff (by omega) (by omega)
theorem pay1_at : k0_pay1 v155 (ix2 k l) = v155 (ix2 k l) := by
  unfold k0_pay1
  pointwise []
theorem pay61_at : k0_pay61 v155 (ix2 k l) = v155 (ix2 k l) := by
  unfold k0_pay61
  pointwise []
theorem pay3_at : k0_pay3 v34 v48 v54 v155 v164 (ix2 q k) = Ideal.exp (((∑ l : Fin 128, v34 (ix2 q l) * v155 (ix2 k l)) + v48 (ix2 q 0)) - v164 (ix5 0 0 0 0 k) - v54 (ix2 q 0)) := by
  unfold k0_pay3
  pointwise [pay1_at, zero_bits, zero_add]
theorem pay7_at : k0_pay7 v34 v42 v48 v54 v155 v164 (ix2 k l) = ∑ q : Fin 512, k0_pay3 v34 v48 v54 v155 v164 (ix2 q k) * v42 (ix2 q l) := by
  unfold k0_pay7
  pointwise [zero_bits, zero_add]
theorem pay9_at : k0_pay9 v39 v51 v155 (ix2 q k) = (∑ l : Fin 128, v39 (ix2 q l) * v155 (ix2 k l)) + v51 (ix2 q 0) := by
  unfold k0_pay9
  pointwise [pay1_at, zero_bits, zero_add]
theorem pay49_at : k0_pay49 v55 v188 v190 (ix2 q k) = Ideal.exp (v188 (ix2 q k) - v190 (ix5 0 0 0 0 k) - v55 (ix4 0 0 q 0)) := by
  unfold k0_pay49
  pointwise [pay46_at]
theorem pay54_at : k0_pay54 v13 k0_pay37 v55 v181 v188 v190 v214 (ix2 k l) = v214 (ix2 k l) + (v181 (ix2 k l) + ∑ q : Fin 512, k0_pay49 v55 v188 v190 (ix2 q k) * (v13 (ix2 q l) * lane 1 l)) := by
  unfold k0_pay54
  pointwise [pay42_at, zero_bits, zero_add]
theorem pay63_at : k0_pay63 v34 v48 v54 v62 v75 v164 (ix2 q k) = Ideal.exp ((if v62 (ix2 q k) = 1#1 then ((∑ l : Fin 128, v34 (ix2 q l) * v75 (ix2 k l)) + v48 (ix2 q 0)) - v164 (ix5 0 0 0 0 k) else ⊥) - v54 (ix2 q 0)) := by
  unfold k0_pay63
  pointwise [zero_bits, zero_add, bot_bits, Scalar.select]
  rfl
theorem pay67_at : k0_pay67 v34 v42 v48 v54 v62 v75 v164 (ix2 k l) = ∑ q : Fin 512, k0_pay63 v34 v48 v54 v62 v75 v164 (ix2 q k) * v42 (ix2 q l) := by
  unfold k0_pay67
  pointwise [zero_bits, zero_add]
theorem pay69_at : k0_pay69 v39 v51 v75 v164 (ix2 q k) = ((∑ l : Fin 128, v39 (ix2 q l) * v75 (ix2 k l)) + v51 (ix2 q 0)) - v164 (ix5 0 0 0 0 k) := by
  unfold k0_pay69
  pointwise [zero_bits, zero_add]
theorem pay70_at : k0_pay70 v57 v62 v114 (Scalar.ofBits .f32 0xFF800000#32) (ix2 q k) = Ideal.exp ((if v62 (ix2 q k) = 1#1 then v114 (ix2 q k) else ⊥) - v57 (ix2 q 0)) := by
  unfold k0_pay70
  pointwise [bot_bits, Scalar.select]
  rfl
theorem pay75_at : k0_pay75 v45 v57 v62 v102 v114 (Scalar.ofBits .f32 0xFF800000#32) v214 (ix2 k l) = v214 (ix2 k l) + (v102 (ix2 k l) + ∑ q : Fin 512, k0_pay70 v57 v62 v114 (Scalar.ofBits .f32 0xFF800000#32) (ix2 q k) * v45 (ix2 q l)) := by
  unfold k0_pay75
  pointwise [zero_bits, zero_add]
theorem pay32_at : k0_pay32 (F := Ideal) = fun _ => 0 := by
  unfold k0_pay32
  funext x
  pointwise [zero_bits]

end Pay

end Cert.Proof.Attn

end
end
-- ==== Proof.AttnVisit.lean ====
/- The attention gradient: what one block of queries adds to the values' gradient. -/
module

public import proofs.«01_k».proof.Proof.AttnStep
public import proofs.«01_k».proof.Proof.AttnPay
public import Idealize.ShloMosaic.Lib.WritesUnit
public import Idealize.ShloMosaic.Lib.Pipeline.ValueKit.Tiles

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

open scoped BigOperators

section Read
variable {ζ : EltTy → Type}

/-- A load of a rectangle of stride one, at an index. -/
theorem rd {sg : RefSig} {κ : Kind} {sp : Space} {s : Shape} {e : EltTy} (v : View sg κ sp s e) (off size : Fin s.rank → ℕ) (inb) (X : v.ty.Contents ζ) (x : (Rect.unit off size inb).shape.Idx) (j : s.Idx)
    (h : ∀ a, (j a).val = off a + (x a).val) : v.readAt ζ (Rect.unit off size inb).toLoadRect X x = v.read ζ X j :=
  congrArg (v.read ζ X) (funext fun a => Fin.ext ((Rect.idx_unit_val off size inb x a).trans (h a).symm))

end Read

theorem trips_eq (i : grid0.Coords) : (k0_t1_loop i).trips = (i 2).val := by
  have h : (i 2).val < 4 := (i 2).isLt
  unfold k0_t1_loop
  dsimp only
  generalize (i 2).val = n at h
  interval_cases n <;> decide

theorem off1_eq (i : grid0.Coords) (k : Fin (k0_t1_loop i).trips) : k0_off1 i k = ![512 * k.val, 0] := by
  have h : k.val < 4 := lt_of_lt_of_le k.isLt (by rw [trips_eq]; exact Nat.le_of_lt (i 2).isLt)
  unfold k0_off1
  dsimp only
  generalize k.val = n at h
  interval_cases n <;> rfl
theorem off2_eq (i : grid0.Coords) (k : Fin (k0_t1_loop i).trips) : k0_off2 i k = ![0, 0, k.val, 0, 0] := by
  have h : k.val < 4 := lt_of_lt_of_le k.isLt (by rw [trips_eq]; exact Nat.le_of_lt (i 2).isLt)
  unfold k0_off2
  dsimp only
  generalize k.val = n at h
  interval_cases n <;> rfl
theorem off4_eq (i : grid0.Coords) (k : Fin (k0_t1_loop i).trips) : k0_off4 i k = ![0, 1, k.val, 0, 0] := by
  have h : k.val < 4 := lt_of_lt_of_le k.isLt (by rw [trips_eq]; exact Nat.le_of_lt (i 2).isLt)
  unfold k0_off4
  dsimp only
  generalize k.val = n at h
  interval_cases n <;> rfl
theorem off11_eq (i : grid0.Coords) : k0_off11 i = ![512 * (i 2).val, 0] := by
  have h : (i 2).val < 4 := (i 2).isLt
  unfold k0_off11
  dsimp only
  generalize (i 2).val = n at h
  interval_cases n <;> rfl
theorem off12_eq (i : grid0.Coords) : k0_off12 i = ![0, 0, (i 2).val, 0, 0] := by
  have h : (i 2).val < 4 := (i 2).isLt
  unfold k0_off12
  dsimp only
  generalize (i 2).val = n at h
  interval_cases n <;> rfl
theorem off14_eq (i : grid0.Coords) : k0_off14 i = ![0, 1, (i 2).val, 0, 0] := by
  have h : (i 2).val < 4 := (i 2).isLt
  unfold k0_off14
  dsimp only
  generalize (i 2).val = n at h
  interval_cases n <;> rfl

section Model
variable (s0 s1 d : FVec Ideal S512x128 .bf16) (c0 c1 l0 l1 : Vec Ideal S1x1x512x128 .f32) (K : Vec Ideal S2048x128 .bf16) (R : Vec Ideal S1x2x4x1x512 .f32)

/-- A query's weight for a key: head `n` of the pair, the score kept where `ok`. -/
def weight (n : Fin 2) (s : FVec Ideal S512x128 .bf16) (c l : Vec Ideal S1x1x512x128 .f32) (ok : Prop) [Decidable ok] (q : Fin 512) (r : Fin 2048) : EReal :=
  Ideal.exp ((if ok then ((∑ x : Fin 128, s (ix2 q x) * K (ix2 r x)) + c (ix4 0 0 q 0)) - R (ix5 0 n ⟨r.val / 512, by omega⟩ 0 ⟨r.val % 512, by omega⟩) else ⊥) - l (ix4 0 0 q 0))

/-- What block `j` of queries adds to the gradient of value `r`. -/
def gain (j : ℕ) (r : Fin 2048) (l : Fin 128) : EReal :=
  (∑ q : Fin 512, weight K R 0 s0 c0 l0 (r.val ≤ 512 * j + q.val) q r * (d (ix2 q l) * lane 0 l)) + ∑ q : Fin 512, weight K R 1 s1 c1 l1 (r.val ≤ 512 * j + q.val) q r * (d (ix2 q l) * lane 1 l)

end Model

variable (c : Dev nD) (i : grid0.Coords)
  (arg3 : Memref sig .tc .vmem S512x128 .bf16) (harg3 : arg3.IsWhole)
  (arg4 : Memref sig .tc .vmem S512x128 .bf16) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S512x128 .bf16) (harg7 : arg7.IsWhole)
  (arg8 : Memref sig .tc .vmem S1x2x512x128 .f32) (harg8 : arg8.IsWhole)
  (arg9 : Memref sig .tc .vmem S1x2x512x128 .f32) (harg9 : arg9.IsWhole)
  (arg10 : Memref sig .tc .vmem S1x2x4x1x512 .f32) (harg10 : arg10.IsWhole)
  (arg11 : Memref sig .tc .vmem S512x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S1x2x4x1x512 .f32) (harg14 : arg14.IsWhole)
  (arg15 : Memref sig .tc .vmem S2x4x512x512 .f32) (harg15 : arg15.IsWhole)
  (arg16 : Memref sig .tc .vmem S2x4x512x512 .f32) (harg16 : arg16.IsWhole)
  (arg2 : BitVec 32) (v13 : FVec Ideal S512x128 .bf16) (v34 v39 : FVec Ideal S512x128 .bf16)
  (v46 v49 v52 v55 : Vec Ideal S1x1x512x128 .f32)
  (X3 : BufTy.Contents (Elt Ideal) arg3.view.ty)  (X4 : BufTy.Contents (Elt Ideal) arg4.view.ty)  (X5 : BufTy.Contents (Elt Ideal) arg5.view.ty)  (X6 : BufTy.Contents (Elt Ideal) arg6.view.ty)  (X7 : BufTy.Contents (Elt Ideal) arg7.view.ty)  (X8 : BufTy.Contents (Elt Ideal) arg8.view.ty)  (X9 : BufTy.Contents (Elt Ideal) arg9.view.ty)  (X10 : BufTy.Contents (Elt Ideal) arg10.view.ty)

/-- A row of block `k`. -/
def row (k : ℕ) (hk : k < 4) (x : Fin 512) : Fin 2048 := ⟨512 * k + x.val, by omega⟩

theorem row_div (k : ℕ) (hk : k < 4) (x : Fin 512) : (row k hk x).val / 512 = k := by unfold row; dsimp only; omega
theorem row_mod (k : ℕ) (hk : k < 4) (x : Fin 512) : (row k hk x).val % 512 = x.val := by unfold row; dsimp only; omega
theorem row_div' (r : Fin 2048) : row (r.val / 512) (by omega) ⟨r.val % 512, by omega⟩ = r := by
  unfold row; exact Fin.ext (by dsimp only; omega)

theorem score_row {s : FVec Ideal S512x128 .bf16} {c l : Vec Ideal S1x1x512x128 .f32} {K R} {n : Fin 2} {ok : Prop} [Decidable ok] {q : Fin 512} (k : ℕ) (hk : k < 4) (x : Fin 512) :
    weight K R n s c l ok q (row k hk x) = Ideal.exp ((if ok then ((∑ y : Fin 128, s (ix2 q y) * K (ix2 (row k hk x) y)) + c (ix4 0 0 q 0)) - R (ix5 0 n ⟨k, hk⟩ 0 x) else ⊥) - l (ix4 0 0 q 0)) := by
  unfold weight
  have e : (ix5 0 n ⟨(row k hk x).val / 512, by omega⟩ 0 ⟨(row k hk x).val % 512, by omega⟩ : S1x2x4x1x512.Idx) = ix5 0 n ⟨k, hk⟩ 0 x := by
    congr 1
    · exact Fin.ext (row_div k hk x)
    · exact Fin.ext (row_mod k hk x)
  rw [e]

section Row
variable {v13 v34 v39 v46 v49 v52 v55}
variable {K : Vec Ideal S2048x128 .bf16} {R : Vec Ideal S1x2x4x1x512 .f32} {Kb : Vec Ideal S512x128 .bf16} {R0 R1 : Vec Ideal S1x1x1x1x512 .f32} (old : Vec Ideal S512x128 .f32) (k : ℕ) (h : k < 4)
  (hK : ∀ x y, Kb (ix2 x y) = K (ix2 (row k h x) y)) (h0 : ∀ x, R0 (ix5 0 0 0 0 x) = R (ix5 0 0 ⟨k, h⟩ 0 x)) (h1 : ∀ x, R1 (ix5 0 0 0 0 x) = R (ix5 0 1 ⟨k, h⟩ 0 x))
include hK h0 h1

theorem full_row (j : ℕ) (hj : k < j) (x : Fin 512) (l : Fin 128) :
    k0_pay54 v13 k0_pay37 v55 (k0_pay7 v34 (k0_pay41 v13 k0_pay40) (k0_pay43 v46) (k0_pay45 v52) Kb R0) (k0_pay9 v39 (k0_pay44 v49) Kb) R1 old (ix2 x l)
      = old (ix2 x l) + gain v34 v39 v13 v46 v49 v52 v55 K R j (row k h x) l := by
  have ok : ∀ q : Fin 512, (row k h x).val ≤ 512 * j + q.val := fun q => by unfold row; dsimp only; omega
  unfold gain
  rw [pay54_at, pay7_at]
  congr 2
  · refine Finset.sum_congr rfl fun q _ => ?_
    rw [score_row, if_pos (ok q), pay3_at, pay41_at, pay43_at, pay45_at, h0]
    simp only [hK]
  · refine Finset.sum_congr rfl fun q _ => ?_
    rw [score_row, if_pos (ok q), pay49_at, pay9_at, pay44_at, h1]
    simp only [hK]

theorem diag_row (x : Fin 512) (l : Fin 128) :
    k0_pay75 (k0_pay42 v13 k0_pay37) (k0_pay46 v55) k0_pay47 (k0_pay67 v34 (k0_pay41 v13 k0_pay40) (k0_pay43 v46) (k0_pay45 v52) k0_pay47 Kb R0) (k0_pay69 v39 (k0_pay44 v49) Kb R1) (Scalar.ofBits .f32 0xFF800000#32) old (ix2 x l)
      = old (ix2 x l) + gain v34 v39 v13 v46 v49 v52 v55 K R k (row k h x) l := by
  have ok : ∀ q : Fin 512, (k0_pay47 (ix2 q x) = 1#1) = ((row k h x).val ≤ 512 * k + q.val) := fun q => propext ((pay47_iff q x).trans (by unfold row; dsimp only; omega))
  unfold gain
  rw [pay75_at, pay67_at]
  congr 2
  · refine Finset.sum_congr rfl fun q _ => ?_
    rw [score_row, pay63_at, pay41_at, pay43_at, pay45_at, h0]
    simp only [hK, ok]
  · refine Finset.sum_congr rfl fun q _ => ?_
    rw [score_row, pay70_at, pay69_at, pay42_at, pay44_at, pay46_at, h1]
    simp only [hK, ok]

end Row

section Loads
variable {ζ : EltTy → Type} {sg : RefSig} {κ : Kind} {sp : Space} {e : EltTy}

theorem rd2 (v : View sg κ sp S2048x128 e) (X : v.ty.Contents ζ) {off : Fin 2 → ℕ} (k : ℕ) (h : k < 4) (ho : off = ![512 * k, 0]) (inb) (x : Fin 512) (y : Fin 128) :
    v.readAt ζ (Rect.unit (s := S2048x128) off S512x128.size inb).toLoadRect X (ix2 x y) = v.read ζ X (ix2 (row k h x) y) := by
  subst ho
  exact rd v _ _ inb X _ _ (by intro a; match a with
    | 0 => rfl
    | 1 => exact (Nat.zero_add _).symm)
theorem rd4 (v : View sg κ sp S1x2x512x128 e) (X : v.ty.Contents ζ) (n : Fin 2) (inb) (x : Fin 512) (y : Fin 128) :
    v.readAt ζ (Rect.unit (s := S1x2x512x128) ![0, n.val, 0, 0] S1x1x512x128.size inb).toLoadRect X (ix4 0 0 x y) = v.read ζ X (ix4 0 n x y) :=
  rd v _ _ inb X _ _ (by intro a; match a with
    | 0 => rfl
    | 1 => rfl
    | 2 => exact (Nat.zero_add _).symm
    | 3 => exact (Nat.zero_add _).symm)
theorem rd5 (v : View sg κ sp S1x2x4x1x512 e) (X : v.ty.Contents ζ) {off : Fin 5 → ℕ} (n : Fin 2) (k : ℕ) (h : k < 4) (ho : off = ![0, n.val, k, 0, 0]) (inb) (x : Fin 512) :
    v.readAt ζ (Rect.unit (s := S1x2x4x1x512) off S1x1x1x1x512.size inb).toLoadRect X (ix5 0 0 0 0 x) = v.read ζ X (ix5 0 n ⟨k, h⟩ 0 x) := by
  subst ho
  exact rd v _ _ inb X _ _ (by intro a; match a with
    | 0 => rfl
    | 1 => rfl
    | 2 => rfl
    | 3 => rfl
    | 4 => exact (Nat.zero_add _).symm)

/-- A block's store, read back at an index. -/
theorem wr2 (v : View sg κ sp S2048x128 e) (G : v.ty.Contents ζ) {off : Fin 2 → ℕ} (k : ℕ) (h : k < 4) (ho : off = ![512 * k, 0]) (inb) (w : S512x128.Idx → ζ e) (r : Fin 2048) (l : Fin 128) :
    v.read ζ (v.writes ζ G [⟨Rect.unit (s := S2048x128) off S512x128.size inb, w⟩]) (ix2 r l) = if r.val / 512 = k then w (ix2 ⟨r.val % 512, by omega⟩ l) else v.read ζ G (ix2 r l) := by
  by_cases hr : r.val / 512 = k
  · rw [if_pos hr]
    refine View.read_writes_cons_unit_of_mem v G (off' := ![512 * k, 0]) inb w [] (ix2 r l) (ix2 ⟨r.val % 512, by omega⟩ l) ho fun a => ?_
    match a with
    | 0 => show r.val = 512 * k + r.val % 512; omega
    | 1 => exact (Nat.zero_add _).symm
  · rw [if_neg hr]
    refine (View.read_writes_cons_unit_of_not_mem v G (off' := ![512 * k, 0]) inb w [] (ix2 r l) ho 0 ?_).trans rfl
    show r.val < 512 * k ∨ 512 * k + 512 ≤ r.val
    omega

end Loads

/-- One visit of the first sweep writes its block, each row its own plus what the block of queries adds. -/
theorem trip_at (G : BufTy.Contents (Elt Ideal) arg13.view.ty) (k : Fin (k0_t1_loop i).trips) (r : Fin 2048) (l : Fin 128) :
    arg13.view.read (Elt Ideal) (arg13.view.writes (Elt Ideal) G ((trip1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg2 v13 k0_pay37 v34 v39 k0_pay40 v46 v49 v52 v55 X5 X6 X10 k).1 G)) (ix2 r l)
      = if r.val / 512 = k.val then arg13.view.read (Elt Ideal) G (ix2 r l) + gain v34 v39 v13 v46 v49 v52 v55 (arg5.view.read (Elt Ideal) X5) (arg10.view.read (Elt Ideal) X10) (i 2).val r l else arg13.view.read (Elt Ideal) G (ix2 r l) := by
  have hj : k.val < (i 2).val := lt_of_lt_of_eq k.isLt (trips_eq i)
  have h4 : k.val < 4 := lt_trans hj (i 2).isLt
  unfold trip1
  dsimp only
  unfold trip1.sl.r_1 trip1.sl.r_3
  refine (wr2 arg13.view G k.val h4 (off1_eq i k) (k0_off1_inb i k) _ r l).trans ?_
  by_cases h : r.val / 512 = k.val
  · rw [if_pos h, if_pos h]
    obtain ⟨x, rfl⟩ : ∃ x : Fin 512, r = row k.val h4 x := ⟨⟨r.val % 512, by omega⟩, Fin.ext (by unfold row; dsimp only; omega)⟩
    have ex : (⟨(row k.val h4 x).val % 512, by omega⟩ : Fin 512) = x := Fin.ext (row_mod _ _ _)
    rw [ex]
    refine (full_row (K := arg5.view.read (Elt Ideal) X5) (R := arg10.view.read (Elt Ideal) X10) _ k.val h4 (fun x y => rd2 arg5.view X5 k.val h4 (off1_eq i k) _ x y)
      (fun x => rd5 arg10.view X10 0 k.val h4 (off2_eq i k) _ x) (fun x => rd5 arg10.view X10 1 k.val h4 (off4_eq i k) _ x) (i 2).val hj x l).trans ?_
    exact congrArg (· + _) (rd2 arg13.view G k.val h4 (off1_eq i k) _ x l)
  · rw [if_neg h, if_neg h]

/-- The first sweep after `k` visits: the rows of the first `k` blocks, each with what the block of queries adds. -/
theorem dvRun_at (G : BufTy.Contents (Elt Ideal) arg13.view.ty) (r : Fin 2048) (l : Fin 128) : ∀ k : ℕ, k ≤ (i 2).val →
    arg13.view.read (Elt Ideal) (dvRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg2 v13 k0_pay37 v34 v39 k0_pay40 v46 v49 v52 v55 X5 X6 X10 G k) (ix2 r l)
      = if r.val / 512 < k then arg13.view.read (Elt Ideal) G (ix2 r l) + gain v34 v39 v13 v46 v49 v52 v55 (arg5.view.read (Elt Ideal) X5) (arg10.view.read (Elt Ideal) X10) (i 2).val r l else arg13.view.read (Elt Ideal) G (ix2 r l)
  | 0, _ => by rw [if_neg (by omega)]; rfl
  | k + 1, hk => by
    have ht : k < (k0_t1_loop i).trips := by rw [trips_eq]; exact hk
    rw [dvRun, dif_pos ht, trip_at, dvRun_at G r l k (Nat.le_of_succ_le hk)]
    by_cases h : r.val / 512 = k
    · rw [if_pos h, if_neg (by omega), if_pos (by omega)]
    · rw [if_neg h]
      by_cases h2 : r.val / 512 < k
      · rw [if_pos h2, if_pos (by omega)]
      · rw [if_neg h2, if_neg (by omega)]

end Cert.Proof.Attn

end
end
-- ==== Proof.AttnPoint.lean ====
/- The attention gradient: the values' gradient after one point, element by element. -/
module

public import proofs.«01_k».proof.Proof.AttnVisit

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

open scoped BigOperators

/-- One head of a pair's block. -/
def headOf (n : Fin 2) (x : Vec Ideal S1x2x512x128 .f32) : Vec Ideal S1x1x512x128 .f32 := fun y => x (ix4 0 n (y 2) (y 3))

/-- What a point adds to the values' gradient, from its blocks. -/
def pointGain (x3 : Vec Ideal S512x128 .bf16) (x4 : Vec Ideal S512x128 .bf16) (x5 : Vec Ideal S2048x128 .bf16) (x7 : Vec Ideal S512x128 .bf16) (x8 : Vec Ideal S1x2x512x128 .f32) (x9 : Vec Ideal S1x2x512x128 .f32) (x10 : Vec Ideal S1x2x4x1x512 .f32) (j : ℕ) (r : Fin 2048) (l : Fin 128) : EReal :=
  gain (k0_pay38 x3) (k0_pay39 x3) (k0_pay35 x7 x4) (headOf 0 x9) (headOf 1 x9) (headOf 0 x8) (headOf 1 x8) x5 x10 j r l

section Loads
variable {ζ : EltTy → Type} {sg : RefSig} {κ : Kind} {sp : Space} {e : EltTy}

theorem ld_head (v : View sg κ sp S1x2x512x128 .f32) (X : v.ty.Contents (Elt Ideal)) (n : Fin 2) (inb) :
    v.readAt (Elt Ideal) (Rect.unit (s := S1x2x512x128) ![0, n.val, 0, 0] S1x1x512x128.size inb).toLoadRect X = headOf n (v.read (Elt Ideal) X) :=
  funext fun y => rd v _ _ inb X y (ix4 0 n (y 2) (y 3)) (by
    intro a
    match a with
    | 0 => show 0 = 0 + (y 0).val; have := (y 0).isLt; change (y 0).val < 1 at this; omega
    | 1 => show n.val = n.val + (y 1).val; have := (y 1).isLt; change (y 1).val < 1 at this; omega
    | 2 => exact (Nat.zero_add _).symm
    | 3 => exact (Nat.zero_add _).symm)
theorem ld_all (v : View sg κ sp S512x128 e) (X : v.ty.Contents ζ) (inb) :
    v.readAt ζ (Rect.unit (s := S512x128) ![0, 0] S512x128.size inb).toLoadRect X = v.read ζ X :=
  funext fun y => rd v _ _ inb X y y (by
    intro a
    match a with
    | 0 => exact (Nat.zero_add _).symm
    | 1 => exact (Nat.zero_add _).symm)

end Loads

variable (c : Dev nD) (i : grid0.Coords)
  (arg3 : Memref sig .tc .vmem S512x128 .bf16) (harg3 : arg3.IsWhole)
  (arg4 : Memref sig .tc .vmem S512x128 .bf16) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S512x128 .bf16) (harg7 : arg7.IsWhole)
  (arg8 : Memref sig .tc .vmem S1x2x512x128 .f32) (harg8 : arg8.IsWhole)
  (arg9 : Memref sig .tc .vmem S1x2x512x128 .f32) (harg9 : arg9.IsWhole)
  (arg10 : Memref sig .tc .vmem S1x2x4x1x512 .f32) (harg10 : arg10.IsWhole)
  (arg11 : Memref sig .tc .vmem S512x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S1x2x4x1x512 .f32) (harg14 : arg14.IsWhole)
  (arg15 : Memref sig .tc .vmem S2x4x512x512 .f32) (harg15 : arg15.IsWhole)
  (arg16 : Memref sig .tc .vmem S2x4x512x512 .f32) (harg16 : arg16.IsWhole)

section Last
variable (arg2 : BitVec 32) (v13 : FVec Ideal S512x128 .bf16) (v34 v39 : FVec Ideal S512x128 .bf16)
  (v46 v49 v52 v55 : Vec Ideal S1x1x512x128 .f32)
  (X5 : BufTy.Contents (Elt Ideal) arg5.view.ty)  (X6 : BufTy.Contents (Elt Ideal) arg6.view.ty) (X10 : BufTy.Contents (Elt Ideal) arg10.view.ty)

/-- The sweep and the diagonal block after it. -/
theorem last_at (G : BufTy.Contents (Elt Ideal) arg13.view.ty) (n : ℕ) (hn : n = (i 2).val) (h11) (h11') (h11'') (h12) (h14) (r : Fin 2048) (l : Fin 128) :
    arg13.view.read (Elt Ideal) (arg13.view.writes (Elt Ideal) (dvRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg2 v13 k0_pay37 v34 v39 k0_pay40 v46 v49 v52 v55 X5 X6 X10 G n) [⟨Rect.unit (s := S2048x128) (k0_off11 i) S512x128.size h11,
        k0_pay75 (k0_pay42 v13 k0_pay37) (k0_pay46 v55) k0_pay47
          (k0_pay67 v34 (k0_pay41 v13 k0_pay40) (k0_pay43 v46) (k0_pay45 v52) k0_pay47 (k0_pay61 (arg5.view.readAt (Elt Ideal) (Rect.unit (s := S2048x128) (k0_off11 i) S512x128.size h11').toLoadRect X5))
            (arg10.view.readAt (Elt Ideal) (Rect.unit (s := S1x2x4x1x512) (k0_off12 i) S1x1x1x1x512.size h12).toLoadRect X10))
          (k0_pay69 v39 (k0_pay44 v49) (k0_pay61 (arg5.view.readAt (Elt Ideal) (Rect.unit (s := S2048x128) (k0_off11 i) S512x128.size h11').toLoadRect X5))
            (arg10.view.readAt (Elt Ideal) (Rect.unit (s := S1x2x4x1x512) (k0_off14 i) S1x1x1x1x512.size h14).toLoadRect X10))
          (Scalar.ofBits .f32 0xFF800000#32)
          (arg13.view.readAt (Elt Ideal) (Rect.unit (s := S2048x128) (k0_off11 i) S512x128.size h11'').toLoadRect (dvRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg2 v13 k0_pay37 v34 v39 k0_pay40 v46 v49 v52 v55 X5 X6 X10 G n))⟩]) (ix2 r l)
      = if r.val / 512 ≤ (i 2).val then arg13.view.read (Elt Ideal) G (ix2 r l) + gain v34 v39 v13 v46 v49 v52 v55 (arg5.view.read (Elt Ideal) X5) (arg10.view.read (Elt Ideal) X10) (i 2).val r l else arg13.view.read (Elt Ideal) G (ix2 r l) := by
  have h4 : (i 2).val < 4 := (i 2).isLt
  subst hn
  refine (wr2 arg13.view _ (i 2).val h4 (off11_eq i) h11 _ r l).trans ?_
  by_cases h : r.val / 512 = (i 2).val
  · rw [if_pos h, if_pos (le_of_eq h)]
    obtain ⟨x, rfl⟩ : ∃ x : Fin 512, r = row (i 2).val h4 x := ⟨⟨r.val % 512, by omega⟩, Fin.ext (by unfold row; dsimp only; omega)⟩
    have ex : (⟨(row (i 2).val h4 x).val % 512, by omega⟩ : Fin 512) = x := Fin.ext (row_mod _ _ _)
    rw [ex]
    refine (diag_row (K := arg5.view.read (Elt Ideal) X5) (R := arg10.view.read (Elt Ideal) X10) _ (i 2).val h4 (fun x y => (pay61_at _ x y).trans (rd2 arg5.view X5 (i 2).val h4 (off11_eq i) _ x y))
      (fun x => rd5 arg10.view X10 0 (i 2).val h4 (off12_eq i) _ x) (fun x => rd5 arg10.view X10 1 (i 2).val h4 (off14_eq i) _ x) x l).trans ?_
    refine congrArg (· + _) ((rd2 arg13.view _ (i 2).val h4 (off11_eq i) _ x l).trans ?_)
    rw [dvRun_at (k := (i 2).val), if_neg (by rw [row_div]; exact lt_irrefl _)]
    exact le_refl _
  · rw [if_neg h, dvRun_at (k := (i 2).val) (r := r)]
    rotate_left
    · exact le_refl _
    by_cases h2 : r.val / 512 < (i 2).val
    · rw [if_pos h2, if_pos (le_of_lt h2)]
    · rw [if_neg h2, if_neg (by omega)]

end Last

theorem gain_of {a3 a3' a4 a7 : Vec Ideal S512x128 .bf16} {b0 b1 b2 b3 : Vec Ideal S1x1x512x128 .f32} {k5 : Vec Ideal S2048x128 .bf16} {r10 : Vec Ideal S1x2x4x1x512 .f32} {x3 : Vec Ideal S512x128 .bf16} {x4 : Vec Ideal S512x128 .bf16} {x5 : Vec Ideal S2048x128 .bf16} {x7 : Vec Ideal S512x128 .bf16} {x8 : Vec Ideal S1x2x512x128 .f32} {x9 : Vec Ideal S1x2x512x128 .f32} {x10 : Vec Ideal S1x2x4x1x512 .f32} {j : ℕ} {r : Fin 2048} {l : Fin 128}
    (h3 : a3 = x3) (h3' : a3' = x3) (h4 : a4 = x4) (h7 : a7 = x7) (h0 : b0 = headOf 0 x9) (h1 : b1 = headOf 1 x9) (h2 : b2 = headOf 0 x8) (h3'' : b3 = headOf 1 x8) (h5 : k5 = x5) (h10 : r10 = x10) :
    gain (k0_pay38 a3) (k0_pay39 a3') (k0_pay35 a7 a4) b0 b1 b2 b3 k5 r10 j r l = pointGain x3 x4 x5 x7 x8 x9 x10 j r l := by
  subst h3 h3' h4 h7 h0 h1 h2 h3'' h5 h10
  rfl

variable (x3 : Vec Ideal S512x128 .bf16) (x4 : Vec Ideal S512x128 .bf16) (x5 : Vec Ideal S2048x128 .bf16) (x6 : Vec Ideal S2048x128 .bf16) (x7 : Vec Ideal S512x128 .bf16) (x8 : Vec Ideal S1x2x512x128 .f32) (x9 : Vec Ideal S1x2x512x128 .f32) (x10 : Vec Ideal S1x2x4x1x512 .f32) (x13 : Vec Ideal S2048x128 .f32)

/-- The values' gradient after a point that opens a sweep of query blocks: what the point adds, on zeros. -/
theorem step_opens (h : opens i) (r : Fin 2048) (l : Fin 128) :
    dvStep c i arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 x9 x10 x13 (ix2 r l) = if r.val / 512 ≤ (i 2).val then 0 + pointGain x3 x4 x5 x7 x8 x9 x10 (i 2).val r l else 0 := by
  rw [dvStep, dif_pos h]
  unfold runA
  dsimp only
  unfold runA.sl.r_4 runA.sl.r_8 runA.sl.r_14 runA.sl.r_16 runA.sl.cst_50 runA.sl.v137
  unfold runA.sl.r runA.sl.r_1 runA.sl.r_2 runA.sl.r_3 runA.sl.r_5 runA.sl.r_6 runA.sl.r_7 runA.sl.r_11
  try unfold runA.sl.r
  refine (last_at c i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) _ _ _ _ _ _ _ _ _ _ _ _ (trips_eq i) _ _ _ _ _ r l).trans ?_
  have e0 : ∀ (f : BufTy.Contents (Elt Ideal) arg13.view.ty) (inb), arg13.view.read (Elt Ideal) (arg13.view.writes (Elt Ideal) f [⟨Rect.unit (s := S2048x128) ![0, 0] S2048x128.size inb, k0_pay32 (F := Ideal)⟩]) (ix2 r l) = 0 := fun f inb => by
    refine (View.read_writes_cons_unit_of_mem arg13.view f (off' := ![0, 0]) inb (k0_pay32 (F := Ideal)) [] (ix2 r l) (ix2 r l) rfl fun a => ?_).trans ?_
    · match a with
      | 0 => exact (Nat.zero_add _).symm
      | 1 => exact (Nat.zero_add _).symm
    · rw [pay32_at]
  by_cases hr : r.val / 512 ≤ (i 2).val
  · rw [if_pos hr, if_pos hr]
    exact congrArg₂ (· + ·) (e0 _ _) (gain_of ((ld_all arg3.view _ _).trans (harg3.read_unread x3)) ((ld_all arg3.view _ _).trans (harg3.read_unread x3)) ((ld_all arg4.view _ _).trans (harg4.read_unread x4)) ((ld_all arg7.view _ _).trans (harg7.read_unread x7)) ((ld_head arg9.view _ 0 _).trans (congrArg (headOf 0) (harg9.read_unread x9))) ((ld_head arg9.view _ 1 _).trans (congrArg (headOf 1) (harg9.read_unread x9))) ((ld_head arg8.view _ 0 _).trans (congrArg (headOf 0) (harg8.read_unread x8))) ((ld_head arg8.view _ 1 _).trans (congrArg (headOf 1) (harg8.read_unread x8))) (harg5.read_unread x5) (harg10.read_unread x10))
  · rw [if_neg hr, if_neg hr]
    exact e0 _ _

/-- The values' gradient after any other point: what the point adds to what it was. -/
theorem step_goes (h : ¬ opens i) (r : Fin 2048) (l : Fin 128) :
    dvStep c i arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 x9 x10 x13 (ix2 r l) = if r.val / 512 ≤ (i 2).val then x13 (ix2 r l) + pointGain x3 x4 x5 x7 x8 x9 x10 (i 2).val r l else x13 (ix2 r l) := by
  rw [dvStep, dif_neg h]
  unfold runB
  dsimp only
  unfold runB.sl.r_4 runB.sl.r_8 runB.sl.r_14 runB.sl.r_16 runB.sl.cst_50 runB.sl.v137
  unfold runB.sl.r runB.sl.r_1 runB.sl.r_2 runB.sl.r_3 runB.sl.r_5 runB.sl.r_6 runB.sl.r_7 runB.sl.r_11
  try unfold runB.sl.r
  refine (last_at c i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) _ _ _ _ _ _ _ _ _ _ _ _ (trips_eq i) _ _ _ _ _ r l).trans ?_
  by_cases hr : r.val / 512 ≤ (i 2).val
  · rw [if_pos hr, if_pos hr]
    exact congrArg₂ (· + ·) (congrFun (harg13.read_unread x13) _) (gain_of ((ld_all arg3.view _ _).trans (harg3.read_unread x3)) ((ld_all arg3.view _ _).trans (harg3.read_unread x3)) ((ld_all arg4.view _ _).trans (harg4.read_unread x4)) ((ld_all arg7.view _ _).trans (harg7.read_unread x7)) ((ld_head arg9.view _ 0 _).trans (congrArg (headOf 0) (harg9.read_unread x9))) ((ld_head arg9.view _ 1 _).trans (congrArg (headOf 1) (harg9.read_unread x9))) ((ld_head arg8.view _ 0 _).trans (congrArg (headOf 0) (harg8.read_unread x8))) ((ld_head arg8.view _ 1 _).trans (congrArg (headOf 1) (harg8.read_unread x8))) (harg5.read_unread x5) (harg10.read_unread x10))
  · rw [if_neg hr, if_neg hr]
    exact congrFun (harg13.read_unread x13) _

end Cert.Proof.Attn

end
end
-- ==== Proof.AttnFrame.lean ====
/- The run of the attention gradient over any values: the values' gradient as a function of the arguments, the other results at some contents. -/
module

public import proofs.«01_k».proof.Proof.AttnStep

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A sweep opens at every fourth point. -/
theorem opens_iff : ∀ t : Fin cfg0.N, opens (grid0.coords t) ↔ t.val % 4 = 0 :=
  (by decide +kernel : ∀ t : Fin grid0.N, opens (grid0.coords t) ↔ t.val % 4 = 0)

/-- The values' gradient after point `t`'s body, from what the buffer held. -/
def stepAt (c : Dev nD) (t : Fin cfg0.N) (x : Vec F S2048x128 .f32) : Vec F S2048x128 .f32 :=
  dvStep c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) x

/-- The values' gradient after each point. -/
def dvAt (c : Dev nD) : (n : ℕ) → n < cfg0.N → Vec F S2048x128 .f32
  | 0, hn => stepAt m c ⟨0, hn⟩ (constant S2048x128 .f32 0x00000000#32)
  | n + 1, hn => stepAt m c ⟨n + 1, hn⟩ (dvAt c n (Nat.lt_of_succ_lt hn))

/-- The results whose contents this run does not name. -/
def fgt : Fin cfg0.W → Bool := fun w => match w with
  | ⟨8, _⟩ => true
  | ⟨9, _⟩ => true
  | ⟨11, _⟩ => true
  | _ => false

/-- The pipeline's data: the inputs' blocks, the values' gradient, and nothing said of the other results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Dat.unnamed ⟨8, h⟩ t
    | ⟨9, h⟩ => Dat.unnamed ⟨9, h⟩ t
    | ⟨10, _⟩ => dvAt m c t.val t.isLt
    | ⟨11, h⟩ => Dat.unnamed ⟨11, h⟩ t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after10 (c : Dev nD) (t : Fin cfg0.N) : (dats m 0 c).after 10 t = dvAt m c t.val t.isLt := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- A point's body takes what its buffer holds to what the data says. -/
theorem step_before (c : Dev nD) (t : Fin cfg0.N) (d) :
    stepAt m c t ((dats m 0 c).before 10 t d) = dvAt m c t.val t.isLt := by
  by_cases h : opens (grid0.coords t)
  · obtain ⟨n, hn⟩ := t
    cases n with
    | zero => exact dvStep_opens c _ _ _ _ _ _ _ _ _ _ _ _ _ _ _ _ _ _ _ _ _ _ _ _ _ _ _ _ _ h _ _ _ _ _ _ _ _ _ _
    | succ n => exact dvStep_opens c _ _ _ _ _ _ _ _ _ _ _ _ _ _ _ _ _ _ _ _ _ _ _ _ _ _ _ _ _ h _ _ _ _ _ _ _ _ _ _
  · have h4 : ¬ t.val % 4 = 0 := fun e => h ((opens_iff t).mpr e)
    have h0 : t.val ≠ 0 := fun e => h4 (by rw [e])
    rw [Dat.before_out_kept (dats m 0 c) 10 rfl t h0 (by
      rw [Bool.eq_false_iff]; intro hf
      have := (flush0_10 _).mp hf
      dsimp only at this; omega) (fun _ => rfl) (fun _ _ => rfl) d, after10]
    obtain ⟨n, hn⟩ := t
    cases n with
    | zero => exact absurd rfl h0
    | succ n => rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)) ∗ (∃ X, owns (c : Thread nD τ) ((cfg0.win 8).stage (cfg0.slots t 8)) fullShare X) ∗ (∃ X, owns (c : Thread nD τ) ((cfg0.win 9).stage (cfg0.slots t 9)) fullShare X) ∗ (∃ d, owns (c : Thread nD τ) ((cfg0.win 10).stage (cfg0.slots t 10)) fullShare ((dats m 0 c).before 10 t d)) ∗ (∃ X, owns (c : Thread nD τ) ((cfg0.win 11).stage (cfg0.slots t 11)) fullShare X))

/-- and what it returns. -/
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ owns (c : Thread nD τ) ((cfg0.win 3).stage (cfg0.slots t 3)) fullShare ((dats m 0 c).after 3 t) ∗ owns (c : Thread nD τ) ((cfg0.win 4).stage (cfg0.slots t 4)) fullShare ((dats m 0 c).after 4 t) ∗ owns (c : Thread nD τ) ((cfg0.win 5).stage (cfg0.slots t 5)) fullShare ((dats m 0 c).after 5 t) ∗ owns (c : Thread nD τ) ((cfg0.win 6).stage (cfg0.slots t 6)) fullShare ((dats m 0 c).after 6 t) ∗ owns (c : Thread nD τ) ((cfg0.win 7).stage (cfg0.slots t 7)) fullShare ((dats m 0 c).after 7 t) ∗ (∃ X, owns (c : Thread nD τ) ((cfg0.win 8).stage (cfg0.slots t 8)) fullShare X) ∗ (∃ X, owns (c : Thread nD τ) ((cfg0.win 9).stage (cfg0.slots t 9)) fullShare X) ∗ owns (c : Thread nD τ) ((cfg0.win 10).stage (cfg0.slots t 10)) fullShare ((dats m 0 c).after 10 t) ∗ (∃ X, owns (c : Thread nD τ) ((cfg0.win 11).stage (cfg0.slots t 11)) fullShare X))

set_option maxHeartbeats 800000 in
theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl]
  unfold Pipeline.ΦA
  rw [scopedRest0_eq]
  simp only [← owns_whole]
  iintro ⟨⟨⟨HS0, HS1⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩, H11⟩
  iapply (wp_wand_r Idealize.ShloMosaic.frame (wpE (defs₀ (F := F)) Variants.none (c : Thread nD τ) none) Set.univ)
  isplitl [H0 H1 H2 H3 H4 H5 H6 H7 H8 H9 H10 H11 HS0 HS1]
  · iapply (body_step (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) Set.univ ((dats m 0 c).before 0 t d0) ((dats m 0 c).before 1 t d1) ((dats m 0 c).before 2 t d2) ((dats m 0 c).before 3 t d3) ((dats m 0 c).before 4 t d4) ((dats m 0 c).before 5 t d5) ((dats m 0 c).before 6 t d6) ((dats m 0 c).before 7 t d7) ((dats m 0 c).before 10 t d10))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    iexact HS1
  · iintro %yld ⟨H0, H1, H2, H3, H4, H5, H6, H7, H8, H9, H10, H11, HS0, HS1⟩
    isplitl [HS0 HS1 HP]
    · isplitr [HP]
      · isplitl [HS0]; · iexact HS0
        iexact HS1
      iexact HP
    isplitl [Ho]; · iexact Ho
    isplitl [H0]; · rw [after0, ← before0 m c t d0]; iexact H0
    isplitl [H1]; · rw [after1, ← before1 m c t d1]; iexact H1
    isplitl [H2]; · rw [after2, ← before2 m c t d2]; iexact H2
    isplitl [H3]; · rw [after3, ← before3 m c t d3]; iexact H3
    isplitl [H4]; · rw [after4, ← before4 m c t d4]; iexact H4
    isplitl [H5]; · rw [after5, ← before5 m c t d5]; iexact H5
    isplitl [H6]; · rw [after6, ← before6 m c t d6]; iexact H6
    isplitl [H7]; · rw [after7, ← before7 m c t d7]; iexact H7
    isplitl [H8]; · iexact H8
    isplitl [H9]; · iexact H9
    isplitl [H10]; · rw [after10, ← step_before m c t d10]; unfold stepAt; simp only [← before0 m c t d0, ← before1 m c t d1, ← before2 m c t d2, ← before3 m c t d3, ← before4 m c t d4, ← before5 m c t d5, ← before6 m c t d6, ← before7 m c t d7]; iexact H10
    iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: the inputs as the region found them, the values' gradient at `dvAt`'s blocks, every counter at zero. -/
theorem run_main_quiescent : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- What the run leaves in the values' gradient and the arguments. -/
theorem run_dv : θ_run defs (onTc (τ := τ) (main (F := F))) ⟨m, fun _ => 0, ρ⟩ (fun r => ∀ c : Dev nD,
      r.2.mem ((cfg0.spec 10).arr.view.loc (c.tc : Thread nD τ)) = (dats m 0 c).arrAt 10 cfg0.N) :=
  (θ_run defs _ _).mono (fun _ h c => ((dats m 0 c).toRForget_arrAt_iff (fgt := fgt) (w := 10) rfl _ _).mp ((h.1 c).1 10)) (run_main_quiescent m ρ)

/-- The arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main_quiescent m ρ)

end Cert.Proof.Attn

end
end
-- ==== Proof.AttnSum.lean ====
/- The attention gradient: the values' gradient after the four points of a sweep. -/
module

public import proofs.«01_k».proof.Proof.AttnPoint
public import proofs.«01_k».proof.Proof.AttnFrame

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

variable (m : (ℓ : Loc nD τ sig) → Buf (Elt Ideal) ℓ)

/-- The block of queries a point stands for. -/
theorem coords2 : ∀ t : Fin cfg0.N, (grid0.coords t 2).val = t.val % 4 :=
  (by decide +kernel : ∀ t : Fin grid0.N, (grid0.coords t 2).val = t.val % 4)

/-- What one point adds to the values' gradient. -/
def added (c : Dev nD) (t : Fin cfg0.N) (r : Fin 2048) (l : Fin 128) : EReal :=
  pointGain (iblk m c 0 t) (iblk m c 1 t) (iblk m c 2 t) (iblk m c 4 t) (iblk m c 5 t) (iblk m c 6 t) (iblk m c 7 t) (t.val % 4) r l

/-- A point adds to what the buffer held, and the first of four to nothing. -/
theorem stepAt_at (c : Dev nD) (t : Fin cfg0.N) (x : Vec Ideal S2048x128 .f32) (r : Fin 2048) (l : Fin 128) :
    stepAt m c t x (ix2 r l) = (if t.val % 4 = 0 then 0 else x (ix2 r l)) + (if r.val / 512 ≤ t.val % 4 then added m c t r l else 0) := by
  unfold stepAt added
  by_cases h : t.val % 4 = 0
  · refine (step_opens c _ _ _ _ _ _ _ _ _ _ _ _ _ _ _ _ _ _ _ _ _ _ _ _ _ _ _ _ _ _ _ _ _ _ _ _ _ _ ((opens_iff t).mpr h) r l).trans ?_
    rw [if_pos h, coords2]
    split
    · rfl
    · exact (add_zero _).symm
  · refine (step_goes c _ _ _ _ _ _ _ _ _ _ _ _ _ _ _ _ _ _ _ _ _ _ _ _ _ _ _ _ _ _ _ _ _ _ _ _ _ _ (fun e => h ((opens_iff t).mp e)) r l).trans ?_
    rw [if_neg h, coords2]
    split
    · rfl
    · exact (add_zero _).symm

/-- What one of the four points of a sweep adds, if its queries reach the row. -/
def addedIf (c : Dev nD) (q : ℕ) (hq : q < 16) (j : Fin 4) (r : Fin 2048) (l : Fin 128) : EReal :=
  if r.val / 512 ≤ j.val then added m c ⟨4 * q + j.val, by show _ < 64; omega⟩ r l else 0

/-- The values' gradient after the fourth point of a sweep. -/
theorem dvAt_at (c : Dev nD) (q : ℕ) (hq : q < 16) (hn : 4 * q + 3 < cfg0.N) (r : Fin 2048) (l : Fin 128) :
    dvAt m c (4 * q + 3) hn (ix2 r l) = ∑ j : Fin 4, addedIf m c q hq j r l := by
  have e0 : dvAt m c (4 * q) (by omega) (ix2 r l) = addedIf m c q hq 0 r l := by
    have a : ∀ n (h : n < cfg0.N), n % 4 = 0 → dvAt m c n h (ix2 r l) = if r.val / 512 ≤ 0 then added m c ⟨n, h⟩ r l else 0 := fun n h hz => by
      cases n with
      | zero => rw [dvAt, stepAt_at, if_pos hz]; dsimp only; rw [hz, zero_add]
      | succ n => rw [dvAt, stepAt_at, if_pos hz]; dsimp only; rw [hz, zero_add]
    exact a _ _ (by omega)
  have e : ∀ (j : ℕ) (hj : j + 1 < 4), dvAt m c (4 * q + j + 1) (by omega) (ix2 r l) = dvAt m c (4 * q + j) (by omega) (ix2 r l) + addedIf m c q hq ⟨j + 1, hj⟩ r l := fun j hj => by
    have em : (4 * q + j + 1) % 4 = j + 1 := by omega
    rw [dvAt, stepAt_at, if_neg (by dsimp only; omega)]
    dsimp only
    rw [em]
    rfl
  rw [Fin.sum_univ_four, ← e0]
  refine (e 2 (by omega)).trans (congrArg (· + _) ((e 1 (by omega)).trans (congrArg (· + _) (e 0 (by omega)))))

end Cert.Proof.Attn

end
end
-- ==== Proof.NormMath.lean ====
/- The gradient of a root-mean-square norm over a row, in both forms. -/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Norm

/-- A positive real factor passes through a sum. -/
theorem mul_sum_real {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

theorem sq_nonneg' (x : EReal) : 0 ≤ x * x := by
  rcases le_total 0 x with h | h
  · exact mul_nonneg h h
  · rw [← neg_neg x, neg_mul_neg]
    have : 0 ≤ -x := by simpa using EReal.neg_le_neg_iff.mpr h
    exact mul_nonneg this this

/-- Twice a value. -/
theorem add_self (x : EReal) : x + x = ((2 : ℝ) : EReal) * x := by
  induction x with
  | bot => rw [EReal.coe_mul_bot_of_pos (by norm_num)]; rfl
  | top => rw [EReal.coe_mul_top_of_pos (by norm_num)]; rfl
  | coe x => rw [← EReal.coe_add, ← EReal.coe_mul, two_mul]

/-- The mean square with the small constant added is a positive real or infinite. -/
theorem mean_cases (s : EReal) (hs : 0 ≤ s) (N e : ℝ) (hN : 0 < N) (he : 0 < e) :
    (∃ x : ℝ, 0 < x ∧ Ideal.div s (N : EReal) + (e : EReal) = (x : EReal)) ∨ Ideal.div s (N : EReal) + (e : EReal) = ⊤ := by
  rw [Ideal.div_coe hN.ne']
  have hp : (0 : ℝ) < 1 / N := by positivity
  induction s with
  | bot => simp at hs
  | top => right; rw [EReal.top_mul_coe_of_pos hp]; rfl
  | coe s =>
    left
    have hs' : 0 ≤ s := by exact_mod_cast hs
    refine ⟨s * (1 / N) + e, by positivity, by push_cast; rfl⟩

/-- The gradient of a row through its norm, as the kernel forms it and as differentiating the norm gives it. -/
theorem row_grad {n : ℕ} (h d : Fin n → EReal) (k : Fin n) (N e : ℝ) (hN : 0 < N) (he : 0 < e)
    (q r z : EReal) (hq : q = Ideal.div (∑ j, h j * h j) (N : EReal) + (e : EReal)) (hr : r = Ideal.rsqrt q)
    (hz : z = Ideal.div ((∑ j, h j * d j) * (((-(1/2) : ℝ) : EReal) * Ideal.div r q)) (N : EReal)) :
    r * (d k - (h k * r) * Ideal.div (∑ j, d j * (h j * r)) (N : EReal)) = (d k * r + h k * z) + z * h k := by
  have hs : (0 : EReal) ≤ ∑ j, h j * h j := Finset.sum_nonneg fun j _ => sq_nonneg' _
  rcases mean_cases _ hs N e hN he with ⟨x, hx, hqx⟩ | hqt
  · rw [hqx] at hq
    subst hq
    have hrx : r = ((Real.sqrt x)⁻¹ : ℝ) := by
      rw [hr, Ideal.rsqrt_coe, if_neg (not_lt.mpr hx.le), if_neg hx.ne']
    set ρ : ℝ := (Real.sqrt x)⁻¹ with hρ
    have hρ0 : 0 ≤ ρ := by positivity
    have hρx : ρ * (1 / x) = ρ * ρ * ρ := by
      have : ρ * ρ = 1 / x := by
        rw [hρ, ← mul_inv, Real.mul_self_sqrt hx.le, one_div]
      rw [mul_assoc ρ ρ ρ, this]
    rw [Ideal.div_coe hN.ne'] at hz ⊢
    rw [hrx, Ideal.div_coe hx.ne'] at hz
    rw [hrx]
    have e1 : ∑ j, d j * (h j * (ρ : EReal)) = (ρ : EReal) * ∑ j, h j * d j := by
      rw [mul_sum_real _ _ hρ0]
      refine Finset.sum_congr rfl fun j _ => ?_
      rw [mul_comm (h j) (d j), ← mul_assoc, mul_comm]
    rw [e1]
    generalize ∑ j, h j * d j = S at hz ⊢
    generalize d k = D at hz ⊢
    generalize h k = H at hz ⊢
    have ez : H * z = (H * S) * ((-(1/2) * (ρ * (1 / x)) * (1 / N) : ℝ) : EReal) := by
      rw [hz]; push_cast; simp only [mul_assoc]
    have hl : (H * (ρ : EReal)) * ((ρ : EReal) * S * ((1 / N : ℝ) : EReal)) = (H * S) * ((ρ * ρ * (1 / N) : ℝ) : EReal) := by
      push_cast
      ac_rfl
    rw [sub_eq_add_neg, EReal.left_distrib_of_nonneg_of_ne_top (by exact_mod_cast hρ0) (EReal.coe_ne_top _), mul_neg, hl,
      mul_comm z H, add_assoc, add_self, ez, hρx, mul_comm D]
    congr 1
    rw [mul_left_comm ((ρ : ℝ) : EReal) (H * S), ← EReal.coe_mul, ← mul_neg, ← EReal.coe_neg, mul_left_comm ((2 : ℝ) : EReal), ← EReal.coe_mul]
    congr 2
    ring
  · rw [hqt] at hq
    have h0 : r = 0 := by rw [hr, hq]; rfl
    have hz0 : z = 0 := by
      rw [hz, h0, hq]
      simp [Ideal.div, hN.ne']
    rw [hz0, h0]
    simp

/-- The two constants of the norms: the row length, the small constant; and the half. -/
theorem len_const : Ideal.ofBits .f32 0x44800000#32 = ((1024 : ℝ) : EReal) := by
  simp [Ideal.ofBits, Ideal.ieee]; rw [← EReal.coe_mul]; norm_num

theorem eps_const : ∃ e : ℝ, 0 < e ∧ Ideal.ofBits .f32 0x358637BD#32 = (e : EReal) := by
  refine ⟨_, ?_, by simp [Ideal.ofBits, Ideal.ieee]; rfl⟩
  positivity

theorem half_const : Ideal.ofBits .f32 0xBF000000#32 = ((-(1/2) : ℝ) : EReal) := by
  simp [Ideal.ofBits, Ideal.ieee]; rw [← EReal.coe_mul]; norm_num

theorem one_const : Ideal.ofBits .f32 0x3F800000#32 = 1 := by
  simp [Ideal.ofBits, Ideal.ieee]; rw [← EReal.coe_mul]; norm_num

theorem zero_const : Ideal.ofBits .f32 0x00000000#32 = 0 := by
  simp [Ideal.ofBits, Ideal.ieee]

/-- A row's reciprocal root mean square. -/
def rn {n : ℕ} (h : Fin n → EReal) : EReal :=
  Ideal.rsqrt (Ideal.div (∑ j, h j * h j) (Ideal.ofBits .f32 0x44800000#32) + Ideal.ofBits .f32 0x358637BD#32)

/-- The row's gradient as the kernel forms it: `h` the row, `d` the gradient after the gain. -/
def kform {n : ℕ} (h d : Fin n → EReal) (k : Fin n) : EReal :=
  rn h * (d k - (h k * rn h) * Ideal.div (∑ j, d j * (h j * rn h)) (Ideal.ofBits .f32 0x44800000#32))

/-- The factor of the row in its own gradient, differentiated. -/
def zform {n : ℕ} (h d : Fin n → EReal) : EReal :=
  Ideal.div ((∑ j, h j * d j) * (Ideal.ofBits .f32 0xBF000000#32 * Ideal.div (rn h)
    (Ideal.div (∑ j, h j * h j) (Ideal.ofBits .f32 0x44800000#32) + Ideal.ofBits .f32 0x358637BD#32))) (Ideal.ofBits .f32 0x44800000#32)

theorem kform_eq {n : ℕ} (h d : Fin n → EReal) (k : Fin n) :
    kform h d k = (d k * rn h + h k * zform h d) + zform h d * h k := by
  obtain ⟨e, he, hee⟩ := eps_const
  unfold kform
  have hz := @row_grad n h d k 1024 e (by norm_num) he _ (rn h) (zform h d) rfl (by unfold rn; rw [len_const, hee])
    (by unfold zform; rw [len_const, hee, half_const])
  rw [len_const]
  exact hz

/-- A sum over `m * n` numbers, in `m` runs of `n`. -/
theorem sum_runs (m n : ℕ) (f : ℕ → EReal) : ∑ i : Fin (m * n), f i.val = ∑ a : Fin m, ∑ b : Fin n, f (a.val * n + b.val) := by
  rw [← Finset.sum_product' Finset.univ Finset.univ (fun (a : Fin m) (b : Fin n) => f (a.val * n + b.val)), Finset.univ_product_univ]
  refine (Fintype.sum_equiv finProdFinEquiv _ _ fun x => ?_).symm
  rw [finProdFinEquiv_apply_val, Nat.mul_comm, Nat.add_comm]

/-- Sums kept in the first of every eight rows, added up. -/
theorem sum_first_of_eight (m n : ℕ) (f : ℕ → EReal) :
    ∑ i : Fin (m * 8), (if i.val % 8 = 0 then ∑ b : Fin n, f (i.val / 8 * n + b.val) else 0) = ∑ i : Fin (m * n), f i.val := by
  rw [sum_runs m n f, sum_runs m 8 (fun i => if i % 8 = 0 then ∑ b : Fin n, f (i / 8 * n + b.val) else 0)]
  refine Finset.sum_congr rfl fun a _ => ?_
  rw [Fin.sum_univ_succ]
  have h0 : (∑ i : Fin 7, (if (a.val * 8 + (Fin.succ i).val) % 8 = 0 then ∑ b : Fin n, f ((a.val * 8 + (Fin.succ i).val) / 8 * n + b.val) else 0)) = 0 := by
    refine Finset.sum_eq_zero fun i _ => ?_
    rw [if_neg]
    have := i.2
    rw [Fin.val_succ]; omega
  rw [h0, add_zero, if_pos (by simp)]
  refine Finset.sum_congr rfl fun b _ => ?_
  congr 2
  simp

end Cert.Norm

end
end
-- ==== Proof.SwiMath.lean ====
/- The gradient of a gate column behind a norm, in both forms. -/
module

public import proofs.«01_k».proof.Proof.NormMath

@[expose] public section

set_option maxRecDepth 16384

noncomputable section

open Idealize.ShloMosaic Idealize.ShloMosaic.TcCoe Idealize.SL.Sem
open Idealize.ShloMosaic.Pipeline (Dat)
open scoped BigOperators

namespace Cert.Norm

/-- A value that is no infinity. -/
def IsReal (x : EReal) : Prop := ∃ r : ℝ, x = (r : EReal)

/-- What a test of the magnitude against infinity says. -/
theorem isReal_of_lt (x : EReal) (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih fun i hi => h i (Finset.mem_insert_of_mem hi)
    exact ⟨x + y, by rw [hx, hy, EReal.coe_add]⟩

theorem isReal_add {x y : EReal} (h : IsReal (x + y)) : IsReal x ∧ IsReal y := by
  obtain ⟨r, hr⟩ := h
  induction x with
  | bot => simp at hr
  | top =>
    induction y with
    | bot => simp at hr
    | top => simp at hr
    | coe y => rw [EReal.top_add_coe] at hr; exact absurd hr.symm (EReal.coe_ne_top r)
  | coe x =>
    induction y with
    | bot => simp at hr
    | top => rw [EReal.coe_add_top] at hr; exact absurd hr.symm (EReal.coe_ne_top r)
    | coe y => exact ⟨⟨x, rfl⟩, ⟨y, rfl⟩⟩

/-- The terms of a finite sum are finite. -/
theorem isReal_of_sum {ι : Type} (s : Finset ι) (f : ι → EReal) (h : IsReal (∑ i ∈ s, f i)) : ∀ i ∈ s, IsReal (f i) := by
  classical
  induction s using Finset.induction_on with
  | empty => intro i hi; simp at hi
  | insert a s ha ih =>
    rw [Finset.sum_insert ha] at h
    intro i hi
    rcases Finset.mem_insert.1 hi with rfl | hi
    · exact (isReal_add h).1
    · exact ih (isReal_add h).2 i hi

theorem isReal_or (x : EReal) : IsReal x ∨ x = ⊤ ∨ x = ⊥ := by
  induction x with
  | bot => exact .inr (.inr rfl)
  | top => exact .inr (.inl rfl)
  | coe x => exact .inl ⟨x, rfl⟩

theorem zero_of_inf_mul {x y : EReal} (hx : x = ⊤ ∨ x = ⊥) (h : IsReal (x * y)) : y = 0 := by
  obtain ⟨r, hr⟩ := h
  by_contra hy
  have hlt := lt_or_gt_of_ne hy
  rcases hx with rfl | rfl <;> rcases hlt with hy | hy
  · rw [EReal.top_mul_of_neg hy] at hr; exact EReal.bot_ne_coe r hr
  · rw [EReal.top_mul_of_pos hy] at hr; exact EReal.coe_ne_top r hr.symm
  · rw [EReal.bot_mul_of_neg hy] at hr; exact EReal.coe_ne_top r hr.symm
  · rw [EReal.bot_mul_of_pos hy] at hr; exact EReal.bot_ne_coe r hr

theorem isReal_of_mul {c : ℝ} (hc : c ≠ 0) {x : EReal} (h : IsReal ((c : EReal) * x)) : IsReal x := by
  rcases isReal_or x with hx | hx
  · exact hx
  · exact absurd (EReal.coe_eq_zero.1 (zero_of_inf_mul hx (by rwa [mul_comm] at h))) hc

/-- A row has either an infinite entry, and its reciprocal root mean square is zero, or only finite ones. -/
theorem rn_cases {n : ℕ} (h : Fin n → EReal) : rn h = 0 ∨ (∀ j, IsReal (h j)) ∧ IsReal (rn h) := by
  obtain ⟨e, he, hee⟩ := eps_const
  have hs : (0 : EReal) ≤ ∑ j, h j * h j := Finset.sum_nonneg fun j _ => sq_nonneg' _
  unfold rn
  rw [len_const, hee]
  rcases mean_cases _ hs 1024 e (by norm_num) he with ⟨x, hx, hq⟩ | hq
  · right
    constructor
    · intro j
      rw [Ideal.div_coe (by norm_num : (1024 : ℝ) ≠ 0)] at hq
      have h1 := (isReal_add ⟨x, hq⟩).1
      rw [mul_comm] at h1
      have h2 := isReal_of_sum _ _ (isReal_of_mul (by norm_num) h1) j (Finset.mem_univ j)
      rcases isReal_or (h j) with hj | hj
      · exact hj
      · exact ⟨0, zero_of_inf_mul hj h2⟩
    · rw [hq, Ideal.rsqrt_coe, if_neg (not_lt.mpr hx.le), if_neg hx.ne']
      exact ⟨_, rfl⟩
  · left
    rw [hq]
    rfl

theorem kform_zero {n : ℕ} (h d : Fin n → EReal) (k : Fin n) (h0 : rn h = 0) : kform h d k = 0 := by
  unfold kform
  rw [h0, zero_mul]

theorem kform_real {n : ℕ} (h d : Fin n → EReal) (k : Fin n) (hh : ∀ j, IsReal (h j)) (hr : IsReal (rn h)) (hd : ∀ j, IsReal (d j)) : IsReal (kform h d k) := by
  unfold kform
  rw [len_const, Ideal.div_coe (by norm_num : (1024 : ℝ) ≠ 0)]
  refine isReal_mul hr (isReal_sub (hd k) (isReal_mul (isReal_mul (hh k) hr) (isReal_mul (isReal_sum _ _ fun j _ => isReal_mul (hd j) (isReal_mul (hh j) hr)) ⟨_, rfl⟩)))

/-- The gradient of a gate column as the kernel forms it: `e` the gradient of the gate times the other column. -/
def gateK (e γ : EReal) : EReal := (e * Ideal.logistic γ) * (1 + γ * (1 - Ideal.logistic γ))

/-- The same as differentiating gives it. -/
def gateR (e γ : EReal) : EReal := e * Ideal.logistic γ + (γ * e) * (Ideal.logistic γ * (1 - Ideal.logistic γ))

theorem gate_real (e γ : EReal) (he : IsReal e) (hγ : IsReal γ) : gateK e γ = gateR e γ := by
  obtain ⟨x, rfl⟩ := he
  obtain ⟨g, rfl⟩ := hγ
  unfold gateK gateR
  rw [Ideal.logistic_coe]
  generalize (1 + Real.exp (-g))⁻¹ = s
  rw [← EReal.coe_one]
  norm_cast
  ring_nf

theorem gate_zero (γ : EReal) : gateK 0 γ = gateR 0 γ := by
  unfold gateK gateR
  simp

theorem one_sub_one : (1 : EReal) - 1 = 0 := by
  rw [← EReal.coe_one, ← EReal.coe_sub, sub_self, EReal.coe_zero]

/-- The two agree where the gradient comes back through the product, the norm and the gain, all of it finite except perhaps the gate
    columns and the weights: an infinite row has gradient zero. `w` is a row of the weights, `h` the product's row. -/
theorem gate_eq {n : ℕ} (h d w : Fin n → EReal) (γ u : EReal) (hd : ∀ j, IsReal (d j))
    (hw : ∀ k, IsReal (h k) → IsReal (((γ * Ideal.logistic γ) * u) * w k)) :
    gateK ((∑ k, kform h d k * w k) * u) γ = gateR ((∑ k, kform h d k * w k) * u) γ := by
  rcases rn_cases h with h0 | ⟨hr, hn⟩
  · have : ∑ k, kform h d k * w k = 0 := Finset.sum_eq_zero fun k _ => by rw [kform_zero h d k h0, zero_mul]
    rw [this, zero_mul]
    exact gate_zero γ
  · have hk : ∀ k, IsReal (kform h d k) := fun k => kform_real h d k hr hn hd
    replace hw : ∀ k, IsReal (((γ * Ideal.logistic γ) * u) * w k) := fun k => hw k (hr k)
    generalize he : (∑ k, kform h d k * w k) * u = e
    induction γ with
    | bot => unfold gateK gateR; rw [Ideal.logistic_bot]; simp
    | top => unfold gateK gateR; rw [Ideal.logistic_top, one_sub_one]; simp
    | coe g =>
      by_cases hg : g = 0
      · subst hg
        unfold gateK gateR
        simp
      · refine gate_real e g ?_ ⟨g, rfl⟩
        rw [Ideal.logistic_coe, ← EReal.coe_mul] at hw
        have hc : g * (1 + Real.exp (-g))⁻¹ ≠ 0 := mul_ne_zero hg (inv_ne_zero (by positivity))
        have hu : ∀ k, IsReal (u * w k) := fun k => isReal_of_mul hc (by rw [← mul_assoc]; exact hw k)
        rcases isReal_or u with hur | hui
        · by_cases hu0 : u = 0
          · rw [← he, hu0, mul_zero]; exact ⟨0, rfl⟩
          · obtain ⟨v, rfl⟩ := hur
            have hv : v ≠ 0 := fun h => hu0 (by rw [h]; rfl)
            rw [← he]
            exact isReal_mul (isReal_sum _ _ fun k _ => isReal_mul (hk k) (isReal_of_mul hv (hu k))) ⟨v, rfl⟩
        · rw [← he, Finset.sum_eq_zero fun k _ => by rw [zero_of_inf_mul hui (hu k), mul_zero], zero_mul]
          exact ⟨0, rfl⟩

end Cert.Norm

end
end
-- ==== Proof.AttnMath.lean ====
/- The attention gradient's mathematics: the softmax from the saved logarithm, one head's lanes, the blocks of queries. -/
module

public import proofs.«01_k».proof.Proof.AttnSum
public import proofs.«01_k».proof.Proof.SwiMath

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

open Cert.Norm

/-- A sum of finite values is the sum of their reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem exp_coe (r : ℝ) : Ideal.exp (r : EReal) = ((Real.exp r : ℝ) : EReal) := rfl

/-- The exponential of a score taken off its row's greatest and the logarithm of the row's mass is the row's softmax. -/
theorem softmax_eq {n : ℕ} (s : Fin n → EReal) (hs : ∀ k, s k = ⊥ ∨ IsReal (s k)) (k0 : Fin n) (h0 : IsReal (s k0)) (T Z : EReal)
    (hT : T = (Finset.univ : Finset (Fin n)).fold max ⊥ s) (hZ : Z = ∑ k, Ideal.exp (s k - T)) (k : Fin n) :
    Ideal.exp (s k - (T + Ideal.log Z)) = Ideal.div (Ideal.exp (s k - T)) Z := by
  have hle : ∀ k, s k ≤ T := fun k => by rw [hT]; exact Finset.le_fold_max _ |>.2 (.inr ⟨k, Finset.mem_univ k, le_refl _⟩)
  have hlt : T < ⊤ := by
    rw [hT]
    refine Finset.fold_max_lt _ |>.2 ⟨bot_lt_top, fun k _ => ?_⟩
    rcases hs k with h | ⟨r, h⟩
    · rw [h]; exact bot_lt_top
    · rw [h]; exact EReal.coe_lt_top r
  have hR : IsReal T := by
    rcases isReal_or T with h | h | h
    · exact h
    · exact absurd h hlt.ne
    · obtain ⟨r, hr⟩ := h0
      have := hle k0
      rw [h, hr] at this
      exact absurd (le_bot_iff.1 this) (EReal.coe_ne_bot r)
  obtain ⟨M, hM⟩ := hR
  have hE : ∀ k, ∃ e : ℝ, Ideal.exp (s k - T) = (e : EReal) ∧ 0 ≤ e ∧ (IsReal (s k) → 0 < e) := fun k => by
    rcases hs k with h | ⟨r, h⟩
    · refine ⟨0, ?_, le_refl _, fun ⟨r, hr⟩ => ?_⟩
      · rw [h, EReal.bot_sub]; rfl
      · rw [h] at hr; exact absurd hr.symm (EReal.coe_ne_bot r)
    · refine ⟨Real.exp (r - M), ?_, (Real.exp_pos _).le, fun _ => Real.exp_pos _⟩
      rw [h, hM, ← EReal.coe_sub, exp_coe]
  choose e he he0 hep using hE
  have hZ' : Z = ((∑ k, e k : ℝ) : EReal) := by
    rw [hZ, ← sum_coe]
    exact Finset.sum_congr rfl fun k _ => he k
  have hpos : 0 < ∑ k, e k := lt_of_lt_of_le (hep k0 h0) (Finset.single_le_sum (fun k _ => he0 k) (Finset.mem_univ k0))
  generalize (∑ k, e k) = z at hZ' hpos
  have hz : (z : EReal) ≠ 0 := fun h => hpos.ne' (EReal.coe_eq_zero.1 h)
  have hL : Ideal.log Z = ((Real.log z : ℝ) : EReal) := by
    rw [hZ']
    show (if z ≤ 0 then (⊥ : EReal) else ((Real.log z : ℝ) : EReal)) = _
    rw [if_neg (not_le.2 hpos)]
  rcases hs k with h | ⟨r, h⟩
  · rw [h, EReal.bot_sub, EReal.bot_sub, hZ']
    show (0 : EReal) = Ideal.div 0 z
    unfold Ideal.div
    rw [if_neg hz, zero_mul]
  · rw [hL, hZ', h, hM, ← EReal.coe_add, ← EReal.coe_sub, ← EReal.coe_sub, exp_coe, exp_coe]
    unfold Ideal.div
    rw [if_neg hz, ← EReal.coe_inv, ← EReal.coe_mul]
    congr 1
    rw [← sub_sub, Real.exp_sub, Real.exp_log hpos, div_eq_mul_inv]

/-- A sum over the lanes that vanishes outside one head's is the sum over the head's. -/
theorem sum_lane (n : Fin 2) (f : Fin 128 → EReal) (hf : ∀ x, x.val / 64 ≠ n.val → f x = 0) :
    ∑ x, f x = ∑ y : Fin 64, f ⟨n.val * 64 + y.val, by omega⟩ := by
  have e := sum_runs 2 64 (fun i => if h : i < 128 then f ⟨i, h⟩ else 0)
  have e1 : ∑ x, f x = ∑ i : Fin (2 * 64), (fun i => if h : i < 128 then f ⟨i, h⟩ else 0) i.val :=
    Finset.sum_congr rfl fun x _ => (dif_pos (c := x.val < 128) (t := fun h => f ⟨x.val, h⟩) (e := fun _ => (0 : EReal)) x.isLt).symm
  rw [e1, e]
  refine (Finset.sum_eq_single n (fun a _ ha => Finset.sum_eq_zero fun y _ => ?_) (fun h => absurd (Finset.mem_univ n) h)).trans ?_
  · refine (dif_pos (by omega : a.val * 64 + y.val < 128)).trans (hf _ ?_)
    have : a.val ≠ n.val := fun h => ha (Fin.ext h)
    show (a.val * 64 + y.val) / 64 ≠ n.val
    omega
  · exact Finset.sum_congr rfl fun y _ => dif_pos (by omega : n.val * 64 + y.val < 128)

/-- The scores' product over a head's lanes, scaled before or after. -/
theorem scores_lane (n : Fin 2) (q k : Fin 128 → EReal) (hq : ∀ x, IsReal (q x)) (hk : ∀ x, IsReal (k x)) :
    ∑ x, (q x * (lane n x * ((1 / 8 : ℝ) : EReal))) * k x
      = (∑ y : Fin 64, q ⟨n.val * 64 + y.val, by omega⟩ * k ⟨n.val * 64 + y.val, by omega⟩) * ((1 / 8 : ℝ) : EReal) := by
  choose a ha using hq
  choose b hb using hk
  rw [sum_lane n _ fun x hx => by rw [lane, if_neg hx, zero_mul, mul_zero, zero_mul]]
  have e1 : ∀ y : Fin 64, (q ⟨n.val * 64 + y.val, by omega⟩ * (lane n ⟨n.val * 64 + y.val, by omega⟩ * ((1 / 8 : ℝ) : EReal))) * k ⟨n.val * 64 + y.val, by omega⟩
      = ((a ⟨n.val * 64 + y.val, by omega⟩ * b ⟨n.val * 64 + y.val, by omega⟩ * (1 / 8) : ℝ) : EReal) := fun y => by
    rw [lane, if_pos (by dsimp only; omega), one_mul, ha, hb, ← EReal.coe_mul, ← EReal.coe_mul]
    congr 1
    ring
  have e2 : ∀ y : Fin 64, q ⟨n.val * 64 + y.val, by omega⟩ * k ⟨n.val * 64 + y.val, by omega⟩
      = ((a ⟨n.val * 64 + y.val, by omega⟩ * b ⟨n.val * 64 + y.val, by omega⟩ : ℝ) : EReal) := fun y => by
    rw [ha, hb, ← EReal.coe_mul]
  rw [Finset.sum_congr rfl fun y _ => e1 y, Finset.sum_congr rfl fun y _ => e2 y, sum_coe, sum_coe, ← EReal.coe_mul, Finset.sum_mul]

/-- A head's weight of one query on one value, in its block. -/
def headWeight (n : Fin 2) (x3 : Vec Ideal S512x128 .bf16) (x5 : Vec Ideal S2048x128 .bf16) (x8 x9 : Vec Ideal S1x2x512x128 .f32) (x10 : Vec Ideal S1x2x4x1x512 .f32)
    (j : ℕ) (r : Fin 2048) (q : Fin 512) : EReal :=
  Ideal.exp ((if r.val ≤ 512 * j + q.val then ((∑ y : Fin 64, x3 (ix2 q ⟨n.val * 64 + y.val, by omega⟩) * x5 (ix2 r ⟨n.val * 64 + y.val, by omega⟩)) * ((1 / 8 : ℝ) : EReal)
    + x9 (ix4 0 n q 0)) - x10 (ix5 0 n ⟨r.val / 512, by omega⟩ 0 ⟨r.val % 512, by omega⟩) else ⊥) - x8 (ix4 0 n q 0))

section
variable (x3 x4 : Vec Ideal S512x128 .bf16) (x5 : Vec Ideal S2048x128 .bf16) (x7 : Vec Ideal S512x128 .bf16) (x8 x9 : Vec Ideal S1x2x512x128 .f32) (x10 : Vec Ideal S1x2x4x1x512 .f32)
variable (h3 : ∀ i, IsReal (x3 i)) (h5 : ∀ i, IsReal (x5 i))
include h3 h5

/-- Of the two heads of a point, only the one the lane belongs to adds. -/
theorem pointGain_eq (j : ℕ) (r : Fin 2048) (l : Fin 128) (n : Fin 2) (hn : l.val / 64 = n.val) :
    pointGain x3 x4 x5 x7 x8 x9 x10 j r l = ∑ q : Fin 512, headWeight n x3 x5 x8 x9 x10 j r q * (x7 (ix2 q l) * Ideal.logistic (x4 (ix2 q l))) := by
  have w0 : ∀ q : Fin 512, weight x5 x10 0 (k0_pay38 x3) (headOf 0 x9) (headOf 0 x8) (r.val ≤ 512 * j + q.val) q r = headWeight 0 x3 x5 x8 x9 x10 j r q := fun q => by
    unfold weight headWeight
    rw [← scores_lane 0 (fun x => x3 (ix2 q x)) (fun x => x5 (ix2 r x)) (fun _ => h3 _) (fun _ => h5 _)]
    simp only [pay38_at]
    rfl
  have w1 : ∀ q : Fin 512, weight x5 x10 1 (k0_pay39 x3) (headOf 1 x9) (headOf 1 x8) (r.val ≤ 512 * j + q.val) q r = headWeight 1 x3 x5 x8 x9 x10 j r q := fun q => by
    unfold weight headWeight
    rw [← scores_lane 1 (fun x => x3 (ix2 q x)) (fun x => x5 (ix2 r x)) (fun _ => h3 _) (fun _ => h5 _)]
    simp only [pay39_at]
    rfl
  unfold pointGain gain
  simp only [w0, w1, pay35_at]
  match n, hn with
  | 0, hn =>
    have a0 : lane 0 l = 1 := if_pos hn
    have a1 : lane 1 l = 0 := if_neg fun e => by rw [hn] at e; exact absurd e (by decide)
    rw [a0, a1]
    simp only [mul_zero, mul_one, Finset.sum_const_zero, add_zero]
  | 1, hn =>
    have a0 : lane 0 l = 0 := if_neg fun e => by rw [hn] at e; exact absurd e (by decide)
    have a1 : lane 1 l = 1 := if_pos hn
    rw [a0, a1]
    simp only [mul_zero, mul_one, Finset.sum_const_zero, zero_add]

end

/-! The gradient of the values, as mathematics. -/

section
variable (Q K : FVec Ideal S2x2048x2048 .bf16) (C : FVec Ideal S2x16x2048 .f32) (D : FVec Ideal S2x2048x1024 .bf16)

def lo (h : Fin 16) (x : Fin 64) : Fin 2048 := ⟨h.val * 64 + x.val, by omega⟩
def hi (h : Fin 16) (x : Fin 64) : Fin 2048 := ⟨1024 + (h.val * 64 + x.val), by omega⟩
def col (h : Fin 16) (x : Fin 64) : Fin 1024 := ⟨h.val * 64 + x.val, by omega⟩

/-- The score of query `q` on key `k` in head `h`, with the forget gates' sums. -/
def raw (b : Fin 2) (h : Fin 16) (q k : Fin 2048) : EReal :=
  ((∑ x : Fin 64, Q (ix3 b q (lo h x)) * K (ix3 b k (lo h x))) * ((1 / 8 : ℝ) : EReal) + C (ix3 b h q)) - C (ix3 b h k)

/-- The score under the causal mask. -/
def score (b : Fin 2) (h : Fin 16) (q k : Fin 2048) : EReal := if k.val ≤ q.val then raw Q K C b h q k else ⊥

/-- A row's greatest score, -/
def top (b : Fin 2) (h : Fin 16) (q : Fin 2048) : EReal := (Finset.univ : Finset (Fin 2048)).fold max ⊥ (score Q K C b h q)

/-- its mass, -/
def mass (b : Fin 2) (h : Fin 16) (q : Fin 2048) : EReal := ∑ k, Ideal.exp (score Q K C b h q k - top Q K C b h q)

/-- its softmax, -/
def prob (b : Fin 2) (h : Fin 16) (q k : Fin 2048) : EReal := Ideal.div (Ideal.exp (score Q K C b h q k - top Q K C b h q)) (mass Q K C b h q)

/-- and the logarithm of its sum of exponentials. -/
def lse (b : Fin 2) (h : Fin 16) (q : Fin 2048) : EReal := top Q K C b h q + Ideal.log (mass Q K C b h q)

/-- The gradient of the values of head `h` at position `r`. -/
def dv (b : Fin 2) (h : Fin 16) (r : Fin 2048) (x : Fin 64) : EReal :=
  ∑ q : Fin 2048, prob Q K C b h q r * (D (ix3 b q (col h x)) * Ideal.logistic (Q (ix3 b q (hi h x))))

variable (hQ : ∀ b q h x, IsReal (Q (ix3 b q (lo h x)))) (hK : ∀ b q h x, IsReal (K (ix3 b q (lo h x)))) (hC : ∀ i, IsReal (C i))
include hQ hK hC

theorem raw_real (b : Fin 2) (h : Fin 16) (q k : Fin 2048) : IsReal (raw Q K C b h q k) := by
  unfold raw
  obtain ⟨s, hs⟩ := isReal_mul (isReal_sum Finset.univ (fun x : Fin 64 => Q (ix3 b q (lo h x)) * K (ix3 b k (lo h x))) fun x _ => isReal_mul (hQ _ _ _ _) (hK _ _ _ _)) ⟨1 / 8, rfl⟩
  obtain ⟨a, ha⟩ := hC (ix3 b h q)
  refine isReal_sub ?_ (hC _)
  rw [hs, ha]
  exact ⟨s + a, (EReal.coe_add s a).symm⟩

/-- The weight from the saved logarithm is the softmax. -/
theorem exp_lse (b : Fin 2) (h : Fin 16) (q k : Fin 2048) : Ideal.exp (score Q K C b h q k - lse Q K C b h q) = prob Q K C b h q k :=
  softmax_eq (score Q K C b h q) (fun k => by
    unfold score
    split
    · exact .inr (raw_real Q K C hQ hK hC b h q k)
    · exact .inl rfl) 0 (by rw [score, if_pos (show ((0 : Fin 2048) : ℕ) ≤ q.val from Nat.zero_le _)]; exact raw_real Q K C hQ hK hC b h q 0) _ _ rfl rfl k

/-- A masked weight is zero. -/
theorem prob_masked (b : Fin 2) (h : Fin 16) (q k : Fin 2048) (hk : q.val < k.val) : prob Q K C b h q k = 0 := by
  rw [← exp_lse Q K C hQ hK hC, score, if_neg (not_le.2 hk), EReal.bot_sub]
  rfl

/-- The gradient block by block of queries, the blocks above the diagonal left out. -/
theorem dv_blocks (b : Fin 2) (h : Fin 16) (r : Fin 2048) (x : Fin 64) :
    dv Q K C D b h r x = ∑ j : Fin 4, if r.val / 512 ≤ j.val then
      ∑ q : Fin 512, prob Q K C b h ⟨j.val * 512 + q.val, by omega⟩ r * (D (ix3 b ⟨j.val * 512 + q.val, by omega⟩ (col h x)) * Ideal.logistic (Q (ix3 b ⟨j.val * 512 + q.val, by omega⟩ (hi h x)))) else 0 := by
  unfold dv
  generalize hf : (fun q : Fin 2048 => prob Q K C b h q r * (D (ix3 b q (col h x)) * Ideal.logistic (Q (ix3 b q (hi h x))))) = f
  have hf' : ∀ q, prob Q K C b h q r * (D (ix3 b q (col h x)) * Ideal.logistic (Q (ix3 b q (hi h x)))) = f q := fun q => congrFun hf q
  simp only [hf']
  have e1 : ∑ q, f q = ∑ i : Fin (4 * 512), (fun i => if h : i < 2048 then f ⟨i, h⟩ else 0) i.val :=
    Finset.sum_congr rfl fun x _ => (dif_pos (c := x.val < 2048) (t := fun h => f ⟨x.val, h⟩) (e := fun _ => (0 : EReal)) x.isLt).symm
  rw [e1]
  refine (sum_runs 4 512 (fun i => if h : i < 2048 then f ⟨i, h⟩ else 0)).trans ?_
  refine Finset.sum_congr rfl fun j _ => ?_
  have e2 : ∑ q : Fin 512, (fun i => if h : i < 2048 then f ⟨i, h⟩ else 0) (j.val * 512 + q.val) = ∑ q : Fin 512, f ⟨j.val * 512 + q.val, by omega⟩ :=
    Finset.sum_congr rfl fun q _ => dif_pos (by omega : j.val * 512 + q.val < 2048)
  rw [e2]
  split
  · rfl
  · rename_i hj
    refine Finset.sum_eq_zero fun q _ => ?_
    rw [← hf', prob_masked Q K C hQ hK hC _ _ _ _ (by dsimp only; omega), zero_mul]

end

end Cert.Proof.Attn

end
end
-- ==== Proof.AttnHost.lean ====
/- The attention gradient: the arrays its call is given, from the arguments. -/
module

public import proofs.«01_k».proof.Proof.AttnMath

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

variable (m : (ℓ : Loc nD τ sig) → Buf (Elt Ideal) ℓ)

abbrev aQ (c : Dev nD) : FVec Ideal S2x2048x2048 .bf16 := m ((c : Thread nD τ).loc main_arg0)
abbrev aK (c : Dev nD) : FVec Ideal S2x2048x2048 .bf16 := m ((c : Thread nD τ).loc main_arg1)
abbrev aC (c : Dev nD) : FVec Ideal S2x16x2048 .f32 := m ((c : Thread nD τ).loc main_arg2)
abbrev aD (c : Dev nD) : FVec Ideal S2x2048x1024 .bf16 := m ((c : Thread nD τ).loc main_arg3)

section
variable (Q K : FVec Ideal S2x2048x2048 .bf16) (C : FVec Ideal S2x16x2048 .f32)

/-- The heads of the first half of a packed pair. -/
def hHeads : FVec Ideal S2x16x2048x64 .f32 :=
  transpose S2x16x2048x64 [0, 2, 1, 3] (shapeCast S2x2048x16x64 (extf .f32 (extractStridedSlice S2x2048x1024 ![0, 0, 0] Q slices_S2x2048x2048_S2x2048x1024_0_0_0) bitsLt_bf16_f32 : FVec Ideal S2x2048x1024 .f32)
    shapeCasts_S2x2048x1024_S2x2048x16x64 : FVec Ideal S2x2048x16x64 .f32) transposes_S2x2048x16x64_S2x16x2048x64_0_2_1_3

/-- The scores before the mask. -/
def hRaw : FVec Ideal S2x16x2048x2048 .f32 :=
  subf (addf (mulf (Host.dotGeneral dot_S2x16x2048x64_S2x16x2048x64_S2x16x2048x2048_3_3_2_2_01_01 none (hHeads Q) (hHeads K))
      (broadcastInDim S2x16x2048x2048 ![] bcast_S_S2x16x2048x2048 (constant S_ .f32 0x3E000000#32)))
    (broadcastInDim S2x16x2048x2048 ![0, 1, 2, 3] bcast_S2x16x2048x1_S2x16x2048x2048_0_1_2_3 (broadcastInDim S2x16x2048x1 ![0, 1, 2] bcast_S2x16x2048_S2x16x2048x1_0_1_2 C)))
    (broadcastInDim S2x16x2048x2048 ![0, 1, 2, 3] bcast_S2x16x1x2048_S2x16x2048x2048_0_1_2_3 (broadcastInDim S2x16x1x2048 ![0, 1, 3] bcast_S2x16x2048_S2x16x1x2048_0_1_3 C))

/-- The mask. -/
def hMask : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The scores. -/
def hScore : FVec Ideal S2x16x2048x2048 .f32 :=
  select (broadcastInDim S2x16x2048x2048 ![2, 3] bcast_S2048x2048_S2x16x2048x2048_2_3 hMask) (hRaw Q K C)
    (broadcastInDim S2x16x2048x2048 ![] bcast_S_S2x16x2048x2048 (id (constant S_ .f32 0xFF800000#32)))

/-- Their rows' greatest, -/
def hTop : FVec Ideal S2x16x2048 .f32 := Host.reduce FloatOps.maximumf (hScore Q K C) (constant S_ .f32 0xFF800000#32) reducesTo_S2x16x2048x2048_S2x16x2048_d3 h_S_

/-- their exponentials off it, -/
def hExp : FVec Ideal S2x16x2048x2048 .f32 :=
  Host.exp (subf (hScore Q K C) (broadcastInDim S2x16x2048x2048 ![0, 1, 2, 3] bcast_S2x16x2048x1_S2x16x2048x2048_0_1_2_3
    (broadcastInDim S2x16x2048x1 ![0, 1, 2] bcast_S2x16x2048_S2x16x2048x1_0_1_2 (hTop Q K C))))

/-- and masses. -/
def hMass : FVec Ideal S2x16x2048 .f32 :=
  Host.reduceAdd (hExp Q K C) (constant S_ .f32 0x00000000#32) reducesTo_S2x16x2048x2048_S2x16x2048_d3 h_S_

/-- Spread over the lanes. -/
def hLanes (x : FVec Ideal S2x16x2048 .f32) : FVec Ideal S2x16x2048x128 .f32 :=
  broadcastInDim S2x16x2048x128 ![0, 1, 2, 3] bcast_S2x16x2048x1_S2x16x2048x128_0_1_2_3 (broadcastInDim S2x16x2048x1 ![0, 1, 2] bcast_S2x16x2048_S2x16x2048x1_0_1_2 x)

end

theorem V_q (c : Dev nD) : (V m c main_v0 : FVec Ideal S4096x2048 .bf16) = shapeCast S4096x2048 (aQ m c) := by
  unfold V; simp only [hostOps0, hostOps0_1, hostOps0_2, List.flatten_cons, List.flatten_nil, List.append_nil, List.cons_append, List.nil_append]; after_results; try rfl

theorem V_k (c : Dev nD) : (V m c main_v1 : FVec Ideal S4096x2048 .bf16) = shapeCast S4096x2048 (aK m c) := by
  unfold V; simp only [hostOps0, hostOps0_1, hostOps0_2, List.flatten_cons, List.flatten_nil, List.append_nil, List.cons_append, List.nil_append]; after_results; try rfl

theorem V_d (c : Dev nD) : (V m c main_v2 : FVec Ideal S4096x1024 .bf16) = shapeCast S4096x1024 (aD m c) := by
  unfold V; simp only [hostOps0, hostOps0_1, hostOps0_2, List.flatten_cons, List.flatten_nil, List.append_nil, List.cons_append, List.nil_append]; after_results; try rfl

theorem V_col (c : Dev nD) : (V m c main_v4 : FVec Ideal S2x16x2048x128 .f32) = hLanes (aC m c) := by
  unfold V; simp only [hostOps0, hostOps0_1, hostOps0_2, List.flatten_cons, List.flatten_nil, List.append_nil, List.cons_append, List.nil_append]; after_results; try rfl

theorem V_row (c : Dev nD) : (V m c main_v5 : FVec Ideal S2x16x4x1x512 .f32) = shapeCast S2x16x4x1x512 (aC m c) := by
  unfold V; simp only [hostOps0, hostOps0_1, hostOps0_2, List.flatten_cons, List.flatten_nil, List.append_nil, List.cons_append, List.nil_append]; after_results; try rfl

set_option maxHeartbeats 1600000 in
theorem V_lse (c : Dev nD) : (V m c main_v39 : FVec Ideal S2x16x2048x128 .f32) = hLanes (addf (hTop (aQ m c) (aK m c) (aC m c)) (Host.log (hMass (aQ m c) (aK m c) (aC m c)))) := by
  unfold V; simp only [hostOps0, hostOps0_1, hostOps0_2, List.flatten_cons, List.flatten_nil, List.append_nil, List.cons_append, List.nil_append]; after_results; try rfl

end Cert.Proof.Attn

end
end
-- ==== Proof.AttnHostVal.lean ====
/- The attention gradient: the scores its call is given, element by element. -/
module

public import proofs.«01_k».proof.Proof.AttnHost

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

open Cert.Norm

theorem four_axes : (⟨4, ![2, 16, 2048, 2048]⟩ : Shape).Reduces [3] ⟨3, ![2, 16, 2048]⟩ := by decide

theorem lift_four (b : Fin 2) (h : Fin 16) (q k : Fin 2048) : four_axes.lift (ix3 b h q) k = ix4 b h q k := by
  funext a
  match a with
  | ⟨0, _⟩ => rfl
  | ⟨1, _⟩ => rfl
  | ⟨2, _⟩ => rfl
  | ⟨3, _⟩ => rfl

/-- The host's greatest of a row is the fold of the maximum over it. -/
theorem hostTop (x : (⟨4, ![2, 16, 2048, 2048]⟩ : Shape).Idx → EReal) (z : EReal) (u : Shape) (init : u.Idx → EReal) (h' : (⟨4, ![2, 16, 2048, 2048]⟩ : Shape).ReducesTo [3] ⟨3, ![2, 16, 2048]⟩) (hu : 0 < u.numel)
    (hz : init (Shape.Idx.first hu) = z) (b : Fin 2) (h : Fin 16) (q : Fin 2048) :
    Host.reduce (max : EReal → EReal → EReal) x init h' hu (ix3 b h q) = (Finset.univ : Finset (Fin 2048)).fold max z fun k => x (ix4 b h q k) := by
  rw [Host.reduce_eq_fold_single _ _ _ h' four_axes, hz]
  exact congrArg (fun f => (Finset.univ : Finset (Fin 2048)).fold max z f) (funext fun k => congrArg x (lift_four b h q k))

/-- The host's sum of a row. -/
theorem hostSum (x : (⟨4, ![2, 16, 2048, 2048]⟩ : Shape).Idx → EReal) (z : EReal) (u : Shape) (init : u.Idx → EReal) (h' : (⟨4, ![2, 16, 2048, 2048]⟩ : Shape).ReducesTo [3] ⟨3, ![2, 16, 2048]⟩) (hu : 0 < u.numel)
    (hz : init (Shape.Idx.first hu) = z) (b : Fin 2) (h : Fin 16) (q : Fin 2048) :
    (Host.reduceAdd (F := Ideal) (φ := .f32) x init h' hu : FVec Ideal ⟨3, ![2, 16, 2048]⟩ .f32) (ix3 b h q) = z + ∑ k : Fin 2048, x (ix4 b h q k) := by
  simp only [Host.reduceAdd, Ideal.hostReduceAdd_def]
  rw [Ideal.hostReduceAdd_single h' four_axes, hz]
  exact congrArg (z + ·) (Finset.sum_congr rfl fun k _ => congrArg x (lift_four b h q k))

theorem mask_eq (q k : Fin 2048) : IntOp.cmpi .sle (BitVec.ofNat 32 k.val) (BitVec.ofNat 32 q.val) = if k.val ≤ q.val then 1#1 else 0#1 := by
  have h := WordCmp.cmpi_sle_ofNat_eq_one_iff (w := 32) (a := k.val) (b := q.val) (by omega) (by omega)
  split
  · rename_i hle
    exact h.2 hle
  · rename_i hle
    have : ∀ x : BitVec 1, x ≠ 1#1 → x = 0#1 := by decide
    exact this _ fun e => hle (h.1 e)

variable (Q K : FVec Ideal S2x2048x2048 .bf16) (C : FVec Ideal S2x16x2048 .f32)
variable (b : Fin 2) (h : Fin 16) (q k : Fin 2048) (x : Fin 64) (l : Fin 128)

theorem hHeads_at : hHeads Q (ix4 b h q x) = Q (ix3 b q (lo h x)) := by
  unfold hHeads lo
  pointwise []

theorem hRaw_at : hRaw Q K C (ix4 b h q k) = raw Q K C b h q k := by
  unfold hRaw raw
  pointwise [hHeads_at, eighth_bits]

theorem hMask_at : hMask (ix2 q k) = if k.val ≤ q.val then 1#1 else 0#1 := by
  unfold hMask
  pointwise [mask_eq]

theorem hScore_at : hScore Q K C (ix4 b h q k) = score Q K C b h q k := by
  unfold score
  rw [← hRaw_at]
  unfold hScore
  generalize hRaw Q K C = s
  pointwise [hMask_at, bot_bits]
  split <;> rfl

theorem hTop_at : hTop Q K C (ix3 b h q) = top Q K C b h q := by
  unfold hTop top
  refine (hostTop (hScore Q K C) ⊥ _ _ _ _ ?_ b h q).trans ?_
  · pointwise [bot_bits]
  · simp only [hScore_at]

theorem hExp_at : hExp Q K C (ix4 b h q k) = Ideal.exp (score Q K C b h q k - top Q K C b h q) := by
  rw [← hScore_at, ← hTop_at]
  unfold hExp
  generalize hScore Q K C = s
  generalize hTop Q K C = t
  pointwise []

end Cert.Proof.Attn

end
end
-- ==== Proof.AttnHostLse.lean ====
/- The attention gradient: the saved logarithm its call is given, element by element. -/
module

public import proofs.«01_k».proof.Proof.AttnHostVal

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

open Cert.Norm

variable (Q K : FVec Ideal S2x2048x2048 .bf16) (C : FVec Ideal S2x16x2048 .f32)
variable (b : Fin 2) (h : Fin 16) (q k : Fin 2048) (x : Fin 64) (l : Fin 128)

theorem hMass_at : hMass Q K C (ix3 b h q) = mass Q K C b h q := by
  unfold hMass mass
  have e := hExp_at Q K C b h q
  generalize hExp Q K C = s at e ⊢
  have hz : (constant S_ .f32 0x00000000#32 : FVec Ideal S_ .f32) (Shape.Idx.first h_S_) = 0 := by pointwise [zero_bits]
  have e2 := hostSum s 0 _ _ reducesTo_S2x16x2048x2048_S2x16x2048_d3 h_S_ hz b h q
  rw [zero_add, Finset.sum_congr rfl fun k _ => e k] at e2
  exact e2

theorem hLanes_at (y : FVec Ideal S2x16x2048 .f32) : hLanes y (ix4 b h q l) = y (ix3 b h q) := by
  unfold hLanes
  pointwise []

theorem addLog (t s : FVec Ideal S2x16x2048 .f32) (i : S2x16x2048.Idx) : (addf t (Host.log s) : FVec Ideal S2x16x2048 .f32) i = t i + Ideal.log (s i) := rfl

theorem hLse_at : hLanes (addf (hTop Q K C) (Host.log (hMass Q K C))) (ix4 b h q l) = lse Q K C b h q :=
  (hLanes_at b h q l _).trans ((addLog _ _ _).trans (congrArg₂ (fun x y => x + Ideal.log y) (hTop_at Q K C b h q) (hMass_at Q K C b h q)))

end Cert.Proof.Attn

end
end
-- ==== Proof.AttnBlock.lean ====
/- The attention gradient: the blocks of its arrays, from the arguments. -/
module

public import proofs.«01_k».proof.Proof.AttnHostLse

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

open Cert.Norm

theorem idx_val : ∀ t : Fin cfg0.N, win0_0.index t = ![t.val / 32 * 4 + t.val % 4, t.val / 4 % 8] ∧ win0_1.index t = ![t.val / 32 * 4 + t.val % 4, 8 + t.val / 4 % 8]
    ∧ win0_2.index t = ![t.val / 32, t.val / 4 % 8] ∧ win0_4.index t = ![t.val / 32 * 4 + t.val % 4, t.val / 4 % 8]
    ∧ win0_5.index t = ![t.val / 32, t.val / 4 % 8, t.val % 4, 0] ∧ win0_6.index t = ![t.val / 32, t.val / 4 % 8, t.val % 4, 0]
    ∧ win0_7.index t = ![t.val / 32, t.val / 4 % 8, 0, 0, 0] ∧ win0_10.index t = ![t.val / 32, t.val / 4 % 8] := (by decide +kernel : ∀ t : Fin grid0.N, _)

section
variable (t : Fin cfg0.N) (s : Fin 512) (r : Fin 2048) (l : Fin 128) (n : Fin 2)

theorem rdQ (i : Fin 4096) (k : Fin 2048) (X : FVec Ideal S4096x2048 .bf16) (hi : i.val = (t.val / 32 * 4 + t.val % 4) * 512 + s.val) (hk : k.val = t.val / 4 % 8 * 128 + l.val) :
    (show FVec Ideal S512x128 .bf16 from ((cfg0.win 0).blk t).view.read (Elt Ideal) X) (ix2 s l) = X (ix2 i k) := by
  blk_simp [idx_val t]; blk_ext [idx_val t]

theorem rdG (i : Fin 4096) (k : Fin 2048) (X : FVec Ideal S4096x2048 .bf16) (hi : i.val = (t.val / 32 * 4 + t.val % 4) * 512 + s.val) (hk : k.val = (8 + t.val / 4 % 8) * 128 + l.val) :
    (show FVec Ideal S512x128 .bf16 from ((cfg0.win 1).blk t).view.read (Elt Ideal) X) (ix2 s l) = X (ix2 i k) := by
  blk_simp [idx_val t]; blk_ext [idx_val t]

theorem rdK (i : Fin 4096) (k : Fin 2048) (X : FVec Ideal S4096x2048 .bf16) (hi : i.val = t.val / 32 * 2048 + r.val) (hk : k.val = t.val / 4 % 8 * 128 + l.val) :
    (show FVec Ideal S2048x128 .bf16 from ((cfg0.win 2).blk t).view.read (Elt Ideal) X) (ix2 r l) = X (ix2 i k) := by
  blk_simp [idx_val t]; blk_ext [idx_val t]

theorem rdD (i : Fin 4096) (k : Fin 1024) (X : FVec Ideal S4096x1024 .bf16) (hi : i.val = (t.val / 32 * 4 + t.val % 4) * 512 + s.val) (hk : k.val = t.val / 4 % 8 * 128 + l.val) :
    (show FVec Ideal S512x128 .bf16 from ((cfg0.win 4).blk t).view.read (Elt Ideal) X) (ix2 s l) = X (ix2 i k) := by
  blk_simp [idx_val t]; blk_ext [idx_val t]

theorem rdL (b : Fin 2) (h : Fin 16) (q : Fin 2048) (X : FVec Ideal S2x16x2048x128 .f32) (hb : b.val = t.val / 32) (hh : h.val = t.val / 4 % 8 * 2 + n.val) (hq : q.val = t.val % 4 * 512 + s.val) :
    (show FVec Ideal S1x2x512x128 .f32 from ((cfg0.win 5).blk t).view.read (Elt Ideal) X) (ix4 0 n s l) = X (ix4 b h q l) := by
  blk_simp [idx_val t]; blk_ext [idx_val t]

theorem rdC (b : Fin 2) (h : Fin 16) (q : Fin 2048) (X : FVec Ideal S2x16x2048x128 .f32) (hb : b.val = t.val / 32) (hh : h.val = t.val / 4 % 8 * 2 + n.val) (hq : q.val = t.val % 4 * 512 + s.val) :
    (show FVec Ideal S1x2x512x128 .f32 from ((cfg0.win 6).blk t).view.read (Elt Ideal) X) (ix4 0 n s l) = X (ix4 b h q l) := by
  blk_simp [idx_val t]; blk_ext [idx_val t]

theorem rdR (b : Fin 2) (h : Fin 16) (a : Fin 4) (X : FVec Ideal S2x16x4x1x512 .f32) (hb : b.val = t.val / 32) (hh : h.val = t.val / 4 % 8 * 2 + n.val) :
    (show FVec Ideal S1x2x4x1x512 .f32 from ((cfg0.win 7).blk t).view.read (Elt Ideal) X) (ix5 0 n a 0 s) = X (ix5 b h a 0 s) := by
  blk_simp [idx_val t]; blk_ext [idx_val t]

end

variable (m : (ℓ : Loc nD τ sig) → Buf (Elt Ideal) ℓ) (c : Dev nD) (t : Fin cfg0.N)
variable (b : Fin 2) (h : Fin 16) (n : Fin 2) (hb : b.val = t.val / 32) (hh : h.val = t.val / 4 % 8 * 2 + n.val)
include hb hh

section
variable (s : Fin 512) (q : Fin 2048) (hq : q.val = t.val % 4 * 512 + s.val) (x : Fin 64)
include hq

theorem blkQ : (show FVec Ideal S512x128 .bf16 from iblk m c 0 t) (ix2 s ⟨n.val * 64 + x.val, by omega⟩) = aQ m c (ix3 b q (lo h x)) := by
  have ht : t.val < 64 := t.2
  refine (rdQ t s _ ⟨(t.val / 32 * 4 + t.val % 4) * 512 + s.val, by omega⟩ ⟨t.val / 4 % 8 * 128 + (n.val * 64 + x.val), by omega⟩ (V m c main_v0) rfl rfl).trans ((congrFun (V_q m c) _).trans ?_)
  unfold lo
  pointwise
  blk_ext

theorem blkG : (show FVec Ideal S512x128 .bf16 from iblk m c 1 t) (ix2 s ⟨n.val * 64 + x.val, by omega⟩) = aQ m c (ix3 b q (hi h x)) := by
  have ht : t.val < 64 := t.2
  refine (rdG t s _ ⟨(t.val / 32 * 4 + t.val % 4) * 512 + s.val, by omega⟩ ⟨(8 + t.val / 4 % 8) * 128 + (n.val * 64 + x.val), by omega⟩ (V m c main_v0) rfl rfl).trans ((congrFun (V_q m c) _).trans ?_)
  unfold hi
  pointwise
  blk_ext

theorem blkD : (show FVec Ideal S512x128 .bf16 from iblk m c 4 t) (ix2 s ⟨n.val * 64 + x.val, by omega⟩) = aD m c (ix3 b q (col h x)) := by
  have ht : t.val < 64 := t.2
  refine (rdD t s _ ⟨(t.val / 32 * 4 + t.val % 4) * 512 + s.val, by omega⟩ ⟨t.val / 4 % 8 * 128 + (n.val * 64 + x.val), by omega⟩ (V m c main_v2) rfl rfl).trans ((congrFun (V_d m c) _).trans ?_)
  unfold col
  pointwise
  blk_ext

omit x in
theorem blkL : (show FVec Ideal S1x2x512x128 .f32 from iblk m c 5 t) (ix4 0 n s 0) = lse (aQ m c) (aK m c) (aC m c) b h q :=
  (rdL t s 0 n b h q (V m c main_v39) hb hh hq).trans ((congrFun (V_lse m c) _).trans (hLse_at _ _ _ b h q 0))

omit x in
theorem blkC : (show FVec Ideal S1x2x512x128 .f32 from iblk m c 6 t) (ix4 0 n s 0) = aC m c (ix3 b h q) :=
  (rdC t s 0 n b h q (V m c main_v4) hb hh hq).trans ((congrFun (V_col m c) _).trans (hLanes_at b h q 0 _))

end

theorem blkK (r : Fin 2048) (x : Fin 64) : (show FVec Ideal S2048x128 .bf16 from iblk m c 2 t) (ix2 r ⟨n.val * 64 + x.val, by omega⟩) = aK m c (ix3 b r (lo h x)) := by
  have ht : t.val < 64 := t.2
  refine (rdK t r _ ⟨t.val / 32 * 2048 + r.val, by omega⟩ ⟨t.val / 4 % 8 * 128 + (n.val * 64 + x.val), by omega⟩ (V m c main_v1) rfl rfl).trans ((congrFun (V_k m c) _).trans ?_)
  unfold lo
  pointwise
  blk_ext

theorem blkR (r : Fin 2048) : (show FVec Ideal S1x2x4x1x512 .f32 from iblk m c 7 t) (ix5 0 n ⟨r.val / 512, by omega⟩ 0 ⟨r.val % 512, by omega⟩) = aC m c (ix3 b h r) := by
  refine (rdR t ⟨r.val % 512, by omega⟩ n b h ⟨r.val / 512, by omega⟩ (V m c main_v5) hb hh).trans ((congrFun (V_row m c) _).trans ?_)
  pointwise
  blk_ext

end Cert.Proof.Attn

end
end
-- ==== Proof.AttnArr.lean ====
/- The attention gradient: the whole of the values' gradient, from the arguments. -/
module

public import proofs.«01_k».proof.Proof.AttnBlock

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

open Cert.Norm

variable (m : (ℓ : Loc nD τ sig) → Buf (Elt Ideal) ℓ) (c : Dev nD)
variable (hQ : ∀ b q h x, IsReal (aQ m c (ix3 b q (lo h x)))) (hK : ∀ b q h x, IsReal (aK m c (ix3 b q (lo h x)))) (hC : ∀ i, IsReal (aC m c i))

section
variable (t : Fin cfg0.N)

include hQ in
/-- The queries of a block are finite, -/
theorem realQ (i) : IsReal ((show FVec Ideal S512x128 .bf16 from iblk m c 0 t) i) := by
  have ht : t.val < 64 := t.2
  idx_vars i
  obtain ⟨n, x, rfl⟩ : ∃ (n : Fin 2) (x : Fin 64), i1 = ⟨n.val * 64 + x.val, by omega⟩ := ⟨⟨i1.val / 64, by omega⟩, ⟨i1.val % 64, by omega⟩, Fin.ext (by dsimp only; omega)⟩
  obtain ⟨v, hv⟩ := hQ ⟨t.val / 32, by omega⟩ ⟨t.val % 4 * 512 + i0.val, by omega⟩ ⟨t.val / 4 % 8 * 2 + n.val, by omega⟩ x
  exact ⟨v, (blkQ m c t ⟨t.val / 32, by omega⟩ ⟨t.val / 4 % 8 * 2 + n.val, by omega⟩ n rfl rfl i0 ⟨t.val % 4 * 512 + i0.val, by omega⟩ rfl x).trans hv⟩

include hK in
/-- and the keys. -/
theorem realK (i) : IsReal ((show FVec Ideal S2048x128 .bf16 from iblk m c 2 t) i) := by
  have ht : t.val < 64 := t.2
  idx_vars i
  obtain ⟨n, x, rfl⟩ : ∃ (n : Fin 2) (x : Fin 64), i1 = ⟨n.val * 64 + x.val, by omega⟩ := ⟨⟨i1.val / 64, by omega⟩, ⟨i1.val % 64, by omega⟩, Fin.ext (by dsimp only; omega)⟩
  obtain ⟨v, hv⟩ := hK ⟨t.val / 32, by omega⟩ i0 ⟨t.val / 4 % 8 * 2 + n.val, by omega⟩ x
  exact ⟨v, (blkK m c t ⟨t.val / 32, by omega⟩ ⟨t.val / 4 % 8 * 2 + n.val, by omega⟩ n rfl rfl i0 x).trans hv⟩

variable (b : Fin 2) (h : Fin 16) (n : Fin 2) (hb : b.val = t.val / 32) (hh : h.val = t.val / 4 % 8 * 2 + n.val)
include hb hh hQ hK hC

/-- A point's weights are the softmax. -/
theorem headWeight_at (s : Fin 512) (q : Fin 2048) (hq : q.val = t.val % 4 * 512 + s.val) (r : Fin 2048) :
    headWeight n (iblk m c 0 t) (iblk m c 2 t) (iblk m c 5 t) (iblk m c 6 t) (iblk m c 7 t) (t.val % 4) r s = prob (aQ m c) (aK m c) (aC m c) b h q r := by
  rw [← exp_lse (aQ m c) (aK m c) (aC m c) hQ hK hC b h q r]
  unfold headWeight score raw
  refine congrArg Ideal.exp (congrArg₂ (· - ·) ?_ (blkL m c t b h n hb hh s q hq))
  by_cases hr : r.val ≤ q.val
  · rw [if_pos hr, if_pos (by omega : r.val ≤ 512 * (t.val % 4) + s.val)]
    refine congrArg₂ (· - ·) (congrArg₂ (· + ·) (congrArg (· * _) (Finset.sum_congr rfl fun x _ => ?_)) (blkC m c t b h n hb hh s q hq)) (blkR m c t b h n hb hh r)
    exact congrArg₂ (· * ·) (blkQ m c t b h n hb hh s q hq x) (blkK m c t b h n hb hh r x)
  · rw [if_neg hr, if_neg (by omega : ¬ r.val ≤ 512 * (t.val % 4) + s.val)]

/-- What a point adds. -/
theorem added_at (r : Fin 2048) (x : Fin 64) (e : Fin 512 → Fin 2048) (he : ∀ s, (e s).val = t.val % 4 * 512 + s.val) :
    added m c t r ⟨n.val * 64 + x.val, by omega⟩
      = ∑ s : Fin 512, prob (aQ m c) (aK m c) (aC m c) b h (e s) r * (aD m c (ix3 b (e s) (col h x)) * Ideal.logistic (aQ m c (ix3 b (e s) (hi h x)))) := by
  unfold added
  refine (pointGain_eq _ _ _ _ _ _ _ (realQ m c hQ t) (realK m c hK t) (t.val % 4) r _ n (by dsimp only; omega)).trans ?_
  refine Finset.sum_congr rfl fun s _ => congrArg₂ (· * ·) (headWeight_at m c hQ hK hC t b h n hb hh s (e s) (he s) r) ?_
  exact congrArg₂ (fun x y => x * Ideal.logistic y) (blkD m c t b h n hb hh s (e s) (he s) x) (blkG m c t b h n hb hh s (e s) (he s) x)

end

/-- The values' gradient, as a table of rows. -/
def dvRows (Q K : FVec Ideal S2x2048x2048 .bf16) (C : FVec Ideal S2x16x2048 .f32) (D : FVec Ideal S2x2048x1024 .bf16) : FVec Ideal S4096x1024 .bf16 := fun i =>
  dv Q K C D ⟨(i 0).val / 2048, by have := (i 0).2; simp at this; omega⟩ ⟨(i 1).val / 64, by have := (i 1).2; simp at this; omega⟩ ⟨(i 0).val % 2048, by omega⟩ ⟨(i 1).val % 64, by omega⟩

include hQ hK hC

/-- The gradient a sweep of four points ends with. -/
theorem sweep_at (q : ℕ) (hq : q < 16) (hn : 4 * q + 3 < cfg0.N) (b : Fin 2) (h : Fin 16) (n : Fin 2) (hb : b.val = q / 8) (hh : h.val = q % 8 * 2 + n.val) (r : Fin 2048) (x : Fin 64) :
    dvAt m c (4 * q + 3) hn (ix2 r ⟨n.val * 64 + x.val, by omega⟩) = dv (aQ m c) (aK m c) (aC m c) (aD m c) b h r x := by
  rw [dvAt_at m c q hq, dv_blocks _ _ _ _ hQ hK hC]
  refine Finset.sum_congr rfl fun j _ => ?_
  unfold addedIf
  by_cases hr : r.val / 512 ≤ j.val
  · rw [if_pos hr, if_pos hr]
    exact added_at m c hQ hK hC _ b h n (by dsimp only; omega) (by dsimp only; omega) r x (fun s => ⟨j.val * 512 + s.val, by omega⟩) fun s => by dsimp only; omega
  · rw [if_neg hr, if_neg hr]

/-- What the call leaves in the values' gradient. -/
theorem arr10 : (dats m 0 c).arrAt 10 cfg0.N = dvRows (aQ m c) (aK m c) (aC m c) (aD m c) := by
  refine (dats m 0 c).arrAt_eq_of_covers 10 _ (by decide +kernel) fun t ht y => ?_
  have h3 := (flush0_10 t).mp ht
  blk_simp
  rw [after10]
  have key : ∀ y : S2048x128.Idx, dvAt m c t.val t.isLt y = dvRows (aQ m c) (aK m c) (aC m c) (aD m c) (((View.whole main_v40_2).slice (win0_10.rect t)).emb y) := by
    intro y
    idx_vars y
    have hlt : t.val < 64 := t.2
    obtain ⟨n, x, rfl⟩ : ∃ (n : Fin 2) (x : Fin 64), y1 = ⟨n.val * 64 + x.val, by omega⟩ := ⟨⟨y1.val / 64, by omega⟩, ⟨y1.val % 64, by omega⟩, Fin.ext (by dsimp only; omega)⟩
    have e0 : ((((View.whole main_v40_2).slice (win0_10.rect t)).emb (ix2 y0 ⟨n.val * 64 + x.val, by omega⟩) : S4096x1024.Idx) 0).val = t.val / 32 * 2048 + y0.val := by
      blk_simp [idx_val t]; blk_ext [idx_val t]
    have e1 : ((((View.whole main_v40_2).slice (win0_10.rect t)).emb (ix2 y0 ⟨n.val * 64 + x.val, by omega⟩) : S4096x1024.Idx) 1).val = t.val / 4 % 8 * 128 + (n.val * 64 + x.val) := by
      blk_simp [idx_val t]; blk_ext [idx_val t]
    generalize ((View.whole main_v40_2).slice (win0_10.rect t)).emb (ix2 y0 ⟨n.val * 64 + x.val, by omega⟩) = i at e0 e1
    obtain ⟨tv, tl⟩ := t
    obtain ⟨q, hq, rfl⟩ : ∃ q, q < 16 ∧ tv = 4 * q + 3 := ⟨tv / 4, by dsimp only at hlt; omega, by dsimp only at h3; omega⟩
    dsimp only at e0 e1
    refine (sweep_at m c hQ hK hC q hq tl ⟨q / 8, by omega⟩ ⟨q % 8 * 2 + n.val, by omega⟩ n rfl rfl y0 x).trans ?_
    unfold dvRows
    congr 1
    · exact Fin.ext (by show q / 8 = (i 0).val / 2048; omega)
    · exact Fin.ext (by show q % 8 * 2 + n.val = (i 1).val / 64; omega)
    · exact Fin.ext (by show y0.val = (i 0).val % 2048; omega)
    · exact Fin.ext (by show x.val = (i 1).val % 64; omega)
  exact key y

end Cert.Proof.Attn

end
end
-- ==== Proof.AttnRef.lean ====
/- What the reference computes for the values' gradient of the attention. -/
module

public import proofs.«01_k».proof.Proof.AttnHostVal
public import proofs.«01_k».proof.Proof.Gen.AttnReferenceIdeal.Read

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Attn

open Cert.Norm
open Cert.AttnReferenceIdeal.Read

variable (Q K : FVec Ideal S2x2048x2048 .bf16) (C : FVec Ideal S2x16x2048 .f32) (D : FVec Ideal S2x2048x1024 .bf16)
variable (b : Fin 2) (h : Fin 16) (q k : Fin 2048) (x : Fin 64)

theorem r13_at : val_main_v13 (F := Ideal) Q (ix4 b h q x) = Q (ix3 b q (lo h x)) := by
  unfold lo
  pointwise [val_main_v13, val_main_v12, val_main_v1, val_main_v0]

theorem r15_at : val_main_v15 (F := Ideal) K (ix4 b h q x) = K (ix3 b q (lo h x)) := by
  unfold lo
  pointwise [val_main_v15, val_main_v14, val_main_v4, val_main_v3]

theorem r24_at : val_main_v24 (F := Ideal) Q K C (ix4 b h q k) = raw Q K C b h q k := by
  unfold raw
  pointwise [val_main_v24, val_main_v23, val_main_v22, val_main_v21, val_main_v20, val_main_v19, val_main_v18, val_main_v17, val_main_cst_1, val_main_v16, r13_at, r15_at, eighth_bits]

theorem r30_at : val_main_v30 (F := Ideal) (ix2 q k) = if k.val ≤ q.val then 1#1 else 0#1 := by
  pointwise [val_main_v30, val_main_v29, val_main_v28, val_main_v27, val_main_v26, val_main_v25, mask_eq]

theorem r31_at : val_main_v31 (F := Ideal) Q K C (ix4 b h q k) = score Q K C b h q k := by
  unfold score
  rw [← r24_at]
  unfold val_main_v31
  generalize val_main_v24 (F := Ideal) Q K C = s
  pointwise [val_main_call0_v1, val_main_call0_v2, val_main_call0_v0, val_main_cst_2, r30_at, bot_bits]
  split <;> rfl

theorem r32_at : val_main_v32 (F := Ideal) Q K C (ix3 b h q) = top Q K C b h q := by
  unfold val_main_v32 top
  refine (hostTop (val_main_v31 (F := Ideal) Q K C) ⊥ _ _ _ _ ?_ b h q).trans ?_
  · pointwise [val_main_cst_3, bot_bits]
  · simp only [r31_at]

theorem r33_at : val_main_v33 (F := Ideal) (ix3 b h q) = ⊥ := by
  pointwise [val_main_v33, val_main_cst_4, bot_bits]

theorem max_at (s t : FVec Ideal S2x16x2048 .f32) (i : S2x16x2048.Idx) : (maximumf s t : FVec Ideal S2x16x2048 .f32) i = max (s i) (t i) := rfl

theorem r34_at : val_main_v34 (F := Ideal) Q K C (ix3 b h q) = top Q K C b h q :=
  (max_at _ _ _).trans ((congrArg₂ max (r33_at b h q) (r32_at Q K C b h q)).trans (max_eq_right bot_le))

theorem r38_at : val_main_v38 (F := Ideal) Q K C (ix4 b h q k) = Ideal.exp (score Q K C b h q k - top Q K C b h q) := by
  rw [← r31_at, ← r34_at]
  unfold val_main_v38 val_main_v37 val_main_v36 val_main_v35
  generalize val_main_v31 (F := Ideal) Q K C = s
  generalize val_main_v34 (F := Ideal) Q K C = t
  pointwise []

theorem r39_at : val_main_v39 (F := Ideal) Q K C (ix3 b h q) = mass Q K C b h q := by
  unfold val_main_v39 mass
  have e := r38_at Q K C b h q
  generalize val_main_v38 (F := Ideal) Q K C = s at e ⊢
  have hz : (val_main_cst_5 (F := Ideal)) (Shape.Idx.first Cert.AttnReferenceIdeal.Gen.h_S_) = 0 := by pointwise [val_main_cst_5, zero_bits]
  have e2 := hostSum s 0 _ _ Cert.AttnReferenceIdeal.Gen.reducesTo_S2x16x2048x2048_S2x16x2048_d3 Cert.AttnReferenceIdeal.Gen.h_S_ hz b h q
  rw [zero_add, Finset.sum_congr rfl fun k _ => e k] at e2
  exact e2

theorem r42_at : val_main_v42 (F := Ideal) Q K C (ix4 b h q k) = prob Q K C b h q k := by
  rw [prob, ← r38_at, ← r39_at]
  unfold val_main_v42 val_main_v41 val_main_v40
  generalize val_main_v38 (F := Ideal) Q K C = s
  generalize val_main_v39 (F := Ideal) Q K C = t
  pointwise []

theorem r11_at (y : Fin 1024) (z : Fin 2048) (hz : z.val = 1024 + y.val) : val_main_v11 (F := Ideal) Q (ix3 b q y) = Ideal.logistic (Q (ix3 b q z)) := by
  have e : val_main_v2 (F := Ideal) Q (ix3 b q y) = Q (ix3 b q z) := by
    pointwise [val_main_v2, val_main_v0]
    congr 1
    idx_ext
  rw [← e]
  unfold val_main_v11 val_main_v9 val_main_v7 val_main_v6
  generalize val_main_v2 (F := Ideal) Q = g
  pointwise [val_main_v10, val_main_v8, val_main_cst, val_main_cst_0]
  rfl

theorem r52_at : val_main_v52 (F := Ideal) Q D (ix4 b h q x) = D (ix3 b q (col h x)) * Ideal.logistic (Q (ix3 b q (hi h x))) := by
  rw [mul_comm, ← r11_at Q b q (col h x) (hi h x) rfl]
  unfold val_main_v52 val_main_v51 val_main_v50 col
  generalize val_main_v11 (F := Ideal) Q = g
  pointwise [val_main_v49]

theorem r53_at : val_main_v53 (F := Ideal) Q K C D (ix4 b h x k) = dv Q K C D b h k x := by
  unfold dv
  have e1 := r52_at Q D b h
  have e2 := r42_at Q K C b h
  unfold val_main_v53
  generalize val_main_v52 (F := Ideal) Q D = s at e1 ⊢
  generalize val_main_v42 (F := Ideal) Q K C = t at e2 ⊢
  pointwise [e1, e2]
  exact Finset.sum_congr rfl fun q _ => mul_comm _ _

theorem r57_at (R : Fin 4096) (X : Fin 1024) (hR : R.val = b.val * 2048 + k.val) (hX : X.val = h.val * 64 + x.val) :
    val_main_v57 (F := Ideal) Q K C D (ix2 R X) = dv Q K C D b h k x := by
  rw [← r53_at]
  unfold val_main_v57 val_main_v56 val_main_v55 val_main_v54
  generalize val_main_v53 (F := Ideal) Q K C D = s
  pointwise []
  congr 1
  idx_ext

end Cert.Proof.Attn

end
end
-- ==== Proof.AttnClaim.lean ====
/- The claims about the attention's gradient for the values. -/
module

public import proofs.«01_k».proof.Defs
public import proofs.«01_k».proof.Proof.AttnArr
public import proofs.«01_k».proof.Proof.AttnRef
public import proofs.«01_k».proof.Proof.Gen.AttnKernel.Skeleton
public import proofs.«01_k».proof.Proof.Gen.AttnReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Attn

open Cert.Norm

/-- The precondition's function states its side conditions. -/
instance preFacts : Cert.Pre_finite_attn.Facts := ⟨by decide, by decide, by decide, by decide, by decide, by decide, by decide⟩

/-- A conjunction over a whole table holds of every entry. -/
theorem all_of_reduce {s u : Shape} {axes : List (Fin s.rank)} (x : IVec s 1) (init : IVec u 1) (h : s.ReducesTo axes ⟨0, ![]⟩) (hu : 0 < u.numel)
    (e : Host.reduce IntOp.andi x init h hu ix0 = 1#1) (i : s.Idx) : x i = 1#1 := by
  classical
  have two : ∀ x y : BitVec 1, IntOp.andi x y = 1#1 → x = 1#1 ∧ y = 1#1 := by decide
  have key : ∀ (l : List s.Idx) (z : BitVec 1), l.foldl (fun r i => IntOp.andi r (x i)) z = 1#1 → z = 1#1 ∧ ∀ i ∈ l, x i = 1#1 := fun l => by
    induction l with
    | nil => intro z hz; exact ⟨hz, fun i hi => absurd hi (by simp)⟩
    | cons a l ih =>
      intro z hz
      obtain ⟨h1, h2⟩ := ih _ hz
      refine ⟨(two _ _ h1).1, fun i hi => ?_⟩
      rcases List.mem_cons.1 hi with rfl | hi
      · exact (two _ _ h1).2
      · exact h2 i hi
  rw [Host.reduce_eq_foldl] at e
  refine (key _ _ e).2 i ?_
  rw [List.mem_filter]
  refine ⟨List.mem_map.2 ⟨s.rowMajor i, List.mem_finRange _, by simp⟩, ?_⟩
  simp only [decide_eq_true_eq]
  funext a
  exact a.elim0

section
open Cert.AttnKernelIdeal Cert.AttnKernelIdeal.Gen

variable (Q K : FVec Ideal S2x2048x2048 .bf16) (C : FVec Ideal S2x16x2048 .f32) (D : FVec Ideal S2x2048x1024 .bf16)

/-- What the precondition says: the queries, the keys and the gates' sums are finite. -/
theorem pre_at (h : Cert.Pre_finite_attn.fn (F := Ideal) Q K C D = fun _ => 1#1) :
    (∀ b q h x, IsReal (Q (ix3 b q (lo h x)))) ∧ (∀ b q h x, IsReal (K (ix3 b q (lo h x)))) ∧ ∀ i, IsReal (C i) := by
  have two : ∀ x y : BitVec 1, IntOp.andi x y = 1#1 → x = 1#1 ∧ y = 1#1 := by decide
  have e := congrFun h ix0
  unfold Cert.Pre_finite_attn.fn at e
  obtain ⟨e12, e3⟩ := two _ _ e
  obtain ⟨e1, e2⟩ := two _ _ e12
  refine ⟨fun b q h x => isReal_of_lt _ ?_, fun b q h x => isReal_of_lt _ ?_, fun i => isReal_of_lt _ ?_⟩
  · refine Eq.trans ?_ (all_of_reduce _ _ _ _ e1 (ix3 b q (col h x)))
    unfold lo col
    pointwise []
    rfl
  · refine Eq.trans ?_ (all_of_reduce _ _ _ _ e2 (ix3 b q (col h x)))
    unfold lo col
    pointwise []
    rfl
  · refine Eq.trans ?_ (all_of_reduce _ _ _ _ e3 i)
    pointwise []
    rfl

/-- What the kernel leaves, on every device. -/
theorem kernel_run (m : (ℓ : Loc nD τ sig) → Buf (Elt Ideal) ℓ) (g : Dev nD → PrngReg)
    (hp : ∀ c : Dev nD, (∀ b q h x, IsReal (aQ m c (ix3 b q (lo h x)))) ∧ (∀ b q h x, IsReal (aK m c (ix3 b q (lo h x)))) ∧ ∀ i, IsReal (aC m c i)) :
    θ_run (defs (F := Ideal)) (onTc (τ := τ) (main (F := Ideal))) ⟨m, fun _ => 0, g⟩ fun r => ∀ c : Dev nD,
      r.2.mem ((c.tc : Thread nD τ).loc main_v40_2) = dvRows (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((dats m 0 c).toRForget_arrAt_iff (fgt := fgt) (w := 10) rfl _ _).mp ((h.1 c).1 10)).trans (arr10 m c (hp c).1 (hp c).2.1 (hp c).2.2),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main_quiescent m g)

open Cert.AttnReferenceIdeal.Read

/-- The reference's table is the kernel's. -/
theorem ref_dv : val_main_v57 (F := Ideal) Q K C D = dvRows Q K C D :=
  funext fun i => by
    idx_vars i
    refine r57_at Q K C D ⟨i0.val / 2048, by omega⟩ ⟨i1.val / 64, by omega⟩ ⟨i0.val % 2048, by omega⟩ ⟨i1.val % 64, by omega⟩ i0 i1 ?_ ?_
    · show i0.val = i0.val / 2048 * 2048 + i0.val % 2048
      omega
    · show i1.val = i1.val / 64 * 64 + i1.val % 64
      omega

end

theorem algebraic : Cert.algebraic_AttnKernelIdeal_AttnReferenceIdeal_pre_finite_attn := by
  pair_intro
  · run_from kernel_run m g fun c => pre_at _ _ _ _ (hpre c)
  · run_from Cert.AttnReferenceIdeal.Value.run (F := Ideal) m' g'
    refine (Cert.AttnReferenceIdeal.Read.val_main_v57_eq _ _).trans ?_
    rw [ref_dv, (hagree c).1, (hagree c).2.1, (hagree c).2.2.1, (hagree c).2.2.2]

theorem frame_ref : Cert.quiescent_AttnReferenceIdeal := fun m g _ =>
  (θ_run Cert.AttnReferenceIdeal.defs _ _).mono (fun r h => ⟨fun c => (h c).2, sem_eq_zero_of_no_sems (by decide) r.2⟩)
    (Cert.AttnReferenceIdeal.Value.run (F := Ideal) m g)

/-- The two printed programs are one text, so they have one run. -/
theorem run_same (m : (ℓ : Loc Cert.AttnKernel.nD Cert.AttnKernel.τ Cert.AttnKernel.sig) → Buf (Elt Bits) ℓ) (g : Dev Cert.AttnKernel.nD → PrngReg) :
    θ_run (Cert.AttnKernelIdeal.defs (F := Bits)) (onTc (τ := Cert.AttnKernelIdeal.τ) (Cert.AttnKernelIdeal.main (F := Bits))) ⟨m, fun _ => 0, g⟩
      = θ_run (Cert.AttnKernel.defs (F := Bits)) (onTc (τ := Cert.AttnKernel.τ) (Cert.AttnKernel.main (F := Bits))) ⟨m, fun _ => 0, g⟩ := by
  sl_kernel_rfl

theorem frame_printed : Cert.quiescent_AttnKernel := fun m g _ => by
  have h := frame (F := Bits) m g
  rw [run_same m g] at h
  exact h

theorem claims : Cert.quiescent_AttnKernel ∧ Cert.quiescent_AttnKernelIdeal ∧ Cert.quiescent_AttnKernelIdeal_pre_finite_attn ∧ Cert.quiescent_AttnReferenceIdeal
    ∧ Cert.quiescent_AttnReferenceIdeal_pre_finite_attn
    ∧ Cert.preserves_AttnKernel_AttnKernelIdeal ∧ Cert.algebraic_AttnKernelIdeal_AttnReferenceIdeal_pre_finite_attn :=
  ⟨frame_printed, fun m g _ => frame m g, fun m g _ => frame m g, frame_ref,
    fun m g _ => frame_ref m g trivial, trivial, algebraic⟩

end Cert.Proof.Attn

end
end
-- ==== Proof.FwdPay.lean ====
/- The forward attention: what each vector of a visit holds, element by element. -/
module

public import proofs.«01_k».proof.Proof.AttnPay
public import proofs.«01_k».proof.Proof.Gen.FwdKernelIdeal.Frame

@[expose] public section

set_option maxRecDepth 16384

noncomputable section

open Idealize.ShloMosaic Idealize.ShloMosaic.TcCoe Idealize.SL.Sem
open Cert.FwdKernelIdeal Cert.FwdKernelIdeal.Gen
open Idealize.ShloMosaic.Tactic

namespace Cert.Proof.Fwd

open Cert.Proof.Attn (zero_bits bot_bits eighth_bits sitofp_one sitofp_zero lane lanes0 lanes1)
open scoped BigOperators

theorem lift_row (q k : Fin 512) : reduces_S512x512_S512.lift (ix1 q) k = ix2 q k := by
  funext a
  match a with
  | ⟨0, _⟩ => rfl
  | ⟨1, _⟩ => rfl

/-- A row's greatest. -/
theorem rowTop (x : FVec Ideal S512x512 .f32) (h hφ) (q : Fin 512) :
    (multiReduction .maximumf [1] S512 x 0xFF800000#32 reduces_S512x512_S512 h hφ : FVec Ideal S512 .f32) (ix1 q) = (Finset.univ : Finset (Fin 512)).fold max ⊥ fun k => x (ix2 q k) := by
  refine (Ideal.multiReduction_maximumf_single x _ reduces_S512x512_S512 h hφ (ix1 q)).trans ?_
  rw [show (FloatOps.ofBits FTy.f32 0xFF800000#32 : Ideal .f32) = ⊥ from bot_bits]
  exact congrArg (fun f => (Finset.univ : Finset (Fin 512)).fold max ⊥ f) (funext fun k => congrArg x (lift_row q k))

variable (v0 v149 v152 v139 v52 v55 : Vec Ideal S512x128 .bf16) (v14 v27 v153 v56 v53 : FVec Ideal S512x128 .bf16) (v30 v33 a13 a14 a16 a17 m l : FVec Ideal S512x1 .f32) (v28 v31 : Vec Ideal S1x1x512x128 .f32)
  (v158 v183 v61 v88 : Vec Ideal S1x1x1x1x512 .f32) (a15 a18 v80 v112 v121 v125 : FVec Ideal S512x128 .f32) (s : FVec Ideal S512x512 .f32) (t : FVec Ideal S512 .f32) (v81 : FVec Ideal S512x512 .bf16) (v38 : IVec S512x512 1)
  (q k : Fin 512) (x : Fin 128)

theorem pay25_at : k0_pay25 v0 (ix2 q x) = v0 (ix2 q x) * (lane 0 x * ((1 / 8 : ℝ) : EReal)) := by
  unfold k0_pay25 k0_pay24 lane
  pointwise [eighth_bits]
  rw [lanes0]
  by_cases h : x.val / 64 = 0
  · rw [if_pos h, if_pos h]; exact congrArg (fun y => v0 (ix2 q x) * (y * _)) sitofp_one
  · rw [if_neg h, if_neg h]; exact congrArg (fun y => v0 (ix2 q x) * (y * _)) sitofp_zero
theorem pay26_at : k0_pay26 v0 (ix2 q x) = v0 (ix2 q x) * (lane 1 x * ((1 / 8 : ℝ) : EReal)) := by
  unfold k0_pay26 k0_pay24 lane
  pointwise [eighth_bits]
  rw [lanes1]
  by_cases h : x.val / 64 = 1
  · rw [if_pos h, if_pos h]; exact congrArg (fun y => v0 (ix2 q x) * (y * _)) sitofp_one
  · rw [if_neg h, if_neg h]; exact congrArg (fun y => v0 (ix2 q x) * (y * _)) sitofp_zero
theorem pay27_at : k0_pay27 v28 (ix2 q 0) = v28 (ix4 0 0 q 0) := by
  unfold k0_pay27
  pointwise []
theorem pay28_at : k0_pay28 v31 (ix2 q 0) = v31 (ix4 0 0 q 0) := by
  unfold k0_pay28
  pointwise []
theorem pay29_iff : k0_pay29 (ix2 q k) = 1#1 ↔ k.val ≤ q.val := by
  unfold k0_pay29
  pointwise []
  exact WordCmp.cmpi_sle_ofNat_eq_one_iff (by omega) (by omega)
theorem pay30_at : k0_pay30 (F := Ideal) (ix2 q 0) = ⊥ := by
  unfold k0_pay30
  pointwise [bot_bits]
theorem pay31_at : k0_pay31 (F := Ideal) (ix2 q 0) = 0 := by
  unfold k0_pay31
  pointwise [zero_bits]
theorem pay32_at : k0_pay32 (F := Ideal) (ix2 q x) = 0 := by
  unfold k0_pay32
  pointwise [zero_bits]
theorem pay4_at : k0_pay4 v149 (ix2 q x) = v149 (ix2 q x) := by
  unfold k0_pay4
  pointwise []
theorem pay5_at : k0_pay5 v152 (ix2 q x) = v152 (ix2 q x) := by
  unfold k0_pay5
  pointwise []
theorem pay43_at : k0_pay43 v52 (ix2 q x) = v52 (ix2 q x) := by
  unfold k0_pay43
  pointwise []
theorem pay44_at : k0_pay44 v55 (ix2 q x) = v55 (ix2 q x) := by
  unfold k0_pay44
  pointwise []
/-- The scores of a block, -/
theorem pay6_at : k0_pay6 v14 v30 v149 v158 (ix2 q k) = ((∑ y : Fin 128, v14 (ix2 q y) * v149 (ix2 k y)) + v30 (ix2 q 0)) - v158 (ix5 0 0 0 0 k) := by
  unfold k0_pay6
  pointwise [pay4_at, zero_bits, zero_add]
theorem pay12_at : k0_pay12 v27 v33 v149 v183 (ix2 q k) = ((∑ y : Fin 128, v27 (ix2 q y) * v149 (ix2 k y)) + v33 (ix2 q 0)) - v183 (ix5 0 0 0 0 k) := by
  unfold k0_pay12
  pointwise [pay4_at, zero_bits, zero_add]
theorem pay45_at : k0_pay45 v14 v30 v38 v52 v61 (ix2 q k) = if v38 (ix2 q k) = 1#1 then ((∑ y : Fin 128, v14 (ix2 q y) * v52 (ix2 k y)) + v30 (ix2 q 0)) - v61 (ix5 0 0 0 0 k) else ⊥ := by
  unfold k0_pay45
  pointwise [pay43_at, zero_bits, zero_add, bot_bits, Scalar.select]
  rfl
theorem pay52_at : k0_pay52 v27 v33 v38 v53 v88 (ix2 q k) = if v38 (ix2 q k) = 1#1 then ((∑ y : Fin 128, v27 (ix2 q y) * v53 (ix2 k y)) + v33 (ix2 q 0)) - v88 (ix5 0 0 0 0 k) else ⊥ := by
  unfold k0_pay52
  pointwise [zero_bits, zero_add, bot_bits, Scalar.select]
  rfl

/-! A block of scores taken in. -/

def newTop (s : FVec Ideal S512x512 .f32) (m : FVec Ideal S512x1 .f32) (q : Fin 512) : EReal := max (m (ix2 q 0)) ((Finset.univ : Finset (Fin 512)).fold max ⊥ fun k => s (ix2 q k))
def newMass (s : FVec Ideal S512x512 .f32) (m l : FVec Ideal S512x1 .f32) (q : Fin 512) : EReal :=
  Ideal.exp (m (ix2 q 0) - newTop s m q) * l (ix2 q 0) + ∑ k : Fin 512, Ideal.exp (s (ix2 q k) - newTop s m q)
def newSum (s : FVec Ideal S512x512 .f32) (m : FVec Ideal S512x1 .f32) (a : FVec Ideal S512x128 .f32) (v : FVec Ideal S512x128 .bf16) (q : Fin 512) (x : Fin 128) : EReal :=
  Ideal.exp (m (ix2 q 0) - newTop s m q) * a (ix2 q x) + ∑ k : Fin 512, Ideal.exp (s (ix2 q k) - newTop s m q) * v (ix2 k x)

theorem pay33_at : k0_pay33 a16 t (ix2 q 0) = max (a16 (ix2 q 0)) (t (ix1 q)) := by
  unfold k0_pay33
  pointwise []
theorem pay7_at : k0_pay7 v14 v30 a13 v149 v158 (ix2 q 0) = newTop (k0_pay6 v14 v30 v149 v158) a13 q :=
  (pay33_at a13 _ q).trans (congrArg _ (rowTop _ _ _ q))
theorem pay33_top : k0_pay33 a16 (k0_pay13 v27 v33 v149 v183) (ix2 q 0) = newTop (k0_pay12 v27 v33 v149 v183) a16 q :=
  (pay33_at a16 _ q).trans (congrArg _ (rowTop _ (.inl rfl) rfl q))
theorem pay46_at : k0_pay46 v14 v30 v38 a13 v52 v61 (ix2 q 0) = newTop (k0_pay45 v14 v30 v38 v52 v61) a13 q :=
  (pay33_at a13 _ q).trans (congrArg _ (rowTop _ _ _ q))
theorem pay53_at : k0_pay53 v27 v33 v38 a16 v53 v88 (ix2 q 0) = newTop (k0_pay52 v27 v33 v38 v53 v88) a16 q :=
  (pay33_at a16 _ q).trans (congrArg _ (rowTop _ _ _ q))

/-- The mass from the scores and their greatest, as the trips spell it. -/
theorem pay36_at : k0_pay36 a16 a17 s t (ix2 q 0) = Ideal.exp (a16 (ix2 q 0) - max (a16 (ix2 q 0)) (t (ix1 q))) * a17 (ix2 q 0) + ∑ k : Fin 512, Ideal.exp (s (ix2 q k) - max (a16 (ix2 q 0)) (t (ix1 q))) := by
  unfold k0_pay36 k0_pay35 k0_pay34
  pointwise [pay33_at, zero_bits, zero_add]
theorem pay37_at : k0_pay37 a16 a18 v153 s t (ix2 q x) = Ideal.exp (a16 (ix2 q 0) - max (a16 (ix2 q 0)) (t (ix1 q))) * a18 (ix2 q x) + ∑ k : Fin 512, Ideal.exp (s (ix2 q k) - max (a16 (ix2 q 0)) (t (ix1 q))) * v153 (ix2 k x) := by
  unfold k0_pay37 k0_pay35 k0_pay34
  pointwise [pay33_at, zero_bits, zero_add]

/-- The greatest of every row. -/
abbrev tops (s : FVec Ideal S512x512 .f32) : FVec Ideal S512 .f32 := multiReduction .maximumf [1] S512 s 0xFF800000#32 reduces_S512x512_S512 (.inl rfl) rfl

/-- A visit's spellings are one. -/
theorem tops_at : tops s (ix1 q) = (Finset.univ : Finset (Fin 512)).fold max ⊥ fun k => s (ix2 q k) := rowTop s (.inl rfl) rfl q
theorem mass_of : k0_pay36 m l s (tops s) (ix2 q 0) = newMass s m l q := by
  rw [pay36_at, tops_at]; rfl
theorem sum_of : k0_pay37 m a18 v153 s (tops s) (ix2 q x) = newSum s m a18 v153 q x := by
  rw [pay37_at, tops_at]; rfl
theorem mass1_of : k0_pay36 m l (k0_pay12 v27 v33 v149 v183) (k0_pay13 v27 v33 v149 v183) (ix2 q 0) = newMass (k0_pay12 v27 v33 v149 v183) m l q := mass_of (s := k0_pay12 v27 v33 v149 v183) (m := m) (l := l) (q := q)
theorem sum1_of : k0_pay37 m a18 v153 (k0_pay12 v27 v33 v149 v183) (k0_pay13 v27 v33 v149 v183) (ix2 q x) = newSum (k0_pay12 v27 v33 v149 v183) m a18 v153 q x := sum_of (s := k0_pay12 v27 v33 v149 v183) (m := m) (a18 := a18) (v153 := v153) (q := q) (x := x)
theorem pay10_eq : k0_pay10 v14 v30 a13 a14 v149 v158 = k0_pay36 a13 a14 (k0_pay6 v14 v30 v149 v158) (tops (k0_pay6 v14 v30 v149 v158)) := rfl
theorem pay11_eq : k0_pay11 v14 v30 a13 a15 v149 v152 v158 = k0_pay37 a13 a15 (k0_pay5 v152) (k0_pay6 v14 v30 v149 v158) (tops (k0_pay6 v14 v30 v149 v158)) := rfl
theorem pay49_eq : k0_pay49 v14 v30 v38 m l v52 v61 = k0_pay36 m l (k0_pay45 v14 v30 v38 v52 v61) (tops (k0_pay45 v14 v30 v38 v52 v61)) := rfl
theorem pay56_eq : k0_pay56 v27 v33 v38 m l v53 v88 = k0_pay36 m l (k0_pay52 v27 v33 v38 v53 v88) (tops (k0_pay52 v27 v33 v38 v53 v88)) := rfl

/-- What a head's rows end with. -/
theorem div_at (a : FVec Ideal S512x128 .f32) (l : FVec Ideal S512x1 .f32) : (divf a (broadcastTo S512x128 l broadcasts_S512x1_S512x128) : FVec Ideal S512x128 .f32) (ix2 q x) = Ideal.div (a (ix2 q x)) (l (ix2 q 0)) := by
  pointwise []
theorem pay57_at : k0_pay57 v56 l (k0_pay50 v14 v30 v38 m a15 v52 v61) (k0_pay51 v14 v30 v38 m v52 v61) (constant S512x128 .f32 0x00000000#32) (ix2 q x)
    = Ideal.div (newSum (k0_pay45 v14 v30 v38 v52 v61) m a15 v56 q x) (l (ix2 q 0)) :=
  (div_at q x (k0_pay37 m a15 v56 (k0_pay45 v14 v30 v38 v52 v61) (tops (k0_pay45 v14 v30 v38 v52 v61))) l).trans (congrArg (fun y => Ideal.div y _) (sum_of (v153 := v56) (m := m) (a18 := a15) (s := k0_pay45 v14 v30 v38 v52 v61) (q := q) (x := x)))
theorem pay59_at : k0_pay59 v27 v33 v38 m l a18 v53 v56 v88 (ix2 q x)
    = Ideal.div (newSum (k0_pay52 v27 v33 v38 v53 v88) m a18 v56 q x) (newMass (k0_pay52 v27 v33 v38 v53 v88) m l q) :=
  (div_at q x (k0_pay37 m a18 v56 (k0_pay52 v27 v33 v38 v53 v88) (tops (k0_pay52 v27 v33 v38 v53 v88))) (k0_pay56 v27 v33 v38 m l v53 v88)).trans
    (congrArg₂ Ideal.div (sum_of (v153 := v56) (m := m) (a18 := a18) (s := k0_pay52 v27 v33 v38 v53 v88) (q := q) (x := x)) ((congrFun (pay56_eq (v27 := v27) (v53 := v53) (v33 := v33) (m := m) (l := l) (v88 := v88) (v38 := v38)) _).trans (mass_of m l _ q)))
theorem pay58_at : k0_pay58 m l (ix4 0 0 q x) = m (ix2 q 0) + Ideal.log (l (ix2 q 0)) := by
  unfold k0_pay58
  pointwise []
theorem lanes_at : (broadcastTo S512x128 (shapeCast S512x1 (addf m (log l)) shapeCasts_S512x1_S512x1) broadcasts_S512x1_S512x128 : FVec Ideal S512x128 .f32) (ix2 q x) = m (ix2 q 0) + Ideal.log (l (ix2 q 0)) := by
  pointwise []
theorem pay60_at : k0_pay60 v27 v33 v38 m l v53 v88 (ix2 q x) = newTop (k0_pay52 v27 v33 v38 v53 v88) m q + Ideal.log (newMass (k0_pay52 v27 v33 v38 v53 v88) m l q) :=
  (lanes_at (k0_pay53 v27 v33 v38 m v53 v88) (k0_pay56 v27 v33 v38 m l v53 v88) q x).trans
    (congrArg₂ (fun a b => a + Ideal.log b) (pay53_at (v27 := v27) (v53 := v53) (v33 := v33) (a16 := m) (v88 := v88) (v38 := v38) (q := q)) ((congrFun (pay56_eq (v27 := v27) (v53 := v53) (v33 := v33) (m := m) (l := l) (v88 := v88) (v38 := v38)) _).trans (mass_of m l _ q)))
theorem pay1_at : k0_pay1 v125 (ix4 0 0 q x) = v125 (ix2 q x) := by
  unfold k0_pay1
  pointwise []

theorem lanesB : ∀ l : Fin 128, IntOp.andi (IntOp.cmpi CmpIPredicate.sge (BitVec.ofNat 32 l.val) 0#32) (IntOp.cmpi CmpIPredicate.slt (BitVec.ofNat 32 l.val) 64#32) = if l.val / 64 = 0 then 1#1 else 0#1 := by decide +kernel
theorem pay2_at : k0_pay2 v112 v121 (ix2 q x) = if x.val / 64 = 0 then v112 (ix2 q x) else v121 (ix2 q x) := by
  unfold k0_pay2
  pointwise [lanesB, Scalar.select]
  by_cases h : x.val / 64 = 0
  · rw [if_pos h, if_pos h]; rfl
  · rw [if_neg h, if_neg h]; rfl
theorem pay3_at : k0_pay3 v112 v121 v139 (ix2 q x) = Ideal.logistic (v139 (ix2 q x)) * k0_pay2 v112 v121 (ix2 q x) := by
  unfold k0_pay3
  generalize k0_pay2 v112 v121 = o
  pointwise []

end Cert.Proof.Fwd

end
end
-- ==== Proof.FwdOnline.lean ====
/- The softmax of a row, gathered block by block. -/
module

public import proofs.«01_k».proof.Proof.SwiMath
@[expose] public section

noncomputable section

open Idealize.ShloMosaic

namespace Cert.Proof.Fwd

open Cert.Norm

/-- Finite, or minus infinity. -/
def Low (x : EReal) : Prop := x = ⊥ ∨ IsReal x

/-- A sum of finite values is finite. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The greatest of the first `n` scores, -/
def best (s : ℕ → EReal) (n : ℕ) : EReal := (Finset.range n).fold max ⊥ s

/-- their mass, -/
def total (s : ℕ → EReal) (n : ℕ) : EReal := ∑ c ∈ Finset.range n, Ideal.exp (s c - best s n)

/-- and the values they weigh. -/
def weighed (s v : ℕ → EReal) (n : ℕ) : EReal := ∑ c ∈ Finset.range n, Ideal.exp (s c - best s n) * v c

theorem le_best (s : ℕ → EReal) (n c : ℕ) (hc : c < n) : s c ≤ best s n :=
  Finset.le_fold_max _ |>.2 (.inr ⟨c, Finset.mem_range.2 hc, le_refl _⟩)

theorem best_add (s : ℕ → EReal) (n k : ℕ) : best s (n + k) = max (best s n) ((Finset.univ : Finset (Fin k)).fold max ⊥ fun c => s (n + c.val)) := by
  refine le_antisymm ?_ (max_le ?_ ?_)
  · refine Finset.fold_max_le _ |>.2 ⟨bot_le, fun c hc => ?_⟩
    have hc := Finset.mem_range.1 hc
    rcases lt_or_ge c n with h | h
    · exact le_max_of_le_left (le_best s n c h)
    · refine le_max_of_le_right (Finset.le_fold_max _ |>.2 (.inr ⟨⟨c - n, by omega⟩, Finset.mem_univ _, ?_⟩))
      show s c ≤ s (n + (c - n))
      rw [Nat.add_sub_cancel' h]
  · exact Finset.fold_max_le _ |>.2 ⟨bot_le, fun c hc => le_best s _ c (by have := Finset.mem_range.1 hc; omega)⟩
  · exact Finset.fold_max_le _ |>.2 ⟨bot_le, fun c hc => le_best s _ _ (by have := c.isLt; omega)⟩

section
variable (s v : ℕ → EReal) (hs : ∀ c, Low (s c)) (h0 : IsReal (s 0))
include hs h0

theorem best_real (n : ℕ) (hn : 0 < n) : IsReal (best s n) := by
  have hlt : best s n < ⊤ := by
    refine Finset.fold_max_lt _ |>.2 ⟨bot_lt_top, fun k _ => ?_⟩
    rcases hs k with h | ⟨r, h⟩
    · rw [h]; exact bot_lt_top
    · rw [h]; exact EReal.coe_lt_top r
  rcases isReal_or (best s n) with h | h | h
  · exact h
  · exact absurd h hlt.ne
  · obtain ⟨r, hr⟩ := h0
    have := le_best s n 0 hn
    rw [h, hr] at this
    exact absurd (le_bot_iff.1 this) (EReal.coe_ne_bot r)

/-- A weight is finite and not negative. -/
theorem weight_real (n : ℕ) (hn : 0 < n) (c : ℕ) : ∃ e : ℝ, Ideal.exp (s c - best s n) = (e : EReal) ∧ 0 ≤ e ∧ (IsReal (s c) → 0 < e) := by
  obtain ⟨M, hM⟩ := best_real s hs h0 n hn
  rcases hs c with h | ⟨r, h⟩
  · refine ⟨0, ?_, le_refl _, fun ⟨r, hr⟩ => ?_⟩
    · rw [h, EReal.bot_sub]; rfl
    · rw [h] at hr; exact absurd hr.symm (EReal.coe_ne_bot r)
  · refine ⟨Real.exp (r - M), ?_, (Real.exp_pos _).le, fun _ => Real.exp_pos _⟩
    rw [h, hM, ← EReal.coe_sub]
    rfl

/-- Taking a greater score off is one more factor. -/
theorem rescale (n k : ℕ) (hn : 0 < n) (c : ℕ) :
    Ideal.exp (best s n - best s (n + k)) * Ideal.exp (s c - best s n) = Ideal.exp (s c - best s (n + k)) := by
  obtain ⟨M, hM⟩ := best_real s hs h0 n hn
  obtain ⟨N, hN⟩ := best_real s hs h0 (n + k) (by omega)
  rw [hM, hN]
  rcases hs c with h | ⟨r, h⟩
  · rw [h, EReal.bot_sub, EReal.bot_sub]
    show _ * (0 : EReal) = 0
    rw [mul_zero]
  · rw [h, ← EReal.coe_sub, ← EReal.coe_sub, ← EReal.coe_sub]
    show ((Real.exp (M - N) : ℝ) : EReal) * ((Real.exp (r - M) : ℝ) : EReal) = ((Real.exp (r - N) : ℝ) : EReal)
    rw [← EReal.coe_mul, ← Real.exp_add]
    congr 2
    ring

omit hs h0 in
/-- A finite factor that is not negative goes into a sum. -/
theorem into_sum {ι : Type} (t : Finset ι) (f : ι → EReal) (a : ℝ) (ha : 0 ≤ a) : (a : EReal) * ∑ c ∈ t, f c = ∑ c ∈ t, (a : EReal) * f c := by
  classical
  induction t using Finset.induction_on with
  | empty => simp
  | insert i t hi ih =>
    rw [Finset.sum_insert hi, Finset.sum_insert hi, EReal.left_distrib_of_nonneg_of_ne_top (EReal.coe_nonneg.2 ha) (EReal.coe_ne_top a), ih]

theorem factor_real (n k : ℕ) (hn : 0 < n) : ∃ a : ℝ, Ideal.exp (best s n - best s (n + k)) = (a : EReal) ∧ 0 ≤ a := by
  obtain ⟨M, hM⟩ := best_real s hs h0 n hn
  obtain ⟨N, hN⟩ := best_real s hs h0 (n + k) (by omega)
  exact ⟨Real.exp (M - N), by rw [hM, hN, ← EReal.coe_sub]; rfl, (Real.exp_pos _).le⟩

/-- One more block of values. -/
theorem weighed_add (n k : ℕ) : weighed s v (n + k)
    = Ideal.exp (best s n - best s (n + k)) * weighed s v n + ∑ c : Fin k, Ideal.exp (s (n + c.val) - best s (n + k)) * v (n + c.val) := by
  unfold weighed
  rw [Finset.sum_range_add, Finset.sum_range (n := k)]
  congr 1
  rcases Nat.eq_zero_or_pos n with h | h
  · subst h
    rw [Finset.range_zero, Finset.sum_empty, Finset.sum_empty, mul_zero]
  · obtain ⟨a, ha, ha0⟩ := factor_real s hs h0 n k h
    rw [ha, into_sum _ _ a ha0, ← ha]
    refine Finset.sum_congr rfl fun c _ => ?_
    rw [← mul_assoc, rescale s hs h0 n k h]

/-- One more block of mass. -/
theorem total_add (n k : ℕ) : total s (n + k) = Ideal.exp (best s n - best s (n + k)) * total s n + ∑ c : Fin k, Ideal.exp (s (n + c.val) - best s (n + k)) := by
  have e := weighed_add s (fun _ => 1) hs h0 n k
  unfold weighed at e
  simp only [mul_one] at e
  exact e

omit hs h0 in
theorem best_ext (n k : ℕ) (hb : ∀ c, n ≤ c → s c = ⊥) : best s (n + k) = best s n := by
  refine (best_add s n k).trans (max_eq_left ?_)
  refine Finset.fold_max_le _ |>.2 ⟨bot_le, fun c _ => ?_⟩
  rw [hb _ (Nat.le_add_right _ _)]
  exact bot_le

omit hs h0 in
theorem weighed_ext (n k : ℕ) (hb : ∀ c, n ≤ c → s c = ⊥) : weighed s v (n + k) = weighed s v n := by
  unfold weighed
  rw [best_ext s n k hb, Finset.sum_range_add]
  refine (congrArg (_ + ·) (Finset.sum_eq_zero fun c _ => ?_)).trans (add_zero _)
  rw [hb _ (Nat.le_add_right _ _), EReal.bot_sub]
  exact zero_mul _

omit hs h0 in
theorem total_ext (n k : ℕ) (hb : ∀ c, n ≤ c → s c = ⊥) : total s (n + k) = total s n := by
  have e := weighed_ext s (fun _ => 1) n k hb
  unfold weighed at e
  simp only [mul_one] at e
  exact e

/-- Dividing the weighed values by the mass weighs them by the softmax. -/
theorem weighed_div (n : ℕ) (hn : 0 < n) : Ideal.div (weighed s v n) (total s n) = ∑ c ∈ Finset.range n, Ideal.div (Ideal.exp (s c - best s n)) (total s n) * v c := by
  choose e he he0 hep using weight_real s hs h0 n hn
  have hZ : total s n = ((∑ k ∈ Finset.range n, e k : ℝ) : EReal) := by
    unfold total
    rw [← coe_sum]
    exact Finset.sum_congr rfl fun k _ => he k
  have hpos : 0 < ∑ k ∈ Finset.range n, e k := lt_of_lt_of_le (hep 0 h0) (Finset.single_le_sum (fun k _ => he0 k) (Finset.mem_range.2 hn))
  rw [hZ]
  generalize (∑ k ∈ Finset.range n, e k) = z at hZ hpos
  have hz : (z : EReal) ≠ 0 := fun h => hpos.ne' (EReal.coe_eq_zero.1 h)
  unfold Ideal.div weighed
  rw [if_neg hz, ← EReal.coe_inv, mul_comm, into_sum _ _ _ (inv_nonneg.2 hpos.le)]
  refine Finset.sum_congr rfl fun c _ => ?_
  rw [if_neg hz, ← mul_assoc, mul_comm ((z⁻¹ : ℝ) : EReal)]

end

end Cert.Proof.Fwd

end
end
-- ==== Proof.FwdState.lean ====
/- The forward attention: a sweep over the blocks of keys. -/
module

public import proofs.«01_k».proof.Proof.FwdPay
public import proofs.«01_k».proof.Proof.FwdOnline

@[expose] public section

set_option maxRecDepth 16384

noncomputable section

open Idealize.ShloMosaic Idealize.ShloMosaic.TcCoe Idealize.SL.Sem
open Cert.FwdKernelIdeal Cert.FwdKernelIdeal.Gen
open Idealize.ShloMosaic.Tactic
open Idealize.ShloMosaic.Rounds

namespace Cert.Proof.Fwd

open scoped BigOperators
open Cert.Norm

section Read
variable {ζ : EltTy → Type}

/-- A load of a rectangle of stride one, at an index. -/
theorem rd {sg : RefSig} {κ : Kind} {sp : Space} {s : Shape} {e : EltTy} (v : View sg κ sp s e) (off size : Fin s.rank → ℕ) (inb) (X : v.ty.Contents ζ) (x : (Rect.unit off size inb).shape.Idx) (j : s.Idx)
    (h : ∀ a, (j a).val = off a + (x a).val) : v.readAt ζ (Rect.unit off size inb).toLoadRect X x = v.read ζ X j :=
  congrArg (v.read ζ X) (funext fun a => Fin.ext ((Rect.idx_unit_val off size inb x a).trans (h a).symm))

end Read

theorem trips_eq (i : grid0.Coords) : (k0_t1_loop i).trips = (i 2).val := by
  have h : (i 2).val < 4 := (i 2).isLt
  unfold k0_t1_loop
  dsimp only
  generalize (i 2).val = n at h
  interval_cases n <;> decide
theorem trips2_eq (i : grid0.Coords) : (k0_t2_loop i).trips = 0 := Nat.le_zero.1 (k0_t2_abs i).2.1

theorem off1_eq (i : grid0.Coords) (k : Fin (k0_t1_loop i).trips) : k0_off1 i k = ![512 * k.val, 0] := by
  have h : k.val < 4 := lt_of_lt_of_le k.isLt (by rw [trips_eq]; exact Nat.le_of_lt (i 2).isLt)
  unfold k0_off1
  dsimp only
  generalize k.val = n at h
  interval_cases n <;> rfl
theorem off2_eq (i : grid0.Coords) (k : Fin (k0_t1_loop i).trips) : k0_off2 i k = ![0, (0 : Fin 2).val, k.val, 0, 0] := by
  have h : k.val < 4 := lt_of_lt_of_le k.isLt (by rw [trips_eq]; exact Nat.le_of_lt (i 2).isLt)
  unfold k0_off2
  dsimp only
  generalize k.val = n at h
  interval_cases n <;> rfl
theorem off3_eq (i : grid0.Coords) (k : Fin (k0_t1_loop i).trips) : k0_off3 i k = ![0, (1 : Fin 2).val, k.val, 0, 0] := by
  have h : k.val < 4 := lt_of_lt_of_le k.isLt (by rw [trips_eq]; exact Nat.le_of_lt (i 2).isLt)
  unfold k0_off3
  dsimp only
  generalize k.val = n at h
  interval_cases n <;> rfl
theorem off7_eq (i : grid0.Coords) : k0_off7 i = ![512 * (i 2).val, 0] := by
  have h : (i 2).val < 4 := (i 2).isLt
  unfold k0_off7
  dsimp only
  generalize (i 2).val = n at h
  interval_cases n <;> rfl
theorem off8_eq (i : grid0.Coords) : k0_off8 i = ![0, (0 : Fin 2).val, (i 2).val, 0, 0] := by
  have h : (i 2).val < 4 := (i 2).isLt
  unfold k0_off8
  dsimp only
  generalize (i 2).val = n at h
  interval_cases n <;> rfl
theorem off9_eq (i : grid0.Coords) : k0_off9 i = ![0, (1 : Fin 2).val, (i 2).val, 0, 0] := by
  have h : (i 2).val < 4 := (i 2).isLt
  unfold k0_off9
  dsimp only
  generalize (i 2).val = n at h
  interval_cases n <;> rfl

section Loads
variable {ζ : EltTy → Type} {sg : RefSig} {κ : Kind} {sp : Space} {e : EltTy}

/-- A block of keys. -/
theorem rd2 (v : View sg κ sp S2048x128 e) (X : v.ty.Contents ζ) {off : Fin 2 → ℕ} (k : ℕ) (ho : off = ![512 * k, 0]) (inb) (x : Fin 512) (y : Fin 128) (h : 512 * k + x.val < 2048) :
    v.readAt ζ (Rect.unit (s := S2048x128) off S512x128.size inb).toLoadRect X (ix2 x y) = v.read ζ X (ix2 ⟨512 * k + x.val, h⟩ y) := by
  subst ho
  exact rd v _ _ inb X _ _ (by intro a; match a with
    | 0 => rfl
    | 1 => exact (Nat.zero_add _).symm)
theorem rd4 (v : View sg κ sp S1x2x512x128 e) (X : v.ty.Contents ζ) (n : Fin 2) (inb) (x : Fin 512) (y : Fin 128) :
    v.readAt ζ (Rect.unit (s := S1x2x512x128) ![0, n.val, 0, 0] S1x1x512x128.size inb).toLoadRect X (ix4 0 0 x y) = v.read ζ X (ix4 0 n x y) :=
  rd v _ _ inb X _ _ (by intro a; match a with
    | 0 => rfl
    | 1 => rfl
    | 2 => exact (Nat.zero_add _).symm
    | 3 => exact (Nat.zero_add _).symm)
theorem rd5 (v : View sg κ sp S1x2x4x1x512 e) (X : v.ty.Contents ζ) {off : Fin 5 → ℕ} (n : Fin 2) (k : ℕ) (ho : off = ![0, n.val, k, 0, 0]) (inb) (x : Fin 512) (h : k < 4) :
    v.readAt ζ (Rect.unit (s := S1x2x4x1x512) off S1x1x1x1x512.size inb).toLoadRect X (ix5 0 0 0 0 x) = v.read ζ X (ix5 0 n ⟨k, h⟩ 0 x) := by
  subst ho
  exact rd v _ _ inb X _ _ (by intro a; match a with
    | 0 => rfl
    | 1 => rfl
    | 2 => rfl
    | 3 => rfl
    | 4 => exact (Nat.zero_add _).symm)

end Loads

/-! The scores of a block of queries. -/

section Model
variable (n : Fin 2) (w : FVec Ideal S512x128 .bf16) (cc : FVec Ideal S512x1 .f32) (K V : Vec Ideal S2048x128 .bf16) (R : Vec Ideal S1x2x4x1x512 .f32) (j : ℕ) (q : Fin 512)

/-- A query's score on the key at place `k`. -/
def plain (k : ℕ) (h : k < 2048) : EReal :=
  ((∑ y : Fin 128, w (ix2 q y) * K (ix2 ⟨k, h⟩ y)) + cc (ix2 q 0)) - R (ix5 0 n ⟨k / 512, by omega⟩ 0 ⟨k % 512, by omega⟩)

/-- The same where the mask keeps it. -/
def seen (k : ℕ) : EReal := if h : k < 2048 then (if k ≤ 512 * j + q.val then plain n w cc K R q k h else ⊥) else ⊥

/-- A lane of the values. -/
def lane1 (x : Fin 128) (k : ℕ) : EReal := if h : k < 2048 then V (ix2 ⟨k, h⟩ x) else 0

theorem plain_at (Kb : Vec Ideal S512x128 .bf16) (Rb : Vec Ideal S1x1x1x1x512 .f32) (k : ℕ) (hk : k < 4) (c : Fin 512)
    (hK : ∀ y, Kb (ix2 c y) = K (ix2 ⟨512 * k + c.val, by omega⟩ y)) (hR : Rb (ix5 0 0 0 0 c) = R (ix5 0 n ⟨k, hk⟩ 0 c)) :
    ((∑ y : Fin 128, w (ix2 q y) * Kb (ix2 c y)) + cc (ix2 q 0)) - Rb (ix5 0 0 0 0 c) = plain n w cc K R q (512 * k + c.val) (by omega) := by
  unfold plain
  have e : (ix5 0 n ⟨(512 * k + c.val) / 512, by omega⟩ 0 ⟨(512 * k + c.val) % 512, by omega⟩ : S1x2x4x1x512.Idx) = ix5 0 n ⟨k, hk⟩ 0 c := by
    congr 1
    · exact Fin.ext (by dsimp only; omega)
    · exact Fin.ext (by dsimp only; omega)
  rw [e, hR]
  simp only [hK]

variable (hp : ∀ k h, IsReal (plain n w cc K R q k h))
include hp

theorem seen_low (k : ℕ) : Low (seen n w cc K R j q k) := by
  unfold seen
  split
  · split
    · exact .inr (hp _ _)
    · exact .inl rfl
  · exact .inl rfl

theorem seen_zero : IsReal (seen n w cc K R j q 0) := by
  unfold seen
  rw [dif_pos (by omega), if_pos (by omega)]
  exact hp _ _

variable {n w cc K V R j q}
variable {s : FVec Ideal S512x512 .f32} {v : FVec Ideal S512x128 .bf16} {m l : FVec Ideal S512x1 .f32} {a : FVec Ideal S512x128 .f32} {N : ℕ}
  (hs : ∀ c : Fin 512, s (ix2 q c) = seen n w cc K R j q (N + c.val)) (hm : m (ix2 q 0) = best (seen n w cc K R j q) N)
include hs hm

omit hp in
theorem step_top : newTop s m q = best (seen n w cc K R j q) (N + 512) := by
  unfold newTop
  rw [best_add, hm]
  simp only [hs]

theorem step_mass (hl : l (ix2 q 0) = total (seen n w cc K R j q) N) : newMass s m l q = total (seen n w cc K R j q) (N + 512) := by
  unfold newMass
  rw [step_top hs hm, total_add _ (seen_low n w cc K R j q hp) (seen_zero n w cc K R j q hp), hm, hl]
  simp only [hs]

theorem step_sum (x : Fin 128) (ha : a (ix2 q x) = weighed (seen n w cc K R j q) (lane1 V x) N) (hv : ∀ c : Fin 512, v (ix2 c x) = lane1 V x (N + c.val)) :
    newSum s m a v q x = weighed (seen n w cc K R j q) (lane1 V x) (N + 512) := by
  unfold newSum
  rw [step_top hs hm, weighed_add _ _ (seen_low n w cc K R j q hp) (seen_zero n w cc K R j q hp), hm, ha]
  simp only [hs, hv]

end Model

variable (𝒱 : Variants) (c : Dev nD) (bd : Option 𝒱.V) (i : grid0.Coords)
  (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x2x512x128 .f32) (harg7 : arg7.IsWhole) (arg8 : Memref sig .tc .vmem S1x2x4x1x512 .f32) (harg8 : arg8.IsWhole) (arg9 : Memref sig .tc .vmem S512x128 .f32) (harg9 : arg9.IsWhole) (arg10 : Memref sig .tc .vmem S1x2x512x128 .f32) (harg10 : arg10.IsWhole) (arg11 : Memref sig .tc .vmem S512x128 .bf16) (harg11 : arg11.IsWhole)
  (arg2 : BitVec 32) (v14 v27 : FVec Ideal S512x128 .bf16) (v30 v33 : FVec Ideal S512x1 .f32) (v38 : IVec S512x512 1) (v39 : FVec Ideal S512x1 .f32)
  (X5 : BufTy.Contents (Elt Ideal) arg5.view.ty) (X6 : BufTy.Contents (Elt Ideal) arg6.view.ty) (X8 : BufTy.Contents (Elt Ideal) arg8.view.ty)

/-- A visit's block of keys, of values, and its rows of sums. -/
abbrev visK (k : Fin (k0_t1_loop i).trips) : Vec Ideal S512x128 .bf16 := arg5.view.readAt (Elt Ideal) (Rect.unit (s := S2048x128) (k0_off1 i k) S512x128.size (k0_off1_inb i k)).toLoadRect X5
abbrev visV (k : Fin (k0_t1_loop i).trips) : Vec Ideal S512x128 .bf16 := arg6.view.readAt (Elt Ideal) (Rect.unit (s := S2048x128) (k0_off1 i k) S512x128.size (k0_off1_inb i k)).toLoadRect X6
abbrev visR0 (k : Fin (k0_t1_loop i).trips) : Vec Ideal S1x1x1x1x512 .f32 := arg8.view.readAt (Elt Ideal) (Rect.unit (s := S1x2x4x1x512) (k0_off2 i k) S1x1x1x1x512.size (k0_off2_inb i k)).toLoadRect X8
abbrev visR1 (k : Fin (k0_t1_loop i).trips) : Vec Ideal S1x1x1x1x512 .f32 := arg8.view.readAt (Elt Ideal) (Rect.unit (s := S1x2x4x1x512) (k0_off3 i k) S1x1x1x1x512.size (k0_off3_inb i k)).toLoadRect X8

theorem trip_eq (k : Fin (k0_t1_loop i).trips) (acc : FVec Ideal S512x1 .f32 × FVec Ideal S512x1 .f32 × FVec Ideal S512x128 .f32 × FVec Ideal S512x1 .f32 × FVec Ideal S512x1 .f32 × FVec Ideal S512x128 .f32) :
    tripR_k0_t1 (F := Ideal) 𝒱 c bd i arg3 harg3 arg4 harg4 arg5 harg5 arg6 harg6 arg7 harg7 arg8 harg8 arg9 harg9 arg10 harg10 arg11 harg11 arg2 v14 v27 v30 v33 v38 v39 X5 X6 X8 k acc
      = (k0_pay7 v14 v30 acc.1 (visK i arg5 X5 k) (visR0 i arg8 X8 k),
        k0_pay10 v14 v30 acc.1 acc.2.1 (visK i arg5 X5 k) (visR0 i arg8 X8 k),
        k0_pay11 v14 v30 acc.1 acc.2.2.1 (visK i arg5 X5 k) (visV i arg6 X6 k) (visR0 i arg8 X8 k),
        k0_pay33 acc.2.2.2.1 (k0_pay13 v27 v33 (visK i arg5 X5 k) (visR1 i arg8 X8 k)),
        k0_pay36 acc.2.2.2.1 acc.2.2.2.2.1 (k0_pay12 v27 v33 (visK i arg5 X5 k) (visR1 i arg8 X8 k)) (k0_pay13 v27 v33 (visK i arg5 X5 k) (visR1 i arg8 X8 k)),
        k0_pay37 acc.2.2.2.1 acc.2.2.2.2.2 (k0_pay5 (visV i arg6 X6 k)) (k0_pay12 v27 v33 (visK i arg5 X5 k) (visR1 i arg8 X8 k)) (k0_pay13 v27 v33 (visK i arg5 X5 k) (visR1 i arg8 X8 k))) := by
  unfold tripR_k0_t1 trip_k0_t1
  rfl

/-- What the sweep carries for a row, after the first `N` keys. -/
structure Holds (st : FVec Ideal S512x1 .f32 × FVec Ideal S512x1 .f32 × FVec Ideal S512x128 .f32 × FVec Ideal S512x1 .f32 × FVec Ideal S512x1 .f32 × FVec Ideal S512x128 .f32) (q : Fin 512) (s0 s1 : ℕ → EReal) (V : Vec Ideal S2048x128 .bf16) (N : ℕ) : Prop where
  m0 : st.1 (ix2 q 0) = best s0 N
  l0 : st.2.1 (ix2 q 0) = total s0 N
  a0 : ∀ x, st.2.2.1 (ix2 q x) = weighed s0 (lane1 V x) N
  m1 : st.2.2.2.1 (ix2 q 0) = best s1 N
  l1 : st.2.2.2.2.1 (ix2 q 0) = total s1 N
  a1 : ∀ x, st.2.2.2.2.2 (ix2 q x) = weighed s1 (lane1 V x) N

variable (q : Fin 512) (hp0 : ∀ k h, IsReal (plain 0 v14 v30 (arg5.view.read (Elt Ideal) X5) (arg8.view.read (Elt Ideal) X8) q k h))
  (hp1 : ∀ k h, IsReal (plain 1 v27 v33 (arg5.view.read (Elt Ideal) X5) (arg8.view.read (Elt Ideal) X8) q k h))
include hp0 hp1

theorem trip_holds (k : Fin (k0_t1_loop i).trips) (acc : FVec Ideal S512x1 .f32 × FVec Ideal S512x1 .f32 × FVec Ideal S512x128 .f32 × FVec Ideal S512x1 .f32 × FVec Ideal S512x1 .f32 × FVec Ideal S512x128 .f32)
    (h : Holds acc q (seen 0 v14 v30 (arg5.view.read (Elt Ideal) X5) (arg8.view.read (Elt Ideal) X8) (i 2).val q) (seen 1 v27 v33 (arg5.view.read (Elt Ideal) X5) (arg8.view.read (Elt Ideal) X8) (i 2).val q) (arg6.view.read (Elt Ideal) X6) (512 * k.val)) :
    Holds (tripR_k0_t1 (F := Ideal) 𝒱 c bd i arg3 harg3 arg4 harg4 arg5 harg5 arg6 harg6 arg7 harg7 arg8 harg8 arg9 harg9 arg10 harg10 arg11 harg11 arg2 v14 v27 v30 v33 v38 v39 X5 X6 X8 k acc) q (seen 0 v14 v30 (arg5.view.read (Elt Ideal) X5) (arg8.view.read (Elt Ideal) X8) (i 2).val q) (seen 1 v27 v33 (arg5.view.read (Elt Ideal) X5) (arg8.view.read (Elt Ideal) X8) (i 2).val q) (arg6.view.read (Elt Ideal) X6) (512 * k.val + 512) := by
  have hj : k.val < (i 2).val := lt_of_lt_of_eq k.isLt (trips_eq i)
  have h4 : k.val < 4 := lt_trans hj (i 2).isLt
  have hK : ∀ (x : Fin 512) y, visK i arg5 X5 k (ix2 x y) = arg5.view.read (Elt Ideal) X5 (ix2 ⟨512 * k.val + x.val, by omega⟩ y) := fun x y => rd2 arg5.view X5 k.val (off1_eq i k) _ x y _
  have hV : ∀ (x : Fin 512) y, k0_pay5 (visV i arg6 X6 k) (ix2 x y) = lane1 (arg6.view.read (Elt Ideal) X6) y (512 * k.val + x.val) := fun x y => by
    refine (pay5_at (v152 := visV i arg6 X6 k) (q := x) (x := y)).trans ((rd2 arg6.view X6 k.val (off1_eq i k) _ x y (by omega)).trans ?_)
    rw [lane1, dif_pos (by omega)]
  have s0 : ∀ x : Fin 512, k0_pay6 v14 v30 (visK i arg5 X5 k) (visR0 i arg8 X8 k) (ix2 q x) = seen 0 v14 v30 (arg5.view.read (Elt Ideal) X5) (arg8.view.read (Elt Ideal) X8) (i 2).val q (512 * k.val + x.val) := fun x => by
    refine (pay6_at ..).trans ?_
    rw [seen, dif_pos (by omega), if_pos (by omega)]
    exact plain_at 0 _ _ _ _ q _ _ k.val h4 x (hK x) (rd5 arg8.view X8 0 k.val (off2_eq i k) _ x h4)
  have s1 : ∀ x : Fin 512, k0_pay12 v27 v33 (visK i arg5 X5 k) (visR1 i arg8 X8 k) (ix2 q x) = seen 1 v27 v33 (arg5.view.read (Elt Ideal) X5) (arg8.view.read (Elt Ideal) X8) (i 2).val q (512 * k.val + x.val) := fun x => by
    refine (pay12_at ..).trans ?_
    rw [seen, dif_pos (by omega), if_pos (by omega)]
    exact plain_at 1 _ _ _ _ q _ _ k.val h4 x (hK x) (rd5 arg8.view X8 1 k.val (off3_eq i k) _ x h4)
  rw [trip_eq]
  refine ⟨?_, ?_, fun x => ?_, ?_, ?_, fun x => ?_⟩
  · exact (pay7_at ..).trans (step_top s0 h.m0)
  · exact (congrFun (pay10_eq ..) _).trans ((mass_of ..).trans (step_mass hp0 s0 h.m0 h.l0))
  · exact (congrFun (pay11_eq ..) _).trans ((sum_of ..).trans (step_sum hp0 s0 h.m0 x (h.a0 x) fun y => hV y x))
  · exact (pay33_top ..).trans (step_top s1 h.m1)
  · exact (mass1_of ..).trans (step_mass hp1 s1 h.m1 h.l1)
  · exact (sum1_of ..).trans (step_sum hp1 s1 h.m1 x (h.a1 x) fun y => hV y x)

/-- The sweep's carried values before visit `k`. -/
theorem st_holds : ∀ k : ℕ, k ≤ (i 2).val →
    Holds (st_k0_t1 (F := Ideal) 𝒱 c bd i arg3 harg3 arg4 harg4 arg5 harg5 arg6 harg6 arg7 harg7 arg8 harg8 arg9 harg9 arg10 harg10 arg11 harg11 arg2 v14 v27 v30 v33 v38 v39 X5 X6 X8 (k0_pay30 (F := Ideal), k0_pay31 (F := Ideal), k0_pay32 (F := Ideal), k0_pay30 (F := Ideal), k0_pay31 (F := Ideal), k0_pay32 (F := Ideal)) k) q (seen 0 v14 v30 (arg5.view.read (Elt Ideal) X5) (arg8.view.read (Elt Ideal) X8) (i 2).val q) (seen 1 v27 v33 (arg5.view.read (Elt Ideal) X5) (arg8.view.read (Elt Ideal) X8) (i 2).val q) (arg6.view.read (Elt Ideal) X6) (512 * k)
  | 0, _ => by
    rw [st_k0_t1_zero]
    exact ⟨pay30_at q, pay31_at q, fun x => pay32_at q x, pay30_at q, pay31_at q, fun x => pay32_at q x⟩
  | k + 1, hk => by
    have ht : k < (k0_t1_loop i).trips := by rw [trips_eq]; exact hk
    rw [st_k0_t1_succ 𝒱 c bd i arg3 harg3 arg4 harg4 arg5 harg5 arg6 harg6 arg7 harg7 arg8 harg8 arg9 harg9 arg10 harg10 arg11 harg11 arg2 v14 v27 v30 v33 v38 v39 X5 X6 X8 _ ⟨k, ht⟩]
    exact trip_holds 𝒱 c bd i arg3 harg3 arg4 harg4 arg5 harg5 arg6 harg6 arg7 harg7 arg8 harg8 arg9 harg9 arg10 harg10 arg11 harg11 arg2 v14 v27 v30 v33 v38 v39 X5 X6 X8 q hp0 hp1 ⟨k, ht⟩ _ (st_holds k (Nat.le_of_succ_le hk))

end Cert.Proof.Fwd

end
end
-- ==== Proof.FwdPoint.lean ====
/- The forward attention: what a point leaves. -/
module

public import proofs.«01_k».proof.Proof.FwdState
public import proofs.«01_k».proof.Proof.AttnMath

@[expose] public section

set_option maxRecDepth 16384

noncomputable section

open Idealize.ShloMosaic Idealize.ShloMosaic.TcCoe Idealize.SL.Sem
open Cert.FwdKernelIdeal Cert.FwdKernelIdeal.Gen
open Idealize.ShloMosaic.Tactic
open Idealize.ShloMosaic.Rounds

namespace Cert.Proof.Fwd

open scoped BigOperators
open Cert.Norm

open Cert.Norm

section Stores
variable {sg : RefSig} {κ : Kind} {sp : Space} {e : EltTy}

/-- A block stored whole, -/
theorem rd_whole (v : View sg κ sp S512x128 e) (f : v.ty.Contents (Elt Ideal)) (inb) (w : Vec Ideal S512x128 e) (q : Fin 512) (x : Fin 128) :
    v.read (Elt Ideal) (v.writes (Elt Ideal) f [⟨Rect.unit (s := S512x128) ![0, 0] S512x128.size inb, w⟩]) (ix2 q x) = w (ix2 q x) :=
  View.read_writes_cons_unit_of_mem v f (off' := ![0, 0]) inb w [] (ix2 q x) (ix2 q x) rfl fun a => by
    match a with
    | 0 => exact (Nat.zero_add _).symm
    | 1 => exact (Nat.zero_add _).symm

/-- and one stored head by head. -/
theorem rd_second (v : View sg κ sp S1x2x512x128 e) (f : v.ty.Contents (Elt Ideal)) (inb) (w : Vec Ideal S1x1x512x128 e) (L : List (View.Piece (Elt Ideal) S1x2x512x128 e)) (q : Fin 512) (x : Fin 128) :
    v.read (Elt Ideal) (v.writes (Elt Ideal) f (⟨Rect.unit (s := S1x2x512x128) ![0, 1, 0, 0] S1x1x512x128.size inb, w⟩ :: L)) (ix4 0 1 q x) = w (ix4 0 0 q x) :=
  View.read_writes_cons_unit_of_mem v f (off' := ![0, 1, 0, 0]) inb w L (ix4 0 1 q x) (ix4 0 0 q x) rfl fun a => by
    match a with
    | 0 => rfl
    | 1 => rfl
    | 2 => exact (Nat.zero_add _).symm
    | 3 => exact (Nat.zero_add _).symm
theorem rd_first (v : View sg κ sp S1x2x512x128 e) (f : v.ty.Contents (Elt Ideal)) (inb inb') (w w' : Vec Ideal S1x1x512x128 e) (q : Fin 512) (x : Fin 128) :
    v.read (Elt Ideal) (v.writes (Elt Ideal) f [⟨Rect.unit (s := S1x2x512x128) ![0, 1, 0, 0] S1x1x512x128.size inb, w⟩, ⟨Rect.unit (s := S1x2x512x128) ![0, 0, 0, 0] S1x1x512x128.size inb', w'⟩]) (ix4 0 0 q x) = w' (ix4 0 0 q x) :=
  (View.read_writes_cons_unit_of_not_mem v f (off' := ![0, 1, 0, 0]) inb w _ (ix4 0 0 q x) rfl 1 (.inl (Nat.zero_lt_one))).trans
    (View.read_writes_cons_unit_of_mem v f (off' := ![0, 0, 0, 0]) inb' w' [] (ix4 0 0 q x) (ix4 0 0 q x) rfl fun a => by
      match a with
      | 0 => rfl
      | 1 => rfl
      | 2 => exact (Nat.zero_add _).symm
      | 3 => exact (Nat.zero_add _).symm)

end Stores

section Diagonal
variable {w0 w1 : FVec Ideal S512x128 .bf16} {c0 c1 : FVec Ideal S512x1 .f32} {K V : Vec Ideal S2048x128 .bf16} {R : Vec Ideal S1x2x4x1x512 .f32} {j : ℕ} {q : Fin 512} {acc : FVec Ideal S512x1 .f32 × FVec Ideal S512x1 .f32 × FVec Ideal S512x128 .f32 × FVec Ideal S512x1 .f32 × FVec Ideal S512x1 .f32 × FVec Ideal S512x128 .f32}
  {Kb Vb : Vec Ideal S512x128 .bf16} {R0 R1 : Vec Ideal S1x1x1x1x512 .f32}
  (hj : j < 4) (hp0 : ∀ k h, IsReal (plain 0 w0 c0 K R q k h)) (hp1 : ∀ k h, IsReal (plain 1 w1 c1 K R q k h))
  (h : Holds acc q (seen 0 w0 c0 K R j q) (seen 1 w1 c1 K R j q) V (512 * j))
  (hK : ∀ (x : Fin 512) y, Kb (ix2 x y) = K (ix2 ⟨512 * j + x.val, by omega⟩ y)) (hV : ∀ (x : Fin 512) y, Vb (ix2 x y) = V (ix2 ⟨512 * j + x.val, by omega⟩ y))
  (hR0 : ∀ x, R0 (ix5 0 0 0 0 x) = R (ix5 0 0 ⟨j, hj⟩ 0 x)) (hR1 : ∀ x, R1 (ix5 0 0 0 0 x) = R (ix5 0 1 ⟨j, hj⟩ 0 x))

include hK hR0 in
/-- The scores of the block on the diagonal, -/
theorem diag0 (x : Fin 512) : k0_pay45 w0 c0 k0_pay29 Kb R0 (ix2 q x) = seen 0 w0 c0 K R j q (512 * j + x.val) := by
  refine (pay45_at ..).trans ?_
  rw [seen, dif_pos (by omega)]
  by_cases hx : x.val ≤ q.val
  · rw [if_pos ((pay29_iff q x).2 hx), if_pos (by omega)]
    exact plain_at 0 _ _ _ _ q _ _ j hj x (hK x) (hR0 x)
  · rw [if_neg fun e => hx ((pay29_iff q x).1 e), if_neg (by omega)]
include hK hR1 in
theorem diag1 (x : Fin 512) : k0_pay52 w1 c1 k0_pay29 (k0_pay43 Kb) R1 (ix2 q x) = seen 1 w1 c1 K R j q (512 * j + x.val) := by
  refine (pay52_at ..).trans ?_
  rw [seen, dif_pos (by omega)]
  by_cases hx : x.val ≤ q.val
  · rw [if_pos ((pay29_iff q x).2 hx), if_pos (by omega)]
    exact plain_at 1 _ _ _ _ q _ _ j hj x (fun y => (pay43_at (v52 := Kb) (q := x) (x := y)).trans (hK x y)) (hR1 x)
  · rw [if_neg fun e => hx ((pay29_iff q x).1 e), if_neg (by omega)]

include hj hV in
theorem vals_at (x : Fin 512) (y : Fin 128) : k0_pay44 Vb (ix2 x y) = lane1 V y (512 * j + x.val) := by
  refine (pay44_at (v55 := Vb) (q := x) (x := y)).trans ((hV x y).trans ?_)
  rw [lane1, dif_pos (by omega)]

include hp0 h hK hR0 in
/-- and what the rows end with. -/
theorem end_mass0 : k0_pay49 w0 c0 k0_pay29 acc.1 acc.2.1 Kb R0 (ix2 q 0) = total (seen 0 w0 c0 K R j q) (512 * j + 512) :=
  (congrFun (pay49_eq ..) _).trans ((mass_of ..).trans (step_mass hp0 (diag0 hj hK hR0) h.m0 h.l0))
include hp0 h hK hR0 hV in
theorem end_out0 (x : Fin 128) : k0_pay57 (k0_pay44 Vb) (k0_pay49 w0 c0 k0_pay29 acc.1 acc.2.1 Kb R0) (k0_pay50 w0 c0 k0_pay29 acc.1 acc.2.2.1 Kb R0) (k0_pay51 w0 c0 k0_pay29 acc.1 Kb R0) (constant S512x128 .f32 0x00000000#32) (ix2 q x)
    = Ideal.div (weighed (seen 0 w0 c0 K R j q) (lane1 V x) (512 * j + 512)) (total (seen 0 w0 c0 K R j q) (512 * j + 512)) :=
  (pay57_at ..).trans (congrArg₂ Ideal.div (step_sum hp0 (diag0 hj hK hR0) h.m0 x (h.a0 x) fun y => vals_at hj hV y x) (end_mass0 hj hp0 h hK hR0))
include hp0 h hK hR0 in
theorem end_log0 (x : Fin 128) : k0_pay58 (k0_pay46 w0 c0 k0_pay29 acc.1 Kb R0) (k0_pay49 w0 c0 k0_pay29 acc.1 acc.2.1 Kb R0) (ix4 0 0 q x)
    = best (seen 0 w0 c0 K R j q) (512 * j + 512) + Ideal.log (total (seen 0 w0 c0 K R j q) (512 * j + 512)) :=
  (pay58_at ..).trans (congrArg₂ (fun a b => a + Ideal.log b) ((pay46_at ..).trans (step_top (diag0 hj hK hR0) h.m0)) (end_mass0 hj hp0 h hK hR0))
include hp1 h hK hR1 hV in
theorem end_out1 (x : Fin 128) : k0_pay59 w1 c1 k0_pay29 acc.2.2.2.1 acc.2.2.2.2.1 acc.2.2.2.2.2 (k0_pay43 Kb) (k0_pay44 Vb) R1 (ix2 q x)
    = Ideal.div (weighed (seen 1 w1 c1 K R j q) (lane1 V x) (512 * j + 512)) (total (seen 1 w1 c1 K R j q) (512 * j + 512)) :=
  (pay59_at ..).trans (congrArg₂ Ideal.div (step_sum hp1 (diag1 hj hK hR1) h.m1 x (h.a1 x) fun y => vals_at hj hV y x) (step_mass hp1 (diag1 hj hK hR1) h.m1 h.l1))
include hp1 h hK hR1 in
theorem end_log1 (x : Fin 128) : k0_pay60 w1 c1 k0_pay29 acc.2.2.2.1 acc.2.2.2.2.1 (k0_pay43 Kb) R1 (ix2 q x)
    = best (seen 1 w1 c1 K R j q) (512 * j + 512) + Ideal.log (total (seen 1 w1 c1 K R j q) (512 * j + 512)) :=
  (pay60_at ..).trans (congrArg₂ (fun a b => a + Ideal.log b) (step_top (diag1 hj hK hR1) h.m1) (step_mass hp1 (diag1 hj hK hR1) h.m1 h.l1))

end Diagonal

theorem trips1_eq (i : grid0.Coords) : Scf.trips (k0_t1_loop i).lb (k0_t1_loop i).ub (k0_t1_loop i).st = (i 2).val := trips_eq i
theorem trips0_eq (i : grid0.Coords) : Scf.trips (k0_t2_loop i).lb (k0_t2_loop i).ub (k0_t2_loop i).st = 0 := trips2_eq i

/-- A head's score of the block's query `q` on key `k`, from the blocks. -/
def sees (n : Fin 2) (x0 : Vec Ideal S512x128 .bf16) (x2 : Vec Ideal S2048x128 .bf16) (x4 : Vec Ideal S1x2x512x128 .f32) (x5 : Vec Ideal S1x2x4x1x512 .f32) (j : ℕ) (q : Fin 512) (k : ℕ) : EReal :=
  if h : k < 2048 then (if k ≤ 512 * j + q.val then ((∑ y : Fin 64, x0 (ix2 q ⟨n.val * 64 + y.val, by omega⟩) * x2 (ix2 ⟨k, h⟩ ⟨n.val * 64 + y.val, by omega⟩)) * ((1 / 8 : ℝ) : EReal) + x4 (ix4 0 n q 0))
    - x5 (ix5 0 n ⟨k / 512, by omega⟩ 0 ⟨k % 512, by omega⟩) else ⊥) else ⊥

section Heads
variable {x0 : Vec Ideal S512x128 .bf16} {x2 : Vec Ideal S2048x128 .bf16} {x4 : Vec Ideal S1x2x512x128 .f32} {x5 : Vec Ideal S1x2x4x1x512 .f32}
variable (h0 : ∀ i, IsReal (x0 i)) (h2 : ∀ i, IsReal (x2 i)) (h4 : ∀ i, IsReal (x4 i)) (h5 : ∀ i, IsReal (x5 i)) (q : Fin 512)
include h0 h2

theorem plain0_eq (k : ℕ) (hk : k < 2048) : plain 0 (k0_pay25 x0) (k0_pay27 (Attn.headOf 0 x4)) x2 x5 q k hk
    = ((∑ y : Fin 64, x0 (ix2 q ⟨(0 : Fin 2).val * 64 + y.val, by omega⟩) * x2 (ix2 ⟨k, hk⟩ ⟨(0 : Fin 2).val * 64 + y.val, by omega⟩)) * ((1 / 8 : ℝ) : EReal) + x4 (ix4 0 0 q 0)) - x5 (ix5 0 0 ⟨k / 512, by omega⟩ 0 ⟨k % 512, by omega⟩) := by
  unfold plain
  rw [← Attn.scores_lane 0 (fun x => x0 (ix2 q x)) (fun x => x2 (ix2 ⟨k, hk⟩ x)) (fun _ => h0 _) (fun _ => h2 _)]
  simp only [pay25_at, pay27_at]
  rfl
theorem plain1_eq (k : ℕ) (hk : k < 2048) : plain 1 (k0_pay26 x0) (k0_pay28 (Attn.headOf 1 x4)) x2 x5 q k hk
    = ((∑ y : Fin 64, x0 (ix2 q ⟨(1 : Fin 2).val * 64 + y.val, by omega⟩) * x2 (ix2 ⟨k, hk⟩ ⟨(1 : Fin 2).val * 64 + y.val, by omega⟩)) * ((1 / 8 : ℝ) : EReal) + x4 (ix4 0 1 q 0)) - x5 (ix5 0 1 ⟨k / 512, by omega⟩ 0 ⟨k % 512, by omega⟩) := by
  unfold plain
  rw [← Attn.scores_lane 1 (fun x => x0 (ix2 q x)) (fun x => x2 (ix2 ⟨k, hk⟩ x)) (fun _ => h0 _) (fun _ => h2 _)]
  simp only [pay26_at, pay28_at]
  rfl

theorem seen0_eq (j : ℕ) : seen 0 (k0_pay25 x0) (k0_pay27 (Attn.headOf 0 x4)) x2 x5 j q = sees 0 x0 x2 x4 x5 j q :=
  funext fun k => by
    unfold seen sees
    simp only [plain0_eq h0 h2]
theorem seen1_eq (j : ℕ) : seen 1 (k0_pay26 x0) (k0_pay28 (Attn.headOf 1 x4)) x2 x5 j q = sees 1 x0 x2 x4 x5 j q :=
  funext fun k => by
    unfold seen sees
    simp only [plain1_eq h0 h2]

include h4 h5

theorem score_real (n : Fin 2) (k : ℕ) (hk : k < 2048) : IsReal (((∑ y : Fin 64, x0 (ix2 q ⟨n.val * 64 + y.val, by omega⟩) * x2 (ix2 ⟨k, hk⟩ ⟨n.val * 64 + y.val, by omega⟩)) * ((1 / 8 : ℝ) : EReal) + x4 (ix4 0 n q 0)) - x5 (ix5 0 n ⟨k / 512, by omega⟩ 0 ⟨k % 512, by omega⟩)) := by
  obtain ⟨s, hs⟩ := isReal_mul (isReal_sum Finset.univ (fun y : Fin 64 => x0 (ix2 q ⟨n.val * 64 + y.val, by omega⟩) * x2 (ix2 ⟨k, hk⟩ ⟨n.val * 64 + y.val, by omega⟩)) fun y _ => isReal_mul (h0 _) (h2 _)) ⟨1 / 8, rfl⟩
  obtain ⟨a, ha⟩ := h4 (ix4 0 n q 0)
  refine isReal_sub ?_ (h5 _)
  rw [hs, ha]
  exact ⟨s + a, (EReal.coe_add s a).symm⟩
theorem real0 (k : ℕ) (hk : k < 2048) : IsReal (plain 0 (k0_pay25 x0) (k0_pay27 (Attn.headOf 0 x4)) x2 x5 q k hk) := by
  rw [plain0_eq h0 h2]
  exact score_real h0 h2 h4 h5 q 0 k hk
theorem real1 (k : ℕ) (hk : k < 2048) : IsReal (plain 1 (k0_pay26 x0) (k0_pay28 (Attn.headOf 1 x4)) x2 x5 q k hk) := by
  rw [plain1_eq h0 h2]
  exact score_real h0 h2 h4 h5 q 1 k hk

end Heads

variable (c : Dev nD) (i : grid0.Coords)
  (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x2x512x128 .f32) (harg7 : arg7.IsWhole) (arg8 : Memref sig .tc .vmem S1x2x4x1x512 .f32) (harg8 : arg8.IsWhole) (arg9 : Memref sig .tc .vmem S512x128 .f32) (harg9 : arg9.IsWhole) (arg10 : Memref sig .tc .vmem S1x2x512x128 .f32) (harg10 : arg10.IsWhole) (arg11 : Memref sig .tc .vmem S512x128 .bf16) (harg11 : arg11.IsWhole)
    (x0 : Vec Ideal S512x128 .bf16) (x1 : Vec Ideal S512x128 .bf16) (x2 : Vec Ideal S2048x128 .bf16) (x3 : Vec Ideal S2048x128 .bf16) (x4 : Vec Ideal S1x2x512x128 .f32) (x5 : Vec Ideal S1x2x4x1x512 .f32)
  (h0 : ∀ i, IsReal (x0 i)) (h2 : ∀ i, IsReal (x2 i)) (h4 : ∀ i, IsReal (x4 i)) (h5 : ∀ i, IsReal (x5 i)) (q : Fin 512) (x : Fin 128)

/-- The carried values a point's sweep ends with. -/
def swept : FVec Ideal S512x1 .f32 × FVec Ideal S512x1 .f32 × FVec Ideal S512x128 .f32 × FVec Ideal S512x1 .f32 × FVec Ideal S512x1 .f32 × FVec Ideal S512x128 .f32 :=
  st_k0_t1 (F := Ideal) Variants.none c none i arg3 harg3 arg4 harg4 arg5 harg5 arg6 harg6 arg7 harg7 arg8 harg8 arg9 harg9 arg10 harg10 arg11 harg11 (BitVec.ofNat 32 (i 2).val) (k0_pay25 x0) (k0_pay26 x0) (k0_pay27 (Attn.headOf 0 x4)) (k0_pay28 (Attn.headOf 1 x4)) k0_pay29 (k0_pay30 (F := Ideal)) (harg5.unread x2) (harg6.unread x3) (harg8.unread x5) (k0_pay30 (F := Ideal), k0_pay31 (F := Ideal), k0_pay32 (F := Ideal), k0_pay30 (F := Ideal), k0_pay31 (F := Ideal), k0_pay32 (F := Ideal)) (i 2).val

/-- A point's diagonal block of keys, of values, and its rows of sums. -/
abbrev dK : Vec Ideal S512x128 .bf16 := arg5.view.readAt (Elt Ideal) (Rect.unit (s := S2048x128) (k0_off7 i) S512x128.size (k0_off7_inb i)).toLoadRect (harg5.unread x2)
abbrev dV : Vec Ideal S512x128 .bf16 := arg6.view.readAt (Elt Ideal) (Rect.unit (s := S2048x128) (k0_off7 i) S512x128.size (k0_off7_inb i)).toLoadRect (harg6.unread x3)
abbrev dR0 : Vec Ideal S1x1x1x1x512 .f32 := arg8.view.readAt (Elt Ideal) (Rect.unit (s := S1x2x4x1x512) (k0_off8 i) S1x1x1x1x512.size (k0_off8_inb i)).toLoadRect (harg8.unread x5)
abbrev dR1 : Vec Ideal S1x1x1x1x512 .f32 := arg8.view.readAt (Elt Ideal) (Rect.unit (s := S1x2x4x1x512) (k0_off9 i) S1x1x1x1x512.size (k0_off9_inb i)).toLoadRect (harg8.unread x5)

theorem ldQ : arg3.view.readAt (Elt Ideal) (Rect.unit (s := S512x128) ![0, 0] S512x128.size inb_S512x128_S512x128_0_0).toLoadRect (harg3.unread x0) = x0 := (Attn.ld_all arg3.view _ _).trans (harg3.read_unread x0)
theorem ldC0 : arg7.view.readAt (Elt Ideal) (Rect.unit (s := S1x2x512x128) ![0, 0, 0, 0] S1x1x512x128.size inb_S1x2x512x128_S1x1x512x128_0_0_0_0).toLoadRect (harg7.unread x4) = Attn.headOf 0 x4 := (Attn.ld_head arg7.view _ 0 _).trans (congrArg (Attn.headOf 0) (harg7.read_unread x4))
theorem ldC1 : arg7.view.readAt (Elt Ideal) (Rect.unit (s := S1x2x512x128) ![0, 1, 0, 0] S1x1x512x128.size inb_S1x2x512x128_S1x1x512x128_0_1_0_0).toLoadRect (harg7.unread x4) = Attn.headOf 1 x4 := (Attn.ld_head arg7.view _ 1 _).trans (congrArg (Attn.headOf 1) (harg7.read_unread x4))

theorem r9_eq : kernelRun0_A.sl.r_9 c i arg3 harg3 arg4 harg4 arg5 harg5 arg6 harg6 arg7 harg7 arg8 harg8 arg9 harg9 arg10 harg10 arg11 harg11 x0 x2 x3 x4 x5 = k0_pay46 (k0_pay25 x0) (k0_pay27 (Attn.headOf 0 x4)) k0_pay29 (swept c i arg3 harg3 arg4 harg4 arg5 harg5 arg6 harg6 arg7 harg7 arg8 harg8 arg9 harg9 arg10 harg10 arg11 harg11 x0 x2 x3 x4 x5).1 (dK i arg5 harg5 x2) (dR0 i arg8 harg8 x5) := by
  unfold swept
  unfold kernelRun0_A.sl.r_9
  try unfold kernelRun0_A.sl.r_12
  try unfold kernelRun0_A.sl.r_11
  try unfold kernelRun0_A.sl.r_10
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  rw [trips0_eq, st_k0_t2_zero, trips1_eq, ldQ, ldC0, ldC1]

theorem r10_eq : kernelRun0_A.sl.r_10 c i arg3 harg3 arg4 harg4 arg5 harg5 arg6 harg6 arg7 harg7 arg8 harg8 arg9 harg9 arg10 harg10 arg11 harg11 x0 x2 x3 x4 x5 = k0_pay49 (k0_pay25 x0) (k0_pay27 (Attn.headOf 0 x4)) k0_pay29 (swept c i arg3 harg3 arg4 harg4 arg5 harg5 arg6 harg6 arg7 harg7 arg8 harg8 arg9 harg9 arg10 harg10 arg11 harg11 x0 x2 x3 x4 x5).1 (swept c i arg3 harg3 arg4 harg4 arg5 harg5 arg6 harg6 arg7 harg7 arg8 harg8 arg9 harg9 arg10 harg10 arg11 harg11 x0 x2 x3 x4 x5).2.1 (dK i arg5 harg5 x2) (dR0 i arg8 harg8 x5) := by
  unfold swept
  unfold kernelRun0_A.sl.r_10
  try unfold kernelRun0_A.sl.r_12
  try unfold kernelRun0_A.sl.r_11
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  rw [trips0_eq, st_k0_t2_zero, trips1_eq, ldQ, ldC0, ldC1]

theorem r13_eq : kernelRun0_A.sl.r_13 c i arg3 harg3 arg4 harg4 arg5 harg5 arg6 harg6 arg7 harg7 arg8 harg8 arg9 harg9 arg10 harg10 arg11 harg11 x0 x2 x3 x4 x5 = k0_pay57 (k0_pay44 (dV i arg6 harg6 x3)) (k0_pay49 (k0_pay25 x0) (k0_pay27 (Attn.headOf 0 x4)) k0_pay29 (swept c i arg3 harg3 arg4 harg4 arg5 harg5 arg6 harg6 arg7 harg7 arg8 harg8 arg9 harg9 arg10 harg10 arg11 harg11 x0 x2 x3 x4 x5).1 (swept c i arg3 harg3 arg4 harg4 arg5 harg5 arg6 harg6 arg7 harg7 arg8 harg8 arg9 harg9 arg10 harg10 arg11 harg11 x0 x2 x3 x4 x5).2.1 (dK i arg5 harg5 x2) (dR0 i arg8 harg8 x5)) (k0_pay50 (k0_pay25 x0) (k0_pay27 (Attn.headOf 0 x4)) k0_pay29 (swept c i arg3 harg3 arg4 harg4 arg5 harg5 arg6 harg6 arg7 harg7 arg8 harg8 arg9 harg9 arg10 harg10 arg11 harg11 x0 x2 x3 x4 x5).1 (swept c i arg3 harg3 arg4 harg4 arg5 harg5 arg6 harg6 arg7 harg7 arg8 harg8 arg9 harg9 arg10 harg10 arg11 harg11 x0 x2 x3 x4 x5).2.2.1 (dK i arg5 harg5 x2) (dR0 i arg8 harg8 x5)) (k0_pay51 (k0_pay25 x0) (k0_pay27 (Attn.headOf 0 x4)) k0_pay29 (swept c i arg3 harg3 arg4 harg4 arg5 harg5 arg6 harg6 arg7 harg7 arg8 harg8 arg9 harg9 arg10 harg10 arg11 harg11 x0 x2 x3 x4 x5).1 (dK i arg5 harg5 x2) (dR0 i arg8 harg8 x5)) (constant S512x128 .f32 0x00000000#32) := by
  unfold swept kernelRun0_A.sl.r_13 kernelRun0_A.sl.cst_26
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  rw [trips0_eq, st_k0_t2_zero, trips1_eq, ldQ, ldC0, ldC1]

theorem r14_eq : kernelRun0_A.sl.r_14 c i arg3 harg3 arg4 harg4 arg5 harg5 arg6 harg6 arg7 harg7 arg8 harg8 arg9 harg9 arg10 harg10 arg11 harg11 x0 x2 x3 x4 x5 = k0_pay59 (k0_pay26 x0) (k0_pay28 (Attn.headOf 1 x4)) k0_pay29 (swept c i arg3 harg3 arg4 harg4 arg5 harg5 arg6 harg6 arg7 harg7 arg8 harg8 arg9 harg9 arg10 harg10 arg11 harg11 x0 x2 x3 x4 x5).2.2.2.1 (swept c i arg3 harg3 arg4 harg4 arg5 harg5 arg6 harg6 arg7 harg7 arg8 harg8 arg9 harg9 arg10 harg10 arg11 harg11 x0 x2 x3 x4 x5).2.2.2.2.1 (swept c i arg3 harg3 arg4 harg4 arg5 harg5 arg6 harg6 arg7 harg7 arg8 harg8 arg9 harg9 arg10 harg10 arg11 harg11 x0 x2 x3 x4 x5).2.2.2.2.2 (k0_pay43 (dK i arg5 harg5 x2)) (k0_pay44 (dV i arg6 harg6 x3)) (dR1 i arg8 harg8 x5) := by
  unfold swept
  unfold kernelRun0_A.sl.r_14
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  rw [trips0_eq, st_k0_t2_zero, trips1_eq, ldQ, ldC0, ldC1]

theorem r15_eq : kernelRun0_A.sl.r_15 c i arg3 harg3 arg4 harg4 arg5 harg5 arg6 harg6 arg7 harg7 arg8 harg8 arg9 harg9 arg10 harg10 arg11 harg11 x0 x2 x3 x4 x5 = k0_pay60 (k0_pay26 x0) (k0_pay28 (Attn.headOf 1 x4)) k0_pay29 (swept c i arg3 harg3 arg4 harg4 arg5 harg5 arg6 harg6 arg7 harg7 arg8 harg8 arg9 harg9 arg10 harg10 arg11 harg11 x0 x2 x3 x4 x5).2.2.2.1 (swept c i arg3 harg3 arg4 harg4 arg5 harg5 arg6 harg6 arg7 harg7 arg8 harg8 arg9 harg9 arg10 harg10 arg11 harg11 x0 x2 x3 x4 x5).2.2.2.2.1 (k0_pay43 (dK i arg5 harg5 x2)) (dR1 i arg8 harg8 x5) := by
  unfold swept
  unfold kernelRun0_A.sl.r_15
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  rw [trips0_eq, st_k0_t2_zero, trips1_eq, ldQ, ldC0, ldC1]

include h0 h2 h4 h5

theorem swept_holds : Holds (swept c i arg3 harg3 arg4 harg4 arg5 harg5 arg6 harg6 arg7 harg7 arg8 harg8 arg9 harg9 arg10 harg10 arg11 harg11 x0 x2 x3 x4 x5) q (seen 0 (k0_pay25 x0) (k0_pay27 (Attn.headOf 0 x4)) x2 x5 (i 2).val q) (seen 1 (k0_pay26 x0) (k0_pay28 (Attn.headOf 1 x4)) x2 x5 (i 2).val q) x3 (512 * (i 2).val) := by
  have h := st_holds Variants.none c none i arg3 harg3 arg4 harg4 arg5 harg5 arg6 harg6 arg7 harg7 arg8 harg8 arg9 harg9 arg10 harg10 arg11 harg11 (BitVec.ofNat 32 (i 2).val) (k0_pay25 x0) (k0_pay26 x0) (k0_pay27 (Attn.headOf 0 x4)) (k0_pay28 (Attn.headOf 1 x4)) k0_pay29 (k0_pay30 (F := Ideal))
    (harg5.unread x2) (harg6.unread x3) (harg8.unread x5) q
  rw [harg5.read_unread, harg6.read_unread, harg8.read_unread] at h
  exact h (real0 h0 h2 h4 h5 q) (real1 h0 h2 h4 h5 q) (i 2).val (le_refl _)

omit h0 h2 h4 h5 in
theorem dK_at (a : Fin 512) (y : Fin 128) : dK i arg5 harg5 x2 (ix2 a y) = x2 (ix2 ⟨512 * (i 2).val + a.val, by have h : (i 2).val < 4 := (i 2).isLt; omega⟩ y) :=
  (rd2 arg5.view (harg5.unread x2) (i 2).val (off7_eq i) _ a y _).trans (congrFun (harg5.read_unread x2) _)
omit h0 h2 h4 h5 in
theorem dV_at (a : Fin 512) (y : Fin 128) : dV i arg6 harg6 x3 (ix2 a y) = x3 (ix2 ⟨512 * (i 2).val + a.val, by have h : (i 2).val < 4 := (i 2).isLt; omega⟩ y) :=
  (rd2 arg6.view (harg6.unread x3) (i 2).val (off7_eq i) _ a y _).trans (congrFun (harg6.read_unread x3) _)
omit h0 h2 h4 h5 in
theorem dR0_at (a : Fin 512) : dR0 i arg8 harg8 x5 (ix5 0 0 0 0 a) = x5 (ix5 0 0 ⟨(i 2).val, (i 2).isLt⟩ 0 a) :=
  (rd5 arg8.view (harg8.unread x5) 0 (i 2).val (off8_eq i) _ a (i 2).isLt).trans (congrFun (harg8.read_unread x5) _)
omit h0 h2 h4 h5 in
theorem dR1_at (a : Fin 512) : dR1 i arg8 harg8 x5 (ix5 0 0 0 0 a) = x5 (ix5 0 1 ⟨(i 2).val, (i 2).isLt⟩ 0 a) :=
  (rd5 arg8.view (harg8.unread x5) 1 (i 2).val (off9_eq i) _ a (i 2).isLt).trans (congrFun (harg8.read_unread x5) _)

/-- A head's rows: the weighted values over the mass, -/
def goesOut (n : Fin 2) (x0 : Vec Ideal S512x128 .bf16) (x2 x3 : Vec Ideal S2048x128 .bf16) (x4 : Vec Ideal S1x2x512x128 .f32) (x5 : Vec Ideal S1x2x4x1x512 .f32) (j : ℕ) (q : Fin 512) (x : Fin 128) : EReal :=
  Ideal.div (weighed (sees n x0 x2 x4 x5 j q) (lane1 x3 x) (512 * j + 512)) (total (sees n x0 x2 x4 x5 j q) (512 * j + 512))
/-- and the logarithm of the sum of exponentials. -/
def goesLog (n : Fin 2) (x0 : Vec Ideal S512x128 .bf16) (x2 : Vec Ideal S2048x128 .bf16) (x4 : Vec Ideal S1x2x512x128 .f32) (x5 : Vec Ideal S1x2x4x1x512 .f32) (j : ℕ) (q : Fin 512) : EReal :=
  best (sees n x0 x2 x4 x5 j q) (512 * j + 512) + Ideal.log (total (sees n x0 x2 x4 x5 j q) (512 * j + 512))

theorem out0_at : kernelRun0_A.sl.r_13 c i arg3 harg3 arg4 harg4 arg5 harg5 arg6 harg6 arg7 harg7 arg8 harg8 arg9 harg9 arg10 harg10 arg11 harg11 x0 x2 x3 x4 x5 (ix2 q x) = goesOut 0 x0 x2 x3 x4 x5 (i 2).val q x := by
  have e := end_out0 (i 2).isLt (real0 h0 h2 h4 h5 q) (swept_holds c i arg3 harg3 arg4 harg4 arg5 harg5 arg6 harg6 arg7 harg7 arg8 harg8 arg9 harg9 arg10 harg10 arg11 harg11 x0 x2 x3 x4 x5 h0 h2 h4 h5 q) (dK_at i arg5 harg5 x2) (dV_at i arg6 harg6 x3) (dR0_at i arg8 harg8 x5) x
  rw [seen0_eq h0 h2] at e
  rw [r13_eq]
  exact e
theorem out1_at : kernelRun0_A.sl.r_14 c i arg3 harg3 arg4 harg4 arg5 harg5 arg6 harg6 arg7 harg7 arg8 harg8 arg9 harg9 arg10 harg10 arg11 harg11 x0 x2 x3 x4 x5 (ix2 q x) = goesOut 1 x0 x2 x3 x4 x5 (i 2).val q x := by
  have e := end_out1 (i 2).isLt (real1 h0 h2 h4 h5 q) (swept_holds c i arg3 harg3 arg4 harg4 arg5 harg5 arg6 harg6 arg7 harg7 arg8 harg8 arg9 harg9 arg10 harg10 arg11 harg11 x0 x2 x3 x4 x5 h0 h2 h4 h5 q) (dK_at i arg5 harg5 x2) (dV_at i arg6 harg6 x3) (dR1_at i arg8 harg8 x5) x
  rw [seen1_eq h0 h2] at e
  rw [r14_eq]
  exact e
theorem log0_at : k0_pay58 (kernelRun0_A.sl.r_9 c i arg3 harg3 arg4 harg4 arg5 harg5 arg6 harg6 arg7 harg7 arg8 harg8 arg9 harg9 arg10 harg10 arg11 harg11 x0 x2 x3 x4 x5) (kernelRun0_A.sl.r_10 c i arg3 harg3 arg4 harg4 arg5 harg5 arg6 harg6 arg7 harg7 arg8 harg8 arg9 harg9 arg10 harg10 arg11 harg11 x0 x2 x3 x4 x5) (ix4 0 0 q x) = goesLog 0 x0 x2 x4 x5 (i 2).val q := by
  have e := end_log0 (i 2).isLt (real0 h0 h2 h4 h5 q) (swept_holds c i arg3 harg3 arg4 harg4 arg5 harg5 arg6 harg6 arg7 harg7 arg8 harg8 arg9 harg9 arg10 harg10 arg11 harg11 x0 x2 x3 x4 x5 h0 h2 h4 h5 q) (dK_at i arg5 harg5 x2) (dR0_at i arg8 harg8 x5) x
  rw [seen0_eq h0 h2] at e
  rw [r9_eq, r10_eq]
  exact e
theorem log1_at : k0_pay1 (kernelRun0_A.sl.r_15 c i arg3 harg3 arg4 harg4 arg5 harg5 arg6 harg6 arg7 harg7 arg8 harg8 arg9 harg9 arg10 harg10 arg11 harg11 x0 x2 x3 x4 x5) (ix4 0 0 q x) = goesLog 1 x0 x2 x4 x5 (i 2).val q := by
  have e := end_log1 (i 2).isLt (real1 h0 h2 h4 h5 q) (swept_holds c i arg3 harg3 arg4 harg4 arg5 harg5 arg6 harg6 arg7 harg7 arg8 harg8 arg9 harg9 arg10 harg10 arg11 harg11 x0 x2 x3 x4 x5 h0 h2 h4 h5 q) (dK_at i arg5 harg5 x2) (dR1_at i arg8 harg8 x5) x
  rw [seen1_eq h0 h2] at e
  refine (pay1_at ..).trans ?_
  rw [r15_eq]
  exact e

/-- The two heads' lanes side by side. -/
theorem both_at (n : Fin 2) (hn : x.val / 64 = n.val) : k0_pay2 (kernelRun0_A.sl.r_13 c i arg3 harg3 arg4 harg4 arg5 harg5 arg6 harg6 arg7 harg7 arg8 harg8 arg9 harg9 arg10 harg10 arg11 harg11 x0 x2 x3 x4 x5) (kernelRun0_A.sl.r_14 c i arg3 harg3 arg4 harg4 arg5 harg5 arg6 harg6 arg7 harg7 arg8 harg8 arg9 harg9 arg10 harg10 arg11 harg11 x0 x2 x3 x4 x5) (ix2 q x) = goesOut n x0 x2 x3 x4 x5 (i 2).val q x := by
  refine (pay2_at ..).trans ?_
  match n, hn with
  | 0, hn =>
    refine (if_pos hn).trans ?_
    exact out0_at c i arg3 harg3 arg4 harg4 arg5 harg5 arg6 harg6 arg7 harg7 arg8 harg8 arg9 harg9 arg10 harg10 arg11 harg11 x0 x2 x3 x4 x5 h0 h2 h4 h5 q x
  | 1, hn =>
    refine (if_neg fun e => by rw [hn] at e; exact absurd e (by decide)).trans ?_
    exact out1_at c i arg3 harg3 arg4 harg4 arg5 harg5 arg6 harg6 arg7 harg7 arg8 harg8 arg9 harg9 arg10 harg10 arg11 harg11 x0 x2 x3 x4 x5 h0 h2 h4 h5 q x

/-- What a point leaves: the heads' rows, -/
theorem out6_at (n : Fin 2) (hn : x.val / 64 = n.val) : out0_A_6 c i arg3 harg3 arg4 harg4 arg5 harg5 arg6 harg6 arg7 harg7 arg8 harg8 arg9 harg9 arg10 harg10 arg11 harg11 x0 x1 x2 x3 x4 x5 (ix2 q x) = goesOut n x0 x2 x3 x4 x5 (i 2).val q x := by
  unfold out0_A_6 kernelRun0_A
  dsimp only
  refine (rd_whole ..).trans ?_
  exact both_at c i arg3 harg3 arg4 harg4 arg5 harg5 arg6 harg6 arg7 harg7 arg8 harg8 arg9 harg9 arg10 harg10 arg11 harg11 x0 x2 x3 x4 x5 h0 h2 h4 h5 q x n hn

/-- their logarithms, -/
theorem out7_at (n : Fin 2) : out0_A_7 c i arg3 harg3 arg4 harg4 arg5 harg5 arg6 harg6 arg7 harg7 arg8 harg8 arg9 harg9 arg10 harg10 arg11 harg11 x0 x1 x2 x3 x4 x5 (ix4 0 n q x) = goesLog n x0 x2 x4 x5 (i 2).val q := by
  unfold out0_A_7 kernelRun0_A
  dsimp only
  match n with
  | 0 =>
    refine (rd_first ..).trans ?_
    exact log0_at c i arg3 harg3 arg4 harg4 arg5 harg5 arg6 harg6 arg7 harg7 arg8 harg8 arg9 harg9 arg10 harg10 arg11 harg11 x0 x2 x3 x4 x5 h0 h2 h4 h5 q x
  | 1 =>
    refine (rd_second ..).trans ?_
    exact log1_at c i arg3 harg3 arg4 harg4 arg5 harg5 arg6 harg6 arg7 harg7 arg8 harg8 arg9 harg9 arg10 harg10 arg11 harg11 x0 x2 x3 x4 x5 h0 h2 h4 h5 q x

/-- and the rows under their gate. -/
theorem out8_at (n : Fin 2) (hn : x.val / 64 = n.val) : out0_A_8 c i arg3 harg3 arg4 harg4 arg5 harg5 arg6 harg6 arg7 harg7 arg8 harg8 arg9 harg9 arg10 harg10 arg11 harg11 x0 x1 x2 x3 x4 x5 (ix2 q x) = Ideal.logistic (x1 (ix2 q x)) * goesOut n x0 x2 x3 x4 x5 (i 2).val q x := by
  unfold out0_A_8 kernelRun0_A
  dsimp only
  refine (rd_whole ..).trans ((pay3_at ..).trans ?_)
  exact congrArg₂ (fun a b => Ideal.logistic a * b) (congrFun ((Attn.ld_all arg4.view _ _).trans (harg4.read_unread x1)) _) (both_at c i arg3 harg3 arg4 harg4 arg5 harg5 arg6 harg6 arg7 harg7 arg8 harg8 arg9 harg9 arg10 harg10 arg11 harg11 x0 x2 x3 x4 x5 h0 h2 h4 h5 q x n hn)

end Cert.Proof.Fwd

end
end
-- ==== Proof.FwdBlock.lean ====
/- The forward attention: the blocks of its arrays, from the arguments. -/
module

public import proofs.«01_k».proof.Proof.FwdPoint

@[expose] public section

set_option maxRecDepth 16384

noncomputable section

open Idealize.ShloMosaic Idealize.ShloMosaic.TcCoe Idealize.SL.Sem
open Cert.FwdKernelIdeal Cert.FwdKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Fwd

open Cert.Norm
open scoped BigOperators

variable (m : (ℓ : Loc nD τ sig) → Buf (Elt Ideal) ℓ)

abbrev aQ (c : Dev nD) : FVec Ideal S2x2048x2048 .bf16 := m ((c : Thread nD τ).loc main_arg0)
abbrev aK (c : Dev nD) : FVec Ideal S2x2048x2048 .bf16 := m ((c : Thread nD τ).loc main_arg1)
abbrev aC (c : Dev nD) : FVec Ideal S2x16x2048 .f32 := m ((c : Thread nD τ).loc main_arg2)

/-- The gates' sums spread over the lanes. -/
def lanesOf (x : FVec Ideal S2x16x2048 .f32) : FVec Ideal S2x16x2048x128 .f32 :=
  broadcastInDim S2x16x2048x128 ![0, 1, 2, 3] bcast_S2x16x2048x1_S2x16x2048x128_0_1_2_3 (broadcastInDim S2x16x2048x1 ![0, 1, 2] bcast_S2x16x2048_S2x16x2048x1_0_1_2 x)

theorem lanesOf_at (x : FVec Ideal S2x16x2048 .f32) (b : Fin 2) (h : Fin 16) (q : Fin 2048) (l : Fin 128) : lanesOf x (ix4 b h q l) = x (ix3 b h q) := by
  unfold lanesOf
  pointwise []

theorem V_q (c : Dev nD) : (V m c main_v3 : FVec Ideal S4096x2048 .bf16) = shapeCast S4096x2048 (aQ m c) := by
  unfold V; simp only [hostOps0, List.flatten_cons, List.flatten_nil, List.append_nil, List.cons_append, List.nil_append]; after_results; try rfl

theorem V_k (c : Dev nD) : (V m c main_v4 : FVec Ideal S4096x2048 .bf16) = shapeCast S4096x2048 (aK m c) := by
  unfold V; simp only [hostOps0, List.flatten_cons, List.flatten_nil, List.append_nil, List.cons_append, List.nil_append]; after_results; try rfl

theorem V_col (c : Dev nD) : (V m c main_v1 : FVec Ideal S2x16x2048x128 .f32) = lanesOf (aC m c) := by
  unfold V; simp only [hostOps0, List.flatten_cons, List.flatten_nil, List.append_nil, List.cons_append, List.nil_append]; after_results; try rfl

theorem V_row (c : Dev nD) : (V m c main_v2 : FVec Ideal S2x16x4x1x512 .f32) = shapeCast S2x16x4x1x512 (aC m c) := by
  unfold V; simp only [hostOps0, List.flatten_cons, List.flatten_nil, List.append_nil, List.cons_append, List.nil_append]; after_results; try rfl

theorem idx_val : ∀ t : Fin cfg0.N, win0_0.index t = ![t.val / 32 * 4 + t.val % 4, t.val / 4 % 8] ∧ win0_1.index t = ![t.val / 32 * 4 + t.val % 4, 8 + t.val / 4 % 8]
    ∧ win0_2.index t = ![t.val / 32, t.val / 4 % 8] ∧ win0_3.index t = ![t.val / 32, 8 + t.val / 4 % 8]
    ∧ win0_4.index t = ![t.val / 32, t.val / 4 % 8, t.val % 4, 0] ∧ win0_5.index t = ![t.val / 32, t.val / 4 % 8, 0, 0, 0]
    ∧ win0_6.index t = ![t.val / 32 * 4 + t.val % 4, t.val / 4 % 8] ∧ win0_7.index t = ![t.val / 32, t.val / 4 % 8, t.val % 4, 0] ∧ win0_8.index t = ![t.val / 32 * 4 + t.val % 4, t.val / 4 % 8] := (by decide +kernel : ∀ t : Fin grid0.N, _)

theorem coords_val : ∀ t : Fin cfg0.N, ((grid0.coords t) 2).val = t.val % 4 := (by decide +kernel : ∀ t : Fin grid0.N, _)

section
variable (t : Fin cfg0.N) (s : Fin 512) (r : Fin 2048) (l : Fin 128) (n : Fin 2)

theorem rdQ (i : Fin 4096) (k : Fin 2048) (X : FVec Ideal S4096x2048 .bf16) (hi : i.val = (t.val / 32 * 4 + t.val % 4) * 512 + s.val) (hk : k.val = t.val / 4 % 8 * 128 + l.val) :
    (show FVec Ideal S512x128 .bf16 from ((cfg0.win 0).blk t).view.read (Elt Ideal) X) (ix2 s l) = X (ix2 i k) := by
  blk_simp [idx_val t]; blk_ext [idx_val t]

theorem rdG (i : Fin 4096) (k : Fin 2048) (X : FVec Ideal S4096x2048 .bf16) (hi : i.val = (t.val / 32 * 4 + t.val % 4) * 512 + s.val) (hk : k.val = (8 + t.val / 4 % 8) * 128 + l.val) :
    (show FVec Ideal S512x128 .bf16 from ((cfg0.win 1).blk t).view.read (Elt Ideal) X) (ix2 s l) = X (ix2 i k) := by
  blk_simp [idx_val t]; blk_ext [idx_val t]

theorem rdK (i : Fin 4096) (k : Fin 2048) (X : FVec Ideal S4096x2048 .bf16) (hi : i.val = t.val / 32 * 2048 + r.val) (hk : k.val = t.val / 4 % 8 * 128 + l.val) :
    (show FVec Ideal S2048x128 .bf16 from ((cfg0.win 2).blk t).view.read (Elt Ideal) X) (ix2 r l) = X (ix2 i k) := by
  blk_simp [idx_val t]; blk_ext [idx_val t]

theorem rdV (i : Fin 4096) (k : Fin 2048) (X : FVec Ideal S4096x2048 .bf16) (hi : i.val = t.val / 32 * 2048 + r.val) (hk : k.val = (8 + t.val / 4 % 8) * 128 + l.val) :
    (show FVec Ideal S2048x128 .bf16 from ((cfg0.win 3).blk t).view.read (Elt Ideal) X) (ix2 r l) = X (ix2 i k) := by
  blk_simp [idx_val t]; blk_ext [idx_val t]

theorem rdC (b : Fin 2) (h : Fin 16) (q : Fin 2048) (X : FVec Ideal S2x16x2048x128 .f32) (hb : b.val = t.val / 32) (hh : h.val = t.val / 4 % 8 * 2 + n.val) (hq : q.val = t.val % 4 * 512 + s.val) :
    (show FVec Ideal S1x2x512x128 .f32 from ((cfg0.win 4).blk t).view.read (Elt Ideal) X) (ix4 0 n s l) = X (ix4 b h q l) := by
  blk_simp [idx_val t]; blk_ext [idx_val t]

theorem rdR (b : Fin 2) (h : Fin 16) (a : Fin 4) (X : FVec Ideal S2x16x4x1x512 .f32) (hb : b.val = t.val / 32) (hh : h.val = t.val / 4 % 8 * 2 + n.val) :
    (show FVec Ideal S1x2x4x1x512 .f32 from ((cfg0.win 5).blk t).view.read (Elt Ideal) X) (ix5 0 n a 0 s) = X (ix5 b h a 0 s) := by
  blk_simp [idx_val t]; blk_ext [idx_val t]

end

variable (c : Dev nD) (t : Fin cfg0.N)
variable (b : Fin 2) (h : Fin 16) (n : Fin 2) (hb : b.val = t.val / 32) (hh : h.val = t.val / 4 % 8 * 2 + n.val)
include hb hh

section
variable (s : Fin 512) (q : Fin 2048) (hq : q.val = t.val % 4 * 512 + s.val) (x : Fin 64)
include hq

theorem blkQ : (show FVec Ideal S512x128 .bf16 from iblk m c 0 t) (ix2 s ⟨n.val * 64 + x.val, by omega⟩) = aQ m c (ix3 b q (Attn.lo h x)) := by
  have ht : t.val < 64 := t.2
  refine (rdQ t s _ ⟨(t.val / 32 * 4 + t.val % 4) * 512 + s.val, by omega⟩ ⟨t.val / 4 % 8 * 128 + (n.val * 64 + x.val), by omega⟩ (V m c main_v3) rfl rfl).trans ((congrFun (V_q m c) _).trans ?_)
  unfold Attn.lo
  pointwise
  blk_ext

theorem blkG : (show FVec Ideal S512x128 .bf16 from iblk m c 1 t) (ix2 s ⟨n.val * 64 + x.val, by omega⟩) = aQ m c (ix3 b q (Attn.hi h x)) := by
  have ht : t.val < 64 := t.2
  refine (rdG t s _ ⟨(t.val / 32 * 4 + t.val % 4) * 512 + s.val, by omega⟩ ⟨(8 + t.val / 4 % 8) * 128 + (n.val * 64 + x.val), by omega⟩ (V m c main_v3) rfl rfl).trans ((congrFun (V_q m c) _).trans ?_)
  unfold Attn.hi
  pointwise
  blk_ext

omit x in
theorem blkC (l : Fin 128) : (show FVec Ideal S1x2x512x128 .f32 from iblk m c 4 t) (ix4 0 n s l) = aC m c (ix3 b h q) :=
  (rdC t s l n b h q (V m c main_v1) hb hh hq).trans ((congrFun (V_col m c) _).trans (lanesOf_at _ b h q l))

end

theorem blkK (r : Fin 2048) (x : Fin 64) : (show FVec Ideal S2048x128 .bf16 from iblk m c 2 t) (ix2 r ⟨n.val * 64 + x.val, by omega⟩) = aK m c (ix3 b r (Attn.lo h x)) := by
  have ht : t.val < 64 := t.2
  refine (rdK t r _ ⟨t.val / 32 * 2048 + r.val, by omega⟩ ⟨t.val / 4 % 8 * 128 + (n.val * 64 + x.val), by omega⟩ (V m c main_v4) rfl rfl).trans ((congrFun (V_k m c) _).trans ?_)
  unfold Attn.lo
  pointwise
  blk_ext

theorem blkV (r : Fin 2048) (x : Fin 64) : (show FVec Ideal S2048x128 .bf16 from iblk m c 3 t) (ix2 r ⟨n.val * 64 + x.val, by omega⟩) = aK m c (ix3 b r (Attn.hi h x)) := by
  have ht : t.val < 64 := t.2
  refine (rdV t r _ ⟨t.val / 32 * 2048 + r.val, by omega⟩ ⟨(8 + t.val / 4 % 8) * 128 + (n.val * 64 + x.val), by omega⟩ (V m c main_v4) rfl rfl).trans ((congrFun (V_k m c) _).trans ?_)
  unfold Attn.hi
  pointwise
  blk_ext

theorem blkR (r : Fin 2048) : (show FVec Ideal S1x2x4x1x512 .f32 from iblk m c 5 t) (ix5 0 n ⟨r.val / 512, by omega⟩ 0 ⟨r.val % 512, by omega⟩) = aC m c (ix3 b h r) := by
  refine (rdR t ⟨r.val % 512, by omega⟩ n b h ⟨r.val / 512, by omega⟩ (V m c main_v2) hb hh).trans ((congrFun (V_row m c) _).trans ?_)
  pointwise
  blk_ext

end Cert.Proof.Fwd

end
end
-- ==== Proof.FwdRow.lean ====
/- The forward attention's mathematics: a row of scores, its softmax and the values it weighs. -/
module

public import proofs.«01_k».proof.Proof.FwdOnline
public import proofs.«01_k».proof.Proof.AttnMath

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic

namespace Cert.Proof.Fwd

open scoped BigOperators
open Cert.Norm

variable (Q K : FVec Ideal S2x2048x2048 .bf16) (C : FVec Ideal S2x16x2048 .f32) (b : Fin 2) (h : Fin 16) (q : Fin 2048)

/-- A row of scores. -/
def row (k : ℕ) : EReal := if hk : k < 2048 then Attn.score Q K C b h q ⟨k, hk⟩ else ⊥

/-- A lane of the values. -/
def vals (x : Fin 64) (k : ℕ) : EReal := if hk : k < 2048 then K (ix3 b ⟨k, hk⟩ (Attn.hi h x)) else 0

/-- What the attention gives query `q` of head `h`. -/
def att (x : Fin 64) : EReal := ∑ k : Fin 2048, Attn.prob Q K C b h q k * K (ix3 b k (Attn.hi h x))

theorem row_at (k : Fin 2048) : row Q K C b h q k.val = Attn.score Q K C b h q k := dif_pos k.isLt

theorem row_past (c : ℕ) (hc : q.val < c) : row Q K C b h q c = ⊥ := by
  unfold row
  split
  · rw [Attn.score, if_neg (by dsimp only; omega)]
  · rfl

theorem best_all : best (row Q K C b h q) 2048 = Attn.top Q K C b h q := by
  have e := best_add (row Q K C b h q) 0 2048
  rw [Nat.zero_add] at e
  rw [e]
  refine (max_eq_right (by unfold best; rw [Finset.range_zero, Finset.fold_empty]; exact bot_le)).trans ?_
  unfold Attn.top
  simp only [Nat.zero_add, row_at]

theorem total_all : total (row Q K C b h q) 2048 = Attn.mass Q K C b h q := by
  unfold total Attn.mass
  rw [best_all, Finset.sum_range]
  simp only [row_at]

variable (hQ : ∀ b q h x, IsReal (Q (ix3 b q (Attn.lo h x)))) (hK : ∀ b q h x, IsReal (K (ix3 b q (Attn.lo h x)))) (hC : ∀ i, IsReal (C i))
include hQ hK hC

theorem row_low (c : ℕ) : Low (row Q K C b h q c) := by
  unfold row
  split
  · unfold Attn.score
    split
    · exact .inr (Attn.raw_real Q K C hQ hK hC b h q _)
    · exact .inl rfl
  · exact .inl rfl

theorem row_zero : IsReal (row Q K C b h q 0) := by
  unfold row
  rw [dif_pos (by omega), Attn.score, if_pos (Nat.zero_le _)]
  exact Attn.raw_real Q K C hQ hK hC b h q _

variable (N : ℕ) (hN : q.val < N) (hN' : N ≤ 2048)
include hN hN'

/-- The keys past the mask add nothing: a row's logarithm of the sum of exponentials, -/
theorem log_row : best (row Q K C b h q) N + Ideal.log (total (row Q K C b h q) N) = Attn.lse Q K C b h q := by
  have hb : ∀ c, N ≤ c → row Q K C b h q c = ⊥ := fun c hc => row_past Q K C b h q c (lt_of_lt_of_le hN hc)
  have e1 := best_ext (row Q K C b h q) N (2048 - N) hb
  have e2 := total_ext (row Q K C b h q) N (2048 - N) hb
  rw [Nat.add_sub_cancel' hN'] at e1 e2
  rw [← e1, ← e2, best_all, total_all, Attn.lse]

/-- and what the attention gives. -/
theorem out_row (x : Fin 64) : Ideal.div (weighed (row Q K C b h q) (vals K b h x) N) (total (row Q K C b h q) N) = att Q K C b h q x := by
  have hb : ∀ c, N ≤ c → row Q K C b h q c = ⊥ := fun c hc => row_past Q K C b h q c (lt_of_lt_of_le hN hc)
  have e1 := weighed_ext (row Q K C b h q) (vals K b h x) N (2048 - N) hb
  have e2 := total_ext (row Q K C b h q) N (2048 - N) hb
  rw [Nat.add_sub_cancel' hN'] at e1 e2
  rw [← e1, ← e2, weighed_div _ _ (row_low Q K C b h q hQ hK hC) (row_zero Q K C b h q hQ hK hC) 2048 (by omega), best_all, total_all, Finset.sum_range]
  unfold att Attn.prob
  refine Finset.sum_congr rfl fun k _ => ?_
  rw [row_at, vals, dif_pos k.isLt]

end Cert.Proof.Fwd

end
end
-- ==== Proof.FwdArr.lean ====
/- The forward attention: the whole of its results, from the arguments. -/
module

public import proofs.«01_k».proof.Proof.FwdBlock
public import proofs.«01_k».proof.Proof.FwdRow

@[expose] public section

set_option maxRecDepth 16384

noncomputable section

open Idealize.ShloMosaic Idealize.ShloMosaic.TcCoe Idealize.SL.Sem
open Cert.FwdKernelIdeal Cert.FwdKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Fwd

open Cert.Norm
open scoped BigOperators

variable (m : (ℓ : Loc nD τ sig) → Buf (Elt Ideal) ℓ) (c : Dev nD)
variable (hQ : ∀ b q h x, IsReal (aQ m c (ix3 b q (Attn.lo h x)))) (hK : ∀ b q h x, IsReal (aK m c (ix3 b q (Attn.lo h x)))) (hC : ∀ i, IsReal (aC m c i))

section
variable (t : Fin cfg0.N)

include hQ in
/-- The queries of a block are finite, -/
theorem realQ (i) : IsReal ((show FVec Ideal S512x128 .bf16 from iblk m c 0 t) i) := by
  have ht : t.val < 64 := t.2
  idx_vars i
  obtain ⟨n, x, rfl⟩ : ∃ (n : Fin 2) (x : Fin 64), i1 = ⟨n.val * 64 + x.val, by omega⟩ := ⟨⟨i1.val / 64, by omega⟩, ⟨i1.val % 64, by omega⟩, Fin.ext (by dsimp only; omega)⟩
  obtain ⟨v, hv⟩ := hQ ⟨t.val / 32, by omega⟩ ⟨t.val % 4 * 512 + i0.val, by omega⟩ ⟨t.val / 4 % 8 * 2 + n.val, by omega⟩ x
  exact ⟨v, (blkQ m c t ⟨t.val / 32, by omega⟩ ⟨t.val / 4 % 8 * 2 + n.val, by omega⟩ n rfl rfl i0 ⟨t.val % 4 * 512 + i0.val, by omega⟩ rfl x).trans hv⟩

include hK in
/-- and the keys, -/
theorem realK (i) : IsReal ((show FVec Ideal S2048x128 .bf16 from iblk m c 2 t) i) := by
  have ht : t.val < 64 := t.2
  idx_vars i
  obtain ⟨n, x, rfl⟩ : ∃ (n : Fin 2) (x : Fin 64), i1 = ⟨n.val * 64 + x.val, by omega⟩ := ⟨⟨i1.val / 64, by omega⟩, ⟨i1.val % 64, by omega⟩, Fin.ext (by dsimp only; omega)⟩
  obtain ⟨v, hv⟩ := hK ⟨t.val / 32, by omega⟩ i0 ⟨t.val / 4 % 8 * 2 + n.val, by omega⟩ x
  exact ⟨v, (blkK m c t ⟨t.val / 32, by omega⟩ ⟨t.val / 4 % 8 * 2 + n.val, by omega⟩ n rfl rfl i0 x).trans hv⟩

include hC in
/-- and the gates' sums. -/
theorem realC (i) : IsReal ((show FVec Ideal S1x2x512x128 .f32 from iblk m c 4 t) i) := by
  have ht : t.val < 64 := t.2
  idx_vars i
  obtain rfl : i0 = 0 := Subsingleton.elim _ _
  obtain ⟨v, hv⟩ := hC (ix3 ⟨t.val / 32, by omega⟩ ⟨t.val / 4 % 8 * 2 + i1.val, by omega⟩ ⟨t.val % 4 * 512 + i2.val, by omega⟩)
  exact ⟨v, (blkC m c t ⟨t.val / 32, by omega⟩ ⟨t.val / 4 % 8 * 2 + i1.val, by omega⟩ i1 rfl rfl i2 ⟨t.val % 4 * 512 + i2.val, by omega⟩ rfl i3).trans hv⟩

include hC in
theorem realR (i) : IsReal ((show FVec Ideal S1x2x4x1x512 .f32 from iblk m c 5 t) i) := by
  have ht : t.val < 64 := t.2
  idx_vars i
  obtain rfl : i0 = 0 := Subsingleton.elim _ _
  obtain rfl : i3 = 0 := Subsingleton.elim _ _
  obtain ⟨r, h2, h4⟩ : ∃ r : Fin 2048, i2 = ⟨r.val / 512, by omega⟩ ∧ i4 = ⟨r.val % 512, by omega⟩ := ⟨⟨i2.val * 512 + i4.val, by omega⟩, Fin.ext (by dsimp only; omega), Fin.ext (by dsimp only; omega)⟩
  subst h2 h4
  obtain ⟨v, hv⟩ := hC (ix3 ⟨t.val / 32, by omega⟩ ⟨t.val / 4 % 8 * 2 + i1.val, by omega⟩ r)
  exact ⟨v, (blkR m c t ⟨t.val / 32, by omega⟩ ⟨t.val / 4 % 8 * 2 + i1.val, by omega⟩ i1 rfl rfl r).trans hv⟩

variable (b : Fin 2) (h : Fin 16) (n : Fin 2) (hb : b.val = t.val / 32) (hh : h.val = t.val / 4 % 8 * 2 + n.val) (s : Fin 512) (q : Fin 2048) (hq : q.val = t.val % 4 * 512 + s.val)
include hb hh

include hq in
/-- A point's scores are a row's, -/
theorem sees_eq : sees n (iblk m c 0 t) (iblk m c 2 t) (iblk m c 4 t) (iblk m c 5 t) (t.val % 4) s = row (aQ m c) (aK m c) (aC m c) b h q := by
  funext k
  unfold sees row
  by_cases hk : k < 2048
  · rw [dif_pos hk, dif_pos hk]
    unfold Attn.score Attn.raw
    by_cases hr : k ≤ q.val
    · rw [if_pos (show (⟨k, hk⟩ : Fin 2048).val ≤ q.val from hr), if_pos (by omega : k ≤ 512 * (t.val % 4) + s.val)]
      refine congrArg₂ (· - ·) (congrArg₂ (· + ·) (congrArg (· * _) (Finset.sum_congr rfl fun x _ => ?_)) (blkC m c t b h n hb hh s q hq 0)) (blkR m c t b h n hb hh ⟨k, hk⟩)
      exact congrArg₂ (· * ·) (blkQ m c t b h n hb hh s q hq x) (blkK m c t b h n hb hh ⟨k, hk⟩ x)
    · rw [if_neg (show ¬ (⟨k, hk⟩ : Fin 2048).val ≤ q.val from hr), if_neg (by omega : ¬ k ≤ 512 * (t.val % 4) + s.val)]
  · rw [dif_neg hk, dif_neg hk]

/-- and so are its values. -/
theorem lane1_eq (x : Fin 64) : lane1 (iblk m c 3 t) ⟨n.val * 64 + x.val, by omega⟩ = vals (aK m c) b h x := by
  funext k
  unfold lane1 vals
  by_cases hk : k < 2048
  · rw [dif_pos hk, dif_pos hk]
    exact blkV m c t b h n hb hh ⟨k, hk⟩ x
  · rw [dif_neg hk, dif_neg hk]

include hq hQ hK hC

theorem goesOut_eq (x : Fin 64) : goesOut n (iblk m c 0 t) (iblk m c 2 t) (iblk m c 3 t) (iblk m c 4 t) (iblk m c 5 t) (t.val % 4) s ⟨n.val * 64 + x.val, by omega⟩ = att (aQ m c) (aK m c) (aC m c) b h q x := by
  unfold goesOut
  rw [sees_eq m c t b h n hb hh s q hq, lane1_eq m c t b h n hb hh s q]
  exact out_row (aQ m c) (aK m c) (aC m c) b h q hQ hK hC _ (by omega) (by omega) x

theorem goesLog_eq : goesLog n (iblk m c 0 t) (iblk m c 2 t) (iblk m c 4 t) (iblk m c 5 t) (t.val % 4) s = Attn.lse (aQ m c) (aK m c) (aC m c) b h q := by
  unfold goesLog
  rw [sees_eq m c t b h n hb hh s q hq]
  exact log_row (aQ m c) (aK m c) (aC m c) b h q hQ hK hC _ (by omega) (by omega)

theorem after6 (x : Fin 64) : (outsAt0 m c t).1 (ix2 s ⟨n.val * 64 + x.val, by omega⟩) = att (aQ m c) (aK m c) (aC m c) b h q x := by
  unfold outsAt0
  dsimp only
  refine (out6_at _ _ _ _ _ _ _ _ _ _ _ _ _ _ _ _ _ _ _ _ _ _ _ _ _ _ (realQ m c hQ t) (realK m c hK t) (realC m c hC t) (realR m c hC t) s _ n (by dsimp only; omega)).trans ?_
  rw [coords_val]
  exact goesOut_eq m c hQ hK hC t b h n hb hh s q hq x
theorem after7 (l : Fin 128) : (outsAt0 m c t).2.1 (ix4 0 n s l) = Attn.lse (aQ m c) (aK m c) (aC m c) b h q := by
  unfold outsAt0
  dsimp only
  refine (out7_at _ _ _ _ _ _ _ _ _ _ _ _ _ _ _ _ _ _ _ _ _ _ _ _ _ _ (realQ m c hQ t) (realK m c hK t) (realC m c hC t) (realR m c hC t) s l n).trans ?_
  rw [coords_val]
  exact goesLog_eq m c hQ hK hC t b h n hb hh s q hq
theorem after8 (x : Fin 64) : (outsAt0 m c t).2.2 (ix2 s ⟨n.val * 64 + x.val, by omega⟩) = Ideal.logistic (aQ m c (ix3 b q (Attn.hi h x))) * att (aQ m c) (aK m c) (aC m c) b h q x := by
  unfold outsAt0
  dsimp only
  refine (out8_at _ _ _ _ _ _ _ _ _ _ _ _ _ _ _ _ _ _ _ _ _ _ _ _ _ _ (realQ m c hQ t) (realK m c hK t) (realC m c hC t) (realR m c hC t) s _ n (by dsimp only; omega)).trans ?_
  rw [coords_val]
  exact congrArg₂ (fun a b => Ideal.logistic a * b) (blkG m c t b h n hb hh s q hq x) (goesOut_eq m c hQ hK hC t b h n hb hh s q hq x)

end

/-- The attention's output, as a table of rows, -/
def oRows (Q K : FVec Ideal S2x2048x2048 .bf16) (C : FVec Ideal S2x16x2048 .f32) : FVec Ideal S4096x1024 .f32 := fun i =>
  att Q K C ⟨(i 0).val / 2048, by have := (i 0).2; simp at this; omega⟩ ⟨(i 1).val / 64, by have := (i 1).2; simp at this; omega⟩ ⟨(i 0).val % 2048, by omega⟩ ⟨(i 1).val % 64, by omega⟩
/-- its logarithms of sums of exponentials, over the lanes, -/
def lseLanes (Q K : FVec Ideal S2x2048x2048 .bf16) (C : FVec Ideal S2x16x2048 .f32) : FVec Ideal S2x16x2048x128 .f32 := fun i =>
  Attn.lse Q K C (i 0) (i 1) (i 2)
/-- and the output under its gate. -/
def zRows (Q K : FVec Ideal S2x2048x2048 .bf16) (C : FVec Ideal S2x16x2048 .f32) : FVec Ideal S4096x1024 .bf16 := fun i =>
  Ideal.logistic (Q (ix3 ⟨(i 0).val / 2048, by have := (i 0).2; simp at this; omega⟩ ⟨(i 0).val % 2048, by omega⟩ (Attn.hi ⟨(i 1).val / 64, by have := (i 1).2; simp at this; omega⟩ ⟨(i 1).val % 64, by omega⟩))) * oRows Q K C i

include hQ hK hC

/-- What the call leaves in its three results. -/
theorem arr6 : (dats m 0 c).arrAt 6 cfg0.N = oRows (aQ m c) (aK m c) (aC m c) := by
  refine (dats m 0 c).arrAt_eq_of_covers 6 _ (by decide +kernel) fun t ht y => ?_
  blk_simp
  rw [after0_6]
  have key : ∀ y : S512x128.Idx, (outsAt0 m c t).1 y = oRows (aQ m c) (aK m c) (aC m c) (((View.whole main_v5_0).slice (win0_6.rect t)).emb y) := by
    intro y
    idx_vars y
    have hlt : t.val < 64 := t.2
    obtain ⟨n, x, rfl⟩ : ∃ (n : Fin 2) (x : Fin 64), y1 = ⟨n.val * 64 + x.val, by omega⟩ := ⟨⟨y1.val / 64, by omega⟩, ⟨y1.val % 64, by omega⟩, Fin.ext (by dsimp only; omega)⟩
    have e0 : ((((View.whole main_v5_0).slice (win0_6.rect t)).emb (ix2 y0 ⟨n.val * 64 + x.val, by omega⟩) : S4096x1024.Idx) 0).val = (t.val / 32 * 4 + t.val % 4) * 512 + y0.val := by
      blk_simp [idx_val t]; blk_ext [idx_val t]
    have e1 : ((((View.whole main_v5_0).slice (win0_6.rect t)).emb (ix2 y0 ⟨n.val * 64 + x.val, by omega⟩) : S4096x1024.Idx) 1).val = t.val / 4 % 8 * 128 + (n.val * 64 + x.val) := by
      blk_simp [idx_val t]; blk_ext [idx_val t]
    generalize ((View.whole main_v5_0).slice (win0_6.rect t)).emb (ix2 y0 ⟨n.val * 64 + x.val, by omega⟩) = i at e0 e1
    refine (after6 m c hQ hK hC t ⟨t.val / 32, by omega⟩ ⟨t.val / 4 % 8 * 2 + n.val, by omega⟩ n rfl rfl y0 ⟨t.val % 4 * 512 + y0.val, by omega⟩ rfl x).trans ?_
    unfold oRows
    congr 1
    · exact Fin.ext (by show t.val / 32 = (i 0).val / 2048; omega)
    · exact Fin.ext (by show t.val / 4 % 8 * 2 + n.val = (i 1).val / 64; omega)
    · exact Fin.ext (by show t.val % 4 * 512 + y0.val = (i 0).val % 2048; omega)
    · exact Fin.ext (by show x.val = (i 1).val % 64; omega)
  exact key y

theorem arr7 : (dats m 0 c).arrAt 7 cfg0.N = lseLanes (aQ m c) (aK m c) (aC m c) := by
  refine (dats m 0 c).arrAt_eq_of_covers 7 _ (by decide +kernel) fun t ht y => ?_
  blk_simp
  rw [after0_7]
  have key : ∀ y : S1x2x512x128.Idx, (outsAt0 m c t).2.1 y = lseLanes (aQ m c) (aK m c) (aC m c) (((View.whole main_v5_1).slice (win0_7.rect t)).emb y) := by
    intro y
    idx_vars y
    obtain rfl : y0 = 0 := Subsingleton.elim _ _
    have hlt : t.val < 64 := t.2
    have e0 : ((((View.whole main_v5_1).slice (win0_7.rect t)).emb (ix4 0 y1 y2 y3) : S2x16x2048x128.Idx) 0).val = t.val / 32 := by
      blk_simp [idx_val t]; exact Nat.add_zero _
    have e1 : ((((View.whole main_v5_1).slice (win0_7.rect t)).emb (ix4 0 y1 y2 y3) : S2x16x2048x128.Idx) 1).val = t.val / 4 % 8 * 2 + y1.val := by
      blk_simp [idx_val t]; blk_ext [idx_val t]
    have e2 : ((((View.whole main_v5_1).slice (win0_7.rect t)).emb (ix4 0 y1 y2 y3) : S2x16x2048x128.Idx) 2).val = t.val % 4 * 512 + y2.val := by
      blk_simp [idx_val t]; blk_ext [idx_val t]
    generalize ((View.whole main_v5_1).slice (win0_7.rect t)).emb (ix4 0 y1 y2 y3) = i at e0 e1 e2
    exact after7 m c hQ hK hC t (i 0) (i 1) y1 e0 e1 y2 (i 2) e2 y3
  exact key y

theorem arr8 : (dats m 0 c).arrAt 8 cfg0.N = zRows (aQ m c) (aK m c) (aC m c) := by
  refine (dats m 0 c).arrAt_eq_of_covers 8 _ (by decide +kernel) fun t ht y => ?_
  blk_simp
  rw [after0_8]
  have key : ∀ y : S512x128.Idx, (outsAt0 m c t).2.2 y = zRows (aQ m c) (aK m c) (aC m c) (((View.whole main_v5_2).slice (win0_8.rect t)).emb y) := by
    intro y
    idx_vars y
    have hlt : t.val < 64 := t.2
    obtain ⟨n, x, rfl⟩ : ∃ (n : Fin 2) (x : Fin 64), y1 = ⟨n.val * 64 + x.val, by omega⟩ := ⟨⟨y1.val / 64, by omega⟩, ⟨y1.val % 64, by omega⟩, Fin.ext (by dsimp only; omega)⟩
    have e0 : ((((View.whole main_v5_2).slice (win0_8.rect t)).emb (ix2 y0 ⟨n.val * 64 + x.val, by omega⟩) : S4096x1024.Idx) 0).val = (t.val / 32 * 4 + t.val % 4) * 512 + y0.val := by
      blk_simp [idx_val t]; blk_ext [idx_val t]
    have e1 : ((((View.whole main_v5_2).slice (win0_8.rect t)).emb (ix2 y0 ⟨n.val * 64 + x.val, by omega⟩) : S4096x1024.Idx) 1).val = t.val / 4 % 8 * 128 + (n.val * 64 + x.val) := by
      blk_simp [idx_val t]; blk_ext [idx_val t]
    generalize ((View.whole main_v5_2).slice (win0_8.rect t)).emb (ix2 y0 ⟨n.val * 64 + x.val, by omega⟩) = i at e0 e1
    refine (after8 m c hQ hK hC t ⟨t.val / 32, by omega⟩ ⟨t.val / 4 % 8 * 2 + n.val, by omega⟩ n rfl rfl y0 ⟨t.val % 4 * 512 + y0.val, by omega⟩ rfl x).trans ?_
    have a0 : (⟨t.val / 32, by omega⟩ : Fin 2) = ⟨(i 0).val / 2048, by omega⟩ := Fin.ext (by show t.val / 32 = (i 0).val / 2048; omega)
    have a1 : (⟨t.val / 4 % 8 * 2 + n.val, by omega⟩ : Fin 16) = ⟨(i 1).val / 64, by omega⟩ := Fin.ext (by show t.val / 4 % 8 * 2 + n.val = (i 1).val / 64; omega)
    have a2 : (⟨t.val % 4 * 512 + y0.val, by omega⟩ : Fin 2048) = ⟨(i 0).val % 2048, by omega⟩ := Fin.ext (by show t.val % 4 * 512 + y0.val = (i 0).val % 2048; omega)
    have a3 : x = ⟨(i 1).val % 64, by omega⟩ := Fin.ext (by show x.val = (i 1).val % 64; omega)
    have same : ∀ (b b' : Fin 2) (h h' : Fin 16) (q q' : Fin 2048) (x x' : Fin 64), b = b' → h = h' → q = q' → x = x' →
        (Ideal.logistic (aQ m c (ix3 b q (Attn.hi h x))) * att (aQ m c) (aK m c) (aC m c) b h q x : EReal) = Ideal.logistic (aQ m c (ix3 b' q' (Attn.hi h' x'))) * att (aQ m c) (aK m c) (aC m c) b' h' q' x' := by
      rintro b _ h _ q _ x _ rfl rfl rfl rfl
      rfl
    exact same _ _ _ _ _ _ _ _ a0 a1 a2 a3
  exact key y

end Cert.Proof.Fwd

end
end
-- ==== Proof.FwdRef.lean ====
/- What the reference computes for the attention. -/
module

public import proofs.«01_k».proof.Proof.AttnHostVal
public import proofs.«01_k».proof.Proof.FwdArr
public import proofs.«01_k».proof.Proof.Gen.FwdReferenceIdeal.Read

@[expose] public section

set_option maxRecDepth 16384

noncomputable section

open Idealize.ShloMosaic Idealize.ShloMosaic.TcCoe Idealize.SL.Sem
open Cert.AttnKernelIdeal Cert.AttnKernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Proof.Fwd

open Cert.Norm Cert.Proof.Attn
open Cert.FwdReferenceIdeal.Read

variable (Q K : FVec Ideal S2x2048x2048 .bf16) (C : FVec Ideal S2x16x2048 .f32)
variable (b : Fin 2) (h : Fin 16) (q k : Fin 2048) (x : Fin 64)

theorem r7_at : val_main_v7 (F := Ideal) Q (ix4 b h q x) = Q (ix3 b q (lo h x)) := by
  unfold lo
  pointwise [val_main_v7, val_main_v6, val_main_v1, val_main_v0]

theorem r9_at : val_main_v9 (F := Ideal) K (ix4 b h q x) = K (ix3 b q (lo h x)) := by
  unfold lo
  pointwise [val_main_v9, val_main_v8, val_main_v4, val_main_v3]

theorem r18_at : val_main_v18 (F := Ideal) Q K C (ix4 b h q k) = raw Q K C b h q k := by
  unfold raw
  pointwise [val_main_v18, val_main_v17, val_main_v16, val_main_v15, val_main_v14, val_main_v13, val_main_v12, val_main_v11, val_main_cst, val_main_v10, r7_at, r9_at, eighth_bits]

theorem r24_at : val_main_v24 (F := Ideal) (ix2 q k) = if k.val ≤ q.val then 1#1 else 0#1 := by
  pointwise [val_main_v24, val_main_v23, val_main_v22, val_main_v21, val_main_v20, val_main_v19, mask_eq]

theorem r25_at : val_main_v25 (F := Ideal) Q K C (ix4 b h q k) = score Q K C b h q k := by
  unfold score
  rw [← r18_at]
  unfold val_main_v25
  generalize val_main_v18 (F := Ideal) Q K C = s
  pointwise [val_main_call0_v1, val_main_call0_v2, val_main_call0_v0, val_main_cst_0, r24_at, bot_bits]
  split <;> rfl

theorem r26_at : val_main_v26 (F := Ideal) Q K C (ix3 b h q) = top Q K C b h q := by
  unfold val_main_v26 top
  refine (hostTop (val_main_v25 (F := Ideal) Q K C) ⊥ _ _ _ _ ?_ b h q).trans ?_
  · pointwise [val_main_cst_1, bot_bits]
  · simp only [r25_at]

theorem r30_at : val_main_v30 (F := Ideal) Q K C (ix4 b h q k) = Ideal.exp (score Q K C b h q k - top Q K C b h q) := by
  rw [← r25_at, ← r26_at]
  unfold val_main_v30 val_main_v29 val_main_v28 val_main_v27
  generalize val_main_v25 (F := Ideal) Q K C = s
  generalize val_main_v26 (F := Ideal) Q K C = t
  pointwise []

theorem r31_at : val_main_v31 (F := Ideal) Q K C (ix3 b h q) = mass Q K C b h q := by
  unfold val_main_v31 mass
  have e := r30_at Q K C b h q
  generalize val_main_v30 (F := Ideal) Q K C = s at e ⊢
  have hz : (val_main_cst_2 (F := Ideal)) (Shape.Idx.first Cert.FwdReferenceIdeal.Gen.h_S_) = 0 := by pointwise [val_main_cst_2, zero_bits]
  have e2 := hostSum s 0 _ _ Cert.FwdReferenceIdeal.Gen.reducesTo_S2x16x2048x2048_S2x16x2048_d3 Cert.FwdReferenceIdeal.Gen.h_S_ hz b h q
  rw [zero_add, Finset.sum_congr rfl fun k _ => e k] at e2
  exact e2

theorem add_of {a b c d : Ideal .f32} (e : a = c) (e' : b = d) : FloatOps.addf (F := Ideal) a b = (c + d : EReal) := by
  subst e e'; rfl

theorem mul_of {a b c d : Ideal .f32} (e : a = c) (e' : b = d) : FloatOps.mulf (F := Ideal) a b = (c * d : EReal) := by
  subst e e'; rfl

theorem log_of {a c : Ideal .f32} (e : a = c) : FloatOps.hostUnary (F := Ideal) .log a = Ideal.log c := by
  subst e; rfl

theorem r33_at : val_main_v33 (F := Ideal) Q K C (ix3 b h q) = lse Q K C b h q := by
  have e1 := r26_at Q K C b h q
  have e2 := (val_main_v32_apply (F := Ideal) Q K C (ix3 b h q)).trans (log_of (r31_at Q K C b h q))
  have e3 := val_main_v33_apply (F := Ideal) Q K C (ix3 b h q)
  unfold lse
  generalize val_main_v33 (F := Ideal) Q K C (ix3 b h q) = x at e3 ⊢
  generalize val_main_v32 (F := Ideal) Q K C (ix3 b h q) = y at e2 e3
  generalize val_main_v26 (F := Ideal) Q K C (ix3 b h q) = z at e1 e3
  exact e3.trans (add_of e1 e2)

/-- The rows' log-sums, over the lanes. -/
theorem r35_at (l : Fin 128) : val_main_v35 (F := Ideal) Q K C (ix4 b h q l) = lse Q K C b h q := by
  rw [← r33_at]
  unfold val_main_v35 val_main_v34
  generalize val_main_v33 (F := Ideal) Q K C = s
  pointwise []

theorem r36_at : val_main_v36 (F := Ideal) Q K C (ix3 b h q) = top Q K C b h q := by
  unfold val_main_v36 top
  refine (hostTop (val_main_v25 (F := Ideal) Q K C) ⊥ _ _ _ _ ?_ b h q).trans ?_
  · pointwise [val_main_cst_3, bot_bits]
  · simp only [r25_at]

theorem r37_at : val_main_v37 (F := Ideal) (ix3 b h q) = ⊥ := by
  pointwise [val_main_v37, val_main_cst_4, bot_bits]

theorem max_at (s t : FVec Ideal S2x16x2048 .f32) (i : S2x16x2048.Idx) : (maximumf s t : FVec Ideal S2x16x2048 .f32) i = max (s i) (t i) := rfl

theorem r38_at : val_main_v38 (F := Ideal) Q K C (ix3 b h q) = top Q K C b h q :=
  (max_at _ _ _).trans ((congrArg₂ max (r37_at b h q) (r36_at Q K C b h q)).trans (max_eq_right bot_le))

theorem r42_at : val_main_v42 (F := Ideal) Q K C (ix4 b h q k) = Ideal.exp (score Q K C b h q k - top Q K C b h q) := by
  rw [← r25_at, ← r38_at]
  unfold val_main_v42 val_main_v41 val_main_v40 val_main_v39
  generalize val_main_v25 (F := Ideal) Q K C = s
  generalize val_main_v38 (F := Ideal) Q K C = t
  pointwise []

theorem r43_at : val_main_v43 (F := Ideal) Q K C (ix3 b h q) = mass Q K C b h q := by
  unfold val_main_v43 mass
  have e := r42_at Q K C b h q
  generalize val_main_v42 (F := Ideal) Q K C = s at e ⊢
  have hz : (val_main_cst_5 (F := Ideal)) (Shape.Idx.first Cert.FwdReferenceIdeal.Gen.h_S_) = 0 := by pointwise [val_main_cst_5, zero_bits]
  have e2 := hostSum s 0 _ _ Cert.FwdReferenceIdeal.Gen.reducesTo_S2x16x2048x2048_S2x16x2048_d3 Cert.FwdReferenceIdeal.Gen.h_S_ hz b h q
  rw [zero_add, Finset.sum_congr rfl fun k _ => e k] at e2
  exact e2

theorem r46_at : val_main_v46 (F := Ideal) Q K C (ix4 b h q k) = prob Q K C b h q k := by
  rw [prob, ← r42_at, ← r43_at]
  unfold val_main_v46 val_main_v45 val_main_v44
  generalize val_main_v42 (F := Ideal) Q K C = s
  generalize val_main_v43 (F := Ideal) Q K C = t
  pointwise []

theorem r48_at : val_main_v48 (F := Ideal) K (ix4 b h q x) = K (ix3 b q (hi h x)) := by
  unfold hi
  pointwise [val_main_v48, val_main_v47, val_main_v5, val_main_v3]

theorem r49_at : val_main_v49 (F := Ideal) Q K C (ix4 b h q x) = att Q K C b h q x := by
  unfold att
  have e1 := r48_at K b h
  have e2 := r46_at Q K C b h
  unfold val_main_v49
  generalize val_main_v48 (F := Ideal) K = s at e1 ⊢
  generalize val_main_v46 (F := Ideal) Q K C = t at e2 ⊢
  pointwise [e1, e2]

theorem r51_at : val_main_v51 (F := Ideal) Q K C (ix3 b q (col h x)) = att Q K C b h q x := by
  rw [← r49_at]
  unfold val_main_v51 val_main_v50 col
  generalize val_main_v49 (F := Ideal) Q K C = s
  pointwise []

theorem r57_at (y : Fin 1024) (z : Fin 2048) (hz : z.val = 1024 + y.val) : val_main_v57 (F := Ideal) Q (ix3 b q y) = Ideal.logistic (Q (ix3 b q z)) := by
  have e : val_main_v2 (F := Ideal) Q (ix3 b q y) = Q (ix3 b q z) := by
    pointwise [val_main_v2, val_main_v0]
    congr 1
    idx_ext
  rw [← e]
  unfold val_main_v57 val_main_v55 val_main_v53 val_main_v52
  generalize val_main_v2 (F := Ideal) Q = g
  pointwise [val_main_v56, val_main_v54, val_main_cst_6, val_main_cst_7]
  rfl

theorem r58_at : val_main_v58 (F := Ideal) Q K C (ix3 b q (col h x)) = Ideal.logistic (Q (ix3 b q (hi h x))) * att Q K C b h q x := by
  have e1 := r57_at Q b q (col h x) (hi h x) rfl
  have e2 := r51_at Q K C b h q x
  have e3 := val_main_v58_apply (F := Ideal) Q K C (ix3 b q (col h x))
  generalize val_main_v58 (F := Ideal) Q K C (ix3 b q (col h x)) = X at e3 ⊢
  generalize val_main_v57 (F := Ideal) Q (ix3 b q (col h x)) = Y at e1 e3
  generalize val_main_v51 (F := Ideal) Q K C (ix3 b q (col h x)) = Z at e2 e3
  exact e3.trans (mul_of e1 e2)

variable (R : Fin 4096) (X : Fin 1024) (hR : R.val = b.val * 2048 + q.val) (hX : X.val = h.val * 64 + x.val)
include hR hX

theorem r59_at : val_main_v59 (F := Ideal) Q K C (ix2 R X) = att Q K C b h q x := by
  rw [← r51_at]
  unfold val_main_v59 col
  generalize val_main_v51 (F := Ideal) Q K C = s
  pointwise []
  congr 1
  idx_ext

theorem r61_at : val_main_v61 (F := Ideal) Q K C (ix2 R X) = Ideal.logistic (Q (ix3 b q (hi h x))) * att Q K C b h q x := by
  rw [← r58_at]
  unfold val_main_v61 val_main_v60 col
  generalize val_main_v58 (F := Ideal) Q K C = s
  pointwise []
  congr 1
  idx_ext

end Cert.Proof.Fwd

end
end
-- ==== Proof.FwdClaim.lean ====
/- The claims about the attention of the forward pass. -/
module

public import proofs.«01_k».proof.Defs
public import proofs.«01_k».proof.Proof.AttnClaim
public import proofs.«01_k».proof.Proof.FwdArr
public import proofs.«01_k».proof.Proof.FwdRef
public import proofs.«01_k».proof.Proof.Gen.FwdKernel.Frame
public import proofs.«01_k».proof.Proof.Gen.FwdReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Fwd

open Cert.Norm
open Cert.Proof.Attn (lo hi col all_of_reduce)

/-- The precondition's function states its side conditions. -/
instance preFacts : Cert.Pre_finite_fwd.Facts := ⟨by decide, by decide, by decide, by decide, by decide, by decide, by decide⟩

section
open Cert.FwdKernelIdeal Cert.FwdKernelIdeal.Gen

variable (Q K : FVec Ideal S2x2048x2048 .bf16) (C : FVec Ideal S2x16x2048 .f32)

/-- What the precondition says: the queries, the keys and the gates' sums are finite. -/
theorem pre_at (h : Cert.Pre_finite_fwd.fn (F := Ideal) Q K C = fun _ => 1#1) :
    (∀ b q h x, IsReal (Q (ix3 b q (lo h x)))) ∧ (∀ b q h x, IsReal (K (ix3 b q (lo h x)))) ∧ ∀ i, IsReal (C i) := by
  have two : ∀ x y : BitVec 1, IntOp.andi x y = 1#1 → x = 1#1 ∧ y = 1#1 := by decide
  have e := congrFun h ix0
  unfold Cert.Pre_finite_fwd.fn at e
  obtain ⟨e12, e3⟩ := two _ _ e
  obtain ⟨e1, e2⟩ := two _ _ e12
  refine ⟨fun b q h x => isReal_of_lt _ ?_, fun b q h x => isReal_of_lt _ ?_, fun i => isReal_of_lt _ ?_⟩
  · refine Eq.trans ?_ (all_of_reduce _ _ _ _ e1 (ix3 b q (col h x)))
    unfold lo col
    pointwise []
    rfl
  · refine Eq.trans ?_ (all_of_reduce _ _ _ _ e2 (ix3 b q (col h x)))
    unfold lo col
    pointwise []
    rfl
  · refine Eq.trans ?_ (all_of_reduce _ _ _ _ e3 i)
    pointwise []
    rfl

/-- What the kernel leaves, on every device. -/
theorem kernel_run (m : (ℓ : Loc nD τ sig) → Buf (Elt Ideal) ℓ) (g : Dev nD → PrngReg)
    (hp : ∀ c : Dev nD, (∀ b q h x, IsReal (aQ m c (ix3 b q (lo h x)))) ∧ (∀ b q h x, IsReal (aK m c (ix3 b q (lo h x)))) ∧ ∀ i, IsReal (aC m c i)) :
    θ_run (defs (F := Ideal)) (onTc (τ := τ) (main (F := Ideal))) ⟨m, fun _ => 0, g⟩ fun r => ∀ c : Dev nD,
      r.2.mem ((c.tc : Thread nD τ).loc main_v5_0) = oRows (m ((c.tc : Thread nD τ).loc main_arg0)) (m ((c.tc : Thread nD τ).loc main_arg1)) (m ((c.tc : Thread nD τ).loc main_arg2))
      ∧ r.2.mem ((c.tc : Thread nD τ).loc main_v5_1) = lseLanes (m ((c.tc : Thread nD τ).loc main_arg0)) (m ((c.tc : Thread nD τ).loc main_arg1)) (m ((c.tc : Thread nD τ).loc main_arg2))
      ∧ r.2.mem ((c.tc : Thread nD τ).loc main_v5_2) = zRows (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h.1 c).1 6).trans (arr6 m c (hp c).1 (hp c).2.1 (hp c).2.2),
       ((h.1 c).1 7).trans (arr7 m c (hp c).1 (hp c).2.1 (hp c).2.2),
       ((h.1 c).1 8).trans (arr8 m c (hp c).1 (hp c).2.1 (hp c).2.2), h.2 c⟩)
    (θ_run_and (run_main m g) (unchanged m g))

open Cert.FwdReferenceIdeal.Read

/-- The reference's tables are the kernel's. -/
theorem ref_o : val_main_v59 (F := Ideal) Q K C = oRows Q K C :=
  funext fun i => by
    idx_vars i
    refine r59_at Q K C ⟨i0.val / 2048, by omega⟩ ⟨i1.val / 64, by omega⟩ ⟨i0.val % 2048, by omega⟩ ⟨i1.val % 64, by omega⟩ i0 i1 ?_ ?_
    · show i0.val = i0.val / 2048 * 2048 + i0.val % 2048
      omega
    · show i1.val = i1.val / 64 * 64 + i1.val % 64
      omega

theorem ref_lse : val_main_v35 (F := Ideal) Q K C = lseLanes Q K C :=
  funext fun i => by
    idx_vars i
    exact r35_at Q K C i0 i1 i2 i3

theorem ref_z : val_main_v61 (F := Ideal) Q K C = zRows Q K C :=
  funext fun i => by
    idx_vars i
    refine r61_at Q K C ⟨i0.val / 2048, by omega⟩ ⟨i1.val / 64, by omega⟩ ⟨i0.val % 2048, by omega⟩ ⟨i1.val % 64, by omega⟩ i0 i1 ?_ ?_
    · show i0.val = i0.val / 2048 * 2048 + i0.val % 2048
      omega
    · show i1.val = i1.val / 64 * 64 + i1.val % 64
      omega

end

section
open Cert.FwdReferenceIdeal

/-- What the reference leaves, on every device. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v59) = oRows (m ((c.tc : Thread nD τ).loc main_arg0)) (m ((c.tc : Thread nD τ).loc main_arg1)) (m ((c.tc : Thread nD τ).loc main_arg2))
      ∧ r.2.mem ((c.tc : Thread nD τ).loc main_v35) = lseLanes (m ((c.tc : Thread nD τ).loc main_arg0)) (m ((c.tc : Thread nD τ).loc main_arg1)) (m ((c.tc : Thread nD τ).loc main_arg2))
      ∧ r.2.mem ((c.tc : Thread nD τ).loc main_v61) = zRows (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1.trans ((Read.val_main_v59_eq m c).trans (ref_o _ _ _)),
       (h c).2.1.trans ((Read.val_main_v35_eq m c).trans (ref_lse _ _ _)),
       (h c).2.2.1.trans ((Read.val_main_v61_eq m c).trans (ref_z _ _ _)), (h c).2.2.2⟩)
    (Value.run (F := Ideal) m g)

end

theorem algebraic : Cert.algebraic_FwdKernelIdeal_FwdReferenceIdeal_pre_finite_fwd := by
  pair_intro
  · run_from kernel_run m g fun c => pre_at _ _ _ (hpre c)
  · refine (θ_run Cert.FwdReferenceIdeal.defs _ _).mono (fun r h c => ?_) (ref_run m' g')
    obtain ⟨h1, h2, h3, h4⟩ := h c
    rw [(hagree c).1, (hagree c).2.1, (hagree c).2.2] at h1 h2 h3
    exact ⟨h1, h2, h3, h4⟩

theorem frame_ref : Cert.quiescent_FwdReferenceIdeal := fun m g _ =>
  (θ_run Cert.FwdReferenceIdeal.defs _ _).mono (fun r h => ⟨fun c => (h c).2.2.2, sem_eq_zero_of_no_sems (by decide) r.2⟩)
    (Cert.FwdReferenceIdeal.Value.run (F := Ideal) m g)

theorem claims : Cert.quiescent_FwdKernel ∧ Cert.quiescent_FwdKernelIdeal ∧ Cert.quiescent_FwdKernelIdeal_pre_finite_fwd ∧ Cert.quiescent_FwdReferenceIdeal
    ∧ Cert.quiescent_FwdReferenceIdeal_pre_finite_fwd
    ∧ Cert.preserves_FwdKernel_FwdKernelIdeal ∧ Cert.algebraic_FwdKernelIdeal_FwdReferenceIdeal_pre_finite_fwd :=
  ⟨fun m g _ => Cert.FwdKernel.Gen.frame m g, fun m g _ => Cert.FwdKernelIdeal.Gen.frame m g, fun m g _ => Cert.FwdKernelIdeal.Gen.frame m g, frame_ref,
    fun m g _ => frame_ref m g trivial, trivial, algebraic⟩

end Cert.Proof.Fwd

end
end
-- ==== Proof.GateArr.lean ====
/- What the arrays hold after the output gate's gradient has run. -/
module

public import proofs.«01_k».proof.Proof.Gen.GateKernelIdeal.Value
public import proofs.«01_k».proof.Proof.Gen.GateReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.GateKernelIdeal.Gate

open Cert.GateKernelIdeal Cert.GateKernelIdeal.Gen

variable (m : (ℓ : Loc nD τ sig) → Buf (Elt Ideal) ℓ)

abbrev aQ (c : Dev nD) : FVec Ideal S2x2048x2048 .bf16 := m ((c : Thread nD τ).loc main_arg0)
abbrev aK (c : Dev nD) : FVec Ideal S2x2048x2048 .bf16 := m ((c : Thread nD τ).loc main_arg1)
abbrev aC (c : Dev nD) : FVec Ideal S2x16x2048 .f32 := m ((c : Thread nD τ).loc main_arg2)
abbrev aZ (c : Dev nD) : FVec Ideal S2x2048x1024 .bf16 := m ((c : Thread nD τ).loc main_arg3)
abbrev aD (c : Dev nD) : FVec Ideal S2x2048x1024 .f32 := m ((c : Thread nD τ).loc main_arg4)

theorem V_z (c : Dev nD) : (V m c main_v41 : FVec Ideal S4096x1024 .bf16) = shapeCast S4096x1024 (aZ m c) := by
  unfold V; simp only [hostOps0, hostOps0_1, hostOps0_2, List.flatten_cons, List.flatten_nil, List.append_nil, List.cons_append, List.nil_append]; after_results; try rfl

theorem V_q (c : Dev nD) : (V m c main_v42 : FVec Ideal S4096x2048 .bf16) = shapeCast S4096x2048 (aQ m c) := by
  unfold V; simp only [hostOps0, hostOps0_1, hostOps0_2, List.flatten_cons, List.flatten_nil, List.append_nil, List.cons_append, List.nil_append]; after_results; try rfl

theorem V_d (c : Dev nD) : (V m c main_v44 : FVec Ideal S4096x1024 .f32) = shapeCast S4096x1024 (aD m c) := by
  unfold V; simp only [hostOps0, hostOps0_1, hostOps0_2, List.flatten_cons, List.flatten_nil, List.append_nil, List.cons_append, List.nil_append]; after_results; try rfl

theorem idx_val : ∀ t : Fin cfg0.N, win0_0.index t = ![t.val, 0] ∧ win0_1.index t = ![t.val, 1] ∧ win0_2.index t = ![t.val, 0]
    ∧ win0_3.index t = ![t.val, 0] ∧ win0_4.index t = ![t.val, 0] := (by decide +kernel : ∀ t : Fin grid0.N, _)

/-- The packed gradient at row `i` and column `l`: the queries' gradient first, the gate's behind it. -/
def gateAt (Q : FVec Ideal S2x2048x2048 .bf16) (O : FVec Ideal S2x2048x1024 .f32) (Z : FVec Ideal S2x2048x1024 .bf16) (D : FVec Ideal S2x2048x1024 .f32)
    (b : Fin 2) (s : Fin 2048) (l : Fin 2048) : EReal :=
  if h : l.val < 1024 then D (ix3 b s ⟨l.val, h⟩) else
    (Z (ix3 b s ⟨l.val - 1024, by omega⟩) * O (ix3 b s ⟨l.val - 1024, by omega⟩)) * Ideal.logistic (Q (ix3 b s l)) * (1 - Ideal.logistic (Q (ix3 b s l)))

/-- The packed gradient, as a table of rows. -/
def rows (Q : FVec Ideal S2x2048x2048 .bf16) (O : FVec Ideal S2x2048x1024 .f32) (Z : FVec Ideal S2x2048x1024 .bf16) (D : FVec Ideal S2x2048x1024 .f32) :
    FVec Ideal S4096x2048 .bf16 := fun i =>
  gateAt Q O Z D ⟨(i 0).val / 2048, by have := (i 0).2; simp at this; omega⟩ ⟨(i 0).val % 2048, by omega⟩ (i 1)

theorem rows_emb (O : FVec Ideal S2x2048x1024 .f32) (c : Dev nD) (t : Fin cfg0.N) (i : S4096x2048.Idx) (s : Fin 512) (l : Fin 2048) (b : Fin 2) (r : Fin 2048)
    (h0 : (i 0).val = t.val * 512 + s.val) (h1 : (i 1).val = l.val) (hb : b.val = t.val / 4) (hr : r.val = t.val % 4 * 512 + s.val) :
    rows (aQ m c) O (aZ m c) (aD m c) i = gateAt (aQ m c) O (aZ m c) (aD m c) b r l := by
  unfold rows
  have : t.val < 8 := t.2
  refine congr (congr (congrArg _ (Fin.ext ?_)) (Fin.ext ?_)) (Fin.ext h1)
  · show (i 0).val / 2048 = b.val
    omega
  · show (i 0).val % 2048 = r.val
    omega

variable (c : Dev nD) (t : Fin cfg0.N) (s : Fin 512) (l : Fin 1024) (b : Fin 2) (r : Fin 2048) (hb : b.val = t.val / 4) (hr : r.val = t.val % 4 * 512 + s.val)
include hb hr

omit hb hr in
theorem rd0 (X : FVec Ideal S4096x1024 .bf16) (i : Fin 4096) (hi : i.val = t.val * 512 + s.val) :
    (show FVec Ideal S512x1024 .bf16 from ((cfg0.win 0).blk t).view.read (Elt Ideal) X) (ix2 s l) = X (ix2 i l) := by
  blk_simp [idx_val t]; blk_ext [idx_val t]

omit hb hr in
theorem rd1 (X : FVec Ideal S4096x2048 .bf16) (i : Fin 4096) (hi : i.val = t.val * 512 + s.val) (k : Fin 2048) (hk : k.val = 1024 + l.val) :
    (show FVec Ideal S512x1024 .bf16 from ((cfg0.win 1).blk t).view.read (Elt Ideal) X) (ix2 s l) = X (ix2 i k) := by
  blk_simp [idx_val t]; blk_ext [idx_val t]

omit hb hr in
theorem rd2 (X : FVec Ideal S4096x1024 .f32) (i : Fin 4096) (hi : i.val = t.val * 512 + s.val) :
    (show FVec Ideal S512x1024 .f32 from ((cfg0.win 2).blk t).view.read (Elt Ideal) X) (ix2 s l) = X (ix2 i l) := by
  blk_simp [idx_val t]; blk_ext [idx_val t]

omit hb hr in
theorem rd3 (X : FVec Ideal S4096x1024 .f32) (i : Fin 4096) (hi : i.val = t.val * 512 + s.val) :
    (show FVec Ideal S512x1024 .f32 from ((cfg0.win 3).blk t).view.read (Elt Ideal) X) (ix2 s l) = X (ix2 i l) := by
  blk_simp [idx_val t]; blk_ext [idx_val t]

theorem blk0 : (show FVec Ideal S512x1024 .bf16 from iblk m c 0 t) (ix2 s l) = aZ m c (ix3 b r l) := by
  have ht : t.val < 8 := t.2
  refine (rd0 t s l (V m c main_v41) ⟨t.val * 512 + s.val, by omega⟩ rfl).trans ((congrFun (V_z m c) _).trans ?_)
  pointwise
  blk_ext

theorem blk1 (k : Fin 2048) (hk : k.val = 1024 + l.val) : (show FVec Ideal S512x1024 .bf16 from iblk m c 1 t) (ix2 s l) = aQ m c (ix3 b r k) := by
  have ht : t.val < 8 := t.2
  refine (rd1 t s l (V m c main_v42) ⟨t.val * 512 + s.val, by omega⟩ rfl k hk).trans ((congrFun (V_q m c) _).trans ?_)
  pointwise
  blk_ext

theorem blk2 (O : FVec Ideal S2x2048x1024 .f32) (hO : (V m c main_v43 : FVec Ideal S4096x1024 .f32) = shapeCast S4096x1024 O) : (show FVec Ideal S512x1024 .f32 from iblk m c 2 t) (ix2 s l) = O (ix3 b r l) := by
  have ht : t.val < 8 := t.2
  refine (rd2 t s l (V m c main_v43) ⟨t.val * 512 + s.val, by omega⟩ rfl).trans ((congrFun hO _).trans ?_)
  pointwise
  blk_ext

theorem blk3 : (show FVec Ideal S512x1024 .f32 from iblk m c 3 t) (ix2 s l) = aD m c (ix3 b r l) := by
  have ht : t.val < 8 := t.2
  refine (rd3 t s l (V m c main_v44) ⟨t.val * 512 + s.val, by omega⟩ rfl).trans ((congrFun (V_d m c) _).trans ?_)
  pointwise
  blk_ext

theorem gate_lo (O : FVec Ideal S2x2048x1024 .f32) (k : Fin 2048) (hk : k.val = l.val) :
    k0_pay1 (F := Ideal) (iblk m c 3 t) (ix2 s l) = gateAt (aQ m c) O (aZ m c) (aD m c) b r k := by
  unfold gateAt
  have hl : k.val < 1024 := by omega
  rw [dif_pos hl]
  pointwise [k0_pay1]
  refine (blk3 m c t s l b r hb hr).trans (congrArg (aD m c) ?_)
  idx_ext

theorem gate_hi (O : FVec Ideal S2x2048x1024 .f32) (hO : (V m c main_v43 : FVec Ideal S4096x1024 .f32) = shapeCast S4096x1024 O) (k : Fin 2048) (hk : k.val = 1024 + l.val) :
    k0_pay2 (F := Ideal) (iblk m c 1 t) (iblk m c 0 t) (iblk m c 2 t) (ix2 s l) = gateAt (aQ m c) O (aZ m c) (aD m c) b r k := by
  unfold gateAt
  have hl : ¬ k.val < 1024 := by omega
  have e : (⟨k.val - 1024, by omega⟩ : Fin 1024) = l := Fin.ext (show k.val - 1024 = l.val by omega)
  rw [dif_neg hl, e, ← blk0 m c t s l b r hb hr, ← blk1 m c t s l b r hb hr k hk, ← blk2 m c t s l b r hb hr O hO]
  pointwise [k0_pay2]

omit hb hr in
theorem arr4 (O : FVec Ideal S2x2048x1024 .f32) (hO : (V m c main_v43 : FVec Ideal S4096x1024 .f32) = shapeCast S4096x1024 O) : (dats m 0 c).arrAt 4 (cfgs 0).N = rows (aQ m c) O (aZ m c) (aD m c) := by
  refine (dats m 0 c).arrAt_eq_of_covers 4 _ (by decide +kernel) fun t _ y => ?_
  blk_simp
  rw [after0_4]
  have ht : t.val < 8 := t.2
  have key : ∀ y : S512x2048.Idx, out0_4 (F := Ideal) (iblk m c 0 t) (iblk m c 1 t) (iblk m c 2 t) (iblk m c 3 t) y
      = rows (aQ m c) O (aZ m c) (aD m c) (((View.whole main_v45).slice (win0_4.rect t)).emb y) := by
    intro y
    idx_vars y
    have hy : y0.val < 512 := y0.2
    rw [rows_emb m O c t _ y0 y1 ⟨t.val / 4, by omega⟩ ⟨t.val % 4 * 512 + y0.val, by omega⟩ (by blk_simp [idx_val t]) (by blk_simp [idx_val t]) rfl rfl]
    frame_out
    canon_tiles x h
    · idx_vars x
      obtain rfl : x0 = y0 := Fin.ext h0.symm
      exact gate_hi m c t x0 x1 _ _ rfl rfl O hO y1 h1
    · idx_vars x
      obtain rfl : x0 = y0 := Fin.ext h0.symm
      exact gate_lo m c t x0 x1 _ _ rfl rfl O y1 h1
  exact key y

end Cert.GateKernelIdeal.Gate

end
end
-- ==== Proof.GateRef.lean ====
/- What the reference computes for the output gate's gradient. -/
module

public import proofs.«01_k».proof.Proof.GateArr
public import proofs.«01_k».proof.Proof.Gen.GateReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.GateReferenceIdeal.Gate

open Cert.GateReferenceIdeal Cert.GateReferenceIdeal.Read

variable (Q K : FVec Ideal S2x2048x2048 .bf16) (C : FVec Ideal S2x16x2048 .f32) (Z : FVec Ideal S2x2048x1024 .bf16) (D : FVec Ideal S2x2048x1024 .f32)
variable (b : Fin 2) (s : Fin 2048)

theorem v11_at (l : Fin 1024) : val_main_v11 (F := Ideal) Q (ix3 b s l) = Ideal.logistic (Q (ix3 b s ⟨1024 + l.val, by omega⟩)) := by
  unfold Ideal.logistic
  pointwise [val_main_v11, val_main_v10, val_main_v9, val_main_v8, val_main_v7, val_main_v6, val_main_v2, val_main_v0, val_main_cst, val_main_cst_0]

theorem v54_at (l : Fin 1024) : val_main_v54 (F := Ideal) Q K C Z (ix3 b s l) = (Z (ix3 b s l) * val_main_v50 (F := Ideal) Q K C (ix3 b s l))
    * Ideal.logistic (Q (ix3 b s ⟨1024 + l.val, by omega⟩)) * (1 - Ideal.logistic (Q (ix3 b s ⟨1024 + l.val, by omega⟩))) := by
  rw [mul_assoc _ (Ideal.logistic _)]
  pointwise [val_main_v54, val_main_v53, val_main_v52, val_main_v14, val_main_v13, val_main_v12, val_main_cst_1, v11_at]

theorem v57_at (i : Fin 4096) (l : Fin 2048) (hi : i.val = b.val * 2048 + s.val) : val_main_v57 (F := Ideal) Q K C Z D (ix2 i l)
    = Cert.GateKernelIdeal.Gate.gateAt Q (val_main_v50 (F := Ideal) Q K C) Z D b s l := by
  unfold Cert.GateKernelIdeal.Gate.gateAt
  pointwise [val_main_v57, val_main_v56, val_main_v55]
  by_cases hl : l.val < 1024
  · refine (dif_pos hl).trans (Eq.trans ?_ (dif_pos hl).symm)
    refine congrArg D ?_
    idx_ext
  · refine (dif_neg hl).trans (Eq.trans ?_ (dif_neg hl).symm)
    have e : (⟨1024 + (l.val - 1024), by omega⟩ : Fin 2048) = l := Fin.ext (by show 1024 + (l.val - 1024) = l.val; omega)
    have h := v54_at Q K C Z b s ⟨l.val - 1024, by omega⟩
    rw [e] at h
    refine Eq.trans ?_ h
    refine congrArg (val_main_v54 (F := Ideal) Q K C Z) ?_
    idx_ext

end Cert.GateReferenceIdeal.Gate

end
end
-- ==== Proof.GateClaim.lean ====
/- The claims about the output gate's gradient. -/
module

public import proofs.«01_k».proof.Defs
public import proofs.«01_k».proof.Proof.GateArr
public import proofs.«01_k».proof.Proof.GateRef
public import proofs.«01_k».proof.Proof.Gen.GateKernel.Frame
public import proofs.«01_k».proof.Proof.Gen.GateReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Gate

section
open Cert.GateKernelIdeal Cert.GateKernelIdeal.Gen Cert.GateKernelIdeal.Gate

variable (m : (ℓ : Loc nD τ sig) → Buf (Elt Ideal) ℓ)

/-- The attention's output that the forward pass saved: the reference's own forward value. -/
theorem V_o (c : Dev nD) : (V m c main_v43 : FVec Ideal S4096x1024 .f32) = shapeCast S4096x1024 (Cert.GateReferenceIdeal.Read.val_main_v50 (F := Ideal) (aQ m c) (aK m c) (aC m c)) := by
  unfold V; simp only [hostOps0, hostOps0_1, hostOps0_2, List.flatten_cons, List.flatten_nil, List.append_nil, List.cons_append, List.nil_append]; after_results; try rfl

/-- What the kernel leaves, on every device. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v45) = rows (m ((c.tc : Thread nD τ).loc main_arg0))
          (Cert.GateReferenceIdeal.Read.val_main_v50 (F := Ideal) (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (arr4 m c _ (V_o m c)), (h c).2⟩) (Value.run_blocks (F := Ideal) m g)

end

section
open Cert.GateReferenceIdeal Cert.GateReferenceIdeal.Gate Cert.GateReferenceIdeal.Read

theorem ref_rows (Q K : FVec Ideal S2x2048x2048 .bf16) (C : FVec Ideal S2x16x2048 .f32) (Z : FVec Ideal S2x2048x1024 .bf16) (D : FVec Ideal S2x2048x1024 .f32) :
    val_main_v57 (F := Ideal) Q K C Z D = Cert.GateKernelIdeal.Gate.rows Q (val_main_v50 (F := Ideal) Q K C) Z D :=
  funext fun i => by
    idx_vars i
    refine v57_at Q K C Z D _ _ i0 i1 ?_
    show i0.val = i0.val / 2048 * 2048 + i0.val % 2048
    omega

end

theorem algebraic : Cert.algebraic_GateKernelIdeal_GateReferenceIdeal := by
  pair_intro
  · run_from kernel_run m g
  · run_from Cert.GateReferenceIdeal.Value.run (F := Ideal) m' g'
    · refine (Cert.GateReferenceIdeal.Read.val_main_v57_eq _ _).trans ?_
      rw [ref_rows, (hagree c).1, (hagree c).2.1, (hagree c).2.2.1, (hagree c).2.2.2.1, (hagree c).2.2.2.2]

theorem frame_ref : Cert.quiescent_GateReferenceIdeal := fun m g _ =>
  (θ_run Cert.GateReferenceIdeal.defs _ _).mono (fun r h => ⟨fun c => (h c).2, sem_eq_zero_of_no_sems (by decide) r.2⟩)
    (Cert.GateReferenceIdeal.Value.run (F := Ideal) m g)

theorem claims : Cert.quiescent_GateKernel ∧ Cert.quiescent_GateKernelIdeal ∧ Cert.quiescent_GateReferenceIdeal
    ∧ Cert.preserves_GateKernel_GateKernelIdeal ∧ Cert.algebraic_GateKernelIdeal_GateReferenceIdeal :=
  ⟨fun m g _ => Cert.GateKernel.Gen.frame m g, fun m g _ => Cert.GateKernelIdeal.Gen.frame m g, frame_ref, trivial, algebraic⟩

end Cert.Proof.Gate

end
end
-- ==== Proof.LossBlock.lean ====
/- What one block of the loss and its gradient computes, and what the arrays hold. -/
module

public import proofs.«01_k».proof.Proof.NormMath
public import proofs.«01_k».proof.Proof.Gen.LossKernelIdeal.Frame

@[expose] public section

set_option maxRecDepth 16384

noncomputable section

open Idealize.ShloMosaic Idealize.ShloMosaic.TcCoe Idealize.SL.Sem
open Idealize.ShloMosaic.Pipeline (Dat)
open scoped BigOperators

namespace Cert.LossKernelIdeal.Loss

open Cert.LossKernelIdeal Cert.LossKernelIdeal.Gen

/-- The mean of a row's squared differences. -/
def rowMean (y t : Fin 1024 → EReal) : EReal := Ideal.div (∑ k, (y k - t k) * (y k - t k)) (Ideal.ofBits .f32 0x44800000#32)

theorem pay1_at (y t : Vec Ideal S512x1024 .f32) (s : Fin 512) (k : Fin 1024) : k0_pay1 (F := Ideal) y t (ix2 s k) = y (ix2 s k) - t (ix2 s k) := by
  pointwise [k0_pay1]

theorem pay2_at (y t : Vec Ideal S512x1024 .f32) (a : Fin 8) (l : Fin 128) :
    k0_pay2 (F := Ideal) y t (ix2 a l) = ∑ s : Fin 512, rowMean (fun k => y (ix2 s k)) (fun k => t (ix2 s k)) := by
  unfold rowMean
  pointwise [k0_pay2, pay1_at]

theorem pay4_at (y t : Vec Ideal S512x1024 .f32) (s : Fin 512) (k : Fin 1024) :
    k0_pay4 (F := Ideal) y t (ix2 s k) = (y (ix2 s k) - t (ix2 s k)) * Ideal.ofBits .f32 0x3A800000#32 := by
  pointwise [k0_pay4, pay1_at]

variable (m : (ℓ : Loc nD τ sig) → Buf (Elt Ideal) ℓ)

abbrev aY (c : Dev nD) : FVec Ideal S2x2048x1024 .f32 := m ((c : Thread nD τ).loc main_arg0)
abbrev aT (c : Dev nD) : FVec Ideal S2x2048x1024 .f32 := m ((c : Thread nD τ).loc main_arg1)
abbrev flat (X : FVec Ideal S2x2048x1024 .f32) : FVec Ideal S4096x1024 .f32 := shapeCast S4096x1024 X

theorem V_y (c : Dev nD) : (V m c main_v0 : FVec Ideal S4096x1024 .f32) = flat (aY m c) := by
  unfold V V0; simp only [hostOps0, List.flatten_cons, List.flatten_nil, List.append_nil, List.cons_append, List.nil_append]; after_results; try rfl
theorem V_t (c : Dev nD) : (V m c main_v1 : FVec Ideal S4096x1024 .f32) = flat (aT m c) := by
  unfold V V0; simp only [hostOps0, List.flatten_cons, List.flatten_nil, List.append_nil, List.cons_append, List.nil_append]; after_results; try rfl

theorem idx_val : ∀ t : Fin cfg0.N, win0_0.index t = ![t.val, 0] ∧ win0_1.index t = ![t.val, 0] ∧ win0_2.index t = ![t.val, 0]
    ∧ win0_3.index t = ![0, 0] := (by decide +kernel : ∀ t : Fin grid0.N, _)

section
variable (t : Fin cfg0.N) (s : Fin 512) (i : Fin 4096) (hi : i.val = t.val * 512 + s.val)
include hi
theorem blk0 (X : FVec Ideal S4096x1024 .f32) (l : Fin 1024) : (show FVec Ideal S512x1024 .f32 from ((cfg0.win 0).blk t).view.read (Elt Ideal) X) (ix2 s l) = X (ix2 i l) := by
  blk_simp [idx_val t]; blk_ext [idx_val t]
theorem blk1 (X : FVec Ideal S4096x1024 .f32) (l : Fin 1024) : (show FVec Ideal S512x1024 .f32 from ((cfg0.win 1).blk t).view.read (Elt Ideal) X) (ix2 s l) = X (ix2 i l) := by
  blk_simp [idx_val t]; blk_ext [idx_val t]
end

/-- The gradient, all rows. -/
def dyRows (Y T : FVec Ideal S4096x1024 .f32) : FVec Ideal S4096x1024 .f32 := fun i => (Y i - T i) * Ideal.ofBits .f32 0x3A800000#32

/-- What one block adds to the loss, and the loss after all of them. -/
def tile (Y T : FVec Ideal S4096x1024 .f32) (n : ℕ) : EReal :=
  ∑ s : Fin 512, if h : n * 512 + s.val < 4096 then rowMean (fun k => Y (ix2 ⟨n * 512 + s.val, h⟩ k)) (fun k => T (ix2 ⟨n * 512 + s.val, h⟩ k)) else 0
def sums (Y T : FVec Ideal S4096x1024 .f32) : FVec Ideal S8x128 .f32 := fun _ => ∑ n ∈ Finset.range 8, tile Y T n

section
variable (c : Dev nD) (Y T : FVec Ideal S4096x1024 .f32) (hY : (V m c main_v0 : FVec Ideal S4096x1024 .f32) = Y) (hT : (V m c main_v1 : FVec Ideal S4096x1024 .f32) = T)

include hY in
theorem rd0 (t : Fin cfg0.N) (s : Fin 512) (l : Fin 1024) (i : Fin 4096) (hi : i.val = t.val * 512 + s.val) :
    (show FVec Ideal S512x1024 .f32 from iblk m c 0 t) (ix2 s l) = Y (ix2 i l) :=
  (blk0 t s i hi (V m c main_v0) l).trans (congrFun hY _)

include hT in
theorem rd1 (t : Fin cfg0.N) (s : Fin 512) (l : Fin 1024) (i : Fin 4096) (hi : i.val = t.val * 512 + s.val) :
    (show FVec Ideal S512x1024 .f32 from iblk m c 1 t) (ix2 s l) = T (ix2 i l) :=
  (blk1 t s i hi (V m c main_v1) l).trans (congrFun hT _)

include hY hT in
theorem tile_at (t : Fin cfg0.N) (a : Fin 8) (l : Fin 128) : k0_pay2 (F := Ideal) (iblk m c 0 t) (iblk m c 1 t) (ix2 a l) = tile Y T t.val := by
  rw [pay2_at]
  have ht : t.val < 8 := t.2
  refine Finset.sum_congr rfl fun s _ => ?_
  have hb : t.val * 512 + s.val < 4096 := by omega
  rw [dif_pos hb]
  exact congrArg₂ rowMean (funext fun k => rd0 m c Y hY t s k ⟨t.val * 512 + s.val, hb⟩ rfl) (funext fun k => rd1 m c T hT t s k ⟨t.val * 512 + s.val, hb⟩ rfl)

theorem parity : ∀ t : Fin cfg0.N, (t.val % 8 = 0 ∧ ¬ 1 ≤ t.val) ∨ (¬ t.val % 8 = 0 ∧ 1 ≤ t.val) :=
  (by decide +kernel : ∀ t : Fin grid0.N, _)

include hY hT in
theorem arr2 : (dats m 0 c).arrAt 2 (cfgs 0).N = dyRows Y T := by
  refine (dats m 0 c).arrAt_eq_of_covers 2 _ (by decide +kernel) fun t _ y => ?_
  blk_simp
  rw [after0_2]
  have key : ∀ y : S512x1024.Idx, k0_pay4 (F := Ideal) (iblk m c 0 t) (iblk m c 1 t) y = dyRows Y T (((View.whole main_v2_0).slice (win0_2.rect t)).emb y) := by
    intro y
    idx_vars y
    have ht : t.val < 8 := t.2
    rw [pay4_at]
    refine Eq.trans ?_ (congrArg (dyRows Y T) (a₁ := ix2 (⟨t.val * 512 + y0.val, by omega⟩ : Fin 4096) y1) ?_)
    · exact congrArg (· * Ideal.ofBits .f32 0x3A800000#32) (congrArg₂ (· - ·) (rd0 m c Y hY t y0 y1 _ rfl) (rd1 m c T hT t y0 y1 _ rfl))
    · blk_ext [idx_val t]
  rcases parity t with ⟨h0, h1⟩ | ⟨h0, h1⟩
  · rw [outsAt0_A m c t h0 h1]; frame_out; exact key y
  · rw [outsAt0_B m c t h0 h1]; frame_out; exact key y

include hY hT in
theorem acc_at (a : Fin 8) (l : Fin 128) : ∀ (n : ℕ) (hn : n < cfg0.N), (outsAt0 m c n hn).2 (ix2 a l) = ∑ k ∈ Finset.range (n + 1), tile Y T k := by
  intro n
  induction n with
  | zero =>
    intro hn
    have e := congrArg (fun p => p.2 (ix2 a l)) (outsAt0_A m c ⟨0, hn⟩ rfl (by simp))
    refine e.trans ?_
    rw [Finset.sum_range_one, ← tile_at m c Y T hY hT ⟨0, hn⟩ a l]
    frame_out
  | succ n ih =>
    intro hn
    have hn8 : n + 1 < 8 := hn
    have e := congrArg (fun p => p.2 (ix2 a l)) (outsAt0_B m c ⟨n + 1, hn⟩ (by show ¬ (n + 1) % 8 = 0; omega) (by show 1 ≤ n + 1; omega))
    refine e.trans ?_
    rw [Finset.sum_range_succ, ← tile_at m c Y T hY hT ⟨n + 1, hn⟩ a l, ← ih (Nat.lt_of_succ_lt hn)]
    frame_out
    pointwise [k0_pay3]
    rfl

theorem flush_last : ∀ t : Fin cfg0.N, (cfg0.win 3).flush t = true → t.val = 7 :=
  (by decide +kernel : ∀ t : Fin grid0.N, _)

include hY hT in
theorem arr3 : (dats m 0 c).arrAt 3 (cfgs 0).N = sums Y T := by
  refine (dats m 0 c).arrAt_eq_of_covers 3 _ (by decide +kernel) fun t hf y => ?_
  blk_simp
  rw [after0_3]
  have ho := flush_last t hf
  idx_vars y
  refine (acc_at m c Y T hY hT y0 y1 t.val t.isLt).trans ?_
  rw [ho]
  rfl
end

end Cert.LossKernelIdeal.Loss

end
end
-- ==== Proof.SumAll.lean ====
/- The sum over both axes of an array. -/
module

public import proofs.«01_k».proof.Proof.Sums

@[expose] public section

set_option maxRecDepth 16384

noncomputable section

open Idealize.ShloMosaic Idealize.ShloMosaic.TcCoe Idealize.SL.Sem
open Idealize.ShloMosaic.Pipeline (Dat)
open scoped BigOperators

namespace Cert.Sums

/-- Summing both axes away leaves the initial value plus the double sum. -/
theorem hostSumAll {n0 n1 : ℕ} (h : (⟨2, ![n0, n1]⟩ : Shape).ReducesTo [0, 1] ⟨0, ![]⟩) (x : (⟨2, ![n0, n1]⟩ : Shape).Idx → EReal)
    (init : EReal) (j : (⟨0, ![]⟩ : Shape).Idx) :
    Ideal.hostReduceAdd h x init j = init + ∑ a : Fin n0, ∑ b : Fin n1, x (ix2 a b) := by
  unfold Ideal.hostReduceAdd
  congr 1
  rw [← Finset.sum_product' Finset.univ Finset.univ (fun a b => x (ix2 a b))]
  symm
  refine Finset.sum_bij (fun p _ => ix2 p.1 p.2) ?_ ?_ ?_ ?_
  · intro p _
    rw [Finset.mem_filter]
    exact ⟨Finset.mem_univ _, funext fun a => a.elim0⟩
  · intro p _ q _ e
    exact Prod.ext (congrFun e 0) (congrFun e 1)
  · intro i _
    refine ⟨(i 0, i 1), by simp, ?_⟩
    funext a
    match a with
    | ⟨0, _⟩ => rfl
    | ⟨1, _⟩ => rfl
  · intro p _
    rfl

end Cert.Sums

end
end
-- ==== Proof.LossClaim.lean ====
/- The claims about the loss and its gradient. -/
module

public import proofs.«01_k».proof.Defs
public import proofs.«01_k».proof.Proof.LossBlock
public import proofs.«01_k».proof.Proof.SumAll
public import proofs.«01_k».proof.Proof.Gen.LossKernel.Frame
public import proofs.«01_k».proof.Proof.Gen.LossReferenceIdeal.Run
public import proofs.«01_k».proof.Proof.Gen.LossReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Loss

open Cert.LossKernelIdeal.Loss (dyRows sums tile rowMean flat)

section
open Cert.LossKernelIdeal Cert.LossKernelIdeal.Gen Cert.LossKernelIdeal.Loss

variable (m : (ℓ : Loc nD τ sig) → Buf (Elt Ideal) ℓ)

/-- Half of the sums' first entry. -/
def value (D : FVec Ideal S8x128 .f32) : FVec Ideal S_ .f32 :=
  mulf (constant S_ .f32 0x3F000000#32 : FVec Ideal S_ .f32) (shapeCast S_ (extractStridedSlice S1x1 ![0, 0] D slices_S8x128_S1x1_0_0) shapeCasts_S1x1_S_)

theorem tail_value (c : Dev nD) (D : FVec Ideal S8x128 .f32) (hD : (dats m 0 c).arrAt 3 (cfgs 0).N = D) :
    (Pipeline.afterTail₀ cfgs (dats m) 0 (V0 m) [hostOps1] c main_v5 : FVec Ideal S_ .f32) = value D := by
  unfold Pipeline.afterTail₀
  simp only [hostOps1, List.flatten_cons, List.flatten_nil, List.append_nil]
  after_results
  refine congrArg value (Eq.trans ?_ hD)
  exact Pipeline.withArrays_arr spec0 launch0.win.arr_inj c (V0 m c) (fun w => (dats m 0 c).arrAt w (cfgs 0).N) 3

/-- What the kernel leaves, on every device. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v2_0) = dyRows (flat (m ((c.tc : Thread nD τ).loc main_arg0))) (flat (m ((c.tc : Thread nD τ).loc main_arg1)))
      ∧ r.2.mem ((c.tc : Thread nD τ).loc main_v5) = value (sums (flat (m ((c.tc : Thread nD τ).loc main_arg0))) (flat (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h.1 c).1 2).trans (arr2 m c _ _ (V_y m c) (V_t m c)),
       ((h.1 c).2 main_v5 (Pipeline.mem_restRefs_of main_v5 (by decide) (by decide))).trans (tail_value m c _ (arr3 m c _ _ (V_y m c) (V_t m c))), h.2 c⟩)
    (θ_run_and (run_main m g) (unchanged m g))

end

section
open Cert.LossReferenceIdeal Cert.LossReferenceIdeal.Read

variable (Y T : FVec Ideal S2x2048x1024 .f32)

theorem x_at (X : FVec Ideal S2x2048x1024 .f32) (i : Fin 4096) (k : Fin 1024) (b : Fin 2) (s : Fin 2048) (hi : i.val = b.val * 2048 + s.val) : flat X (ix2 i k) = X (ix3 b s k) := by
  pointwise; blk_ext

/-- The two spellings of the factor. -/
theorem factor : Ideal.div (Ideal.ofBits .f32 0x3F000000#32 * Ideal.ofBits .f32 0x3F800000#32) (Ideal.ofBits .f32 0x44800000#32) * Ideal.ofBits .f32 0x40000000#32 = Ideal.ofBits .f32 0x3A800000#32 := by
  have e1 : Ideal.ofBits .f32 0x3F000000#32 = ((1 / 2 : ℝ) : EReal) := by simp [Ideal.ofBits, Ideal.ieee]; rw [← EReal.coe_mul]; norm_num
  have e2 : Ideal.ofBits .f32 0x3F800000#32 = ((1 : ℝ) : EReal) := by simp [Ideal.ofBits, Ideal.ieee]; rw [← EReal.coe_mul]; norm_num
  have e3 : Ideal.ofBits .f32 0x44800000#32 = ((1024 : ℝ) : EReal) := by simp [Ideal.ofBits, Ideal.ieee]; rw [← EReal.coe_mul]; norm_num
  have e4 : Ideal.ofBits .f32 0x40000000#32 = ((2 : ℝ) : EReal) := by simp [Ideal.ofBits, Ideal.ieee]; rw [← EReal.coe_mul]; norm_num
  have e5 : Ideal.ofBits .f32 0x3A800000#32 = ((1 / 1024 : ℝ) : EReal) := by simp [Ideal.ofBits, Ideal.ieee]; rw [← EReal.coe_mul]; norm_num
  rw [e1, e2, e3, e4, e5, ← EReal.coe_mul, Ideal.div_coe (by norm_num), ← EReal.coe_mul]
  norm_num
  rw [← EReal.coe_mul]
  norm_num

theorem ref_dy : val_main_v15 (F := Ideal) Y T = dyRows (flat Y) (flat T) :=
  funext fun i => by
    idx_vars i
    obtain ⟨b, s, hi⟩ : ∃ (b : Fin 2) (s : Fin 2048), i0.val = b.val * 2048 + s.val :=
      ⟨⟨i0.val / 2048, by omega⟩, ⟨i0.val % 2048, by omega⟩, by show i0.val = i0.val / 2048 * 2048 + i0.val % 2048; omega⟩
    show _ = (flat Y (ix2 i0 i1) - flat T (ix2 i0 i1)) * _
    rw [x_at Y i0 i1 b s hi, x_at T i0 i1 b s hi, ← factor]
    have el : val_main_v15 (F := Ideal) Y T (ix2 i0 i1) = val_main_v14 (F := Ideal) Y T (ix3 b s i1) := by
      pointwise [val_main_v15]
      blk_ext
    rw [el]
    pointwise [val_main_v14, val_main_v13, val_main_v12, val_main_v11, val_main_v10, val_main_v9, val_main_v3, val_main_v2, val_main_v0, val_main_cst, val_main_cst_4, val_main_cst_5, val_main_cst_6]
    rw [mul_comm (Y (ix3 b s i1) - T (ix3 b s i1)), mul_assoc]

theorem v6_at (b : Fin 2) (s : Fin 2048) : val_main_v6 (F := Ideal) Y T (ix2 b s) = rowMean (fun k => Y (ix3 b s k)) (fun k => T (ix3 b s k)) := by
  unfold rowMean
  pointwise [val_main_v6, val_main_v5, val_main_v4, val_main_v1, val_main_v0, val_main_cst_0, val_main_cst_1]

/-- The blocks' sums are the sum over all rows. -/
theorem sums_eq : ∑ n ∈ Finset.range 8, tile (flat Y) (flat T) n = ∑ b : Fin 2, ∑ s : Fin 2048, rowMean (fun k => Y (ix3 b s k)) (fun k => T (ix3 b s k)) := by
  let f : ℕ → EReal := fun i => if h : i < 4096 then rowMean (fun k => flat Y (ix2 ⟨i, h⟩ k)) (fun k => flat T (ix2 ⟨i, h⟩ k)) else 0
  have e : ∑ n ∈ Finset.range 8, tile (flat Y) (flat T) n = ∑ i : Fin (8 * 512), f i.val := by
    rw [Norm.sum_runs 8 512 f, Finset.sum_range]
    rfl
  rw [e]
  refine (Norm.sum_runs 2 2048 f).trans ?_
  refine Finset.sum_congr rfl fun b _ => Finset.sum_congr rfl fun s _ => ?_
  have hb : b.val * 2048 + s.val < 4096 := by omega
  show dite (b.val * 2048 + s.val < 4096) _ _ = _
  rw [dif_pos hb]
  exact congrArg₂ rowMean (funext fun k => x_at Y _ k b s rfl) (funext fun k => x_at T _ k b s rfl)

theorem ref_value : val_main_v8 (F := Ideal) Y T = value (sums (flat Y) (flat T)) :=
  funext fun i => by
    have el : val_main_v7 (F := Ideal) Y T i = ∑ b : Fin 2, ∑ s : Fin 2048, rowMean (fun k => Y (ix3 b s k)) (fun k => T (ix3 b s k)) := by
      show Ideal.hostReduceAdd _ _ _ _ = _
      rw [Cert.Sums.hostSumAll]
      pointwise [v6_at, val_main_cst_2]
    show Ideal.ofBits .f32 0x3F000000#32 * val_main_v7 (F := Ideal) Y T i = Ideal.ofBits .f32 0x3F000000#32 * ∑ n ∈ Finset.range 8, tile (flat Y) (flat T) n
    rw [el, sums_eq]

end

theorem algebraic : Cert.algebraic_LossKernelIdeal_LossReferenceIdeal := by
  pair_intro
  · run_from kernel_run m g
  · run_from Cert.LossReferenceIdeal.Value.run (F := Ideal) m' g'
    · refine (Cert.LossReferenceIdeal.Read.val_main_v15_eq _ _).trans ?_
      exact ref_dy _ _
    · refine (Cert.LossReferenceIdeal.Read.val_main_v8_eq _ _).trans ?_
      exact ref_value _ _

theorem frame_ref : Cert.quiescent_LossReferenceIdeal := fun m g _ =>
  (θ_run Cert.LossReferenceIdeal.defs _ _).mono (fun r h => ⟨fun c => (h c).2.2, sem_eq_zero_of_no_sems (by decide) r.2⟩)
    (Cert.LossReferenceIdeal.Value.run (F := Ideal) m g)

theorem claims : Cert.quiescent_LossKernel ∧ Cert.quiescent_LossKernelIdeal ∧ Cert.quiescent_LossReferenceIdeal
    ∧ Cert.preserves_LossKernel_LossKernelIdeal ∧ Cert.algebraic_LossKernelIdeal_LossReferenceIdeal :=
  ⟨fun m g _ => Cert.LossKernel.Gen.frame m g, fun m g _ => Cert.LossKernelIdeal.Gen.frame m g, frame_ref, trivial, algebraic⟩

end Cert.Proof.Loss

end
end
-- ==== Proof.NormGain.lean ====
/- The gradient of a norm's gain, summed over blocks. -/
module

public import proofs.«01_k».proof.Proof.NormMath

@[expose] public section

set_option maxRecDepth 16384

noncomputable section

open Idealize.ShloMosaic Idealize.ShloMosaic.TcCoe Idealize.SL.Sem
open Idealize.ShloMosaic.Pipeline (Dat)
open scoped BigOperators

namespace Cert.Norm

abbrev Rows : Shape := ⟨2, ![4096, 1024]⟩
abbrev Parts : Shape := ⟨2, ![64, 1024]⟩

/-- A gain's gradient, block by block in the first row of every eight: `H` the rows that were normed, `X` the gradient after the gain. -/
def dgRows (H X : FVec Ideal Rows .f32) : FVec Ideal Parts .f32 := fun i =>
  if (i 0).val % 8 = 0 then ∑ s : Fin 512, X (ix2 ⟨(i 0).val / 8 * 512 + s.val, by have : (i 0).val < 64 := (i 0).2; omega⟩ (i 1))
    * (H (ix2 ⟨(i 0).val / 8 * 512 + s.val, by have : (i 0).val < 64 := (i 0).2; omega⟩ (i 1)) * rn fun j => H (ix2 ⟨(i 0).val / 8 * 512 + s.val, by have : (i 0).val < 64 := (i 0).2; omega⟩ j)) else 0

theorem dgRows_at (H X : FVec Ideal Rows .f32) (i : Parts.Idx) (t a : Fin 8) (k : Fin 1024) (h0 : (i 0).val = t.val * 8 + a.val) (h1 : (i 1).val = k.val) :
    dgRows H X i = if a.val = 0 then ∑ s : Fin 512, X (ix2 (⟨t.val * 512 + s.val, by omega⟩ : Fin 4096) k)
      * (H (ix2 (⟨t.val * 512 + s.val, by omega⟩ : Fin 4096) k) * rn fun j => H (ix2 (⟨t.val * 512 + s.val, by omega⟩ : Fin 4096) j)) else 0 := by
  have h1' : i 1 = k := Fin.ext h1
  have hz : (t.val * 8 + a.val) % 8 = a.val := by omega
  have hd : (t.val * 8 + a.val) / 8 = t.val := by omega
  unfold dgRows
  simp only [h0, h1', hz, hd]

/-- The partial sums of all blocks add up to the sum over all rows. -/
theorem dgRows_sum (H X : FVec Ideal Rows .f32) (k : Fin 1024) :
    ∑ a : Fin 64, dgRows H X (ix2 a k) = ∑ b : Fin 2, ∑ s : Fin 2048, X (ix2 (⟨b.val * 2048 + s.val, by omega⟩ : Fin 4096) k)
      * (H (ix2 (⟨b.val * 2048 + s.val, by omega⟩ : Fin 4096) k) * rn fun j => H (ix2 (⟨b.val * 2048 + s.val, by omega⟩ : Fin 4096) j)) := by
  let f : ℕ → EReal := fun r => if h : r < 4096 then X (ix2 ⟨r, h⟩ k) * (H (ix2 ⟨r, h⟩ k) * rn fun j => H (ix2 ⟨r, h⟩ j)) else 0
  have e1 : ∀ a : Fin 64, dgRows H X (ix2 a k) = if a.val % 8 = 0 then ∑ s : Fin 512, f (a.val / 8 * 512 + s.val) else 0 := fun a => by
    refine if_congr Iff.rfl (Finset.sum_congr rfl fun s _ => ?_) rfl
    have hb : a.val / 8 * 512 + s.val < 4096 := by omega
    show _ = dite (a.val / 8 * 512 + s.val < 4096) _ _
    rw [dif_pos hb]
    rfl
  rw [Finset.sum_congr rfl fun a _ => e1 a, sum_first_of_eight 8 512 f, sum_runs 2 2048 f]
  refine Finset.sum_congr rfl fun b _ => Finset.sum_congr rfl fun s _ => ?_
  exact dif_pos (by omega : b.val * 2048 + s.val < 4096)

/-- A block's sum of products over the rows is the array's. -/
theorem dgRows_block (H X : FVec Ideal Rows .f32) (t : Fin 8) (k : Fin 1024) (h x : Fin 512 → Fin 1024 → EReal)
    (eh : ∀ s j, h s j = H (ix2 (⟨t.val * 512 + s.val, by omega⟩ : Fin 4096) j)) (ex : ∀ s, x s k = X (ix2 (⟨t.val * 512 + s.val, by omega⟩ : Fin 4096) k)) :
    ∑ s : Fin 512, x s k * (h s k * rn (h s)) = ∑ s : Fin 512, X (ix2 (⟨t.val * 512 + s.val, by omega⟩ : Fin 4096) k)
      * (H (ix2 (⟨t.val * 512 + s.val, by omega⟩ : Fin 4096) k) * rn fun j => H (ix2 (⟨t.val * 512 + s.val, by omega⟩ : Fin 4096) j)) :=
  Finset.sum_congr rfl fun s _ => by rw [ex s, eh s k, show h s = _ from funext (eh s)]

end Cert.Norm

end
end
-- ==== Proof.PostBlock.lean ====
/- What one block of the output product's gradient computes. -/
module

public import proofs.«01_k».proof.Proof.NormGain
public import proofs.«01_k».proof.Proof.Gen.PostKernelIdeal.Frame

@[expose] public section

set_option maxRecDepth 16384

noncomputable section

open Idealize.ShloMosaic Idealize.ShloMosaic.TcCoe Idealize.SL.Sem
open Idealize.ShloMosaic.Pipeline (Dat)
open scoped BigOperators

namespace Cert.PostKernelIdeal.Post

open Cert.PostKernelIdeal Cert.PostKernelIdeal.Gen
open Cert.Norm (dgRows dgRows_at dgRows_block)

theorem pay8_at (h x : Vec Ideal S512x1024 .f32) (g : Vec Ideal S1x1024 .f32) (s : Fin 512) (k : Fin 1024) :
    k0_pay8 (F := Ideal) h x g (ix2 s k)
      = Norm.kform (fun j => h (ix2 s j)) (fun j => x (ix2 s j) * g (ix2 0 j)) k := by
  unfold Norm.kform Norm.rn
  pointwise [k0_pay8, k0_pay6, k0_pay5, k0_pay4, k0_pay3]

theorem pay7_at (h x : Vec Ideal S512x1024 .f32) (a : Fin 8) (k : Fin 1024) :
    k0_pay7 (F := Ideal) h x (ix2 a k)
      = if a.val = 0 then ∑ s : Fin 512, x (ix2 s k) * (h (ix2 s k) * Norm.rn fun j => h (ix2 s j)) else 0 := by
  unfold Norm.rn
  pointwise [k0_pay7, k0_pay6, k0_pay5, k0_pay4, k0_pay3]
  word_cmp

theorem pay2_at (d : FVec Ideal S512x1024 .f32) (w : Vec Ideal S1024x1024 .bf16) (s : Fin 512) (k : Fin 1024) :
    k0_pay2 (F := Ideal) d w (ix2 s k) = ∑ j : Fin 1024, d (ix2 s j) * w (ix2 k j) := by
  pointwise [k0_pay2, k0_pay1]

variable (m : (ℓ : Loc nD τ sig) → Buf (Elt Ideal) ℓ)

abbrev aA (c : Dev nD) : FVec Ideal S2x2048x1024 .bf16 := m ((c : Thread nD τ).loc main_arg0)
abbrev aW (c : Dev nD) : FVec Ideal S1024x1024 .bf16 := m ((c : Thread nD τ).loc main_arg1)
abbrev aG (c : Dev nD) : FVec Ideal S1024 .f32 := m ((c : Thread nD τ).loc main_arg2)
abbrev aX (c : Dev nD) : FVec Ideal S2x2048x1024 .f32 := m ((c : Thread nD τ).loc main_arg3)

theorem V_x (c : Dev nD) : (V m c main_v3 : FVec Ideal S4096x1024 .f32) = shapeCast S4096x1024 (aX m c) := by
  unfold V V0; simp only [hostOps0, List.flatten_cons, List.flatten_nil, List.append_nil, List.cons_append, List.nil_append]; after_results; try rfl

theorem V_g (c : Dev nD) : (V m c main_v5 : FVec Ideal S1x1024 .f32) = shapeCast S1x1024 (aG m c) := by
  unfold V V0; simp only [hostOps0, List.flatten_cons, List.flatten_nil, List.append_nil, List.cons_append, List.nil_append]; after_results; try rfl

theorem V_h (c : Dev nD) : (V m c main_v4 : FVec Ideal S4096x1024 .f32) = shapeCast S4096x1024 (Host.dotGeneral dot_S2x2048x1024_S1024x1024_S2x2048x1024_2_0_01_1_n_n none
    (extf .f32 (aA m c) bitsLt_bf16_f32) (extf .f32 (aW m c) bitsLt_bf16_f32) : FVec Ideal S2x2048x1024 .f32) := by
  unfold V V0; simp only [hostOps0, List.flatten_cons, List.flatten_nil, List.append_nil, List.cons_append, List.nil_append]; after_results; try rfl

theorem idx_val : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0] := (by decide +kernel : ∀ t : Fin grid0.N, _)

section
variable (c : Dev nD) (t : Fin cfg0.N) (s : Fin 512) (l : Fin 1024) (i : Fin 4096) (hi : i.val = t.val * 512 + s.val)
include hi

theorem blk0 (X : FVec Ideal S4096x1024 .f32) : (show FVec Ideal S512x1024 .f32 from ((cfg0.win 0).blk t).view.read (Elt Ideal) X) (ix2 s l) = X (ix2 i l) := by
  blk_simp [idx_val t]; blk_ext [idx_val t]

theorem blk1 (X : FVec Ideal S4096x1024 .f32) : (show FVec Ideal S512x1024 .f32 from ((cfg0.win 1).blk t).view.read (Elt Ideal) X) (ix2 s l) = X (ix2 i l) := by
  blk_simp [idx_val t]; blk_ext [idx_val t]
end

theorem blk2 (t : Fin cfg0.N) (X : FVec Ideal S1x1024 .f32) : (show FVec Ideal S1x1024 .f32 from ((cfg0.win 2).blk t).view.read (Elt Ideal) X) = X := by
  funext y
  idx_vars y
  blk_simp [idx_val t]; blk_ext [idx_val t]

theorem blk3 (t : Fin cfg0.N) (X : FVec Ideal S1024x1024 .bf16) : (show FVec Ideal S1024x1024 .bf16 from ((cfg0.win 3).blk t).view.read (Elt Ideal) X) = X := by
  funext y
  idx_vars y
  blk_simp [idx_val t]; blk_ext [idx_val t]

/-- The gradient before the norm, all rows: from the row, the gradient after the norm and the gain. -/
def dhRows (H X : FVec Ideal S4096x1024 .f32) (G : FVec Ideal S1x1024 .f32) : FVec Ideal S4096x1024 .bf16 := fun i =>
  Norm.kform (fun j => H (ix2 (i 0) j)) (fun j => X (ix2 (i 0) j) * G (ix2 0 j)) (i 1)

/-- The gradient before the product. -/
def daRows (H X : FVec Ideal S4096x1024 .f32) (G : FVec Ideal S1x1024 .f32) (W : FVec Ideal S1024x1024 .bf16) : FVec Ideal S4096x1024 .bf16 := fun i =>
  ∑ j : Fin 1024, dhRows H X G (ix2 (i 0) j) * W (ix2 (i 1) j)

section
variable (c : Dev nD) (H X : FVec Ideal S4096x1024 .f32) (G : FVec Ideal S1x1024 .f32) (hH : (V m c main_v4 : FVec Ideal S4096x1024 .f32) = H) (hX : (V m c main_v3 : FVec Ideal S4096x1024 .f32) = X) (hG : (V m c main_v5 : FVec Ideal S1x1024 .f32) = G)

include hX in
theorem rd0 (t : Fin cfg0.N) (s : Fin 512) (l : Fin 1024) (i : Fin 4096) (hi : i.val = t.val * 512 + s.val) :
    (show FVec Ideal S512x1024 .f32 from iblk m c 0 t) (ix2 s l) = X (ix2 i l) :=
  (blk0 t s l i hi (V m c main_v3)).trans (congrFun hX _)

include hH in
theorem rd1 (t : Fin cfg0.N) (s : Fin 512) (l : Fin 1024) (i : Fin 4096) (hi : i.val = t.val * 512 + s.val) :
    (show FVec Ideal S512x1024 .f32 from iblk m c 1 t) (ix2 s l) = H (ix2 i l) :=
  (blk1 t s l i hi (V m c main_v4)).trans (congrFun hH _)

include hG in
theorem rd2 (t : Fin cfg0.N) (l : Fin 1024) : (show FVec Ideal S1x1024 .f32 from iblk m c 2 t) (ix2 0 l) = G (ix2 0 l) :=
  (congrFun (blk2 t (V m c main_v5)) _).trans (congrFun hG _)

theorem rd3 (t : Fin cfg0.N) (k l : Fin 1024) : (show FVec Ideal S1024x1024 .bf16 from iblk m c 3 t) (ix2 k l) = aW m c (ix2 k l) :=
  (congrFun (blk3 t (V m c main_arg1)) _).trans (congrFun (V_main_arg1 m c) _)

end

theorem pay9_rows (c : Dev nD) (H X : FVec Ideal S4096x1024 .f32) (G : FVec Ideal S1x1024 .f32) (hH : (V m c main_v4 : FVec Ideal S4096x1024 .f32) = H) (hX : (V m c main_v3 : FVec Ideal S4096x1024 .f32) = X) (hG : (V m c main_v5 : FVec Ideal S1x1024 .f32) = G) (t : Fin cfg0.N) (s : Fin 512) (k : Fin 1024) (i : Fin 4096) (hi : i.val = t.val * 512 + s.val) :
    k0_pay9 (F := Ideal) (iblk m c 0 t) (iblk m c 1 t) (iblk m c 2 t) (iblk m c 3 t) (ix2 s k) = dhRows H X G (ix2 i k) := by
  unfold k0_pay9
  rw [View.ld_unit_lit _ _ (by decide), View.ld_unit_lit _ _ (by decide), View.ld_unit_lit _ _ (by decide)]
  refine (pay8_at _ _ _ s k).trans ?_
  unfold dhRows
  congr 1
  · funext j; exact rd1 m c H hH t s j i hi
  · funext j; exact congrArg₂ (· * ·) (rd0 m c X hX t s j i hi) (rd2 m c G hG t j)

theorem arr4 (c : Dev nD) (H X : FVec Ideal S4096x1024 .f32) (G : FVec Ideal S1x1024 .f32) (hH : (V m c main_v4 : FVec Ideal S4096x1024 .f32) = H) (hX : (V m c main_v3 : FVec Ideal S4096x1024 .f32) = X) (hG : (V m c main_v5 : FVec Ideal S1x1024 .f32) = G) : (dats m 0 c).arrAt 4 (cfgs 0).N = dhRows H X G := by
  refine (dats m 0 c).arrAt_eq_of_covers 4 _ (by decide +kernel) fun t _ y => ?_
  blk_simp
  rw [after0_4]
  have key : ∀ y : S512x1024.Idx, out0_4 (F := Ideal) (iblk m c 0 t) (iblk m c 1 t) (iblk m c 2 t) (iblk m c 3 t) y
      = dhRows H X G (((View.whole main_v6_0).slice (win0_4.rect t)).emb y) := by
    intro y
    idx_vars y
    have ht : t.val < 8 := t.2
    frame_out
    refine (pay9_rows m c H X G hH hX hG t y0 y1 ⟨t.val * 512 + y0.val, by omega⟩ rfl).trans (congrArg _ ?_)
    blk_ext [idx_val t]
  exact key y

theorem arr5 (c : Dev nD) (H X : FVec Ideal S4096x1024 .f32) (G : FVec Ideal S1x1024 .f32) (hH : (V m c main_v4 : FVec Ideal S4096x1024 .f32) = H) (hX : (V m c main_v3 : FVec Ideal S4096x1024 .f32) = X) (hG : (V m c main_v5 : FVec Ideal S1x1024 .f32) = G) : (dats m 0 c).arrAt 5 (cfgs 0).N = dgRows H X := by
  refine (dats m 0 c).arrAt_eq_of_covers 5 _ (by decide +kernel) fun t _ y => ?_
  blk_simp
  rw [after0_5]
  have key : ∀ y : S8x1024.Idx, out0_5 (F := Ideal) (iblk m c 0 t) (iblk m c 1 t) (iblk m c 2 t) (iblk m c 3 t) y
      = dgRows H X (((View.whole main_v6_1).slice (win0_5.rect t)).emb y) := by
    intro y
    idx_vars y
    have ht : t.val < 8 := t.2
    have hy : y0.val < 8 := y0.2
    frame_out
    refine (pay7_at _ _ y0 y1).trans ?_
    rw [dgRows_at H X _ ⟨t.val, ht⟩ y0 y1 (by blk_simp [idx_val t]) (by blk_simp [idx_val t])]
    exact if_congr Iff.rfl (dgRows_block H X ⟨t.val, ht⟩ y1 (fun s j => (show FVec Ideal S512x1024 .f32 from iblk m c 1 t) (ix2 s j)) (fun s j => (show FVec Ideal S512x1024 .f32 from iblk m c 0 t) (ix2 s j))
      (fun s j => rd1 m c H hH t s j _ rfl) (fun s => rd0 m c X hX t s y1 _ rfl)) rfl
  exact key y

theorem arr6 (c : Dev nD) (H X : FVec Ideal S4096x1024 .f32) (G : FVec Ideal S1x1024 .f32) (hH : (V m c main_v4 : FVec Ideal S4096x1024 .f32) = H) (hX : (V m c main_v3 : FVec Ideal S4096x1024 .f32) = X) (hG : (V m c main_v5 : FVec Ideal S1x1024 .f32) = G) : (dats m 0 c).arrAt 6 (cfgs 0).N = daRows H X G (aW m c) := by
  refine (dats m 0 c).arrAt_eq_of_covers 6 _ (by decide +kernel) fun t _ y => ?_
  blk_simp
  rw [after0_6]
  have key : ∀ y : S512x1024.Idx, out0_6 (F := Ideal) (iblk m c 0 t) (iblk m c 1 t) (iblk m c 2 t) (iblk m c 3 t) y
      = daRows H X G (aW m c) (((View.whole main_v6_2).slice (win0_6.rect t)).emb y) := by
    intro y
    idx_vars y
    have ht : t.val < 8 := t.2
    frame_out
    refine (pay2_at _ _ y0 y1).trans ?_
    have h0 : ((((View.whole main_v6_2).slice (win0_6.rect t)).emb (ix2 y0 y1)) 0) = (⟨t.val * 512 + y0.val, by omega⟩ : Fin 4096) := Fin.ext (by blk_simp [idx_val t])
    have h1 : ((((View.whole main_v6_2).slice (win0_6.rect t)).emb (ix2 y0 y1)) 1) = y1 := Fin.ext (by blk_simp [idx_val t])
    unfold daRows
    rw [h1, h0]
    refine Finset.sum_congr rfl fun j _ => ?_
    exact congrArg₂ (· * ·) (pay9_rows m c H X G hH hX hG t y0 j _ rfl) (rd3 m c t y1 j)
  exact key y

end Cert.PostKernelIdeal.Post

end
end
-- ==== Proof.PostRef.lean ====
/- What the reference of the output product's gradient computes. -/
module

public import proofs.«01_k».proof.Proof.NormMath
public import proofs.«01_k».proof.Proof.Sums
public import proofs.«01_k».proof.Proof.Gen.PostReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.PostReferenceIdeal.Post

open Cert.PostReferenceIdeal Cert.PostReferenceIdeal.Read

variable (A : FVec Ideal S2x2048x1024 .bf16) (W : FVec Ideal S1024x1024 .bf16) (G : FVec Ideal S1024 .f32) (X : FVec Ideal S2x2048x1024 .f32)
  (b : Fin 2) (s : Fin 2048)

/-- The product's row, and the gradient after the gain. -/
abbrev hRow : Fin 1024 → EReal := fun j => val_main_v2 (F := Ideal) A W (ix3 b s j)
abbrev dRow : Fin 1024 → EReal := fun j => X (ix3 b s j) * G (ix1 j)

theorem v10_at : val_main_v10 (F := Ideal) A W (ix3 b s 0) = Norm.rn (hRow A W b s) := by
  unfold Norm.rn
  pointwise [val_main_v10, val_main_v9, val_main_v8, val_main_v7, val_main_v6, val_main_v5, val_main_v4, val_main_v3, val_main_cst, val_main_cst_0, val_main_cst_1]

theorem v33_at : val_main_v33 (F := Ideal) A W G X (ix2 b s) = Norm.zform (hRow A W b s) (dRow G X b s) := by
  unfold Norm.zform
  pointwise [val_main_v33, val_main_v32, val_main_v31, val_main_v30, val_main_v27, val_main_v26, val_main_v25, val_main_v23, val_main_v22, val_main_v16, val_main_v13, val_main_v12, val_main_v11, v10_at,
    val_main_v9, val_main_v8, val_main_v7, val_main_v6, val_main_v5, val_main_v4, val_main_v3, val_main_cst, val_main_cst_0, val_main_cst_1, val_main_cst_2, val_main_cst_5, val_main_cst_6, val_main_cst_7]
  rw [Fin.sum_univ_one, v10_at]

theorem v38_at (k : Fin 1024) : val_main_v38 (F := Ideal) A W G X (ix3 b s k) = Norm.kform (hRow A W b s) (dRow G X b s) k := by
  rw [Norm.kform_eq]
  pointwise [val_main_v38, val_main_v37, val_main_v36, val_main_v35, val_main_v34, val_main_v29, val_main_v28, val_main_v23, val_main_v22, val_main_v16, v33_at, v10_at]

theorem v39_at (k : Fin 1024) : val_main_v39 (F := Ideal) A W G X (ix3 b s k) = ∑ j : Fin 1024, Norm.kform (hRow A W b s) (dRow G X b s) j * W (ix2 k j) := by
  pointwise [val_main_v39, v38_at, val_main_v1]

theorem v72_eq : val_main_v72 (F := Ideal) A W G X = val_main_v38 (F := Ideal) A W G X := rfl

theorem v24_at (k : Fin 1024) : val_main_v24 (F := Ideal) A W X (ix1 k) = ∑ b : Fin 2, ∑ s : Fin 2048, (hRow A W b s k * Norm.rn (hRow A W b s)) * X (ix3 b s k) := by
  have e : val_main_v21 (F := Ideal) A W X (ix3 0 0 k) = ∑ b : Fin 2, ∑ s : Fin 2048, (hRow A W b s k * Norm.rn (hRow A W b s)) * X (ix3 b s k) := by
    pointwise [val_main_v21]
    show Ideal.hostReduceAdd _ _ _ _ = _
    rw [Cert.Sums.hostSum01]
    pointwise [val_main_v19, val_main_v15, val_main_v14, v10_at, val_main_cst_3]
  show Ideal.hostReduceAdd _ _ _ _ = _
  rw [Cert.Sums.hostSum01]
  rw [Fin.sum_univ_one, Fin.sum_univ_one, e]
  pointwise [val_main_cst_4]

end Cert.PostReferenceIdeal.Post

end
end
-- ==== Proof.PostClaim.lean ====
/- The claims about the output product's gradient. -/
module

public import proofs.«01_k».proof.Defs
public import proofs.«01_k».proof.Proof.PostBlock
public import proofs.«01_k».proof.Proof.PostRef
public import proofs.«01_k».proof.Proof.Gen.PostKernel.Frame
public import proofs.«01_k».proof.Proof.Gen.PostReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Post

open Cert.PostKernelIdeal.Post (dhRows daRows)
open Cert.Norm (dgRows)

section
open Cert.PostKernelIdeal Cert.PostKernelIdeal.Gen Cert.PostKernelIdeal.Post

variable (m : (ℓ : Loc nD τ sig) → Buf (Elt Ideal) ℓ)

/-- The gain's gradient: the partial sums of all blocks added up. -/
def dgSum (D : FVec Ideal S64x1024 .f32) : FVec Ideal S1x1024 .f32 :=
  broadcastInDim S1x1024 ![1] bcast_S1024_S1x1024_1 (Host.reduceAdd D (constant S_ .f32 0x00000000#32 : FVec Ideal S_ .f32) reducesTo_S64x1024_S1024_d0 h_S_)

theorem tail_dg (c : Dev nD) (D : FVec Ideal S64x1024 .f32) (hD : (dats m 0 c).arrAt 5 (cfgs 0).N = D) :
    (Pipeline.afterTail₀ cfgs (dats m) 0 (V0 m) [hostOps1] c main_v8 : FVec Ideal S1x1024 .f32) = dgSum D := by
  unfold Pipeline.afterTail₀
  simp only [hostOps1, List.flatten_cons, List.flatten_nil, List.append_nil]
  after_results
  refine congrArg dgSum (Eq.trans ?_ hD)
  exact Pipeline.withArrays_arr spec0 launch0.win.arr_inj c (V0 m c) (fun w => (dats m 0 c).arrAt w (cfgs 0).N) 5

/-- The product's rows, and the other arguments as the kernel reads them. -/
abbrev hFlat (A : FVec Ideal S2x2048x1024 .bf16) (W : FVec Ideal S1024x1024 .bf16) : FVec Ideal S4096x1024 .f32 :=
  shapeCast S4096x1024 (Cert.PostReferenceIdeal.Read.val_main_v2 (F := Ideal) A W : FVec Ideal S2x2048x1024 .f32)
abbrev xFlat (X : FVec Ideal S2x2048x1024 .f32) : FVec Ideal S4096x1024 .f32 := shapeCast S4096x1024 X
abbrev gFlat (G : FVec Ideal S1024 .f32) : FVec Ideal S1x1024 .f32 := shapeCast S1x1024 G

theorem V_hFlat (c : Dev nD) : (V m c main_v4 : FVec Ideal S4096x1024 .f32) = hFlat (aA m c) (aW m c) := V_h m c

/-- What the kernel leaves, on every device. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v6_0) = dhRows (hFlat (m ((c.tc : Thread nD τ).loc main_arg0)) (m ((c.tc : Thread nD τ).loc main_arg1))) (xFlat (m ((c.tc : Thread nD τ).loc main_arg3))) (gFlat (m ((c.tc : Thread nD τ).loc main_arg2)))
      ∧ r.2.mem ((c.tc : Thread nD τ).loc main_v8) = dgSum (dgRows (hFlat (m ((c.tc : Thread nD τ).loc main_arg0)) (m ((c.tc : Thread nD τ).loc main_arg1))) (xFlat (m ((c.tc : Thread nD τ).loc main_arg3))))
      ∧ r.2.mem ((c.tc : Thread nD τ).loc main_v6_2) = daRows (hFlat (m ((c.tc : Thread nD τ).loc main_arg0)) (m ((c.tc : Thread nD τ).loc main_arg1))) (xFlat (m ((c.tc : Thread nD τ).loc main_arg3))) (gFlat (m ((c.tc : Thread nD τ).loc main_arg2))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h.1 c).1 4).trans (arr4 m c _ _ _ (V_hFlat m c) (V_x m c) (V_g m c)),
       ((h.1 c).2 main_v8 (Pipeline.mem_restRefs_of main_v8 (by decide) (by decide))).trans (tail_dg m c _ (arr5 m c _ _ _ (V_hFlat m c) (V_x m c) (V_g m c))),
       ((h.1 c).1 6).trans (arr6 m c _ _ _ (V_hFlat m c) (V_x m c) (V_g m c)), h.2 c⟩)
    (θ_run_and (run_main m g) (unchanged m g))

end

section
open Cert.PostReferenceIdeal Cert.PostReferenceIdeal.Post Cert.PostReferenceIdeal.Read

variable (A : FVec Ideal S2x2048x1024 .bf16) (W : FVec Ideal S1024x1024 .bf16) (G : FVec Ideal S1024 .f32) (X : FVec Ideal S2x2048x1024 .f32)

theorem dh_at (i : Fin 4096) (k : Fin 1024) (b : Fin 2) (s : Fin 2048) (hi : i.val = b.val * 2048 + s.val) :
    dhRows (hFlat A W) (xFlat X) (gFlat G) (ix2 i k) = Norm.kform (hRow A W b s) (dRow G X b s) k := by
  have eh : ∀ j : Fin 1024, hFlat A W (ix2 i j) = hRow A W b s j := fun j => by pointwise; blk_ext
  have ex : ∀ j : Fin 1024, xFlat X (ix2 i j) = X (ix3 b s j) := fun j => by pointwise; blk_ext
  have eg : ∀ j : Fin 1024, gFlat G (ix2 0 j) = G (ix1 j) := fun j => by pointwise
  show Norm.kform (fun j => hFlat A W (ix2 i j)) (fun j => xFlat X (ix2 i j) * gFlat G (ix2 0 j)) k = _
  simp only [eh, ex, eg]

theorem ref_dh : val_main_v74 (F := Ideal) A W G X = dhRows (hFlat A W) (xFlat X) (gFlat G) :=
  funext fun i => by
    idx_vars i
    have hi : i0.val = (⟨i0.val / 2048, by omega⟩ : Fin 2).val * 2048 + (⟨i0.val % 2048, by omega⟩ : Fin 2048).val := by
      show i0.val = i0.val / 2048 * 2048 + i0.val % 2048; omega
    rw [dh_at A W G X i0 i1 _ _ hi, ← v38_at]
    pointwise [val_main_v74, val_main_v73]
    rw [v72_eq]
    blk_ext

theorem ref_da : val_main_v77 (F := Ideal) A W G X = daRows (hFlat A W) (xFlat X) (gFlat G) W :=
  funext fun i => by
    idx_vars i
    have hi : i0.val = (⟨i0.val / 2048, by omega⟩ : Fin 2).val * 2048 + (⟨i0.val % 2048, by omega⟩ : Fin 2048).val := by
      show i0.val = i0.val / 2048 * 2048 + i0.val % 2048; omega
    show _ = ∑ j : Fin 1024, dhRows (hFlat A W) (xFlat X) (gFlat G) (ix2 i0 j) * W (ix2 i1 j)
    rw [Finset.sum_congr rfl fun j _ => by rw [dh_at A W G X i0 j _ _ hi], ← v39_at]
    pointwise [val_main_v77, val_main_v76]
    blk_ext

theorem ref_dg : val_main_v75 (F := Ideal) A W X = dgSum (dgRows (hFlat A W) (xFlat X)) :=
  funext fun i => by
    idx_vars i
    have el : val_main_v75 (F := Ideal) A W X (ix2 i0 i1) = val_main_v24 (F := Ideal) A W X (ix1 i1) := by
      pointwise [val_main_v75]
    have er : dgSum (dgRows (hFlat A W) (xFlat X)) (ix2 i0 i1) = ∑ a : Fin 64, dgRows (hFlat A W) (xFlat X) (ix2 a i1) := by
      pointwise [dgSum]
    rw [el, v24_at, er, Norm.dgRows_sum]
    refine Finset.sum_congr rfl fun b _ => Finset.sum_congr rfl fun s _ => ?_
    have eh : ∀ j : Fin 1024, hFlat A W (ix2 (⟨b.val * 2048 + s.val, by omega⟩ : Fin 4096) j) = hRow A W b s j := fun j => by pointwise; blk_ext
    have ex : xFlat X (ix2 (⟨b.val * 2048 + s.val, by omega⟩ : Fin 4096) i1) = X (ix3 b s i1) := by pointwise; blk_ext
    simp only [eh, ex]
    exact mul_comm _ _

end

theorem algebraic : Cert.algebraic_PostKernelIdeal_PostReferenceIdeal := by
  pair_intro
  · run_from kernel_run m g
  · run_from Cert.PostReferenceIdeal.Value.run (F := Ideal) m' g'
    · refine (Cert.PostReferenceIdeal.Read.val_main_v74_eq _ _).trans ?_
      rw [ref_dh, (hagree c).1, (hagree c).2.1, (hagree c).2.2.1, (hagree c).2.2.2]
    · refine (Cert.PostReferenceIdeal.Read.val_main_v75_eq _ _ _).trans ?_
      exact ref_dg _ _ _
    · refine (Cert.PostReferenceIdeal.Read.val_main_v77_eq _ _).trans ?_
      rw [ref_da, (hagree c).1, (hagree c).2.1, (hagree c).2.2.1, (hagree c).2.2.2]

theorem frame_ref : Cert.quiescent_PostReferenceIdeal := fun m g _ =>
  (θ_run Cert.PostReferenceIdeal.defs _ _).mono (fun r h => ⟨fun c => (h c).2.2.2, sem_eq_zero_of_no_sems (by decide) r.2⟩)
    (Cert.PostReferenceIdeal.Value.run (F := Ideal) m g)

theorem claims : Cert.quiescent_PostKernel ∧ Cert.quiescent_PostKernelIdeal ∧ Cert.quiescent_PostReferenceIdeal
    ∧ Cert.preserves_PostKernel_PostKernelIdeal ∧ Cert.algebraic_PostKernelIdeal_PostReferenceIdeal :=
  ⟨fun m g _ => Cert.PostKernel.Gen.frame m g, fun m g _ => Cert.PostKernelIdeal.Gen.frame m g, frame_ref, trivial, algebraic⟩

end Cert.Proof.Post

end
end
-- ==== Proof.SwiBlock.lean ====
/- What one block of the feed-forward's output gradient computes. -/
module

public import proofs.«01_k».proof.Proof.NormGain
public import proofs.«01_k».proof.Proof.SwiMath
public import proofs.«01_k».proof.Proof.Gen.SwiKernelIdeal.Frame
public import proofs.«01_k».proof.Proof.Gen.SwiReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.SwiKernelIdeal.Swi

open Cert.SwiKernelIdeal Cert.SwiKernelIdeal.Gen
open Cert.Norm (dgRows dgRows_at dgRows_block gateK)

/-- One half. -/
abbrev half : EReal := Ideal.ofBits .f32 0x3F000000#32

theorem pay12_at (h x : Vec Ideal S512x1024 .f32) (g : Vec Ideal S1x1024 .f32) (s : Fin 512) (k : Fin 1024) :
    k0_pay12 (F := Ideal) h x g (ix2 s k) = Norm.kform (fun j => h (ix2 s j)) (fun j => (half * x (ix2 s j)) * g (ix2 0 j)) k := by
  unfold Norm.kform Norm.rn
  pointwise [k0_pay12, k0_pay10, k0_pay9, k0_pay8, k0_pay7]

theorem pay11_at (h x : Vec Ideal S512x1024 .f32) (a : Fin 8) (k : Fin 1024) :
    k0_pay11 (F := Ideal) h x (ix2 a k) = if a.val = 0 then ∑ s : Fin 512, (half * x (ix2 s k)) * (h (ix2 s k) * Norm.rn fun j => h (ix2 s j)) else 0 := by
  unfold Norm.rn
  pointwise [k0_pay11, k0_pay10, k0_pay9, k0_pay8, k0_pay7]
  word_cmp

theorem pay3_at (d : FVec Ideal S512x1024 .f32) (w : Vec Ideal S2816x1024 .bf16) (s : Fin 512) (q : Fin 2816) :
    k0_pay3 (F := Ideal) d w (ix2 s q) = ∑ j : Fin 1024, d (ix2 s j) * w (ix2 q j) := by
  pointwise [k0_pay3, k0_pay1]

theorem pay5_at (d : FVec Ideal S512x1024 .f32) (w : Vec Ideal S2816x1024 .bf16) (γ u : Vec Ideal S512x2816 .bf16) (s : Fin 512) (q : Fin 2816) :
    k0_pay5 (F := Ideal) d w γ u (ix2 s q) = gateK ((∑ j : Fin 1024, d (ix2 s j) * w (ix2 q j)) * u (ix2 s q)) (γ (ix2 s q)) := by
  unfold gateK
  pointwise [k0_pay5, k0_pay4, k0_pay2, pay3_at]

theorem pay6_at (d : FVec Ideal S512x1024 .f32) (w : Vec Ideal S2816x1024 .bf16) (γ : Vec Ideal S512x2816 .bf16) (s : Fin 512) (q : Fin 2816) :
    k0_pay6 (F := Ideal) d w γ (ix2 s q) = ((∑ j : Fin 1024, d (ix2 s j) * w (ix2 q j)) * γ (ix2 s q)) * Ideal.logistic (γ (ix2 s q)) := by
  pointwise [k0_pay6, k0_pay4, k0_pay2, pay3_at]

variable (m : (ℓ : Loc nD τ sig) → Buf (Elt Ideal) ℓ)

abbrev aU (c : Dev nD) : FVec Ideal S2x2048x5632 .bf16 := m ((c : Thread nD τ).loc main_arg0)
abbrev aW (c : Dev nD) : FVec Ideal S2816x1024 .bf16 := m ((c : Thread nD τ).loc main_arg1)
abbrev aG (c : Dev nD) : FVec Ideal S1024 .f32 := m ((c : Thread nD τ).loc main_arg2)
abbrev aX (c : Dev nD) : FVec Ideal S2x2048x1024 .f32 := m ((c : Thread nD τ).loc main_arg3)

/-- The arguments as the kernel reads them. -/
abbrev uFlat (U : FVec Ideal S2x2048x5632 .bf16) : FVec Ideal S4096x5632 .bf16 := shapeCast S4096x5632 U
abbrev xFlat (X : FVec Ideal S2x2048x1024 .f32) : FVec Ideal S4096x1024 .f32 := shapeCast S4096x1024 X
abbrev gFlat (G : FVec Ideal S1024 .f32) : FVec Ideal S1x1024 .f32 := shapeCast S1x1024 G
abbrev hFlat (U : FVec Ideal S2x2048x5632 .bf16) (W : FVec Ideal S2816x1024 .bf16) : FVec Ideal S4096x1024 .f32 :=
  shapeCast S4096x1024 (Cert.SwiReferenceIdeal.Read.val_main_v6 (F := Ideal) U W : FVec Ideal S2x2048x1024 .f32)

theorem V_x (c : Dev nD) : (V m c main_v7 : FVec Ideal S4096x1024 .f32) = xFlat (aX m c) := by
  unfold V V0; simp only [hostOps0, hostOps0_1, hostOps0_2, List.flatten_cons, List.flatten_nil, List.append_nil, List.cons_append, List.nil_append]; after_results; try rfl
theorem V_u (c : Dev nD) : (V m c main_v9 : FVec Ideal S4096x5632 .bf16) = uFlat (aU m c) := by
  unfold V V0; simp only [hostOps0, hostOps0_1, hostOps0_2, List.flatten_cons, List.flatten_nil, List.append_nil, List.cons_append, List.nil_append]; after_results; try rfl
theorem V_g (c : Dev nD) : (V m c main_v10 : FVec Ideal S1x1024 .f32) = gFlat (aG m c) := by
  unfold V V0; simp only [hostOps0, hostOps0_1, hostOps0_2, List.flatten_cons, List.flatten_nil, List.append_nil, List.cons_append, List.nil_append]; after_results; try rfl
theorem V_h (c : Dev nD) : (V m c main_v8 : FVec Ideal S4096x1024 .f32) = hFlat (aU m c) (aW m c) := by
  unfold V V0; simp only [hostOps0, hostOps0_1, hostOps0_2, List.flatten_cons, List.flatten_nil, List.append_nil, List.cons_append, List.nil_append]; after_results; try rfl

theorem idx_val : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0] ∧ win0_7.index t = ![t.val, 0] := (by decide +kernel : ∀ t : Fin grid0.N, _)

section
variable (c : Dev nD) (t : Fin cfg0.N) (s : Fin 512) (i : Fin 4096) (hi : i.val = t.val * 512 + s.val)
include hi

theorem blk0 (X : FVec Ideal S4096x1024 .f32) (l : Fin 1024) : (show FVec Ideal S512x1024 .f32 from ((cfg0.win 0).blk t).view.read (Elt Ideal) X) (ix2 s l) = X (ix2 i l) := by
  blk_simp [idx_val t]; blk_ext [idx_val t]
theorem blk1 (X : FVec Ideal S4096x1024 .f32) (l : Fin 1024) : (show FVec Ideal S512x1024 .f32 from ((cfg0.win 1).blk t).view.read (Elt Ideal) X) (ix2 s l) = X (ix2 i l) := by
  blk_simp [idx_val t]; blk_ext [idx_val t]
theorem blk4 (X : FVec Ideal S4096x5632 .bf16) (l : Fin 5632) : (show FVec Ideal S512x5632 .bf16 from ((cfg0.win 4).blk t).view.read (Elt Ideal) X) (ix2 s l) = X (ix2 i l) := by
  blk_simp [idx_val t]; blk_ext [idx_val t]
end

theorem blk2 (t : Fin cfg0.N) (X : FVec Ideal S1x1024 .f32) : (show FVec Ideal S1x1024 .f32 from ((cfg0.win 2).blk t).view.read (Elt Ideal) X) = X := by
  funext y
  idx_vars y
  blk_simp [idx_val t]; blk_ext [idx_val t]
theorem blk3 (t : Fin cfg0.N) (X : FVec Ideal S2816x1024 .bf16) : (show FVec Ideal S2816x1024 .bf16 from ((cfg0.win 3).blk t).view.read (Elt Ideal) X) = X := by
  funext y
  idx_vars y
  blk_simp [idx_val t]; blk_ext [idx_val t]

theorem ldU (x : Vec Ideal S512x5632 .bf16) (o : ℕ) (inb) (s : Fin 512) (j : Fin 2816) (l : Fin 5632) (h : l.val = o + j.val) :
    View.ld x (Rect.unit (s := S512x5632) ![0, o] S512x2816.size inb) (ix2 s j) = x (ix2 s l) :=
  View.ld_unit_apply_of _ _ _ _ _ _ (Fin.forall_fin_two.2 ⟨(Nat.zero_add _).symm, h⟩)

/-- The gradient before the norm, all rows. -/
def dhRows (H X : FVec Ideal S4096x1024 .f32) (G : FVec Ideal S1x1024 .f32) : FVec Ideal S4096x1024 .bf16 := fun i =>
  Norm.kform (fun j => H (ix2 (i 0) j)) (fun j => (half * X (ix2 (i 0) j)) * G (ix2 0 j)) (i 1)

/-- The gradient after the gain. -/
def dyRows (X : FVec Ideal S4096x1024 .f32) : FVec Ideal S4096x1024 .f32 := fun i => half * X i

/-- The gradient of the product's operand. -/
abbrev daRow (D : FVec Ideal S4096x1024 .bf16) (W : FVec Ideal S2816x1024 .bf16) (i : Fin 4096) (q : Fin 2816) : EReal := ∑ j : Fin 1024, D (ix2 i j) * W (ix2 q j)

/-- The column of the gate, and of what it gates. -/
def lo (q : Fin 2816) : Fin 5632 := ⟨q.val, by omega⟩
def up (q : Fin 2816) : Fin 5632 := ⟨2816 + q.val, by omega⟩

/-- One of two families of columns side by side. -/
def side (A B : Fin 2816 → EReal) (n : ℕ) (hn : n < 5632) : EReal :=
  if h : n < 2816 then A ⟨n, h⟩ else B ⟨n - 2816, by omega⟩

theorem side_lo (A B : Fin 2816 → EReal) (n : ℕ) (hn : n < 5632) (q : Fin 2816) (h : n = q.val) : side A B n hn = A q := by
  subst h
  exact dif_pos q.2

theorem side_hi (A B : Fin 2816 → EReal) (n : ℕ) (hn : n < 5632) (q : Fin 2816) (h : n = 2816 + q.val) : side A B n hn = B q := by
  unfold side
  rw [dif_neg (by omega)]
  exact congrArg B (Fin.ext (by show n - 2816 = q.val; omega))

/-- The gradients of the gate columns and of the columns they gate, side by side. -/
def duRows (D : FVec Ideal S4096x1024 .bf16) (W : FVec Ideal S2816x1024 .bf16) (U : FVec Ideal S4096x5632 .bf16) : FVec Ideal S4096x5632 .bf16 := fun i =>
  side (fun q => gateK (daRow D W (i 0) q * U (ix2 (i 0) (up q))) (U (ix2 (i 0) (lo q))))
    (fun q => (daRow D W (i 0) q * U (ix2 (i 0) (lo q))) * Ideal.logistic (U (ix2 (i 0) (lo q)))) (i 1).val (i 1).2

section
variable (D : FVec Ideal S4096x1024 .bf16) (W : FVec Ideal S2816x1024 .bf16) (U : FVec Ideal S4096x5632 .bf16) (i : S4096x5632.Idx) (r : Fin 4096) (q : Fin 2816) (h0 : (i 0).val = r.val)
include h0
theorem duRows_lo (h1 : (i 1).val = q.val) : duRows D W U i = gateK (daRow D W r q * U (ix2 r (up q))) (U (ix2 r (lo q))) := by
  obtain rfl : i 0 = r := Fin.ext h0
  exact side_lo _ _ _ _ q h1
theorem duRows_hi (h1 : (i 1).val = 2816 + q.val) : duRows D W U i = (daRow D W r q * U (ix2 r (lo q))) * Ideal.logistic (U (ix2 r (lo q))) := by
  obtain rfl : i 0 = r := Fin.ext h0
  exact side_hi _ _ _ _ q h1
end

section
variable (c : Dev nD) (H X : FVec Ideal S4096x1024 .f32) (G : FVec Ideal S1x1024 .f32) (U : FVec Ideal S4096x5632 .bf16)
  (hH : (V m c main_v8 : FVec Ideal S4096x1024 .f32) = H) (hX : (V m c main_v7 : FVec Ideal S4096x1024 .f32) = X)
  (hG : (V m c main_v10 : FVec Ideal S1x1024 .f32) = G) (hU : (V m c main_v9 : FVec Ideal S4096x5632 .bf16) = U)

include hX in
theorem rd0 (t : Fin cfg0.N) (s : Fin 512) (l : Fin 1024) (i : Fin 4096) (hi : i.val = t.val * 512 + s.val) :
    (show FVec Ideal S512x1024 .f32 from iblk m c 0 t) (ix2 s l) = X (ix2 i l) :=
  (blk0 t s i hi (V m c main_v7) l).trans (congrFun hX _)

include hH in
theorem rd1 (t : Fin cfg0.N) (s : Fin 512) (l : Fin 1024) (i : Fin 4096) (hi : i.val = t.val * 512 + s.val) :
    (show FVec Ideal S512x1024 .f32 from iblk m c 1 t) (ix2 s l) = H (ix2 i l) :=
  (blk1 t s i hi (V m c main_v8) l).trans (congrFun hH _)

include hU in
theorem rd4 (t : Fin cfg0.N) (s : Fin 512) (l : Fin 5632) (i : Fin 4096) (hi : i.val = t.val * 512 + s.val) :
    (show FVec Ideal S512x5632 .bf16 from iblk m c 4 t) (ix2 s l) = U (ix2 i l) :=
  (blk4 t s i hi (V m c main_v9) l).trans (congrFun hU _)

include hG in
theorem rd2 (t : Fin cfg0.N) (l : Fin 1024) : (show FVec Ideal S1x1024 .f32 from iblk m c 2 t) (ix2 0 l) = G (ix2 0 l) :=
  (congrFun (blk2 t (V m c main_v10)) _).trans (congrFun hG _)

theorem rd3 (t : Fin cfg0.N) : (show FVec Ideal S2816x1024 .bf16 from iblk m c 3 t) = aW m c :=
  (blk3 t (V m c main_arg1)).trans (V_main_arg1 m c)

include hH hX hG in
theorem pay13_rows (t : Fin cfg0.N) (s : Fin 512) (k : Fin 1024) (i : Fin 4096) (hi : i.val = t.val * 512 + s.val) :
    k0_pay13 (F := Ideal) (iblk m c 0 t) (iblk m c 1 t) (iblk m c 2 t) (iblk m c 3 t) (iblk m c 4 t) (ix2 s k) = dhRows H X G (ix2 i k) := by
  unfold k0_pay13
  rw [View.ld_unit_lit _ _ (by decide), View.ld_unit_lit _ _ (by decide), View.ld_unit_lit _ _ (by decide)]
  refine (pay12_at _ _ _ s k).trans ?_
  unfold dhRows
  congr 1
  · funext j; exact rd1 m c H hH t s j i hi
  · funext j; exact congrArg₂ (· * ·) (congrArg (half * ·) (rd0 m c X hX t s j i hi)) (rd2 m c G hG t j)

include hH hX hG in
theorem da_rows (t : Fin cfg0.N) (s : Fin 512) (q : Fin 2816) (i : Fin 4096) (hi : i.val = t.val * 512 + s.val) :
    (∑ j : Fin 1024, k0_pay13 (F := Ideal) (iblk m c 0 t) (iblk m c 1 t) (iblk m c 2 t) (iblk m c 3 t) (iblk m c 4 t) (ix2 s j)
      * (show FVec Ideal S2816x1024 .bf16 from iblk m c 3 t) (ix2 q j)) = daRow (dhRows H X G) (aW m c) i q := by
  rw [rd3 m c t]
  exact Finset.sum_congr rfl fun j _ => congrArg (· * aW m c (ix2 q j)) (pay13_rows m c H X G hH hX hG t s j i hi)

include hH hX hG in
theorem arr5 : (dats m 0 c).arrAt 5 (cfgs 0).N = dhRows H X G := by
  refine (dats m 0 c).arrAt_eq_of_covers 5 _ (by decide +kernel) fun t _ y => ?_
  blk_simp
  rw [after0_5]
  have key : ∀ y : S512x1024.Idx, out0_5 (F := Ideal) (iblk m c 0 t) (iblk m c 1 t) (iblk m c 2 t) (iblk m c 3 t) (iblk m c 4 t) y
      = dhRows H X G (((View.whole main_v11_0).slice (win0_5.rect t)).emb y) := by
    intro y
    idx_vars y
    have ht : t.val < 8 := t.2
    unfold out0_5
    generalize hD : k0_pay13 (F := Ideal) (iblk m c 0 t) (iblk m c 1 t) (iblk m c 2 t) (iblk m c 3 t) (iblk m c 4 t) = D
    frame_out
    refine Eq.trans (b := D (ix2 y0 y1)) (by pointwise [k0_pay1]) ?_
    refine ((congrFun hD _).symm.trans (pay13_rows m c H X G hH hX hG t y0 y1 ⟨t.val * 512 + y0.val, by omega⟩ rfl)).trans (congrArg _ ?_)
    blk_ext [idx_val t]
  exact key y

include hH hX in
theorem arr6 : (dats m 0 c).arrAt 6 (cfgs 0).N = dgRows H (dyRows X) := by
  refine (dats m 0 c).arrAt_eq_of_covers 6 _ (by decide +kernel) fun t _ y => ?_
  blk_simp
  rw [after0_6]
  have key : ∀ y : S8x1024.Idx, out0_6 (F := Ideal) (iblk m c 0 t) (iblk m c 1 t) (iblk m c 2 t) (iblk m c 3 t) (iblk m c 4 t) y
      = dgRows H (dyRows X) (((View.whole main_v11_1).slice (win0_6.rect t)).emb y) := by
    intro y
    idx_vars y
    have ht : t.val < 8 := t.2
    have hy : y0.val < 8 := y0.2
    frame_out
    refine (pay11_at _ _ y0 y1).trans ?_
    rw [dgRows_at H (dyRows X) _ ⟨t.val, ht⟩ y0 y1 (by blk_simp [idx_val t]) (by blk_simp [idx_val t])]
    exact if_congr Iff.rfl (dgRows_block H (dyRows X) ⟨t.val, ht⟩ y1 (fun s j => (show FVec Ideal S512x1024 .f32 from iblk m c 1 t) (ix2 s j)) (fun s j => half * (show FVec Ideal S512x1024 .f32 from iblk m c 0 t) (ix2 s j))
      (fun s j => rd1 m c H hH t s j _ rfl) (fun s => congrArg (half * ·) (rd0 m c X hX t s y1 _ rfl))) rfl
  exact key y

include hH hX hG hU in
theorem arr7 : (dats m 0 c).arrAt 7 (cfgs 0).N = duRows (dhRows H X G) (aW m c) U := by
  refine (dats m 0 c).arrAt_eq_of_covers 7 _ (by decide +kernel) fun t _ y => ?_
  blk_simp
  rw [after0_7]
  have key : ∀ y : S512x5632.Idx, out0_7 (F := Ideal) (iblk m c 0 t) (iblk m c 1 t) (iblk m c 2 t) (iblk m c 3 t) (iblk m c 4 t) y
      = duRows (dhRows H X G) (aW m c) U (((View.whole main_v11_2).slice (win0_7.rect t)).emb y) := by
    intro y
    idx_vars y
    have ht : t.val < 8 := t.2
    have hy : y0.val < 512 := y0.2
    have e0 : (((((View.whole main_v11_2).slice (win0_7.rect t)).emb (ix2 y0 y1)) 0)).val = t.val * 512 + y0.val := by blk_simp [idx_val t]
    have e1 : (((((View.whole main_v11_2).slice (win0_7.rect t)).emb (ix2 y0 y1)) 1)).val = y1.val := by blk_simp [idx_val t]
    generalize ((View.whole main_v11_2).slice (win0_7.rect t)).emb (ix2 y0 y1) = z at e0 e1
    have hda : ∀ q : Fin 2816, _ := fun q => da_rows m c H X G hH hX hG t y0 q ⟨t.val * 512 + y0.val, by omega⟩ rfl
    have hu : ∀ l : Fin 5632, _ := fun l => rd4 m c U hU t y0 l ⟨t.val * 512 + y0.val, by omega⟩ rfl
    unfold out0_7
    generalize k0_pay13 (F := Ideal) (iblk m c 0 t) (iblk m c 1 t) (iblk m c 2 t) (iblk m c 3 t) (iblk m c 4 t) = D at hda ⊢
    rw [View.ld_unit_lit _ _ (by decide)]
    canon_tiles x h
    · idx_vars x
      obtain rfl : x0 = y0 := Fin.ext h0.symm
      refine Eq.trans ?_ (duRows_hi _ _ _ z ⟨t.val * 512 + x0.val, by omega⟩ x1 e0 (e1.trans h1)).symm
      refine (pay6_at D _ _ x0 x1).trans ?_
      have l := (ldU (iblk m c 4 t) 0 inb_S512x5632_S512x2816_0_0 x0 x1 (lo x1) (Nat.zero_add _).symm).trans (hu _)
      exact congrArg₂ (· * ·) (congrArg₂ (· * ·) (hda x1) l) (congrArg Ideal.logistic l)
    · idx_vars x
      obtain rfl : x0 = y0 := Fin.ext h0.symm
      refine Eq.trans ?_ (duRows_lo _ _ _ z ⟨t.val * 512 + x0.val, by omega⟩ x1 e0 (e1.trans h1)).symm
      refine (pay5_at D _ _ _ x0 x1).trans ?_
      have l := (ldU (iblk m c 4 t) 0 inb_S512x5632_S512x2816_0_0 x0 x1 (lo x1) (Nat.zero_add _).symm).trans (hu _)
      have l' := (ldU (iblk m c 4 t) 2816 inb_S512x5632_S512x2816_0_2816 x0 x1 (up x1) rfl).trans (hu _)
      exact congrArg₂ gateK (congrArg₂ (· * ·) (hda x1) l') l
  exact key y
end

end Cert.SwiKernelIdeal.Swi

end
end
-- ==== Proof.SwiRef.lean ====
/- What the reference of the feed-forward's output gradient computes. -/
module

public import proofs.«01_k».proof.Proof.NormMath
public import proofs.«01_k».proof.Proof.SwiMath
public import proofs.«01_k».proof.Proof.Sums
public import proofs.«01_k».proof.Proof.Gen.SwiReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.SwiReferenceIdeal.Swi

open Cert.SwiReferenceIdeal Cert.SwiReferenceIdeal.Read
open Cert.Norm (gateR)

variable (U : FVec Ideal S2x2048x5632 .bf16) (W : FVec Ideal S2816x1024 .bf16) (G : FVec Ideal S1024 .f32) (X : FVec Ideal S2x2048x1024 .f32)
  (b : Fin 2) (s : Fin 2048)

/-- One half. -/
abbrev half : EReal := Ideal.ofBits .f32 0x3F000000#32

/-- The gate, what it gates, the product's row, and the gradient after the gain. -/
abbrev gRow : Fin 2816 → EReal := fun q => U (ix3 b s ⟨q.val, by omega⟩)
abbrev uRow : Fin 2816 → EReal := fun q => U (ix3 b s ⟨2816 + q.val, by omega⟩)
abbrev hRow : Fin 1024 → EReal := fun j => val_main_v6 (F := Ideal) U W (ix3 b s j)
abbrev dRow : Fin 1024 → EReal := fun j => (half * X (ix3 b s j)) * G (ix1 j)
abbrev daRow (q : Fin 2816) : EReal := ∑ j : Fin 1024, Norm.kform (hRow U W b s) (dRow G X b s) j * W (ix2 q j)

theorem v2_at (q : Fin 2816) : val_main_v2 (F := Ideal) U (ix3 b s q) = gRow U b s q := by
  pointwise [val_main_v2, val_main_v0]
  blk_ext

theorem v3_at (q : Fin 2816) : val_main_v3 (F := Ideal) U (ix3 b s q) = uRow U b s q := by
  pointwise [val_main_v3, val_main_v0]
  blk_ext

theorem sig_at (q : Fin 2816) : val_main_v4_2 (F := Ideal) U (ix3 b s q) = Ideal.logistic (gRow U b s q) := by
  unfold Ideal.logistic
  pointwise [val_main_v4_2, val_main_call0_v3, val_main_call0_v2, val_main_call0_v1, val_main_call0_v0, v2_at, val_main_call0_v4, val_main_call0_cst, val_main_call0_cst_0]

theorem v4_0_at (q : Fin 2816) : val_main_v4_0 (F := Ideal) U (ix3 b s q) = gRow U b s q * Ideal.logistic (gRow U b s q) := by
  pointwise [val_main_v4_0, v2_at, sig_at]

theorem v6_at (k : Fin 1024) : hRow U W b s k = ∑ q : Fin 2816, ((gRow U b s q * Ideal.logistic (gRow U b s q)) * uRow U b s q) * W (ix2 q k) := by
  show val_main_v6 (F := Ideal) U W (ix3 b s k) = _
  pointwise [val_main_v6, val_main_v5, v4_0_at, v3_at, val_main_v1]

theorem v14_at : val_main_v14 (F := Ideal) U W (ix3 b s 0) = Norm.rn (hRow U W b s) := by
  unfold Norm.rn
  pointwise [val_main_v14, val_main_v13, val_main_v12, val_main_v11, val_main_v10, val_main_v9, val_main_v8, val_main_v7, val_main_cst, val_main_cst_0, val_main_cst_1]

theorem v31_at (k : Fin 1024) : val_main_v31 (F := Ideal) G X (ix3 b s k) = dRow G X b s k := by
  pointwise [val_main_v31, val_main_v30, val_main_v26, val_main_v25, val_main_v20, val_main_cst_4]

theorem v41_at : val_main_v41 (F := Ideal) U W G X (ix2 b s) = Norm.zform (hRow U W b s) (dRow G X b s) := by
  unfold Norm.zform
  pointwise [val_main_v41, val_main_v40, val_main_v39, val_main_v38, val_main_v35, val_main_v34, val_main_v33, v31_at, val_main_v17, val_main_v16, val_main_v15, v14_at, val_main_v13, val_main_v12, val_main_v11, val_main_v10, val_main_v9, val_main_v8, val_main_v7,
    val_main_cst, val_main_cst_0, val_main_cst_1, val_main_cst_2, val_main_cst_7, val_main_cst_8, val_main_cst_9]
  rw [Fin.sum_univ_one, v14_at]

theorem v46_at (k : Fin 1024) : val_main_v46 (F := Ideal) U W G X (ix3 b s k) = Norm.kform (hRow U W b s) (dRow G X b s) k := by
  rw [Norm.kform_eq]
  pointwise [val_main_v46, val_main_v45, val_main_v44, val_main_v43, val_main_v42, val_main_v37, val_main_v36, v41_at, v31_at, v14_at]

theorem v92_eq : val_main_v92 (F := Ideal) U W G X = val_main_v46 (F := Ideal) U W G X := rfl

theorem v47_at (q : Fin 2816) : val_main_v47 (F := Ideal) U W G X (ix3 b s q) = daRow U W G X b s q := by
  pointwise [val_main_v47, v46_at, val_main_v1]

theorem v48_at (q : Fin 2816) : val_main_v48 (F := Ideal) U W G X (ix3 b s q) = (gRow U b s q * Ideal.logistic (gRow U b s q)) * daRow U W G X b s q := by
  pointwise [val_main_v48, v4_0_at, v47_at]

theorem v50_at (q : Fin 2816) : val_main_v50 (F := Ideal) U W G X (ix3 b s q) = gateR (daRow U W G X b s q * uRow U b s q) (gRow U b s q) := by
  unfold gateR
  pointwise [val_main_v50, val_main_call1_v2, val_main_call1_v1, val_main_call1_v0, val_main_v49, v47_at, v3_at, v2_at, sig_at, val_main_v4_1, val_main_call0_v7, val_main_call0_v6, val_main_call0_cst_1]

theorem v51_lo (q : Fin 2816) : val_main_v51 (F := Ideal) U W G X (ix3 b s ⟨q.val, by omega⟩) = val_main_v50 (F := Ideal) U W G X (ix3 b s q) := by
  unfold val_main_v51
  refine concatenate_pair_apply_left (t := S2x2048x5632) (s₁ := S2x2048x2816) (s₂ := S2x2048x2816) 2 (val_main_v50 (F := Ideal) U W G X) (val_main_v48 (F := Ideal) U W G X) Gen.concatenates_S2x2048x2816_S2x2048x2816_S2x2048x5632_d2 (ix3 b s ⟨q.val, _⟩) rfl (ix3 b s q) fun a => ?_
  match a with
  | 0 => rfl
  | 1 => rfl
  | 2 => rfl

theorem v51_hi (q : Fin 2816) : val_main_v51 (F := Ideal) U W G X (ix3 b s ⟨2816 + q.val, by omega⟩) = val_main_v48 (F := Ideal) U W G X (ix3 b s q) := by
  unfold val_main_v51
  refine concatenate_pair_apply_right (t := S2x2048x5632) (s₁ := S2x2048x2816) (s₂ := S2x2048x2816) 2 (val_main_v50 (F := Ideal) U W G X) (val_main_v48 (F := Ideal) U W G X) Gen.concatenates_S2x2048x2816_S2x2048x2816_S2x2048x5632_d2 (ix3 b s ⟨2816 + q.val, _⟩) rfl rfl (ix3 b s q) (fun a ha => ?_) (Nat.add_comm q.val 2816)
  match a with
  | 0 => rfl
  | 1 => rfl
  | 2 => exact absurd rfl ha

theorem v32_at (k : Fin 1024) : val_main_v32 (F := Ideal) U W X (ix1 k) = ∑ b : Fin 2, ∑ s : Fin 2048, (hRow U W b s k * Norm.rn (hRow U W b s)) * (half * X (ix3 b s k)) := by
  have e : val_main_v29 (F := Ideal) U W X (ix3 0 0 k) = ∑ b : Fin 2, ∑ s : Fin 2048, (hRow U W b s k * Norm.rn (hRow U W b s)) * (half * X (ix3 b s k)) := by
    pointwise [val_main_v29]
    show Ideal.hostReduceAdd _ _ _ _ = _
    rw [Cert.Sums.hostSum01]
    pointwise [val_main_v27, val_main_v26, val_main_v25, val_main_cst_4, val_main_v19, val_main_v18, v14_at, val_main_cst_5]
  show Ideal.hostReduceAdd _ _ _ _ = _
  rw [Cert.Sums.hostSum01]
  rw [Fin.sum_univ_one, Fin.sum_univ_one, e]
  pointwise [val_main_cst_6]

end Cert.SwiReferenceIdeal.Swi

end
end
-- ==== Proof.SwiClaim.lean ====
/- The claims about the feed-forward's output gradient. -/
module

public import proofs.«01_k».proof.Defs
public import proofs.«01_k».proof.Proof.SwiBlock
public import proofs.«01_k».proof.Proof.SwiRef
public import proofs.«01_k».proof.Proof.Gen.SwiKernel.Frame
public import proofs.«01_k».proof.Proof.Gen.SwiReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Swi

open Cert.SwiKernelIdeal.Swi (dhRows dyRows duRows uFlat xFlat gFlat hFlat lo up side_lo side_hi)
open Cert.Norm (dgRows IsReal gateK gateR)

section
open Cert.SwiKernelIdeal Cert.SwiKernelIdeal.Gen Cert.SwiKernelIdeal.Swi

variable (m : (ℓ : Loc nD τ sig) → Buf (Elt Ideal) ℓ)

/-- The gain's gradient: the partial sums of all blocks added up. -/
def dgSum (D : FVec Ideal S64x1024 .f32) : FVec Ideal S1x1024 .f32 :=
  broadcastInDim S1x1024 ![1] bcast_S1024_S1x1024_1 (Host.reduceAdd D (constant S_ .f32 0x00000000#32 : FVec Ideal S_ .f32) reducesTo_S64x1024_S1024_d0 h_S_)

theorem tail_dg (c : Dev nD) (D : FVec Ideal S64x1024 .f32) (hD : (dats m 0 c).arrAt 6 (cfgs 0).N = D) :
    (Pipeline.afterTail₀ cfgs (dats m) 0 (V0 m) [hostOps1] c main_v13 : FVec Ideal S1x1024 .f32) = dgSum D := by
  unfold Pipeline.afterTail₀
  simp only [hostOps1, List.flatten_cons, List.flatten_nil, List.append_nil]
  after_results
  refine congrArg dgSum (Eq.trans ?_ hD)
  exact Pipeline.withArrays_arr spec0 launch0.win.arr_inj c (V0 m c) (fun w => (dats m 0 c).arrAt w (cfgs 0).N) 6

/-- What the kernel leaves, on every device. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v11_0) = dhRows (hFlat (m ((c.tc : Thread nD τ).loc main_arg0)) (m ((c.tc : Thread nD τ).loc main_arg1))) (xFlat (m ((c.tc : Thread nD τ).loc main_arg3))) (gFlat (m ((c.tc : Thread nD τ).loc main_arg2)))
      ∧ r.2.mem ((c.tc : Thread nD τ).loc main_v13) = dgSum (dgRows (hFlat (m ((c.tc : Thread nD τ).loc main_arg0)) (m ((c.tc : Thread nD τ).loc main_arg1))) (dyRows (xFlat (m ((c.tc : Thread nD τ).loc main_arg3)))))
      ∧ r.2.mem ((c.tc : Thread nD τ).loc main_v11_2) = duRows (dhRows (hFlat (m ((c.tc : Thread nD τ).loc main_arg0)) (m ((c.tc : Thread nD τ).loc main_arg1))) (xFlat (m ((c.tc : Thread nD τ).loc main_arg3))) (gFlat (m ((c.tc : Thread nD τ).loc main_arg2)))) (m ((c.tc : Thread nD τ).loc main_arg1)) (uFlat (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h.1 c).1 5).trans (arr5 m c _ _ _ (V_h m c) (V_x m c) (V_g m c)),
       ((h.1 c).2 main_v13 (Pipeline.mem_restRefs_of main_v13 (by decide) (by decide))).trans (tail_dg m c _ (arr6 m c _ _ (V_h m c) (V_x m c))),
       ((h.1 c).1 7).trans (arr7 m c _ _ _ _ (V_h m c) (V_x m c) (V_g m c) (V_u m c)), h.2 c⟩)
    (θ_run_and (run_main m g) (unchanged m g))

end

/-- The precondition's function states its side conditions. -/
instance preFacts : Cert.Pre_finite_swi.Facts := ⟨by decide, by decide, by decide, by decide⟩

section
open Cert.SwiReferenceIdeal Cert.SwiReferenceIdeal.Swi Cert.SwiReferenceIdeal.Read

variable (U : FVec Ideal S2x2048x5632 .bf16) (W : FVec Ideal S2816x1024 .bf16) (G : FVec Ideal S1024 .f32) (X : FVec Ideal S2x2048x1024 .f32)

/-- What the precondition says of one entry of the gradient and one of the gain. -/
theorem pre_at [Cert.Pre_finite_swi.Facts] (h : Cert.Pre_finite_swi.fn (F := Ideal) U W G X = fun _ => 1#1) (b : Fin 2) (s : Fin 2048) (j : Fin 1024) :
    IsReal (X (ix3 b s j)) ∧ IsReal (G (ix1 j)) := by
  have e := congrFun h (ix3 b s j)
  have e' : Ideal.cmp .olt (max (X (ix3 b s j)) (-X (ix3 b s j))) (Ideal.ofBits .f32 0x7F800000#32)
      &&& Ideal.cmp .olt (max (G (ix1 j)) (-G (ix1 j))) (Ideal.ofBits .f32 0x7F800000#32) = 1#1 := by
    refine Eq.trans (Eq.symm ?_) e
    pointwise [Cert.Pre_finite_swi.fn]
    rfl
  have two : ∀ x y : BitVec 1, x &&& y = 1#1 → x = 1#1 ∧ y = 1#1 := by decide
  exact ⟨Norm.isReal_of_lt _ (two _ _ e').1, Norm.isReal_of_lt _ (two _ _ e').2⟩

theorem x_at (i : Fin 4096) (k : Fin 1024) (b : Fin 2) (s : Fin 2048) (hi : i.val = b.val * 2048 + s.val) : xFlat X (ix2 i k) = X (ix3 b s k) := by
  pointwise; blk_ext

theorem u_at (i : Fin 4096) (k : Fin 5632) (b : Fin 2) (s : Fin 2048) (hi : i.val = b.val * 2048 + s.val) : uFlat U (ix2 i k) = U (ix3 b s k) := by
  pointwise; blk_ext

theorem h_at (i : Fin 4096) (k : Fin 1024) (b : Fin 2) (s : Fin 2048) (hi : i.val = b.val * 2048 + s.val) : hFlat U W (ix2 i k) = hRow U W b s k := by
  pointwise; blk_ext

theorem dh_at (i : Fin 4096) (k : Fin 1024) (b : Fin 2) (s : Fin 2048) (hi : i.val = b.val * 2048 + s.val) :
    dhRows (hFlat U W) (xFlat X) (gFlat G) (ix2 i k) = Norm.kform (hRow U W b s) (dRow G X b s) k := by
  have eg : ∀ j : Fin 1024, gFlat G (ix2 0 j) = G (ix1 j) := fun j => by pointwise
  show Norm.kform (fun j => hFlat U W (ix2 i j)) (fun j => (half * xFlat X (ix2 i j)) * gFlat G (ix2 0 j)) k = _
  simp only [h_at U W i _ _ _ hi, x_at X i _ _ _ hi, eg]

theorem da_at (i : Fin 4096) (q : Fin 2816) (b : Fin 2) (s : Fin 2048) (hi : i.val = b.val * 2048 + s.val) :
    Cert.SwiKernelIdeal.Swi.daRow (dhRows (hFlat U W) (xFlat X) (gFlat G)) W i q = daRow U W G X b s q :=
  Finset.sum_congr rfl fun j _ => by rw [dh_at U W G X i j b s hi]

theorem ref_dh : val_main_v94 (F := Ideal) U W G X = dhRows (hFlat U W) (xFlat X) (gFlat G) :=
  funext fun i => by
    idx_vars i
    have hi : i0.val = (⟨i0.val / 2048, by omega⟩ : Fin 2).val * 2048 + (⟨i0.val % 2048, by omega⟩ : Fin 2048).val := by
      show i0.val = i0.val / 2048 * 2048 + i0.val % 2048; omega
    rw [dh_at U W G X i0 i1 _ _ hi, ← v46_at]
    pointwise [val_main_v94, val_main_v93]
    rw [v92_eq]
    blk_ext

theorem ref_dg : val_main_v95 (F := Ideal) U W X = dgSum (dgRows (hFlat U W) (dyRows (xFlat X))) :=
  funext fun i => by
    idx_vars i
    have el : val_main_v95 (F := Ideal) U W X (ix2 i0 i1) = val_main_v32 (F := Ideal) U W X (ix1 i1) := by
      pointwise [val_main_v95]
    have er : dgSum (dgRows (hFlat U W) (dyRows (xFlat X))) (ix2 i0 i1) = ∑ a : Fin 64, dgRows (hFlat U W) (dyRows (xFlat X)) (ix2 a i1) := by
      pointwise [dgSum]
    rw [el, v32_at, er, Norm.dgRows_sum]
    refine Finset.sum_congr rfl fun b _ => Finset.sum_congr rfl fun s _ => ?_
    have eh : ∀ j : Fin 1024, hFlat U W (ix2 (⟨b.val * 2048 + s.val, by omega⟩ : Fin 4096) j) = hRow U W b s j := fun j => h_at U W _ _ b s rfl
    have ex : dyRows (xFlat X) (ix2 (⟨b.val * 2048 + s.val, by omega⟩ : Fin 4096) i1) = half * X (ix3 b s i1) := congrArg (half * ·) (x_at X _ _ b s rfl)
    simp only [eh, ex]
    exact mul_comm _ _

/-- The two spellings of the gate's derivative agree. -/
theorem gate_at (hX : ∀ b s j, IsReal (X (ix3 b s j)) ∧ IsReal (G (ix1 j))) (b : Fin 2) (s : Fin 2048) (q : Fin 2816) :
    gateK (daRow U W G X b s q * uRow U b s q) (gRow U b s q) = gateR (daRow U W G X b s q * uRow U b s q) (gRow U b s q) := by
  refine Norm.gate_eq (hRow U W b s) (dRow G X b s) (fun k => W (ix2 q k)) _ _ (fun j => ?_) fun k hk => ?_
  · exact Norm.isReal_mul (Norm.isReal_mul ⟨1 / 2, by simp [Ideal.ofBits, Ideal.ieee]; rw [← EReal.coe_mul]; norm_num⟩ (hX b s j).1) (hX b s j).2
  · rw [v6_at] at hk
    exact Norm.isReal_of_sum _ _ hk q (Finset.mem_univ q)

theorem ref_du (hX : ∀ b s j, IsReal (X (ix3 b s j)) ∧ IsReal (G (ix1 j))) :
    val_main_v97 (F := Ideal) U W G X = duRows (dhRows (hFlat U W) (xFlat X) (gFlat G)) W (uFlat U) :=
  funext fun i => by
    idx_vars i
    obtain ⟨b, s, hi⟩ : ∃ (b : Fin 2) (s : Fin 2048), i0.val = b.val * 2048 + s.val :=
      ⟨⟨i0.val / 2048, by omega⟩, ⟨i0.val % 2048, by omega⟩, by show i0.val = i0.val / 2048 * 2048 + i0.val % 2048; omega⟩
    have el : val_main_v97 (F := Ideal) U W G X (ix2 i0 i1) = val_main_v51 (F := Ideal) U W G X (ix3 b s i1) := by
      pointwise [val_main_v97, val_main_v96]
      blk_ext
    rw [el]
    rcases Nat.lt_or_ge i1.val 2816 with h | h
    · obtain ⟨q, hq⟩ : ∃ q : Fin 2816, i1 = ⟨q.val, by omega⟩ := ⟨⟨i1.val, h⟩, rfl⟩
      rw [Cert.SwiKernelIdeal.Swi.duRows_lo _ W (uFlat U) (ix2 i0 i1) i0 q rfl (congrArg Fin.val hq), hq, v51_lo, v50_at, ← gate_at U W G X hX, da_at U W G X i0 q b s hi]
      simp only [u_at U i0 _ b s hi]
      rfl
    · obtain ⟨q, hq⟩ : ∃ q : Fin 2816, i1 = ⟨2816 + q.val, by omega⟩ := ⟨⟨i1.val - 2816, by omega⟩, Fin.ext (by show i1.val = 2816 + (i1.val - 2816); omega)⟩
      rw [Cert.SwiKernelIdeal.Swi.duRows_hi _ W (uFlat U) (ix2 i0 i1) i0 q rfl (congrArg Fin.val hq), hq, v51_hi, v48_at, da_at U W G X i0 q b s hi]
      simp only [u_at U i0 _ b s hi]
      show (gRow U b s q * Ideal.logistic (gRow U b s q)) * daRow U W G X b s q = (daRow U W G X b s q * gRow U b s q) * Ideal.logistic (gRow U b s q)
      rw [mul_comm, mul_assoc]

end

theorem algebraic : Cert.algebraic_SwiKernelIdeal_SwiReferenceIdeal_pre_finite_swi := by
  pair_intro
  · run_from kernel_run m g
  · run_from Cert.SwiReferenceIdeal.Value.run (F := Ideal) m' g'
    · refine (Cert.SwiReferenceIdeal.Read.val_main_v94_eq _ _).trans ?_
      rw [ref_dh, (hagree c).1, (hagree c).2.1, (hagree c).2.2.1, (hagree c).2.2.2]
    · refine (Cert.SwiReferenceIdeal.Read.val_main_v95_eq _ _ _).trans ?_
      exact ref_dg _ _ _
    · refine (Cert.SwiReferenceIdeal.Read.val_main_v97_eq _ _).trans ?_
      rw [(hagree c).1, (hagree c).2.1, (hagree c).2.2.1, (hagree c).2.2.2]
      exact ref_du _ _ _ _ (pre_at _ _ _ _ (hpre c))

theorem frame_ref : Cert.quiescent_SwiReferenceIdeal := fun m g _ =>
  (θ_run Cert.SwiReferenceIdeal.defs _ _).mono (fun r h => ⟨fun c => (h c).2.2.2, sem_eq_zero_of_no_sems (by decide) r.2⟩)
    (Cert.SwiReferenceIdeal.Value.run (F := Ideal) m g)

theorem claims : Cert.quiescent_SwiKernel ∧ Cert.quiescent_SwiKernelIdeal ∧ Cert.quiescent_SwiKernelIdeal_pre_finite_swi ∧ Cert.quiescent_SwiReferenceIdeal
    ∧ Cert.quiescent_SwiReferenceIdeal_pre_finite_swi
    ∧ Cert.preserves_SwiKernel_SwiKernelIdeal ∧ Cert.algebraic_SwiKernelIdeal_SwiReferenceIdeal_pre_finite_swi :=
  ⟨fun m g _ => Cert.SwiKernel.Gen.frame m g, fun m g _ => Cert.SwiKernelIdeal.Gen.frame m g, fun m g _ => Cert.SwiKernelIdeal.Gen.frame m g, frame_ref,
    fun m g _ => frame_ref m g trivial, trivial, algebraic⟩

end Cert.Proof.Swi

end
end
-- ==== Proof.PreBlock.lean ====
/- What one block of the input product's gradient computes. -/
module

public import proofs.«01_k».proof.Proof.NormGain
public import proofs.«01_k».proof.Proof.Gen.PreKernelIdeal.Frame

@[expose] public section

set_option maxRecDepth 16384

noncomputable section

open Idealize.ShloMosaic Idealize.ShloMosaic.TcCoe Idealize.SL.Sem
open Idealize.ShloMosaic.Pipeline (Dat)
open scoped BigOperators

namespace Cert.PreKernelIdeal.Pre

open Cert.PreKernelIdeal Cert.PreKernelIdeal.Gen
open Cert.Norm (dgRows dgRows_at dgRows_block)

/-- The gradient before the product of one row, summed over the four parts of the columns. -/
abbrev parts (y : Fin 5632 → EReal) (w : Fin 4 → Fin 1408 → EReal) : EReal := ∑ p : Fin 4, ∑ j : Fin 1408, y ⟨p.val * 1408 + j.val, by omega⟩ * w p j

theorem ldY (x : Vec Ideal S512x5632 .bf16) (o : ℕ) (inb) (s : Fin 512) (j : Fin 1408) (l : Fin 5632) (h : l.val = o + j.val) :
    View.ld x (Rect.unit (s := S512x5632) ![0, o] S512x1408.size inb) (ix2 s j) = x (ix2 s l) :=
  View.ld_unit_apply_of _ _ _ _ _ _ (Fin.forall_fin_two.2 ⟨(Nat.zero_add _).symm, h⟩)

theorem ldW (x : Vec Ideal S4x1024x1408 .bf16) (o : ℕ) (inb) (k : Fin 1024) (j : Fin 1408) (p : Fin 4) (h : p.val = o) :
    View.ld x (Rect.unit (s := S4x1024x1408) ![o, 0, 0] S1x1024x1408.size inb) (ix3 0 k j) = x (ix3 p k j) :=
  View.ld_unit_apply_of _ _ _ _ _ _ fun a => by
    match a with
    | 0 => exact h
    | 1 => exact (Nat.zero_add _).symm
    | 2 => exact (Nat.zero_add _).symm

theorem pay8_at (x0 : Vec Ideal S512x5632 .bf16) (x1 : Vec Ideal S4x1024x1408 .bf16) (x2 x3 : Vec Ideal S512x1024 .f32) (x4 : Vec Ideal S1x1024 .f32) (s : Fin 512) (k : Fin 1024) :
    k0_pay8 (F := Ideal) x0 x1 x2 x3 x4 (ix2 s k) = parts (fun j => x0 (ix2 s j)) (fun p j => x1 (ix3 p k j)) := by
  unfold k0_pay8 parts
  rw [Fin.sum_univ_four]
  have y0 : ∀ j : Fin 1408, View.ld x0 r0_0 (ix2 s j) = x0 (ix2 s ⟨(0 : Fin 4).val * 1408 + j.val, by omega⟩) := fun j => ldY _ _ _ _ _ _ (by simp)
  have y1 : ∀ j : Fin 1408, View.ld x0 r0_2 (ix2 s j) = x0 (ix2 s ⟨(1 : Fin 4).val * 1408 + j.val, by omega⟩) := fun j => ldY _ _ _ _ _ _ (by simp)
  have y2 : ∀ j : Fin 1408, View.ld x0 r0_4 (ix2 s j) = x0 (ix2 s ⟨(2 : Fin 4).val * 1408 + j.val, by omega⟩) := fun j => ldY _ _ _ _ _ _ (by simp)
  have y3 : ∀ j : Fin 1408, View.ld x0 r0_6 (ix2 s j) = x0 (ix2 s ⟨(3 : Fin 4).val * 1408 + j.val, by omega⟩) := fun j => ldY _ _ _ _ _ _ (by simp)
  have w0 : ∀ j : Fin 1408, View.ld x1 r0_1 (ix3 0 k j) = x1 (ix3 0 k j) := fun j => ldW _ _ _ _ _ _ rfl
  have w1 : ∀ j : Fin 1408, View.ld x1 r0_3 (ix3 0 k j) = x1 (ix3 1 k j) := fun j => ldW _ _ _ _ _ _ rfl
  have w2 : ∀ j : Fin 1408, View.ld x1 r0_5 (ix3 0 k j) = x1 (ix3 2 k j) := fun j => ldW _ _ _ _ _ _ rfl
  have w3 : ∀ j : Fin 1408, View.ld x1 r0_7 (ix3 0 k j) = x1 (ix3 3 k j) := fun j => ldW _ _ _ _ _ _ rfl
  simp only [← y0, ← y1, ← y2, ← y3, ← w0, ← w1, ← w2, ← w3]
  generalize View.ld x0 r0_0 = a0
  generalize View.ld x0 r0_2 = a1
  generalize View.ld x0 r0_4 = a2
  generalize View.ld x0 r0_6 = a3
  generalize View.ld x1 r0_1 = b0
  generalize View.ld x1 r0_3 = b1
  generalize View.ld x1 r0_5 = b2
  generalize View.ld x1 r0_7 = b3
  pointwise [k0_pay5]

theorem pay4_at (d x : Vec Ideal S512x1024 .f32) (g : Vec Ideal S1x1024 .f32) (y : Vec Ideal S512x1024 .f32) (s : Fin 512) (k : Fin 1024) :
    k0_pay4 (F := Ideal) d (k0_pay6 x) (k0_pay7 x) (Scalar.ofBits .f32 0x358637BD#32) g y (ix2 s k)
      = y (ix2 s k) + Norm.kform (fun j => x (ix2 s j)) (fun j => d (ix2 s j) * g (ix2 0 j)) k := by
  unfold Norm.kform Norm.rn
  pointwise [k0_pay4, k0_pay2, k0_pay1, k0_pay6, k0_pay7]

theorem pay3_at (d x : Vec Ideal S512x1024 .f32) (a : Fin 8) (k : Fin 1024) :
    k0_pay3 (F := Ideal) d (k0_pay6 x) (k0_pay7 x) (Scalar.ofBits .f32 0x358637BD#32) (ix2 a k)
      = if a.val = 0 then ∑ s : Fin 512, d (ix2 s k) * (x (ix2 s k) * Norm.rn fun j => x (ix2 s j)) else 0 := by
  unfold Norm.rn
  pointwise [k0_pay3, k0_pay2, k0_pay1, k0_pay6, k0_pay7]
  word_cmp

variable (m : (ℓ : Loc nD τ sig) → Buf (Elt Ideal) ℓ)

abbrev aY (c : Dev nD) : FVec Ideal S2x2048x5632 .bf16 := m ((c : Thread nD τ).loc main_arg0)
abbrev aW (c : Dev nD) : FVec Ideal S1024x5632 .bf16 := m ((c : Thread nD τ).loc main_arg1)
abbrev aR (c : Dev nD) : FVec Ideal S2x2048x1024 .f32 := m ((c : Thread nD τ).loc main_arg2)
abbrev aX (c : Dev nD) : FVec Ideal S2x2048x1024 .f32 := m ((c : Thread nD τ).loc main_arg3)
abbrev aG (c : Dev nD) : FVec Ideal S1024 .f32 := m ((c : Thread nD τ).loc main_arg4)

/-- The arguments as the kernel reads them: rows of the two sequences, and the columns of the weights in four parts. -/
abbrev yFlat (Y : FVec Ideal S2x2048x5632 .bf16) : FVec Ideal S4096x5632 .bf16 := shapeCast S4096x5632 Y
abbrev wParts (W : FVec Ideal S1024x5632 .bf16) : FVec Ideal S4x1024x1408 .bf16 :=
  transpose S4x1024x1408 [1, 0, 2] (shapeCast S1024x4x1408 W : FVec Ideal S1024x4x1408 .bf16) transposes_S1024x4x1408_S4x1024x1408_1_0_2
abbrev xFlat (X : FVec Ideal S2x2048x1024 .f32) : FVec Ideal S4096x1024 .f32 := shapeCast S4096x1024 X
abbrev gFlat (G : FVec Ideal S1024 .f32) : FVec Ideal S1x1024 .f32 := shapeCast S1x1024 G

theorem V_y (c : Dev nD) : (V m c main_v2 : FVec Ideal S4096x5632 .bf16) = yFlat (aY m c) := by
  unfold V V0; simp only [hostOps0, List.flatten_cons, List.flatten_nil, List.append_nil, List.cons_append, List.nil_append]; after_results; try rfl
theorem V_w (c : Dev nD) : (V m c main_v1 : FVec Ideal S4x1024x1408 .bf16) = wParts (aW m c) := by
  unfold V V0; simp only [hostOps0, List.flatten_cons, List.flatten_nil, List.append_nil, List.cons_append, List.nil_append]; after_results; try rfl
theorem V_r (c : Dev nD) : (V m c main_v3 : FVec Ideal S4096x1024 .f32) = xFlat (aR m c) := by
  unfold V V0; simp only [hostOps0, List.flatten_cons, List.flatten_nil, List.append_nil, List.cons_append, List.nil_append]; after_results; try rfl
theorem V_x (c : Dev nD) : (V m c main_v4 : FVec Ideal S4096x1024 .f32) = xFlat (aX m c) := by
  unfold V V0; simp only [hostOps0, List.flatten_cons, List.flatten_nil, List.append_nil, List.cons_append, List.nil_append]; after_results; try rfl
theorem V_g (c : Dev nD) : (V m c main_v5 : FVec Ideal S1x1024 .f32) = gFlat (aG m c) := by
  unfold V V0; simp only [hostOps0, List.flatten_cons, List.flatten_nil, List.append_nil, List.cons_append, List.nil_append]; after_results; try rfl

theorem idx_val : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![t.val, 0] := (by decide +kernel : ∀ t : Fin grid0.N, _)

section
variable (c : Dev nD) (t : Fin cfg0.N) (s : Fin 512) (i : Fin 4096) (hi : i.val = t.val * 512 + s.val)
include hi

theorem blk0 (X : FVec Ideal S4096x5632 .bf16) (l : Fin 5632) : (show FVec Ideal S512x5632 .bf16 from ((cfg0.win 0).blk t).view.read (Elt Ideal) X) (ix2 s l) = X (ix2 i l) := by
  blk_simp [idx_val t]; blk_ext [idx_val t]
theorem blk2 (X : FVec Ideal S4096x1024 .f32) (l : Fin 1024) : (show FVec Ideal S512x1024 .f32 from ((cfg0.win 2).blk t).view.read (Elt Ideal) X) (ix2 s l) = X (ix2 i l) := by
  blk_simp [idx_val t]; blk_ext [idx_val t]
theorem blk3 (X : FVec Ideal S4096x1024 .f32) (l : Fin 1024) : (show FVec Ideal S512x1024 .f32 from ((cfg0.win 3).blk t).view.read (Elt Ideal) X) (ix2 s l) = X (ix2 i l) := by
  blk_simp [idx_val t]; blk_ext [idx_val t]
end

theorem blk1 (t : Fin cfg0.N) (X : FVec Ideal S4x1024x1408 .bf16) : (show FVec Ideal S4x1024x1408 .bf16 from ((cfg0.win 1).blk t).view.read (Elt Ideal) X) = X := by
  funext y
  idx_vars y
  blk_simp [idx_val t]; blk_ext [idx_val t]
theorem blk4 (t : Fin cfg0.N) (X : FVec Ideal S1x1024 .f32) : (show FVec Ideal S1x1024 .f32 from ((cfg0.win 4).blk t).view.read (Elt Ideal) X) = X := by
  funext y
  idx_vars y
  blk_simp [idx_val t]; blk_ext [idx_val t]

/-- The gradient before the product, all rows. -/
def dnRows (Y : FVec Ideal S4096x5632 .bf16) (W : FVec Ideal S4x1024x1408 .bf16) : FVec Ideal S4096x1024 .f32 := fun i =>
  parts (fun j => Y (ix2 (i 0) j)) (fun p j => W (ix3 p (i 1) j))

/-- The norm's gradient added to the residual's. -/
def dxRows (Y : FVec Ideal S4096x5632 .bf16) (W : FVec Ideal S4x1024x1408 .bf16) (R X : FVec Ideal S4096x1024 .f32) (G : FVec Ideal S1x1024 .f32) : FVec Ideal S4096x1024 .f32 := fun i =>
  R (ix2 (i 0) (i 1)) + Norm.kform (fun j => X (ix2 (i 0) j)) (fun j => dnRows Y W (ix2 (i 0) j) * G (ix2 0 j)) (i 1)

section
variable (c : Dev nD) (Y : FVec Ideal S4096x5632 .bf16) (W : FVec Ideal S4x1024x1408 .bf16) (R X : FVec Ideal S4096x1024 .f32) (G : FVec Ideal S1x1024 .f32)
  (hY : (V m c main_v2 : FVec Ideal S4096x5632 .bf16) = Y) (hW : (V m c main_v1 : FVec Ideal S4x1024x1408 .bf16) = W) (hR : (V m c main_v3 : FVec Ideal S4096x1024 .f32) = R)
  (hX : (V m c main_v4 : FVec Ideal S4096x1024 .f32) = X) (hG : (V m c main_v5 : FVec Ideal S1x1024 .f32) = G)

include hX in
theorem rd3 (t : Fin cfg0.N) (s : Fin 512) (l : Fin 1024) (i : Fin 4096) (hi : i.val = t.val * 512 + s.val) :
    (show FVec Ideal S512x1024 .f32 from iblk m c 3 t) (ix2 s l) = X (ix2 i l) :=
  (blk3 t s i hi (V m c main_v4) l).trans (congrFun hX _)

include hR in
theorem rd2 (t : Fin cfg0.N) (s : Fin 512) (l : Fin 1024) (i : Fin 4096) (hi : i.val = t.val * 512 + s.val) :
    (show FVec Ideal S512x1024 .f32 from iblk m c 2 t) (ix2 s l) = R (ix2 i l) :=
  (blk2 t s i hi (V m c main_v3) l).trans (congrFun hR _)

include hY in
theorem rd0 (t : Fin cfg0.N) (s : Fin 512) (l : Fin 5632) (i : Fin 4096) (hi : i.val = t.val * 512 + s.val) :
    (show FVec Ideal S512x5632 .bf16 from iblk m c 0 t) (ix2 s l) = Y (ix2 i l) :=
  (blk0 t s i hi (V m c main_v2) l).trans (congrFun hY _)

include hW in
theorem rd1 (t : Fin cfg0.N) (p : Fin 4) (k : Fin 1024) (l : Fin 1408) : (show FVec Ideal S4x1024x1408 .bf16 from iblk m c 1 t) (ix3 p k l) = W (ix3 p k l) :=
  (congrFun (blk1 t (V m c main_v1)) _).trans (congrFun hW _)

include hG in
theorem rd4 (t : Fin cfg0.N) (l : Fin 1024) : (show FVec Ideal S1x1024 .f32 from iblk m c 4 t) (ix2 0 l) = G (ix2 0 l) :=
  (congrFun (blk4 t (V m c main_v5)) _).trans (congrFun hG _)

include hY hW in
theorem pay8_rows (t : Fin cfg0.N) (s : Fin 512) (k : Fin 1024) (i : Fin 4096) (hi : i.val = t.val * 512 + s.val) :
    k0_pay8 (F := Ideal) (iblk m c 0 t) (iblk m c 1 t) (iblk m c 2 t) (iblk m c 3 t) (iblk m c 4 t) (ix2 s k) = dnRows Y W (ix2 i k) := by
  refine (pay8_at _ _ _ _ _ s k).trans ?_
  exact Finset.sum_congr rfl fun p _ => Finset.sum_congr rfl fun j _ => congrArg₂ (· * ·) (rd0 m c Y hY t s _ i hi) (rd1 m c W hW t p k j)

include hY hW hR hX hG in
theorem arr5 : (dats m 0 c).arrAt 5 (cfgs 0).N = dxRows Y W R X G := by
  refine (dats m 0 c).arrAt_eq_of_covers 5 _ (by decide +kernel) fun t _ y => ?_
  blk_simp
  rw [after0_5]
  have key : ∀ y : S512x1024.Idx, out0_5 (F := Ideal) (iblk m c 0 t) (iblk m c 1 t) (iblk m c 2 t) (iblk m c 3 t) (iblk m c 4 t) y
      = dxRows Y W R X G (((View.whole main_v6_0).slice (win0_5.rect t)).emb y) := by
    intro y
    idx_vars y
    have ht : t.val < 8 := t.2
    have h0 : ((((View.whole main_v6_0).slice (win0_5.rect t)).emb (ix2 y0 y1)) 0) = (⟨t.val * 512 + y0.val, by omega⟩ : Fin 4096) := Fin.ext (by blk_simp [idx_val t])
    have h1 : ((((View.whole main_v6_0).slice (win0_5.rect t)).emb (ix2 y0 y1)) 1) = y1 := Fin.ext (by blk_simp [idx_val t])
    unfold dxRows
    rw [h1, h0]
    unfold out0_5 k0_pay9 k0_pay10
    rw [View.ld_unit_lit _ _ (by decide), View.ld_unit_lit _ _ (by decide), View.ld_unit_lit _ _ (by decide)]
    generalize hD : k0_pay8 (F := Ideal) (iblk m c 0 t) (iblk m c 1 t) (iblk m c 2 t) (iblk m c 3 t) (iblk m c 4 t) = D
    frame_out
    refine (pay4_at D _ _ _ y0 y1).trans ?_
    refine congrArg₂ (· + ·) (rd2 m c R hR t y0 y1 _ rfl) ?_
    congr 1
    · funext j; exact rd3 m c X hX t y0 j _ rfl
    · funext j; exact congrArg₂ (· * ·) ((congrFun hD _).symm.trans (pay8_rows m c Y W hY hW t y0 j _ rfl)) (rd4 m c G hG t j)
  exact key y

include hY hW hX in
theorem arr6 : (dats m 0 c).arrAt 6 (cfgs 0).N = dgRows X (dnRows Y W) := by
  refine (dats m 0 c).arrAt_eq_of_covers 6 _ (by decide +kernel) fun t _ y => ?_
  blk_simp
  rw [after0_6]
  have key : ∀ y : S8x1024.Idx, out0_6 (F := Ideal) (iblk m c 0 t) (iblk m c 1 t) (iblk m c 2 t) (iblk m c 3 t) (iblk m c 4 t) y
      = dgRows X (dnRows Y W) (((View.whole main_v6_1).slice (win0_6.rect t)).emb y) := by
    intro y
    idx_vars y
    have ht : t.val < 8 := t.2
    have hy : y0.val < 8 := y0.2
    rw [dgRows_at X (dnRows Y W) _ ⟨t.val, ht⟩ y0 y1 (by blk_simp [idx_val t]) (by blk_simp [idx_val t])]
    unfold out0_6 k0_pay9 k0_pay10
    rw [View.ld_unit_lit _ _ (by decide)]
    generalize hD : k0_pay8 (F := Ideal) (iblk m c 0 t) (iblk m c 1 t) (iblk m c 2 t) (iblk m c 3 t) (iblk m c 4 t) = D
    frame_out
    refine (pay3_at D _ y0 y1).trans ?_
    exact if_congr Iff.rfl (dgRows_block X (dnRows Y W) ⟨t.val, ht⟩ y1 (fun s j => (show FVec Ideal S512x1024 .f32 from iblk m c 3 t) (ix2 s j)) (fun s j => D (ix2 s j))
      (fun s j => rd3 m c X hX t s j _ rfl) (fun s => (congrFun hD _).symm.trans (pay8_rows m c Y W hY hW t s y1 _ rfl))) rfl
  exact key y
end

end Cert.PreKernelIdeal.Pre

end
end
-- ==== Proof.PreRef.lean ====
/- What differentiating the norm and the input product gives. -/
module

public import proofs.«01_k».proof.Proof.NormMath
public import proofs.«01_k».proof.Proof.Sums
public import proofs.«01_k».proof.Proof.Gen.PreReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.PreReferenceIdeal.Pre

open Cert.PreReferenceIdeal Cert.PreReferenceIdeal.Read

variable (Y : FVec Ideal S2x2048x5632 .bf16) (W : FVec Ideal S1024x5632 .bf16) (R X : FVec Ideal S2x2048x1024 .f32) (G : FVec Ideal S1024 .f32)
  (b : Fin 2) (s : Fin 2048)

/-- The row, the gradient before the product, and that after the gain. -/
abbrev xRow : Fin 1024 → EReal := fun j => X (ix3 b s j)
abbrev nRow : Fin 1024 → EReal := fun k => ∑ j : Fin 5632, Y (ix3 b s j) * W (ix2 k j)
abbrev dRow : Fin 1024 → EReal := fun k => nRow Y W b s k * G (ix1 k)

theorem v8_at : val_main_v8 (F := Ideal) X (ix3 b s 0) = Norm.rn (xRow X b s) := by
  unfold Norm.rn
  pointwise [val_main_v8, val_main_v7, val_main_v6, val_main_v5, val_main_v4, val_main_v3, val_main_v2, val_main_v1, val_main_cst, val_main_cst_0, val_main_cst_1]

theorem v19_at (k : Fin 1024) : val_main_v19 (F := Ideal) Y W (ix3 b s k) = nRow Y W b s k := by
  pointwise [val_main_v19, val_main_v18, val_main_v0]

theorem v24_at (k : Fin 1024) : val_main_v24 (F := Ideal) Y W G (ix3 b s k) = dRow Y W G b s k := by
  pointwise [val_main_v24, v19_at, val_main_v23, val_main_v14]

theorem v35_at : val_main_v35 (F := Ideal) Y W X G (ix2 b s) = Norm.zform (xRow X b s) (dRow Y W G b s) := by
  unfold Norm.zform
  pointwise [val_main_v35, val_main_v34, val_main_v33, val_main_v32, val_main_v28, val_main_v27, val_main_v26, v24_at, val_main_v11, val_main_v10, val_main_v9, v8_at,
    val_main_v7, val_main_v6, val_main_v5, val_main_v4, val_main_v3, val_main_v2, val_main_v1, val_main_cst, val_main_cst_0, val_main_cst_1, val_main_cst_2, val_main_cst_5, val_main_cst_6, val_main_cst_7]
  rw [Fin.sum_univ_one, v8_at]

theorem v40_at (k : Fin 1024) : val_main_v40 (F := Ideal) Y W R X G (ix3 b s k) = R (ix3 b s k) + Norm.kform (xRow X b s) (dRow Y W G b s) k := by
  rw [Norm.kform_eq]
  pointwise [val_main_v40, val_main_v39, val_main_v38, val_main_v37, val_main_v36, val_main_v31, val_main_v30, val_main_v29, v35_at, v24_at, v8_at]
  rw [add_assoc, add_assoc, add_assoc]

theorem v25_at (k : Fin 1024) : val_main_v25 (F := Ideal) Y W X (ix1 k) = ∑ b : Fin 2, ∑ s : Fin 2048, (X (ix3 b s k) * Norm.rn (xRow X b s)) * nRow Y W b s k := by
  have e : val_main_v22 (F := Ideal) Y W X (ix3 0 0 k) = ∑ b : Fin 2, ∑ s : Fin 2048, (X (ix3 b s k) * Norm.rn (xRow X b s)) * nRow Y W b s k := by
    pointwise [val_main_v22]
    show Ideal.hostReduceAdd _ _ _ _ = _
    rw [Cert.Sums.hostSum01]
    pointwise [val_main_v20, val_main_v13, val_main_v12, v8_at, v19_at, val_main_cst_3]
  show Ideal.hostReduceAdd _ _ _ _ = _
  rw [Cert.Sums.hostSum01]
  rw [Fin.sum_univ_one, Fin.sum_univ_one, e]
  pointwise [val_main_cst_4]

end Cert.PreReferenceIdeal.Pre

end
end
-- ==== Proof.PreClaim.lean ====
/- The claims about the input product's gradient. -/
module

public import proofs.«01_k».proof.Defs
public import proofs.«01_k».proof.Proof.PreBlock
public import proofs.«01_k».proof.Proof.PreRef
public import proofs.«01_k».proof.Proof.Gen.PreKernel.Frame
public import proofs.«01_k».proof.Proof.Gen.PreReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Pre

open Cert.PreKernelIdeal.Pre (dxRows dnRows parts yFlat wParts xFlat gFlat)
open Cert.Norm (dgRows)

section
open Cert.PreKernelIdeal Cert.PreKernelIdeal.Gen Cert.PreKernelIdeal.Pre

variable (m : (ℓ : Loc nD τ sig) → Buf (Elt Ideal) ℓ)

/-- The gain's gradient: the partial sums of all blocks added up. -/
def dgSum (D : FVec Ideal S64x1024 .f32) : FVec Ideal S1x1024 .f32 :=
  broadcastInDim S1x1024 ![1] bcast_S1024_S1x1024_1 (Host.reduceAdd D (constant S_ .f32 0x00000000#32 : FVec Ideal S_ .f32) reducesTo_S64x1024_S1024_d0 h_S_)

theorem tail_dg (c : Dev nD) (D : FVec Ideal S64x1024 .f32) (hD : (dats m 0 c).arrAt 6 (cfgs 0).N = D) :
    (Pipeline.afterTail₀ cfgs (dats m) 0 (V0 m) [hostOps1] c main_v8 : FVec Ideal S1x1024 .f32) = dgSum D := by
  unfold Pipeline.afterTail₀
  simp only [hostOps1, List.flatten_cons, List.flatten_nil, List.append_nil]
  after_results
  refine congrArg dgSum (Eq.trans ?_ hD)
  exact Pipeline.withArrays_arr spec0 launch0.win.arr_inj c (V0 m c) (fun w => (dats m 0 c).arrAt w (cfgs 0).N) 6

/-- What the kernel leaves, on every device. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v6_0) = dxRows (yFlat (m ((c.tc : Thread nD τ).loc main_arg0))) (wParts (m ((c.tc : Thread nD τ).loc main_arg1))) (xFlat (m ((c.tc : Thread nD τ).loc main_arg2))) (xFlat (m ((c.tc : Thread nD τ).loc main_arg3))) (gFlat (m ((c.tc : Thread nD τ).loc main_arg4)))
      ∧ r.2.mem ((c.tc : Thread nD τ).loc main_v8) = dgSum (dgRows (xFlat (m ((c.tc : Thread nD τ).loc main_arg3))) (dnRows (yFlat (m ((c.tc : Thread nD τ).loc main_arg0))) (wParts (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h.1 c).1 5).trans (arr5 m c _ _ _ _ _ (V_y m c) (V_w m c) (V_r m c) (V_x m c) (V_g m c)),
       ((h.1 c).2 main_v8 (Pipeline.mem_restRefs_of main_v8 (by decide) (by decide))).trans (tail_dg m c _ (arr6 m c _ _ _ (V_y m c) (V_w m c) (V_x m c))), h.2 c⟩)
    (θ_run_and (run_main m g) (unchanged m g))

end

section
open Cert.PreReferenceIdeal Cert.PreReferenceIdeal.Pre Cert.PreReferenceIdeal.Read

variable (Y : FVec Ideal S2x2048x5632 .bf16) (W : FVec Ideal S1024x5632 .bf16) (R X : FVec Ideal S2x2048x1024 .f32) (G : FVec Ideal S1024 .f32)

theorem x_at (X : FVec Ideal S2x2048x1024 .f32) (i : Fin 4096) (k : Fin 1024) (b : Fin 2) (s : Fin 2048) (hi : i.val = b.val * 2048 + s.val) : xFlat X (ix2 i k) = X (ix3 b s k) := by
  pointwise; blk_ext

/-- The four parts of the columns together. -/
theorem dn_at (i : Fin 4096) (k : Fin 1024) (b : Fin 2) (s : Fin 2048) (hi : i.val = b.val * 2048 + s.val) :
    dnRows (yFlat Y) (wParts W) (ix2 i k) = nRow Y W b s k := by
  let f : ℕ → EReal := fun j => if h : j < 5632 then Y (ix3 b s ⟨j, h⟩) * W (ix2 k ⟨j, h⟩) else 0
  have e : nRow Y W b s k = ∑ j : Fin (4 * 1408), f j := Finset.sum_congr rfl fun j _ => by
    have hj : j.val < 5632 := j.2
    show _ = dite (j.val < 5632) _ _
    rw [dif_pos hj]
  rw [e, Norm.sum_runs 4 1408 f]
  refine Finset.sum_congr rfl fun p _ => Finset.sum_congr rfl fun j _ => ?_
  have hb : p.val * 1408 + j.val < 5632 := by omega
  show _ = dite (p.val * 1408 + j.val < 5632) _ _
  rw [dif_pos hb]
  refine congrArg₂ (· * ·) ?_ ?_
  · show yFlat Y (ix2 i ⟨p.val * 1408 + j.val, _⟩) = _
    pointwise; blk_ext
  · show wParts W (ix3 p k j) = _
    pointwise; blk_ext

theorem ref_dx : val_main_v41 (F := Ideal) Y W R X G = dxRows (yFlat Y) (wParts W) (xFlat R) (xFlat X) (gFlat G) :=
  funext fun i => by
    idx_vars i
    have hi : i0.val = (⟨i0.val / 2048, by omega⟩ : Fin 2).val * 2048 + (⟨i0.val % 2048, by omega⟩ : Fin 2048).val := by
      show i0.val = i0.val / 2048 * 2048 + i0.val % 2048; omega
    have eg : ∀ j : Fin 1024, gFlat G (ix2 0 j) = G (ix1 j) := fun j => by pointwise
    show _ = xFlat R (ix2 i0 i1) + Norm.kform (fun j => xFlat X (ix2 i0 j)) (fun j => dnRows (yFlat Y) (wParts W) (ix2 i0 j) * gFlat G (ix2 0 j)) i1
    simp only [x_at _ i0 _ _ _ hi, dn_at Y W i0 _ _ _ hi, eg]
    rw [← v40_at]
    pointwise [val_main_v41]
    blk_ext

theorem ref_dg : val_main_v42 (F := Ideal) Y W X = dgSum (dgRows (xFlat X) (dnRows (yFlat Y) (wParts W))) :=
  funext fun i => by
    idx_vars i
    have el : val_main_v42 (F := Ideal) Y W X (ix2 i0 i1) = val_main_v25 (F := Ideal) Y W X (ix1 i1) := by
      pointwise [val_main_v42]
    have er : dgSum (dgRows (xFlat X) (dnRows (yFlat Y) (wParts W))) (ix2 i0 i1) = ∑ a : Fin 64, dgRows (xFlat X) (dnRows (yFlat Y) (wParts W)) (ix2 a i1) := by
      pointwise [dgSum]
    rw [el, v25_at, er, Norm.dgRows_sum]
    refine Finset.sum_congr rfl fun b _ => Finset.sum_congr rfl fun s _ => ?_
    rw [dn_at Y W _ _ b s rfl]
    simp only [x_at X (⟨b.val * 2048 + s.val, by omega⟩ : Fin 4096) _ b s rfl]
    exact mul_comm _ _

end

theorem algebraic : Cert.algebraic_PreKernelIdeal_PreReferenceIdeal := by
  pair_intro
  · run_from kernel_run m g
  · run_from Cert.PreReferenceIdeal.Value.run (F := Ideal) m' g'
    · refine (Cert.PreReferenceIdeal.Read.val_main_v41_eq _ _).trans ?_
      rw [ref_dx, (hagree c).1, (hagree c).2.1, (hagree c).2.2.1, (hagree c).2.2.2.1, (hagree c).2.2.2.2]
    · refine (Cert.PreReferenceIdeal.Read.val_main_v42_eq _ _ _).trans ?_
      exact ref_dg _ _ _

theorem frame_ref : Cert.quiescent_PreReferenceIdeal := fun m g _ =>
  (θ_run Cert.PreReferenceIdeal.defs _ _).mono (fun r h => ⟨fun c => (h c).2.2, sem_eq_zero_of_no_sems (by decide) r.2⟩)
    (Cert.PreReferenceIdeal.Value.run (F := Ideal) m g)

theorem claims : Cert.quiescent_PreKernel ∧ Cert.quiescent_PreKernelIdeal ∧ Cert.quiescent_PreReferenceIdeal
    ∧ Cert.preserves_PreKernel_PreKernelIdeal ∧ Cert.algebraic_PreKernelIdeal_PreReferenceIdeal :=
  ⟨fun m g _ => Cert.PreKernel.Gen.frame m g, fun m g _ => Cert.PreKernelIdeal.Gen.frame m g, frame_ref, trivial, algebraic⟩

end Cert.Proof.Pre

end
end
-- ==== Proof.OutArr.lean ====
/- The arrays the output product with its norm leaves. -/
module

public import proofs.«01_k».proof.Proof.NormMath
public import proofs.«01_k».proof.Proof.Gen.OutKernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.OutKernelIdeal.Out

open Cert.OutKernelIdeal Cert.OutKernelIdeal.Gen

/-- A row through its norm, halved, added to the residual. -/
def halfStep {n : ℕ} (x : EReal) (h : Fin n → EReal) (g : EReal) (k : Fin n) : EReal :=
  x + Ideal.ofBits .f32 0x3F000000#32 * (h k * Norm.rn h * g)

theorem pay1_at (a : Vec Ideal S512x2816 .bf16) (w : Vec Ideal S2816x1024 .bf16) (s : Fin 512) (k : Fin 1024) :
    k0_pay1 (F := Ideal) a w (ix2 s k) = ∑ j : Fin 2816, a (ix2 s j) * w (ix2 j k) := by
  pointwise [k0_pay1]

theorem pay2_at (a : Vec Ideal S512x2816 .bf16) (w : Vec Ideal S2816x1024 .bf16) (x : Vec Ideal S512x1024 .f32) (g : Vec Ideal S1x1024 .f32) (s : Fin 512) (k : Fin 1024) :
    k0_pay2 (F := Ideal) a w x g (ix2 s k) = halfStep (x (ix2 s k)) (fun k => k0_pay1 (F := Ideal) a w (ix2 s k)) (g (ix2 0 k)) k := by
  unfold k0_pay2 halfStep Norm.rn
  generalize k0_pay1 (F := Ideal) a w = h
  pointwise

variable (m : (ℓ : Loc nD τ sig) → Buf (Elt Ideal) ℓ)

/-- The argument arrays on a core. -/
abbrev aA (c : Dev nD) : FVec Ideal S2x2048x2816 .bf16 := m ((c : Thread nD τ).loc main_arg0)
abbrev aW (c : Dev nD) : FVec Ideal S2816x1024 .bf16 := m ((c : Thread nD τ).loc main_arg1)
abbrev aX (c : Dev nD) : FVec Ideal S2x2048x1024 .f32 := m ((c : Thread nD τ).loc main_arg2)
abbrev aG (c : Dev nD) : FVec Ideal S1024 .f32 := m ((c : Thread nD τ).loc main_arg3)

theorem V_a (c : Dev nD) : (V m c main_v0 : FVec Ideal S4096x2816 .bf16) = shapeCast S4096x2816 (aA m c) := by
  unfold V; simp only [hostOps0, List.flatten_cons, List.flatten_nil, List.append_nil, List.cons_append, List.nil_append]; after_results; try rfl

theorem V_x (c : Dev nD) : (V m c main_v1 : FVec Ideal S4096x1024 .f32) = shapeCast S4096x1024 (aX m c) := by
  unfold V; simp only [hostOps0, List.flatten_cons, List.flatten_nil, List.append_nil, List.cons_append, List.nil_append]; after_results; try rfl

theorem V_g (c : Dev nD) : (V m c main_v2 : FVec Ideal S1x1024 .f32) = shapeCast S1x1024 (aG m c) := by
  unfold V; simp only [hostOps0, List.flatten_cons, List.flatten_nil, List.append_nil, List.cons_append, List.nil_append]; after_results; try rfl

/-- The index maps of the windows, decided at every grid point. -/
theorem idx_val : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := (by decide +kernel : ∀ t : Fin grid0.N, _)

section
variable (c : Dev nD) (t : Fin cfg0.N) (s : Fin 512) (b : Fin 2) (r : Fin 2048) (hr : t.val * 512 + s.val = b.val * 2048 + r.val)

include hr in
theorem rd0 (l : Fin 2816) : (show FVec Ideal S512x2816 .bf16 from iblk m c 0 t) (ix2 s l) = aA m c (ix3 b r l) := by
  blk_simp [iblk, idx_val t]; erw [V_a]; pointwise; blk_ext [idx_val t]

theorem rd1 (k : Fin 2816) (l : Fin 1024) : (show FVec Ideal S2816x1024 .bf16 from iblk m c 1 t) (ix2 k l) = aW m c (ix2 k l) := by
  blk_simp [iblk, idx_val t]; erw [V_main_arg1]; blk_ext [idx_val t]

include hr in
theorem rd2 (l : Fin 1024) : (show FVec Ideal S512x1024 .f32 from iblk m c 2 t) (ix2 s l) = aX m c (ix3 b r l) := by
  blk_simp [iblk, idx_val t]; erw [V_x]; pointwise; blk_ext [idx_val t]

theorem rd3 (l : Fin 1024) : (show FVec Ideal S1x1024 .f32 from iblk m c 3 t) (ix2 0 l) = aG m c (ix1 l) := by
  blk_simp [iblk, idx_val t]; erw [V_g]; pointwise; blk_ext [idx_val t]
end

/-- The product's row of one position. -/
def hRow (A : FVec Ideal S2x2048x2816 .bf16) (W : FVec Ideal S2816x1024 .bf16) (b : Fin 2) (r : Fin 2048) (k : Fin 1024) : EReal :=
  ∑ j : Fin 2816, A (ix3 b r j) * W (ix2 j k)

/-- What the half step leaves at one position. -/
def oRow (A : FVec Ideal S2x2048x2816 .bf16) (W : FVec Ideal S2816x1024 .bf16) (X : FVec Ideal S2x2048x1024 .f32) (G : FVec Ideal S1024 .f32)
    (b : Fin 2) (r : Fin 2048) (k : Fin 1024) : EReal :=
  halfStep (X (ix3 b r k)) (hRow A W b r) (G (ix1 k)) k

/-- A table of rows, batch after batch. -/
def rows (f : Fin 2 → Fin 2048 → Fin 1024 → EReal) : FVec Ideal S4096x1024 .f32 :=
  fun i => f ⟨(i 0).val / 2048, by have := (i 0).2; simp at this; omega⟩ ⟨(i 0).val % 2048, by omega⟩ (i 1)

theorem rows_emb (f : Fin 2 → Fin 2048 → Fin 1024 → EReal) (i : S4096x1024.Idx) (n : ℕ) (k : Fin 1024) (b : Fin 2) (r : Fin 2048)
    (hr : n = b.val * 2048 + r.val) (h0 : (i 0).val = n) (h1 : (i 1).val = k.val) : rows f i = f b r k := by
  unfold rows
  refine congr (congr (congrArg f (Fin.ext ?_)) (Fin.ext ?_)) (Fin.ext h1)
  · show (i 0).val / 2048 = b.val
    omega
  · show (i 0).val % 2048 = r.val
    omega

variable (c : Dev nD)

/-- The position a row of a block stands for. -/
theorem place (t : Fin cfg0.N) (s : Fin 512) : ∃ (b : Fin 2) (r : Fin 2048), t.val * 512 + s.val = b.val * 2048 + r.val := by
  have ht : t.val < 8 := t.2
  exact ⟨⟨(t.val * 512 + s.val) / 2048, by omega⟩, ⟨(t.val * 512 + s.val) % 2048, by omega⟩, by show _ = (t.val * 512 + s.val) / 2048 * 2048 + (t.val * 512 + s.val) % 2048; omega⟩

theorem h_block (t : Fin cfg0.N) (s : Fin 512) (b : Fin 2) (r : Fin 2048) (hr : t.val * 512 + s.val = b.val * 2048 + r.val) (k : Fin 1024) :
    k0_pay1 (F := Ideal) (iblk m c 0 t) (iblk m c 1 t) (ix2 s k) = hRow (aA m c) (aW m c) b r k :=
  (pay1_at _ _ s k).trans (Finset.sum_congr rfl fun j _ => congrArg₂ (· * ·) (rd0 m c t s b r hr j) (rd1 m c t j k))

theorem arr4 : (dats m 0 c).arrAt 4 (cfgs 0).N = rows (hRow (aA m c) (aW m c)) := by
  refine (dats m 0 c).arrAt_eq_of_covers 4 _ (by decide +kernel) fun t _ y => ?_
  blk_simp
  rw [after0_4]
  have key : ∀ y : S512x1024.Idx, out0_4 (F := Ideal) (iblk m c 0 t) (iblk m c 1 t) (iblk m c 2 t) (iblk m c 3 t) y
      = rows (hRow (aA m c) (aW m c)) (((View.whole main_v3_0).slice (win0_4.rect t)).emb y) := by
    intro y
    idx_vars y
    obtain ⟨b, r, hr⟩ := place t y0
    rw [rows_emb _ _ _ y1 b r hr (by blk_simp [idx_val t]) (by blk_simp [idx_val t])]
    frame_out
    exact h_block m c t y0 b r hr y1
  exact key y

theorem arr5 : (dats m 0 c).arrAt 5 (cfgs 0).N = rows (oRow (aA m c) (aW m c) (aX m c) (aG m c)) := by
  refine (dats m 0 c).arrAt_eq_of_covers 5 _ (by decide +kernel) fun t _ y => ?_
  blk_simp
  rw [after0_5]
  have key : ∀ y : S512x1024.Idx, out0_5 (F := Ideal) (iblk m c 0 t) (iblk m c 1 t) (iblk m c 2 t) (iblk m c 3 t) y
      = rows (oRow (aA m c) (aW m c) (aX m c) (aG m c)) (((View.whole main_v3_1).slice (win0_5.rect t)).emb y) := by
    intro y
    idx_vars y
    obtain ⟨b, r, hr⟩ := place t y0
    rw [rows_emb _ _ _ y1 b r hr (by blk_simp [idx_val t]) (by blk_simp [idx_val t])]
    frame_out
    refine (pay2_at _ _ _ _ y0 y1).trans ?_
    unfold oRow
    exact congr (congr (congr (congrArg halfStep (rd2 m c t y0 b r hr y1)) (funext fun k => h_block m c t y0 b r hr k)) (rd3 m c t y1)) rfl
  exact key y

end Cert.OutKernelIdeal.Out

end
end
-- ==== Proof.OutClaim.lean ====
/- The claims about the output product with its norm. -/
module

public import proofs.«01_k».proof.Defs
public import proofs.«01_k».proof.Proof.OutArr
public import proofs.«01_k».proof.Proof.Gen.OutKernel.Frame
public import proofs.«01_k».proof.Proof.Gen.OutReferenceIdeal.Run
public import proofs.«01_k».proof.Proof.Gen.OutReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Out

open Cert.OutKernelIdeal.Out (hRow oRow rows halfStep)

section
open Cert.OutKernelIdeal Cert.OutKernelIdeal.Out

/-- What the kernel leaves, on every device. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3_0) = rows (hRow (m ((c.tc : Thread nD τ).loc main_arg0)) (m ((c.tc : Thread nD τ).loc main_arg1)))
      ∧ r.2.mem ((c.tc : Thread nD τ).loc main_v3_1) = rows (oRow (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (arr4 m c), (h c).2.1.trans (arr5 m c), (h c).2.2⟩) (Value.run_blocks (F := Ideal) m g)

end

section
open Cert.OutReferenceIdeal Cert.OutReferenceIdeal.Read

variable (A : FVec Ideal S2x2048x2816 .bf16) (W : FVec Ideal S2816x1024 .bf16) (X : FVec Ideal S2x2048x1024 .f32) (G : FVec Ideal S1024 .f32)
  (b : Fin 2) (s : Fin 2048) (k : Fin 1024)

theorem h_at : val_main_v2 (F := Ideal) A W (ix3 b s k) = hRow A W b s k := by
  unfold hRow
  pointwise [val_main_v2, val_main_v1, val_main_v0]

theorem rn_at : val_main_v11 (F := Ideal) A W (ix3 b s 0) = Norm.rn (hRow A W b s) := by
  unfold Norm.rn
  pointwise [val_main_v11, val_main_v10, val_main_v9, val_main_v8, val_main_v7, val_main_v6, val_main_v5, val_main_v4, val_main_cst, val_main_cst_0, val_main_cst_1, h_at]

theorem o_at : val_main_v19 (F := Ideal) A W X G (ix3 b s k) = oRow A W X G b s k := by
  unfold oRow halfStep
  pointwise [val_main_v19, val_main_v18, val_main_v17, val_main_v16, val_main_v15, val_main_v14, val_main_v13, val_main_v12, val_main_cst_2, rn_at, h_at]

theorem h_row (i : Fin 4096) : val_main_v3 (F := Ideal) A W (ix2 i k) = hRow A W ⟨i.val / 2048, by omega⟩ ⟨i.val % 2048, by omega⟩ k := by
  pointwise [val_main_v3, h_at]

theorem o_row (i : Fin 4096) : val_main_v20 (F := Ideal) A W X G (ix2 i k) = oRow A W X G ⟨i.val / 2048, by omega⟩ ⟨i.val % 2048, by omega⟩ k := by
  pointwise [val_main_v20, o_at]

theorem ref_h : val_main_v3 (F := Ideal) A W = rows (hRow A W) :=
  funext fun i => by idx_vars i; exact h_row A W i1 i0

theorem ref_o : val_main_v20 (F := Ideal) A W X G = rows (oRow A W X G) :=
  funext fun i => by idx_vars i; exact o_row A W X G i1 i0

end

theorem algebraic : Cert.algebraic_OutKernelIdeal_OutReferenceIdeal := by
  pair_intro
  · run_from kernel_run m g
  · run_from Cert.OutReferenceIdeal.Value.run (F := Ideal) m' g'
    · exact (Cert.OutReferenceIdeal.Read.val_main_v3_eq _ _).trans (ref_h _ _)
    · exact (Cert.OutReferenceIdeal.Read.val_main_v20_eq _ _ _ _).trans (ref_o _ _ _ _)

theorem frame_ref : Cert.quiescent_OutReferenceIdeal := fun m g _ =>
  (θ_run Cert.OutReferenceIdeal.defs _ _).mono (fun r h => ⟨fun c => (h c).2.2, sem_eq_zero_of_no_sems (by decide) r.2⟩)
    (Cert.OutReferenceIdeal.Value.run (F := Ideal) m g)

theorem claims : Cert.quiescent_OutKernel ∧ Cert.quiescent_OutKernelIdeal ∧ Cert.quiescent_OutReferenceIdeal
    ∧ Cert.preserves_OutKernel_OutKernelIdeal ∧ Cert.algebraic_OutKernelIdeal_OutReferenceIdeal :=
  ⟨fun m g _ => Cert.OutKernel.Gen.frame m g, fun m g _ => Cert.OutKernelIdeal.Gen.frame m g, frame_ref, trivial, algebraic⟩

end Cert.Proof.Out

end
end
-- ==== Proof.SinArr.lean ====
/- The arrays the entry of a feed-forward half step leaves: norm, product, swiglu. -/
module

public import proofs.«01_k».proof.Proof.NormMath
public import proofs.«01_k».proof.Proof.Gen.SinKernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SinKernelIdeal.Sin

open Cert.SinKernelIdeal Cert.SinKernelIdeal.Gen

/-- The gate through its sigmoid, times the other half. -/
def act (γ u : EReal) : EReal := (γ * Ideal.logistic γ) * u

theorem pay6_at (x : Vec Ideal S512x1024 .f32) (g : Vec Ideal S1x1024 .f32) (s : Fin 512) (k : Fin 1024) :
    k0_pay6 (F := Ideal) x g (ix2 s k) = x (ix2 s k) * Norm.rn (fun k => x (ix2 s k)) * g (ix2 0 k) := by
  unfold Norm.rn
  pointwise [k0_pay6]

theorem pay1_at (D : FVec Ideal S512x1024 .bf16) (w : Vec Ideal S1x1024x1408 .bf16) (s : Fin 512) (j : Fin 1408) :
    k0_pay1 (F := Ideal) D w (ix2 s j) = ∑ k : Fin 1024, D (ix2 s k) * w (ix3 0 k j) := by
  pointwise [k0_pay1]

theorem pay3_at (D : FVec Ideal S512x1024 .bf16) (w : Vec Ideal S1x1024x1408 .bf16) (s : Fin 512) (j : Fin 1408) :
    k0_pay3 (F := Ideal) D w (ix2 s j) = ∑ k : Fin 1024, D (ix2 s k) * w (ix3 0 k j) := pay1_at D w s j

theorem pay2_at (D : FVec Ideal S512x1024 .bf16) (w : Vec Ideal S1x1024x1408 .bf16) (s : Fin 512) (j : Fin 1408) :
    k0_pay2 (F := Ideal) D w (ix2 s j) = ∑ k : Fin 1024, D (ix2 s k) * w (ix3 0 k j) := pay1_at D w s j

theorem pay4_at (D : FVec Ideal S512x1024 .bf16) (w : Vec Ideal S1x1024x1408 .bf16) (s : Fin 512) (j : Fin 1408) :
    k0_pay4 (F := Ideal) D w (ix2 s j) = ∑ k : Fin 1024, D (ix2 s k) * w (ix3 0 k j) := pay1_at D w s j

theorem pay8_at (x : Vec Ideal S512x1024 .f32) (g : Vec Ideal S1x1024 .f32) (w : Vec Ideal S1x1024x1408 .bf16) (s : Fin 512) (j : Fin 1408) :
    k0_pay8 (F := Ideal) x g w (ix2 s j) = ∑ k : Fin 1024, k0_pay6 (F := Ideal) x g (ix2 s k) * w (ix3 0 k j) := pay1_at (k0_pay6 x g) w s j

theorem pay10_at (x : Vec Ideal S512x1024 .f32) (g : Vec Ideal S1x1024 .f32) (w : Vec Ideal S1x1024x1408 .bf16) (s : Fin 512) (j : Fin 1408) :
    k0_pay10 (F := Ideal) x g w (ix2 s j) = ∑ k : Fin 1024, k0_pay6 (F := Ideal) x g (ix2 s k) * w (ix3 0 k j) := pay1_at (k0_pay6 x g) w s j

theorem pay5_at (D : FVec Ideal S512x1024 .bf16) (v w : Vec Ideal S1x1024x1408 .bf16) (s : Fin 512) (j : Fin 1408) :
    k0_pay5 (F := Ideal) D v w (ix2 s j) = act (∑ k : Fin 1024, D (ix2 s k) * v (ix3 0 k j)) (∑ k : Fin 1024, D (ix2 s k) * w (ix3 0 k j)) := by
  rw [← pay1_at D v s j, ← pay3_at D w s j]
  unfold k0_pay5 act
  generalize k0_pay1 (F := Ideal) D v = a
  generalize k0_pay3 (F := Ideal) D w = b
  pointwise

theorem pay11_at (x : Vec Ideal S512x1024 .f32) (g : Vec Ideal S1x1024 .f32) (v w : Vec Ideal S1x1024x1408 .bf16) (s : Fin 512) (j : Fin 1408) :
    k0_pay11 (F := Ideal) x g v w (ix2 s j)
      = act (∑ k : Fin 1024, k0_pay6 (F := Ideal) x g (ix2 s k) * v (ix3 0 k j)) (∑ k : Fin 1024, k0_pay6 (F := Ideal) x g (ix2 s k) * w (ix3 0 k j)) :=
  pay5_at (k0_pay6 x g) v w s j

theorem ldW (x : Vec Ideal S4x1024x1408 .bf16) (o : ℕ) (inb) (k : Fin 1024) (j : Fin 1408) (p : Fin 4) (h : p.val = o) :
    View.ld x (Rect.unit (s := S4x1024x1408) ![o, 0, 0] S1x1024x1408.size inb) (ix3 0 k j) = x (ix3 p k j) :=
  View.ld_unit_apply_of _ _ _ _ _ _ fun a => by
    match a with
    | 0 => exact h
    | 1 => exact (Nat.zero_add _).symm
    | 2 => exact (Nat.zero_add _).symm

variable (m : (ℓ : Loc nD τ sig) → Buf (Elt Ideal) ℓ)

/-- The argument arrays on a core. -/
abbrev aX (c : Dev nD) : FVec Ideal S2x2048x1024 .f32 := m ((c : Thread nD τ).loc main_arg0)
abbrev aG (c : Dev nD) : FVec Ideal S1024 .f32 := m ((c : Thread nD τ).loc main_arg1)
abbrev aW (c : Dev nD) : FVec Ideal S1024x5632 .bf16 := m ((c : Thread nD τ).loc main_arg2)

/-- The columns of the weights in four parts. -/
abbrev wParts (W : FVec Ideal S1024x5632 .bf16) : FVec Ideal S4x1024x1408 .bf16 :=
  transpose S4x1024x1408 [1, 0, 2] (shapeCast S1024x4x1408 W : FVec Ideal S1024x4x1408 .bf16) transposes_S1024x4x1408_S4x1024x1408_1_0_2

/-- A column's place in all of them, from its part and its place there. -/
def col (p : Fin 4) (j : Fin 1408) : Fin 5632 := ⟨p.val * 1408 + j.val, by omega⟩

theorem wParts_at (W : FVec Ideal S1024x5632 .bf16) (p : Fin 4) (k : Fin 1024) (j : Fin 1408) : wParts W (ix3 p k j) = W (ix2 k (col p j)) := by
  unfold col
  pointwise; blk_ext

theorem V_w (c : Dev nD) : (V m c main_v1 : FVec Ideal S4x1024x1408 .bf16) = wParts (aW m c) := by
  unfold V; simp only [hostOps0, List.flatten_cons, List.flatten_nil, List.append_nil, List.cons_append, List.nil_append]; after_results; try rfl

theorem V_x (c : Dev nD) : (V m c main_v2 : FVec Ideal S4096x1024 .f32) = shapeCast S4096x1024 (aX m c) := by
  unfold V; simp only [hostOps0, List.flatten_cons, List.flatten_nil, List.append_nil, List.cons_append, List.nil_append]; after_results; try rfl

theorem V_g (c : Dev nD) : (V m c main_v3 : FVec Ideal S1x1024 .f32) = shapeCast S1x1024 (aG m c) := by
  unfold V; simp only [hostOps0, List.flatten_cons, List.flatten_nil, List.append_nil, List.cons_append, List.nil_append]; after_results; try rfl

/-- The index maps of the windows, decided at every grid point. -/
theorem idx_val : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] := (by decide +kernel : ∀ t : Fin grid0.N, _)

/-- The normed row of one position. -/
def nRow (X : FVec Ideal S2x2048x1024 .f32) (G : FVec Ideal S1024 .f32) (b : Fin 2) (r : Fin 2048) (k : Fin 1024) : EReal :=
  X (ix3 b r k) * Norm.rn (fun k => X (ix3 b r k)) * G (ix1 k)

/-- Its product with a column of the weights. -/
def pRow (X : FVec Ideal S2x2048x1024 .f32) (G : FVec Ideal S1024 .f32) (W : FVec Ideal S1024x5632 .bf16) (b : Fin 2) (r : Fin 2048) (q : Fin 5632) : EReal :=
  ∑ k : Fin 1024, nRow X G b r k * W (ix2 k q)

/-- The swiglu of the two halves of the columns. -/
def aRow (X : FVec Ideal S2x2048x1024 .f32) (G : FVec Ideal S1024 .f32) (W : FVec Ideal S1024x5632 .bf16) (b : Fin 2) (r : Fin 2048) (q : Fin 2816) : EReal :=
  act (pRow X G W b r ⟨q.val, by omega⟩) (pRow X G W b r ⟨2816 + q.val, by omega⟩)

section
variable (c : Dev nD) (t : Fin cfg0.N) (s : Fin 512) (b : Fin 2) (r : Fin 2048) (hr : t.val * 512 + s.val = b.val * 2048 + r.val)

include hr in
theorem rd0 (l : Fin 1024) : (show FVec Ideal S512x1024 .f32 from iblk m c 0 t) (ix2 s l) = aX m c (ix3 b r l) := by
  blk_simp [iblk, idx_val t]; erw [V_x]; pointwise; blk_ext [idx_val t]

theorem rd1 (l : Fin 1024) : (show FVec Ideal S1x1024 .f32 from iblk m c 1 t) (ix2 0 l) = aG m c (ix1 l) := by
  blk_simp [iblk, idx_val t]; erw [V_g]; pointwise; blk_ext [idx_val t]

theorem rd2 (p : Fin 4) (k : Fin 1024) (j : Fin 1408) : (show FVec Ideal S4x1024x1408 .bf16 from iblk m c 2 t) (ix3 p k j) = aW m c (ix2 k (col p j)) := by
  refine Eq.trans ?_ (wParts_at (aW m c) p k j)
  rw [← V_w m c]
  blk_simp [iblk, idx_val t]; blk_ext [idx_val t]

include hr in
theorem norm_block (k : Fin 1024) :
    k0_pay6 (F := Ideal) (View.ld (iblk m c 0 t) r0_0) (View.ld (iblk m c 1 t) r0_1) (ix2 s k) = nRow (aX m c) (aG m c) b r k := by
  refine (congrArg₂ (fun a b => k0_pay6 (F := Ideal) a b (ix2 s k)) (View.ld_unit_lit _ _ (show ∀ a : Fin 2, (![0, 0] : Fin 2 → ℕ) a = 0 by decide)) (View.ld_unit_lit _ _ (show ∀ a : Fin 2, (![0, 0] : Fin 2 → ℕ) a = 0 by decide))).trans ?_
  refine (pay6_at _ _ s k).trans ?_
  exact congrArg₂ (· * ·) (congrArg₂ (· * ·) (rd0 m c t s b r hr k) (congrArg Norm.rn (funext fun k => rd0 m c t s b r hr k))) (rd1 m c t k)

include hr in
theorem part (p : Fin 4) (o : ℕ) (inb) (h : p.val = o) (j : Fin 1408) :
    (∑ k : Fin 1024, k0_pay6 (F := Ideal) (View.ld (iblk m c 0 t) r0_0) (View.ld (iblk m c 1 t) r0_1) (ix2 s k)
      * View.ld (iblk m c 2 t) (Rect.unit (s := S4x1024x1408) ![o, 0, 0] S1x1024x1408.size inb) (ix3 0 k j))
    = pRow (aX m c) (aG m c) (aW m c) b r (col p j) :=
  Finset.sum_congr rfl fun k _ => congrArg₂ (· * ·) (norm_block m c t s b r hr k) ((ldW _ o inb k j p h).trans (rd2 m c t p k j))
end

/-- A table of rows, batch after batch, read at a row's number. -/
def rowAt {n : ℕ} (f : Fin 2 → Fin 2048 → Fin n → EReal) (p : ℕ) (k : Fin n) : EReal :=
  f ⟨p / 2048 % 2, by omega⟩ ⟨p % 2048, by omega⟩ k

theorem rowAt_eq {n : ℕ} (f : Fin 2 → Fin 2048 → Fin n → EReal) (p : ℕ) (k : Fin n) (b : Fin 2) (r : Fin 2048) (k' : Fin n)
    (hr : p = b.val * 2048 + r.val) (hk : k.val = k'.val) : rowAt f p k = f b r k' := by
  unfold rowAt
  refine congr (congr (congrArg f (Fin.ext ?_)) (Fin.ext ?_)) (Fin.ext hk)
  · show p / 2048 % 2 = b.val
    omega
  · show p % 2048 = r.val
    omega

def nRows (f : Fin 2 → Fin 2048 → Fin 1024 → EReal) : FVec Ideal S4096x1024 .bf16 := fun i => rowAt f (i 0).val (i 1)
def pRows (f : Fin 2 → Fin 2048 → Fin 5632 → EReal) : FVec Ideal S4096x5632 .bf16 := fun i => rowAt f (i 0).val (i 1)
def aRows (f : Fin 2 → Fin 2048 → Fin 2816 → EReal) : FVec Ideal S4096x2816 .bf16 := fun i => rowAt f (i 0).val (i 1)

/-- A column's place in one half, from its part and its place there. -/
def acol (p : Fin 2) (j : Fin 1408) : Fin 2816 := ⟨p.val * 1408 + j.val, by omega⟩

variable (c : Dev nD)

/-- The position a row of a block stands for. -/
theorem place (t : Fin cfg0.N) (s : Fin 512) : ∃ (b : Fin 2) (r : Fin 2048), t.val * 512 + s.val = b.val * 2048 + r.val := by
  have ht : t.val < 8 := t.2
  exact ⟨⟨(t.val * 512 + s.val) / 2048, by omega⟩, ⟨(t.val * 512 + s.val) % 2048, by omega⟩, by show _ = (t.val * 512 + s.val) / 2048 * 2048 + (t.val * 512 + s.val) % 2048; omega⟩

theorem arr3 : (dats m 0 c).arrAt 3 (cfgs 0).N = nRows (nRow (aX m c) (aG m c)) := by
  refine (dats m 0 c).arrAt_eq_of_covers 3 _ (by decide +kernel) fun t _ y => ?_
  blk_simp
  rw [after0_3]
  have key : ∀ y : S512x1024.Idx, out0_3 (F := Ideal) (iblk m c 0 t) (iblk m c 1 t) (iblk m c 2 t) y
      = nRows (nRow (aX m c) (aG m c)) (((View.whole main_v4_0).slice (win0_3.rect t)).emb y) := by
    intro y
    idx_vars y
    have e0 : (((((View.whole main_v4_0).slice (win0_3.rect t)).emb (ix2 y0 y1)) 0)).val = t.val * 512 + y0.val := by blk_simp [idx_val t]
    have e1 : (((((View.whole main_v4_0).slice (win0_3.rect t)).emb (ix2 y0 y1)) 1)).val = y1.val := by blk_simp [idx_val t]
    generalize ((View.whole main_v4_0).slice (win0_3.rect t)).emb (ix2 y0 y1) = z at e0 e1
    obtain ⟨b, r, hr⟩ := place t y0
    refine Eq.trans ?_ (rowAt_eq _ _ _ b r y1 (e0.trans hr) e1).symm
    unfold out0_3
    canon_tiles x h
    idx_vars x
    obtain rfl : x0 = y0 := Fin.ext h0.symm
    obtain rfl : x1 = y1 := Fin.ext h1.symm
    exact norm_block m c t x0 b r hr x1
  exact key y

theorem arr4 : (dats m 0 c).arrAt 4 (cfgs 0).N = pRows (pRow (aX m c) (aG m c) (aW m c)) := by
  refine (dats m 0 c).arrAt_eq_of_covers 4 _ (by decide +kernel) fun t _ y => ?_
  blk_simp
  rw [after0_4]
  have key : ∀ y : S512x5632.Idx, out0_4 (F := Ideal) (iblk m c 0 t) (iblk m c 1 t) (iblk m c 2 t) y
      = pRows (pRow (aX m c) (aG m c) (aW m c)) (((View.whole main_v4_1).slice (win0_4.rect t)).emb y) := by
    intro y
    idx_vars y
    have e0 : (((((View.whole main_v4_1).slice (win0_4.rect t)).emb (ix2 y0 y1)) 0)).val = t.val * 512 + y0.val := by blk_simp [idx_val t]
    have e1 : (((((View.whole main_v4_1).slice (win0_4.rect t)).emb (ix2 y0 y1)) 1)).val = y1.val := by blk_simp [idx_val t]
    generalize ((View.whole main_v4_1).slice (win0_4.rect t)).emb (ix2 y0 y1) = z at e0 e1
    obtain ⟨b, r, hr⟩ := place t y0
    unfold out0_4
    canon_tiles x h
    · idx_vars x
      obtain rfl : x0 = y0 := Fin.ext h0.symm
      refine Eq.trans ?_ (rowAt_eq _ _ _ b r (col 3 x1) (e0.trans hr) (e1.trans h1)).symm
      refine (pay4_at _ _ x0 x1).trans ?_
      exact part m c t x0 b r hr 3 3 inb_S4x1024x1408_S1x1024x1408_3_0_0 rfl x1
    · idx_vars x
      obtain rfl : x0 = y0 := Fin.ext h0.symm
      refine Eq.trans ?_ (rowAt_eq _ _ _ b r (col 1 x1) (e0.trans hr) (e1.trans h1)).symm
      refine (pay2_at _ _ x0 x1).trans ?_
      exact part m c t x0 b r hr 1 1 inb_S4x1024x1408_S1x1024x1408_1_0_0 rfl x1
    · idx_vars x
      obtain rfl : x0 = y0 := Fin.ext h0.symm
      refine Eq.trans ?_ (rowAt_eq _ _ _ b r (col 2 x1) (e0.trans hr) (e1.trans h1)).symm
      refine (pay10_at _ _ _ x0 x1).trans ?_
      exact part m c t x0 b r hr 2 2 inb_S4x1024x1408_S1x1024x1408_2_0_0 rfl x1
    · idx_vars x
      obtain rfl : x0 = y0 := Fin.ext h0.symm
      refine Eq.trans ?_ (rowAt_eq _ _ _ b r (col 0 x1) (e0.trans hr) ((e1.trans h1).trans (by show x1.val = 0 * 1408 + x1.val; omega))).symm
      refine (pay8_at _ _ _ x0 x1).trans ?_
      exact part m c t x0 b r hr 0 0 inb_S4x1024x1408_S1x1024x1408_0_0_0 rfl x1
  exact key y

theorem arr5 : (dats m 0 c).arrAt 5 (cfgs 0).N = aRows (aRow (aX m c) (aG m c) (aW m c)) := by
  refine (dats m 0 c).arrAt_eq_of_covers 5 _ (by decide +kernel) fun t _ y => ?_
  blk_simp
  rw [after0_5]
  have key : ∀ y : S512x2816.Idx, out0_5 (F := Ideal) (iblk m c 0 t) (iblk m c 1 t) (iblk m c 2 t) y
      = aRows (aRow (aX m c) (aG m c) (aW m c)) (((View.whole main_v4_2).slice (win0_5.rect t)).emb y) := by
    intro y
    idx_vars y
    have e0 : (((((View.whole main_v4_2).slice (win0_5.rect t)).emb (ix2 y0 y1)) 0)).val = t.val * 512 + y0.val := by blk_simp [idx_val t]
    have e1 : (((((View.whole main_v4_2).slice (win0_5.rect t)).emb (ix2 y0 y1)) 1)).val = y1.val := by blk_simp [idx_val t]
    generalize ((View.whole main_v4_2).slice (win0_5.rect t)).emb (ix2 y0 y1) = z at e0 e1
    obtain ⟨b, r, hr⟩ := place t y0
    unfold out0_5
    canon_tiles x h
    · idx_vars x
      obtain rfl : x0 = y0 := Fin.ext h0.symm
      refine Eq.trans ?_ (rowAt_eq _ _ _ b r (acol 1 x1) (e0.trans hr) (e1.trans h1)).symm
      refine (pay5_at  _ _ _ x0 x1).trans ?_
      exact congrArg₂ act ((part m c t x0 b r hr 1 1 inb_S4x1024x1408_S1x1024x1408_1_0_0 rfl x1).trans (congrArg (pRow (aX m c) (aG m c) (aW m c) b r) (Fin.ext rfl)))
        ((part m c t x0 b r hr 3 3 inb_S4x1024x1408_S1x1024x1408_3_0_0 rfl x1).trans (congrArg (pRow (aX m c) (aG m c) (aW m c) b r) (Fin.ext (by show 3 * 1408 + x1.val = 2816 + (1 * 1408 + x1.val); omega))))
    · idx_vars x
      obtain rfl : x0 = y0 := Fin.ext h0.symm
      refine Eq.trans ?_ (rowAt_eq _ _ _ b r (acol 0 x1) (e0.trans hr) ((e1.trans h1).trans (by show x1.val = 0 * 1408 + x1.val; omega))).symm
      refine (pay11_at  _ _ _ _ x0 x1).trans ?_
      exact congrArg₂ act ((part m c t x0 b r hr 0 0 inb_S4x1024x1408_S1x1024x1408_0_0_0 rfl x1).trans (congrArg (pRow (aX m c) (aG m c) (aW m c) b r) (Fin.ext rfl)))
        ((part m c t x0 b r hr 2 2 inb_S4x1024x1408_S1x1024x1408_2_0_0 rfl x1).trans (congrArg (pRow (aX m c) (aG m c) (aW m c) b r) (Fin.ext (by show 2 * 1408 + x1.val = 2816 + (0 * 1408 + x1.val); omega))))
  exact key y

end Cert.SinKernelIdeal.Sin

end
end
-- ==== Proof.SinClaim.lean ====
/- The claims about the entry of a feed-forward half step. -/
module

public import proofs.«01_k».proof.Defs
public import proofs.«01_k».proof.Proof.SinArr
public import proofs.«01_k».proof.Proof.Gen.SinKernel.Frame
public import proofs.«01_k».proof.Proof.Gen.SinReferenceIdeal.Run
public import proofs.«01_k».proof.Proof.Gen.SinReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Sin

open Cert.SinKernelIdeal.Sin (nRow pRow aRow nRows pRows aRows rowAt act)

section
open Cert.SinKernelIdeal Cert.SinKernelIdeal.Sin

/-- What the kernel leaves, on every device. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = nRows (nRow (m ((c.tc : Thread nD τ).loc main_arg0)) (m ((c.tc : Thread nD τ).loc main_arg1)))
      ∧ r.2.mem ((c.tc : Thread nD τ).loc main_v4_1) = pRows (pRow (m ((c.tc : Thread nD τ).loc main_arg0)) (m ((c.tc : Thread nD τ).loc main_arg1)) (m ((c.tc : Thread nD τ).loc main_arg2)))
      ∧ r.2.mem ((c.tc : Thread nD τ).loc main_v4_2) = aRows (aRow (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (arr3 m c), (h c).2.1.trans (arr4 m c), (h c).2.2.1.trans (arr5 m c), (h c).2.2.2⟩) (Value.run_blocks (F := Ideal) m g)

end

section
open Cert.SinReferenceIdeal Cert.SinReferenceIdeal.Read

variable (X : FVec Ideal S2x2048x1024 .f32) (G : FVec Ideal S1024 .f32) (W : FVec Ideal S1024x5632 .bf16)
  (b : Fin 2) (s : Fin 2048)

theorem rn_at : val_main_v7 (F := Ideal) X (ix3 b s 0) = Norm.rn (fun k => X (ix3 b s k)) := by
  unfold Norm.rn
  pointwise [val_main_v7, val_main_v6, val_main_v5, val_main_v4, val_main_v3, val_main_v2, val_main_v1, val_main_v0, val_main_cst, val_main_cst_0, val_main_cst_1]

theorem n_at (k : Fin 1024) : val_main_v12 (F := Ideal) X G (ix3 b s k) = nRow X G b s k := by
  unfold nRow
  pointwise [val_main_v12, val_main_v11, val_main_v10, val_main_v9, val_main_v8, rn_at]

theorem p_at (q : Fin 5632) : val_main_v14 (F := Ideal) X G W (ix3 b s q) = pRow X G W b s q := by
  unfold pRow
  pointwise [val_main_v14, val_main_v13, n_at]

theorem g_at (q : Fin 2816) : val_main_v15 (F := Ideal) X G W (ix3 b s q) = pRow X G W b s ⟨q.val, by omega⟩ := by
  pointwise [val_main_v15, p_at]

theorem u_at (q : Fin 2816) : val_main_v16 (F := Ideal) X G W (ix3 b s q) = pRow X G W b s ⟨2816 + q.val, by omega⟩ := by
  pointwise [val_main_v16, p_at]

theorem sig_at (q : Fin 2816) : val_main_call0_v5 (F := Ideal) X G W (ix3 b s q) = Ideal.logistic (pRow X G W b s ⟨q.val, by omega⟩) := by
  unfold Ideal.logistic
  pointwise [val_main_call0_v5, val_main_call0_v4, val_main_call0_v3, val_main_call0_v2, val_main_call0_v1, val_main_call0_v0, val_main_call0_cst, val_main_call0_cst_0, g_at]

theorem a_at (q : Fin 2816) : val_main_v18 (F := Ideal) X G W (ix3 b s q) = aRow X G W b s q := by
  unfold aRow act
  pointwise [val_main_v18, val_main_v17, g_at, sig_at, u_at]

theorem ref_n : val_main_v20 (F := Ideal) X G = nRows (nRow X G) :=
  funext fun i => by
    idx_vars i
    refine Eq.trans ?_ (Cert.SinKernelIdeal.Sin.rowAt_eq (nRow X G) i0.val i1 ⟨i0.val / 2048, by omega⟩ ⟨i0.val % 2048, by omega⟩ i1 (by show _ = i0.val / 2048 * 2048 + i0.val % 2048; omega) rfl).symm
    pointwise [val_main_v20, val_main_v19, n_at]

theorem ref_p : val_main_v22 (F := Ideal) X G W = pRows (pRow X G W) :=
  funext fun i => by
    idx_vars i
    refine Eq.trans ?_ (Cert.SinKernelIdeal.Sin.rowAt_eq (pRow X G W) i0.val i1 ⟨i0.val / 2048, by omega⟩ ⟨i0.val % 2048, by omega⟩ i1 (by show _ = i0.val / 2048 * 2048 + i0.val % 2048; omega) rfl).symm
    pointwise [val_main_v22, val_main_v21, p_at]

theorem ref_a : val_main_v24 (F := Ideal) X G W = aRows (aRow X G W) :=
  funext fun i => by
    idx_vars i
    refine Eq.trans ?_ (Cert.SinKernelIdeal.Sin.rowAt_eq (aRow X G W) i0.val i1 ⟨i0.val / 2048, by omega⟩ ⟨i0.val % 2048, by omega⟩ i1 (by show _ = i0.val / 2048 * 2048 + i0.val % 2048; omega) rfl).symm
    pointwise [val_main_v24, val_main_v23, a_at]

end

theorem algebraic : Cert.algebraic_SinKernelIdeal_SinReferenceIdeal := by
  pair_intro
  · run_from kernel_run m g
  · run_from Cert.SinReferenceIdeal.Value.run (F := Ideal) m' g'
    · exact (Cert.SinReferenceIdeal.Read.val_main_v20_eq _ _).trans (ref_n _ _)
    · exact (Cert.SinReferenceIdeal.Read.val_main_v22_eq _ _ _).trans (ref_p _ _ _)
    · exact (Cert.SinReferenceIdeal.Read.val_main_v24_eq _ _ _).trans (ref_a _ _ _)

theorem frame_ref : Cert.quiescent_SinReferenceIdeal := fun m g _ =>
  (θ_run Cert.SinReferenceIdeal.defs _ _).mono (fun r h => ⟨fun c => (h c).2.2.2, sem_eq_zero_of_no_sems (by decide) r.2⟩)
    (Cert.SinReferenceIdeal.Value.run (F := Ideal) m g)

theorem claims : Cert.quiescent_SinKernel ∧ Cert.quiescent_SinKernelIdeal ∧ Cert.quiescent_SinReferenceIdeal
    ∧ Cert.preserves_SinKernel_SinKernelIdeal ∧ Cert.algebraic_SinKernelIdeal_SinReferenceIdeal :=
  ⟨fun m g _ => Cert.SinKernel.Gen.frame m g, fun m g _ => Cert.SinKernelIdeal.Gen.frame m g, frame_ref, trivial, algebraic⟩

end Cert.Proof.Sin

end
end
-- ==== Proof.AdamArr.lean ====
/- The arrays the optimiser's step leaves. -/
module

public import proofs.«01_k».proof.Proof.Gen.AdamKernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamKernelIdeal.Adam

open Cert.AdamKernelIdeal Cert.AdamKernelIdeal.Gen

/-- The first moment's step. -/
def mAt (g μ : EReal) : EReal := Ideal.ofBits .f32 0x3F666666#32 * μ + Ideal.ofBits .f32 0x3DCCCCCD#32 * g

/-- The second moment's step. -/
def vAt (g ν : EReal) : EReal := Ideal.ofBits .f32 0x3F7FBE77#32 * ν + Ideal.ofBits .f32 0x3A83126F#32 * (g * g)

/-- The weight's step. -/
def dAt (w g μ ν : EReal) : EReal :=
  Ideal.ofBits .f32 0xBA83126F#32 * (Ideal.div (Ideal.div (mAt g μ) (Ideal.ofBits .f32 0x3F26BD02#32)) (Ideal.sqrt (Ideal.div (vAt g ν) (Ideal.ofBits .f32 0x3C231ACC#32)) + Ideal.ofBits .f32 0x322BCC77#32)
    + Ideal.ofBits .f32 0x3C23D70A#32 * w)

theorem pay1_at (g μ : Vec Ideal S512x1408 .f32) (s : Fin 512) (k : Fin 1408) : k0_pay1 (F := Ideal) g μ (ix2 s k) = mAt (g (ix2 s k)) (μ (ix2 s k)) := by
  unfold mAt
  pointwise [k0_pay1]

theorem pay2_at (g ν : Vec Ideal S512x1408 .f32) (s : Fin 512) (k : Fin 1408) : k0_pay2 (F := Ideal) g ν (ix2 s k) = vAt (g (ix2 s k)) (ν (ix2 s k)) := by
  unfold vAt
  pointwise [k0_pay2]

theorem pay3_at (g μ ν w : Vec Ideal S512x1408 .f32) (s : Fin 512) (k : Fin 1408) :
    k0_pay3 (F := Ideal) g μ ν w (ix2 s k) = dAt (w (ix2 s k)) (g (ix2 s k)) (μ (ix2 s k)) (ν (ix2 s k)) := by
  unfold dAt
  rw [← pay1_at, ← pay2_at]
  unfold k0_pay3
  generalize k0_pay1 (F := Ideal) g μ = a
  generalize k0_pay2 (F := Ideal) g ν = b
  pointwise

def mStep (G M : FVec Ideal S2048x1408 .f32) : FVec Ideal S2048x1408 .f32 := fun i => mAt (G i) (M i)
def vStep (G N : FVec Ideal S2048x1408 .f32) : FVec Ideal S2048x1408 .f32 := fun i => vAt (G i) (N i)
def dStep (W G M N : FVec Ideal S2048x1408 .f32) : FVec Ideal S2048x1408 .f32 := fun i => dAt (W i) (G i) (M i) (N i)

variable (m : (ℓ : Loc nD τ sig) → Buf (Elt Ideal) ℓ)

/-- The argument arrays on a core: weights, gradient, moments. -/
abbrev aW (c : Dev nD) : FVec Ideal S2048x1408 .f32 := m ((c : Thread nD τ).loc main_arg0)
abbrev aG (c : Dev nD) : FVec Ideal S2048x1408 .f32 := m ((c : Thread nD τ).loc main_arg1)
abbrev aM (c : Dev nD) : FVec Ideal S2048x1408 .f32 := m ((c : Thread nD τ).loc main_arg2)
abbrev aV (c : Dev nD) : FVec Ideal S2048x1408 .f32 := m ((c : Thread nD τ).loc main_arg3)

/-- The index maps of the windows, decided at every grid point. -/
theorem idx_val : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := (by decide +kernel : ∀ t : Fin grid0.N, _)

section
variable (c : Dev nD) (t : Fin cfg0.N) (s : Fin 512) (l : Fin 1408) (i : Fin 2048) (hi : i.val = t.val * 512 + s.val)

include hi in
theorem rd0 : (show FVec Ideal S512x1408 .f32 from iblk m c 0 t) (ix2 s l) = aW m c (ix2 i l) := by
  blk_simp [iblk, idx_val t]; erw [V_main_arg0]; blk_ext [idx_val t]

include hi in
theorem rd1 : (show FVec Ideal S512x1408 .f32 from iblk m c 1 t) (ix2 s l) = aG m c (ix2 i l) := by
  blk_simp [iblk, idx_val t]; erw [V_main_arg1]; blk_ext [idx_val t]

include hi in
theorem rd2 : (show FVec Ideal S512x1408 .f32 from iblk m c 2 t) (ix2 s l) = aM m c (ix2 i l) := by
  blk_simp [iblk, idx_val t]; erw [V_main_arg2]; blk_ext [idx_val t]

include hi in
theorem rd3 : (show FVec Ideal S512x1408 .f32 from iblk m c 3 t) (ix2 s l) = aV m c (ix2 i l) := by
  blk_simp [iblk, idx_val t]; erw [V_main_arg3]; blk_ext [idx_val t]
end

variable (c : Dev nD)

theorem arr4 : (dats m 0 c).arrAt 4 (cfgs 0).N = aG m c := by
  refine (dats m 0 c).arrAt_eq_of_covers 4 _ (by decide +kernel) fun t _ y => ?_
  blk_simp
  rw [after0_4]
  have key : ∀ y : S512x1408.Idx, out0_4 (F := Ideal) (iblk m c 0 t) (iblk m c 1 t) (iblk m c 2 t) (iblk m c 3 t) y
      = (aG m c : FVec Ideal S2048x1408 .f32) (((View.whole main_v0_0).slice (win0_4.rect t)).emb y) := by
    intro y
    idx_vars y
    have ht : t.val < 4 := t.2
    have hy : y0.val < 512 := y0.2
    have e : (((View.whole main_v0_0).slice (win0_4.rect t)).emb (ix2 y0 y1)) = (ix2 ⟨t.val * 512 + y0.val, by omega⟩ y1 : S2048x1408.Idx) := by
      blk_ext [idx_val t]
    rw [e]
    frame_out
    exact rd1 m c t y0 y1 _ rfl
  exact key y

theorem arr5 : (dats m 0 c).arrAt 5 (cfgs 0).N = dStep (aW m c) (aG m c) (aM m c) (aV m c) := by
  refine (dats m 0 c).arrAt_eq_of_covers 5 _ (by decide +kernel) fun t _ y => ?_
  blk_simp
  rw [after0_5]
  have key : ∀ y : S512x1408.Idx, out0_5 (F := Ideal) (iblk m c 0 t) (iblk m c 1 t) (iblk m c 2 t) (iblk m c 3 t) y
      = (dStep (aW m c) (aG m c) (aM m c) (aV m c) : FVec Ideal S2048x1408 .f32) (((View.whole main_v0_1).slice (win0_5.rect t)).emb y) := by
    intro y
    idx_vars y
    have ht : t.val < 4 := t.2
    have hy : y0.val < 512 := y0.2
    have e : (((View.whole main_v0_1).slice (win0_5.rect t)).emb (ix2 y0 y1)) = (ix2 ⟨t.val * 512 + y0.val, by omega⟩ y1 : S2048x1408.Idx) := by
      blk_ext [idx_val t]
    rw [e]
    frame_out
    refine (pay3_at _ _ _ _ y0 y1).trans ?_
    exact congr (congr (congr (congrArg dAt (rd0 m c t y0 y1 _ rfl)) (rd1 m c t y0 y1 _ rfl)) (rd2 m c t y0 y1 _ rfl)) (rd3 m c t y0 y1 _ rfl)
  exact key y

theorem arr6 : (dats m 0 c).arrAt 6 (cfgs 0).N = mStep (aG m c) (aM m c) := by
  refine (dats m 0 c).arrAt_eq_of_covers 6 _ (by decide +kernel) fun t _ y => ?_
  blk_simp
  rw [after0_6]
  have key : ∀ y : S512x1408.Idx, out0_6 (F := Ideal) (iblk m c 0 t) (iblk m c 1 t) (iblk m c 2 t) (iblk m c 3 t) y
      = (mStep (aG m c) (aM m c) : FVec Ideal S2048x1408 .f32) (((View.whole main_v0_2).slice (win0_6.rect t)).emb y) := by
    intro y
    idx_vars y
    have ht : t.val < 4 := t.2
    have hy : y0.val < 512 := y0.2
    have e : (((View.whole main_v0_2).slice (win0_6.rect t)).emb (ix2 y0 y1)) = (ix2 ⟨t.val * 512 + y0.val, by omega⟩ y1 : S2048x1408.Idx) := by
      blk_ext [idx_val t]
    rw [e]
    frame_out
    refine (pay1_at _ _ y0 y1).trans ?_
    exact congrArg₂ mAt (rd1 m c t y0 y1 _ rfl) (rd2 m c t y0 y1 _ rfl)
  exact key y

theorem arr7 : (dats m 0 c).arrAt 7 (cfgs 0).N = vStep (aG m c) (aV m c) := by
  refine (dats m 0 c).arrAt_eq_of_covers 7 _ (by decide +kernel) fun t _ y => ?_
  blk_simp
  rw [after0_7]
  have key : ∀ y : S512x1408.Idx, out0_7 (F := Ideal) (iblk m c 0 t) (iblk m c 1 t) (iblk m c 2 t) (iblk m c 3 t) y
      = (vStep (aG m c) (aV m c) : FVec Ideal S2048x1408 .f32) (((View.whole main_v0_3).slice (win0_7.rect t)).emb y) := by
    intro y
    idx_vars y
    have ht : t.val < 4 := t.2
    have hy : y0.val < 512 := y0.2
    have e : (((View.whole main_v0_3).slice (win0_7.rect t)).emb (ix2 y0 y1)) = (ix2 ⟨t.val * 512 + y0.val, by omega⟩ y1 : S2048x1408.Idx) := by
      blk_ext [idx_val t]
    rw [e]
    frame_out
    refine (pay2_at _ _ y0 y1).trans ?_
    exact congrArg₂ vAt (rd1 m c t y0 y1 _ rfl) (rd3 m c t y0 y1 _ rfl)
  exact key y

end Cert.AdamKernelIdeal.Adam

end
end
-- ==== Proof.AdamClaim.lean ====
/- The claims about the optimiser's step. -/
module

public import proofs.«01_k».proof.Defs
public import proofs.«01_k».proof.Proof.AdamArr
public import proofs.«01_k».proof.Proof.Gen.AdamKernel.Frame
public import proofs.«01_k».proof.Proof.Gen.AdamReferenceIdeal.Run
public import proofs.«01_k».proof.Proof.Gen.AdamReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Adam

open Cert.AdamKernelIdeal.Adam (mStep vStep dStep mAt vAt dAt)

section
open Cert.AdamKernelIdeal Cert.AdamKernelIdeal.Adam

/-- What the kernel leaves, on every device. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0_0) = m ((c.tc : Thread nD τ).loc main_arg1)
      ∧ r.2.mem ((c.tc : Thread nD τ).loc main_v0_1) = dStep (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_2) = mStep (m ((c.tc : Thread nD τ).loc main_arg1)) (m ((c.tc : Thread nD τ).loc main_arg2))
      ∧ r.2.mem ((c.tc : Thread nD τ).loc main_v0_3) = vStep (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (arr4 m c), (h c).2.1.trans (arr5 m c), (h c).2.2.1.trans (arr6 m c), (h c).2.2.2.1.trans (arr7 m c), (h c).2.2.2.2⟩)
    (Value.run_blocks (F := Ideal) m g)

end

section
open Cert.AdamReferenceIdeal Cert.AdamReferenceIdeal.Read

variable (W G M N : FVec Ideal S2048x1408 .f32)

theorem ref_m : val_main_v4 (F := Ideal) G M = mStep G M :=
  funext fun i => by
    idx_vars i
    show _ = mAt (G (ix2 i0 i1)) (M (ix2 i0 i1))
    unfold mAt
    pointwise [val_main_v4, val_main_v3, val_main_v2, val_main_v1, val_main_v0, val_main_cst, val_main_cst_0]

theorem ref_v : val_main_v10 (F := Ideal) G N = vStep G N :=
  funext fun i => by
    idx_vars i
    show _ = vAt (G (ix2 i0 i1)) (N (ix2 i0 i1))
    unfold vAt
    pointwise [val_main_v10, val_main_v9, val_main_v8, val_main_v7, val_main_v6, val_main_v5, val_main_cst_1, val_main_cst_2]

theorem ref_d : val_main_v23 (F := Ideal) W G M N = dStep W G M N :=
  funext fun i => by
    idx_vars i
    have hm : val_main_v4 (F := Ideal) G M (ix2 i0 i1) = mAt (G (ix2 i0 i1)) (M (ix2 i0 i1)) := congrFun (ref_m G M) _
    have hv : val_main_v10 (F := Ideal) G N (ix2 i0 i1) = vAt (G (ix2 i0 i1)) (N (ix2 i0 i1)) := congrFun (ref_v G N) _
    show _ = dAt (W (ix2 i0 i1)) (G (ix2 i0 i1)) (M (ix2 i0 i1)) (N (ix2 i0 i1))
    unfold dAt
    pointwise [val_main_v23, val_main_v22, val_main_v21, val_main_v20, val_main_v19, val_main_v18, val_main_v17, val_main_v16, val_main_v15, val_main_v14, val_main_v13, val_main_v12, val_main_v11,
      val_main_cst_3, val_main_cst_4, val_main_cst_5, val_main_cst_6, val_main_cst_7, hm, hv]

end

theorem algebraic : Cert.algebraic_AdamKernelIdeal_AdamReferenceIdeal := by
  pair_intro
  · run_from kernel_run m g
  · run_from Cert.AdamReferenceIdeal.Value.run (F := Ideal) m' g'
    · exact (Cert.AdamReferenceIdeal.Read.val_main_v23_eq _ _ _ _).trans (ref_d _ _ _ _)
    · exact (Cert.AdamReferenceIdeal.Read.val_main_v4_eq _ _).trans (ref_m _ _)
    · exact (Cert.AdamReferenceIdeal.Read.val_main_v10_eq _ _).trans (ref_v _ _)

theorem frame_ref : Cert.quiescent_AdamReferenceIdeal := fun m g _ =>
  (θ_run Cert.AdamReferenceIdeal.defs _ _).mono (fun r h => ⟨fun c => (h c).2.2.2.2, sem_eq_zero_of_no_sems (by decide) r.2⟩)
    (Cert.AdamReferenceIdeal.Value.run (F := Ideal) m g)

theorem claims : Cert.quiescent_AdamKernel ∧ Cert.quiescent_AdamKernelIdeal ∧ Cert.quiescent_AdamReferenceIdeal
    ∧ Cert.preserves_AdamKernel_AdamKernelIdeal ∧ Cert.algebraic_AdamKernelIdeal_AdamReferenceIdeal :=
  ⟨fun m g _ => Cert.AdamKernel.Gen.frame m g, fun m g _ => Cert.AdamKernelIdeal.Gen.frame m g, frame_ref, trivial, algebraic⟩

end Cert.Proof.Adam

end
end
-- ==== Proof.MoutArr.lean ====
/- The arrays a mixer's output product with its norm leaves. -/
module

public import proofs.«01_k».proof.Proof.NormMath
public import proofs.«01_k».proof.Proof.Gen.MoutKernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MoutKernelIdeal.Mout

open Cert.MoutKernelIdeal Cert.MoutKernelIdeal.Gen

/-- A row through its norm, added to the residual. -/
def fullStep {n : ℕ} (x : EReal) (h : Fin n → EReal) (g : EReal) (k : Fin n) : EReal :=
  x + h k * Norm.rn h * g

theorem pay1_at (a : Vec Ideal S512x1024 .bf16) (w : Vec Ideal S1024x1024 .bf16) (s : Fin 512) (k : Fin 1024) :
    k0_pay1 (F := Ideal) a w (ix2 s k) = ∑ j : Fin 1024, a (ix2 s j) * w (ix2 j k) := by
  pointwise [k0_pay1]

theorem pay2_at (a : Vec Ideal S512x1024 .bf16) (w : Vec Ideal S1024x1024 .bf16) (x : Vec Ideal S512x1024 .f32) (g : Vec Ideal S1x1024 .f32) (s : Fin 512) (k : Fin 1024) :
    k0_pay2 (F := Ideal) a w x g (ix2 s k) = fullStep (x (ix2 s k)) (fun k => k0_pay1 (F := Ideal) a w (ix2 s k)) (g (ix2 0 k)) k := by
  unfold k0_pay2 fullStep Norm.rn
  generalize k0_pay1 (F := Ideal) a w = h
  pointwise [one_mul]

variable (m : (ℓ : Loc nD τ sig) → Buf (Elt Ideal) ℓ)

/-- The argument arrays on a core. -/
abbrev aA (c : Dev nD) : FVec Ideal S2x2048x1024 .bf16 := m ((c : Thread nD τ).loc main_arg0)
abbrev aW (c : Dev nD) : FVec Ideal S1024x1024 .bf16 := m ((c : Thread nD τ).loc main_arg1)
abbrev aX (c : Dev nD) : FVec Ideal S2x2048x1024 .f32 := m ((c : Thread nD τ).loc main_arg2)
abbrev aG (c : Dev nD) : FVec Ideal S1024 .f32 := m ((c : Thread nD τ).loc main_arg3)

theorem V_a (c : Dev nD) : (V m c main_v0 : FVec Ideal S4096x1024 .bf16) = shapeCast S4096x1024 (aA m c) := by
  unfold V; simp only [hostOps0, List.flatten_cons, List.flatten_nil, List.append_nil, List.cons_append, List.nil_append]; after_results; try rfl

theorem V_x (c : Dev nD) : (V m c main_v1 : FVec Ideal S4096x1024 .f32) = shapeCast S4096x1024 (aX m c) := by
  unfold V; simp only [hostOps0, List.flatten_cons, List.flatten_nil, List.append_nil, List.cons_append, List.nil_append]; after_results; try rfl

theorem V_g (c : Dev nD) : (V m c main_v2 : FVec Ideal S1x1024 .f32) = shapeCast S1x1024 (aG m c) := by
  unfold V; simp only [hostOps0, List.flatten_cons, List.flatten_nil, List.append_nil, List.cons_append, List.nil_append]; after_results; try rfl

/-- The index maps of the windows, decided at every grid point. -/
theorem idx_val : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := (by decide +kernel : ∀ t : Fin grid0.N, _)

section
variable (c : Dev nD) (t : Fin cfg0.N) (s : Fin 512) (b : Fin 2) (r : Fin 2048) (hr : t.val * 512 + s.val = b.val * 2048 + r.val)

include hr in
theorem rd0 (l : Fin 1024) : (show FVec Ideal S512x1024 .bf16 from iblk m c 0 t) (ix2 s l) = aA m c (ix3 b r l) := by
  blk_simp [iblk, idx_val t]; erw [V_a]; pointwise; blk_ext [idx_val t]

theorem rd1 (k : Fin 1024) (l : Fin 1024) : (show FVec Ideal S1024x1024 .bf16 from iblk m c 1 t) (ix2 k l) = aW m c (ix2 k l) := by
  blk_simp [iblk, idx_val t]; erw [V_main_arg1]; blk_ext [idx_val t]

include hr in
theorem rd2 (l : Fin 1024) : (show FVec Ideal S512x1024 .f32 from iblk m c 2 t) (ix2 s l) = aX m c (ix3 b r l) := by
  blk_simp [iblk, idx_val t]; erw [V_x]; pointwise; blk_ext [idx_val t]

theorem rd3 (l : Fin 1024) : (show FVec Ideal S1x1024 .f32 from iblk m c 3 t) (ix2 0 l) = aG m c (ix1 l) := by
  blk_simp [iblk, idx_val t]; erw [V_g]; pointwise; blk_ext [idx_val t]
end

/-- The product's row of one position. -/
def hRow (A : FVec Ideal S2x2048x1024 .bf16) (W : FVec Ideal S1024x1024 .bf16) (b : Fin 2) (r : Fin 2048) (k : Fin 1024) : EReal :=
  ∑ j : Fin 1024, A (ix3 b r j) * W (ix2 j k)

/-- What the step leaves at one position. -/
def oRow (A : FVec Ideal S2x2048x1024 .bf16) (W : FVec Ideal S1024x1024 .bf16) (X : FVec Ideal S2x2048x1024 .f32) (G : FVec Ideal S1024 .f32)
    (b : Fin 2) (r : Fin 2048) (k : Fin 1024) : EReal :=
  fullStep (X (ix3 b r k)) (hRow A W b r) (G (ix1 k)) k

/-- A table of rows, batch after batch. -/
def rows (f : Fin 2 → Fin 2048 → Fin 1024 → EReal) : FVec Ideal S4096x1024 .f32 :=
  fun i => f ⟨(i 0).val / 2048, by have := (i 0).2; simp at this; omega⟩ ⟨(i 0).val % 2048, by omega⟩ (i 1)

theorem rows_emb (f : Fin 2 → Fin 2048 → Fin 1024 → EReal) (i : S4096x1024.Idx) (n : ℕ) (k : Fin 1024) (b : Fin 2) (r : Fin 2048)
    (hr : n = b.val * 2048 + r.val) (h0 : (i 0).val = n) (h1 : (i 1).val = k.val) : rows f i = f b r k := by
  unfold rows
  refine congr (congr (congrArg f (Fin.ext ?_)) (Fin.ext ?_)) (Fin.ext h1)
  · show (i 0).val / 2048 = b.val
    omega
  · show (i 0).val % 2048 = r.val
    omega

variable (c : Dev nD)

/-- The position a row of a block stands for. -/
theorem place (t : Fin cfg0.N) (s : Fin 512) : ∃ (b : Fin 2) (r : Fin 2048), t.val * 512 + s.val = b.val * 2048 + r.val := by
  have ht : t.val < 8 := t.2
  exact ⟨⟨(t.val * 512 + s.val) / 2048, by omega⟩, ⟨(t.val * 512 + s.val) % 2048, by omega⟩, by show _ = (t.val * 512 + s.val) / 2048 * 2048 + (t.val * 512 + s.val) % 2048; omega⟩

theorem h_block (t : Fin cfg0.N) (s : Fin 512) (b : Fin 2) (r : Fin 2048) (hr : t.val * 512 + s.val = b.val * 2048 + r.val) (k : Fin 1024) :
    k0_pay1 (F := Ideal) (iblk m c 0 t) (iblk m c 1 t) (ix2 s k) = hRow (aA m c) (aW m c) b r k :=
  (pay1_at _ _ s k).trans (Finset.sum_congr rfl fun j _ => congrArg₂ (· * ·) (rd0 m c t s b r hr j) (rd1 m c t j k))

theorem arr4 : (dats m 0 c).arrAt 4 (cfgs 0).N = rows (hRow (aA m c) (aW m c)) := by
  refine (dats m 0 c).arrAt_eq_of_covers 4 _ (by decide +kernel) fun t _ y => ?_
  blk_simp
  rw [after0_4]
  have key : ∀ y : S512x1024.Idx, out0_4 (F := Ideal) (iblk m c 0 t) (iblk m c 1 t) (iblk m c 2 t) (iblk m c 3 t) y
      = rows (hRow (aA m c) (aW m c)) (((View.whole main_v3_0).slice (win0_4.rect t)).emb y) := by
    intro y
    idx_vars y
    obtain ⟨b, r, hr⟩ := place t y0
    rw [rows_emb _ _ _ y1 b r hr (by blk_simp [idx_val t]) (by blk_simp [idx_val t])]
    frame_out
    exact h_block m c t y0 b r hr y1
  exact key y

theorem arr5 : (dats m 0 c).arrAt 5 (cfgs 0).N = rows (oRow (aA m c) (aW m c) (aX m c) (aG m c)) := by
  refine (dats m 0 c).arrAt_eq_of_covers 5 _ (by decide +kernel) fun t _ y => ?_
  blk_simp
  rw [after0_5]
  have key : ∀ y : S512x1024.Idx, out0_5 (F := Ideal) (iblk m c 0 t) (iblk m c 1 t) (iblk m c 2 t) (iblk m c 3 t) y
      = rows (oRow (aA m c) (aW m c) (aX m c) (aG m c)) (((View.whole main_v3_1).slice (win0_5.rect t)).emb y) := by
    intro y
    idx_vars y
    obtain ⟨b, r, hr⟩ := place t y0
    rw [rows_emb _ _ _ y1 b r hr (by blk_simp [idx_val t]) (by blk_simp [idx_val t])]
    frame_out
    refine (pay2_at _ _ _ _ y0 y1).trans ?_
    unfold oRow
    exact congr (congr (congr (congrArg fullStep (rd2 m c t y0 b r hr y1)) (funext fun k => h_block m c t y0 b r hr k)) (rd3 m c t y1)) rfl
  exact key y

end Cert.MoutKernelIdeal.Mout

end
end
-- ==== Proof.MoutClaim.lean ====
/- The claims about a mixer's output product with its norm. -/
module

public import proofs.«01_k».proof.Defs
public import proofs.«01_k».proof.Proof.MoutArr
public import proofs.«01_k».proof.Proof.Gen.MoutKernel.Frame
public import proofs.«01_k».proof.Proof.Gen.MoutReferenceIdeal.Run
public import proofs.«01_k».proof.Proof.Gen.MoutReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Mout

open Cert.MoutKernelIdeal.Mout (hRow oRow rows fullStep)

section
open Cert.MoutKernelIdeal Cert.MoutKernelIdeal.Mout

/-- What the kernel leaves, on every device. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3_0) = rows (hRow (m ((c.tc : Thread nD τ).loc main_arg0)) (m ((c.tc : Thread nD τ).loc main_arg1)))
      ∧ r.2.mem ((c.tc : Thread nD τ).loc main_v3_1) = rows (oRow (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (arr4 m c), (h c).2.1.trans (arr5 m c), (h c).2.2⟩) (Value.run_blocks (F := Ideal) m g)

end

section
open Cert.MoutReferenceIdeal Cert.MoutReferenceIdeal.Read

variable (A : FVec Ideal S2x2048x1024 .bf16) (W : FVec Ideal S1024x1024 .bf16) (X : FVec Ideal S2x2048x1024 .f32) (G : FVec Ideal S1024 .f32)
  (b : Fin 2) (s : Fin 2048) (k : Fin 1024)

theorem h_at : val_main_v2 (F := Ideal) A W (ix3 b s k) = hRow A W b s k := by
  unfold hRow
  pointwise [val_main_v2, val_main_v1, val_main_v0]

theorem rn_at : val_main_v11 (F := Ideal) A W (ix3 b s 0) = Norm.rn (hRow A W b s) := by
  unfold Norm.rn
  pointwise [val_main_v11, val_main_v10, val_main_v9, val_main_v8, val_main_v7, val_main_v6, val_main_v5, val_main_v4, val_main_cst, val_main_cst_0, val_main_cst_1, h_at]

theorem o_at : val_main_v17 (F := Ideal) A W X G (ix3 b s k) = oRow A W X G b s k := by
  unfold oRow fullStep
  pointwise [val_main_v17, val_main_v16, val_main_v15, val_main_v14, val_main_v13, val_main_v12, rn_at, h_at]

theorem h_row (i : Fin 4096) : val_main_v3 (F := Ideal) A W (ix2 i k) = hRow A W ⟨i.val / 2048, by omega⟩ ⟨i.val % 2048, by omega⟩ k := by
  pointwise [val_main_v3, h_at]

theorem o_row (i : Fin 4096) : val_main_v18 (F := Ideal) A W X G (ix2 i k) = oRow A W X G ⟨i.val / 2048, by omega⟩ ⟨i.val % 2048, by omega⟩ k := by
  pointwise [val_main_v18, o_at]

theorem ref_h : val_main_v3 (F := Ideal) A W = rows (hRow A W) :=
  funext fun i => by idx_vars i; exact h_row A W i1 i0

theorem ref_o : val_main_v18 (F := Ideal) A W X G = rows (oRow A W X G) :=
  funext fun i => by idx_vars i; exact o_row A W X G i1 i0

end

theorem algebraic : Cert.algebraic_MoutKernelIdeal_MoutReferenceIdeal := by
  pair_intro
  · run_from kernel_run m g
  · run_from Cert.MoutReferenceIdeal.Value.run (F := Ideal) m' g'
    · exact (Cert.MoutReferenceIdeal.Read.val_main_v3_eq _ _).trans (ref_h _ _)
    · exact (Cert.MoutReferenceIdeal.Read.val_main_v18_eq _ _ _ _).trans (ref_o _ _ _ _)

theorem frame_ref : Cert.quiescent_MoutReferenceIdeal := fun m g _ =>
  (θ_run Cert.MoutReferenceIdeal.defs _ _).mono (fun r h => ⟨fun c => (h c).2.2, sem_eq_zero_of_no_sems (by decide) r.2⟩)
    (Cert.MoutReferenceIdeal.Value.run (F := Ideal) m g)

theorem claims : Cert.quiescent_MoutKernel ∧ Cert.quiescent_MoutKernelIdeal ∧ Cert.quiescent_MoutReferenceIdeal
    ∧ Cert.preserves_MoutKernel_MoutKernelIdeal ∧ Cert.algebraic_MoutKernelIdeal_MoutReferenceIdeal :=
  ⟨fun m g _ => Cert.MoutKernel.Gen.frame m g, fun m g _ => Cert.MoutKernelIdeal.Gen.frame m g, frame_ref, trivial, algebraic⟩

end Cert.Proof.Mout

end
end
-- ==== Proof.CinArr.lean ====
/- The arrays the entry of the short convolution leaves: norm and product. -/
module

public import proofs.«01_k».proof.Proof.NormMath
public import proofs.«01_k».proof.Proof.Gen.CinKernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.CinKernelIdeal.Cin

open Cert.CinKernelIdeal Cert.CinKernelIdeal.Gen

theorem pay3_at (x : Vec Ideal S512x1024 .f32) (g : Vec Ideal S1x1024 .f32) (s : Fin 512) (k : Fin 1024) :
    k0_pay3 (F := Ideal) x g (ix2 s k) = x (ix2 s k) * Norm.rn (fun k => x (ix2 s k)) * g (ix2 0 k) := by
  unfold Norm.rn
  pointwise [k0_pay3]

theorem pay2_at (D : FVec Ideal S512x1024 .bf16) (w : Vec Ideal S1x1024x768 .bf16) (s : Fin 512) (j : Fin 768) :
    k0_pay2 (F := Ideal) D w (ix2 s j) = ∑ k : Fin 1024, D (ix2 s k) * w (ix3 0 k j) := by
  pointwise [k0_pay2]

theorem pay1_at (x : Vec Ideal S512x1024 .f32) (g : Vec Ideal S1x1024 .f32) (w : Vec Ideal S1x1024x768 .bf16) (s : Fin 512) (j : Fin 768) :
    k0_pay1 (F := Ideal) (k0_pay6 (F := Ideal) x g w) (ix2 s j) = ∑ k : Fin 1024, k0_pay3 (F := Ideal) x g (ix2 s k) * w (ix3 0 k j) :=
  pay2_at (k0_pay3 x g) w s j

theorem pay4_at (x : Vec Ideal S512x1024 .f32) (g : Vec Ideal S1x1024 .f32) (w : Vec Ideal S1x1024x768 .bf16) (s : Fin 512) (j : Fin 768) :
    k0_pay4 (F := Ideal) x g w (ix2 s j) = ∑ k : Fin 1024, k0_pay3 (F := Ideal) x g (ix2 s k) * w (ix3 0 k j) :=
  pay2_at (k0_pay3 x g) w s j

theorem pay5_at (x : Vec Ideal S512x1024 .f32) (g : Vec Ideal S1x1024 .f32) (w : Vec Ideal S1x1024x768 .bf16) (s : Fin 512) (j : Fin 768) :
    k0_pay5 (F := Ideal) x g w (ix2 s j) = ∑ k : Fin 1024, k0_pay3 (F := Ideal) x g (ix2 s k) * w (ix3 0 k j) :=
  pay2_at (k0_pay3 x g) w s j

theorem ldW (x : Vec Ideal S4x1024x768 .bf16) (o : ℕ) (inb) (k : Fin 1024) (j : Fin 768) (p : Fin 4) (h : p.val = o) :
    View.ld x (Rect.unit (s := S4x1024x768) ![o, 0, 0] S1x1024x768.size inb) (ix3 0 k j) = x (ix3 p k j) :=
  View.ld_unit_apply_of _ _ _ _ _ _ fun a => by
    match a with
    | 0 => exact h
    | 1 => exact (Nat.zero_add _).symm
    | 2 => exact (Nat.zero_add _).symm

variable (m : (ℓ : Loc nD τ sig) → Buf (Elt Ideal) ℓ)

/-- The argument arrays on a core. -/
abbrev aX (c : Dev nD) : FVec Ideal S2x2048x1024 .f32 := m ((c : Thread nD τ).loc main_arg0)
abbrev aG (c : Dev nD) : FVec Ideal S1024 .f32 := m ((c : Thread nD τ).loc main_arg1)
abbrev aW (c : Dev nD) : FVec Ideal S1024x3072 .bf16 := m ((c : Thread nD τ).loc main_arg2)

/-- The columns of the weights in four parts. -/
abbrev wParts (W : FVec Ideal S1024x3072 .bf16) : FVec Ideal S4x1024x768 .bf16 :=
  transpose S4x1024x768 [1, 0, 2] (shapeCast S1024x4x768 W : FVec Ideal S1024x4x768 .bf16) transposes_S1024x4x768_S4x1024x768_1_0_2

/-- A column's place in all of them, from its part and its place there. -/
def col (p : Fin 4) (j : Fin 768) : Fin 3072 := ⟨p.val * 768 + j.val, by omega⟩

theorem wParts_at (W : FVec Ideal S1024x3072 .bf16) (p : Fin 4) (k : Fin 1024) (j : Fin 768) : wParts W (ix3 p k j) = W (ix2 k (col p j)) := by
  unfold col
  pointwise; blk_ext

theorem V_w (c : Dev nD) : (V m c main_v1 : FVec Ideal S4x1024x768 .bf16) = wParts (aW m c) := by
  unfold V; simp only [hostOps0, List.flatten_cons, List.flatten_nil, List.append_nil, List.cons_append, List.nil_append]; after_results; try rfl

theorem V_x (c : Dev nD) : (V m c main_v2 : FVec Ideal S4096x1024 .f32) = shapeCast S4096x1024 (aX m c) := by
  unfold V; simp only [hostOps0, List.flatten_cons, List.flatten_nil, List.append_nil, List.cons_append, List.nil_append]; after_results; try rfl

theorem V_g (c : Dev nD) : (V m c main_v3 : FVec Ideal S1x1024 .f32) = shapeCast S1x1024 (aG m c) := by
  unfold V; simp only [hostOps0, List.flatten_cons, List.flatten_nil, List.append_nil, List.cons_append, List.nil_append]; after_results; try rfl

/-- The index maps of the windows, decided at every grid point. -/
theorem idx_val : ∀ t : Fin cfg0.N, win0_0.index t = ![t.val, 0] ∧ win0_1.index t = ![0, 0] ∧ win0_2.index t = ![0, 0, 0]
    ∧ win0_3.index t = ![t.val, 0] ∧ win0_4.index t = ![t.val, 0] := (by decide +kernel : ∀ t : Fin grid0.N, _)

/-- The normed row of one position. -/
def nRow (X : FVec Ideal S2x2048x1024 .f32) (G : FVec Ideal S1024 .f32) (b : Fin 2) (r : Fin 2048) (k : Fin 1024) : EReal :=
  X (ix3 b r k) * Norm.rn (fun k => X (ix3 b r k)) * G (ix1 k)

/-- Its product with a column of the weights. -/
def pRow (X : FVec Ideal S2x2048x1024 .f32) (G : FVec Ideal S1024 .f32) (W : FVec Ideal S1024x3072 .bf16) (b : Fin 2) (r : Fin 2048) (q : Fin 3072) : EReal :=
  ∑ k : Fin 1024, nRow X G b r k * W (ix2 k q)

section
variable (c : Dev nD) (t : Fin cfg0.N) (s : Fin 512) (b : Fin 2) (r : Fin 2048) (hr : t.val * 512 + s.val = b.val * 2048 + r.val)

include hr in
theorem rd0 (l : Fin 1024) : (show FVec Ideal S512x1024 .f32 from iblk m c 0 t) (ix2 s l) = aX m c (ix3 b r l) := by
  blk_simp [iblk, idx_val t]; erw [V_x]; pointwise; blk_ext [idx_val t]

theorem rd1 (l : Fin 1024) : (show FVec Ideal S1x1024 .f32 from iblk m c 1 t) (ix2 0 l) = aG m c (ix1 l) := by
  blk_simp [iblk, idx_val t]; erw [V_g]; pointwise; blk_ext [idx_val t]

theorem rd2 (p : Fin 4) (k : Fin 1024) (j : Fin 768) : (show FVec Ideal S4x1024x768 .bf16 from iblk m c 2 t) (ix3 p k j) = aW m c (ix2 k (col p j)) := by
  refine Eq.trans ?_ (wParts_at (aW m c) p k j)
  rw [← V_w m c]
  blk_simp [iblk, idx_val t]; blk_ext [idx_val t]

include hr in
theorem norm_block (k : Fin 1024) :
    k0_pay3 (F := Ideal) (View.ld (iblk m c 0 t) r0_0) (View.ld (iblk m c 1 t) r0_1) (ix2 s k) = nRow (aX m c) (aG m c) b r k := by
  refine (congrArg₂ (fun a b => k0_pay3 (F := Ideal) a b (ix2 s k)) (View.ld_unit_lit _ _ (show ∀ a : Fin 2, (![0, 0] : Fin 2 → ℕ) a = 0 by decide)) (View.ld_unit_lit _ _ (show ∀ a : Fin 2, (![0, 0] : Fin 2 → ℕ) a = 0 by decide))).trans ?_
  refine (pay3_at _ _ s k).trans ?_
  exact congrArg₂ (· * ·) (congrArg₂ (· * ·) (rd0 m c t s b r hr k) (congrArg Norm.rn (funext fun k => rd0 m c t s b r hr k))) (rd1 m c t k)

include hr in
theorem part (p : Fin 4) (o : ℕ) (inb) (h : p.val = o) (j : Fin 768) :
    (∑ k : Fin 1024, k0_pay3 (F := Ideal) (View.ld (iblk m c 0 t) r0_0) (View.ld (iblk m c 1 t) r0_1) (ix2 s k)
      * View.ld (iblk m c 2 t) (Rect.unit (s := S4x1024x768) ![o, 0, 0] S1x1024x768.size inb) (ix3 0 k j))
    = pRow (aX m c) (aG m c) (aW m c) b r (col p j) :=
  Finset.sum_congr rfl fun k _ => congrArg₂ (· * ·) (norm_block m c t s b r hr k) ((ldW _ o inb k j p h).trans (rd2 m c t p k j))
end

/-- A table of rows, batch after batch, read at a row's number. -/
def rowAt {n : ℕ} (f : Fin 2 → Fin 2048 → Fin n → EReal) (p : ℕ) (k : Fin n) : EReal :=
  f ⟨p / 2048 % 2, by omega⟩ ⟨p % 2048, by omega⟩ k

theorem rowAt_eq {n : ℕ} (f : Fin 2 → Fin 2048 → Fin n → EReal) (p : ℕ) (k : Fin n) (b : Fin 2) (r : Fin 2048) (k' : Fin n)
    (hr : p = b.val * 2048 + r.val) (hk : k.val = k'.val) : rowAt f p k = f b r k' := by
  unfold rowAt
  refine congr (congr (congrArg f (Fin.ext ?_)) (Fin.ext ?_)) (Fin.ext hk)
  · show p / 2048 % 2 = b.val
    omega
  · show p % 2048 = r.val
    omega

def nRows (f : Fin 2 → Fin 2048 → Fin 1024 → EReal) : FVec Ideal S4096x1024 .bf16 := fun i => rowAt f (i 0).val (i 1)
def pRows (f : Fin 2 → Fin 2048 → Fin 3072 → EReal) : FVec Ideal S4096x3072 .bf16 := fun i => rowAt f (i 0).val (i 1)
variable (c : Dev nD)

/-- The position a row of a block stands for. -/
theorem place (t : Fin cfg0.N) (s : Fin 512) : ∃ (b : Fin 2) (r : Fin 2048), t.val * 512 + s.val = b.val * 2048 + r.val := by
  have ht : t.val < 8 := t.2
  exact ⟨⟨(t.val * 512 + s.val) / 2048, by omega⟩, ⟨(t.val * 512 + s.val) % 2048, by omega⟩, by show _ = (t.val * 512 + s.val) / 2048 * 2048 + (t.val * 512 + s.val) % 2048; omega⟩

theorem arr3 : (dats m 0 c).arrAt 3 (cfgs 0).N = nRows (nRow (aX m c) (aG m c)) := by
  refine (dats m 0 c).arrAt_eq_of_covers 3 _ (by decide +kernel) fun t _ y => ?_
  blk_simp
  rw [after0_3]
  have key : ∀ y : S512x1024.Idx, out0_3 (F := Ideal) (iblk m c 0 t) (iblk m c 1 t) (iblk m c 2 t) y
      = nRows (nRow (aX m c) (aG m c)) (((View.whole main_v4_0).slice (win0_3.rect t)).emb y) := by
    intro y
    idx_vars y
    have e0 : (((((View.whole main_v4_0).slice (win0_3.rect t)).emb (ix2 y0 y1)) 0)).val = t.val * 512 + y0.val := by blk_simp [idx_val t]
    have e1 : (((((View.whole main_v4_0).slice (win0_3.rect t)).emb (ix2 y0 y1)) 1)).val = y1.val := by blk_simp [idx_val t]
    generalize ((View.whole main_v4_0).slice (win0_3.rect t)).emb (ix2 y0 y1) = z at e0 e1
    obtain ⟨b, r, hr⟩ := place t y0
    refine Eq.trans ?_ (rowAt_eq _ _ _ b r y1 (e0.trans hr) e1).symm
    unfold out0_3
    canon_tiles x h
    idx_vars x
    obtain rfl : x0 = y0 := Fin.ext h0.symm
    obtain rfl : x1 = y1 := Fin.ext h1.symm
    exact norm_block m c t x0 b r hr x1
  exact key y

theorem arr4 : (dats m 0 c).arrAt 4 (cfgs 0).N = pRows (pRow (aX m c) (aG m c) (aW m c)) := by
  refine (dats m 0 c).arrAt_eq_of_covers 4 _ (by decide +kernel) fun t _ y => ?_
  blk_simp
  rw [after0_4]
  have key : ∀ y : S512x3072.Idx, out0_4 (F := Ideal) (iblk m c 0 t) (iblk m c 1 t) (iblk m c 2 t) y
      = pRows (pRow (aX m c) (aG m c) (aW m c)) (((View.whole main_v4_1).slice (win0_4.rect t)).emb y) := by
    intro y
    idx_vars y
    have e0 : (((((View.whole main_v4_1).slice (win0_4.rect t)).emb (ix2 y0 y1)) 0)).val = t.val * 512 + y0.val := by blk_simp [idx_val t]
    have e1 : (((((View.whole main_v4_1).slice (win0_4.rect t)).emb (ix2 y0 y1)) 1)).val = y1.val := by blk_simp [idx_val t]
    generalize ((View.whole main_v4_1).slice (win0_4.rect t)).emb (ix2 y0 y1) = z at e0 e1
    obtain ⟨b, r, hr⟩ := place t y0
    unfold out0_4
    canon_tiles x h
    · idx_vars x
      obtain rfl : x0 = y0 := Fin.ext h0.symm
      refine Eq.trans ?_ (rowAt_eq _ _ _ b r (col 3 x1) (e0.trans hr) (e1.trans h1)).symm
      refine (pay2_at _ _ x0 x1).trans ?_
      exact part m c t x0 b r hr 3 3 inb_S4x1024x768_S1x1024x768_3_0_0 rfl x1
    · idx_vars x
      obtain rfl : x0 = y0 := Fin.ext h0.symm
      refine Eq.trans ?_ (rowAt_eq _ _ _ b r (col 2 x1) (e0.trans hr) (e1.trans h1)).symm
      refine (pay1_at _ _ _ x0 x1).trans ?_
      exact part m c t x0 b r hr 2 2 inb_S4x1024x768_S1x1024x768_2_0_0 rfl x1
    · idx_vars x
      obtain rfl : x0 = y0 := Fin.ext h0.symm
      refine Eq.trans ?_ (rowAt_eq _ _ _ b r (col 1 x1) (e0.trans hr) (e1.trans h1)).symm
      refine (pay5_at _ _ _ x0 x1).trans ?_
      exact part m c t x0 b r hr 1 1 inb_S4x1024x768_S1x1024x768_1_0_0 rfl x1
    · idx_vars x
      obtain rfl : x0 = y0 := Fin.ext h0.symm
      refine Eq.trans ?_ (rowAt_eq _ _ _ b r (col 0 x1) (e0.trans hr) ((e1.trans h1).trans (by show x1.val = 0 * 768 + x1.val; omega))).symm
      refine (pay4_at _ _ _ x0 x1).trans ?_
      exact part m c t x0 b r hr 0 0 inb_S4x1024x768_S1x1024x768_0_0_0 rfl x1
  exact key y

end Cert.CinKernelIdeal.Cin

end
end
-- ==== Proof.CinClaim.lean ====
/- The claims about the entry of the short convolution. -/
module

public import proofs.«01_k».proof.Defs
public import proofs.«01_k».proof.Proof.CinArr
public import proofs.«01_k».proof.Proof.Gen.CinKernel.Frame
public import proofs.«01_k».proof.Proof.Gen.CinReferenceIdeal.Run
public import proofs.«01_k».proof.Proof.Gen.CinReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Cin

open Cert.CinKernelIdeal.Cin (nRow pRow nRows pRows rowAt)

section
open Cert.CinKernelIdeal Cert.CinKernelIdeal.Cin

/-- What the kernel leaves, on every device. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = nRows (nRow (m ((c.tc : Thread nD τ).loc main_arg0)) (m ((c.tc : Thread nD τ).loc main_arg1)))
      ∧ r.2.mem ((c.tc : Thread nD τ).loc main_v4_1) = pRows (pRow (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (arr3 m c), (h c).2.1.trans (arr4 m c), (h c).2.2⟩) (Value.run_blocks (F := Ideal) m g)

end

section
open Cert.CinReferenceIdeal Cert.CinReferenceIdeal.Read

variable (X : FVec Ideal S2x2048x1024 .f32) (G : FVec Ideal S1024 .f32) (W : FVec Ideal S1024x3072 .bf16)
  (b : Fin 2) (s : Fin 2048)

theorem rn_at : val_main_v7 (F := Ideal) X (ix3 b s 0) = Norm.rn (fun k => X (ix3 b s k)) := by
  unfold Norm.rn
  pointwise [val_main_v7, val_main_v6, val_main_v5, val_main_v4, val_main_v3, val_main_v2, val_main_v1, val_main_v0, val_main_cst, val_main_cst_0, val_main_cst_1]

theorem n_at (k : Fin 1024) : val_main_v12 (F := Ideal) X G (ix3 b s k) = nRow X G b s k := by
  unfold nRow
  pointwise [val_main_v12, val_main_v11, val_main_v10, val_main_v9, val_main_v8, rn_at]

theorem p_at (q : Fin 3072) : val_main_v14 (F := Ideal) X G W (ix3 b s q) = pRow X G W b s q := by
  unfold pRow
  pointwise [val_main_v14, val_main_v13, n_at]

theorem ref_n : val_main_v16 (F := Ideal) X G = nRows (nRow X G) :=
  funext fun i => by
    idx_vars i
    refine Eq.trans ?_ (Cert.CinKernelIdeal.Cin.rowAt_eq (nRow X G) i0.val i1 ⟨i0.val / 2048, by omega⟩ ⟨i0.val % 2048, by omega⟩ i1 (by show _ = i0.val / 2048 * 2048 + i0.val % 2048; omega) rfl).symm
    pointwise [val_main_v16, val_main_v15, n_at]

theorem ref_p : val_main_v18 (F := Ideal) X G W = pRows (pRow X G W) :=
  funext fun i => by
    idx_vars i
    refine Eq.trans ?_ (Cert.CinKernelIdeal.Cin.rowAt_eq (pRow X G W) i0.val i1 ⟨i0.val / 2048, by omega⟩ ⟨i0.val % 2048, by omega⟩ i1 (by show _ = i0.val / 2048 * 2048 + i0.val % 2048; omega) rfl).symm
    pointwise [val_main_v18, val_main_v17, p_at]

end

theorem algebraic : Cert.algebraic_CinKernelIdeal_CinReferenceIdeal := by
  pair_intro
  · run_from kernel_run m g
  · run_from Cert.CinReferenceIdeal.Value.run (F := Ideal) m' g'
    · exact (Cert.CinReferenceIdeal.Read.val_main_v16_eq _ _).trans (ref_n _ _)
    · exact (Cert.CinReferenceIdeal.Read.val_main_v18_eq _ _ _).trans (ref_p _ _ _)

theorem frame_ref : Cert.quiescent_CinReferenceIdeal := fun m g _ =>
  (θ_run Cert.CinReferenceIdeal.defs _ _).mono (fun r h => ⟨fun c => (h c).2.2, sem_eq_zero_of_no_sems (by decide) r.2⟩)
    (Cert.CinReferenceIdeal.Value.run (F := Ideal) m g)

theorem claims : Cert.quiescent_CinKernel ∧ Cert.quiescent_CinKernelIdeal ∧ Cert.quiescent_CinReferenceIdeal
    ∧ Cert.preserves_CinKernel_CinKernelIdeal ∧ Cert.algebraic_CinKernelIdeal_CinReferenceIdeal :=
  ⟨fun m g _ => Cert.CinKernel.Gen.frame m g, fun m g _ => Cert.CinKernelIdeal.Gen.frame m g, frame_ref, trivial, algebraic⟩

end Cert.Proof.Cin

end
end
-- ==== Proof.QinArr.lean ====
/- The arrays the entry of the attention's queries and gates leaves: norm and product. -/
module

public import proofs.«01_k».proof.Proof.NormMath
public import proofs.«01_k».proof.Proof.Gen.QinKernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.QinKernelIdeal.Qin

open Cert.QinKernelIdeal Cert.QinKernelIdeal.Gen

theorem pay3_at (x : Vec Ideal S512x1024 .f32) (g : Vec Ideal S1x1024 .f32) (s : Fin 512) (k : Fin 1024) :
    k0_pay3 (F := Ideal) x g (ix2 s k) = x (ix2 s k) * Norm.rn (fun k => x (ix2 s k)) * g (ix2 0 k) := by
  unfold Norm.rn
  pointwise [k0_pay3]

theorem pay2_at (D : FVec Ideal S512x1024 .bf16) (w : Vec Ideal S1x1024x512 .bf16) (s : Fin 512) (j : Fin 512) :
    k0_pay2 (F := Ideal) D w (ix2 s j) = ∑ k : Fin 1024, D (ix2 s k) * w (ix3 0 k j) := by
  pointwise [k0_pay2]

theorem pay1_at (x : Vec Ideal S512x1024 .f32) (g : Vec Ideal S1x1024 .f32) (w : Vec Ideal S1x1024x512 .bf16) (s : Fin 512) (j : Fin 512) :
    k0_pay1 (F := Ideal) (k0_pay6 (F := Ideal) x g w) (ix2 s j) = ∑ k : Fin 1024, k0_pay3 (F := Ideal) x g (ix2 s k) * w (ix3 0 k j) :=
  pay2_at (k0_pay3 x g) w s j

theorem pay4_at (x : Vec Ideal S512x1024 .f32) (g : Vec Ideal S1x1024 .f32) (w : Vec Ideal S1x1024x512 .bf16) (s : Fin 512) (j : Fin 512) :
    k0_pay4 (F := Ideal) x g w (ix2 s j) = ∑ k : Fin 1024, k0_pay3 (F := Ideal) x g (ix2 s k) * w (ix3 0 k j) :=
  pay2_at (k0_pay3 x g) w s j

theorem pay5_at (x : Vec Ideal S512x1024 .f32) (g : Vec Ideal S1x1024 .f32) (w : Vec Ideal S1x1024x512 .bf16) (s : Fin 512) (j : Fin 512) :
    k0_pay5 (F := Ideal) x g w (ix2 s j) = ∑ k : Fin 1024, k0_pay3 (F := Ideal) x g (ix2 s k) * w (ix3 0 k j) :=
  pay2_at (k0_pay3 x g) w s j

theorem ldW (x : Vec Ideal S4x1024x512 .bf16) (o : ℕ) (inb) (k : Fin 1024) (j : Fin 512) (p : Fin 4) (h : p.val = o) :
    View.ld x (Rect.unit (s := S4x1024x512) ![o, 0, 0] S1x1024x512.size inb) (ix3 0 k j) = x (ix3 p k j) :=
  View.ld_unit_apply_of _ _ _ _ _ _ fun a => by
    match a with
    | 0 => exact h
    | 1 => exact (Nat.zero_add _).symm
    | 2 => exact (Nat.zero_add _).symm

variable (m : (ℓ : Loc nD τ sig) → Buf (Elt Ideal) ℓ)

/-- The argument arrays on a core. -/
abbrev aX (c : Dev nD) : FVec Ideal S2x2048x1024 .f32 := m ((c : Thread nD τ).loc main_arg0)
abbrev aG (c : Dev nD) : FVec Ideal S1024 .f32 := m ((c : Thread nD τ).loc main_arg1)
abbrev aW (c : Dev nD) : FVec Ideal S1024x2048 .bf16 := m ((c : Thread nD τ).loc main_arg2)

/-- The columns of the weights in four parts. -/
abbrev wParts (W : FVec Ideal S1024x2048 .bf16) : FVec Ideal S4x1024x512 .bf16 :=
  transpose S4x1024x512 [1, 0, 2] (shapeCast S1024x4x512 W : FVec Ideal S1024x4x512 .bf16) transposes_S1024x4x512_S4x1024x512_1_0_2

/-- A column's place in all of them, from its part and its place there. -/
def col (p : Fin 4) (j : Fin 512) : Fin 2048 := ⟨p.val * 512 + j.val, by omega⟩

theorem wParts_at (W : FVec Ideal S1024x2048 .bf16) (p : Fin 4) (k : Fin 1024) (j : Fin 512) : wParts W (ix3 p k j) = W (ix2 k (col p j)) := by
  unfold col
  pointwise; blk_ext

theorem V_w (c : Dev nD) : (V m c main_v1 : FVec Ideal S4x1024x512 .bf16) = wParts (aW m c) := by
  unfold V; simp only [hostOps0, List.flatten_cons, List.flatten_nil, List.append_nil, List.cons_append, List.nil_append]; after_results; try rfl

theorem V_x (c : Dev nD) : (V m c main_v2 : FVec Ideal S4096x1024 .f32) = shapeCast S4096x1024 (aX m c) := by
  unfold V; simp only [hostOps0, List.flatten_cons, List.flatten_nil, List.append_nil, List.cons_append, List.nil_append]; after_results; try rfl

theorem V_g (c : Dev nD) : (V m c main_v3 : FVec Ideal S1x1024 .f32) = shapeCast S1x1024 (aG m c) := by
  unfold V; simp only [hostOps0, List.flatten_cons, List.flatten_nil, List.append_nil, List.cons_append, List.nil_append]; after_results; try rfl

/-- The index maps of the windows, decided at every grid point. -/
theorem idx_val : ∀ t : Fin cfg0.N, win0_0.index t = ![t.val, 0] ∧ win0_1.index t = ![0, 0] ∧ win0_2.index t = ![0, 0, 0]
    ∧ win0_3.index t = ![t.val, 0] ∧ win0_4.index t = ![t.val, 0] := (by decide +kernel : ∀ t : Fin grid0.N, _)

/-- The normed row of one position. -/
def nRow (X : FVec Ideal S2x2048x1024 .f32) (G : FVec Ideal S1024 .f32) (b : Fin 2) (r : Fin 2048) (k : Fin 1024) : EReal :=
  X (ix3 b r k) * Norm.rn (fun k => X (ix3 b r k)) * G (ix1 k)

/-- Its product with a column of the weights. -/
def pRow (X : FVec Ideal S2x2048x1024 .f32) (G : FVec Ideal S1024 .f32) (W : FVec Ideal S1024x2048 .bf16) (b : Fin 2) (r : Fin 2048) (q : Fin 2048) : EReal :=
  ∑ k : Fin 1024, nRow X G b r k * W (ix2 k q)

section
variable (c : Dev nD) (t : Fin cfg0.N) (s : Fin 512) (b : Fin 2) (r : Fin 2048) (hr : t.val * 512 + s.val = b.val * 2048 + r.val)

include hr in
theorem rd0 (l : Fin 1024) : (show FVec Ideal S512x1024 .f32 from iblk m c 0 t) (ix2 s l) = aX m c (ix3 b r l) := by
  blk_simp [iblk, idx_val t]; erw [V_x]; pointwise; blk_ext [idx_val t]

theorem rd1 (l : Fin 1024) : (show FVec Ideal S1x1024 .f32 from iblk m c 1 t) (ix2 0 l) = aG m c (ix1 l) := by
  blk_simp [iblk, idx_val t]; erw [V_g]; pointwise; blk_ext [idx_val t]

theorem rd2 (p : Fin 4) (k : Fin 1024) (j : Fin 512) : (show FVec Ideal S4x1024x512 .bf16 from iblk m c 2 t) (ix3 p k j) = aW m c (ix2 k (col p j)) := by
  refine Eq.trans ?_ (wParts_at (aW m c) p k j)
  rw [← V_w m c]
  blk_simp [iblk, idx_val t]; blk_ext [idx_val t]

include hr in
theorem norm_block (k : Fin 1024) :
    k0_pay3 (F := Ideal) (View.ld (iblk m c 0 t) r0_0) (View.ld (iblk m c 1 t) r0_1) (ix2 s k) = nRow (aX m c) (aG m c) b r k := by
  refine (congrArg₂ (fun a b => k0_pay3 (F := Ideal) a b (ix2 s k)) (View.ld_unit_lit _ _ (show ∀ a : Fin 2, (![0, 0] : Fin 2 → ℕ) a = 0 by decide)) (View.ld_unit_lit _ _ (show ∀ a : Fin 2, (![0, 0] : Fin 2 → ℕ) a = 0 by decide))).trans ?_
  refine (pay3_at _ _ s k).trans ?_
  exact congrArg₂ (· * ·) (congrArg₂ (· * ·) (rd0 m c t s b r hr k) (congrArg Norm.rn (funext fun k => rd0 m c t s b r hr k))) (rd1 m c t k)

include hr in
theorem part (p : Fin 4) (o : ℕ) (inb) (h : p.val = o) (j : Fin 512) :
    (∑ k : Fin 1024, k0_pay3 (F := Ideal) (View.ld (iblk m c 0 t) r0_0) (View.ld (iblk m c 1 t) r0_1) (ix2 s k)
      * View.ld (iblk m c 2 t) (Rect.unit (s := S4x1024x512) ![o, 0, 0] S1x1024x512.size inb) (ix3 0 k j))
    = pRow (aX m c) (aG m c) (aW m c) b r (col p j) :=
  Finset.sum_congr rfl fun k _ => congrArg₂ (· * ·) (norm_block m c t s b r hr k) ((ldW _ o inb k j p h).trans (rd2 m c t p k j))
end

/-- A table of rows, batch after batch, read at a row's number. -/
def rowAt {n : ℕ} (f : Fin 2 → Fin 2048 → Fin n → EReal) (p : ℕ) (k : Fin n) : EReal :=
  f ⟨p / 2048 % 2, by omega⟩ ⟨p % 2048, by omega⟩ k

theorem rowAt_eq {n : ℕ} (f : Fin 2 → Fin 2048 → Fin n → EReal) (p : ℕ) (k : Fin n) (b : Fin 2) (r : Fin 2048) (k' : Fin n)
    (hr : p = b.val * 2048 + r.val) (hk : k.val = k'.val) : rowAt f p k = f b r k' := by
  unfold rowAt
  refine congr (congr (congrArg f (Fin.ext ?_)) (Fin.ext ?_)) (Fin.ext hk)
  · show p / 2048 % 2 = b.val
    omega
  · show p % 2048 = r.val
    omega

def nRows (f : Fin 2 → Fin 2048 → Fin 1024 → EReal) : FVec Ideal S4096x1024 .bf16 := fun i => rowAt f (i 0).val (i 1)
def pRows (f : Fin 2 → Fin 2048 → Fin 2048 → EReal) : FVec Ideal S4096x2048 .bf16 := fun i => rowAt f (i 0).val (i 1)
variable (c : Dev nD)

/-- The position a row of a block stands for. -/
theorem place (t : Fin cfg0.N) (s : Fin 512) : ∃ (b : Fin 2) (r : Fin 2048), t.val * 512 + s.val = b.val * 2048 + r.val := by
  have ht : t.val < 8 := t.2
  exact ⟨⟨(t.val * 512 + s.val) / 2048, by omega⟩, ⟨(t.val * 512 + s.val) % 2048, by omega⟩, by show _ = (t.val * 512 + s.val) / 2048 * 2048 + (t.val * 512 + s.val) % 2048; omega⟩

theorem arr3 : (dats m 0 c).arrAt 3 (cfgs 0).N = nRows (nRow (aX m c) (aG m c)) := by
  refine (dats m 0 c).arrAt_eq_of_covers 3 _ (by decide +kernel) fun t _ y => ?_
  blk_simp
  rw [after0_3]
  have key : ∀ y : S512x1024.Idx, out0_3 (F := Ideal) (iblk m c 0 t) (iblk m c 1 t) (iblk m c 2 t) y
      = nRows (nRow (aX m c) (aG m c)) (((View.whole main_v4_0).slice (win0_3.rect t)).emb y) := by
    intro y
    idx_vars y
    have e0 : (((((View.whole main_v4_0).slice (win0_3.rect t)).emb (ix2 y0 y1)) 0)).val = t.val * 512 + y0.val := by blk_simp [idx_val t]
    have e1 : (((((View.whole main_v4_0).slice (win0_3.rect t)).emb (ix2 y0 y1)) 1)).val = y1.val := by blk_simp [idx_val t]
    generalize ((View.whole main_v4_0).slice (win0_3.rect t)).emb (ix2 y0 y1) = z at e0 e1
    obtain ⟨b, r, hr⟩ := place t y0
    refine Eq.trans ?_ (rowAt_eq _ _ _ b r y1 (e0.trans hr) e1).symm
    unfold out0_3
    canon_tiles x h
    idx_vars x
    obtain rfl : x0 = y0 := Fin.ext h0.symm
    obtain rfl : x1 = y1 := Fin.ext h1.symm
    exact norm_block m c t x0 b r hr x1
  exact key y

theorem arr4 : (dats m 0 c).arrAt 4 (cfgs 0).N = pRows (pRow (aX m c) (aG m c) (aW m c)) := by
  refine (dats m 0 c).arrAt_eq_of_covers 4 _ (by decide +kernel) fun t _ y => ?_
  blk_simp
  rw [after0_4]
  have key : ∀ y : S512x2048.Idx, out0_4 (F := Ideal) (iblk m c 0 t) (iblk m c 1 t) (iblk m c 2 t) y
      = pRows (pRow (aX m c) (aG m c) (aW m c)) (((View.whole main_v4_1).slice (win0_4.rect t)).emb y) := by
    intro y
    idx_vars y
    have e0 : (((((View.whole main_v4_1).slice (win0_4.rect t)).emb (ix2 y0 y1)) 0)).val = t.val * 512 + y0.val := by blk_simp [idx_val t]
    have e1 : (((((View.whole main_v4_1).slice (win0_4.rect t)).emb (ix2 y0 y1)) 1)).val = y1.val := by blk_simp [idx_val t]
    generalize ((View.whole main_v4_1).slice (win0_4.rect t)).emb (ix2 y0 y1) = z at e0 e1
    obtain ⟨b, r, hr⟩ := place t y0
    unfold out0_4
    canon_tiles x h
    · idx_vars x
      obtain rfl : x0 = y0 := Fin.ext h0.symm
      refine Eq.trans ?_ (rowAt_eq _ _ _ b r (col 3 x1) (e0.trans hr) (e1.trans h1)).symm
      refine (pay2_at _ _ x0 x1).trans ?_
      exact part m c t x0 b r hr 3 3 inb_S4x1024x512_S1x1024x512_3_0_0 rfl x1
    · idx_vars x
      obtain rfl : x0 = y0 := Fin.ext h0.symm
      refine Eq.trans ?_ (rowAt_eq _ _ _ b r (col 2 x1) (e0.trans hr) (e1.trans h1)).symm
      refine (pay1_at _ _ _ x0 x1).trans ?_
      exact part m c t x0 b r hr 2 2 inb_S4x1024x512_S1x1024x512_2_0_0 rfl x1
    · idx_vars x
      obtain rfl : x0 = y0 := Fin.ext h0.symm
      refine Eq.trans ?_ (rowAt_eq _ _ _ b r (col 1 x1) (e0.trans hr) (e1.trans h1)).symm
      refine (pay5_at _ _ _ x0 x1).trans ?_
      exact part m c t x0 b r hr 1 1 inb_S4x1024x512_S1x1024x512_1_0_0 rfl x1
    · idx_vars x
      obtain rfl : x0 = y0 := Fin.ext h0.symm
      refine Eq.trans ?_ (rowAt_eq _ _ _ b r (col 0 x1) (e0.trans hr) ((e1.trans h1).trans (by show x1.val = 0 * 512 + x1.val; omega))).symm
      refine (pay4_at _ _ _ x0 x1).trans ?_
      exact part m c t x0 b r hr 0 0 inb_S4x1024x512_S1x1024x512_0_0_0 rfl x1
  exact key y

end Cert.QinKernelIdeal.Qin

end
end
-- ==== Proof.QinClaim.lean ====
/- The claims about the entry of the attention's queries and gates. -/
module

public import proofs.«01_k».proof.Defs
public import proofs.«01_k».proof.Proof.QinArr
public import proofs.«01_k».proof.Proof.Gen.QinKernel.Frame
public import proofs.«01_k».proof.Proof.Gen.QinReferenceIdeal.Run
public import proofs.«01_k».proof.Proof.Gen.QinReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Qin

open Cert.QinKernelIdeal.Qin (nRow pRow nRows pRows rowAt)

section
open Cert.QinKernelIdeal Cert.QinKernelIdeal.Qin

/-- What the kernel leaves, on every device. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4_0) = nRows (nRow (m ((c.tc : Thread nD τ).loc main_arg0)) (m ((c.tc : Thread nD τ).loc main_arg1)))
      ∧ r.2.mem ((c.tc : Thread nD τ).loc main_v4_1) = pRows (pRow (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (arr3 m c), (h c).2.1.trans (arr4 m c), (h c).2.2⟩) (Value.run_blocks (F := Ideal) m g)

end

section
open Cert.QinReferenceIdeal Cert.QinReferenceIdeal.Read

variable (X : FVec Ideal S2x2048x1024 .f32) (G : FVec Ideal S1024 .f32) (W : FVec Ideal S1024x2048 .bf16)
  (b : Fin 2) (s : Fin 2048)

theorem rn_at : val_main_v7 (F := Ideal) X (ix3 b s 0) = Norm.rn (fun k => X (ix3 b s k)) := by
  unfold Norm.rn
  pointwise [val_main_v7, val_main_v6, val_main_v5, val_main_v4, val_main_v3, val_main_v2, val_main_v1, val_main_v0, val_main_cst, val_main_cst_0, val_main_cst_1]

theorem n_at (k : Fin 1024) : val_main_v12 (F := Ideal) X G (ix3 b s k) = nRow X G b s k := by
  unfold nRow
  pointwise [val_main_v12, val_main_v11, val_main_v10, val_main_v9, val_main_v8, rn_at]

theorem p_at (q : Fin 2048) : val_main_v14 (F := Ideal) X G W (ix3 b s q) = pRow X G W b s q := by
  unfold pRow
  pointwise [val_main_v14, val_main_v13, n_at]

theorem ref_n : val_main_v16 (F := Ideal) X G = nRows (nRow X G) :=
  funext fun i => by
    idx_vars i
    refine Eq.trans ?_ (Cert.QinKernelIdeal.Qin.rowAt_eq (nRow X G) i0.val i1 ⟨i0.val / 2048, by omega⟩ ⟨i0.val % 2048, by omega⟩ i1 (by show _ = i0.val / 2048 * 2048 + i0.val % 2048; omega) rfl).symm
    pointwise [val_main_v16, val_main_v15, n_at]

theorem ref_p : val_main_v18 (F := Ideal) X G W = pRows (pRow X G W) :=
  funext fun i => by
    idx_vars i
    refine Eq.trans ?_ (Cert.QinKernelIdeal.Qin.rowAt_eq (pRow X G W) i0.val i1 ⟨i0.val / 2048, by omega⟩ ⟨i0.val % 2048, by omega⟩ i1 (by show _ = i0.val / 2048 * 2048 + i0.val % 2048; omega) rfl).symm
    pointwise [val_main_v18, val_main_v17, p_at]

end

theorem algebraic : Cert.algebraic_QinKernelIdeal_QinReferenceIdeal := by
  pair_intro
  · run_from kernel_run m g
  · run_from Cert.QinReferenceIdeal.Value.run (F := Ideal) m' g'
    · exact (Cert.QinReferenceIdeal.Read.val_main_v16_eq _ _).trans (ref_n _ _)
    · exact (Cert.QinReferenceIdeal.Read.val_main_v18_eq _ _ _).trans (ref_p _ _ _)

theorem frame_ref : Cert.quiescent_QinReferenceIdeal := fun m g _ =>
  (θ_run Cert.QinReferenceIdeal.defs _ _).mono (fun r h => ⟨fun c => (h c).2.2, sem_eq_zero_of_no_sems (by decide) r.2⟩)
    (Cert.QinReferenceIdeal.Value.run (F := Ideal) m g)

theorem claims : Cert.quiescent_QinKernel ∧ Cert.quiescent_QinKernelIdeal ∧ Cert.quiescent_QinReferenceIdeal
    ∧ Cert.preserves_QinKernel_QinKernelIdeal ∧ Cert.algebraic_QinKernelIdeal_QinReferenceIdeal :=
  ⟨fun m g _ => Cert.QinKernel.Gen.frame m g, fun m g _ => Cert.QinKernelIdeal.Gen.frame m g, frame_ref, trivial, algebraic⟩

end Cert.Proof.Qin

end
end
-- ==== Proof.KvnArr.lean ====
/- The array the norm before the keys and values leaves. -/
module

public import proofs.«01_k».proof.Proof.NormMath
public import proofs.«01_k».proof.Proof.Gen.KvnKernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KvnKernelIdeal.Kvn

open Cert.KvnKernelIdeal Cert.KvnKernelIdeal.Gen

theorem pay1_at (x : Vec Ideal S512x1024 .f32) (g : Vec Ideal S1x1024 .f32) (s : Fin 512) (k : Fin 1024) :
    k0_pay1 (F := Ideal) x g (ix2 s k) = x (ix2 s k) * Norm.rn (fun k => x (ix2 s k)) * g (ix2 0 k) := by
  unfold Norm.rn
  pointwise [k0_pay1]

variable (m : (ℓ : Loc nD τ sig) → Buf (Elt Ideal) ℓ)

/-- The argument arrays on a core. -/
abbrev aX (c : Dev nD) : FVec Ideal S2x2048x1024 .f32 := m ((c : Thread nD τ).loc main_arg0)
abbrev aG (c : Dev nD) : FVec Ideal S1024 .f32 := m ((c : Thread nD τ).loc main_arg1)

theorem V_x (c : Dev nD) : (V m c main_v0 : FVec Ideal S4096x1024 .f32) = shapeCast S4096x1024 (aX m c) := by
  unfold V; simp only [hostOps0, List.flatten_cons, List.flatten_nil, List.append_nil, List.cons_append, List.nil_append]; after_results; try rfl

theorem V_g (c : Dev nD) : (V m c main_v1 : FVec Ideal S1x1024 .f32) = shapeCast S1x1024 (aG m c) := by
  unfold V; simp only [hostOps0, List.flatten_cons, List.flatten_nil, List.append_nil, List.cons_append, List.nil_append]; after_results; try rfl

/-- The index maps of the windows, decided at every grid point. -/
theorem idx_val : ∀ t : Fin cfg0.N, win0_0.index t = ![t.val, 0] ∧ win0_1.index t = ![0, 0] ∧ win0_2.index t = ![t.val, 0] := (by decide +kernel : ∀ t : Fin grid0.N, _)

/-- The normed row of one position. -/
def nRow (X : FVec Ideal S2x2048x1024 .f32) (G : FVec Ideal S1024 .f32) (b : Fin 2) (r : Fin 2048) (k : Fin 1024) : EReal :=
  X (ix3 b r k) * Norm.rn (fun k => X (ix3 b r k)) * G (ix1 k)

section
variable (c : Dev nD) (t : Fin cfg0.N) (s : Fin 512) (b : Fin 2) (r : Fin 2048) (hr : t.val * 512 + s.val = b.val * 2048 + r.val)

include hr in
theorem rd0 (l : Fin 1024) : (show FVec Ideal S512x1024 .f32 from iblk m c 0 t) (ix2 s l) = aX m c (ix3 b r l) := by
  blk_simp [iblk, idx_val t]; erw [V_x]; pointwise; blk_ext [idx_val t]

theorem rd1 (l : Fin 1024) : (show FVec Ideal S1x1024 .f32 from iblk m c 1 t) (ix2 0 l) = aG m c (ix1 l) := by
  blk_simp [iblk, idx_val t]; erw [V_g]; pointwise; blk_ext [idx_val t]
end

/-- A table of rows, batch after batch, read at a row's number. -/
def rowAt {n : ℕ} (f : Fin 2 → Fin 2048 → Fin n → EReal) (p : ℕ) (k : Fin n) : EReal :=
  f ⟨p / 2048 % 2, by omega⟩ ⟨p % 2048, by omega⟩ k

theorem rowAt_eq {n : ℕ} (f : Fin 2 → Fin 2048 → Fin n → EReal) (p : ℕ) (k : Fin n) (b : Fin 2) (r : Fin 2048) (k' : Fin n)
    (hr : p = b.val * 2048 + r.val) (hk : k.val = k'.val) : rowAt f p k = f b r k' := by
  unfold rowAt
  refine congr (congr (congrArg f (Fin.ext ?_)) (Fin.ext ?_)) (Fin.ext hk)
  · show p / 2048 % 2 = b.val
    omega
  · show p % 2048 = r.val
    omega

def nRows (f : Fin 2 → Fin 2048 → Fin 1024 → EReal) : FVec Ideal S4096x1024 .bf16 := fun i => rowAt f (i 0).val (i 1)

variable (c : Dev nD)

/-- The position a row of a block stands for. -/
theorem place (t : Fin cfg0.N) (s : Fin 512) : ∃ (b : Fin 2) (r : Fin 2048), t.val * 512 + s.val = b.val * 2048 + r.val := by
  have ht : t.val < 8 := t.2
  exact ⟨⟨(t.val * 512 + s.val) / 2048, by omega⟩, ⟨(t.val * 512 + s.val) % 2048, by omega⟩, by show _ = (t.val * 512 + s.val) / 2048 * 2048 + (t.val * 512 + s.val) % 2048; omega⟩

theorem arr2 : (dats m 0 c).arrAt 2 (cfgs 0).N = nRows (nRow (aX m c) (aG m c)) := by
  refine (dats m 0 c).arrAt_eq_of_covers 2 _ (by decide +kernel) fun t _ y => ?_
  blk_simp
  rw [after0_2]
  have key : ∀ y : S512x1024.Idx, out0_2 (F := Ideal) (iblk m c 0 t) (iblk m c 1 t) y
      = nRows (nRow (aX m c) (aG m c)) (((View.whole main_v2).slice (win0_2.rect t)).emb y) := by
    intro y
    idx_vars y
    have e0 : (((((View.whole main_v2).slice (win0_2.rect t)).emb (ix2 y0 y1)) 0)).val = t.val * 512 + y0.val := by blk_simp [idx_val t]
    have e1 : (((((View.whole main_v2).slice (win0_2.rect t)).emb (ix2 y0 y1)) 1)).val = y1.val := by blk_simp [idx_val t]
    generalize ((View.whole main_v2).slice (win0_2.rect t)).emb (ix2 y0 y1) = z at e0 e1
    obtain ⟨b, r, hr⟩ := place t y0
    refine Eq.trans ?_ (rowAt_eq _ _ _ b r y1 (e0.trans hr) e1).symm
    frame_out
    refine (pay1_at _ _ y0 y1).trans ?_
    exact congrArg₂ (· * ·) (congrArg₂ (· * ·) (rd0 m c t y0 b r hr y1) (congrArg Norm.rn (funext fun k => rd0 m c t y0 b r hr k))) (rd1 m c t y1)
  exact key y

end Cert.KvnKernelIdeal.Kvn

end
end
-- ==== Proof.KvnClaim.lean ====
/- The claims about the norm before the keys and values. -/
module

public import proofs.«01_k».proof.Defs
public import proofs.«01_k».proof.Proof.KvnArr
public import proofs.«01_k».proof.Proof.Gen.KvnKernel.Frame
public import proofs.«01_k».proof.Proof.Gen.KvnReferenceIdeal.Run
public import proofs.«01_k».proof.Proof.Gen.KvnReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Kvn

open Cert.KvnKernelIdeal.Kvn (nRow nRows rowAt)

section
open Cert.KvnKernelIdeal Cert.KvnKernelIdeal.Kvn

/-- What the kernel leaves, on every device. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2) = nRows (nRow (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (arr2 m c), (h c).2⟩) (Value.run_blocks (F := Ideal) m g)

end

section
open Cert.KvnReferenceIdeal Cert.KvnReferenceIdeal.Read

variable (X : FVec Ideal S2x2048x1024 .f32) (G : FVec Ideal S1024 .f32)
  (b : Fin 2) (s : Fin 2048)

theorem rn_at : val_main_v7 (F := Ideal) X (ix3 b s 0) = Norm.rn (fun k => X (ix3 b s k)) := by
  unfold Norm.rn
  pointwise [val_main_v7, val_main_v6, val_main_v5, val_main_v4, val_main_v3, val_main_v2, val_main_v1, val_main_v0, val_main_cst, val_main_cst_0, val_main_cst_1]

theorem n_at (k : Fin 1024) : val_main_v12 (F := Ideal) X G (ix3 b s k) = nRow X G b s k := by
  unfold nRow
  pointwise [val_main_v12, val_main_v11, val_main_v10, val_main_v9, val_main_v8, rn_at]

theorem ref_n : val_main_v14 (F := Ideal) X G = nRows (nRow X G) :=
  funext fun i => by
    idx_vars i
    refine Eq.trans ?_ (Cert.KvnKernelIdeal.Kvn.rowAt_eq (nRow X G) i0.val i1 ⟨i0.val / 2048, by omega⟩ ⟨i0.val % 2048, by omega⟩ i1 (by show _ = i0.val / 2048 * 2048 + i0.val % 2048; omega) rfl).symm
    pointwise [val_main_v14, val_main_v13, n_at]

end

theorem algebraic : Cert.algebraic_KvnKernelIdeal_KvnReferenceIdeal := by
  pair_intro
  · run_from kernel_run m g
  · run_from Cert.KvnReferenceIdeal.Value.run (F := Ideal) m' g'
    exact (Cert.KvnReferenceIdeal.Read.val_main_v14_eq _ _).trans (ref_n _ _)

theorem frame_ref : Cert.quiescent_KvnReferenceIdeal := fun m g _ =>
  (θ_run Cert.KvnReferenceIdeal.defs _ _).mono (fun r h => ⟨fun c => (h c).2, sem_eq_zero_of_no_sems (by decide) r.2⟩)
    (Cert.KvnReferenceIdeal.Value.run (F := Ideal) m g)

theorem claims : Cert.quiescent_KvnKernel ∧ Cert.quiescent_KvnKernelIdeal ∧ Cert.quiescent_KvnReferenceIdeal
    ∧ Cert.preserves_KvnKernel_KvnKernelIdeal ∧ Cert.algebraic_KvnKernelIdeal_KvnReferenceIdeal :=
  ⟨fun m g _ => Cert.KvnKernel.Gen.frame m g, fun m g _ => Cert.KvnKernelIdeal.Gen.frame m g, frame_ref, trivial, algebraic⟩

end Cert.Proof.Kvn

end
end
-- ==== Proof.CpreBlock.lean ====
/- What one block of the input product's gradient computes. -/
module

public import proofs.«01_k».proof.Proof.NormGain
public import proofs.«01_k».proof.Proof.Gen.CpreKernelIdeal.Frame

@[expose] public section

set_option maxRecDepth 16384

noncomputable section

open Idealize.ShloMosaic Idealize.ShloMosaic.TcCoe Idealize.SL.Sem
open Idealize.ShloMosaic.Pipeline (Dat)
open scoped BigOperators

namespace Cert.CpreKernelIdeal.Cpre

open Cert.CpreKernelIdeal Cert.CpreKernelIdeal.Gen
open Cert.Norm (dgRows dgRows_at dgRows_block)

/-- The gradient before the product of one row, summed over the four parts of the columns. -/
abbrev parts (y : Fin 3072 → EReal) (w : Fin 4 → Fin 768 → EReal) : EReal := ∑ p : Fin 4, ∑ j : Fin 768, y ⟨p.val * 768 + j.val, by omega⟩ * w p j

theorem ldY (x : Vec Ideal S512x3072 .bf16) (o : ℕ) (inb) (s : Fin 512) (j : Fin 768) (l : Fin 3072) (h : l.val = o + j.val) :
    View.ld x (Rect.unit (s := S512x3072) ![0, o] S512x768.size inb) (ix2 s j) = x (ix2 s l) :=
  View.ld_unit_apply_of _ _ _ _ _ _ (Fin.forall_fin_two.2 ⟨(Nat.zero_add _).symm, h⟩)

theorem ldW (x : Vec Ideal S4x1024x768 .bf16) (o : ℕ) (inb) (k : Fin 1024) (j : Fin 768) (p : Fin 4) (h : p.val = o) :
    View.ld x (Rect.unit (s := S4x1024x768) ![o, 0, 0] S1x1024x768.size inb) (ix3 0 k j) = x (ix3 p k j) :=
  View.ld_unit_apply_of _ _ _ _ _ _ fun a => by
    match a with
    | 0 => exact h
    | 1 => exact (Nat.zero_add _).symm
    | 2 => exact (Nat.zero_add _).symm

theorem pay8_at (x0 : Vec Ideal S512x3072 .bf16) (x1 : Vec Ideal S4x1024x768 .bf16) (x2 x3 : Vec Ideal S512x1024 .f32) (x4 : Vec Ideal S1x1024 .f32) (s : Fin 512) (k : Fin 1024) :
    k0_pay8 (F := Ideal) x0 x1 x2 x3 x4 (ix2 s k) = parts (fun j => x0 (ix2 s j)) (fun p j => x1 (ix3 p k j)) := by
  unfold k0_pay8 parts
  rw [Fin.sum_univ_four]
  have y0 : ∀ j : Fin 768, View.ld x0 r0_0 (ix2 s j) = x0 (ix2 s ⟨(0 : Fin 4).val * 768 + j.val, by omega⟩) := fun j => ldY _ _ _ _ _ _ (by simp)
  have y1 : ∀ j : Fin 768, View.ld x0 r0_2 (ix2 s j) = x0 (ix2 s ⟨(1 : Fin 4).val * 768 + j.val, by omega⟩) := fun j => ldY _ _ _ _ _ _ (by simp)
  have y2 : ∀ j : Fin 768, View.ld x0 r0_4 (ix2 s j) = x0 (ix2 s ⟨(2 : Fin 4).val * 768 + j.val, by omega⟩) := fun j => ldY _ _ _ _ _ _ (by simp)
  have y3 : ∀ j : Fin 768, View.ld x0 r0_6 (ix2 s j) = x0 (ix2 s ⟨(3 : Fin 4).val * 768 + j.val, by omega⟩) := fun j => ldY _ _ _ _ _ _ (by simp)
  have w0 : ∀ j : Fin 768, View.ld x1 r0_1 (ix3 0 k j) = x1 (ix3 0 k j) := fun j => ldW _ _ _ _ _ _ rfl
  have w1 : ∀ j : Fin 768, View.ld x1 r0_3 (ix3 0 k j) = x1 (ix3 1 k j) := fun j => ldW _ _ _ _ _ _ rfl
  have w2 : ∀ j : Fin 768, View.ld x1 r0_5 (ix3 0 k j) = x1 (ix3 2 k j) := fun j => ldW _ _ _ _ _ _ rfl
  have w3 : ∀ j : Fin 768, View.ld x1 r0_7 (ix3 0 k j) = x1 (ix3 3 k j) := fun j => ldW _ _ _ _ _ _ rfl
  simp only [← y0, ← y1, ← y2, ← y3, ← w0, ← w1, ← w2, ← w3]
  generalize View.ld x0 r0_0 = a0
  generalize View.ld x0 r0_2 = a1
  generalize View.ld x0 r0_4 = a2
  generalize View.ld x0 r0_6 = a3
  generalize View.ld x1 r0_1 = b0
  generalize View.ld x1 r0_3 = b1
  generalize View.ld x1 r0_5 = b2
  generalize View.ld x1 r0_7 = b3
  pointwise [k0_pay5]

theorem pay4_at (d x : Vec Ideal S512x1024 .f32) (g : Vec Ideal S1x1024 .f32) (y : Vec Ideal S512x1024 .f32) (s : Fin 512) (k : Fin 1024) :
    k0_pay4 (F := Ideal) d (k0_pay6 x) (k0_pay7 x) (Scalar.ofBits .f32 0x358637BD#32) g y (ix2 s k)
      = y (ix2 s k) + Norm.kform (fun j => x (ix2 s j)) (fun j => d (ix2 s j) * g (ix2 0 j)) k := by
  unfold Norm.kform Norm.rn
  pointwise [k0_pay4, k0_pay2, k0_pay1, k0_pay6, k0_pay7]

theorem pay3_at (d x : Vec Ideal S512x1024 .f32) (a : Fin 8) (k : Fin 1024) :
    k0_pay3 (F := Ideal) d (k0_pay6 x) (k0_pay7 x) (Scalar.ofBits .f32 0x358637BD#32) (ix2 a k)
      = if a.val = 0 then ∑ s : Fin 512, d (ix2 s k) * (x (ix2 s k) * Norm.rn fun j => x (ix2 s j)) else 0 := by
  unfold Norm.rn
  pointwise [k0_pay3, k0_pay2, k0_pay1, k0_pay6, k0_pay7]
  word_cmp

variable (m : (ℓ : Loc nD τ sig) → Buf (Elt Ideal) ℓ)

abbrev aY (c : Dev nD) : FVec Ideal S2x2048x3072 .bf16 := m ((c : Thread nD τ).loc main_arg0)
abbrev aW (c : Dev nD) : FVec Ideal S1024x3072 .bf16 := m ((c : Thread nD τ).loc main_arg1)
abbrev aR (c : Dev nD) : FVec Ideal S2x2048x1024 .f32 := m ((c : Thread nD τ).loc main_arg2)
abbrev aX (c : Dev nD) : FVec Ideal S2x2048x1024 .f32 := m ((c : Thread nD τ).loc main_arg3)
abbrev aG (c : Dev nD) : FVec Ideal S1024 .f32 := m ((c : Thread nD τ).loc main_arg4)

/-- The arguments as the kernel reads them: rows of the two sequences, and the columns of the weights in four parts. -/
abbrev yFlat (Y : FVec Ideal S2x2048x3072 .bf16) : FVec Ideal S4096x3072 .bf16 := shapeCast S4096x3072 Y
abbrev wParts (W : FVec Ideal S1024x3072 .bf16) : FVec Ideal S4x1024x768 .bf16 :=
  transpose S4x1024x768 [1, 0, 2] (shapeCast S1024x4x768 W : FVec Ideal S1024x4x768 .bf16) transposes_S1024x4x768_S4x1024x768_1_0_2
abbrev xFlat (X : FVec Ideal S2x2048x1024 .f32) : FVec Ideal S4096x1024 .f32 := shapeCast S4096x1024 X
abbrev gFlat (G : FVec Ideal S1024 .f32) : FVec Ideal S1x1024 .f32 := shapeCast S1x1024 G

theorem V_y (c : Dev nD) : (V m c main_v2 : FVec Ideal S4096x3072 .bf16) = yFlat (aY m c) := by
  unfold V V0; simp only [hostOps0, List.flatten_cons, List.flatten_nil, List.append_nil, List.cons_append, List.nil_append]; after_results; try rfl
theorem V_w (c : Dev nD) : (V m c main_v1 : FVec Ideal S4x1024x768 .bf16) = wParts (aW m c) := by
  unfold V V0; simp only [hostOps0, List.flatten_cons, List.flatten_nil, List.append_nil, List.cons_append, List.nil_append]; after_results; try rfl
theorem V_r (c : Dev nD) : (V m c main_v3 : FVec Ideal S4096x1024 .f32) = xFlat (aR m c) := by
  unfold V V0; simp only [hostOps0, List.flatten_cons, List.flatten_nil, List.append_nil, List.cons_append, List.nil_append]; after_results; try rfl
theorem V_x (c : Dev nD) : (V m c main_v4 : FVec Ideal S4096x1024 .f32) = xFlat (aX m c) := by
  unfold V V0; simp only [hostOps0, List.flatten_cons, List.flatten_nil, List.append_nil, List.cons_append, List.nil_append]; after_results; try rfl
theorem V_g (c : Dev nD) : (V m c main_v5 : FVec Ideal S1x1024 .f32) = gFlat (aG m c) := by
  unfold V V0; simp only [hostOps0, List.flatten_cons, List.flatten_nil, List.append_nil, List.cons_append, List.nil_append]; after_results; try rfl

theorem idx_val : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![t.val, 0] := (by decide +kernel : ∀ t : Fin grid0.N, _)

section
variable (c : Dev nD) (t : Fin cfg0.N) (s : Fin 512) (i : Fin 4096) (hi : i.val = t.val * 512 + s.val)
include hi

theorem blk0 (X : FVec Ideal S4096x3072 .bf16) (l : Fin 3072) : (show FVec Ideal S512x3072 .bf16 from ((cfg0.win 0).blk t).view.read (Elt Ideal) X) (ix2 s l) = X (ix2 i l) := by
  blk_simp [idx_val t]; blk_ext [idx_val t]
theorem blk2 (X : FVec Ideal S4096x1024 .f32) (l : Fin 1024) : (show FVec Ideal S512x1024 .f32 from ((cfg0.win 2).blk t).view.read (Elt Ideal) X) (ix2 s l) = X (ix2 i l) := by
  blk_simp [idx_val t]; blk_ext [idx_val t]
theorem blk3 (X : FVec Ideal S4096x1024 .f32) (l : Fin 1024) : (show FVec Ideal S512x1024 .f32 from ((cfg0.win 3).blk t).view.read (Elt Ideal) X) (ix2 s l) = X (ix2 i l) := by
  blk_simp [idx_val t]; blk_ext [idx_val t]
end

theorem blk1 (t : Fin cfg0.N) (X : FVec Ideal S4x1024x768 .bf16) : (show FVec Ideal S4x1024x768 .bf16 from ((cfg0.win 1).blk t).view.read (Elt Ideal) X) = X := by
  funext y
  idx_vars y
  blk_simp [idx_val t]; blk_ext [idx_val t]
theorem blk4 (t : Fin cfg0.N) (X : FVec Ideal S1x1024 .f32) : (show FVec Ideal S1x1024 .f32 from ((cfg0.win 4).blk t).view.read (Elt Ideal) X) = X := by
  funext y
  idx_vars y
  blk_simp [idx_val t]; blk_ext [idx_val t]

/-- The gradient before the product, all rows. -/
def dnRows (Y : FVec Ideal S4096x3072 .bf16) (W : FVec Ideal S4x1024x768 .bf16) : FVec Ideal S4096x1024 .f32 := fun i =>
  parts (fun j => Y (ix2 (i 0) j)) (fun p j => W (ix3 p (i 1) j))

/-- The norm's gradient added to the residual's. -/
def dxRows (Y : FVec Ideal S4096x3072 .bf16) (W : FVec Ideal S4x1024x768 .bf16) (R X : FVec Ideal S4096x1024 .f32) (G : FVec Ideal S1x1024 .f32) : FVec Ideal S4096x1024 .f32 := fun i =>
  R (ix2 (i 0) (i 1)) + Norm.kform (fun j => X (ix2 (i 0) j)) (fun j => dnRows Y W (ix2 (i 0) j) * G (ix2 0 j)) (i 1)

section
variable (c : Dev nD) (Y : FVec Ideal S4096x3072 .bf16) (W : FVec Ideal S4x1024x768 .bf16) (R X : FVec Ideal S4096x1024 .f32) (G : FVec Ideal S1x1024 .f32)
  (hY : (V m c main_v2 : FVec Ideal S4096x3072 .bf16) = Y) (hW : (V m c main_v1 : FVec Ideal S4x1024x768 .bf16) = W) (hR : (V m c main_v3 : FVec Ideal S4096x1024 .f32) = R)
  (hX : (V m c main_v4 : FVec Ideal S4096x1024 .f32) = X) (hG : (V m c main_v5 : FVec Ideal S1x1024 .f32) = G)

include hX in
theorem rd3 (t : Fin cfg0.N) (s : Fin 512) (l : Fin 1024) (i : Fin 4096) (hi : i.val = t.val * 512 + s.val) :
    (show FVec Ideal S512x1024 .f32 from iblk m c 3 t) (ix2 s l) = X (ix2 i l) :=
  (blk3 t s i hi (V m c main_v4) l).trans (congrFun hX _)

include hR in
theorem rd2 (t : Fin cfg0.N) (s : Fin 512) (l : Fin 1024) (i : Fin 4096) (hi : i.val = t.val * 512 + s.val) :
    (show FVec Ideal S512x1024 .f32 from iblk m c 2 t) (ix2 s l) = R (ix2 i l) :=
  (blk2 t s i hi (V m c main_v3) l).trans (congrFun hR _)

include hY in
theorem rd0 (t : Fin cfg0.N) (s : Fin 512) (l : Fin 3072) (i : Fin 4096) (hi : i.val = t.val * 512 + s.val) :
    (show FVec Ideal S512x3072 .bf16 from iblk m c 0 t) (ix2 s l) = Y (ix2 i l) :=
  (blk0 t s i hi (V m c main_v2) l).trans (congrFun hY _)

include hW in
theorem rd1 (t : Fin cfg0.N) (p : Fin 4) (k : Fin 1024) (l : Fin 768) : (show FVec Ideal S4x1024x768 .bf16 from iblk m c 1 t) (ix3 p k l) = W (ix3 p k l) :=
  (congrFun (blk1 t (V m c main_v1)) _).trans (congrFun hW _)

include hG in
theorem rd4 (t : Fin cfg0.N) (l : Fin 1024) : (show FVec Ideal S1x1024 .f32 from iblk m c 4 t) (ix2 0 l) = G (ix2 0 l) :=
  (congrFun (blk4 t (V m c main_v5)) _).trans (congrFun hG _)

include hY hW in
theorem pay8_rows (t : Fin cfg0.N) (s : Fin 512) (k : Fin 1024) (i : Fin 4096) (hi : i.val = t.val * 512 + s.val) :
    k0_pay8 (F := Ideal) (iblk m c 0 t) (iblk m c 1 t) (iblk m c 2 t) (iblk m c 3 t) (iblk m c 4 t) (ix2 s k) = dnRows Y W (ix2 i k) := by
  refine (pay8_at _ _ _ _ _ s k).trans ?_
  exact Finset.sum_congr rfl fun p _ => Finset.sum_congr rfl fun j _ => congrArg₂ (· * ·) (rd0 m c Y hY t s _ i hi) (rd1 m c W hW t p k j)

include hY hW hR hX hG in
theorem arr5 : (dats m 0 c).arrAt 5 (cfgs 0).N = dxRows Y W R X G := by
  refine (dats m 0 c).arrAt_eq_of_covers 5 _ (by decide +kernel) fun t _ y => ?_
  blk_simp
  rw [after0_5]
  have key : ∀ y : S512x1024.Idx, out0_5 (F := Ideal) (iblk m c 0 t) (iblk m c 1 t) (iblk m c 2 t) (iblk m c 3 t) (iblk m c 4 t) y
      = dxRows Y W R X G (((View.whole main_v6_0).slice (win0_5.rect t)).emb y) := by
    intro y
    idx_vars y
    have ht : t.val < 8 := t.2
    have h0 : ((((View.whole main_v6_0).slice (win0_5.rect t)).emb (ix2 y0 y1)) 0) = (⟨t.val * 512 + y0.val, by omega⟩ : Fin 4096) := Fin.ext (by blk_simp [idx_val t])
    have h1 : ((((View.whole main_v6_0).slice (win0_5.rect t)).emb (ix2 y0 y1)) 1) = y1 := Fin.ext (by blk_simp [idx_val t])
    unfold dxRows
    rw [h1, h0]
    unfold out0_5 k0_pay9 k0_pay10
    rw [View.ld_unit_lit _ _ (by decide), View.ld_unit_lit _ _ (by decide), View.ld_unit_lit _ _ (by decide)]
    generalize hD : k0_pay8 (F := Ideal) (iblk m c 0 t) (iblk m c 1 t) (iblk m c 2 t) (iblk m c 3 t) (iblk m c 4 t) = D
    frame_out
    refine (pay4_at D _ _ _ y0 y1).trans ?_
    refine congrArg₂ (· + ·) (rd2 m c R hR t y0 y1 _ rfl) ?_
    congr 1
    · funext j; exact rd3 m c X hX t y0 j _ rfl
    · funext j; exact congrArg₂ (· * ·) ((congrFun hD _).symm.trans (pay8_rows m c Y W hY hW t y0 j _ rfl)) (rd4 m c G hG t j)
  exact key y

include hY hW hX in
theorem arr6 : (dats m 0 c).arrAt 6 (cfgs 0).N = dgRows X (dnRows Y W) := by
  refine (dats m 0 c).arrAt_eq_of_covers 6 _ (by decide +kernel) fun t _ y => ?_
  blk_simp
  rw [after0_6]
  have key : ∀ y : S8x1024.Idx, out0_6 (F := Ideal) (iblk m c 0 t) (iblk m c 1 t) (iblk m c 2 t) (iblk m c 3 t) (iblk m c 4 t) y
      = dgRows X (dnRows Y W) (((View.whole main_v6_1).slice (win0_6.rect t)).emb y) := by
    intro y
    idx_vars y
    have ht : t.val < 8 := t.2
    have hy : y0.val < 8 := y0.2
    rw [dgRows_at X (dnRows Y W) _ ⟨t.val, ht⟩ y0 y1 (by blk_simp [idx_val t]) (by blk_simp [idx_val t])]
    unfold out0_6 k0_pay9 k0_pay10
    rw [View.ld_unit_lit _ _ (by decide)]
    generalize hD : k0_pay8 (F := Ideal) (iblk m c 0 t) (iblk m c 1 t) (iblk m c 2 t) (iblk m c 3 t) (iblk m c 4 t) = D
    frame_out
    refine (pay3_at D _ y0 y1).trans ?_
    exact if_congr Iff.rfl (dgRows_block X (dnRows Y W) ⟨t.val, ht⟩ y1 (fun s j => (show FVec Ideal S512x1024 .f32 from iblk m c 3 t) (ix2 s j)) (fun s j => D (ix2 s j))
      (fun s j => rd3 m c X hX t s j _ rfl) (fun s => (congrFun hD _).symm.trans (pay8_rows m c Y W hY hW t s y1 _ rfl))) rfl
  exact key y
end

end Cert.CpreKernelIdeal.Cpre

end
end
-- ==== Proof.CpreRef.lean ====
/- What differentiating the norm and the input product gives. -/
module

public import proofs.«01_k».proof.Proof.NormMath
public import proofs.«01_k».proof.Proof.Sums
public import proofs.«01_k».proof.Proof.Gen.CpreReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.CpreReferenceIdeal.Cpre

open Cert.CpreReferenceIdeal Cert.CpreReferenceIdeal.Read

variable (Y : FVec Ideal S2x2048x3072 .bf16) (W : FVec Ideal S1024x3072 .bf16) (R X : FVec Ideal S2x2048x1024 .f32) (G : FVec Ideal S1024 .f32)
  (b : Fin 2) (s : Fin 2048)

/-- The row, the gradient before the product, and that after the gain. -/
abbrev xRow : Fin 1024 → EReal := fun j => X (ix3 b s j)
abbrev nRow : Fin 1024 → EReal := fun k => ∑ j : Fin 3072, Y (ix3 b s j) * W (ix2 k j)
abbrev dRow : Fin 1024 → EReal := fun k => nRow Y W b s k * G (ix1 k)

theorem v8_at : val_main_v8 (F := Ideal) X (ix3 b s 0) = Norm.rn (xRow X b s) := by
  unfold Norm.rn
  pointwise [val_main_v8, val_main_v7, val_main_v6, val_main_v5, val_main_v4, val_main_v3, val_main_v2, val_main_v1, val_main_cst, val_main_cst_0, val_main_cst_1]

theorem v19_at (k : Fin 1024) : val_main_v19 (F := Ideal) Y W (ix3 b s k) = nRow Y W b s k := by
  pointwise [val_main_v19, val_main_v18, val_main_v0]

theorem v24_at (k : Fin 1024) : val_main_v24 (F := Ideal) Y W G (ix3 b s k) = dRow Y W G b s k := by
  pointwise [val_main_v24, v19_at, val_main_v23, val_main_v14]

theorem v35_at : val_main_v35 (F := Ideal) Y W X G (ix2 b s) = Norm.zform (xRow X b s) (dRow Y W G b s) := by
  unfold Norm.zform
  pointwise [val_main_v35, val_main_v34, val_main_v33, val_main_v32, val_main_v28, val_main_v27, val_main_v26, v24_at, val_main_v11, val_main_v10, val_main_v9, v8_at,
    val_main_v7, val_main_v6, val_main_v5, val_main_v4, val_main_v3, val_main_v2, val_main_v1, val_main_cst, val_main_cst_0, val_main_cst_1, val_main_cst_2, val_main_cst_5, val_main_cst_6, val_main_cst_7]
  rw [Fin.sum_univ_one, v8_at]

theorem v40_at (k : Fin 1024) : val_main_v40 (F := Ideal) Y W R X G (ix3 b s k) = R (ix3 b s k) + Norm.kform (xRow X b s) (dRow Y W G b s) k := by
  rw [Norm.kform_eq]
  pointwise [val_main_v40, val_main_v39, val_main_v38, val_main_v37, val_main_v36, val_main_v31, val_main_v30, val_main_v29, v35_at, v24_at, v8_at]
  rw [add_assoc, add_assoc, add_assoc]

theorem v25_at (k : Fin 1024) : val_main_v25 (F := Ideal) Y W X (ix1 k) = ∑ b : Fin 2, ∑ s : Fin 2048, (X (ix3 b s k) * Norm.rn (xRow X b s)) * nRow Y W b s k := by
  have e : val_main_v22 (F := Ideal) Y W X (ix3 0 0 k) = ∑ b : Fin 2, ∑ s : Fin 2048, (X (ix3 b s k) * Norm.rn (xRow X b s)) * nRow Y W b s k := by
    pointwise [val_main_v22]
    show Ideal.hostReduceAdd _ _ _ _ = _
    rw [Cert.Sums.hostSum01]
    pointwise [val_main_v20, val_main_v13, val_main_v12, v8_at, v19_at, val_main_cst_3]
  show Ideal.hostReduceAdd _ _ _ _ = _
  rw [Cert.Sums.hostSum01]
  rw [Fin.sum_univ_one, Fin.sum_univ_one, e]
  pointwise [val_main_cst_4]

end Cert.CpreReferenceIdeal.Cpre

end
end
-- ==== Proof.CpreClaim.lean ====
/- The claims about the input product's gradient. -/
module

public import proofs.«01_k».proof.Defs
public import proofs.«01_k».proof.Proof.CpreBlock
public import proofs.«01_k».proof.Proof.CpreRef
public import proofs.«01_k».proof.Proof.Gen.CpreKernel.Frame
public import proofs.«01_k».proof.Proof.Gen.CpreReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Cpre

open Cert.CpreKernelIdeal.Cpre (dxRows dnRows parts yFlat wParts xFlat gFlat)
open Cert.Norm (dgRows)

section
open Cert.CpreKernelIdeal Cert.CpreKernelIdeal.Gen Cert.CpreKernelIdeal.Cpre

variable (m : (ℓ : Loc nD τ sig) → Buf (Elt Ideal) ℓ)

/-- The gain's gradient: the partial sums of all blocks added up. -/
def dgSum (D : FVec Ideal S64x1024 .f32) : FVec Ideal S1x1024 .f32 :=
  broadcastInDim S1x1024 ![1] bcast_S1024_S1x1024_1 (Host.reduceAdd D (constant S_ .f32 0x00000000#32 : FVec Ideal S_ .f32) reducesTo_S64x1024_S1024_d0 h_S_)

theorem tail_dg (c : Dev nD) (D : FVec Ideal S64x1024 .f32) (hD : (dats m 0 c).arrAt 6 (cfgs 0).N = D) :
    (Pipeline.afterTail₀ cfgs (dats m) 0 (V0 m) [hostOps1] c main_v8 : FVec Ideal S1x1024 .f32) = dgSum D := by
  unfold Pipeline.afterTail₀
  simp only [hostOps1, List.flatten_cons, List.flatten_nil, List.append_nil]
  after_results
  refine congrArg dgSum (Eq.trans ?_ hD)
  exact Pipeline.withArrays_arr spec0 launch0.win.arr_inj c (V0 m c) (fun w => (dats m 0 c).arrAt w (cfgs 0).N) 6

/-- What the kernel leaves, on every device. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v6_0) = dxRows (yFlat (m ((c.tc : Thread nD τ).loc main_arg0))) (wParts (m ((c.tc : Thread nD τ).loc main_arg1))) (xFlat (m ((c.tc : Thread nD τ).loc main_arg2))) (xFlat (m ((c.tc : Thread nD τ).loc main_arg3))) (gFlat (m ((c.tc : Thread nD τ).loc main_arg4)))
      ∧ r.2.mem ((c.tc : Thread nD τ).loc main_v8) = dgSum (dgRows (xFlat (m ((c.tc : Thread nD τ).loc main_arg3))) (dnRows (yFlat (m ((c.tc : Thread nD τ).loc main_arg0))) (wParts (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h.1 c).1 5).trans (arr5 m c _ _ _ _ _ (V_y m c) (V_w m c) (V_r m c) (V_x m c) (V_g m c)),
       ((h.1 c).2 main_v8 (Pipeline.mem_restRefs_of main_v8 (by decide) (by decide))).trans (tail_dg m c _ (arr6 m c _ _ _ (V_y m c) (V_w m c) (V_x m c))), h.2 c⟩)
    (θ_run_and (run_main m g) (unchanged m g))

end

section
open Cert.CpreReferenceIdeal Cert.CpreReferenceIdeal.Cpre Cert.CpreReferenceIdeal.Read

variable (Y : FVec Ideal S2x2048x3072 .bf16) (W : FVec Ideal S1024x3072 .bf16) (R X : FVec Ideal S2x2048x1024 .f32) (G : FVec Ideal S1024 .f32)

theorem x_at (X : FVec Ideal S2x2048x1024 .f32) (i : Fin 4096) (k : Fin 1024) (b : Fin 2) (s : Fin 2048) (hi : i.val = b.val * 2048 + s.val) : xFlat X (ix2 i k) = X (ix3 b s k) := by
  pointwise; blk_ext

/-- The four parts of the columns together. -/
theorem dn_at (i : Fin 4096) (k : Fin 1024) (b : Fin 2) (s : Fin 2048) (hi : i.val = b.val * 2048 + s.val) :
    dnRows (yFlat Y) (wParts W) (ix2 i k) = nRow Y W b s k := by
  let f : ℕ → EReal := fun j => if h : j < 3072 then Y (ix3 b s ⟨j, h⟩) * W (ix2 k ⟨j, h⟩) else 0
  have e : nRow Y W b s k = ∑ j : Fin (4 * 768), f j := Finset.sum_congr rfl fun j _ => by
    have hj : j.val < 3072 := j.2
    show _ = dite (j.val < 3072) _ _
    rw [dif_pos hj]
  rw [e, Norm.sum_runs 4 768 f]
  refine Finset.sum_congr rfl fun p _ => Finset.sum_congr rfl fun j _ => ?_
  have hb : p.val * 768 + j.val < 3072 := by omega
  show _ = dite (p.val * 768 + j.val < 3072) _ _
  rw [dif_pos hb]
  refine congrArg₂ (· * ·) ?_ ?_
  · show yFlat Y (ix2 i ⟨p.val * 768 + j.val, _⟩) = _
    pointwise; blk_ext
  · show wParts W (ix3 p k j) = _
    pointwise; blk_ext

theorem ref_dx : val_main_v41 (F := Ideal) Y W R X G = dxRows (yFlat Y) (wParts W) (xFlat R) (xFlat X) (gFlat G) :=
  funext fun i => by
    idx_vars i
    have hi : i0.val = (⟨i0.val / 2048, by omega⟩ : Fin 2).val * 2048 + (⟨i0.val % 2048, by omega⟩ : Fin 2048).val := by
      show i0.val = i0.val / 2048 * 2048 + i0.val % 2048; omega
    have eg : ∀ j : Fin 1024, gFlat G (ix2 0 j) = G (ix1 j) := fun j => by pointwise
    show _ = xFlat R (ix2 i0 i1) + Norm.kform (fun j => xFlat X (ix2 i0 j)) (fun j => dnRows (yFlat Y) (wParts W) (ix2 i0 j) * gFlat G (ix2 0 j)) i1
    simp only [x_at _ i0 _ _ _ hi, dn_at Y W i0 _ _ _ hi, eg]
    rw [← v40_at]
    pointwise [val_main_v41]
    blk_ext

theorem ref_dg : val_main_v42 (F := Ideal) Y W X = dgSum (dgRows (xFlat X) (dnRows (yFlat Y) (wParts W))) :=
  funext fun i => by
    idx_vars i
    have el : val_main_v42 (F := Ideal) Y W X (ix2 i0 i1) = val_main_v25 (F := Ideal) Y W X (ix1 i1) := by
      pointwise [val_main_v42]
    have er : dgSum (dgRows (xFlat X) (dnRows (yFlat Y) (wParts W))) (ix2 i0 i1) = ∑ a : Fin 64, dgRows (xFlat X) (dnRows (yFlat Y) (wParts W)) (ix2 a i1) := by
      pointwise [dgSum]
    rw [el, v25_at, er, Norm.dgRows_sum]
    refine Finset.sum_congr rfl fun b _ => Finset.sum_congr rfl fun s _ => ?_
    rw [dn_at Y W _ _ b s rfl]
    simp only [x_at X (⟨b.val * 2048 + s.val, by omega⟩ : Fin 4096) _ b s rfl]
    exact mul_comm _ _

end

theorem algebraic : Cert.algebraic_CpreKernelIdeal_CpreReferenceIdeal := by
  pair_intro
  · run_from kernel_run m g
  · run_from Cert.CpreReferenceIdeal.Value.run (F := Ideal) m' g'
    · refine (Cert.CpreReferenceIdeal.Read.val_main_v41_eq _ _).trans ?_
      rw [ref_dx, (hagree c).1, (hagree c).2.1, (hagree c).2.2.1, (hagree c).2.2.2.1, (hagree c).2.2.2.2]
    · refine (Cert.CpreReferenceIdeal.Read.val_main_v42_eq _ _ _).trans ?_
      exact ref_dg _ _ _

theorem frame_ref : Cert.quiescent_CpreReferenceIdeal := fun m g _ =>
  (θ_run Cert.CpreReferenceIdeal.defs _ _).mono (fun r h => ⟨fun c => (h c).2.2, sem_eq_zero_of_no_sems (by decide) r.2⟩)
    (Cert.CpreReferenceIdeal.Value.run (F := Ideal) m g)

theorem claims : Cert.quiescent_CpreKernel ∧ Cert.quiescent_CpreKernelIdeal ∧ Cert.quiescent_CpreReferenceIdeal
    ∧ Cert.preserves_CpreKernel_CpreKernelIdeal ∧ Cert.algebraic_CpreKernelIdeal_CpreReferenceIdeal :=
  ⟨fun m g _ => Cert.CpreKernel.Gen.frame m g, fun m g _ => Cert.CpreKernelIdeal.Gen.frame m g, frame_ref, trivial, algebraic⟩

end Cert.Proof.Cpre

end
end
-- ==== Proof.QpreBlock.lean ====
/- What one block of the input product's gradient computes. -/
module

public import proofs.«01_k».proof.Proof.NormGain
public import proofs.«01_k».proof.Proof.Gen.QpreKernelIdeal.Frame

@[expose] public section

set_option maxRecDepth 16384

noncomputable section

open Idealize.ShloMosaic Idealize.ShloMosaic.TcCoe Idealize.SL.Sem
open Idealize.ShloMosaic.Pipeline (Dat)
open scoped BigOperators

namespace Cert.QpreKernelIdeal.Qpre

open Cert.QpreKernelIdeal Cert.QpreKernelIdeal.Gen
open Cert.Norm (dgRows dgRows_at dgRows_block)

/-- The gradient before the product of one row, summed over the four parts of the columns. -/
abbrev parts (y : Fin 2048 → EReal) (w : Fin 4 → Fin 512 → EReal) : EReal := ∑ p : Fin 4, ∑ j : Fin 512, y ⟨p.val * 512 + j.val, by omega⟩ * w p j

theorem ldY (x : Vec Ideal S512x2048 .bf16) (o : ℕ) (inb) (s : Fin 512) (j : Fin 512) (l : Fin 2048) (h : l.val = o + j.val) :
    View.ld x (Rect.unit (s := S512x2048) ![0, o] S512x512.size inb) (ix2 s j) = x (ix2 s l) :=
  View.ld_unit_apply_of _ _ _ _ _ _ (Fin.forall_fin_two.2 ⟨(Nat.zero_add _).symm, h⟩)

theorem ldW (x : Vec Ideal S4x1024x512 .bf16) (o : ℕ) (inb) (k : Fin 1024) (j : Fin 512) (p : Fin 4) (h : p.val = o) :
    View.ld x (Rect.unit (s := S4x1024x512) ![o, 0, 0] S1x1024x512.size inb) (ix3 0 k j) = x (ix3 p k j) :=
  View.ld_unit_apply_of _ _ _ _ _ _ fun a => by
    match a with
    | 0 => exact h
    | 1 => exact (Nat.zero_add _).symm
    | 2 => exact (Nat.zero_add _).symm

theorem pay8_at (x0 : Vec Ideal S512x2048 .bf16) (x1 : Vec Ideal S4x1024x512 .bf16) (x2 x3 : Vec Ideal S512x1024 .f32) (x4 : Vec Ideal S1x1024 .f32) (s : Fin 512) (k : Fin 1024) :
    k0_pay8 (F := Ideal) x0 x1 x2 x3 x4 (ix2 s k) = parts (fun j => x0 (ix2 s j)) (fun p j => x1 (ix3 p k j)) := by
  unfold k0_pay8 parts
  rw [Fin.sum_univ_four]
  have y0 : ∀ j : Fin 512, View.ld x0 r0_0 (ix2 s j) = x0 (ix2 s ⟨(0 : Fin 4).val * 512 + j.val, by omega⟩) := fun j => ldY _ _ _ _ _ _ (by simp)
  have y1 : ∀ j : Fin 512, View.ld x0 r0_2 (ix2 s j) = x0 (ix2 s ⟨(1 : Fin 4).val * 512 + j.val, by omega⟩) := fun j => ldY _ _ _ _ _ _ (by simp)
  have y2 : ∀ j : Fin 512, View.ld x0 r0_4 (ix2 s j) = x0 (ix2 s ⟨(2 : Fin 4).val * 512 + j.val, by omega⟩) := fun j => ldY _ _ _ _ _ _ (by simp)
  have y3 : ∀ j : Fin 512, View.ld x0 r0_6 (ix2 s j) = x0 (ix2 s ⟨(3 : Fin 4).val * 512 + j.val, by omega⟩) := fun j => ldY _ _ _ _ _ _ (by simp)
  have w0 : ∀ j : Fin 512, View.ld x1 r0_1 (ix3 0 k j) = x1 (ix3 0 k j) := fun j => ldW _ _ _ _ _ _ rfl
  have w1 : ∀ j : Fin 512, View.ld x1 r0_3 (ix3 0 k j) = x1 (ix3 1 k j) := fun j => ldW _ _ _ _ _ _ rfl
  have w2 : ∀ j : Fin 512, View.ld x1 r0_5 (ix3 0 k j) = x1 (ix3 2 k j) := fun j => ldW _ _ _ _ _ _ rfl
  have w3 : ∀ j : Fin 512, View.ld x1 r0_7 (ix3 0 k j) = x1 (ix3 3 k j) := fun j => ldW _ _ _ _ _ _ rfl
  simp only [← y0, ← y1, ← y2, ← y3, ← w0, ← w1, ← w2, ← w3]
  generalize View.ld x0 r0_0 = a0
  generalize View.ld x0 r0_2 = a1
  generalize View.ld x0 r0_4 = a2
  generalize View.ld x0 r0_6 = a3
  generalize View.ld x1 r0_1 = b0
  generalize View.ld x1 r0_3 = b1
  generalize View.ld x1 r0_5 = b2
  generalize View.ld x1 r0_7 = b3
  pointwise [k0_pay5]

theorem pay4_at (d x : Vec Ideal S512x1024 .f32) (g : Vec Ideal S1x1024 .f32) (y : Vec Ideal S512x1024 .f32) (s : Fin 512) (k : Fin 1024) :
    k0_pay4 (F := Ideal) d (k0_pay6 x) (k0_pay7 x) (Scalar.ofBits .f32 0x358637BD#32) g y (ix2 s k)
      = y (ix2 s k) + Norm.kform (fun j => x (ix2 s j)) (fun j => d (ix2 s j) * g (ix2 0 j)) k := by
  unfold Norm.kform Norm.rn
  pointwise [k0_pay4, k0_pay2, k0_pay1, k0_pay6, k0_pay7]

theorem pay3_at (d x : Vec Ideal S512x1024 .f32) (a : Fin 8) (k : Fin 1024) :
    k0_pay3 (F := Ideal) d (k0_pay6 x) (k0_pay7 x) (Scalar.ofBits .f32 0x358637BD#32) (ix2 a k)
      = if a.val = 0 then ∑ s : Fin 512, d (ix2 s k) * (x (ix2 s k) * Norm.rn fun j => x (ix2 s j)) else 0 := by
  unfold Norm.rn
  pointwise [k0_pay3, k0_pay2, k0_pay1, k0_pay6, k0_pay7]
  word_cmp

variable (m : (ℓ : Loc nD τ sig) → Buf (Elt Ideal) ℓ)

abbrev aY (c : Dev nD) : FVec Ideal S2x2048x2048 .bf16 := m ((c : Thread nD τ).loc main_arg0)
abbrev aW (c : Dev nD) : FVec Ideal S1024x2048 .bf16 := m ((c : Thread nD τ).loc main_arg1)
abbrev aR (c : Dev nD) : FVec Ideal S2x2048x1024 .f32 := m ((c : Thread nD τ).loc main_arg2)
abbrev aX (c : Dev nD) : FVec Ideal S2x2048x1024 .f32 := m ((c : Thread nD τ).loc main_arg3)
abbrev aG (c : Dev nD) : FVec Ideal S1024 .f32 := m ((c : Thread nD τ).loc main_arg4)

/-- The arguments as the kernel reads them: rows of the two sequences, and the columns of the weights in four parts. -/
abbrev yFlat (Y : FVec Ideal S2x2048x2048 .bf16) : FVec Ideal S4096x2048 .bf16 := shapeCast S4096x2048 Y
abbrev wParts (W : FVec Ideal S1024x2048 .bf16) : FVec Ideal S4x1024x512 .bf16 :=
  transpose S4x1024x512 [1, 0, 2] (shapeCast S1024x4x512 W : FVec Ideal S1024x4x512 .bf16) transposes_S1024x4x512_S4x1024x512_1_0_2
abbrev xFlat (X : FVec Ideal S2x2048x1024 .f32) : FVec Ideal S4096x1024 .f32 := shapeCast S4096x1024 X
abbrev gFlat (G : FVec Ideal S1024 .f32) : FVec Ideal S1x1024 .f32 := shapeCast S1x1024 G

theorem V_y (c : Dev nD) : (V m c main_v2 : FVec Ideal S4096x2048 .bf16) = yFlat (aY m c) := by
  unfold V V0; simp only [hostOps0, List.flatten_cons, List.flatten_nil, List.append_nil, List.cons_append, List.nil_append]; after_results; try rfl
theorem V_w (c : Dev nD) : (V m c main_v1 : FVec Ideal S4x1024x512 .bf16) = wParts (aW m c) := by
  unfold V V0; simp only [hostOps0, List.flatten_cons, List.flatten_nil, List.append_nil, List.cons_append, List.nil_append]; after_results; try rfl
theorem V_r (c : Dev nD) : (V m c main_v3 : FVec Ideal S4096x1024 .f32) = xFlat (aR m c) := by
  unfold V V0; simp only [hostOps0, List.flatten_cons, List.flatten_nil, List.append_nil, List.cons_append, List.nil_append]; after_results; try rfl
theorem V_x (c : Dev nD) : (V m c main_v4 : FVec Ideal S4096x1024 .f32) = xFlat (aX m c) := by
  unfold V V0; simp only [hostOps0, List.flatten_cons, List.flatten_nil, List.append_nil, List.cons_append, List.nil_append]; after_results; try rfl
theorem V_g (c : Dev nD) : (V m c main_v5 : FVec Ideal S1x1024 .f32) = gFlat (aG m c) := by
  unfold V V0; simp only [hostOps0, List.flatten_cons, List.flatten_nil, List.append_nil, List.cons_append, List.nil_append]; after_results; try rfl

theorem idx_val : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![t.val, 0] := (by decide +kernel : ∀ t : Fin grid0.N, _)

section
variable (c : Dev nD) (t : Fin cfg0.N) (s : Fin 512) (i : Fin 4096) (hi : i.val = t.val * 512 + s.val)
include hi

theorem blk0 (X : FVec Ideal S4096x2048 .bf16) (l : Fin 2048) : (show FVec Ideal S512x2048 .bf16 from ((cfg0.win 0).blk t).view.read (Elt Ideal) X) (ix2 s l) = X (ix2 i l) := by
  blk_simp [idx_val t]; blk_ext [idx_val t]
theorem blk2 (X : FVec Ideal S4096x1024 .f32) (l : Fin 1024) : (show FVec Ideal S512x1024 .f32 from ((cfg0.win 2).blk t).view.read (Elt Ideal) X) (ix2 s l) = X (ix2 i l) := by
  blk_simp [idx_val t]; blk_ext [idx_val t]
theorem blk3 (X : FVec Ideal S4096x1024 .f32) (l : Fin 1024) : (show FVec Ideal S512x1024 .f32 from ((cfg0.win 3).blk t).view.read (Elt Ideal) X) (ix2 s l) = X (ix2 i l) := by
  blk_simp [idx_val t]; blk_ext [idx_val t]
end

theorem blk1 (t : Fin cfg0.N) (X : FVec Ideal S4x1024x512 .bf16) : (show FVec Ideal S4x1024x512 .bf16 from ((cfg0.win 1).blk t).view.read (Elt Ideal) X) = X := by
  funext y
  idx_vars y
  blk_simp [idx_val t]; blk_ext [idx_val t]
theorem blk4 (t : Fin cfg0.N) (X : FVec Ideal S1x1024 .f32) : (show FVec Ideal S1x1024 .f32 from ((cfg0.win 4).blk t).view.read (Elt Ideal) X) = X := by
  funext y
  idx_vars y
  blk_simp [idx_val t]; blk_ext [idx_val t]

/-- The gradient before the product, all rows. -/
def dnRows (Y : FVec Ideal S4096x2048 .bf16) (W : FVec Ideal S4x1024x512 .bf16) : FVec Ideal S4096x1024 .f32 := fun i =>
  parts (fun j => Y (ix2 (i 0) j)) (fun p j => W (ix3 p (i 1) j))

/-- The norm's gradient added to the residual's. -/
def dxRows (Y : FVec Ideal S4096x2048 .bf16) (W : FVec Ideal S4x1024x512 .bf16) (R X : FVec Ideal S4096x1024 .f32) (G : FVec Ideal S1x1024 .f32) : FVec Ideal S4096x1024 .f32 := fun i =>
  R (ix2 (i 0) (i 1)) + Norm.kform (fun j => X (ix2 (i 0) j)) (fun j => dnRows Y W (ix2 (i 0) j) * G (ix2 0 j)) (i 1)

section
variable (c : Dev nD) (Y : FVec Ideal S4096x2048 .bf16) (W : FVec Ideal S4x1024x512 .bf16) (R X : FVec Ideal S4096x1024 .f32) (G : FVec Ideal S1x1024 .f32)
  (hY : (V m c main_v2 : FVec Ideal S4096x2048 .bf16) = Y) (hW : (V m c main_v1 : FVec Ideal S4x1024x512 .bf16) = W) (hR : (V m c main_v3 : FVec Ideal S4096x1024 .f32) = R)
  (hX : (V m c main_v4 : FVec Ideal S4096x1024 .f32) = X) (hG : (V m c main_v5 : FVec Ideal S1x1024 .f32) = G)

include hX in
theorem rd3 (t : Fin cfg0.N) (s : Fin 512) (l : Fin 1024) (i : Fin 4096) (hi : i.val = t.val * 512 + s.val) :
    (show FVec Ideal S512x1024 .f32 from iblk m c 3 t) (ix2 s l) = X (ix2 i l) :=
  (blk3 t s i hi (V m c main_v4) l).trans (congrFun hX _)

include hR in
theorem rd2 (t : Fin cfg0.N) (s : Fin 512) (l : Fin 1024) (i : Fin 4096) (hi : i.val = t.val * 512 + s.val) :
    (show FVec Ideal S512x1024 .f32 from iblk m c 2 t) (ix2 s l) = R (ix2 i l) :=
  (blk2 t s i hi (V m c main_v3) l).trans (congrFun hR _)

include hY in
theorem rd0 (t : Fin cfg0.N) (s : Fin 512) (l : Fin 2048) (i : Fin 4096) (hi : i.val = t.val * 512 + s.val) :
    (show FVec Ideal S512x2048 .bf16 from iblk m c 0 t) (ix2 s l) = Y (ix2 i l) :=
  (blk0 t s i hi (V m c main_v2) l).trans (congrFun hY _)

include hW in
theorem rd1 (t : Fin cfg0.N) (p : Fin 4) (k : Fin 1024) (l : Fin 512) : (show FVec Ideal S4x1024x512 .bf16 from iblk m c 1 t) (ix3 p k l) = W (ix3 p k l) :=
  (congrFun (blk1 t (V m c main_v1)) _).trans (congrFun hW _)

include hG in
theorem rd4 (t : Fin cfg0.N) (l : Fin 1024) : (show FVec Ideal S1x1024 .f32 from iblk m c 4 t) (ix2 0 l) = G (ix2 0 l) :=
  (congrFun (blk4 t (V m c main_v5)) _).trans (congrFun hG _)

include hY hW in
theorem pay8_rows (t : Fin cfg0.N) (s : Fin 512) (k : Fin 1024) (i : Fin 4096) (hi : i.val = t.val * 512 + s.val) :
    k0_pay8 (F := Ideal) (iblk m c 0 t) (iblk m c 1 t) (iblk m c 2 t) (iblk m c 3 t) (iblk m c 4 t) (ix2 s k) = dnRows Y W (ix2 i k) := by
  refine (pay8_at _ _ _ _ _ s k).trans ?_
  exact Finset.sum_congr rfl fun p _ => Finset.sum_congr rfl fun j _ => congrArg₂ (· * ·) (rd0 m c Y hY t s _ i hi) (rd1 m c W hW t p k j)

include hY hW hR hX hG in
theorem arr5 : (dats m 0 c).arrAt 5 (cfgs 0).N = dxRows Y W R X G := by
  refine (dats m 0 c).arrAt_eq_of_covers 5 _ (by decide +kernel) fun t _ y => ?_
  blk_simp
  rw [after0_5]
  have key : ∀ y : S512x1024.Idx, out0_5 (F := Ideal) (iblk m c 0 t) (iblk m c 1 t) (iblk m c 2 t) (iblk m c 3 t) (iblk m c 4 t) y
      = dxRows Y W R X G (((View.whole main_v6_0).slice (win0_5.rect t)).emb y) := by
    intro y
    idx_vars y
    have ht : t.val < 8 := t.2
    have h0 : ((((View.whole main_v6_0).slice (win0_5.rect t)).emb (ix2 y0 y1)) 0) = (⟨t.val * 512 + y0.val, by omega⟩ : Fin 4096) := Fin.ext (by blk_simp [idx_val t])
    have h1 : ((((View.whole main_v6_0).slice (win0_5.rect t)).emb (ix2 y0 y1)) 1) = y1 := Fin.ext (by blk_simp [idx_val t])
    unfold dxRows
    rw [h1, h0]
    unfold out0_5 k0_pay9 k0_pay10
    rw [View.ld_unit_lit _ _ (by decide), View.ld_unit_lit _ _ (by decide), View.ld_unit_lit _ _ (by decide)]
    generalize hD : k0_pay8 (F := Ideal) (iblk m c 0 t) (iblk m c 1 t) (iblk m c 2 t) (iblk m c 3 t) (iblk m c 4 t) = D
    frame_out
    refine (pay4_at D _ _ _ y0 y1).trans ?_
    refine congrArg₂ (· + ·) (rd2 m c R hR t y0 y1 _ rfl) ?_
    congr 1
    · funext j; exact rd3 m c X hX t y0 j _ rfl
    · funext j; exact congrArg₂ (· * ·) ((congrFun hD _).symm.trans (pay8_rows m c Y W hY hW t y0 j _ rfl)) (rd4 m c G hG t j)
  exact key y

include hY hW hX in
theorem arr6 : (dats m 0 c).arrAt 6 (cfgs 0).N = dgRows X (dnRows Y W) := by
  refine (dats m 0 c).arrAt_eq_of_covers 6 _ (by decide +kernel) fun t _ y => ?_
  blk_simp
  rw [after0_6]
  have key : ∀ y : S8x1024.Idx, out0_6 (F := Ideal) (iblk m c 0 t) (iblk m c 1 t) (iblk m c 2 t) (iblk m c 3 t) (iblk m c 4 t) y
      = dgRows X (dnRows Y W) (((View.whole main_v6_1).slice (win0_6.rect t)).emb y) := by
    intro y
    idx_vars y
    have ht : t.val < 8 := t.2
    have hy : y0.val < 8 := y0.2
    rw [dgRows_at X (dnRows Y W) _ ⟨t.val, ht⟩ y0 y1 (by blk_simp [idx_val t]) (by blk_simp [idx_val t])]
    unfold out0_6 k0_pay9 k0_pay10
    rw [View.ld_unit_lit _ _ (by decide)]
    generalize hD : k0_pay8 (F := Ideal) (iblk m c 0 t) (iblk m c 1 t) (iblk m c 2 t) (iblk m c 3 t) (iblk m c 4 t) = D
    frame_out
    refine (pay3_at D _ y0 y1).trans ?_
    exact if_congr Iff.rfl (dgRows_block X (dnRows Y W) ⟨t.val, ht⟩ y1 (fun s j => (show FVec Ideal S512x1024 .f32 from iblk m c 3 t) (ix2 s j)) (fun s j => D (ix2 s j))
      (fun s j => rd3 m c X hX t s j _ rfl) (fun s => (congrFun hD _).symm.trans (pay8_rows m c Y W hY hW t s y1 _ rfl))) rfl
  exact key y
end

end Cert.QpreKernelIdeal.Qpre

end
end
-- ==== Proof.QpreRef.lean ====
/- What differentiating the norm and the input product gives. -/
module

public import proofs.«01_k».proof.Proof.NormMath
public import proofs.«01_k».proof.Proof.Sums
public import proofs.«01_k».proof.Proof.Gen.QpreReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.QpreReferenceIdeal.Qpre

open Cert.QpreReferenceIdeal Cert.QpreReferenceIdeal.Read

variable (Y : FVec Ideal S2x2048x2048 .bf16) (W : FVec Ideal S1024x2048 .bf16) (R X : FVec Ideal S2x2048x1024 .f32) (G : FVec Ideal S1024 .f32)
  (b : Fin 2) (s : Fin 2048)

/-- The row, the gradient before the product, and that after the gain. -/
abbrev xRow : Fin 1024 → EReal := fun j => X (ix3 b s j)
abbrev nRow : Fin 1024 → EReal := fun k => ∑ j : Fin 2048, Y (ix3 b s j) * W (ix2 k j)
abbrev dRow : Fin 1024 → EReal := fun k => nRow Y W b s k * G (ix1 k)

theorem v8_at : val_main_v8 (F := Ideal) X (ix3 b s 0) = Norm.rn (xRow X b s) := by
  unfold Norm.rn
  pointwise [val_main_v8, val_main_v7, val_main_v6, val_main_v5, val_main_v4, val_main_v3, val_main_v2, val_main_v1, val_main_cst, val_main_cst_0, val_main_cst_1]

theorem v19_at (k : Fin 1024) : val_main_v19 (F := Ideal) Y W (ix3 b s k) = nRow Y W b s k := by
  pointwise [val_main_v19, val_main_v18, val_main_v0]

theorem v24_at (k : Fin 1024) : val_main_v24 (F := Ideal) Y W G (ix3 b s k) = dRow Y W G b s k := by
  pointwise [val_main_v24, v19_at, val_main_v23, val_main_v14]

theorem v35_at : val_main_v35 (F := Ideal) Y W X G (ix2 b s) = Norm.zform (xRow X b s) (dRow Y W G b s) := by
  unfold Norm.zform
  pointwise [val_main_v35, val_main_v34, val_main_v33, val_main_v32, val_main_v28, val_main_v27, val_main_v26, v24_at, val_main_v11, val_main_v10, val_main_v9, v8_at,
    val_main_v7, val_main_v6, val_main_v5, val_main_v4, val_main_v3, val_main_v2, val_main_v1, val_main_cst, val_main_cst_0, val_main_cst_1, val_main_cst_2, val_main_cst_5, val_main_cst_6, val_main_cst_7]
  rw [Fin.sum_univ_one, v8_at]

theorem v40_at (k : Fin 1024) : val_main_v40 (F := Ideal) Y W R X G (ix3 b s k) = R (ix3 b s k) + Norm.kform (xRow X b s) (dRow Y W G b s) k := by
  rw [Norm.kform_eq]
  pointwise [val_main_v40, val_main_v39, val_main_v38, val_main_v37, val_main_v36, val_main_v31, val_main_v30, val_main_v29, v35_at, v24_at, v8_at]
  rw [add_assoc, add_assoc, add_assoc]

theorem v25_at (k : Fin 1024) : val_main_v25 (F := Ideal) Y W X (ix1 k) = ∑ b : Fin 2, ∑ s : Fin 2048, (X (ix3 b s k) * Norm.rn (xRow X b s)) * nRow Y W b s k := by
  have e : val_main_v22 (F := Ideal) Y W X (ix3 0 0 k) = ∑ b : Fin 2, ∑ s : Fin 2048, (X (ix3 b s k) * Norm.rn (xRow X b s)) * nRow Y W b s k := by
    pointwise [val_main_v22]
    show Ideal.hostReduceAdd _ _ _ _ = _
    rw [Cert.Sums.hostSum01]
    pointwise [val_main_v20, val_main_v13, val_main_v12, v8_at, v19_at, val_main_cst_3]
  show Ideal.hostReduceAdd _ _ _ _ = _
  rw [Cert.Sums.hostSum01]
  rw [Fin.sum_univ_one, Fin.sum_univ_one, e]
  pointwise [val_main_cst_4]

end Cert.QpreReferenceIdeal.Qpre

end
end
-- ==== Proof.QpreClaim.lean ====
/- The claims about the input product's gradient. -/
module

public import proofs.«01_k».proof.Defs
public import proofs.«01_k».proof.Proof.QpreBlock
public import proofs.«01_k».proof.Proof.QpreRef
public import proofs.«01_k».proof.Proof.Gen.QpreKernel.Frame
public import proofs.«01_k».proof.Proof.Gen.QpreReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Qpre

open Cert.QpreKernelIdeal.Qpre (dxRows dnRows parts yFlat wParts xFlat gFlat)
open Cert.Norm (dgRows)

section
open Cert.QpreKernelIdeal Cert.QpreKernelIdeal.Gen Cert.QpreKernelIdeal.Qpre

variable (m : (ℓ : Loc nD τ sig) → Buf (Elt Ideal) ℓ)

/-- The gain's gradient: the partial sums of all blocks added up. -/
def dgSum (D : FVec Ideal S64x1024 .f32) : FVec Ideal S1x1024 .f32 :=
  broadcastInDim S1x1024 ![1] bcast_S1024_S1x1024_1 (Host.reduceAdd D (constant S_ .f32 0x00000000#32 : FVec Ideal S_ .f32) reducesTo_S64x1024_S1024_d0 h_S_)

theorem tail_dg (c : Dev nD) (D : FVec Ideal S64x1024 .f32) (hD : (dats m 0 c).arrAt 6 (cfgs 0).N = D) :
    (Pipeline.afterTail₀ cfgs (dats m) 0 (V0 m) [hostOps1] c main_v8 : FVec Ideal S1x1024 .f32) = dgSum D := by
  unfold Pipeline.afterTail₀
  simp only [hostOps1, List.flatten_cons, List.flatten_nil, List.append_nil]
  after_results
  refine congrArg dgSum (Eq.trans ?_ hD)
  exact Pipeline.withArrays_arr spec0 launch0.win.arr_inj c (V0 m c) (fun w => (dats m 0 c).arrAt w (cfgs 0).N) 6

/-- What the kernel leaves, on every device. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v6_0) = dxRows (yFlat (m ((c.tc : Thread nD τ).loc main_arg0))) (wParts (m ((c.tc : Thread nD τ).loc main_arg1))) (xFlat (m ((c.tc : Thread nD τ).loc main_arg2))) (xFlat (m ((c.tc : Thread nD τ).loc main_arg3))) (gFlat (m ((c.tc : Thread nD τ).loc main_arg4)))
      ∧ r.2.mem ((c.tc : Thread nD τ).loc main_v8) = dgSum (dgRows (xFlat (m ((c.tc : Thread nD τ).loc main_arg3))) (dnRows (yFlat (m ((c.tc : Thread nD τ).loc main_arg0))) (wParts (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h.1 c).1 5).trans (arr5 m c _ _ _ _ _ (V_y m c) (V_w m c) (V_r m c) (V_x m c) (V_g m c)),
       ((h.1 c).2 main_v8 (Pipeline.mem_restRefs_of main_v8 (by decide) (by decide))).trans (tail_dg m c _ (arr6 m c _ _ _ (V_y m c) (V_w m c) (V_x m c))), h.2 c⟩)
    (θ_run_and (run_main m g) (unchanged m g))

end

section
open Cert.QpreReferenceIdeal Cert.QpreReferenceIdeal.Qpre Cert.QpreReferenceIdeal.Read

variable (Y : FVec Ideal S2x2048x2048 .bf16) (W : FVec Ideal S1024x2048 .bf16) (R X : FVec Ideal S2x2048x1024 .f32) (G : FVec Ideal S1024 .f32)

theorem x_at (X : FVec Ideal S2x2048x1024 .f32) (i : Fin 4096) (k : Fin 1024) (b : Fin 2) (s : Fin 2048) (hi : i.val = b.val * 2048 + s.val) : xFlat X (ix2 i k) = X (ix3 b s k) := by
  pointwise; blk_ext

/-- The four parts of the columns together. -/
theorem dn_at (i : Fin 4096) (k : Fin 1024) (b : Fin 2) (s : Fin 2048) (hi : i.val = b.val * 2048 + s.val) :
    dnRows (yFlat Y) (wParts W) (ix2 i k) = nRow Y W b s k := by
  let f : ℕ → EReal := fun j => if h : j < 2048 then Y (ix3 b s ⟨j, h⟩) * W (ix2 k ⟨j, h⟩) else 0
  have e : nRow Y W b s k = ∑ j : Fin (4 * 512), f j := Finset.sum_congr rfl fun j _ => by
    have hj : j.val < 2048 := j.2
    show _ = dite (j.val < 2048) _ _
    rw [dif_pos hj]
  rw [e, Norm.sum_runs 4 512 f]
  refine Finset.sum_congr rfl fun p _ => Finset.sum_congr rfl fun j _ => ?_
  have hb : p.val * 512 + j.val < 2048 := by omega
  show _ = dite (p.val * 512 + j.val < 2048) _ _
  rw [dif_pos hb]
  refine congrArg₂ (· * ·) ?_ ?_
  · show yFlat Y (ix2 i ⟨p.val * 512 + j.val, _⟩) = _
    pointwise; blk_ext
  · show wParts W (ix3 p k j) = _
    pointwise; blk_ext

theorem ref_dx : val_main_v41 (F := Ideal) Y W R X G = dxRows (yFlat Y) (wParts W) (xFlat R) (xFlat X) (gFlat G) :=
  funext fun i => by
    idx_vars i
    have hi : i0.val = (⟨i0.val / 2048, by omega⟩ : Fin 2).val * 2048 + (⟨i0.val % 2048, by omega⟩ : Fin 2048).val := by
      show i0.val = i0.val / 2048 * 2048 + i0.val % 2048; omega
    have eg : ∀ j : Fin 1024, gFlat G (ix2 0 j) = G (ix1 j) := fun j => by pointwise
    show _ = xFlat R (ix2 i0 i1) + Norm.kform (fun j => xFlat X (ix2 i0 j)) (fun j => dnRows (yFlat Y) (wParts W) (ix2 i0 j) * gFlat G (ix2 0 j)) i1
    simp only [x_at _ i0 _ _ _ hi, dn_at Y W i0 _ _ _ hi, eg]
    rw [← v40_at]
    pointwise [val_main_v41]
    blk_ext

theorem ref_dg : val_main_v42 (F := Ideal) Y W X = dgSum (dgRows (xFlat X) (dnRows (yFlat Y) (wParts W))) :=
  funext fun i => by
    idx_vars i
    have el : val_main_v42 (F := Ideal) Y W X (ix2 i0 i1) = val_main_v25 (F := Ideal) Y W X (ix1 i1) := by
      pointwise [val_main_v42]
    have er : dgSum (dgRows (xFlat X) (dnRows (yFlat Y) (wParts W))) (ix2 i0 i1) = ∑ a : Fin 64, dgRows (xFlat X) (dnRows (yFlat Y) (wParts W)) (ix2 a i1) := by
      pointwise [dgSum]
    rw [el, v25_at, er, Norm.dgRows_sum]
    refine Finset.sum_congr rfl fun b _ => Finset.sum_congr rfl fun s _ => ?_
    rw [dn_at Y W _ _ b s rfl]
    simp only [x_at X (⟨b.val * 2048 + s.val, by omega⟩ : Fin 4096) _ b s rfl]
    exact mul_comm _ _

end

theorem algebraic : Cert.algebraic_QpreKernelIdeal_QpreReferenceIdeal := by
  pair_intro
  · run_from kernel_run m g
  · run_from Cert.QpreReferenceIdeal.Value.run (F := Ideal) m' g'
    · refine (Cert.QpreReferenceIdeal.Read.val_main_v41_eq _ _).trans ?_
      rw [ref_dx, (hagree c).1, (hagree c).2.1, (hagree c).2.2.1, (hagree c).2.2.2.1, (hagree c).2.2.2.2]
    · refine (Cert.QpreReferenceIdeal.Read.val_main_v42_eq _ _ _).trans ?_
      exact ref_dg _ _ _

theorem frame_ref : Cert.quiescent_QpreReferenceIdeal := fun m g _ =>
  (θ_run Cert.QpreReferenceIdeal.defs _ _).mono (fun r h => ⟨fun c => (h c).2.2, sem_eq_zero_of_no_sems (by decide) r.2⟩)
    (Cert.QpreReferenceIdeal.Value.run (F := Ideal) m g)

theorem claims : Cert.quiescent_QpreKernel ∧ Cert.quiescent_QpreKernelIdeal ∧ Cert.quiescent_QpreReferenceIdeal
    ∧ Cert.preserves_QpreKernel_QpreKernelIdeal ∧ Cert.algebraic_QpreKernelIdeal_QpreReferenceIdeal :=
  ⟨fun m g _ => Cert.QpreKernel.Gen.frame m g, fun m g _ => Cert.QpreKernelIdeal.Gen.frame m g, frame_ref, trivial, algebraic⟩

end Cert.Proof.Qpre

end
end
-- ==== Proof.lean ====
/- The claims about the gradient calls, the forward calls and the optimiser's step. -/
module

public import proofs.«01_k».proof.Defs
public import proofs.«01_k».proof.Proof.ConvClaim
public import proofs.«01_k».proof.Proof.CfwdClaim
public import proofs.«01_k».proof.Proof.ForgetClaim
public import proofs.«01_k».proof.Proof.FfwdClaim
public import proofs.«01_k».proof.Proof.AttnClaim
public import proofs.«01_k».proof.Proof.FwdClaim
public import proofs.«01_k».proof.Proof.GateClaim
public import proofs.«01_k».proof.Proof.LossClaim
public import proofs.«01_k».proof.Proof.PostClaim
public import proofs.«01_k».proof.Proof.SwiClaim
public import proofs.«01_k».proof.Proof.PreClaim
public import proofs.«01_k».proof.Proof.OutClaim
public import proofs.«01_k».proof.Proof.SinClaim
public import proofs.«01_k».proof.Proof.AdamClaim
public import proofs.«01_k».proof.Proof.MoutClaim
public import proofs.«01_k».proof.Proof.CinClaim
public import proofs.«01_k».proof.Proof.QinClaim
public import proofs.«01_k».proof.Proof.KvnClaim
public import proofs.«01_k».proof.Proof.CpreClaim
public import proofs.«01_k».proof.Proof.QpreClaim

@[expose] public section

noncomputable section

namespace Cert.Proof

open Idealize.ShloMosaic Idealize.SL.Sem

theorem claim : Cert.Claim :=
  ⟨Cert.ConvKernel.Gen.facts, Cert.ConvKernelIdeal.Gen.facts, Cert.ConvReferenceIdeal.Gen.facts,
    Cert.CfwdKernel.Gen.facts, Cert.CfwdKernelIdeal.Gen.facts, Cert.CfwdReferenceIdeal.Gen.facts,
    Cert.ForgetKernel.Gen.facts, Cert.ForgetKernelIdeal.Gen.facts, Cert.ForgetReferenceIdeal.Gen.facts,
    Cert.FfwdKernel.Gen.facts, Cert.FfwdKernelIdeal.Gen.facts, Cert.FfwdReferenceIdeal.Gen.facts,
    Cert.AttnKernel.Gen.facts, Cert.AttnKernelIdeal.Gen.facts, Cert.AttnReferenceIdeal.Gen.facts,
    Cert.FwdKernel.Gen.facts, Cert.FwdKernelIdeal.Gen.facts, Cert.FwdReferenceIdeal.Gen.facts,
    Cert.GateKernel.Gen.facts, Cert.GateKernelIdeal.Gen.facts, Cert.GateReferenceIdeal.Gen.facts,
    Cert.LossKernel.Gen.facts, Cert.LossKernelIdeal.Gen.facts, Cert.LossReferenceIdeal.Gen.facts,
    Cert.PostKernel.Gen.facts, Cert.PostKernelIdeal.Gen.facts, Cert.PostReferenceIdeal.Gen.facts,
    Cert.SwiKernel.Gen.facts, Cert.SwiKernelIdeal.Gen.facts, Cert.SwiReferenceIdeal.Gen.facts,
    Cert.PreKernel.Gen.facts, Cert.PreKernelIdeal.Gen.facts, Cert.PreReferenceIdeal.Gen.facts,
    Cert.OutKernel.Gen.facts, Cert.OutKernelIdeal.Gen.facts, Cert.OutReferenceIdeal.Gen.facts,
    Cert.SinKernel.Gen.facts, Cert.SinKernelIdeal.Gen.facts, Cert.SinReferenceIdeal.Gen.facts,
    Cert.AdamKernel.Gen.facts, Cert.AdamKernelIdeal.Gen.facts, Cert.AdamReferenceIdeal.Gen.facts,
    Cert.MoutKernel.Gen.facts, Cert.MoutKernelIdeal.Gen.facts, Cert.MoutReferenceIdeal.Gen.facts,
    Cert.CinKernel.Gen.facts, Cert.CinKernelIdeal.Gen.facts, Cert.CinReferenceIdeal.Gen.facts,
    Cert.QinKernel.Gen.facts, Cert.QinKernelIdeal.Gen.facts, Cert.QinReferenceIdeal.Gen.facts,
    Cert.KvnKernel.Gen.facts, Cert.KvnKernelIdeal.Gen.facts, Cert.KvnReferenceIdeal.Gen.facts,
    Cert.CpreKernel.Gen.facts, Cert.CpreKernelIdeal.Gen.facts, Cert.CpreReferenceIdeal.Gen.facts,
    Cert.QpreKernel.Gen.facts, Cert.QpreKernelIdeal.Gen.facts, Cert.QpreReferenceIdeal.Gen.facts,
    Attn.preFacts,
    Fwd.preFacts,
    Swi.preFacts,
    Conv.claims.1, Conv.claims.2.1, Conv.claims.2.2.1,
    Cfwd.claims.1, Cfwd.claims.2.1, Cfwd.claims.2.2.1,
    Forget.claims.1, Forget.claims.2.1, Forget.claims.2.2.1,
    Ffwd.claims.1, Ffwd.claims.2.1, Ffwd.claims.2.2.1,
    Attn.claims.1, Attn.claims.2.1, Attn.claims.2.2.1, Attn.claims.2.2.2.1, Attn.claims.2.2.2.2.1,
    Fwd.claims.1, Fwd.claims.2.1, Fwd.claims.2.2.1, Fwd.claims.2.2.2.1, Fwd.claims.2.2.2.2.1,
    Gate.claims.1, Gate.claims.2.1, Gate.claims.2.2.1,
    Loss.claims.1, Loss.claims.2.1, Loss.claims.2.2.1,
    Post.claims.1, Post.claims.2.1, Post.claims.2.2.1,
    Swi.claims.1, Swi.claims.2.1, Swi.claims.2.2.1, Swi.claims.2.2.2.1, Swi.claims.2.2.2.2.1,
    Pre.claims.1, Pre.claims.2.1, Pre.claims.2.2.1,
    Out.claims.1, Out.claims.2.1, Out.claims.2.2.1,
    Sin.claims.1, Sin.claims.2.1, Sin.claims.2.2.1,
    Adam.claims.1, Adam.claims.2.1, Adam.claims.2.2.1,
    Mout.claims.1, Mout.claims.2.1, Mout.claims.2.2.1,
    Cin.claims.1, Cin.claims.2.1, Cin.claims.2.2.1,
    Qin.claims.1, Qin.claims.2.1, Qin.claims.2.2.1,
    Kvn.claims.1, Kvn.claims.2.1, Kvn.claims.2.2.1,
    Cpre.claims.1, Cpre.claims.2.1, Cpre.claims.2.2.1,
    Qpre.claims.1, Qpre.claims.2.1, Qpre.claims.2.2.1,
    Conv.claims.2.2.2.1, Conv.claims.2.2.2.2,
    Cfwd.claims.2.2.2.1, Cfwd.claims.2.2.2.2,
    Forget.claims.2.2.2.1, Forget.claims.2.2.2.2,
    Ffwd.claims.2.2.2.1, Ffwd.claims.2.2.2.2,
    Attn.claims.2.2.2.2.2.1, Attn.claims.2.2.2.2.2.2,
    Fwd.claims.2.2.2.2.2.1, Fwd.claims.2.2.2.2.2.2,
    Gate.claims.2.2.2.1, Gate.claims.2.2.2.2,
    Loss.claims.2.2.2.1, Loss.claims.2.2.2.2,
    Post.claims.2.2.2.1, Post.claims.2.2.2.2,
    Swi.claims.2.2.2.2.2.1, Swi.claims.2.2.2.2.2.2,
    Pre.claims.2.2.2.1, Pre.claims.2.2.2.2,
    Out.claims.2.2.2.1, Out.claims.2.2.2.2,
    Sin.claims.2.2.2.1, Sin.claims.2.2.2.2,
    Adam.claims.2.2.2.1, Adam.claims.2.2.2.2,
    Mout.claims.2.2.2.1, Mout.claims.2.2.2.2,
    Cin.claims.2.2.2.1, Cin.claims.2.2.2.2,
    Qin.claims.2.2.2.1, Qin.claims.2.2.2.2,
    Kvn.claims.2.2.2.1, Kvn.claims.2.2.2.2,
    Cpre.claims.2.2.2.1, Cpre.claims.2.2.2.2,
    Qpre.claims.2.2.2.1, Qpre.claims.2.2.2.2⟩

end Cert.Proof

end
